-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffn0Kernel (m : (ℓ : Loc Cert.Ffn0Kernel.nD Cert.Ffn0Kernel.τ Cert.Ffn0Kernel.sig) → Buf (Elt Bits) ℓ) : Prop :=
  True

def Pre_Ffn0KernelIdeal (m : (ℓ : Loc Cert.Ffn0KernelIdeal.nD Cert.Ffn0KernelIdeal.τ Cert.Ffn0KernelIdeal.sig) → Buf (Elt Ideal) ℓ) : Prop :=
  True

def Pre_Ffn0ReferenceIdeal (m : (ℓ : Loc Cert.Ffn0ReferenceIdeal.nD Cert.Ffn0ReferenceIdeal.τ Cert.Ffn0ReferenceIdeal.sig) → Buf (Elt Ideal) ℓ) : Prop :=
  True

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8)
      ∧ r.2.mem ((c.tc : Thread Cert.FfnKernel.nD Cert.FfnKernel.τ).loc Cert.FfnKernel.main_arg9) = m ((c.tc : Thread Cert.FfnKernel.nD Cert.FfnKernel.τ).loc Cert.FfnKernel.main_arg9))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
      ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_Ffn0Kernel [hFfn0Kernel : Cert.Ffn0Kernel.Facts] : Prop :=
  ∀ (m : (ℓ : Loc Cert.Ffn0Kernel.nD Cert.Ffn0Kernel.τ Cert.Ffn0Kernel.sig) → Buf (Elt Bits) ℓ) (g : Dev Cert.Ffn0Kernel.nD → PrngReg), Pre_Ffn0Kernel m →
    θ_run (Cert.Ffn0Kernel.defs (F := Bits)) (onTc (τ := Cert.Ffn0Kernel.τ) (Cert.Ffn0Kernel.main (F := Bits))) ⟨m, fun _ => 0, g⟩ (fun r => (∀ c : Dev Cert.Ffn0Kernel.nD,
      r.2.mem ((c.tc : Thread Cert.Ffn0Kernel.nD Cert.Ffn0Kernel.τ).loc Cert.Ffn0Kernel.main_arg0) = m ((c.tc : Thread Cert.Ffn0Kernel.nD Cert.Ffn0Kernel.τ).loc Cert.Ffn0Kernel.main_arg0)
      ∧ r.2.mem ((c.tc : Thread Cert.Ffn0Kernel.nD Cert.Ffn0Kernel.τ).loc Cert.Ffn0Kernel.main_arg1) = m ((c.tc : Thread Cert.Ffn0Kernel.nD Cert.Ffn0Kernel.τ).loc Cert.Ffn0Kernel.main_arg1)
      ∧ r.2.mem ((c.tc : Thread Cert.Ffn0Kernel.nD Cert.Ffn0Kernel.τ).loc Cert.Ffn0Kernel.main_arg2) = m ((c.tc : Thread Cert.Ffn0Kernel.nD Cert.Ffn0Kernel.τ).loc Cert.Ffn0Kernel.main_arg2)
      ∧ r.2.mem ((c.tc : Thread Cert.Ffn0Kernel.nD Cert.Ffn0Kernel.τ).loc Cert.Ffn0Kernel.main_arg3) = m ((c.tc : Thread Cert.Ffn0Kernel.nD Cert.Ffn0Kernel.τ).loc Cert.Ffn0Kernel.main_arg3)
      ∧ r.2.mem ((c.tc : Thread Cert.Ffn0Kernel.nD Cert.Ffn0Kernel.τ).loc Cert.Ffn0Kernel.main_arg4) = m ((c.tc : Thread Cert.Ffn0Kernel.nD Cert.Ffn0Kernel.τ).loc Cert.Ffn0Kernel.main_arg4)
      ∧ r.2.mem ((c.tc : Thread Cert.Ffn0Kernel.nD Cert.Ffn0Kernel.τ).loc Cert.Ffn0Kernel.main_arg5) = m ((c.tc : Thread Cert.Ffn0Kernel.nD Cert.Ffn0Kernel.τ).loc Cert.Ffn0Kernel.main_arg5)
      ∧ r.2.mem ((c.tc : Thread Cert.Ffn0Kernel.nD Cert.Ffn0Kernel.τ).loc Cert.Ffn0Kernel.main_arg6) = m ((c.tc : Thread Cert.Ffn0Kernel.nD Cert.Ffn0Kernel.τ).loc Cert.Ffn0Kernel.main_arg6))
      ∧ r.2.sem = fun _ => 0)

def quiescent_Ffn0KernelIdeal [hFfn0KernelIdeal : Cert.Ffn0KernelIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg), Pre_Ffn0KernelIdeal m →
    θ_run (Cert.Ffn0KernelIdeal.defs (F := Ideal)) (onTc (τ := Cert.Ffn0KernelIdeal.τ) (Cert.Ffn0KernelIdeal.main (F := Ideal))) ⟨m, fun _ => 0, g⟩ (fun r => (∀ c : Dev Cert.Ffn0KernelIdeal.nD,
      r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
      ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
      ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
      ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
      ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4)
      ∧ r.2.mem ((c.tc : Thread Cert.Ffn0KernelIdeal.nD Cert.Ffn0KernelIdeal.τ).loc Cert.Ffn0KernelIdeal.main_arg5) = m ((c.tc : Thread Cert.Ffn0KernelIdeal.nD Cert.Ffn0KernelIdeal.τ).loc Cert.Ffn0KernelIdeal.main_arg5)
      ∧ r.2.mem ((c.tc : Thread Cert.Ffn0KernelIdeal.nD Cert.Ffn0KernelIdeal.τ).loc Cert.Ffn0KernelIdeal.main_arg6) = m ((c.tc : Thread Cert.Ffn0KernelIdeal.nD Cert.Ffn0KernelIdeal.τ).loc Cert.Ffn0KernelIdeal.main_arg6))
      ∧ r.2.sem = fun _ => 0)

def quiescent_Ffn0ReferenceIdeal [hFfn0ReferenceIdeal : Cert.Ffn0ReferenceIdeal.Facts] : Prop :=
  ∀ (m : (ℓ : Loc Cert.Ffn0ReferenceIdeal.nD Cert.Ffn0ReferenceIdeal.τ Cert.Ffn0ReferenceIdeal.sig) → Buf (Elt Ideal) ℓ) (g : Dev Cert.Ffn0ReferenceIdeal.nD → PrngReg), Pre_Ffn0ReferenceIdeal m →
    θ_run (Cert.Ffn0ReferenceIdeal.defs (F := Ideal)) (onTc (τ := Cert.Ffn0ReferenceIdeal.τ) (Cert.Ffn0ReferenceIdeal.main (F := Ideal))) ⟨m, fun _ => 0, g⟩ (fun r => (∀ c : Dev Cert.Ffn0ReferenceIdeal.nD,
      r.2.mem ((c.tc : Thread Cert.Ffn0ReferenceIdeal.nD Cert.Ffn0ReferenceIdeal.τ).loc Cert.Ffn0ReferenceIdeal.main_arg0) = m ((c.tc : Thread Cert.Ffn0ReferenceIdeal.nD Cert.Ffn0ReferenceIdeal.τ).loc Cert.Ffn0ReferenceIdeal.main_arg0)
      ∧ r.2.mem ((c.tc : Thread Cert.Ffn0ReferenceIdeal.nD Cert.Ffn0ReferenceIdeal.τ).loc Cert.Ffn0ReferenceIdeal.main_arg1) = m ((c.tc : Thread Cert.Ffn0ReferenceIdeal.nD Cert.Ffn0ReferenceIdeal.τ).loc Cert.Ffn0ReferenceIdeal.main_arg1)
      ∧ r.2.mem ((c.tc : Thread Cert.Ffn0ReferenceIdeal.nD Cert.Ffn0ReferenceIdeal.τ).loc Cert.Ffn0ReferenceIdeal.main_arg2) = m ((c.tc : Thread Cert.Ffn0ReferenceIdeal.nD Cert.Ffn0ReferenceIdeal.τ).loc Cert.Ffn0ReferenceIdeal.main_arg2)
      ∧ r.2.mem ((c.tc : Thread Cert.Ffn0ReferenceIdeal.nD Cert.Ffn0ReferenceIdeal.τ).loc Cert.Ffn0ReferenceIdeal.main_arg3) = m ((c.tc : Thread Cert.Ffn0ReferenceIdeal.nD Cert.Ffn0ReferenceIdeal.τ).loc Cert.Ffn0ReferenceIdeal.main_arg3)
      ∧ r.2.mem ((c.tc : Thread Cert.Ffn0ReferenceIdeal.nD Cert.Ffn0ReferenceIdeal.τ).loc Cert.Ffn0ReferenceIdeal.main_arg4) = m ((c.tc : Thread Cert.Ffn0ReferenceIdeal.nD Cert.Ffn0ReferenceIdeal.τ).loc Cert.Ffn0ReferenceIdeal.main_arg4)
      ∧ r.2.mem ((c.tc : Thread Cert.Ffn0ReferenceIdeal.nD Cert.Ffn0ReferenceIdeal.τ).loc Cert.Ffn0ReferenceIdeal.main_arg5) = m ((c.tc : Thread Cert.Ffn0ReferenceIdeal.nD Cert.Ffn0ReferenceIdeal.τ).loc Cert.Ffn0ReferenceIdeal.main_arg5)
      ∧ r.2.mem ((c.tc : Thread Cert.Ffn0ReferenceIdeal.nD Cert.Ffn0ReferenceIdeal.τ).loc Cert.Ffn0ReferenceIdeal.main_arg6) = m ((c.tc : Thread Cert.Ffn0ReferenceIdeal.nD Cert.Ffn0ReferenceIdeal.τ).loc Cert.Ffn0ReferenceIdeal.main_arg6))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6)
      ∧ r.2.mem ((c.tc : Thread Cert.EvenKernel.nD Cert.EvenKernel.τ).loc Cert.EvenKernel.main_arg7) = m ((c.tc : Thread Cert.EvenKernel.nD Cert.EvenKernel.τ).loc Cert.EvenKernel.main_arg7)
      ∧ r.2.mem ((c.tc : Thread Cert.EvenKernel.nD Cert.EvenKernel.τ).loc Cert.EvenKernel.main_arg8) = m ((c.tc : Thread Cert.EvenKernel.nD Cert.EvenKernel.τ).loc Cert.EvenKernel.main_arg8))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
      ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8))
      ∧ r.2.sem = fun _ => 0)

def preserves_AttnKernel_AttnKernelIdeal : Prop :=
  True

def algebraic_AttnKernelIdeal_AttnReferenceIdeal [hAttnKernelIdeal : Cert.AttnKernelIdeal.Facts] [hAttnReferenceIdeal : Cert.AttnReferenceIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)) →
    ∃ (v0 : (c : Dev Cert.AttnKernelIdeal.nD) → Buf (Elt Ideal) ((c.tc : Thread Cert.AttnKernelIdeal.nD Cert.AttnKernelIdeal.τ).loc Cert.AttnKernelIdeal.main_v0_0)) (v1 : (c : Dev Cert.AttnKernelIdeal.nD) → Buf (Elt Ideal) ((c.tc : Thread Cert.AttnKernelIdeal.nD Cert.AttnKernelIdeal.τ).loc Cert.AttnKernelIdeal.main_v0_1)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v0_0) = v0 c
          ∧ r.2.mem ((c.tc : Thread Cert.AttnKernelIdeal.nD Cert.AttnKernelIdeal.τ).loc Cert.AttnKernelIdeal.main_v0_1) = v1 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v70) = v0 c
          ∧ r.2.mem ((c.tc : Thread Cert.AttnReferenceIdeal.nD Cert.AttnReferenceIdeal.τ).loc Cert.AttnReferenceIdeal.main_v72) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)
      ∧ m' ((c.tc : Thread Cert.FfnReferenceIdeal.nD Cert.FfnReferenceIdeal.τ).loc Cert.FfnReferenceIdeal.main_arg9) = m ((c.tc : Thread Cert.FfnKernelIdeal.nD Cert.FfnKernelIdeal.τ).loc Cert.FfnKernelIdeal.main_arg9)) →
    ∃ (v0 : (c : Dev Cert.FfnKernelIdeal.nD) → Buf (Elt Ideal) ((c.tc : Thread Cert.FfnKernelIdeal.nD Cert.FfnKernelIdeal.τ).loc Cert.FfnKernelIdeal.main_v17)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v17) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
          ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v60) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_Ffn0Kernel_Ffn0KernelIdeal : Prop :=
  True

def algebraic_Ffn0KernelIdeal_Ffn0ReferenceIdeal [hFfn0KernelIdeal : Cert.Ffn0KernelIdeal.Facts] [hFfn0ReferenceIdeal : Cert.Ffn0ReferenceIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg)
    (m' : (ℓ : Loc Cert.Ffn0ReferenceIdeal.nD Cert.Ffn0ReferenceIdeal.τ Cert.Ffn0ReferenceIdeal.sig) → Buf (Elt Ideal) ℓ) (g' : Dev Cert.Ffn0ReferenceIdeal.nD → PrngReg), Pre_Ffn0KernelIdeal m →
    (∀ c : Dev Cert.Ffn0KernelIdeal.nD,
      m' ((c.tc : Thread Cert.Ffn0ReferenceIdeal.nD Cert.Ffn0ReferenceIdeal.τ).loc Cert.Ffn0ReferenceIdeal.main_arg0) = m ((c.tc : Thread Cert.Ffn0KernelIdeal.nD Cert.Ffn0KernelIdeal.τ).loc Cert.Ffn0KernelIdeal.main_arg0)
      ∧ m' ((c.tc : Thread Cert.Ffn0ReferenceIdeal.nD Cert.Ffn0ReferenceIdeal.τ).loc Cert.Ffn0ReferenceIdeal.main_arg1) = m ((c.tc : Thread Cert.Ffn0KernelIdeal.nD Cert.Ffn0KernelIdeal.τ).loc Cert.Ffn0KernelIdeal.main_arg1)
      ∧ m' ((c.tc : Thread Cert.Ffn0ReferenceIdeal.nD Cert.Ffn0ReferenceIdeal.τ).loc Cert.Ffn0ReferenceIdeal.main_arg2) = m ((c.tc : Thread Cert.Ffn0KernelIdeal.nD Cert.Ffn0KernelIdeal.τ).loc Cert.Ffn0KernelIdeal.main_arg2)
      ∧ m' ((c.tc : Thread Cert.Ffn0ReferenceIdeal.nD Cert.Ffn0ReferenceIdeal.τ).loc Cert.Ffn0ReferenceIdeal.main_arg3) = m ((c.tc : Thread Cert.Ffn0KernelIdeal.nD Cert.Ffn0KernelIdeal.τ).loc Cert.Ffn0KernelIdeal.main_arg3)
      ∧ m' ((c.tc : Thread Cert.Ffn0ReferenceIdeal.nD Cert.Ffn0ReferenceIdeal.τ).loc Cert.Ffn0ReferenceIdeal.main_arg4) = m ((c.tc : Thread Cert.Ffn0KernelIdeal.nD Cert.Ffn0KernelIdeal.τ).loc Cert.Ffn0KernelIdeal.main_arg4)
      ∧ m' ((c.tc : Thread Cert.Ffn0ReferenceIdeal.nD Cert.Ffn0ReferenceIdeal.τ).loc Cert.Ffn0ReferenceIdeal.main_arg5) = m ((c.tc : Thread Cert.Ffn0KernelIdeal.nD Cert.Ffn0KernelIdeal.τ).loc Cert.Ffn0KernelIdeal.main_arg5)
      ∧ m' ((c.tc : Thread Cert.Ffn0ReferenceIdeal.nD Cert.Ffn0ReferenceIdeal.τ).loc Cert.Ffn0ReferenceIdeal.main_arg6) = m ((c.tc : Thread Cert.Ffn0KernelIdeal.nD Cert.Ffn0KernelIdeal.τ).loc Cert.Ffn0KernelIdeal.main_arg6)) →
    ∃ (v0 : (c : Dev Cert.Ffn0KernelIdeal.nD) → Buf (Elt Ideal) ((c.tc : Thread Cert.Ffn0KernelIdeal.nD Cert.Ffn0KernelIdeal.τ).loc Cert.Ffn0KernelIdeal.main_v15)),
      θ_run (Cert.Ffn0KernelIdeal.defs (F := Ideal)) (onTc (τ := Cert.Ffn0KernelIdeal.τ) (Cert.Ffn0KernelIdeal.main (F := Ideal))) ⟨m, fun _ => 0, g⟩ (fun r => ∀ c : Dev Cert.Ffn0KernelIdeal.nD,
          r.2.mem ((c.tc : Thread Cert.Ffn0KernelIdeal.nD Cert.Ffn0KernelIdeal.τ).loc Cert.Ffn0KernelIdeal.main_v15) = v0 c
          ∧ r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
          ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
          ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
          ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
          ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4)
          ∧ r.2.mem ((c.tc : Thread Cert.Ffn0KernelIdeal.nD Cert.Ffn0KernelIdeal.τ).loc Cert.Ffn0KernelIdeal.main_arg5) = m ((c.tc : Thread Cert.Ffn0KernelIdeal.nD Cert.Ffn0KernelIdeal.τ).loc Cert.Ffn0KernelIdeal.main_arg5)
          ∧ r.2.mem ((c.tc : Thread Cert.Ffn0KernelIdeal.nD Cert.Ffn0KernelIdeal.τ).loc Cert.Ffn0KernelIdeal.main_arg6) = m ((c.tc : Thread Cert.Ffn0KernelIdeal.nD Cert.Ffn0KernelIdeal.τ).loc Cert.Ffn0KernelIdeal.main_arg6))
      ∧ θ_run (Cert.Ffn0ReferenceIdeal.defs (F := Ideal)) (onTc (τ := Cert.Ffn0ReferenceIdeal.τ) (Cert.Ffn0ReferenceIdeal.main (F := Ideal))) ⟨m', fun _ => 0, g'⟩ (fun r => ∀ c : Dev Cert.Ffn0ReferenceIdeal.nD,
          r.2.mem ((c.tc : Thread Cert.Ffn0ReferenceIdeal.nD Cert.Ffn0ReferenceIdeal.τ).loc Cert.Ffn0ReferenceIdeal.main_v54) = v0 c
          ∧ r.2.mem ((c.tc : Thread Cert.Ffn0ReferenceIdeal.nD Cert.Ffn0ReferenceIdeal.τ).loc Cert.Ffn0ReferenceIdeal.main_arg0) = m' ((c.tc : Thread Cert.Ffn0ReferenceIdeal.nD Cert.Ffn0ReferenceIdeal.τ).loc Cert.Ffn0ReferenceIdeal.main_arg0)
          ∧ r.2.mem ((c.tc : Thread Cert.Ffn0ReferenceIdeal.nD Cert.Ffn0ReferenceIdeal.τ).loc Cert.Ffn0ReferenceIdeal.main_arg1) = m' ((c.tc : Thread Cert.Ffn0ReferenceIdeal.nD Cert.Ffn0ReferenceIdeal.τ).loc Cert.Ffn0ReferenceIdeal.main_arg1)
          ∧ r.2.mem ((c.tc : Thread Cert.Ffn0ReferenceIdeal.nD Cert.Ffn0ReferenceIdeal.τ).loc Cert.Ffn0ReferenceIdeal.main_arg2) = m' ((c.tc : Thread Cert.Ffn0ReferenceIdeal.nD Cert.Ffn0ReferenceIdeal.τ).loc Cert.Ffn0ReferenceIdeal.main_arg2)
          ∧ r.2.mem ((c.tc : Thread Cert.Ffn0ReferenceIdeal.nD Cert.Ffn0ReferenceIdeal.τ).loc Cert.Ffn0ReferenceIdeal.main_arg3) = m' ((c.tc : Thread Cert.Ffn0ReferenceIdeal.nD Cert.Ffn0ReferenceIdeal.τ).loc Cert.Ffn0ReferenceIdeal.main_arg3)
          ∧ r.2.mem ((c.tc : Thread Cert.Ffn0ReferenceIdeal.nD Cert.Ffn0ReferenceIdeal.τ).loc Cert.Ffn0ReferenceIdeal.main_arg4) = m' ((c.tc : Thread Cert.Ffn0ReferenceIdeal.nD Cert.Ffn0ReferenceIdeal.τ).loc Cert.Ffn0ReferenceIdeal.main_arg4)
          ∧ r.2.mem ((c.tc : Thread Cert.Ffn0ReferenceIdeal.nD Cert.Ffn0ReferenceIdeal.τ).loc Cert.Ffn0ReferenceIdeal.main_arg5) = m' ((c.tc : Thread Cert.Ffn0ReferenceIdeal.nD Cert.Ffn0ReferenceIdeal.τ).loc Cert.Ffn0ReferenceIdeal.main_arg5)
          ∧ r.2.mem ((c.tc : Thread Cert.Ffn0ReferenceIdeal.nD Cert.Ffn0ReferenceIdeal.τ).loc Cert.Ffn0ReferenceIdeal.main_arg6) = m' ((c.tc : Thread Cert.Ffn0ReferenceIdeal.nD Cert.Ffn0ReferenceIdeal.τ).loc Cert.Ffn0ReferenceIdeal.main_arg6))

def preserves_EvenKernel_EvenKernelIdeal : Prop :=
  True

def algebraic_EvenKernelIdeal_EvenReferenceIdeal [hEvenKernelIdeal : Cert.EvenKernelIdeal.Facts] [hEvenReferenceIdeal : Cert.EvenReferenceIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)
      ∧ m' ((c.tc : Thread Cert.EvenReferenceIdeal.nD Cert.EvenReferenceIdeal.τ).loc Cert.EvenReferenceIdeal.main_arg7) = m ((c.tc : Thread Cert.EvenKernelIdeal.nD Cert.EvenKernelIdeal.τ).loc Cert.EvenKernelIdeal.main_arg7)
      ∧ m' ((c.tc : Thread Cert.EvenReferenceIdeal.nD Cert.EvenReferenceIdeal.τ).loc Cert.EvenReferenceIdeal.main_arg8) = m ((c.tc : Thread Cert.EvenKernelIdeal.nD Cert.EvenKernelIdeal.τ).loc Cert.EvenKernelIdeal.main_arg8)) →
    ∃ (v0 : (c : Dev Cert.EvenKernelIdeal.nD) → Buf (Elt Ideal) ((c.tc : Thread Cert.EvenKernelIdeal.nD Cert.EvenKernelIdeal.τ).loc Cert.EvenKernelIdeal.main_v25)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v25) = v0 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
          ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
          ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
          ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
          ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v307) = v0 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7)
          ∧ r.2.mem ((c.tc : Thread Cert.EvenReferenceIdeal.nD Cert.EvenReferenceIdeal.τ).loc Cert.EvenReferenceIdeal.main_arg8) = m' ((c.tc : Thread Cert.EvenReferenceIdeal.nD Cert.EvenReferenceIdeal.τ).loc Cert.EvenReferenceIdeal.main_arg8))

def Claim : Prop :=
  ∃ (hAttnKernel : Cert.AttnKernel.Facts) (hAttnKernelIdeal : Cert.AttnKernelIdeal.Facts) (hAttnReferenceIdeal : Cert.AttnReferenceIdeal.Facts) (hFfnKernel : Cert.FfnKernel.Facts) (hFfnKernelIdeal : Cert.FfnKernelIdeal.Facts) (hFfnReferenceIdeal : Cert.FfnReferenceIdeal.Facts) (hFfn0Kernel : Cert.Ffn0Kernel.Facts) (hFfn0KernelIdeal : Cert.Ffn0KernelIdeal.Facts) (hFfn0ReferenceIdeal : Cert.Ffn0ReferenceIdeal.Facts) (hEvenKernel : Cert.EvenKernel.Facts) (hEvenKernelIdeal : Cert.EvenKernelIdeal.Facts) (hEvenReferenceIdeal : Cert.EvenReferenceIdeal.Facts),
    quiescent_AttnKernel (hAttnKernel := hAttnKernel)
    ∧ quiescent_AttnKernelIdeal (hAttnKernelIdeal := hAttnKernelIdeal)
    ∧ quiescent_AttnReferenceIdeal (hAttnReferenceIdeal := hAttnReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_Ffn0Kernel (hFfn0Kernel := hFfn0Kernel)
    ∧ quiescent_Ffn0KernelIdeal (hFfn0KernelIdeal := hFfn0KernelIdeal)
    ∧ quiescent_Ffn0ReferenceIdeal (hFfn0ReferenceIdeal := hFfn0ReferenceIdeal)
    ∧ quiescent_EvenKernel (hEvenKernel := hEvenKernel)
    ∧ quiescent_EvenKernelIdeal (hEvenKernelIdeal := hEvenKernelIdeal)
    ∧ quiescent_EvenReferenceIdeal (hEvenReferenceIdeal := hEvenReferenceIdeal)
    ∧ preserves_AttnKernel_AttnKernelIdeal
    ∧ algebraic_AttnKernelIdeal_AttnReferenceIdeal (hAttnKernelIdeal := hAttnKernelIdeal) (hAttnReferenceIdeal := hAttnReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_Ffn0Kernel_Ffn0KernelIdeal
    ∧ algebraic_Ffn0KernelIdeal_Ffn0ReferenceIdeal (hFfn0KernelIdeal := hFfn0KernelIdeal) (hFfn0ReferenceIdeal := hFfn0ReferenceIdeal)
    ∧ preserves_EvenKernel_EvenKernelIdeal
    ∧ algebraic_EvenKernelIdeal_EvenReferenceIdeal (hEvenKernelIdeal := hEvenKernelIdeal) (hEvenReferenceIdeal := hEvenReferenceIdeal)
-- ==== AttnKernel.lean ====
abbrev S8x3x2x1x4096x128 : Shape := ⟨6, ![8, 3, 2, 1, 4096, 128]⟩
abbrev S8x2x1x4096x128 : Shape := ⟨5, ![8, 2, 1, 4096, 128]⟩
abbrev S1x3x2x1x4096x128 : Shape := ⟨6, ![1, 3, 2, 1, 4096, 128]⟩
abbrev S1x2x1x4096x128 : Shape := ⟨5, ![1, 2, 1, 4096, 128]⟩
abbrev S2x512x256 : Shape := ⟨3, ![2, 512, 256]⟩
abbrev S512x256 : Shape := ⟨2, ![512, 256]⟩
abbrev S1x512x256 : Shape := ⟨3, ![1, 512, 256]⟩
abbrev S1x256 : Shape := ⟨2, ![1, 256]⟩
abbrev S1x1x1x1x128x128 : Shape := ⟨6, ![1, 1, 1, 1, 128, 128]⟩
abbrev S128x128 : Shape := ⟨2, ![128, 128]⟩
abbrev S128x256 : Shape := ⟨2, ![128, 256]⟩
abbrev S1x1x1x1x256x128 : Shape := ⟨6, ![1, 1, 1, 1, 256, 128]⟩
abbrev S256x128 : Shape := ⟨2, ![256, 128]⟩
abbrev S256x256 : Shape := ⟨2, ![256, 256]⟩
abbrev S512 : Shape := ⟨1, ![512]⟩
abbrev S512x1 : Shape := ⟨2, ![512, 1]⟩
abbrev S128x1 : Shape := ⟨2, ![128, 1]⟩
abbrev S1x1x1x128x128 : Shape := ⟨5, ![1, 1, 1, 128, 128]⟩

abbrev nBuf : Space → Nat
  | .hbm => 3
  | .vmem => 7
  | .smem => 0
  | _ => 0

abbrev bufTy : (tb : Table) → Fin (tcTables nBuf tb) → BufTy
  | .hbm, ⟨0, _⟩ => ⟨S8x3x2x1x4096x128, .bf16⟩
  | .hbm, ⟨1, _⟩ => ⟨S8x2x1x4096x128, .f32⟩
  | .hbm, ⟨2, _⟩ => ⟨S8x2x1x4096x128, .f32⟩
  | .local _ .vmem, ⟨0, _⟩ => ⟨S1x3x2x1x4096x128, .bf16⟩
  | .local _ .vmem, ⟨1, _⟩ => ⟨S1x3x2x1x4096x128, .bf16⟩
  | .local _ .vmem, ⟨2, _⟩ => ⟨S1x2x1x4096x128, .f32⟩
  | .local _ .vmem, ⟨3, _⟩ => ⟨S1x2x1x4096x128, .f32⟩
  | .local _ .vmem, ⟨4, _⟩ => ⟨S1x2x1x4096x128, .f32⟩
  | .local _ .vmem, ⟨5, _⟩ => ⟨S1x2x1x4096x128, .f32⟩
  | .local _ .vmem, ⟨6, _⟩ => ⟨S2x512x256, .f32⟩
  | _, _ => ⟨S8x3x2x1x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_24 : BitVec 32 := 0#32
  let c32_i32 : BitVec 32 := 32#32
  let v79 : BitVec 32 := Scalar.addi c0_i32_24 c32_i32
  let c1_i32_25 : BitVec 32 := 1#32
  ⟨c0_i32_24, v79, c1_i32_25⟩
def k0_mult1 (k0_t1 : Fin k0_t1_loop.trips) : BitVec 32 :=
  let c0_i32_24 : BitVec 32 := 0#32
  let c1_i32_25 : BitVec 32 := 1#32
  let arg5 : BitVec 32 := Scf.iv c0_i32_24 c1_i32_25 k0_t1
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c128_i32_42 : BitVec 32 := 128#32
  let v109 : BitVec 32 := Scalar.muli v106 c128_i32_42
  v109
def k0_mult2 (k0_t1 : Fin k0_t1_loop.trips) : BitVec 32 :=
  let c0_i32_24 : BitVec 32 := 0#32
  let c1_i32_25 : BitVec 32 := 1#32
  let arg5 : BitVec 32 := Scf.iv c0_i32_24 c1_i32_25 k0_t1
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c1_i32_40 : BitVec 32 := 1#32
  let v107 : BitVec 32 := Scalar.subi v106 c1_i32_40
  let c0_i32_41 : BitVec 32 := 0#32
  let v108 : BitVec 32 := Scalar.maxsi v107 c0_i32_41
  let c128_i32_43 : BitVec 32 := 128#32
  let v111 : BitVec 32 := Scalar.muli v108 c128_i32_43
  v111
def k0_off1 (k0_t1 : Fin k0_t1_loop.trips) : Fin 6 → Nat :=
  let c0_44 : Index := 0#32
  let c0_45 : Index := 0#32
  let c0_46 : Index := 0#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v113 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c128_i32_42 : BitVec 32 := 128#32
  let v109 : BitVec 32 := Scalar.muli v106 c128_i32_42
  let v110 : BitVec 32 := v109
  let v114 : Index := Scalar.indexCast v110
  let c0_47 : Index := 0#32
  ![0, 0, 0, v113.toNat, v114.toNat, 0]
def k0_off2 (k0_t1 : Fin k0_t1_loop.trips) : Fin 6 → Nat :=
  let c0_48 : Index := 0#32
  let c0_49 : Index := 0#32
  let c1_50 : Index := 1#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v117 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c128_i32_42 : BitVec 32 := 128#32
  let v109 : BitVec 32 := Scalar.muli v106 c128_i32_42
  let v110 : BitVec 32 := v109
  let v118 : Index := Scalar.indexCast v110
  let c0_51 : Index := 0#32
  ![0, 0, 1, v117.toNat, v118.toNat, 0]
def k0_off3 (k0_t1 : Fin k0_t1_loop.trips) : Fin 6 → Nat :=
  let c0_53 : Index := 0#32
  let c1_54 : Index := 1#32
  let c0_55 : Index := 0#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v136 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c1_i32_40 : BitVec 32 := 1#32
  let v107 : BitVec 32 := Scalar.subi v106 c1_i32_40
  let c0_i32_41 : BitVec 32 := 0#32
  let v108 : BitVec 32 := Scalar.maxsi v107 c0_i32_41
  let c128_i32_43 : BitVec 32 := 128#32
  let v111 : BitVec 32 := Scalar.muli v108 c128_i32_43
  let v112 : BitVec 32 := v111
  let v137 : Index := Scalar.indexCast v112
  let c0_56 : Index := 0#32
  ![0, 1, 0, v136.toNat, v137.toNat, 0]
def k0_off4 (k0_t1 : Fin k0_t1_loop.trips) : Fin 6 → Nat :=
  let c0_57 : Index := 0#32
  let c1_58 : Index := 1#32
  let c1_59 : Index := 1#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v140 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c1_i32_40 : BitVec 32 := 1#32
  let v107 : BitVec 32 := Scalar.subi v106 c1_i32_40
  let c0_i32_41 : BitVec 32 := 0#32
  let v108 : BitVec 32 := Scalar.maxsi v107 c0_i32_41
  let c128_i32_43 : BitVec 32 := 128#32
  let v111 : BitVec 32 := Scalar.muli v108 c128_i32_43
  let v112 : BitVec 32 := v111
  let v141 : Index := Scalar.indexCast v112
  let c0_60 : Index := 0#32
  ![0, 1, 1, v140.toNat, v141.toNat, 0]
def k0_off5 (k0_t1 : Fin k0_t1_loop.trips) : Fin 3 → Nat :=
  let c0_i32_24 : BitVec 32 := 0#32
  let c1_i32_25 : BitVec 32 := 1#32
  let arg5 : BitVec 32 := Scf.iv c0_i32_24 c1_i32_25 k0_t1
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c1_i32_62 : BitVec 32 := 1#32
  let v146 : BitVec 32 := Scalar.minsi v106 c1_i32_62
  let v147 : Index := Scalar.indexCast v146
  let c0_63 : Index := 0#32
  let c0_64 : Index := 0#32
  ![v147.toNat, 0, 0]
def k0_off6 (k0_t1 : Fin k0_t1_loop.trips) : Fin 6 → Nat :=
  let c0_67 : Index := 0#32
  let c2 : Index := 2#32
  let c0_68 : Index := 0#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v159 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c1_i32_40 : BitVec 32 := 1#32
  let v107 : BitVec 32 := Scalar.subi v106 c1_i32_40
  let c0_i32_41 : BitVec 32 := 0#32
  let v108 : BitVec 32 := Scalar.maxsi v107 c0_i32_41
  let c128_i32_43 : BitVec 32 := 128#32
  let v111 : BitVec 32 := Scalar.muli v108 c128_i32_43
  let v112 : BitVec 32 := v111
  let v160 : Index := Scalar.indexCast v112
  let c0_69 : Index := 0#32
  ![0, 2, 0, v159.toNat, v160.toNat, 0]
def k0_off7 (k0_t1 : Fin k0_t1_loop.trips) : Fin 6 → Nat :=
  let c0_70 : Index := 0#32
  let c2_71 : Index := 2#32
  let c1_72 : Index := 1#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v163 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c1_i32_40 : BitVec 32 := 1#32
  let v107 : BitVec 32 := Scalar.subi v106 c1_i32_40
  let c0_i32_41 : BitVec 32 := 0#32
  let v108 : BitVec 32 := Scalar.maxsi v107 c0_i32_41
  let c128_i32_43 : BitVec 32 := 128#32
  let v111 : BitVec 32 := Scalar.muli v108 c128_i32_43
  let v112 : BitVec 32 := v111
  let v164 : Index := Scalar.indexCast v112
  let c0_73 : Index := 0#32
  ![0, 2, 1, v163.toNat, v164.toNat, 0]
def k0_off8 (k0_t1 : Fin k0_t1_loop.trips) : Fin 5 → Nat :=
  let c0_76 : Index := 0#32
  let c0_77 : Index := 0#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v231 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c128_i32_42 : BitVec 32 := 128#32
  let v109 : BitVec 32 := Scalar.muli v106 c128_i32_42
  let v110 : BitVec 32 := v109
  let v232 : Index := Scalar.indexCast v110
  let c0_78 : Index := 0#32
  ![0, 0, v231.toNat, v232.toNat, 0]
def k0_off9 (k0_t1 : Fin k0_t1_loop.trips) : Fin 5 → Nat :=
  let c0_82 : Index := 0#32
  let c1_83 : Index := 1#32
  let c0_i32_24 : BitVec 32 := 0#32
  let c1_i32_25 : BitVec 32 := 1#32
  let arg5 : BitVec 32 := Scf.iv c0_i32_24 c1_i32_25 k0_t1
  let c0_i32_28 : BitVec 32 := 0#32
  let v81 : BitVec 1 := Scalar.cmpi .sgt arg5 c0_i32_28
  let v82 : BitVec 32 := Scalar.extui v81
  let c0_i32_29 : BitVec 32 := 0#32
  let v83 : BitVec 1 := Scalar.cmpi .slt arg5 c0_i32_29
  let v84 : BitVec 32 := Scalar.extui v83
  let v85 : BitVec 32 := Scalar.subi v82 v84
  let c32_i32_27 : BitVec 32 := 32#32
  let c0_i32_30 : BitVec 32 := 0#32
  let v86 : BitVec 1 := Scalar.cmpi .sgt c32_i32_27 c0_i32_30
  let v87 : BitVec 32 := Scalar.extui v86
  let c0_i32_31 : BitVec 32 := 0#32
  let v88 : BitVec 1 := Scalar.cmpi .slt c32_i32_27 c0_i32_31
  let v89 : BitVec 32 := Scalar.extui v88
  let v90 : BitVec 32 := Scalar.subi v87 v89
  let v91 : BitVec 1 := Scalar.cmpi .ne v85 v90
  let v92 : BitVec 32 := Scalar.remsi arg5 c32_i32_27
  let c0_i32_32 : BitVec 32 := 0#32
  let v93 : BitVec 1 := Scalar.cmpi .ne v92 c0_i32_32
  let v94 : BitVec 1 := Scalar.andi v91 v93
  let v80 : BitVec 32 := Scalar.divsi arg5 c32_i32_27
  let c1_i32_33 : BitVec 32 := 1#32
  let v95 : BitVec 32 := Scalar.subi v80 c1_i32_33
  let v96 : BitVec 32 := Scalar.select v94 v95 v80
  let v243 : Index := Scalar.indexCast v96
  let c32_i32_34 : BitVec 32 := 32#32
  let c0_i32_35 : BitVec 32 := 0#32
  let v97 : BitVec 1 := Scalar.cmpi .eq c32_i32_34 c0_i32_35
  let c1_i32_36 : BitVec 32 := 1#32
  let v98 : BitVec 32 := Scalar.select v97 c1_i32_36 c32_i32_34
  let v99 : BitVec 32 := Scalar.remsi arg5 v98
  let c0_i32_38 : BitVec 32 := 0#32
  let v101 : BitVec 1 := Scalar.cmpi .slt v99 c0_i32_38
  let c0_i32_39 : BitVec 32 := 0#32
  let v102 : BitVec 1 := Scalar.cmpi .slt v98 c0_i32_39
  let v103 : BitVec 1 := Scalar.xori v101 v102
  let c0_i32_37 : BitVec 32 := 0#32
  let v100 : BitVec 1 := Scalar.cmpi .ne v99 c0_i32_37
  let v104 : BitVec 1 := Scalar.andi v103 v100
  let v105 : BitVec 32 := Scalar.addi v99 v98
  let v106 : BitVec 32 := Scalar.select v104 v105 v99
  let c128_i32_42 : BitVec 32 := 128#32
  let v109 : BitVec 32 := Scalar.muli v106 c128_i32_42
  let v110 : BitVec 32 := v109
  let v244 : Index := Scalar.indexCast v110
  let c0_84 : Index := 0#32
  ![0, 1, v243.toNat, v244.toNat, 0]
def cc0_transform_0 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x3x2x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnReferenceIdeal.lean ====
abbrev S8x3x2x1x4096x128 : Shape := ⟨6, ![8, 3, 2, 1, 4096, 128]⟩
abbrev S_ : Shape := ⟨0, ![]⟩
abbrev S3x8x4096x1x2x128 : Shape := ⟨6, ![3, 8, 4096, 1, 2, 128]⟩
abbrev S3x8x32x128x4x64 : Shape := ⟨6, ![3, 8, 32, 128, 4, 64]⟩
abbrev S1x8x32x128x4x64 : Shape := ⟨6, ![1, 8, 32, 128, 4, 64]⟩
abbrev S8x32x128x4x64 : Shape := ⟨5, ![8, 32, 128, 4, 64]⟩
abbrev S8x31x128x4x64 : Shape := ⟨5, ![8, 31, 128, 4, 64]⟩
abbrev S8x32x256x4x64 : Shape := ⟨5, ![8, 32, 256, 4, 64]⟩
abbrev S8x32x4x128x256 : Shape := ⟨5, ![8, 32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x128x256 : Shape := ⟨5, ![1, 32, 1, 128, 256]⟩
abbrev S8x32x4x128 : Shape := ⟨4, ![8, 32, 4, 128]⟩
abbrev S8x32x4x128x1 : Shape := ⟨5, ![8, 32, 4, 128, 1]⟩
abbrev S8x32x4x64x128 : Shape := ⟨5, ![8, 32, 4, 64, 128]⟩
abbrev S8x32x128x4x1 : Shape := ⟨5, ![8, 32, 128, 4, 1]⟩
abbrev S8x32x128x4 : Shape := ⟨4, ![8, 32, 128, 4]⟩
abbrev S8x4096x1x2x128 : Shape := ⟨5, ![8, 4096, 1, 2, 128]⟩
abbrev S8x2x1x4096x128 : Shape := ⟨5, ![8, 2, 1, 4096, 128]⟩

abbrev nBuf : Space → Nat
  | .hbm => 90
  | .vmem => 0
  | .smem => 0
  | _ => 0

abbrev bufTy : (tb : Table) → Fin (tcTables nBuf tb) → BufTy
  | .hbm, ⟨0, _⟩ => ⟨S8x3x2x1x4096x128, .bf16⟩
  | .hbm, ⟨1, _⟩ => ⟨S_, .f32⟩
  | .hbm, ⟨2, _⟩ => ⟨S_, .f32⟩
  | .hbm, ⟨3, _⟩ => ⟨S8x3x2x1x4096x128, .f32⟩
  | .hbm, ⟨4, _⟩ => ⟨S3x8x4096x1x2x128, .f32⟩
  | .hbm, ⟨5, _⟩ => ⟨S3x8x32x128x4x64, .f32⟩
  | .hbm, ⟨6, _⟩ => ⟨S1x8x32x128x4x64, .f32⟩
  | .hbm, ⟨7, _⟩ => ⟨S8x32x128x4x64, .f32⟩
  | .hbm, ⟨8, _⟩ => ⟨S8x32x128x4x64, .f32⟩
  | .hbm, ⟨9, _⟩ => ⟨S8x32x128x4x64, .f32⟩
  | .hbm, ⟨10, _⟩ => ⟨S1x8x32x128x4x64, .f32⟩
  | .hbm, ⟨11, _⟩ => ⟨S8x32x128x4x64, .f32⟩
  | .hbm, ⟨12, _⟩ => ⟨S1x8x32x128x4x64, .f32⟩
  | .hbm, ⟨13, _⟩ => ⟨S8x32x128x4x64, .f32⟩
  | .hbm, ⟨14, _⟩ => ⟨S8x31x128x4x64, .f32⟩
  | .hbm, ⟨15, _⟩ => ⟨S_, .i32⟩
  | .hbm, ⟨16, _⟩ => ⟨S_, .f32⟩
  | .hbm, ⟨17, _⟩ => ⟨S8x32x128x4x64, .f32⟩
  | .hbm, ⟨18, _⟩ => ⟨S8x32x256x4x64, .f32⟩
  | .hbm, ⟨19, _⟩ => ⟨S8x31x128x4x64, .f32⟩
  | .hbm, ⟨20, _⟩ => ⟨S_, .i32⟩
  | .hbm, ⟨21, _⟩ => ⟨S_, .f32⟩
  | .hbm, ⟨22, _⟩ => ⟨S8x32x128x4x64, .f32⟩
  | .hbm, ⟨23, _⟩ => ⟨S8x32x256x4x64, .f32⟩
  | .hbm, ⟨24, _⟩ => ⟨S8x32x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S32, .i32⟩
  | .hbm, ⟨43, _⟩ => ⟨S32x1x1, .i32⟩
  | .hbm, ⟨44, _⟩ => ⟨S1x128x256, .i1⟩
  | .hbm, ⟨45, _⟩ => ⟨S_, .i32⟩
  | .hbm, ⟨46, _⟩ => ⟨S32x1x1, .i32⟩
  | .hbm, ⟨47, _⟩ => ⟨S32x1x1, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S32x1x256, .i1⟩
  | .hbm, ⟨53, _⟩ => ⟨S32x1x256, .i1⟩
  | .hbm, ⟨54, _⟩ => ⟨S32x1x256, .i1⟩
  | .hbm, ⟨55, _⟩ => ⟨S32x128x256, .i1⟩
  | .hbm, ⟨56, _⟩ => ⟨S32x128x256, .i1⟩
  | .hbm, ⟨57, _⟩ => ⟨S32x128x256, .i1⟩
  | .hbm, ⟨58, _⟩ => ⟨S1x32x1x128x256, .i1⟩
  | .hbm, ⟨59, _⟩ => ⟨S_, .f32⟩
  | .hbm, ⟨60, _⟩ => ⟨S_, .f32⟩
  | .hbm, ⟨61, _⟩ => ⟨S8x32x4x128x256, .i1⟩
  | .hbm, ⟨62, _⟩ => ⟨S8x32x4x128x256, .f32⟩
  | .hbm, ⟨63, _⟩ => ⟨S8x32x4x128x256, .f32⟩
  | .hbm, ⟨64, _⟩ => ⟨S_, .f32⟩
  | .hbm, ⟨65, _⟩ => ⟨S8x32x4x128, .f32⟩
  | .hbm, ⟨66, _⟩ => ⟨S8x32x4x128x1, .f32⟩
  | .hbm, ⟨67, _⟩ => ⟨S8x32x4x128x256, .f32⟩
  | .hbm, ⟨68, _⟩ => ⟨S8x32x4x128x256, .f32⟩
  | .hbm, ⟨69, _⟩ => ⟨S8x32x4x128x256, .f32⟩
  | .hbm, ⟨70, _⟩ => ⟨S_, .f32⟩
  | .hbm, ⟨71, _⟩ => ⟨S8x32x4x128, .f32⟩
  | .hbm, ⟨72, _⟩ => ⟨S8x32x4x128x1, .f32⟩
  | .hbm, ⟨73, _⟩ => ⟨S8x32x4x64x128, .f32⟩
  | .hbm, ⟨74, _⟩ => ⟨S8x32x128x4x64, .f32⟩
  | .hbm, ⟨75, _⟩ => ⟨S8x32x128x4x1, .f32⟩
  | .hbm, ⟨76, _⟩ => ⟨S8x32x128x4x64, .f32⟩
  | .hbm, ⟨77, _⟩ => ⟨S8x32x128x4x64, .f32⟩
  | .hbm, ⟨78, _⟩ => ⟨S8x32x4x128x1, .f32⟩
  | .hbm, ⟨79, _⟩ => ⟨S8x32x4x128x1, .f32⟩
  | .hbm, ⟨80, _⟩ => ⟨S8x32x4x128, .f32⟩
  | .hbm, ⟨81, _⟩ => ⟨S8x32x128x4, .f32⟩
  | .hbm, ⟨82, _⟩ => ⟨S8x32x128x4, .f32⟩
  | .hbm, ⟨83, _⟩ => ⟨S8x32x128x4, .f32⟩
  | .hbm, ⟨84, _⟩ => ⟨S8x32x128x4x1, .f32⟩
  | .hbm, ⟨85, _⟩ => ⟨S8x32x128x4x64, .f32⟩
  | .hbm, ⟨86, _⟩ => ⟨S8x4096x1x2x128, .f32⟩
  | .hbm, ⟨87, _⟩ => ⟨S8x2x1x4096x128, .f32⟩
  | .hbm, ⟨88, _⟩ => ⟨S8x4096x1x2x128, .f32⟩
  | .hbm, ⟨89, _⟩ => ⟨S8x2x1x4096x128, .f32⟩
  | _, _ => ⟨S8x3x2x1x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_call1_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== FfnKernel.lean ====
abbrev S8x4096x1024 : Shape := ⟨3, ![8, 4096, 1024]⟩
abbrev S8x4096x512 : Shape := ⟨3, ![8, 4096, 512]⟩
abbrev S8x2x4096x128 : Shape := ⟨4, ![8, 2, 4096, 128]⟩
abbrev S1x768x1024 : Shape := ⟨3, ![1, 768, 1024]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1x1024 : Shape := ⟨2, ![1, 1024]⟩
abbrev S1024 : Shape := ⟨1, ![1024]⟩
abbrev S1x3x2816 : Shape := ⟨3, ![1, 3, 2816]⟩
abbrev S3x2816 : Shape := ⟨2, ![3, 2816]⟩
abbrev S3x8x2816 : Shape := ⟨3, ![3, 8, 2816]⟩
abbrev S24x2816 : Shape := ⟨2, ![24, 2816]⟩
abbrev S1x2816 : Shape := ⟨2, ![1, 2816]⟩
abbrev S2816 : Shape := ⟨1, ![2816]⟩
abbrev S1x8x2816 : Shape := ⟨3, ![1, 8, 2816]⟩
abbrev S8x2816 : Shape := ⟨2, ![8, 2816]⟩
abbrev S768x1024 : Shape := ⟨2, ![768, 1024]⟩
abbrev S1x512x1024 : Shape := ⟨3, ![1, 512, 1024]⟩
abbrev S1x512x512 : Shape := ⟨3, ![1, 512, 512]⟩
abbrev S1x2x512x128 : Shape := ⟨4, ![1, 2, 512, 128]⟩
abbrev S1x1024x2816 : Shape := ⟨3, ![1, 1024, 2816]⟩
abbrev S1x2816x1024 : Shape := ⟨3, ![1, 2816, 1024]⟩
abbrev S512x1024 : Shape := ⟨2, ![512, 1024]⟩
abbrev S22x520x128 : Shape := ⟨3, ![22, 520, 128]⟩
abbrev S512x2816 : Shape := ⟨2, ![512, 2816]⟩
abbrev S1x1x512x128 : Shape := ⟨4, ![1, 1, 512, 128]⟩
abbrev S512x128 : Shape := ⟨2, ![512, 128]⟩
abbrev S512x256 : Shape := ⟨2, ![512, 256]⟩
abbrev S512x512 : Shape := ⟨2, ![512, 512]⟩
abbrev S256x1024 : Shape := ⟨2, ![256, 1024]⟩
abbrev S22x8x128 : Shape := ⟨3, ![22, 8, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x512x128 : Shape := ⟨3, ![1, 512, 128]⟩
abbrev S8x256 : Shape := ⟨2, ![8, 256]⟩
abbrev S32x256 : Shape := ⟨2, ![32, 256]⟩
abbrev S1x32x128 : Shape := ⟨3, ![1, 32, 128]⟩
abbrev S32x128 : Shape := ⟨2, ![32, 128]⟩
abbrev S2816x1024 : Shape := ⟨2, ![2816, 1024]⟩

abbrev nBuf : Space → Nat
  | .hbm => 28
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x2x4096x128, .f32⟩
  | .hbm, ⟨3, _⟩ => ⟨S1x768x1024, .f32⟩
  | .hbm, ⟨4, _⟩ => ⟨S2x1024, .f32⟩
  | .hbm, ⟨5, _⟩ => ⟨S2x1024x2816, .f32⟩
  | .hbm, ⟨6, _⟩ => ⟨S2x1024x2816, .f32⟩
  | .hbm, ⟨7, _⟩ => ⟨S2x3x2816, .f32⟩
  | .hbm, ⟨8, _⟩ => ⟨S2x2816, .f32⟩
  | .hbm, ⟨9, _⟩ => ⟨S2x2816x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2x1024x2816, .bf16⟩
  | .hbm, ⟨14, _⟩ => ⟨S2x1024x2816, .bf16⟩
  | .hbm, ⟨15, _⟩ => ⟨S1x3x2816, .f32⟩
  | .hbm, ⟨16, _⟩ => ⟨S3x2816, .f32⟩
  | .hbm, ⟨17, _⟩ => ⟨S3x8x2816, .f32⟩
  | .hbm, ⟨18, _⟩ => ⟨S24x2816, .f32⟩
  | .hbm, ⟨19, _⟩ => ⟨S1x2816, .f32⟩
  | .hbm, ⟨20, _⟩ => ⟨S2816, .f32⟩
  | .hbm, ⟨21, _⟩ => ⟨S1x2816, .f32⟩
  | .hbm, ⟨22, _⟩ => ⟨S1x8x2816, .f32⟩
  | .hbm, ⟨23, _⟩ => ⟨S8x2816, .f32⟩
  | .hbm, ⟨24, _⟩ => ⟨S2x2816x1024, .bf16⟩
  | .hbm, ⟨25, _⟩ => ⟨S768x1024, .f32⟩
  | .hbm, ⟨26, _⟩ => ⟨S768x1024, .bf16⟩
  | .hbm, ⟨27, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x2x512x128, .f32⟩
  | .local _ .vmem, ⟨5, _⟩ => ⟨S1x2x512x128, .f32⟩
  | .local _ .vmem, ⟨6, _⟩ => ⟨S768x1024, .bf16⟩
  | .local _ .vmem, ⟨7, _⟩ => ⟨S1x1024, .f32⟩
  | .local _ .vmem, ⟨8, _⟩ => ⟨S1x1024x2816, .bf16⟩
  | .local _ .vmem, ⟨9, _⟩ => ⟨S1x1024x2816, .bf16⟩
  | .local _ .vmem, ⟨10, _⟩ => ⟨S24x2816, .f32⟩
  | .local _ .vmem, ⟨11, _⟩ => ⟨S8x2816, .f32⟩
  | .local _ .vmem, ⟨12, _⟩ => ⟨S1x2816x1024, .bf16⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S22x520x128, .f32⟩
  | .local _ .vmem, ⟨17, _⟩ => ⟨S512x2816, .f32⟩
  | .local _ .vmem, ⟨18, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S24x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnReferenceIdeal.lean ====
abbrev S8x4096x1024 : Shape := ⟨3, ![8, 4096, 1024]⟩
abbrev S8x4096x512 : Shape := ⟨3, ![8, 4096, 512]⟩
abbrev S8x2x4096x128 : Shape := ⟨4, ![8, 2, 4096, 128]⟩
abbrev S1x768x1024 : Shape := ⟨3, ![1, 768, 1024]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S8x4096x2x128 : Shape := ⟨4, ![8, 4096, 2, 128]⟩
abbrev S8x4096x256 : Shape := ⟨3, ![8, 4096, 256]⟩
abbrev S8x4096x768 : Shape := ⟨3, ![8, 4096, 768]⟩
abbrev S768x1024 : Shape := ⟨2, ![768, 1024]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x4096x2816 : Shape := ⟨3, ![8, 4096, 2816]⟩
abbrev S8x4098x2816 : Shape := ⟨3, ![8, 4098, 2816]⟩
abbrev S1x1x2816 : Shape := ⟨3, ![1, 1, 2816]⟩
abbrev S2816 : Shape := ⟨1, ![2816]⟩
abbrev S1x2816 : Shape := ⟨2, ![1, 2816]⟩
abbrev S1x2816x1024 : Shape := ⟨3, ![1, 2816, 1024]⟩
abbrev S2816x1024 : Shape := ⟨2, ![2816, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x2x4096x128, .f32⟩
  | .hbm, ⟨3, _⟩ => ⟨S1x768x1024, .f32⟩
  | .hbm, ⟨4, _⟩ => ⟨S2x1024, .f32⟩
  | .hbm, ⟨5, _⟩ => ⟨S2x1024x2816, .f32⟩
  | .hbm, ⟨6, _⟩ => ⟨S2x1024x2816, .f32⟩
  | .hbm, ⟨7, _⟩ => ⟨S2x3x2816, .f32⟩
  | .hbm, ⟨8, _⟩ => ⟨S2x2816, .f32⟩
  | .hbm, ⟨9, _⟩ => ⟨S2x2816x1024, .f32⟩
  | .hbm, ⟨10, _⟩ => ⟨S8x4096x2x128, .f32⟩
  | .hbm, ⟨11, _⟩ => ⟨S8x4096x256, .f32⟩
  | .hbm, ⟨12, _⟩ => ⟨S8x4096x768, .f32⟩
  | .hbm, ⟨13, _⟩ => ⟨S768x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S1x1024x2816, .f32⟩
  | .hbm, ⟨35, _⟩ => ⟨S1024x2816, .f32⟩
  | .hbm, ⟨36, _⟩ => ⟨S8x4096x2816, .f32⟩
  | .hbm, ⟨37, _⟩ => ⟨S_, .i32⟩
  | .hbm, ⟨38, _⟩ => ⟨S_, .f32⟩
  | .hbm, ⟨39, _⟩ => ⟨S8x4098x2816, .f32⟩
  | .hbm, ⟨40, _⟩ => ⟨S1x1x2816, .f32⟩
  | .hbm, ⟨41, _⟩ => ⟨S2816, .f32⟩
  | .hbm, ⟨42, _⟩ => ⟨S8x4096x2816, .f32⟩
  | .hbm, ⟨43, _⟩ => ⟨S1x1x2816, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S1x1x2816, .f32⟩
  | .hbm, ⟨50, _⟩ => ⟨S2816, .f32⟩
  | .hbm, ⟨51, _⟩ => ⟨S8x4096x2816, .f32⟩
  | .hbm, ⟨52, _⟩ => ⟨S1x1x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S1x1x2816, .f32⟩
  | .hbm, ⟨57, _⟩ => ⟨S2816, .f32⟩
  | .hbm, ⟨58, _⟩ => ⟨S8x4096x2816, .f32⟩
  | .hbm, ⟨59, _⟩ => ⟨S1x1x2816, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S1x2816, .f32⟩
  | .hbm, ⟨64, _⟩ => ⟨S2816, .f32⟩
  | .hbm, ⟨65, _⟩ => ⟨S1x1x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S_, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S8x4096x2816, .f32⟩
  | .hbm, ⟨77, _⟩ => ⟨S1x1024x2816, .f32⟩
  | .hbm, ⟨78, _⟩ => ⟨S1024x2816, .f32⟩
  | .hbm, ⟨79, _⟩ => ⟨S8x4096x2816, .f32⟩
  | .hbm, ⟨80, _⟩ => ⟨S8x4096x2816, .f32⟩
  | .hbm, ⟨81, _⟩ => ⟨S1x2816x1024, .f32⟩
  | .hbm, ⟨82, _⟩ => ⟨S2816x1024, .f32⟩
  | .hbm, ⟨83, _⟩ => ⟨S8x4096x1024, .f32⟩
  | .hbm, ⟨84, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Ffn0Kernel.lean ====
abbrev S8x4096x1024 : Shape := ⟨3, ![8, 4096, 1024]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1x1024 : Shape := ⟨2, ![1, 1024]⟩
abbrev S1024 : Shape := ⟨1, ![1024]⟩
abbrev S1x3x2816 : Shape := ⟨3, ![1, 3, 2816]⟩
abbrev S3x2816 : Shape := ⟨2, ![3, 2816]⟩
abbrev S3x8x2816 : Shape := ⟨3, ![3, 8, 2816]⟩
abbrev S24x2816 : Shape := ⟨2, ![24, 2816]⟩
abbrev S1x2816 : Shape := ⟨2, ![1, 2816]⟩
abbrev S2816 : Shape := ⟨1, ![2816]⟩
abbrev S1x8x2816 : Shape := ⟨3, ![1, 8, 2816]⟩
abbrev S8x2816 : Shape := ⟨2, ![8, 2816]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S22x520x128 : Shape := ⟨3, ![22, 520, 128]⟩
abbrev S512x2816 : Shape := ⟨2, ![512, 2816]⟩
abbrev S22x8x128 : Shape := ⟨3, ![22, 8, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S8x256 : Shape := ⟨2, ![8, 256]⟩
abbrev S32x256 : Shape := ⟨2, ![32, 256]⟩
abbrev S1x32x128 : Shape := ⟨3, ![1, 32, 128]⟩
abbrev S32x128 : Shape := ⟨2, ![32, 128]⟩
abbrev S2816x1024 : Shape := ⟨2, ![2816, 1024]⟩

abbrev nBuf : Space → Nat
  | .hbm => 23
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x1024x2816, .bf16⟩
  | .hbm, ⟨11, _⟩ => ⟨S2x1024x2816, .bf16⟩
  | .hbm, ⟨12, _⟩ => ⟨S1x3x2816, .f32⟩
  | .hbm, ⟨13, _⟩ => ⟨S3x2816, .f32⟩
  | .hbm, ⟨14, _⟩ => ⟨S3x8x2816, .f32⟩
  | .hbm, ⟨15, _⟩ => ⟨S24x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S1x8x2816, .f32⟩
  | .hbm, ⟨20, _⟩ => ⟨S8x2816, .f32⟩
  | .hbm, ⟨21, _⟩ => ⟨S2x2816x1024, .bf16⟩
  | .hbm, ⟨22, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S24x2816, .f32⟩
  | .local _ .vmem, ⟨6, _⟩ => ⟨S8x2816, .f32⟩
  | .local _ .vmem, ⟨7, _⟩ => ⟨S1x2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S22x520x128, .f32⟩
  | .local _ .vmem, ⟨12, _⟩ => ⟨S512x2816, .f32⟩
  | .local _ .vmem, ⟨13, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S24x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ffn0ReferenceIdeal.lean ====
abbrev S8x4096x1024 : Shape := ⟨3, ![8, 4096, 1024]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x4096x2816 : Shape := ⟨3, ![8, 4096, 2816]⟩
abbrev S8x4098x2816 : Shape := ⟨3, ![8, 4098, 2816]⟩
abbrev S1x1x2816 : Shape := ⟨3, ![1, 1, 2816]⟩
abbrev S2816 : Shape := ⟨1, ![2816]⟩
abbrev S1x2816 : Shape := ⟨2, ![1, 2816]⟩
abbrev S1x2816x1024 : Shape := ⟨3, ![1, 2816, 1024]⟩
abbrev S2816x1024 : Shape := ⟨2, ![2816, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S1x1024x2816, .f32⟩
  | .hbm, ⟨26, _⟩ => ⟨S1024x2816, .f32⟩
  | .hbm, ⟨27, _⟩ => ⟨S8x4096x2816, .f32⟩
  | .hbm, ⟨28, _⟩ => ⟨S_, .i32⟩
  | .hbm, ⟨29, _⟩ => ⟨S_, .f32⟩
  | .hbm, ⟨30, _⟩ => ⟨S8x4098x2816, .f32⟩
  | .hbm, ⟨31, _⟩ => ⟨S1x1x2816, .f32⟩
  | .hbm, ⟨32, _⟩ => ⟨S2816, .f32⟩
  | .hbm, ⟨33, _⟩ => ⟨S8x4096x2816, .f32⟩
  | .hbm, ⟨34, _⟩ => ⟨S1x1x2816, .f32⟩
  | .hbm, ⟨35, _⟩ => ⟨S8x4096x2816, .f32⟩
  | .hbm, ⟨36, _⟩ => ⟨S8x4096x2816, .f32⟩
  | .hbm, ⟨37, _⟩ => ⟨S_, .f32⟩
  | .hbm, ⟨38, _⟩ => ⟨S8x4096x2816, .f32⟩
  | .hbm, ⟨39, _⟩ => ⟨S8x4096x2816, .f32⟩
  | .hbm, ⟨40, _⟩ => ⟨S1x1x2816, .f32⟩
  | .hbm, ⟨41, _⟩ => ⟨S2816, .f32⟩
  | .hbm, ⟨42, _⟩ => ⟨S8x4096x2816, .f32⟩
  | .hbm, ⟨43, _⟩ => ⟨S1x1x2816, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S1x1x2816, .f32⟩
  | .hbm, ⟨48, _⟩ => ⟨S2816, .f32⟩
  | .hbm, ⟨49, _⟩ => ⟨S8x4096x2816, .f32⟩
  | .hbm, ⟨50, _⟩ => ⟨S1x1x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S1x1024x2816, .f32⟩
  | .hbm, ⟨69, _⟩ => ⟨S1024x2816, .f32⟩
  | .hbm, ⟨70, _⟩ => ⟨S8x4096x2816, .f32⟩
  | .hbm, ⟨71, _⟩ => ⟨S8x4096x2816, .f32⟩
  | .hbm, ⟨72, _⟩ => ⟨S1x2816x1024, .f32⟩
  | .hbm, ⟨73, _⟩ => ⟨S2816x1024, .f32⟩
  | .hbm, ⟨74, _⟩ => ⟨S8x4096x1024, .f32⟩
  | .hbm, ⟨75, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== EvenKernel.lean ====
abbrev S8x4096x1024 : Shape := ⟨3, ![8, 4096, 1024]⟩
abbrev S2x1024 : Shape := ⟨2, ![2, 1024]⟩
abbrev S1x1024x2560 : Shape := ⟨3, ![1, 1024, 2560]⟩
abbrev S1x3x512 : Shape := ⟨3, ![1, 3, 512]⟩
abbrev S1x31x512 : Shape := ⟨3, ![1, 31, 512]⟩
abbrev S1x512 : Shape := ⟨2, ![1, 512]⟩
abbrev S1x1024x1024 : Shape := ⟨3, ![1, 1024, 1024]⟩
abbrev S1x1024 : Shape := ⟨2, ![1, 1024]⟩
abbrev S1024 : Shape := ⟨1, ![1024]⟩
abbrev S1024x2560 : Shape := ⟨2, ![1024, 2560]⟩
abbrev S3x512 : Shape := ⟨2, ![3, 512]⟩
abbrev S3x8x512 : Shape := ⟨3, ![3, 8, 512]⟩
abbrev S24x512 : Shape := ⟨2, ![24, 512]⟩
abbrev S31x512 : Shape := ⟨2, ![31, 512]⟩
abbrev S31x8x512 : Shape := ⟨3, ![31, 8, 512]⟩
abbrev S248x512 : Shape := ⟨2, ![248, 512]⟩
abbrev S512 : Shape := ⟨1, ![512]⟩
abbrev S1x8x512 : Shape := ⟨3, ![1, 8, 512]⟩
abbrev S8x512 : Shape := ⟨2, ![8, 512]⟩
abbrev S1024x1024 : Shape := ⟨2, ![1024, 1024]⟩
abbrev S1x512x1024 : Shape := ⟨3, ![1, 512, 1024]⟩
abbrev S512x1024 : Shape := ⟨2, ![512, 1024]⟩
abbrev S5x512x512 : Shape := ⟨3, ![5, 512, 512]⟩
abbrev S4x520x128 : Shape := ⟨3, ![4, 520, 128]⟩
abbrev S4x544x128 : Shape := ⟨3, ![4, 544, 128]⟩
abbrev S4x8x128 : Shape := ⟨3, ![4, 8, 128]⟩
abbrev S4x32x128 : Shape := ⟨3, ![4, 32, 128]⟩
abbrev S512x1 : Shape := ⟨2, ![512, 1]⟩
abbrev S256x1024 : Shape := ⟨2, ![256, 1024]⟩
abbrev S1024x512 : Shape := ⟨2, ![1024, 512]⟩
abbrev S256x512 : Shape := ⟨2, ![256, 512]⟩
abbrev S1x256x512 : Shape := ⟨3, ![1, 256, 512]⟩
abbrev S1x32x512 : Shape := ⟨3, ![1, 32, 512]⟩
abbrev S32x512 : Shape := ⟨2, ![32, 512]⟩
abbrev S32x128 : Shape := ⟨2, ![32, 128]⟩
abbrev S1x32x128 : Shape := ⟨3, ![1, 32, 128]⟩
abbrev S8x128 : Shape := ⟨2, ![8, 128]⟩
abbrev S32 : Shape := ⟨1, ![32]⟩
abbrev S32x1 : Shape := ⟨2, ![32, 1]⟩
abbrev S1024x256 : Shape := ⟨2, ![1024, 256]⟩
abbrev S512x256 : Shape := ⟨2, ![512, 256]⟩
abbrev S1x512x256 : Shape := ⟨3, ![1, 512, 256]⟩
abbrev S1x128x1024 : Shape := ⟨3, ![1, 128, 1024]⟩
abbrev S128x1024 : Shape := ⟨2, ![128, 1024]⟩

abbrev nBuf : Space → Nat
  | .hbm => 35
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x2560, .f32⟩
  | .hbm, ⟨3, _⟩ => ⟨S1x3x512, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x2560, .f32⟩
  | .hbm, ⟨13, _⟩ => ⟨S1024x2560, .bf16⟩
  | .hbm, ⟨14, _⟩ => ⟨S3x512, .f32⟩
  | .hbm, ⟨15, _⟩ => ⟨S3x8x512, .f32⟩
  | .hbm, ⟨16, _⟩ => ⟨S24x512, .f32⟩
  | .hbm, ⟨17, _⟩ => ⟨S31x512, .f32⟩
  | .hbm, ⟨18, _⟩ => ⟨S31x8x512, .f32⟩
  | .hbm, ⟨19, _⟩ => ⟨S248x512, .f32⟩
  | .hbm, ⟨20, _⟩ => ⟨S512, .f32⟩
  | .hbm, ⟨21, _⟩ => ⟨S1x512, .f32⟩
  | .hbm, ⟨22, _⟩ => ⟨S1x8x512, .f32⟩
  | .hbm, ⟨23, _⟩ => ⟨S8x512, .f32⟩
  | .hbm, ⟨24, _⟩ => ⟨S512, .f32⟩
  | .hbm, ⟨25, _⟩ => ⟨S1x512, .f32⟩
  | .hbm, ⟨26, _⟩ => ⟨S1x8x512, .f32⟩
  | .hbm, ⟨27, _⟩ => ⟨S8x512, .f32⟩
  | .hbm, ⟨28, _⟩ => ⟨S512, .f32⟩
  | .hbm, ⟨29, _⟩ => ⟨S1x512, .f32⟩
  | .hbm, ⟨30, _⟩ => ⟨S1x8x512, .f32⟩
  | .hbm, ⟨31, _⟩ => ⟨S8x512, .f32⟩
  | .hbm, ⟨32, _⟩ => ⟨S1024x1024, .f32⟩
  | .hbm, ⟨33, _⟩ => ⟨S1024x1024, .bf16⟩
  | .hbm, ⟨34, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S24x512, .f32⟩
  | .local _ .vmem, ⟨5, _⟩ => ⟨S248x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x1024, .bf16⟩
  | .local _ .vmem, ⟨13, _⟩ => ⟨S5x512x512, .f32⟩
  | .local _ .vmem, ⟨14, _⟩ => ⟨S4x520x128, .f32⟩
  | .local _ .vmem, ⟨15, _⟩ => ⟨S4x544x128, .f32⟩
  | .local _ .vmem, ⟨16, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S24x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S248x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== EvenReferenceIdeal.lean ====
abbrev S8x4096x1024 : Shape := ⟨3, ![8, 4096, 1024]⟩
abbrev S2x1024 : Shape := ⟨2, ![2, 1024]⟩
abbrev S1x1024x2560 : Shape := ⟨3, ![1, 1024, 2560]⟩
abbrev S1x3x512 : Shape := ⟨3, ![1, 3, 512]⟩
abbrev S1x31x512 : Shape := ⟨3, ![1, 31, 512]⟩
abbrev S1x512 : Shape := ⟨2, ![1, 512]⟩
abbrev S1x1024x1024 : Shape := ⟨3, ![1, 1024, 1024]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S1024x2560 : Shape := ⟨2, ![1024, 2560]⟩
abbrev S8x4096x2560 : Shape := ⟨3, ![8, 4096, 2560]⟩
abbrev S8x4096x512 : Shape := ⟨3, ![8, 4096, 512]⟩
abbrev S8x4098x512 : Shape := ⟨3, ![8, 4098, 512]⟩
abbrev S1x1x512 : Shape := ⟨3, ![1, 1, 512]⟩
abbrev S512 : Shape := ⟨1, ![512]⟩
abbrev S8x4126x512 : Shape := ⟨3, ![8, 4126, 512]⟩
abbrev S1024x1024 : Shape := ⟨2, ![1024, 1024]⟩

abbrev nBuf : Space → Nat
  | .hbm => 341
  | .vmem => 0
  | .smem => 0
  | _ => 0

abbrev hbmTy0_0 (i : Nat) : BufTy := match i % 128 with
  | 0 => ⟨S8x4096x1024, .f32⟩
  | 1 => ⟨S2x1024, .f32⟩
  | 2 => ⟨S1x1024x2560, .f32⟩
  | 3 => ⟨S1x3x512, .f32⟩
  | 4 => ⟨S1x31x512, .f32⟩
  | 5 => ⟨S1x512, .f32⟩
  | 6 => ⟨S1x512, .f32⟩
  | 7 => ⟨S1x512, .f32⟩
  | 8 => ⟨S1x1024x1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1024, .f32⟩
  | 23 => ⟨S1024, .f32⟩
  | 24 => ⟨S1x1x1024, .f32⟩
  | 25 => ⟨S8x4096x1024, .f32⟩
  | 26 => ⟨S8x4096x1024, .f32⟩
  | 27 => ⟨S1024x2560, .f32⟩
  | 28 => ⟨S8x4096x2560, .f32⟩
  | 29 => ⟨S8x4096x512, .f32⟩
  | 30 => ⟨S8x4096x512, .f32⟩
  | 31 => ⟨S8x4096x512, .f32⟩
  | 32 => ⟨S8x4096x512, .f32⟩
  | 33 => ⟨S8x4096x512, .f32⟩
  | 34 => ⟨S8x4096x512, .f32⟩
  | 35 => ⟨S_, .i32⟩
  | 36 => ⟨S_, .f32⟩
  | 37 => ⟨S8x4098x512, .f32⟩
  | 38 => ⟨S1x1x512, .f32⟩
  | 39 => ⟨S512, .f32⟩
  | 40 => ⟨S8x4096x512, .f32⟩
  | 41 => ⟨S1x1x512, .f32⟩
  | 42 => ⟨S8x4096x512, .f32⟩
  | 43 => ⟨S8x4096x512, .f32⟩
  | 44 => ⟨S_, .f32⟩
  | 45 => ⟨S8x4096x512, .f32⟩
  | 46 => ⟨S8x4096x512, .f32⟩
  | 47 => ⟨S1x1x512, .f32⟩
  | 48 => ⟨S512, .f32⟩
  | 49 => ⟨S8x4096x512, .f32⟩
  | 50 => ⟨S1x1x512, .f32⟩
  | 51 => ⟨S8x4096x512, .f32⟩
  | 52 => ⟨S8x4096x512, .f32⟩
  | 53 => ⟨S8x4096x512, .f32⟩
  | 54 => ⟨S1x1x512, .f32⟩
  | 55 => ⟨S512, .f32⟩
  | 56 => ⟨S8x4096x512, .f32⟩
  | 57 => ⟨S1x1x512, .f32⟩
  | 58 => ⟨S8x4096x512, .f32⟩
  | 59 => ⟨S8x4096x512, .f32⟩
  | 60 => ⟨S8x4096x512, .f32⟩
  | 61 => ⟨S8x4096x512, .f32⟩
  | 62 => ⟨S8x4096x512, .f32⟩
  | 63 => ⟨S8x4096x512, .f32⟩
  | 64 => ⟨S_, .f32⟩
  | 65 => ⟨S8x4096x512, .f32⟩
  | 66 => ⟨S8x4096x512, .f32⟩
  | 67 => ⟨S_, .f32⟩
  | 68 => ⟨S8x4096x512, .f32⟩
  | 69 => ⟨S8x4096x512, .f32⟩
  | 70 => ⟨S8x4096x512, .f32⟩
  | 71 => ⟨S_, .i32⟩
  | 72 => ⟨S_, .f32⟩
  | 73 => ⟨S8x4126x512, .f32⟩
  | 74 => ⟨S1x1x512, .f32⟩
  | 75 => ⟨S512, .f32⟩
  | 76 => ⟨S8x4096x512, .f32⟩
  | 77 => ⟨S1x1x512, .f32⟩
  | 78 => ⟨S8x4096x512, .f32⟩
  | 79 => ⟨S8x4096x512, .f32⟩
  | 80 => ⟨S_, .f32⟩
  | 81 => ⟨S8x4096x512, .f32⟩
  | 82 => ⟨S8x4096x512, .f32⟩
  | 83 => ⟨S1x1x512, .f32⟩
  | 84 => ⟨S512, .f32⟩
  | 85 => ⟨S8x4096x512, .f32⟩
  | 86 => ⟨S1x1x512, .f32⟩
  | 87 => ⟨S8x4096x512, .f32⟩
  | 88 => ⟨S8x4096x512, .f32⟩
  | 89 => ⟨S8x4096x512, .f32⟩
  | 90 => ⟨S1x1x512, .f32⟩
  | 91 => ⟨S512, .f32⟩
  | 92 => ⟨S8x4096x512, .f32⟩
  | 93 => ⟨S1x1x512, .f32⟩
  | 94 => ⟨S8x4096x512, .f32⟩
  | 95 => ⟨S8x4096x512, .f32⟩
  | 96 => ⟨S8x4096x512, .f32⟩
  | 97 => ⟨S1x1x512, .f32⟩
  | 98 => ⟨S512, .f32⟩
  | 99 => ⟨S8x4096x512, .f32⟩
  | 100 => ⟨S1x1x512, .f32⟩
  | 101 => ⟨S8x4096x512, .f32⟩
  | 102 => ⟨S8x4096x512, .f32⟩
  | 103 => ⟨S8x4096x512, .f32⟩
  | 104 => ⟨S1x1x512, .f32⟩
  | 105 => ⟨S512, .f32⟩
  | 106 => ⟨S8x4096x512, .f32⟩
  | 107 => ⟨S1x1x512, .f32⟩
  | 108 => ⟨S8x4096x512, .f32⟩
  | 109 => ⟨S8x4096x512, .f32⟩
  | 110 => ⟨S8x4096x512, .f32⟩
  | 111 => ⟨S1x1x512, .f32⟩
  | 112 => ⟨S512, .f32⟩
  | 113 => ⟨S8x4096x512, .f32⟩
  | 114 => ⟨S1x1x512, .f32⟩
  | 115 => ⟨S8x4096x512, .f32⟩
  | 116 => ⟨S8x4096x512, .f32⟩
  | 117 => ⟨S8x4096x512, .f32⟩
  | 118 => ⟨S1x1x512, .f32⟩
  | 119 => ⟨S512, .f32⟩
  | 120 => ⟨S8x4096x512, .f32⟩
  | 121 => ⟨S1x1x512, .f32⟩
  | 122 => ⟨S8x4096x512, .f32⟩
  | 123 => ⟨S8x4096x512, .f32⟩
  | 124 => ⟨S8x4096x512, .f32⟩
  | 125 => ⟨S1x1x512, .f32⟩
  | 126 => ⟨S512, .f32⟩
  | 127 => ⟨S8x4096x512, .f32⟩
  | _ => ⟨S8x4096x1024, .f32⟩

abbrev hbmTy0_1 (i : Nat) : BufTy := match i % 128 with
  | 0 => ⟨S1x1x512, .f32⟩
  | 1 => ⟨S8x4096x512, .f32⟩
  | 2 => ⟨S8x4096x512, .f32⟩
  | 3 => ⟨S8x4096x512, .f32⟩
  | 4 => ⟨S1x1x512, .f32⟩
  | 5 => ⟨S512, .f32⟩
  | 6 => ⟨S8x4096x512, .f32⟩
  | 7 => ⟨S1x1x512, .f32⟩
  | 8 => ⟨S8x4096x512, .f32⟩
  | 9 => ⟨S8x4096x512, .f32⟩
  | 10 => ⟨S8x4096x512, .f32⟩
  | 11 => ⟨S1x1x512, .f32⟩
  | 12 => ⟨S512, .f32⟩
  | 13 => ⟨S8x4096x512, .f32⟩
  | 14 => ⟨S1x1x512, .f32⟩
  | 15 => ⟨S8x4096x512, .f32⟩
  | 16 => ⟨S8x4096x512, .f32⟩
  | 17 => ⟨S8x4096x512, .f32⟩
  | 18 => ⟨S1x1x512, .f32⟩
  | 19 => ⟨S512, .f32⟩
  | 20 => ⟨S8x4096x512, .f32⟩
  | 21 => ⟨S1x1x512, .f32⟩
  | 22 => ⟨S8x4096x512, .f32⟩
  | 23 => ⟨S8x4096x512, .f32⟩
  | 24 => ⟨S8x4096x512, .f32⟩
  | 25 => ⟨S1x1x512, .f32⟩
  | 26 => ⟨S512, .f32⟩
  | 27 => ⟨S8x4096x512, .f32⟩
  | 28 => ⟨S1x1x512, .f32⟩
  | 29 => ⟨S8x4096x512, .f32⟩
  | 30 => ⟨S8x4096x512, .f32⟩
  | 31 => ⟨S8x4096x512, .f32⟩
  | 32 => ⟨S1x1x512, .f32⟩
  | 33 => ⟨S512, .f32⟩
  | 34 => ⟨S8x4096x512, .f32⟩
  | 35 => ⟨S1x1x512, .f32⟩
  | 36 => ⟨S8x4096x512, .f32⟩
  | 37 => ⟨S8x4096x512, .f32⟩
  | 38 => ⟨S8x4096x512, .f32⟩
  | 39 => ⟨S1x1x512, .f32⟩
  | 40 => ⟨S512, .f32⟩
  | 41 => ⟨S8x4096x512, .f32⟩
  | 42 => ⟨S1x1x512, .f32⟩
  | 43 => ⟨S8x4096x512, .f32⟩
  | 44 => ⟨S8x4096x512, .f32⟩
  | 45 => ⟨S8x4096x512, .f32⟩
  | 46 => ⟨S1x1x512, .f32⟩
  | 47 => ⟨S512, .f32⟩
  | 48 => ⟨S8x4096x512, .f32⟩
  | 49 => ⟨S1x1x512, .f32⟩
  | 50 => ⟨S8x4096x512, .f32⟩
  | 51 => ⟨S8x4096x512, .f32⟩
  | 52 => ⟨S8x4096x512, .f32⟩
  | 53 => ⟨S1x1x512, .f32⟩
  | 54 => ⟨S512, .f32⟩
  | 55 => ⟨S8x4096x512, .f32⟩
  | 56 => ⟨S1x1x512, .f32⟩
  | 57 => ⟨S8x4096x512, .f32⟩
  | 58 => ⟨S8x4096x512, .f32⟩
  | 59 => ⟨S8x4096x512, .f32⟩
  | 60 => ⟨S1x1x512, .f32⟩
  | 61 => ⟨S512, .f32⟩
  | 62 => ⟨S8x4096x512, .f32⟩
  | 63 => ⟨S1x1x512, .f32⟩
  | 64 => ⟨S8x4096x512, .f32⟩
  | 65 => ⟨S8x4096x512, .f32⟩
  | 66 => ⟨S8x4096x512, .f32⟩
  | 67 => ⟨S1x1x512, .f32⟩
  | 68 => ⟨S512, .f32⟩
  | 69 => ⟨S8x4096x512, .f32⟩
  | 70 => ⟨S1x1x512, .f32⟩
  | 71 => ⟨S8x4096x512, .f32⟩
  | 72 => ⟨S8x4096x512, .f32⟩
  | 73 => ⟨S8x4096x512, .f32⟩
  | 74 => ⟨S1x1x512, .f32⟩
  | 75 => ⟨S512, .f32⟩
  | 76 => ⟨S8x4096x512, .f32⟩
  | 77 => ⟨S1x1x512, .f32⟩
  | 78 => ⟨S8x4096x512, .f32⟩
  | 79 => ⟨S8x4096x512, .f32⟩
  | 80 => ⟨S8x4096x512, .f32⟩
  | 81 => ⟨S1x1x512, .f32⟩
  | 82 => ⟨S512, .f32⟩
  | 83 => ⟨S8x4096x512, .f32⟩
  | 84 => ⟨S1x1x512, .f32⟩
  | 85 => ⟨S8x4096x512, .f32⟩
  | 86 => ⟨S8x4096x512, .f32⟩
  | 87 => ⟨S8x4096x512, .f32⟩
  | 88 => ⟨S1x1x512, .f32⟩
  | 89 => ⟨S512, .f32⟩
  | 90 => ⟨S8x4096x512, .f32⟩
  | 91 => ⟨S1x1x512, .f32⟩
  | 92 => ⟨S8x4096x512, .f32⟩
  | 93 => ⟨S8x4096x512, .f32⟩
  | 94 => ⟨S8x4096x512, .f32⟩
  | 95 => ⟨S1x1x512, .f32⟩
  | 96 => ⟨S512, .f32⟩
  | 97 => ⟨S8x4096x512, .f32⟩
  | 98 => ⟨S1x1x512, .f32⟩
  | 99 => ⟨S8x4096x512, .f32⟩
  | 100 => ⟨S8x4096x512, .f32⟩
  | 101 => ⟨S8x4096x512, .f32⟩
  | 102 => ⟨S1x1x512, .f32⟩
  | 103 => ⟨S512, .f32⟩
  | 104 => ⟨S8x4096x512, .f32⟩
  | 105 => ⟨S1x1x512, .f32⟩
  | 106 => ⟨S8x4096x512, .f32⟩
  | 107 => ⟨S8x4096x512, .f32⟩
  | 108 => ⟨S8x4096x512, .f32⟩
  | 109 => ⟨S1x1x512, .f32⟩
  | 110 => ⟨S512, .f32⟩
  | 111 => ⟨S8x4096x512, .f32⟩
  | 112 => ⟨S1x1x512, .f32⟩
  | 113 => ⟨S8x4096x512, .f32⟩
  | 114 => ⟨S8x4096x512, .f32⟩
  | 115 => ⟨S8x4096x512, .f32⟩
  | 116 => ⟨S1x1x512, .f32⟩
  | 117 => ⟨S512, .f32⟩
  | 118 => ⟨S8x4096x512, .f32⟩
  | 119 => ⟨S1x1x512, .f32⟩
  | 120 => ⟨S8x4096x512, .f32⟩
  | 121 => ⟨S8x4096x512, .f32⟩
  | 122 => ⟨S8x4096x512, .f32⟩
  | 123 => ⟨S1x1x512, .f32⟩
  | 124 => ⟨S512, .f32⟩
  | 125 => ⟨S8x4096x512, .f32⟩
  | 126 => ⟨S1x1x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S8x4096x512, .f32⟩
  | 2 => ⟨S1x1x512, .f32⟩
  | 3 => ⟨S512, .f32⟩
  | 4 => ⟨S8x4096x512, .f32⟩
  | 5 => ⟨S1x1x512, .f32⟩
  | 6 => ⟨S8x4096x512, .f32⟩
  | 7 => ⟨S8x4096x512, .f32⟩
  | 8 => ⟨S8x4096x512, .f32⟩
  | 9 => ⟨S1x1x512, .f32⟩
  | 10 => ⟨S512, .f32⟩
  | 11 => ⟨S8x4096x512, .f32⟩
  | 12 => ⟨S1x1x512, .f32⟩
  | 13 => ⟨S8x4096x512, .f32⟩
  | 14 => ⟨S8x4096x512, .f32⟩
  | 15 => ⟨S8x4096x512, .f32⟩
  | 16 => ⟨S1x1x512, .f32⟩
  | 17 => ⟨S512, .f32⟩
  | 18 => ⟨S8x4096x512, .f32⟩
  | 19 => ⟨S1x1x512, .f32⟩
  | 20 => ⟨S8x4096x512, .f32⟩
  | 21 => ⟨S8x4096x512, .f32⟩
  | 22 => ⟨S8x4096x512, .f32⟩
  | 23 => ⟨S1x1x512, .f32⟩
  | 24 => ⟨S512, .f32⟩
  | 25 => ⟨S8x4096x512, .f32⟩
  | 26 => ⟨S1x1x512, .f32⟩
  | 27 => ⟨S8x4096x512, .f32⟩
  | 28 => ⟨S8x4096x512, .f32⟩
  | 29 => ⟨S8x4096x512, .f32⟩
  | 30 => ⟨S1x1x512, .f32⟩
  | 31 => ⟨S512, .f32⟩
  | 32 => ⟨S8x4096x512, .f32⟩
  | 33 => ⟨S1x1x512, .f32⟩
  | 34 => ⟨S8x4096x512, .f32⟩
  | 35 => ⟨S8x4096x512, .f32⟩
  | 36 => ⟨S8x4096x512, .f32⟩
  | 37 => ⟨S512, .f32⟩
  | 38 => ⟨S1x1x512, .f32⟩
  | 39 => ⟨S8x4096x512, .f32⟩
  | 40 => ⟨S8x4096x512, .f32⟩
  | 41 => ⟨S_, .f32⟩
  | 42 => ⟨S8x4096, .f32⟩
  | 43 => ⟨S8x4096x1, .f32⟩
  | 44 => ⟨S_, .f32⟩
  | 45 => ⟨S8x4096x1, .f32⟩
  | 46 => ⟨S8x4096x1, .f32⟩
  | 47 => ⟨S8x4096x512, .f32⟩
  | 48 => ⟨S8x4096x512, .f32⟩
  | 49 => ⟨S8x4096x512, .f32⟩
  | 50 => ⟨S_, .f32⟩
  | 51 => ⟨S8x4096, .f32⟩
  | 52 => ⟨S8x4096x1, .f32⟩
  | 53 => ⟨S_, .f32⟩
  | 54 => ⟨S8x4096x1, .f32⟩
  | 55 => ⟨S8x4096x1, .f32⟩
  | 56 => ⟨S8x4096x512, .f32⟩
  | 57 => ⟨S8x4096x512, .f32⟩
  | 58 => ⟨S_, .f32⟩
  | 59 => ⟨S8x4096x1, .f32⟩
  | 60 => ⟨S8x4096x1, .f32⟩
  | 61 => ⟨S8x4096x1, .f32⟩
  | 62 => ⟨S8x4096x512, .f32⟩
  | 63 => ⟨S8x4096x512, .f32⟩
  | 64 => ⟨S512, .f32⟩
  | 65 => ⟨S1x1x512, .f32⟩
  | 66 => ⟨S8x4096x512, .f32⟩
  | 67 => ⟨S8x4096x512, .f32⟩
  | 68 => ⟨S512, .f32⟩
  | 69 => ⟨S1x1x512, .f32⟩
  | 70 => ⟨S8x4096x512, .f32⟩
  | 71 => ⟨S8x4096x512, .f32⟩
  | 72 => ⟨S8x4096x512, .f32⟩
  | 73 => ⟨S8x4096x512, .f32⟩
  | 74 => ⟨S_, .f32⟩
  | 75 => ⟨S8x4096x512, .f32⟩
  | 76 => ⟨S8x4096x512, .f32⟩
  | 77 => ⟨S_, .f32⟩
  | 78 => ⟨S8x4096x512, .f32⟩
  | 79 => ⟨S8x4096x512, .f32⟩
  | 80 => ⟨S8x4096x512, .f32⟩
  | 81 => ⟨S8x4096x1024, .f32⟩
  | 82 => ⟨S1024x1024, .f32⟩
  | 83 => ⟨S8x4096x1024, .f32⟩
  | 84 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_5 : Ref sig .tc := ⟨.hbm, 71, rfl⟩
abbrev main_call1_v0 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_cst_7 : Ref sig .tc := ⟨.hbm, 297, rfl⟩
abbrev main_v277 : Ref sig .tc := ⟨.hbm, 298, rfl⟩
abbrev main_v278 : Ref sig .tc := ⟨.hbm, 299, rfl⟩
abbrev main_cst_8 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_cst_9 : Ref sig .tc := ⟨.hbm, 306, rfl⟩
abbrev main_v284 : Ref sig .tc := ⟨.hbm, 307, rfl⟩
abbrev main_v285 : Ref sig .tc := ⟨.hbm, 308, rfl⟩
abbrev main_cst_10 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_cst_11 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_call2_v0 : Ref sig .tc := ⟨.hbm, 328, rfl⟩
abbrev main_call2_v1 : Ref sig .tc := ⟨.hbm, 329, rfl⟩
abbrev main_call2_cst : Ref sig .tc := ⟨.hbm, 330, rfl⟩
abbrev main_call2_v2 : Ref sig .tc := ⟨.hbm, 331, rfl⟩
abbrev main_call2_v3 : Ref sig .tc := ⟨.hbm, 332, rfl⟩
abbrev main_call2_cst_0 : Ref sig .tc := ⟨.hbm, 333, rfl⟩
abbrev main_call2_v4 : Ref sig .tc := ⟨.hbm, 334, rfl⟩
abbrev main_call2_v5 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩

abbrev nD : Nat := 1
abbrev τ : Topo := Topo.v7x

variable {F : FTy → Type} [FloatOps F]
-- ==== Proof.AttnTrip.lean ====
module

public import proofs.«01_k».proof.Proof.Gen.AttnKernelIdeal.Frame
public import proofs.«01_k».proof.Proof.Gen.AttnKernelIdeal.Loops

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where a trip reads and writes -/

theorem off1_eq : ∀ k, k0_off1 k = ![0, 0, 0, 0, 128 * k.val, 0] := by decide +kernel
theorem off2_eq : ∀ k, k0_off2 k = ![0, 0, 1, 0, 128 * k.val, 0] := by decide +kernel
theorem off3_eq : ∀ k, k0_off3 k = ![0, 1, 0, 0, 128 * (k.val - 1), 0] := by decide +kernel
theorem off4_eq : ∀ k, k0_off4 k = ![0, 1, 1, 0, 128 * (k.val - 1), 0] := by decide +kernel
theorem off5_eq : ∀ k, k0_off5 k = ![min k.val 1, 0, 0] := by decide +kernel
theorem off6_eq : ∀ k, k0_off6 k = ![0, 2, 0, 0, 128 * (k.val - 1), 0] := by decide +kernel
theorem off7_eq : ∀ k, k0_off7 k = ![0, 2, 1, 0, 128 * (k.val - 1), 0] := by decide +kernel
theorem off8_eq : ∀ k, k0_off8 k = ![0, 0, 0, 128 * k.val, 0] := by decide +kernel
theorem off9_eq : ∀ k, k0_off9 k = ![0, 1, 0, 128 * k.val, 0] := by decide +kernel

instance (k : Fin k0_t1_loop.trips) : ClosedOff (k0_off1 k) := ⟨_, off1_eq k⟩
instance (k : Fin k0_t1_loop.trips) : ClosedOff (k0_off2 k) := ⟨_, off2_eq k⟩
instance (k : Fin k0_t1_loop.trips) : ClosedOff (k0_off3 k) := ⟨_, off3_eq k⟩
instance (k : Fin k0_t1_loop.trips) : ClosedOff (k0_off4 k) := ⟨_, off4_eq k⟩
instance (k : Fin k0_t1_loop.trips) : ClosedOff (k0_off5 k) := ⟨_, off5_eq k⟩
instance (k : Fin k0_t1_loop.trips) : ClosedOff (k0_off6 k) := ⟨_, off6_eq k⟩
instance (k : Fin k0_t1_loop.trips) : ClosedOff (k0_off7 k) := ⟨_, off7_eq k⟩
instance (k : Fin k0_t1_loop.trips) : ClosedOff (k0_off8 k) := ⟨_, off8_eq k⟩
instance (k : Fin k0_t1_loop.trips) : ClosedOff (k0_off9 k) := ⟨_, off9_eq k⟩

/-! ## What a trip computes, as functions of the staged block `x0` and the mask table `bs` -/

section Values
variable (x0 : Vec F S1x3x2x1x4096x128 .bf16) (bs : Vec F S2x512x256 .f32) (k : Fin k0_t1_loop.trips)

/-- The four heads' query rows of block `k`, key and value rows of its two blocks, each in two halves of lanes. -/
def q0 : Vec F S1x1x1x1x128x128 .bf16 := View.ld x0 (Rect.unit (s := S1x3x2x1x4096x128) (k0_off1 k) S1x1x1x1x128x128.size (k0_off1_inb k))
def q1 : Vec F S1x1x1x1x128x128 .bf16 := View.ld x0 (Rect.unit (s := S1x3x2x1x4096x128) (k0_off2 k) S1x1x1x1x128x128.size (k0_off2_inb k))
def k0 : Vec F S1x1x1x1x256x128 .bf16 := View.ld x0 (Rect.unit (s := S1x3x2x1x4096x128) (k0_off3 k) S1x1x1x1x256x128.size (k0_off3_inb k))
def k1 : Vec F S1x1x1x1x256x128 .bf16 := View.ld x0 (Rect.unit (s := S1x3x2x1x4096x128) (k0_off4 k) S1x1x1x1x256x128.size (k0_off4_inb k))
def v0 : Vec F S1x1x1x1x256x128 .bf16 := View.ld x0 (Rect.unit (s := S1x3x2x1x4096x128) (k0_off6 k) S1x1x1x1x256x128.size (k0_off6_inb k))
def v1 : Vec F S1x1x1x1x256x128 .bf16 := View.ld x0 (Rect.unit (s := S1x3x2x1x4096x128) (k0_off7 k) S1x1x1x1x256x128.size (k0_off7_inb k))
/-- The mask of block `k`: the first table for the first block, the second for the others. -/
def bias : Vec F S1x512x256 .f32 := View.ld bs (Rect.unit (s := S2x512x256) (k0_off5 k) S1x512x256.size (k0_off5_inb k))

/-- The row maxima, the row sums, the unnormalised weights. -/
def rowMax : FVec F S512x1 .f32 := k0_pay3 k0_pay24 k0_pay25 k0_pay26 k0_pay27 (k0_pay1 (q0 x0 k)) (q1 x0 k) (k0 x0 k) (k1 x0 k) (bias bs k)
def rowSum : FVec F S512x1 .f32 := k0_pay5 k0_pay24 k0_pay25 k0_pay26 k0_pay27 (k0_pay1 (q0 x0 k)) (q1 x0 k) (k0 x0 k) (k1 x0 k) (bias bs k)
def weights : FVec F S512x256 .bf16 := k0_pay6 k0_pay24 k0_pay25 k0_pay26 k0_pay27 (k0_pay1 (q0 x0 k)) (q1 x0 k) (k0 x0 k) (k1 x0 k) (bias bs k)
def acc : FVec F S128x256 .f32 := k0_pay7 k0_pay24 k0_pay25 k0_pay26 (weights x0 bs k) (v0 x0 k) (v1 x0 k)
def maxTok : FVec F S128x256 .f32 := k0_pay8 k0_pay24 k0_pay25 k0_pay26 (rowMax x0 bs k)

/-- The two halves of lanes that the trip stores: the output's and the logarithmic sums'. -/
def oLo : FVec F S1x1x1x128x128 .f32 := k0_pay15 k0_pay24 k0_pay25 (rowSum x0 bs k) (acc x0 bs k) (k0_pay9 k0_pay26) (k0_pay10 (rowSum x0 bs k)) (k0_pay11 (rowSum x0 bs k))
def oHi : FVec F S1x1x1x128x128 .f32 := k0_pay17 k0_pay24 k0_pay25 (rowSum x0 bs k) (acc x0 bs k) (k0_pay9 k0_pay26) (k0_pay10 (rowSum x0 bs k)) (k0_pay11 (rowSum x0 bs k))
def lLo : FVec F S1x1x1x128x128 .f32 := k0_pay16 k0_pay24 k0_pay25 (rowSum x0 bs k) (maxTok x0 bs k) (k0_pay9 k0_pay26) (k0_pay10 (rowSum x0 bs k)) (k0_pay11 (rowSum x0 bs k))
def lHi : FVec F S1x1x1x128x128 .f32 := k0_pay18 k0_pay24 k0_pay25 (rowSum x0 bs k) (maxTok x0 bs k) (k0_pay9 k0_pay26) (k0_pay10 (rowSum x0 bs k)) (k0_pay11 (rowSum x0 bs k))

/-- The pieces a trip stores, the last first. -/
def oPieces : List (View.Piece (Elt F) S1x2x1x4096x128 .f32) :=
  [⟨Rect.unit (s := S1x2x1x4096x128) (k0_off9 k) S1x1x1x128x128.size (k0_off9_inb k), oHi x0 bs k⟩,
   ⟨Rect.unit (s := S1x2x1x4096x128) (k0_off8 k) S1x1x1x128x128.size (k0_off8_inb k), oLo x0 bs k⟩]
def lPieces : List (View.Piece (Elt F) S1x2x1x4096x128 .f32) :=
  [⟨Rect.unit (s := S1x2x1x4096x128) (k0_off9 k) S1x1x1x128x128.size (k0_off9_inb k), lHi x0 bs k⟩,
   ⟨Rect.unit (s := S1x2x1x4096x128) (k0_off8 k) S1x1x1x128x128.size (k0_off8_inb k), lLo x0 bs k⟩]

end Values

/-- The pieces of the trips before `n`, the last trip's first. -/
def before {P : Type} {N : ℕ} (L : Fin N → List P) : ℕ → List P
  | 0 => []
  | n + 1 => if h : n < N then L ⟨n, h⟩ ++ before L n else before L n

theorem before_succ {P : Type} {N : ℕ} (L : Fin N → List P) (k : Fin N) : before L (k.val + 1) = L k ++ before L k.val := by
  rw [before.eq_2]; exact dif_pos k.isLt

theorem mem_before {P : Type} {N : ℕ} (L : Fin N → List P) (n : ℕ) (p : P) : p ∈ before L n ↔ ∃ k : Fin N, k.val < n ∧ p ∈ L k := by
  induction n with
  | zero => simp [before]
  | succ n ih =>
    rw [before.eq_2]
    by_cases h : n < N
    · rw [dif_pos h, List.mem_append, ih]
      constructor
      · rintro (hp | ⟨k, hk, hp⟩)
        · exact ⟨⟨n, h⟩, Nat.lt_succ_self n, hp⟩
        · exact ⟨k, Nat.lt_succ_of_lt hk, hp⟩
      · rintro ⟨k, hk, hp⟩
        by_cases e : k.val = n
        · left
          have : k = ⟨n, h⟩ := Fin.ext e
          rwa [← this]
        · exact .inr ⟨k, by omega, hp⟩
    · rw [dif_neg h, ih]
      constructor
      · rintro ⟨k, hk, hp⟩; exact ⟨k, Nat.lt_succ_of_lt hk, hp⟩
      · rintro ⟨k, hk, hp⟩; exact ⟨k, by have := k.isLt; omega, hp⟩

/-! ## One trip, and the loop -/

abbrev TripRes (c : Dev nD) (arg1 : Memref sig .tc .vmem S1x3x2x1x4096x128 .bf16) (arg4 : Memref sig .tc .vmem S2x512x256 .f32) (arg2 arg3 : Memref sig .tc .vmem S1x2x1x4096x128 .f32)
    (X1 : BufTy.Contents (Elt F) arg1.view.ty) (X4 : BufTy.Contents (Elt F) arg4.view.ty) (f2 : BufTy.Contents (Elt F) arg2.view.ty) (f3 : BufTy.Contents (Elt F) arg3.view.ty) : sProp 𝕄 :=
  iprop((arg1.view.loc (c : Thread nD τ) ↦[arg1.view.set]{fullShare} X1) ∗ (arg4.view.loc (c : Thread nD τ) ↦[arg4.view.set]{fullShare} X4) ∗ (arg2.view.loc (c : Thread nD τ) ↦[arg2.view.set]{fullShare} f2) ∗ (arg3.view.loc (c : Thread nD τ) ↦[arg3.view.set]{fullShare} f3))

/-- One trip stores its pieces. -/
theorem trip (c : Dev nD) (i : grid0.Coords) (arg1 : Memref sig .tc .vmem S1x3x2x1x4096x128 .bf16) (harg1 : arg1.IsWhole) (arg2 : Memref sig .tc .vmem S1x2x1x4096x128 .f32) (harg2 : arg2.IsWhole) (arg3 : Memref sig .tc .vmem S1x2x1x4096x128 .f32) (harg3 : arg3.IsWhole) (arg4 : Memref sig .tc .vmem S2x512x256 .f32) (harg4 : arg4.IsWhole) (v39 : IVec S512x256 1) (cst_12 : F .f32)
    (X1 : BufTy.Contents (Elt F) arg1.view.ty) (X4 : BufTy.Contents (Elt F) arg4.view.ty) (k : Fin k0_t1_loop.trips)
    (E : Set ℕ) (f2 : BufTy.Contents (Elt F) arg2.view.ty) (f3 : BufTy.Contents (Elt F) arg3.view.ty) :
    TripRes (F := F) c arg1 arg4 arg2 arg3 X1 X4 f2 f3
      ⊢ wp frame (wpE (defs₀ (F := F)) Variants.none (c : Thread nD τ) none) E (k0_t1_body (F := F) i arg1 harg1 arg2 harg2 arg3 harg3 arg4 harg4 v39 cst_12 k PUnit.unit)
          (fun _ => TripRes (F := F) c arg1 arg4 arg2 arg3 X1 X4
            (arg2.view.writes (Elt F) f2 (oPieces (arg1.view.read (Elt F) X1) (arg4.view.read (Elt F) X4) k))
            (arg3.view.writes (Elt F) f3 (lPieces (arg1.view.read (Elt F) X1) (arg4.view.read (Elt F) X4) k))) := by
  have hk : k.val < 32 := Nat.lt_of_lt_of_le k.isLt k0_t1_abs.2.1
  unfold k0_t1_body
  iintro ⟨H1, H4, H2, H3⟩
  sl_exec
  sl_step
  isplitl [H1]; · iexact H1
  isplitl [H4]; · iexact H4
  isplitl [H2]; · iexact H2
  iexact H3

abbrev inv (c : Dev nD) (arg1 : Memref sig .tc .vmem S1x3x2x1x4096x128 .bf16) (arg2 arg3 : Memref sig .tc .vmem S1x2x1x4096x128 .f32) (arg4 : Memref sig .tc .vmem S2x512x256 .f32)
    (X1 : BufTy.Contents (Elt F) arg1.view.ty) (X4 : BufTy.Contents (Elt F) arg4.view.ty) (G2 : BufTy.Contents (Elt F) arg2.view.ty) (G3 : BufTy.Contents (Elt F) arg3.view.ty) (k : ℕ) (_u : PUnit) : sProp 𝕄 :=
  iprop((arg1.view.loc (c : Thread nD τ) ↦[arg1.view.set]{fullShare} X1) ∗ (arg4.view.loc (c : Thread nD τ) ↦[arg4.view.set]{fullShare} X4)
    ∗ (∃ f, (arg2.view.loc (c : Thread nD τ) ↦[arg2.view.set]{fullShare} f) ∗ ⌜f = arg2.view.writes (Elt F) G2 (before (oPieces (arg1.view.read (Elt F) X1) (arg4.view.read (Elt F) X4)) k)⌝)
    ∗ (∃ f, (arg3.view.loc (c : Thread nD τ) ↦[arg3.view.set]{fullShare} f) ∗ ⌜f = arg3.view.writes (Elt F) G3 (before (lPieces (arg1.view.read (Elt F) X1) (arg4.view.read (Elt F) X4)) k)⌝))

set_option warn.classDefReducibility false in
/-- The loop: after the trips before `k` the two outputs hold the pieces of those trips. -/
@[sl_loop] def loopInv (c : Dev nD) (E : Set ℕ) (i : grid0.Coords) (arg1 : Memref sig .tc .vmem S1x3x2x1x4096x128 .bf16) (harg1 : arg1.IsWhole) (arg2 : Memref sig .tc .vmem S1x2x1x4096x128 .f32) (harg2 : arg2.IsWhole) (arg3 : Memref sig .tc .vmem S1x2x1x4096x128 .f32) (harg3 : arg3.IsWhole) (arg4 : Memref sig .tc .vmem S2x512x256 .f32) (harg4 : arg4.IsWhole) (v39 : IVec S512x256 1) (cst_12 : F .f32)
    (X1 : BufTy.Contents (Elt F) arg1.view.ty) (X4 : BufTy.Contents (Elt F) arg4.view.ty) (G2 : BufTy.Contents (Elt F) arg2.view.ty) (G3 : BufTy.Contents (Elt F) arg3.view.ty) :
    LoopInvTy_k0_t1 (F := F) Unit ℕ (UR sig nD τ) ℕ Variants.none c none E i arg1 harg1 arg2 harg2 arg3 harg3 arg4 harg4 v39 cst_12 where
  inv := inv (F := F) c arg1 arg2 arg3 arg4 X1 X4 G2 G3
  step k acc := by
    iintro ⟨H1, H4, ⟨%f2, H2, %h2⟩, ⟨%f3, H3, %h3⟩⟩
    iapply (wp_wand_r Idealize.ShloMosaic.frame (wpE (defs₀ (F := F)) Variants.none (c : Thread nD τ) none) E)
    isplitl [H1 H4 H2 H3]
    · iapply (trip (F := F) c i arg1 harg1 arg2 harg2 arg3 harg3 arg4 harg4 v39 cst_12 X1 X4 k E f2 f3)
      isplitl [H1]; · iexact H1
      isplitl [H4]; · iexact H4
      isplitl [H2]; · iexact H2
      iexact H3
    · iintro %_ ⟨H1, H4, H2, H3⟩
      isplitl [H1]; · iexact H1
      isplitl [H4]; · iexact H4
      rw [before_succ, before_succ]
      isplitl [H2]
      · iexists _; isplitl [H2]; · iexact H2
        ipureintro; rw [h2, ← View.writes_append]
      iexists _; isplitl [H3]; · iexact H3
      ipureintro; rw [h3, ← View.writes_append]

end Cert.AttnKernelIdeal.Hand

end
-- ==== Proof.AttnBlock.lean ====
/- What one grid point of the attention kernel leaves in its two output blocks, entry by entry: entry `(half, row)` is the value that the
   trip of the row's query block computes there. -/
module

public import proofs.«01_k».proof.Proof.AttnTrip
public import Idealize.ShloMosaic.Lib.Pointwise

@[expose] public section

set_option maxRecDepth 16384

noncomputable section

namespace Cert.AttnKernelIdeal.Hand

open Cert.AttnKernelIdeal Cert.AttnKernelIdeal.Gen
open Idealize.ShloMosaic Idealize.ShloMosaic.TcCoe

variable {F : FTy → Type} [FloatOps F]

theorem trips_eq : k0_t1_loop.trips = 32 := by decide +kernel

/-- The trip of query block `n`. -/
abbrev tripOf (n : Fin 32) : Fin k0_t1_loop.trips := ⟨n.val, by rw [trips_eq]; exact n.isLt⟩

/-- The query block a row lies in, and the row's place in it. -/
abbrev blkOf (r : Fin 4096) : Fin 32 := ⟨r.val / 128, by omega⟩
abbrev rowOf (r : Fin 4096) : Fin 128 := ⟨r.val % 128, by omega⟩

/-- Two tables stacked. -/
def stack (a b : FVec F S1x512x256 .f32) : Vec F S2x512x256 .f32 := fun i =>
  if (i 0 : ℕ) = 0 then a (ix3 (0 : Fin 1) (i 1) (i 2)) else b (ix3 (0 : Fin 1) (i 1) (i 2))

/-- The two mask tables, as the body stores them. -/
def table : Vec F S2x512x256 .f32 := stack k0_pay20 (k0_pay22 k0_pay21 (Scalar.ofBits .f32 0x00000000#32))

/-- A block assembled from the two halves that each trip computes. -/
def assemble (lo hi : Fin k0_t1_loop.trips → FVec F S1x1x1x128x128 .f32) : Vec F S1x2x1x4096x128 .f32 := fun i =>
  if (i 1 : ℕ) = 0 then lo (tripOf (blkOf (i 3))) (ix5 (0 : Fin 1) (0 : Fin 1) (0 : Fin 1) (rowOf (i 3)) (i 4))
  else hi (tripOf (blkOf (i 3))) (ix5 (0 : Fin 1) (0 : Fin 1) (0 : Fin 1) (rowOf (i 3)) (i 4))

/-- The block of outputs and the block of logarithmic sums. -/
def oBlk (x0 : Vec F S1x3x2x1x4096x128 .bf16) : Vec F S1x2x1x4096x128 .f32 := assemble (oLo x0 table) (oHi x0 table)
def lBlk (x0 : Vec F S1x3x2x1x4096x128 .bf16) : Vec F S1x2x1x4096x128 .f32 := assemble (lLo x0 table) (lHi x0 table)

theorem eq_ix5_of_lead (x : (S1x1x1x128x128 : Shape).Idx) : x = ix5 (0 : Fin 1) (0 : Fin 1) (0 : Fin 1) (x 3) (x 4) := by
  refine (eq_ix5 x).trans ?_
  congr 1 <;> exact Subsingleton.elim (α := Fin 1) _ _

theorem assemble_lo (lo hi : Fin k0_t1_loop.trips → FVec F S1x1x1x128x128 .f32) (k : Fin k0_t1_loop.trips) (x : S1x1x1x128x128.Idx) :
    lo k x = assemble lo hi ((Rect.unit (s := S1x2x1x4096x128) (k0_off8 k) S1x1x1x128x128.size (k0_off8_inb k)).emb x) := by
  have hk : k.val < 32 := Nat.lt_of_lt_of_eq k.isLt trips_eq
  have e : ∀ a, ((Rect.unit (s := S1x2x1x4096x128) (k0_off8 k) S1x1x1x128x128.size (k0_off8_inb k)).emb x a : ℕ) = k0_off8 k a + 1 * x a := fun a => rfl
  have h1 : (((Rect.unit (s := S1x2x1x4096x128) (k0_off8 k) S1x1x1x128x128.size (k0_off8_inb k)).emb x) 1 : ℕ) = 0 := by
    rw [e 1, off8_eq]; have : (x 1 : ℕ) < 1 := (x 1).isLt; show 0 + 1 * (x 1 : ℕ) = 0; omega
  have h3 := (e 3).trans (congrArg (fun o : Fin 5 → ℕ => o 3 + 1 * (x 3 : ℕ)) (off8_eq k))
  have h4 := (e 4).trans (congrArg (fun o : Fin 5 → ℕ => o 4 + 1 * (x 4 : ℕ)) (off8_eq k))
  have h3' : (((Rect.unit (s := S1x2x1x4096x128) (k0_off8 k) S1x1x1x128x128.size (k0_off8_inb k)).emb x) 3 : ℕ) = 128 * k.val + (x 3 : ℕ) := by
    rw [h3]; show 128 * k.val + 1 * (x 3 : ℕ) = _; omega
  have hx : (x 3 : ℕ) < 128 := (x 3).isLt
  unfold assemble
  rw [if_pos h1]
  have ek : k = tripOf (blkOf (((Rect.unit (s := S1x2x1x4096x128) (k0_off8 k) S1x1x1x128x128.size (k0_off8_inb k)).emb x) 3)) := by
    apply Fin.ext; show k.val = (((Rect.unit (s := S1x2x1x4096x128) (k0_off8 k) S1x1x1x128x128.size (k0_off8_inb k)).emb x) 3 : ℕ) / 128
    rw [h3']; omega
  rw [← ek]
  congr 1
  refine (eq_ix5_of_lead x).trans ?_
  congr 1
  · apply Fin.ext
    show (x 3 : ℕ) = (((Rect.unit (s := S1x2x1x4096x128) (k0_off8 k) S1x1x1x128x128.size (k0_off8_inb k)).emb x) 3 : ℕ) % 128
    rw [h3']; omega
  · apply Fin.ext; rw [h4]; show (x 4 : ℕ) = 0 + 1 * (x 4 : ℕ); omega

theorem assemble_hi (lo hi : Fin k0_t1_loop.trips → FVec F S1x1x1x128x128 .f32) (k : Fin k0_t1_loop.trips) (x : S1x1x1x128x128.Idx) :
    hi k x = assemble lo hi ((Rect.unit (s := S1x2x1x4096x128) (k0_off9 k) S1x1x1x128x128.size (k0_off9_inb k)).emb x) := by
  have hk : k.val < 32 := Nat.lt_of_lt_of_eq k.isLt trips_eq
  have e : ∀ a, ((Rect.unit (s := S1x2x1x4096x128) (k0_off9 k) S1x1x1x128x128.size (k0_off9_inb k)).emb x a : ℕ) = k0_off9 k a + 1 * x a := fun a => rfl
  have h1 : (((Rect.unit (s := S1x2x1x4096x128) (k0_off9 k) S1x1x1x128x128.size (k0_off9_inb k)).emb x) 1 : ℕ) ≠ 0 := by
    intro h'
    rw [e 1, off9_eq] at h'
    have h'' : 1 + 1 * (x 1 : ℕ) = 0 := h'
    omega
  have h3 := (e 3).trans (congrArg (fun o : Fin 5 → ℕ => o 3 + 1 * (x 3 : ℕ)) (off9_eq k))
  have h4 := (e 4).trans (congrArg (fun o : Fin 5 → ℕ => o 4 + 1 * (x 4 : ℕ)) (off9_eq k))
  have h3' : (((Rect.unit (s := S1x2x1x4096x128) (k0_off9 k) S1x1x1x128x128.size (k0_off9_inb k)).emb x) 3 : ℕ) = 128 * k.val + (x 3 : ℕ) := by
    rw [h3]; show 128 * k.val + 1 * (x 3 : ℕ) = _; omega
  have hx : (x 3 : ℕ) < 128 := (x 3).isLt
  unfold assemble
  rw [if_neg h1]
  have ek : k = tripOf (blkOf (((Rect.unit (s := S1x2x1x4096x128) (k0_off9 k) S1x1x1x128x128.size (k0_off9_inb k)).emb x) 3)) := by
    apply Fin.ext; show k.val = (((Rect.unit (s := S1x2x1x4096x128) (k0_off9 k) S1x1x1x128x128.size (k0_off9_inb k)).emb x) 3 : ℕ) / 128
    rw [h3']; omega
  rw [← ek]
  congr 1
  refine (eq_ix5_of_lead x).trans ?_
  congr 1
  · apply Fin.ext
    show (x 3 : ℕ) = (((Rect.unit (s := S1x2x1x4096x128) (k0_off9 k) S1x1x1x128x128.size (k0_off9_inb k)).emb x) 3 : ℕ) % 128
    rw [h3']; omega
  · apply Fin.ext; rw [h4]; show (x 4 : ℕ) = 0 + 1 * (x 4 : ℕ); omega

/-- The pieces of all trips, read: the assembled block. `pcs` is either list of pieces. -/
theorem read_pieces {sp : Space} (v : View sig .tc sp S1x2x1x4096x128 .f32) (f : v.ty.Contents (Elt F)) (lo hi : Fin k0_t1_loop.trips → FVec F S1x1x1x128x128 .f32)
    (pcs : Fin k0_t1_loop.trips → List (View.Piece (Elt F) S1x2x1x4096x128 .f32))
    (hp : ∀ k, pcs k = [⟨Rect.unit (s := S1x2x1x4096x128) (k0_off9 k) S1x1x1x128x128.size (k0_off9_inb k), hi k⟩,
      ⟨Rect.unit (s := S1x2x1x4096x128) (k0_off8 k) S1x1x1x128x128.size (k0_off8_inb k), lo k⟩]) :
    v.read (Elt F) (v.writes (Elt F) f (before pcs k0_t1_loop.trips)) = assemble lo hi := by
  funext y
  refine View.read_writes_apply_of_pieces (v := v) (f := f) (assemble lo hi) _ ?_ y ?_
  · intro p hp' x
    obtain ⟨k, -, hk⟩ := (mem_before _ _ _).mp hp'
    rw [hp k] at hk
    rcases List.mem_cons.mp hk with rfl | hk
    · exact assemble_hi lo hi k x
    · rw [List.mem_singleton] at hk
      subst hk
      exact assemble_lo lo hi k x
  · have h0 : (y 0 : ℕ) < 1 := (y 0).isLt
    have h1 : (y 1 : ℕ) < 2 := (y 1).isLt
    have h2 : (y 2 : ℕ) < 1 := (y 2).isLt
    have h3 : (y 3 : ℕ) < 4096 := (y 3).isLt
    have h4 : (y 4 : ℕ) < 128 := (y 4).isLt
    by_cases h : (y 1 : ℕ) = 0
    · refine ⟨_, (mem_before _ _ _).mpr ⟨tripOf (blkOf (y 3)), (tripOf (blkOf (y 3))).isLt, by rw [hp]; exact List.mem_cons_of_mem _ (List.mem_singleton.mpr rfl)⟩, ?_⟩
      rw [Rect.mem_set_unit, off8_eq]
      intro a
      fin_cases a
      · show 0 ≤ (y 0 : ℕ) ∧ (y 0 : ℕ) < 0 + 1; omega
      · show 0 ≤ (y 1 : ℕ) ∧ (y 1 : ℕ) < 0 + 1; omega
      · show 0 ≤ (y 2 : ℕ) ∧ (y 2 : ℕ) < 0 + 1; omega
      · show 128 * ((y 3 : ℕ) / 128) ≤ (y 3 : ℕ) ∧ (y 3 : ℕ) < 128 * ((y 3 : ℕ) / 128) + 128; omega
      · show 0 ≤ (y 4 : ℕ) ∧ (y 4 : ℕ) < 0 + 128; omega
    · refine ⟨_, (mem_before _ _ _).mpr ⟨tripOf (blkOf (y 3)), (tripOf (blkOf (y 3))).isLt, by rw [hp]; exact List.mem_cons_self⟩, ?_⟩
      rw [Rect.mem_set_unit, off9_eq]
      intro a
      fin_cases a
      · show 0 ≤ (y 0 : ℕ) ∧ (y 0 : ℕ) < 0 + 1; omega
      · show 1 ≤ (y 1 : ℕ) ∧ (y 1 : ℕ) < 1 + 1; omega
      · show 0 ≤ (y 2 : ℕ) ∧ (y 2 : ℕ) < 0 + 1; omega
      · show 128 * ((y 3 : ℕ) / 128) ≤ (y 3 : ℕ) ∧ (y 3 : ℕ) < 128 * ((y 3 : ℕ) / 128) + 128; omega
      · show 0 ≤ (y 4 : ℕ) ∧ (y 4 : ℕ) < 0 + 128; omega

theorem eq_ix3_of_lead (x : (S1x512x256 : Shape).Idx) : x = ix3 (0 : Fin 1) (x 1) (x 2) := by
  refine (eq_ix3 x).trans ?_
  congr 1; exact Subsingleton.elim (α := Fin 1) _ _

theorem stack_fst (a b : FVec F S1x512x256 .f32) (x : S1x512x256.Idx) :
    a x = stack a b ((Rect.unit (s := S2x512x256) ![0, 0, 0] S1x512x256.size inb_S2x512x256_S1x512x256_0_0_0).emb x) := by
  have h0 : (x 0 : ℕ) < 1 := (x 0).isLt
  have he : (((Rect.unit (s := S2x512x256) ![0, 0, 0] S1x512x256.size inb_S2x512x256_S1x512x256_0_0_0).emb x) 0 : ℕ) = 0 := by
    show 0 + 1 * (x 0 : ℕ) = 0; omega
  unfold stack
  rw [if_pos he]
  refine congrArg a ((eq_ix3_of_lead x).trans ?_)
  congr 1
  · apply Fin.ext; show (x 1 : ℕ) = 0 + 1 * (x 1 : ℕ); omega
  · apply Fin.ext; show (x 2 : ℕ) = 0 + 1 * (x 2 : ℕ); omega

theorem stack_snd (a b : FVec F S1x512x256 .f32) (x : S1x512x256.Idx) :
    b x = stack a b ((Rect.unit (s := S2x512x256) ![1, 0, 0] S1x512x256.size inb_S2x512x256_S1x512x256_1_0_0).emb x) := by
  have he : (((Rect.unit (s := S2x512x256) ![1, 0, 0] S1x512x256.size inb_S2x512x256_S1x512x256_1_0_0).emb x) 0 : ℕ) ≠ 0 := fun h => by
    have h' : 1 + 1 * (x 0 : ℕ) = 0 := h
    omega
  unfold stack
  rw [if_neg he]
  refine congrArg b ((eq_ix3_of_lead x).trans ?_)
  congr 1
  · apply Fin.ext; show (x 1 : ℕ) = 0 + 1 * (x 1 : ℕ); omega
  · apply Fin.ext; show (x 2 : ℕ) = 0 + 1 * (x 2 : ℕ); omega

/-- Two stores that fill the two members of the stack, read. -/
theorem read_stack {sp : Space} (v : View sig .tc sp S2x512x256 .f32) (f : v.ty.Contents (Elt F)) (a b : FVec F S1x512x256 .f32) :
    v.read (Elt F) (v.writes (Elt F) f
      [⟨Rect.unit (s := S2x512x256) ![1, 0, 0] S1x512x256.size inb_S2x512x256_S1x512x256_1_0_0, b⟩,
       ⟨Rect.unit (s := S2x512x256) ![0, 0, 0] S1x512x256.size inb_S2x512x256_S1x512x256_0_0_0, a⟩]) = stack a b := by
  funext y
  refine View.read_writes_apply_of_pieces (v := v) (f := f) (stack a b) _ ?_ y ?_
  · intro p hp x
    rcases List.mem_cons.mp hp with rfl | hp
    · exact stack_snd a b x
    · rw [List.mem_singleton] at hp
      subst hp
      exact stack_fst a b x
  · have h0 : (y 0 : ℕ) < 2 := (y 0).isLt
    have h1 : (y 1 : ℕ) < 512 := (y 1).isLt
    have h2 : (y 2 : ℕ) < 256 := (y 2).isLt
    by_cases h : (y 0 : ℕ) = 0
    · refine ⟨_, List.mem_cons_of_mem _ (List.mem_singleton.mpr rfl), ?_⟩
      rw [Rect.mem_set_unit]
      intro a
      fin_cases a
      · show 0 ≤ (y 0 : ℕ) ∧ (y 0 : ℕ) < 0 + 1; omega
      · show 0 ≤ (y 1 : ℕ) ∧ (y 1 : ℕ) < 0 + 512; omega
      · show 0 ≤ (y 2 : ℕ) ∧ (y 2 : ℕ) < 0 + 256; omega
    · refine ⟨_, List.mem_cons_self, ?_⟩
      rw [Rect.mem_set_unit]
      intro a
      fin_cases a
      · show 1 ≤ (y 0 : ℕ) ∧ (y 0 : ℕ) < 1 + 1; omega
      · show 0 ≤ (y 1 : ℕ) ∧ (y 1 : ℕ) < 0 + 512; omega
      · show 0 ≤ (y 2 : ℕ) ∧ (y 2 : ℕ) < 0 + 256; omega

end Cert.AttnKernelIdeal.Hand

end
-- ==== Proof.AttnRun.lean ====
/- The attention kernel's run, its two result arrays named point by point; the frame at any float type. -/
module

public import proofs.«01_k».proof.Proof.AttnBlock
public import proofs.«01_k».proof.Proof.Gen.AttnKernelIdeal.Frame
public import Idealize.ShloMosaic.Lib.Claim

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on any staging memrefs: from the input block at `x0` to the outputs at `oBlk x0` and `lBlk x0`. -/
theorem body_triple (c : Dev nD) (i : grid0.Coords) (arg1 : Memref sig .tc .vmem S1x3x2x1x4096x128 .bf16) (harg1 : arg1.IsWhole) (arg2 : Memref sig .tc .vmem S1x2x1x4096x128 .f32) (harg2 : arg2.IsWhole) (arg3 : Memref sig .tc .vmem S1x2x1x4096x128 .f32) (harg3 : arg3.IsWhole) (arg4 : Memref sig .tc .vmem S2x512x256 .f32) (harg4 : arg4.IsWhole)
    (x0 : Vec F S1x3x2x1x4096x128 .bf16) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (oBlk x0) ∗ owns (c : Thread nD τ) arg3 fullShare (lBlk x0) ∗ (∃ d, owns (c : Thread nD τ) arg4 fullShare d)) -∗ K ⟨⟩))
      ⊢ wp frame (wpE (defs₀ (F := F)) Variants.none c none) E (cc0_dilated_attention_d1 i arg1 harg1 arg2 harg2 arg3 harg3 arg4 harg4) K := by
  simp only [cc0_dilated_attention_d1_eq_skeleton]; unfold cc0_dilated_attention_d1_skel
  simp only [k0_part5_eq_skeleton, k0_part6_eq_skeleton]
  unfold owns
  iintro ⟨⟨%f0, %hf0, H0⟩, ⟨%d1, %f1, -, H1⟩, ⟨%d2, %f2, -, H2⟩, ⟨%ds0, %fs0, -, HS0⟩, Hk⟩
  obtain rfl := harg1.eq_unread hf0
  sl_exec
  sl_step
  iapply Hk
  isplitl [H0]
  · iexists _; isplitr; · ipureintro; exact harg1.read_unread _
    iexact H0
  isplitl [H1]
  · iexists _; isplitr; swap; · iexact H1
    ipureintro
    exact (read_pieces _ _ _ _ _ fun k => rfl).trans (congrArg₂ (fun a b => assemble (oLo a b) (oHi a b)) hf0 (read_stack _ _ _ _))
  isplitl [H2]
  · iexists _; isplitr; swap; · iexact H2
    ipureintro
    exact (read_pieces _ _ _ _ _ fun k => rfl).trans (congrArg₂ (fun a b => assemble (lLo a b) (lHi a b)) hf0 (read_stack _ _ _ _))
  iexists _, _; isplitr; swap; · iexact HS0
  ipureintro; rfl

/-! ## The pipeline's proof data -/

variable (m : (ℓ : Loc nD τ sig) → Buf (Elt F) ℓ) (ρ : Dev nD → PrngReg)

abbrev stage0 (t : Fin cfg0.N) : Memref sig .tc .vmem S1x3x2x1x4096x128 .bf16 := win0_0.stage (cfg0.slots t 0)
abbrev stage1 (t : Fin cfg0.N) : Memref sig .tc .vmem S1x2x1x4096x128 .f32 := win0_1.stage (cfg0.slots t 1)
abbrev stage2 (t : Fin cfg0.N) : Memref sig .tc .vmem S1x2x1x4096x128 .f32 := win0_2.stage (cfg0.slots t 2)

theorem inv_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- After the body at point `t`: the input buffer at its block, the output buffers at the block of outputs and of logarithmic sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => oBlk (iblk m c 0 t)
    | ⟨2, _⟩ => lBlk (iblk m c 0 t)
  Φ _ := Pipeline.ΦA spec0 c
  q _ := fullShare
  owed _ := 0

theorem dats_A (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = oBlk (iblk m c 0 t) := by dsimp only [dats]
theorem after2 (c : Dev nD) (t : Fin cfg0.N) : (dats m 0 c).after 2 t = lBlk (iblk m c 0 t) := by dsimp only [dats]
theorem before0 (c : Dev nD) (t : Fin cfg0.N) (d) : (dats m 0 c).before 0 t d = iblk m c 0 t :=
  before0_0_of m (dats m 0 c) (dats_A m c 0) (after0 m c) t d

/-- What the body finds and what it leaves at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t))

theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl, after0, after1, after2]
  rw [show (dats m 0 c).Φ t.castSucc = Pipeline.ΦA spec0 c from rfl, inv_eq]
  iintro ⟨⟨HS0, Hg⟩, Ho, ⟨%d0, H0⟩, ⟨%d1, H1⟩, ⟨%d2, H2⟩⟩
  iapply (body_triple c (grid0.coords t) _ _ _ _ _ _ _ _ (iblk m c 0 t) Set.univ _)
  isplitl [H0]; · iexact H0
  isplitl [H1]; · iexists _; iexact H1
  isplitl [H2]; · iexists _; iexact H2
  isplitl [HS0]; · iexact HS0
  iintro ⟨H0, H1, H2, HS0⟩
  isplitl [HS0 Hg]
  · isplitl [HS0]
    · iexact HS0
    iexact Hg
  isplitl [Ho]; · iexact Ho
  isplitl [H0]; · iexact H0
  isplitl [H1]; · iexact H1
  iexact H2

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (body_point m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hΦ := fun _ _ => rfl)

/-- The run: the two result arrays as the pipeline assembles them from the blocks, the argument unchanged, every counter at zero. -/
theorem run : θ_run defs (onTc (τ := τ) (main (F := F))) ⟨m, fun _ => 0, ρ⟩ (fun r => (∀ c : Dev nD,
      r.2.mem ((c.tc : Thread nD τ).loc main_v0_0) = (dats m 0 c).arrAt 1 cfg0.N
      ∧ r.2.mem ((c.tc : Thread nD τ).loc main_v0_1) = (dats m 0 c).arrAt 2 cfg0.N
      ∧ r.2.mem ((c.tc : Thread nD τ).loc main_arg0) = m ((c.tc : Thread nD τ).loc main_arg0)) ∧ r.2.sem = fun _ => 0) :=
  (θ_run defs _ _).mono (fun _ h => ⟨fun c => ⟨(h.1 c).1 1, (h.1 c).1 2, ((h.1 c).1 0).trans (((dats m 0 c).arrAt_in 0 rfl _).trans ((dats_A m c 0).trans (V_main_arg0 m c)))⟩, h.2⟩)
    (run_main_quiescent m ρ)

end Cert.AttnKernelIdeal.Hand

end
-- ==== Proof.AttnRow.lean ====
/- One row of the attention over the extended reals. A softmax written with the natural exponential of scores scaled
   by `log 2` equals one written with powers of two, also when the keys are listed in another order and when a masked
   key carries another value. -/
module

public import Idealize.ShloMosaic.PureOps.Ideal

@[expose] public section

noncomputable section

namespace Attn.Row

open Idealize.ShloMosaic

/-- The factor between the two exponentials. -/
def ln2 : EReal := ((Real.log 2 : ℝ) : EReal)

theorem log2_pos : 0 < Real.log 2 := Real.log_pos (by norm_num)

theorem ofBits_zero : Ideal.ofBits .f32 0x00000000#32 = 0 := by simp [Ideal.ofBits, Ideal.ieee]
theorem ofBits_bot : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee, -EReal.coe_mul]; norm_num
theorem log_two : Ideal.log (Ideal.ofBits .f32 0x40000000#32) = ln2 := by
  rw [ofBits_two, Ideal.log_coe, if_neg (by norm_num)]; rfl

theorem ln2_nonneg : 0 ≤ ln2 := EReal.coe_nonneg.mpr log2_pos.le
theorem ln2_ne_top : ln2 ≠ ⊤ := EReal.coe_ne_top _

theorem bot_mul_ln2 : ⊥ * ln2 = ⊥ := EReal.bot_mul_coe_of_pos log2_pos
theorem top_mul_ln2 : ⊤ * ln2 = ⊤ := EReal.top_mul_coe_of_pos log2_pos

theorem exp_mul_ln2 (x : EReal) : Ideal.exp (x * ln2) = Ideal.exp2 x := by
  induction x using EReal.rec with
  | bot => rw [bot_mul_ln2]; rfl
  | top => rw [top_mul_ln2]; rfl
  | coe r =>
    rw [ln2, ← EReal.coe_mul, Ideal.exp_coe, Ideal.exp2_coe]
    congr 1
    exact (mul_comm r _ ▸ (Real.rpow_def_of_pos (by norm_num : (0 : ℝ) < 2) r).symm)

theorem add_mul_ln2 (x y : EReal) : (x + y) * ln2 = x * ln2 + y * ln2 :=
  EReal.right_distrib_of_nonneg_of_ne_top ln2_nonneg ln2_ne_top x y

theorem sub_mul_ln2 (x y : EReal) : (x - y) * ln2 = x * ln2 - y * ln2 := by
  rw [sub_eq_add_neg, add_mul_ln2, EReal.neg_mul, ← sub_eq_add_neg]

theorem sum_mul_ln2 {ι : Type} (s : Finset ι) (f : ι → EReal) : (∑ i ∈ s, f i) * ln2 = ∑ i ∈ s, f i * ln2 := by
  classical
  induction s using Finset.induction_on with
  | empty => simp
  | insert a s ha ih => rw [Finset.sum_insert ha, Finset.sum_insert ha, add_mul_ln2, ih]

theorem max_mul_ln2 (x y : EReal) : max x y * ln2 = max (x * ln2) (y * ln2) :=
  Monotone.map_max (f := fun z : EReal => z * ln2) (fun _ _ h => mul_le_mul_of_nonneg_right h ln2_nonneg)

theorem fold_mul_ln2 {ι : Type} (s : Finset ι) (f : ι → EReal) :
    (Finset.fold max ⊥ f s) * ln2 = Finset.fold max ⊥ (fun i => f i * ln2) s := by
  classical
  induction s using Finset.induction_on with
  | empty => simp [bot_mul_ln2]
  | insert a s ha ih => rw [Finset.fold_insert ha, Finset.fold_insert ha, max_mul_ln2, ih]

theorem fold_equiv {ι : Type} [Fintype ι] (σ : ι ≃ ι) (f : ι → EReal) :
    Finset.fold max ⊥ (fun i => f (σ i)) Finset.univ = Finset.fold max ⊥ f Finset.univ := by
  conv_rhs => rw [← Finset.univ_map_equiv_to_embedding σ, Finset.fold_map]
  rfl

theorem add_div_ln2 (x y : EReal) : Ideal.div (x * ln2 + y) ln2 = x + Ideal.div y ln2 := by
  have h : Real.log 2 ≠ 0 := log2_pos.ne'
  have hp : (0 : ℝ) ≤ 1 / Real.log 2 := (one_div_pos.mpr log2_pos).le
  rw [ln2, Ideal.div_coe h, Ideal.div_coe h, EReal.right_distrib_of_nonneg_of_ne_top (EReal.coe_nonneg.mpr hp) (EReal.coe_ne_top _),
    mul_assoc, ← EReal.coe_mul, mul_one_div_cancel h, EReal.coe_one, mul_one]

/-! ## The row -/

section Row
variable {ι : Type} [Fintype ι] (σ : ι ≃ ι) (sK vK sR vR : ι → EReal)

/-- The largest score, the sum of the weights, the weighted values: with powers of two. -/
def max2 : EReal := Finset.fold max ⊥ sK Finset.univ
def den2 : EReal := ∑ i, Ideal.exp2 (sK i - max2 sK)
def num2 : EReal := ∑ i, Ideal.exp2 (sK i - max2 sK) * vK i

variable (hs : ∀ i, sR i = sK (σ i) * ln2)
include hs

theorem max_eq : Finset.fold max ⊥ sR Finset.univ = max2 sK * ln2 := by
  rw [max2, ← fold_equiv σ sK, fold_mul_ln2]
  exact congrArg (fun f => Finset.fold max ⊥ f Finset.univ) (funext hs)

theorem weight_eq (i : ι) : Ideal.exp (sR i - Finset.fold max ⊥ sR Finset.univ) = Ideal.exp2 (sK (σ i) - max2 sK) := by
  rw [max_eq σ sK sR hs, hs, ← sub_mul_ln2, exp_mul_ln2]

theorem den_eq : ∑ i, Ideal.exp (sR i - Finset.fold max ⊥ sR Finset.univ) = den2 sK := by
  rw [den2, ← Equiv.sum_comp σ fun i => Ideal.exp2 (sK i - max2 sK)]
  exact Finset.sum_congr rfl fun i _ => weight_eq σ sK sR hs i

theorem num_eq (hv : ∀ i, sR i = ⊥ ∨ vR i = vK (σ i)) :
    ∑ i, vR i * Ideal.exp (sR i - Finset.fold max ⊥ sR Finset.univ) = num2 sK vK := by
  rw [num2, ← Equiv.sum_comp σ fun i => Ideal.exp2 (sK i - max2 sK) * vK i]
  refine Finset.sum_congr rfl fun i _ => ?_
  rcases hv i with h | h
  · have h0 : Ideal.exp2 (sK (σ i) - max2 sK) = 0 := by
      rw [← weight_eq σ sK sR hs i, h, EReal.bot_sub, Ideal.exp_bot]
    rw [weight_eq σ sK sR hs i, h0, mul_zero, zero_mul]
  · rw [weight_eq σ sK sR hs i, h, mul_comm]

theorem lse_eq : Ideal.div (Finset.fold max ⊥ sR Finset.univ + Ideal.log (∑ i, Ideal.exp (sR i - Finset.fold max ⊥ sR Finset.univ))) ln2
    = max2 sK + Ideal.div (Ideal.log (den2 sK)) ln2 := by
  rw [den_eq σ sK sR hs, max_eq σ sK sR hs, add_div_ln2]

end Row

end Attn.Row

end
-- ==== Proof.AttnLanes.lean ====
/- The attention kernel's lane codes and mask tables, read at an index. -/
module

public import proofs.«01_k».proof.Proof.AttnBlock
public import proofs.«01_k».proof.Proof.AttnRow

@[expose] public section

set_option maxRecDepth 16384

noncomputable section

namespace Cert.AttnKernelIdeal.Hand

open Cert.AttnKernelIdeal Cert.AttnKernelIdeal.Gen
open Idealize.ShloMosaic Idealize.ShloMosaic.TcCoe

theorem lane0 : ∀ l : Fin 256, k0_pay24 (ix2 (0 : Fin 1) l) = if l.val / 64 = 0 then 1#1 else 0#1 := by decide +kernel
theorem lane1 : ∀ l : Fin 256, k0_pay25 (ix2 (0 : Fin 1) l) = if l.val / 64 = 1 then 1#1 else 0#1 := by decide +kernel
theorem lane2 : ∀ l : Fin 256, k0_pay26 (ix2 (0 : Fin 1) l) = if l.val / 64 = 2 then 1#1 else 0#1 := by decide +kernel
theorem lane3 : ∀ l : Fin 256, k0_pay27 (ix2 (0 : Fin 1) l) = if l.val / 64 = 3 then 1#1 else 0#1 := by decide +kernel

theorem rowCode : ∀ r : Fin 512, k0_pay19 (ix2 r (0 : Fin 256)) = BitVec.ofNat 32 (r.val % 128) := by decide +kernel

/-! ## Four rows folded into one by the lane's head -/

/-- The head a lane of the full row belongs to, and the folded row's place among the four heads' rows. -/
abbrev headL (l : Fin 256) : Fin 4 := ⟨l.val / 64, by omega⟩
abbrev row4 (h : Fin 4) (q : Fin 128) : Fin 512 := ⟨128 * h.val + q.val, by omega⟩

theorem select_one {α : Type} (a b : α) : Scalar.select 1#1 a b = a := rfl
theorem select_zero {α : Type} (a b : α) : Scalar.select 0#1 a b = b := rfl

theorem pick {α : Type} (f : Fin 512 → α) (q : Fin 128) (l : Fin 256) :
    Scalar.select (k0_pay24 (ix2 (0 : Fin 1) l)) (f ⟨q.val, by omega⟩) (Scalar.select (k0_pay25 (ix2 (0 : Fin 1) l)) (f ⟨128 + q.val, by omega⟩)
      (Scalar.select (k0_pay26 (ix2 (0 : Fin 1) l)) (f ⟨256 + q.val, by omega⟩) (f ⟨384 + q.val, by omega⟩))) = f (row4 (headL l) q) := by
  rw [lane0, lane1, lane2]
  have h : l.val / 64 = 0 ∨ l.val / 64 = 1 ∨ l.val / 64 = 2 ∨ l.val / 64 = 3 := by omega
  rcases h with h | h | h | h
  · rw [if_pos h, select_one]; exact congrArg f (Fin.ext (by show q.val = 128 * (l.val / 64) + q.val; omega))
  · rw [if_neg (by omega), if_pos h, select_zero, select_one]; exact congrArg f (Fin.ext (by show 128 + q.val = 128 * (l.val / 64) + q.val; omega))
  · rw [if_neg (by omega), if_neg (by omega), if_pos h, select_zero, select_zero, select_one]; exact congrArg f (Fin.ext (by show 256 + q.val = 128 * (l.val / 64) + q.val; omega))
  · rw [if_neg (by omega), if_neg (by omega), if_neg (by omega), select_zero, select_zero, select_zero]; exact congrArg f (Fin.ext (by show 384 + q.val = 128 * (l.val / 64) + q.val; omega))

theorem fold8 (m : FVec Ideal S512x1 .f32) (q : Fin 128) (l : Fin 256) :
    k0_pay8 (F := Ideal) k0_pay24 k0_pay25 k0_pay26 m (ix2 q l) = m (ix2 (row4 (headL l) q) (0 : Fin 1)) := by
  pointwise [k0_pay8]
  exact pick (fun r => m (ix2 r (0 : Fin 1))) q l

/-- The values' lane: the first half of lanes, or the second. -/
def lanes (v w : Vec Ideal S1x1x1x1x256x128 .bf16) (x l : Fin 256) : EReal :=
  if h : l.val < 128 then v (ix6 (0 : Fin 1) (0 : Fin 1) (0 : Fin 1) (0 : Fin 1) x (⟨l.val, h⟩ : Fin 128))
  else w (ix6 (0 : Fin 1) (0 : Fin 1) (0 : Fin 1) (0 : Fin 1) x (⟨l.val - 128, by omega⟩ : Fin 128))

theorem fold7 (w : FVec Ideal S512x256 .bf16) (v v' : Vec Ideal S1x1x1x1x256x128 .bf16) (q : Fin 128) (l : Fin 256) :
    k0_pay7 (F := Ideal) k0_pay24 k0_pay25 k0_pay26 w v v' (ix2 q l) = ∑ x : Fin 256, w (ix2 (row4 (headL l) q) x) * lanes v v' x l := by
  pointwise [k0_pay7]
  exact pick (fun r => ∑ x : Fin 256, w (ix2 r x) * lanes v v' x l) q l

section Out
variable (m : FVec Ideal S512x1 .f32) (a : FVec Ideal S128x256 .f32) (q : Fin 128) (l : Fin 128)

/-- A lane of the first half, of the second, as a lane of the full row. -/
abbrev lo (l : Fin 128) : Fin 256 := ⟨l.val, by omega⟩
abbrev hi (l : Fin 128) : Fin 256 := ⟨128 + l.val, by omega⟩

theorem out15 : k0_pay15 (F := Ideal) k0_pay24 k0_pay25 m a (k0_pay9 k0_pay26) (k0_pay10 m) (k0_pay11 m) (ix5 (0 : Fin 1) (0 : Fin 1) (0 : Fin 1) q l)
    = Ideal.div (a (ix2 q (lo l))) (m (ix2 (row4 (headL (lo l)) q) (0 : Fin 1))) := by
  pointwise [k0_pay15, k0_pay13, k0_pay12, k0_pay9, k0_pay10, k0_pay11]
  exact congrArg (Ideal.div (a (ix2 q (lo l)))) (pick (fun r => m (ix2 r (0 : Fin 1))) q (lo l))
theorem out17 : k0_pay17 (F := Ideal) k0_pay24 k0_pay25 m a (k0_pay9 k0_pay26) (k0_pay10 m) (k0_pay11 m) (ix5 (0 : Fin 1) (0 : Fin 1) (0 : Fin 1) q l)
    = Ideal.div (a (ix2 q (hi l))) (m (ix2 (row4 (headL (hi l)) q) (0 : Fin 1))) := by
  pointwise [k0_pay17, k0_pay13, k0_pay12, k0_pay9, k0_pay10, k0_pay11]
  exact congrArg (Ideal.div (a (ix2 q (hi l)))) (pick (fun r => m (ix2 r (0 : Fin 1))) q (hi l))
theorem out16 : k0_pay16 (F := Ideal) k0_pay24 k0_pay25 m a (k0_pay9 k0_pay26) (k0_pay10 m) (k0_pay11 m) (ix5 (0 : Fin 1) (0 : Fin 1) (0 : Fin 1) q l)
    = a (ix2 q (lo l)) + Ideal.div (Ideal.log (m (ix2 (row4 (headL (lo l)) q) (0 : Fin 1)))) (Ideal.log (Ideal.ofBits .f32 0x40000000#32)) := by
  pointwise [k0_pay16, k0_pay14, k0_pay12, k0_pay9, k0_pay10, k0_pay11]
  exact congrArg (fun z => a (ix2 q (lo l)) + Ideal.div (Ideal.log z) (Ideal.log (Ideal.ofBits .f32 0x40000000#32))) (pick (fun r => m (ix2 r (0 : Fin 1))) q (lo l))
theorem out18 : k0_pay18 (F := Ideal) k0_pay24 k0_pay25 m a (k0_pay9 k0_pay26) (k0_pay10 m) (k0_pay11 m) (ix5 (0 : Fin 1) (0 : Fin 1) (0 : Fin 1) q l)
    = a (ix2 q (hi l)) + Ideal.div (Ideal.log (m (ix2 (row4 (headL (hi l)) q) (0 : Fin 1)))) (Ideal.log (Ideal.ofBits .f32 0x40000000#32)) := by
  pointwise [k0_pay18, k0_pay14, k0_pay12, k0_pay9, k0_pay10, k0_pay11]
  exact congrArg (fun z => a (ix2 q (hi l)) + Ideal.div (Ideal.log z) (Ideal.log (Ideal.ofBits .f32 0x40000000#32))) (pick (fun r => m (ix2 r (0 : Fin 1))) q (hi l))
end Out

/-! ## The softmax of the four heads' rows -/

section Soft
variable (a b c d : IVec S1x256 1) (x0 : FVec Ideal S128x128 .bf16) (x1 : Vec Ideal S1x1x1x1x128x128 .bf16) (y0 y1 : Vec Ideal S1x1x1x1x256x128 .bf16)
  (bs : Vec Ideal S1x512x256 .f32) (r : Fin 512)

theorem max_apply : k0_pay3 (F := Ideal) a b c d x0 x1 y0 y1 bs (ix2 r (0 : Fin 1))
    = Finset.fold max (Ideal.ofBits .f32 0xFF800000#32) (fun x : Fin 256 => k0_pay2 (F := Ideal) a b c d x0 x1 y0 y1 bs (ix2 r x)) Finset.univ := by
  pointwise [k0_pay3]
theorem exp_apply (j : Fin 256) : k0_pay4 (F := Ideal) a b c d x0 x1 y0 y1 bs (ix2 r j)
    = Ideal.exp2 (k0_pay2 (F := Ideal) a b c d x0 x1 y0 y1 bs (ix2 r j) - k0_pay3 (F := Ideal) a b c d x0 x1 y0 y1 bs (ix2 r (0 : Fin 1))) := by
  pointwise [k0_pay4]
  rfl
theorem weight_apply (j : Fin 256) : k0_pay6 (F := Ideal) a b c d x0 x1 y0 y1 bs (ix2 r j) = k0_pay4 (F := Ideal) a b c d x0 x1 y0 y1 bs (ix2 r j) := by
  pointwise [k0_pay6]
theorem sum_apply : k0_pay5 (F := Ideal) a b c d x0 x1 y0 y1 bs (ix2 r (0 : Fin 1)) = ∑ x : Fin 256, k0_pay4 (F := Ideal) a b c d x0 x1 y0 y1 bs (ix2 r x) := by
  pointwise [k0_pay5]
end Soft

/-! ## The masks -/

theorem code (r : Fin 512) (c : Fin 256) : k0_pay19 (ix2 r c) = BitVec.ofNat 32 (r.val % 128) := by
  rw [← rowCode r]
  pointwise [k0_pay19]

/-- A key lies at most 128 places before the query, and not after it. -/
def inBand (off q j : ℕ) : Prop := j ≤ q + off ∧ q + off ≤ j + 128
instance (off q j : ℕ) : Decidable (inBand off q j) := inferInstanceAs (Decidable (_ ∧ _))

theorem band_zero : ∀ (q : Fin 128) (c : Fin 256),
    IntOp.andi (IntOp.cmpi CmpIPredicate.sge (IntOp.addi (IntOp.subi (BitVec.ofNat 32 q.val) (BitVec.ofNat 32 c.val)) 0#32) 0#32)
      (IntOp.cmpi CmpIPredicate.sle (IntOp.addi (IntOp.subi (BitVec.ofNat 32 q.val) (BitVec.ofNat 32 c.val)) 0#32) 128#32)
    = if inBand 0 q.val c.val then 1#1 else 0#1 := by decide +kernel
theorem band_next : ∀ (q : Fin 128) (c : Fin 256),
    IntOp.andi (IntOp.cmpi CmpIPredicate.sge (IntOp.addi (IntOp.subi (BitVec.ofNat 32 q.val) (BitVec.ofNat 32 c.val)) 128#32) 0#32)
      (IntOp.cmpi CmpIPredicate.sle (IntOp.addi (IntOp.subi (BitVec.ofNat 32 q.val) (BitVec.ofNat 32 c.val)) 128#32) 128#32)
    = if inBand 128 q.val c.val then 1#1 else 0#1 := by decide +kernel

theorem mask_zero (r : Fin 512) (c : Fin 256) :
    k0_pay20 (F := Ideal) (ix3 (0 : Fin 1) r c) = if inBand 0 (r.val % 128) c.val then 0 else ⊥ := by
  pointwise [k0_pay20]
  rw [code, band_zero ⟨r.val % 128, by omega⟩ c]
  split
  · rw [select_one]
  · rw [select_zero]; exact Attn.Row.ofBits_bot
theorem mask_next (r : Fin 512) (c : Fin 256) :
    k0_pay22 (F := Ideal) k0_pay21 (Scalar.ofBits .f32 0x00000000#32) (ix3 (0 : Fin 1) r c) = if inBand 128 (r.val % 128) c.val then 0 else ⊥ := by
  pointwise [k0_pay22, k0_pay21]
  rw [code, band_next ⟨r.val % 128, by omega⟩ c]
  split
  · rw [select_one]
  · rw [select_zero]; exact Attn.Row.ofBits_bot

end Cert.AttnKernelIdeal.Hand

end
-- ==== Proof.AttnScore.lean ====
/- The scores of the attention kernel, read at an index of a trip. -/
module

public import proofs.«01_k».proof.Proof.AttnLanes

@[expose] public section

set_option maxRecDepth 16384

noncomputable section

namespace Cert.AttnKernelIdeal.Hand

open Cert.AttnKernelIdeal Cert.AttnKernelIdeal.Gen
open Idealize.ShloMosaic Idealize.ShloMosaic.TcCoe

/-! ## The rows of a staged block that a trip reads -/

section Reads
variable (x0 : Vec Ideal S1x3x2x1x4096x128 .bf16) (k : Fin k0_t1_loop.trips)

theorem trip_lt : k.val < 32 := Nat.lt_of_lt_of_eq k.isLt trips_eq

/-- The block's entry at a part (queries, keys, values), a half of lanes, a row and a lane. -/
abbrev at6 (p : Fin 3) (g : Fin 2) (n : Fin 4096) (l : Fin 128) : EReal := x0 (ix6 (0 : Fin 1) p g (0 : Fin 1) n l)

/-- The row of a query, of a key. -/
abbrev qPos (q : Fin 128) : Fin 4096 := ⟨128 * k.val + q.val, by have := trip_lt k; omega⟩
abbrev kPos (j : Fin 256) : Fin 4096 := ⟨128 * (k.val - 1) + j.val, by have := trip_lt k; omega⟩

variable (q l : Fin 128) (j : Fin 256)

theorem ld6_apply {n : ℕ} (off : Fin 6 → ℕ) (inb) (p : Fin 3) (g : Fin 2) (o : ℕ) (ho : off = ![0, p.val, g.val, 0, o, 0])
    (q : Fin n) (l : Fin 128) (hq : o + q.val < 4096) :
    View.ld (Val := Elt Ideal) (e' := EltTy.bf16) x0 (Rect.unit (s := S1x3x2x1x4096x128) off ![1, 1, 1, 1, n, 128] inb) (ix6 (0 : Fin 1) (0 : Fin 1) (0 : Fin 1) (0 : Fin 1) q l)
      = at6 x0 p g ⟨o + q.val, hq⟩ l := by
  subst ho
  refine congrArg x0 ?_
  funext a
  apply Fin.ext
  fin_cases a
  · rfl
  · show p.val + 1 * 0 = p.val; omega
  · show g.val + 1 * 0 = g.val; omega
  · rfl
  · show o + 1 * q.val = o + q.val; omega
  · show 0 + 1 * l.val = l.val; omega

theorem q0_apply : q0 x0 k (ix6 (0 : Fin 1) (0 : Fin 1) (0 : Fin 1) (0 : Fin 1) q l) = at6 x0 0 0 (qPos k q) l :=
  ld6_apply x0 _ _ 0 0 _ (off1_eq k) q l _
theorem q1_apply : q1 x0 k (ix6 (0 : Fin 1) (0 : Fin 1) (0 : Fin 1) (0 : Fin 1) q l) = at6 x0 0 1 (qPos k q) l :=
  ld6_apply x0 _ _ 0 1 _ (off2_eq k) q l _
theorem k0_apply : k0 x0 k (ix6 (0 : Fin 1) (0 : Fin 1) (0 : Fin 1) (0 : Fin 1) j l) = at6 x0 1 0 (kPos k j) l :=
  ld6_apply x0 _ _ 1 0 _ (off3_eq k) j l _
theorem k1_apply : k1 x0 k (ix6 (0 : Fin 1) (0 : Fin 1) (0 : Fin 1) (0 : Fin 1) j l) = at6 x0 1 1 (kPos k j) l :=
  ld6_apply x0 _ _ 1 1 _ (off4_eq k) j l _
theorem v0_apply : v0 x0 k (ix6 (0 : Fin 1) (0 : Fin 1) (0 : Fin 1) (0 : Fin 1) j l) = at6 x0 2 0 (kPos k j) l :=
  ld6_apply x0 _ _ 2 0 _ (off6_eq k) j l _
theorem v1_apply : v1 x0 k (ix6 (0 : Fin 1) (0 : Fin 1) (0 : Fin 1) (0 : Fin 1) j l) = at6 x0 2 1 (kPos k j) l :=
  ld6_apply x0 _ _ 2 1 _ (off7_eq k) j l _

/-- The half of lanes and the lane in it of a lane of the full row, and of a lane of a head. -/
abbrev halfL (l : Fin 256) : Fin 2 := ⟨l.val / 128, by omega⟩
abbrev inHalf (l : Fin 256) : Fin 128 := ⟨l.val % 128, by omega⟩
abbrev halfH (h : Fin 4) : Fin 2 := ⟨h.val / 2, by omega⟩
abbrev laneH (h : Fin 4) (d : Fin 64) : Fin 128 := ⟨h.val % 2 * 64 + d.val, by omega⟩

theorem lanes_apply (x l : Fin 256) : lanes (v0 x0 k) (v1 x0 k) x l = at6 x0 2 (halfL l) (kPos k x) (inHalf l) := by
  unfold lanes
  split
  · rename_i h
    rw [v0_apply]
    rw [show (0 : Fin 2) = halfL l from Fin.ext (by show 0 = l.val / 128; omega),
      show (⟨l.val, h⟩ : Fin 128) = inHalf l from Fin.ext (by show l.val = l.val % 128; omega)]
  · rename_i h
    rw [v1_apply]
    rw [show (1 : Fin 2) = halfL l from Fin.ext (by show 1 = l.val / 128; omega),
      show (⟨l.val - 128, by omega⟩ : Fin 128) = inHalf l from Fin.ext (by show l.val - 128 = l.val % 128; omega)]

/-- The mask a trip adds to the scores. -/
theorem stack_at (a b : FVec Ideal S1x512x256 .f32) (e : Fin 2) (r : Fin 512) (c : Fin 256) :
    stack a b (ix3 e r c) = if e.val = 0 then a (ix3 (0 : Fin 1) r c) else b (ix3 (0 : Fin 1) r c) := rfl

theorem ld3_apply (bs : Vec Ideal S2x512x256 .f32) (off : Fin 3 → ℕ) (inb) (e : Fin 2) (ho : off = ![e.val, 0, 0]) (r : Fin 512) (c : Fin 256) :
    View.ld (Val := Elt Ideal) (e' := EltTy.f32) bs (Rect.unit (s := S2x512x256) off ![1, 512, 256] inb) (ix3 (0 : Fin 1) r c) = bs (ix3 e r c) := by
  subst ho
  refine congrArg bs ?_
  funext a
  apply Fin.ext
  fin_cases a
  · show e.val + 1 * 0 = e.val; omega
  · show 0 + 1 * r.val = r.val; omega
  · show 0 + 1 * c.val = c.val; omega

theorem bias_apply (h : Fin 4) : bias (F := Ideal) table k (ix3 (0 : Fin 1) (row4 h q) j)
    = (if inBand (if k.val = 0 then 0 else 128) q.val j.val then 0 else ⊥ : EReal) := by
  have hr : (row4 h q).val % 128 = q.val := by show (128 * h.val + q.val) % 128 = q.val; omega
  refine (ld3_apply table _ _ ⟨min k.val 1, by omega⟩ (off5_eq k) (row4 h q) j).trans ?_
  rw [table, stack_at]
  by_cases hk : k.val = 0
  · rw [if_pos (by show min k.val 1 = 0; omega), if_pos hk, mask_zero, hr]
  · rw [if_neg (by show ¬ min k.val 1 = 0; omega), if_neg hk, mask_next, hr]
end Reads

/-! ## The product over the lanes of one head -/

theorem sum_split (f : Fin 128 → EReal) : ∑ x, f x = (∑ d : Fin 64, f ⟨d.val, by omega⟩) + ∑ d : Fin 64, f ⟨64 + d.val, by omega⟩ :=
  Fin.sum_univ_add (a := 64) (b := 64) f

/-- A product whose left factor is kept only on the lanes of one head. -/
theorem sum_head (c : Fin 128 → BitVec 1) (e : ℕ) (p y : Fin 128 → EReal)
    (hc : ∀ x, c x = if x.val / 64 = e then 1#1 else 0#1) :
    ∑ x, Scalar.select (c x) (p x) 0 * y x
      = if h : e < 2 then ∑ d : Fin 64, p ⟨e * 64 + d.val, by omega⟩ * y ⟨e * 64 + d.val, by omega⟩ else 0 := by
  have hz : ∀ x : Fin 128, ¬ x.val / 64 = e → Scalar.select (c x) (p x) 0 * y x = 0 := fun x h => by
    rw [hc, if_neg h, select_zero, zero_mul]
  have hn : ∀ x : Fin 128, x.val / 64 = e → Scalar.select (c x) (p x) 0 * y x = p x * y x := fun x h => by
    rw [hc, if_pos h, select_one]
  rw [sum_split]
  by_cases h0 : e = 0
  · subst h0
    rw [dif_pos (by omega), Finset.sum_eq_zero (s := Finset.univ) (f := fun d : Fin 64 => Scalar.select (c ⟨64 + d.val, by omega⟩) (p ⟨64 + d.val, by omega⟩) 0 * y ⟨64 + d.val, by omega⟩)
      (fun d _ => hz _ (by show ¬ (64 + d.val) / 64 = 0; omega)), add_zero]
    refine Finset.sum_congr rfl fun d _ => ?_
    rw [hn _ (by show d.val / 64 = 0; omega)]
    congr 2 <;> exact Fin.ext (by show d.val = 0 * 64 + d.val; omega)
  · rw [Finset.sum_eq_zero (s := Finset.univ) (f := fun d : Fin 64 => Scalar.select (c ⟨d.val, by omega⟩) (p ⟨d.val, by omega⟩) 0 * y ⟨d.val, by omega⟩)
      (fun d _ => hz _ (by show ¬ d.val / 64 = e; omega)), zero_add]
    by_cases h1 : e = 1
    · subst h1
      rw [dif_pos (by omega)]
      refine Finset.sum_congr rfl fun d _ => ?_
      rw [hn _ (by show (64 + d.val) / 64 = 1; omega)]
    · rw [dif_neg (by omega)]
      exact Finset.sum_eq_zero fun d _ => hz _ (by show ¬ (64 + d.val) / 64 = e; omega)

section Score
variable (x0 : FVec Ideal S128x128 .bf16) (x1 : Vec Ideal S1x1x1x1x128x128 .bf16) (y0 y1 : Vec Ideal S1x1x1x1x256x128 .bf16) (bs : Vec Ideal S1x512x256 .f32)
  (q : Fin 128) (j : Fin 256)

/-- An entry of four stacked copies of a block, each kept where its own code is set. -/
def blk4 (c : Fin 4 → BitVec 1) (f : Fin 128 → EReal) (r : Fin 512) : EReal :=
  if h : r.val < 128 then Scalar.select (c 0) (f ⟨r.val, h⟩) 0
  else if h : r.val - 128 < 128 then Scalar.select (c 1) (f ⟨r.val - 128, h⟩) 0
  else if h : r.val - 128 - 128 < 128 then Scalar.select (c 2) (f ⟨r.val - 128 - 128, h⟩) 0
  else Scalar.select (c 3) (f ⟨r.val - 128 - 128 - 128, by omega⟩) 0

theorem blk4_row (c : Fin 4 → BitVec 1) (f : Fin 128 → EReal) (h : Fin 4) (q : Fin 128) : blk4 c f (row4 h q) = Scalar.select (c h) (f q) 0 := by
  have hq := q.isLt
  unfold blk4
  have hv : (row4 h q).val = 128 * h.val + q.val := rfl
  rcases (by decide : ∀ h : Fin 4, h = 0 ∨ h = 1 ∨ h = 2 ∨ h = 3) h with rfl | rfl | rfl | rfl
  · have hv' : (row4 (0 : Fin 4) q).val = 128 * 0 + q.val := hv
    rw [dif_pos (by omega)]
    exact congrArg (fun z => Scalar.select (c 0) (f z) 0) (Fin.ext (by show 128 * 0 + q.val = q.val; omega))
  · have hv' : (row4 (1 : Fin 4) q).val = 128 * 1 + q.val := hv
    rw [dif_neg (by omega), dif_pos (by omega)]
    exact congrArg (fun z => Scalar.select (c 1) (f z) 0) (Fin.ext (by show 128 * 1 + q.val - 128 = q.val; omega))
  · have hv' : (row4 (2 : Fin 4) q).val = 128 * 2 + q.val := hv
    rw [dif_neg (by omega), dif_neg (by omega), dif_pos (by omega)]
    exact congrArg (fun z => Scalar.select (c 2) (f z) 0) (Fin.ext (by show 128 * 2 + q.val - 128 - 128 = q.val; omega))
  · have hv' : (row4 (3 : Fin 4) q).val = 128 * 3 + q.val := hv
    rw [dif_neg (by omega), dif_neg (by omega), dif_neg (by omega)]
    exact congrArg (fun z => Scalar.select (c 3) (f z) 0) (Fin.ext (by show 128 * 3 + q.val - 128 - 128 - 128 = q.val; omega))

/-- The scores of the stacked rows, over both halves of lanes. -/
theorem score_stack (a b c d : IVec S1x256 1) (x0 : Vec Ideal S1x1x1x1x128x128 .bf16) (r : Fin 512) :
    k0_pay2 (F := Ideal) a b c d (k0_pay1 x0) x1 y0 y1 bs (ix2 r j)
      = (∑ x : Fin 128, blk4 (fun h => ![a, b, c, d] h (ix2 (0 : Fin 1) (⟨x.val, by omega⟩ : Fin 256))) (fun q => x0 (ix6 (0 : Fin 1) (0 : Fin 1) (0 : Fin 1) (0 : Fin 1) q x)) r * y0 (ix6 (0 : Fin 1) (0 : Fin 1) (0 : Fin 1) (0 : Fin 1) j x))
        + (∑ x : Fin 128, blk4 (fun h => ![a, b, c, d] h (ix2 (0 : Fin 1) (⟨128 + x.val, by omega⟩ : Fin 256))) (fun q => x1 (ix6 (0 : Fin 1) (0 : Fin 1) (0 : Fin 1) (0 : Fin 1) q x)) r * y1 (ix6 (0 : Fin 1) (0 : Fin 1) (0 : Fin 1) (0 : Fin 1) j x))
        + bs (ix3 (0 : Fin 1) r j) := by
  pointwise [k0_pay2, k0_pay1]
  rfl
end Score

/-- The code of a head, on every lane. -/
theorem lane_at (h : Fin 4) (l : Fin 256) : ![k0_pay24, k0_pay25, k0_pay26, k0_pay27] h (ix2 (0 : Fin 1) l) = if l.val / 64 = h.val then 1#1 else 0#1 := by
  rcases (by decide : ∀ h : Fin 4, h = 0 ∨ h = 1 ∨ h = 2 ∨ h = 3) h with rfl | rfl | rfl | rfl
  · exact lane0 l
  · exact lane1 l
  · exact lane2 l
  · exact lane3 l

/-- The score of a query and a key of one head: the product over the head's lanes, and the mask. -/
def score (x0 : Vec Ideal S1x3x2x1x4096x128 .bf16) (k : Fin k0_t1_loop.trips) (h : Fin 4) (q : Fin 128) (j : Fin 256) : EReal :=
  (∑ d : Fin 64, at6 x0 0 (halfH h) (qPos k q) (laneH h d) * at6 x0 1 (halfH h) (kPos k j) (laneH h d))
    + if inBand (if k.val = 0 then 0 else 128) q.val j.val then 0 else ⊥

theorem score_apply (x0 : Vec Ideal S1x3x2x1x4096x128 .bf16) (k : Fin k0_t1_loop.trips) (h : Fin 4) (q : Fin 128) (j : Fin 256) :
    k0_pay2 (F := Ideal) k0_pay24 k0_pay25 k0_pay26 k0_pay27 (k0_pay1 (q0 x0 k)) (q1 x0 k) (k0 x0 k) (k1 x0 k) (bias table k) (ix2 (row4 h q) j)
      = score x0 k h q j := by
  rw [score_stack, bias_apply, score]
  simp only [blk4_row, lane_at, q0_apply, q1_apply, k0_apply, k1_apply]
  congr 1
  have hh := h.isLt
  by_cases h2 : h.val < 2
  · rw [sum_head _ h.val (fun x => at6 x0 0 0 (qPos k q) x) (fun x => at6 x0 1 0 (kPos k j) x) (fun x => rfl), dif_pos h2,
      Finset.sum_eq_zero (s := Finset.univ) (f := fun x : Fin 128 => Scalar.select (if (128 + x.val) / 64 = h.val then 1#1 else 0#1) (at6 x0 0 1 (qPos k q) x) 0 * at6 x0 1 1 (kPos k j) x)
      (fun x _ => by rw [if_neg (by omega), select_zero, zero_mul]), add_zero]
    have e0 : (0 : Fin 2) = halfH h := Fin.ext (by show 0 = h.val / 2; omega)
    refine Finset.sum_congr rfl fun d _ => ?_
    have e1 : (⟨h.val * 64 + d.val, by omega⟩ : Fin 128) = laneH h d := Fin.ext (by show h.val * 64 + d.val = h.val % 2 * 64 + d.val; omega)
    rw [e1, e0]
  · rw [sum_head _ (h.val - 2) (fun x => at6 x0 0 1 (qPos k q) x) (fun x => at6 x0 1 1 (kPos k j) x)
        (fun x => if_congr (by constructor <;> intro _ <;> omega) rfl rfl), dif_pos (by omega),
      Finset.sum_eq_zero (s := Finset.univ) (f := fun x : Fin 128 => Scalar.select (if x.val / 64 = h.val then 1#1 else 0#1) (at6 x0 0 0 (qPos k q) x) 0 * at6 x0 1 0 (kPos k j) x)
      (fun x _ => by rw [if_neg (by omega), select_zero, zero_mul]), zero_add]
    have e0 : (1 : Fin 2) = halfH h := Fin.ext (by show 1 = h.val / 2; omega)
    refine Finset.sum_congr rfl fun d _ => ?_
    have e1 : (⟨(h.val - 2) * 64 + d.val, by omega⟩ : Fin 128) = laneH h d := Fin.ext (by show (h.val - 2) * 64 + d.val = h.val % 2 * 64 + d.val; omega)
    rw [e1, e0]

/-! ## What a trip stores -/

section Stored
open Attn.Row
variable (x0 : Vec Ideal S1x3x2x1x4096x128 .bf16) (k : Fin k0_t1_loop.trips)

theorem rowMax_apply (h : Fin 4) (q : Fin 128) : rowMax x0 table k (ix2 (row4 h q) (0 : Fin 1)) = max2 (score x0 k h q) := by
  rw [rowMax, max_apply, ofBits_bot, max2]
  exact congrArg (fun f => Finset.fold max ⊥ f Finset.univ) (funext fun j => score_apply x0 k h q j)
theorem exp4_apply (h : Fin 4) (q : Fin 128) (j : Fin 256) :
    k0_pay4 (F := Ideal) k0_pay24 k0_pay25 k0_pay26 k0_pay27 (k0_pay1 (q0 x0 k)) (q1 x0 k) (k0 x0 k) (k1 x0 k) (bias table k) (ix2 (row4 h q) j)
      = Ideal.exp2 (score x0 k h q j - max2 (score x0 k h q)) := by
  rw [exp_apply, score_apply]
  exact congrArg (fun z => Ideal.exp2 (score x0 k h q j - z)) (rowMax_apply x0 k h q)
theorem rowSum_apply (h : Fin 4) (q : Fin 128) : rowSum x0 table k (ix2 (row4 h q) (0 : Fin 1)) = den2 (score x0 k h q) := by
  rw [rowSum, sum_apply, den2]
  exact Finset.sum_congr rfl fun j _ => exp4_apply x0 k h q j
theorem acc_apply (q : Fin 128) (l : Fin 256) : acc x0 table k (ix2 q l)
    = num2 (score x0 k (headL l) q) (fun j => at6 x0 2 (halfL l) (kPos k j) (inHalf l)) := by
  rw [acc, fold7, num2]
  refine Finset.sum_congr rfl fun j _ => ?_
  rw [lanes_apply, weights, weight_apply, exp4_apply]

/-- The entry of the output that a trip stores, and of the logarithmic sums, at a row and a lane of the full row. -/
def oAt (q : Fin 128) (l : Fin 256) : EReal :=
  Ideal.div (num2 (score x0 k (headL l) q) (fun j => at6 x0 2 (halfL l) (kPos k j) (inHalf l))) (den2 (score x0 k (headL l) q))
def lAt (q : Fin 128) (l : Fin 256) : EReal :=
  max2 (score x0 k (headL l) q) + Ideal.div (Ideal.log (den2 (score x0 k (headL l) q))) ln2

variable (q l : Fin 128)
theorem oLo_apply : oLo x0 table k (ix5 (0 : Fin 1) (0 : Fin 1) (0 : Fin 1) q l) = oAt x0 k q (lo l) := by
  rw [oLo, out15, acc_apply, rowSum_apply]; rfl
theorem oHi_apply : oHi x0 table k (ix5 (0 : Fin 1) (0 : Fin 1) (0 : Fin 1) q l) = oAt x0 k q (hi l) := by
  rw [oHi, out17, acc_apply, rowSum_apply]; rfl
theorem lLo_apply : lLo x0 table k (ix5 (0 : Fin 1) (0 : Fin 1) (0 : Fin 1) q l) = lAt x0 k q (lo l) := by
  rw [lLo, out16, rowSum_apply, maxTok, fold8, rowMax_apply, log_two]; rfl
theorem lHi_apply : lHi x0 table k (ix5 (0 : Fin 1) (0 : Fin 1) (0 : Fin 1) q l) = lAt x0 k q (hi l) := by
  rw [lHi, out18, rowSum_apply, maxTok, fold8, rowMax_apply, log_two]; rfl

end Stored

end Cert.AttnKernelIdeal.Hand

end
-- ==== Proof.AttnRef.lean ====
/- The reference of the attention, in stages, each read at an index. -/
module

public import proofs.«01_k».proof.Proof.Gen.AttnReferenceIdeal.Run
public import Idealize.ShloMosaic.Lib.Pointwise

@[expose] public section

set_option maxRecDepth 16384

noncomputable section

namespace Cert.AttnReferenceIdeal.Hand

open Cert.AttnReferenceIdeal Cert.AttnReferenceIdeal.Gen Cert.AttnReferenceIdeal.Value
open Idealize.ShloMosaic Idealize.ShloMosaic.TcCoe

variable {F : FTy → Type} [FloatOps F]

/-- Queries, keys and values, head by head. -/
def split (A : FVec F S8x3x2x1x4096x128 .bf16) : FVec F S3x8x32x128x4x64 .f32 :=
  shapeCast _ (transpose S3x8x4096x1x2x128 [1, 0, 4, 3, 2, 5] (extf .f32 A bitsLt_bf16_f32) transposes_S8x3x2x1x4096x128_S3x8x4096x1x2x128_1_0_4_3_2_5) shapeCasts_S3x8x4096x1x2x128_S3x8x32x128x4x64
def part0 (A : FVec F S8x3x2x1x4096x128 .bf16) : FVec F S8x32x128x4x64 .f32 :=
  shapeCast _ (extractStridedSlice S1x8x32x128x4x64 ![0, 0, 0, 0, 0, 0] (split A) slices_S3x8x32x128x4x64_S1x8x32x128x4x64_0_0_0_0_0_0) shapeCasts_S1x8x32x128x4x64_S8x32x128x4x64
def part1 (A : FVec F S8x3x2x1x4096x128 .bf16) : FVec F S8x32x128x4x64 .f32 :=
  shapeCast _ (extractStridedSlice S1x8x32x128x4x64 ![1, 0, 0, 0, 0, 0] (split A) slices_S3x8x32x128x4x64_S1x8x32x128x4x64_1_0_0_0_0_0) shapeCasts_S1x8x32x128x4x64_S8x32x128x4x64
def part2 (A : FVec F S8x3x2x1x4096x128 .bf16) : FVec F S8x32x128x4x64 .f32 :=
  shapeCast _ (extractStridedSlice S1x8x32x128x4x64 ![2, 0, 0, 0, 0, 0] (split A) slices_S3x8x32x128x4x64_S1x8x32x128x4x64_2_0_0_0_0_0) shapeCasts_S1x8x32x128x4x64_S8x32x128x4x64
/-- A block of keys behind the block before it. -/
def withPrev (t : FVec F S8x32x128x4x64 .f32) : FVec F S8x32x256x4x64 .f32 :=
  concatenate S8x32x256x4x64 2 [⟨S8x32x128x4x64, (pad S8x32x128x4x64 ![0, 1, 0, 0, 0] ![0, 0, 0, 0, 0] ![0, 0, 0, 0, 0] (extractStridedSlice S8x31x128x4x64 ![0, 0, 0, 0, 0] t slices_S8x32x128x4x64_S8x31x128x4x64_0_0_0_0_0) (sitofp .f32 (constantI S_ 32 0#32)) pads_S8x31x128x4x64_S8x32x128x4x64_000_100_000_000_000 h_S_)⟩, ⟨S8x32x128x4x64, t⟩] concatenates_S8x32x128x4x64_S8x32x128x4x64_S8x32x256x4x64_d2
/-- The band of keys that a query sees. -/
def band : IVec S8x32x4x128x256 1 :=
  (broadcastInDim S8x32x4x128x256 ![0, 1, 2, 3, 4] bcast_S1x32x1x128x256_S8x32x4x128x256_0_1_2_3_4 (broadcastInDim S1x32x1x128x256 ![1, 3, 4] bcast_S32x128x256_S1x32x1x128x256_1_3_4 (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (ori (broadcastInDim S32x1x256 ![0, 1, 2] bcast_S32x1x1_S32x1x256_0_1_2 (cmpi .sgt (broadcastInDim S32x1x1 ![0] bcast_S32_S32x1x1_0 (iotaInDim S32 32 0)) (broadcastInDim S32x1x1 ![] bcast_S_S32x1x1 (constantI S_ 32 0#32)))) (broadcastInDim S32x1x256 ![0, 1, 2] bcast_S1x1x256_S32x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32))))))))))
def scoreR (A : FVec F S8x3x2x1x4096x128 .bf16) : FVec F S8x32x4x128x256 .f32 :=
  select band (Host.dotGeneral dot_S8x32x128x4x64_S8x32x256x4x64_S8x32x4x128x256_4_4_2_2_013_013 none (mulf (part0 A) (broadcastInDim S8x32x128x4x64 ![] bcast_S_S8x32x128x4x64 (Host.log (constant S_ .f32 0x40000000#32)))) (withPrev (part1 A))) (broadcastInDim S8x32x4x128x256 ![] bcast_S_S8x32x4x128x256 (id (constant S_ .f32 0xFF800000#32)))
def maxR (S : FVec F S8x32x4x128x256 .f32) : FVec F S8x32x4x128x1 .f32 :=
  broadcastInDim S8x32x4x128x1 ![0, 1, 2, 3] bcast_S8x32x4x128_S8x32x4x128x1_0_1_2_3 (Host.reduce FloatOps.maximumf S (constant S_ .f32 0xFF800000#32) reducesTo_S8x32x4x128x256_S8x32x4x128_d4 h_S_)
def expR (S : FVec F S8x32x4x128x256 .f32) : FVec F S8x32x4x128x256 .f32 :=
  Host.exp (subf S (broadcastInDim S8x32x4x128x256 ![0, 1, 2, 3, 4] bcast_S8x32x4x128x1_S8x32x4x128x256_0_1_2_3_4 (maxR S)))
def sumR (S : FVec F S8x32x4x128x256 .f32) : FVec F S8x32x4x128x1 .f32 :=
  broadcastInDim S8x32x4x128x1 ![0, 1, 2, 3] bcast_S8x32x4x128_S8x32x4x128x1_0_1_2_3 (Host.reduceAdd (expR S) (constant S_ .f32 0x00000000#32) reducesTo_S8x32x4x128x256_S8x32x4x128_d4 h_S_)
def outR (S : FVec F S8x32x4x128x256 .f32) (V : FVec F S8x32x256x4x64 .f32) : FVec F S8x2x1x4096x128 .f32 :=
  transpose S8x2x1x4096x128 [0, 3, 2, 1, 4] (shapeCast _ (Host.divf (transpose S8x32x128x4x64 [0, 1, 4, 2, 3] (Host.dotGeneral dot_S8x32x256x4x64_S8x32x4x128x256_S8x32x4x64x128_2_4_4_3_013_012 none V (expR S)) transposes_S8x32x4x64x128_S8x32x128x4x64_0_1_4_2_3) (broadcastInDim S8x32x128x4x64 ![0, 1, 2, 3, 4] bcast_S8x32x128x4x1_S8x32x128x4x64_0_1_2_3_4 (transpose S8x32x128x4x1 [0, 1, 3, 2, 4] (sumR S) transposes_S8x32x4x128x1_S8x32x128x4x1_0_1_3_2_4))) shapeCasts_S8x32x128x4x64_S8x4096x1x2x128) transposes_S8x4096x1x2x128_S8x2x1x4096x128_0_3_2_1_4
def lseA (S : FVec F S8x32x4x128x256 .f32) : FVec F S8x32x4x128x1 .f32 := addf (maxR S) (Host.log (sumR S))
def lseB (T : FVec F S8x32x4x128x1 .f32) : FVec F S8x32x128x4 .f32 :=
  transpose S8x32x128x4 [0, 1, 3, 2] (shapeCast _ T shapeCasts_S8x32x4x128x1_S8x32x4x128) transposes_S8x32x4x128_S8x32x128x4_0_1_3_2
def lseC (T : FVec F S8x32x128x4 .f32) : FVec F S8x32x128x4x64 .f32 :=
  broadcastInDim S8x32x128x4x64 ![0, 1, 2, 3, 4] bcast_S8x32x128x4x1_S8x32x128x4x64_0_1_2_3_4 (broadcastInDim S8x32x128x4x1 ![0, 1, 2, 3] bcast_S8x32x128x4_S8x32x128x4x1_0_1_2_3 (Host.divf T (broadcastInDim S8x32x128x4 ![] bcast_S_S8x32x128x4 (Host.log (constant S_ .f32 0x40000000#32)))))
def lseD (T : FVec F S8x32x128x4x64 .f32) : FVec F S8x2x1x4096x128 .f32 :=
  transpose S8x2x1x4096x128 [0, 3, 2, 1, 4] (shapeCast _ T shapeCasts_S8x32x128x4x64_S8x4096x1x2x128) transposes_S8x4096x1x2x128_S8x2x1x4096x128_0_3_2_1_4
def lseR (S : FVec F S8x32x4x128x256 .f32) : FVec F S8x2x1x4096x128 .f32 := lseD (lseC (lseB (lseA S)))

variable (m : (ℓ : Loc nD τ sig) → Buf (Elt F) ℓ) (c : Dev nD)

theorem out_eq : res_main_v70 m c = outR (scoreR (m ((c.tc : Thread nD τ).loc main_arg0))) (withPrev (part2 (m ((c.tc : Thread nD τ).loc main_arg0)))) := rfl
theorem lse_eq : res_main_v72 m c = lseR (scoreR (m ((c.tc : Thread nD τ).loc main_arg0))) := rfl

/-! ## The stages at an index, over the extended reals -/

section AtIndex
variable (A : FVec Ideal S8x3x2x1x4096x128 .bf16) (t : FVec Ideal S8x32x128x4x64 .f32) (S : FVec Ideal S8x32x4x128x256 .f32) (V : FVec Ideal S8x32x256x4x64 .f32)

theorem part0_apply (b : Fin 8) (n : Fin 32) (q : Fin 128) (h : Fin 4) (d : Fin 64) :
    part0 A (ix5 b n q h d) = A (ix6 b (0 : Fin 3) (⟨h.val / 2, by omega⟩ : Fin 2) (0 : Fin 1) (⟨n.val * 128 + q.val, by omega⟩ : Fin 4096) (⟨h.val % 2 * 64 + d.val, by omega⟩ : Fin 128)) := by
  pointwise [part0, split]
theorem part1_apply (b : Fin 8) (n : Fin 32) (q : Fin 128) (h : Fin 4) (d : Fin 64) :
    part1 A (ix5 b n q h d) = A (ix6 b (1 : Fin 3) (⟨h.val / 2, by omega⟩ : Fin 2) (0 : Fin 1) (⟨n.val * 128 + q.val, by omega⟩ : Fin 4096) (⟨h.val % 2 * 64 + d.val, by omega⟩ : Fin 128)) := by
  pointwise [part1, split]
theorem part2_apply (b : Fin 8) (n : Fin 32) (q : Fin 128) (h : Fin 4) (d : Fin 64) :
    part2 A (ix5 b n q h d) = A (ix6 b (2 : Fin 3) (⟨h.val / 2, by omega⟩ : Fin 2) (0 : Fin 1) (⟨n.val * 128 + q.val, by omega⟩ : Fin 4096) (⟨h.val % 2 * 64 + d.val, by omega⟩ : Fin 128)) := by
  pointwise [part2, split]

theorem withPrev_apply (b : Fin 8) (n : Fin 32) (j : Fin 256) (h : Fin 4) (d : Fin 64) :
    withPrev t (ix5 b n j h d) = if hj : j.val < 128 then
      (if hn : 1 ≤ n.val then t (ix5 b (⟨n.val - 1, by omega⟩ : Fin 32) (⟨j.val, hj⟩ : Fin 128) h d) else FloatOps.sitofp .f32 0#32)
      else t (ix5 b n (⟨j.val - 128, by omega⟩ : Fin 128) h d) := by
  pointwise [withPrev]
  by_cases hj : j.val < 128
  · rw [dif_pos hj, dif_pos hj]
    by_cases hn : 1 ≤ n.val
    · rw [dif_pos hn, dif_pos ⟨⟨hn, by omega⟩, hj⟩]
    · rw [dif_neg hn, dif_neg fun h' => hn h'.1.1]
  · rw [dif_neg hj, dif_neg hj]

theorem scoreR_apply (b : Fin 8) (n : Fin 32) (h : Fin 4) (q : Fin 128) (j : Fin 256) :
    scoreR A (ix5 b n h q j) = Scalar.select (band (ix5 b n h q j))
      (∑ x : Fin 64, part0 A (ix5 b n q h x) * Ideal.log (Ideal.ofBits .f32 0x40000000#32) * withPrev (part1 A) (ix5 b n j h x)) (Ideal.ofBits .f32 0xFF800000#32) := by
  pointwise [scoreR]
  rfl
theorem band_apply (b : Fin 8) (n : Fin 32) (h : Fin 4) (q : Fin 128) (j : Fin 256) :
    band (ix5 b n h q j) = IntOp.andi (IntOp.andi
        (IntOp.cmpi CmpIPredicate.sge (IntOp.subi (IntOp.addi (128#32) (BitVec.ofNat 32 q.val)) (BitVec.ofNat 32 j.val)) 0#32)
        (IntOp.cmpi CmpIPredicate.sle (IntOp.subi (IntOp.addi (128#32) (BitVec.ofNat 32 q.val)) (BitVec.ofNat 32 j.val)) 128#32))
      (IntOp.ori (IntOp.cmpi CmpIPredicate.sgt (BitVec.ofNat 32 n.val) 0#32) (IntOp.cmpi CmpIPredicate.sge (BitVec.ofNat 32 j.val) 128#32)) := by
  pointwise [band]

theorem maxR_apply (b : Fin 8) (n : Fin 32) (h : Fin 4) (q : Fin 128) :
    maxR S (ix5 b n h q (0 : Fin 1)) = Finset.fold max (Ideal.ofBits .f32 0xFF800000#32) (fun x => S (ix5 b n h q x)) Finset.univ := by
  pointwise [maxR]
theorem expR_apply (b : Fin 8) (n : Fin 32) (h : Fin 4) (q : Fin 128) (j : Fin 256) :
    expR S (ix5 b n h q j) = Ideal.exp (S (ix5 b n h q j) - maxR S (ix5 b n h q (0 : Fin 1))) := by
  pointwise [expR]
theorem sumR_apply (b : Fin 8) (n : Fin 32) (h : Fin 4) (q : Fin 128) :
    sumR S (ix5 b n h q (0 : Fin 1)) = ∑ x : Fin 256, expR S (ix5 b n h q x) := by
  pointwise [sumR]

/-- The head a lane of a half belongs to, and its lane in the head. -/
abbrev headOf (g : Fin 2) (l : Fin 128) : Fin 4 := ⟨g.val * 2 + l.val / 64, by omega⟩
abbrev laneOf (l : Fin 128) : Fin 64 := ⟨l.val % 64, by omega⟩
abbrev blkOf (r : Fin 4096) : Fin 32 := ⟨r.val / 128, by omega⟩
abbrev rowOf (r : Fin 4096) : Fin 128 := ⟨r.val % 128, by omega⟩

theorem outR_apply (b : Fin 8) (g : Fin 2) (n : Fin 4096) (l : Fin 128) :
    outR S V (ix5 b g (0 : Fin 1) n l) = Ideal.div
      (∑ x : Fin 256, V (ix5 b (blkOf n) x (headOf g l) (laneOf l)) * expR S (ix5 b (blkOf n) (headOf g l) (rowOf n) x))
      (sumR S (ix5 b (blkOf n) (headOf g l) (rowOf n) (0 : Fin 1))) := by
  pointwise [outR]
theorem add_log_apply (X Y : FVec Ideal S8x32x4x128x1 .f32) (i : S8x32x4x128x1.Idx) : addf X (Host.log Y) i = X i + Ideal.log (Y i) := rfl
theorem lseA_apply (b : Fin 8) (n : Fin 32) (h : Fin 4) (q : Fin 128) :
    lseA S (ix5 b n h q (0 : Fin 1)) = maxR S (ix5 b n h q (0 : Fin 1)) + Ideal.log (sumR S (ix5 b n h q (0 : Fin 1))) := by
  exact add_log_apply _ _ _
theorem lseB_apply (T : FVec Ideal S8x32x4x128x1 .f32) (b : Fin 8) (n : Fin 32) (q : Fin 128) (h : Fin 4) :
    lseB T (ix4 b n q h) = T (ix5 b n h q (0 : Fin 1)) := by
  pointwise [lseB]
theorem lseC_apply (T : FVec Ideal S8x32x128x4 .f32) (b : Fin 8) (n : Fin 32) (q : Fin 128) (h : Fin 4) (d : Fin 64) :
    lseC T (ix5 b n q h d) = Ideal.div (T (ix4 b n q h)) (Ideal.log (Ideal.ofBits .f32 0x40000000#32)) := by
  pointwise [lseC]
theorem lseD_apply (T : FVec Ideal S8x32x128x4x64 .f32) (b : Fin 8) (g : Fin 2) (n : Fin 4096) (l : Fin 128) :
    lseD T (ix5 b g (0 : Fin 1) n l) = T (ix5 b (blkOf n) (rowOf n) (headOf g l) (laneOf l)) := by
  pointwise [lseD]
theorem lseR_apply (b : Fin 8) (g : Fin 2) (n : Fin 4096) (l : Fin 128) :
    lseR S (ix5 b g (0 : Fin 1) n l) = Ideal.div
      (maxR S (ix5 b (blkOf n) (headOf g l) (rowOf n) (0 : Fin 1)) + Ideal.log (sumR S (ix5 b (blkOf n) (headOf g l) (rowOf n) (0 : Fin 1))))
      (Ideal.log (Ideal.ofBits .f32 0x40000000#32)) := by
  rw [lseR, lseD_apply, lseC_apply, lseB_apply, lseA_apply]
end AtIndex

end Cert.AttnReferenceIdeal.Hand

end
-- ==== Proof.AttnEq.lean ====
/- The attention kernel's block of one batch entry is the reference's, index by index. -/
module

public import proofs.«01_k».proof.Proof.AttnScore
public import proofs.«01_k».proof.Proof.AttnRef

@[expose] public section

set_option maxRecDepth 16384

noncomputable section

namespace Attn

open Idealize.ShloMosaic Idealize.ShloMosaic.TcCoe
open Cert.AttnKernelIdeal Cert.AttnKernelIdeal.Gen Cert.AttnKernelIdeal.Hand
open Attn.Row
open Cert.AttnReferenceIdeal.Hand (scoreR withPrev part0 part1 part2 outR lseR expR sumR maxR band)

/-! ## The mask of the reference -/

theorem word_comm (a b c : BitVec 32) : IntOp.subi (IntOp.addi a b) c = IntOp.addi (IntOp.subi b c) a := by
  show a + b - c = b - c + a
  rw [BitVec.add_comm a b, BitVec.sub_eq_add_neg, BitVec.sub_eq_add_neg, BitVec.add_assoc, BitVec.add_assoc, BitVec.add_comm a]

theorem gt_word : ∀ n : Fin 32, IntOp.cmpi CmpIPredicate.sgt (BitVec.ofNat 32 n.val) 0#32 = if 0 < n.val then 1#1 else 0#1 := by decide +kernel
theorem ge_word : ∀ j : Fin 256, IntOp.cmpi CmpIPredicate.sge (BitVec.ofNat 32 j.val) 128#32 = if 128 ≤ j.val then 1#1 else 0#1 := by decide +kernel

/-- Where the reference keeps a score. -/
def keeps (n : Fin 32) (q : Fin 128) (j : Fin 256) : Prop := inBand 128 q.val j.val ∧ (0 < n.val ∨ 128 ≤ j.val)

theorem band_of (b : Fin 8) (n : Fin 32) (h : Fin 4) (q : Fin 128) (j : Fin 256) (hk : keeps n q j) : band (ix5 b n h q j) = 1#1 := by
  rw [Cert.AttnReferenceIdeal.Hand.band_apply, word_comm, band_next, gt_word, ge_word, if_pos hk.1]
  rcases hk.2 with h | h
  · rw [if_pos h]; split <;> rfl
  · rw [if_pos h]; split <;> rfl
theorem band_of_not (b : Fin 8) (n : Fin 32) (h : Fin 4) (q : Fin 128) (j : Fin 256) (hk : ¬ keeps n q j) : band (ix5 b n h q j) = 0#1 := by
  rw [Cert.AttnReferenceIdeal.Hand.band_apply, word_comm, band_next, gt_word, ge_word]
  by_cases h1 : inBand 128 q.val j.val
  · have h2 : ¬ 0 < n.val := fun h => hk ⟨h1, .inl h⟩
    have h3 : ¬ 128 ≤ j.val := fun h => hk ⟨h1, .inr h⟩
    rw [if_pos h1, if_neg h2, if_neg h3]; rfl
  · rw [if_neg h1]; split <;> split <;> rfl

/-! ## The order of the keys: the first block lists its own keys first -/

/-- The two halves of the keys exchanged. -/
def turn : Fin 256 ≃ Fin 256 where
  toFun j := ⟨(j.val + 128) % 256, by omega⟩
  invFun j := ⟨(j.val + 128) % 256, by omega⟩
  left_inv j := Fin.ext (by show ((j.val + 128) % 256 + 128) % 256 = j.val; omega)
  right_inv j := Fin.ext (by show ((j.val + 128) % 256 + 128) % 256 = j.val; omega)

def order (n : Fin 32) : Fin 256 ≃ Fin 256 := if n.val = 0 then turn else Equiv.refl _

theorem order_zero (n : Fin 32) (h : n.val = 0) (j : Fin 256) : (order n j).val = (j.val + 128) % 256 := by rw [order, if_pos h]; rfl
theorem order_pos (n : Fin 32) (h : ¬ n.val = 0) (j : Fin 256) : order n j = j := by rw [order, if_neg h]; rfl

theorem keeps_iff (n : Fin 32) (q : Fin 128) (j : Fin 256) : keeps n q j ↔ inBand (if n.val = 0 then 0 else 128) q.val (order n j).val := by
  unfold keeps inBand
  by_cases h : n.val = 0
  · rw [order_zero n h, if_pos h]; omega
  · rw [order_pos n h, if_neg h]; omega

/-- Where a kept key lies, in the reference's order. -/
theorem withPrev_kept (t : FVec Ideal Cert.AttnReferenceIdeal.S8x32x128x4x64 .f32) (A : Vec Ideal Cert.AttnReferenceIdeal.S8x3x2x1x4096x128 .bf16) (p : Fin 3)
    (ht : ∀ (b : Fin 8) (n : Fin 32) (q : Fin 128) (h : Fin 4) (d : Fin 64), t (ix5 b n q h d)
      = A (ix6 b p (halfH h) (0 : Fin 1) (⟨n.val * 128 + q.val, by omega⟩ : Fin 4096) (laneH h d)))
    (b : Fin 8) (n : Fin 32) (j : Fin 256) (h : Fin 4) (d : Fin 64) (q : Fin 128) (hk : keeps n q j) :
    withPrev (F := Ideal) t (ix5 b n j h d) = A (ix6 b p (halfH h) (0 : Fin 1) (kPos (tripOf n) (order n j)) (laneH h d)) := by
  rw [Cert.AttnReferenceIdeal.Hand.withPrev_apply]
  have hpos : ∀ m : Fin 4096, m.val = 128 * (n.val - 1) + (order n j).val → m = kPos (tripOf n) (order n j) := fun m hm => Fin.ext hm
  by_cases hj : j.val < 128
  · have hn : 0 < n.val := by rcases hk.2 with h | h <;> omega
    rw [dif_pos hj, dif_pos (show 1 ≤ n.val by omega), ht]
    rw [hpos ⟨(n.val - 1) * 128 + j.val, by omega⟩ (by rw [order_pos n (by omega)]; show (n.val - 1) * 128 + j.val = _; omega)]
  · rw [dif_neg hj, ht]
    rw [hpos ⟨n.val * 128 + (j.val - 128), by omega⟩ (by
      show n.val * 128 + (j.val - 128) = _
      by_cases h : n.val = 0
      · rw [order_zero n h]; omega
      · rw [order_pos n h]; omega)]

/-! ## One row -/

section Row
variable (A : Vec Ideal Cert.AttnReferenceIdeal.S8x3x2x1x4096x128 .bf16) (x0 : Vec Ideal S1x3x2x1x4096x128 .bf16) (b : Fin 8)
  (hx : ∀ (p : Fin 3) (g : Fin 2) (n : Fin 4096) (l : Fin 128), at6 x0 p g n l = A (ix6 b p g (0 : Fin 1) n l))
include hx

theorem score_eq (n : Fin 32) (h : Fin 4) (q : Fin 128) (j : Fin 256) :
    scoreR (F := Ideal) A (ix5 b n h q j) = score x0 (tripOf n) h q (order n j) * ln2 := by
  rw [Cert.AttnReferenceIdeal.Hand.scoreR_apply, score]
  have hk := keeps_iff n q j
  by_cases hb : keeps n q j
  · rw [band_of b n h q j hb, select_one, if_pos (show inBand (if (tripOf n).val = 0 then 0 else 128) q.val (order n j).val from hk.mp hb), add_zero, sum_mul_ln2]
    refine Finset.sum_congr rfl fun d _ => ?_
    rw [withPrev_kept (part1 A) A 1 (Cert.AttnReferenceIdeal.Hand.part1_apply A) b n j h d q hb, Cert.AttnReferenceIdeal.Hand.part0_apply, hx, hx, log_two, mul_right_comm,
      show (⟨n.val * 128 + q.val, by omega⟩ : Fin 4096) = qPos (tripOf n) q from Fin.ext (by show n.val * 128 + q.val = 128 * n.val + q.val; omega)]
  · rw [band_of_not b n h q j hb, select_zero, if_neg (show ¬ inBand (if (tripOf n).val = 0 then 0 else 128) q.val (order n j).val from fun h' => hb (hk.mpr h')), EReal.add_bot, bot_mul_ln2]
    exact ofBits_bot

theorem value_eq (n : Fin 32) (h : Fin 4) (q : Fin 128) (d : Fin 64) (j : Fin 256) :
    scoreR (F := Ideal) A (ix5 b n h q j) = ⊥ ∨ withPrev (F := Ideal) (part2 A) (ix5 b n j h d) = at6 x0 2 (halfH h) (kPos (tripOf n) (order n j)) (laneH h d) := by
  by_cases hb : keeps n q j
  · right
    rw [withPrev_kept (part2 A) A 2 (Cert.AttnReferenceIdeal.Hand.part2_apply A) b n j h d q hb, hx]
  · left
    rw [Cert.AttnReferenceIdeal.Hand.scoreR_apply, band_of_not b n h q j hb, select_zero]
    exact ofBits_bot

/-- A lane of a half as a lane of the full row. -/
abbrev full (g : Fin 2) (l : Fin 128) : Fin 256 := ⟨128 * g.val + l.val, by omega⟩

theorem head_full (g : Fin 2) (l : Fin 128) : Cert.AttnReferenceIdeal.Hand.headOf g l = headL (full g l) :=
  Fin.ext (by show g.val * 2 + l.val / 64 = (128 * g.val + l.val) / 64; omega)

theorem out_row (g : Fin 2) (n : Fin 4096) (l : Fin 128) :
    outR (F := Ideal) (scoreR (F := Ideal) A) (withPrev (F := Ideal) (part2 A)) (ix5 b g (0 : Fin 1) n l) = oAt x0 (tripOf (Hand.blkOf n)) (Hand.rowOf n) (full g l) := by
  rw [Cert.AttnReferenceIdeal.Hand.outR_apply, Cert.AttnReferenceIdeal.Hand.sumR_apply, head_full A x0 b hx, oAt]
  simp only [Cert.AttnReferenceIdeal.Hand.expR_apply, Cert.AttnReferenceIdeal.Hand.maxR_apply, ofBits_bot]
  have e1 : halfH (headL (full g l)) = halfL (full g l) := Fin.ext (by show (128 * g.val + l.val) / 64 / 2 = (128 * g.val + l.val) / 128; omega)
  have e2 : laneH (headL (full g l)) (Cert.AttnReferenceIdeal.Hand.laneOf l) = inHalf (full g l) :=
    Fin.ext (by show (128 * g.val + l.val) / 64 % 2 * 64 + l.val % 64 = (128 * g.val + l.val) % 128; omega)
  rw [← e1, ← e2]
  rw [num_eq (order (Hand.blkOf n)) (score x0 (tripOf (Hand.blkOf n)) (headL (full g l)) (Hand.rowOf n))
      (fun j => at6 x0 2 (halfH (headL (full g l))) (kPos (tripOf (Hand.blkOf n)) j) (laneH (headL (full g l)) (Cert.AttnReferenceIdeal.Hand.laneOf l))) _ _
      (fun j => score_eq A x0 b hx (Hand.blkOf n) (headL (full g l)) (Hand.rowOf n) j)
      (fun j => value_eq A x0 b hx (Hand.blkOf n) (headL (full g l)) (Hand.rowOf n) (Cert.AttnReferenceIdeal.Hand.laneOf l) j),
    den_eq (order (Hand.blkOf n)) (score x0 (tripOf (Hand.blkOf n)) (headL (full g l)) (Hand.rowOf n)) _
      (fun j => score_eq A x0 b hx (Hand.blkOf n) (headL (full g l)) (Hand.rowOf n) j)]

theorem lse_row (g : Fin 2) (n : Fin 4096) (l : Fin 128) :
    lseR (F := Ideal) (scoreR (F := Ideal) A) (ix5 b g (0 : Fin 1) n l) = lAt x0 (tripOf (Hand.blkOf n)) (Hand.rowOf n) (full g l) := by
  rw [Cert.AttnReferenceIdeal.Hand.lseR_apply, Cert.AttnReferenceIdeal.Hand.sumR_apply, head_full A x0 b hx, lAt, log_two]
  simp only [Cert.AttnReferenceIdeal.Hand.expR_apply, Cert.AttnReferenceIdeal.Hand.maxR_apply, ofBits_bot]
  exact lse_eq (order (Hand.blkOf n)) (score x0 (tripOf (Hand.blkOf n)) (headL (full g l)) (Hand.rowOf n)) _
      (fun j => score_eq A x0 b hx (Hand.blkOf n) (headL (full g l)) (Hand.rowOf n) j)

/-! ## The blocks -/

theorem assemble_at (lo' hi' : Fin k0_t1_loop.trips → FVec Ideal S1x1x1x128x128 .f32) (g : Fin 2) (n : Fin 4096) (l : Fin 128) :
    assemble lo' hi' (ix5 (0 : Fin 1) g (0 : Fin 1) n l) = if g.val = 0 then lo' (tripOf (Hand.blkOf n)) (ix5 (0 : Fin 1) (0 : Fin 1) (0 : Fin 1) (Hand.rowOf n) l)
      else hi' (tripOf (Hand.blkOf n)) (ix5 (0 : Fin 1) (0 : Fin 1) (0 : Fin 1) (Hand.rowOf n) l) := rfl

theorem oBlk_eq (g : Fin 2) (n : Fin 4096) (l : Fin 128) :
    oBlk x0 (ix5 (0 : Fin 1) g (0 : Fin 1) n l) = outR (F := Ideal) (scoreR (F := Ideal) A) (withPrev (F := Ideal) (part2 A)) (ix5 b g (0 : Fin 1) n l) := by
  rw [out_row A x0 b hx, oBlk, assemble_at A x0 b hx]
  by_cases h : g.val = 0
  · rw [if_pos h, oLo_apply, show lo l = full g l from Fin.ext (by show l.val = 128 * g.val + l.val; omega)]
  · rw [if_neg h, oHi_apply, show hi l = full g l from Fin.ext (by show 128 + l.val = 128 * g.val + l.val; omega)]

theorem lBlk_eq (g : Fin 2) (n : Fin 4096) (l : Fin 128) :
    lBlk x0 (ix5 (0 : Fin 1) g (0 : Fin 1) n l) = lseR (F := Ideal) (scoreR (F := Ideal) A) (ix5 b g (0 : Fin 1) n l) := by
  rw [lse_row A x0 b hx, lBlk, assemble_at A x0 b hx]
  by_cases h : g.val = 0
  · rw [if_pos h, lLo_apply, show lo l = full g l from Fin.ext (by show l.val = 128 * g.val + l.val; omega)]
  · rw [if_neg h, lHi_apply, show hi l = full g l from Fin.ext (by show 128 + l.val = 128 * g.val + l.val; omega)]

end Row

end Attn

end
-- ==== Proof.AttnClaim.lean ====
/- The attention kernel's result arrays are the reference's, and the claims about it. -/
module

public import proofs.«01_k».proof.Proof.AttnRun
public import proofs.«01_k».proof.Proof.AttnEq
public import proofs.«01_k».proof.Proof.Gen.AttnKernel.Frame
public import proofs.«01_k».proof.Defs
public import Idealize.ShloMosaic.Lib.Quiescent

@[expose] public section

set_option maxRecDepth 16384

noncomputable section

namespace Cert.AttnKernelIdeal.Hand

open Cert.AttnKernelIdeal Cert.AttnKernelIdeal.Gen
open Idealize.ShloMosaic Idealize.ShloMosaic.TcCoe Idealize.SL.Sem
open Idealize.ShloMosaic.Pipeline (Dat)
open Cert.AttnReferenceIdeal.Hand (scoreR withPrev part2 outR lseR)

variable (m : (ℓ : Loc nD τ sig) → Buf (Elt Ideal) ℓ) (ρ : Dev nD → PrngReg)

/-- The batch entry of a grid point. -/
abbrev entry (t : Fin cfg0.N) : Fin 8 := ⟨t.val, by have h : cfg0.N = 8 := N_0; omega⟩

/-- Where the blocks of a grid point lie. -/
theorem index0 : ∀ t : Fin cfg0.N, win0_0.index t = ![t.val, 0, 0, 0, 0, 0] := by decide +kernel
theorem index1 : ∀ t : Fin cfg0.N, win0_1.index t = ![t.val, 0, 0, 0, 0] := by decide +kernel
theorem index2 : ∀ t : Fin cfg0.N, win0_2.index t = ![t.val, 0, 0, 0, 0] := by decide +kernel

/-- The staged block of a grid point is the batch entry of the argument. -/
theorem iblk_apply (c : Dev nD) (t : Fin cfg0.N) (p : Fin 3) (g : Fin 2) (n : Fin 4096) (l : Fin 128) :
    at6 (iblk m c 0 t) p g n l = m ((c : Thread nD τ).loc main_arg0) (ix6 (entry t) p g (0 : Fin 1) n l) := by
  refine congrArg (m ((c : Thread nD τ).loc main_arg0)) ?_
  funext a
  apply Fin.ext
  have e : ∀ a, (win0_0.index t) a = (![t.val, 0, 0, 0, 0, 0] : Fin 6 → ℕ) a := fun a => congrFun (index0 t) a
  fin_cases a
  · show win0_0.index t 0 * 1 + 1 * 0 = t.val; rw [e 0]; show t.val * 1 + 1 * 0 = t.val; omega
  · show win0_0.index t 1 * 3 + 1 * p.val = p.val; rw [e 1]; show 0 * 3 + 1 * p.val = p.val; omega
  · show win0_0.index t 2 * 2 + 1 * g.val = g.val; rw [e 2]; show 0 * 2 + 1 * g.val = g.val; omega
  · show win0_0.index t 3 * 1 + 1 * 0 = 0; rw [e 3]; rfl
  · show win0_0.index t 4 * 4096 + 1 * n.val = n.val; rw [e 4]; show 0 * 4096 + 1 * n.val = n.val; omega
  · show win0_0.index t 5 * 128 + 1 * l.val = l.val; rw [e 5]; show 0 * 128 + 1 * l.val = l.val; omega

/-- The reference's two arrays of the kernel's argument. -/
def oWhole (c : Dev nD) : Buf (Elt Ideal) ((c : Thread nD τ).loc main_v0_0) :=
  outR (F := Ideal) (scoreR (F := Ideal) (m ((c : Thread nD τ).loc main_arg0))) (withPrev (F := Ideal) (part2 (m ((c : Thread nD τ).loc main_arg0))))
def lWhole (c : Dev nD) : Buf (Elt Ideal) ((c : Thread nD τ).loc main_v0_1) :=
  lseR (F := Ideal) (scoreR (F := Ideal) (m ((c : Thread nD τ).loc main_arg0)))

theorem eq_ix5_block (x : (S1x2x1x4096x128 : Shape).Idx) : x = ix5 (0 : Fin 1) (x 1) (0 : Fin 1) (x 3) (x 4) := by
  refine (eq_ix5 x).trans ?_
  congr 1 <;> exact Subsingleton.elim (α := Fin 1) _ _

theorem emb1 (t : Fin cfg0.N) (g : Fin 2) (n : Fin 4096) (l : Fin 128) :
    (win0_1.rect t).emb (ix5 (0 : Fin 1) g (0 : Fin 1) n l) = ix5 (entry t) g (0 : Fin 1) n l := by
  funext a
  apply Fin.ext
  have e : ∀ a, (win0_1.index t) a = (![t.val, 0, 0, 0, 0] : Fin 5 → ℕ) a := fun a => congrFun (index1 t) a
  fin_cases a
  · show win0_1.index t 0 * 1 + 1 * 0 = t.val; rw [e 0]; show t.val * 1 + 1 * 0 = t.val; omega
  · show win0_1.index t 1 * 2 + 1 * g.val = g.val; rw [e 1]; show 0 * 2 + 1 * g.val = g.val; omega
  · show win0_1.index t 2 * 1 + 1 * 0 = 0; rw [e 2]; rfl
  · show win0_1.index t 3 * 4096 + 1 * n.val = n.val; rw [e 3]; show 0 * 4096 + 1 * n.val = n.val; omega
  · show win0_1.index t 4 * 128 + 1 * l.val = l.val; rw [e 4]; show 0 * 128 + 1 * l.val = l.val; omega
theorem emb2 (t : Fin cfg0.N) (g : Fin 2) (n : Fin 4096) (l : Fin 128) :
    (win0_2.rect t).emb (ix5 (0 : Fin 1) g (0 : Fin 1) n l) = ix5 (entry t) g (0 : Fin 1) n l := by
  funext a
  apply Fin.ext
  have e : ∀ a, (win0_2.index t) a = (![t.val, 0, 0, 0, 0] : Fin 5 → ℕ) a := fun a => congrFun (index2 t) a
  fin_cases a
  · show win0_2.index t 0 * 1 + 1 * 0 = t.val; rw [e 0]; show t.val * 1 + 1 * 0 = t.val; omega
  · show win0_2.index t 1 * 2 + 1 * g.val = g.val; rw [e 1]; show 0 * 2 + 1 * g.val = g.val; omega
  · show win0_2.index t 2 * 1 + 1 * 0 = 0; rw [e 2]; rfl
  · show win0_2.index t 3 * 4096 + 1 * n.val = n.val; rw [e 3]; show 0 * 4096 + 1 * n.val = n.val; omega
  · show win0_2.index t 4 * 128 + 1 * l.val = l.val; rw [e 4]; show 0 * 128 + 1 * l.val = l.val; omega

theorem flushed1 (c : Dev nD) (t : Fin cfg0.N) : (dats m 0 c).flushed 1 t = (win0_1.blk t).view.read (Elt Ideal) (oWhole m c) := by
  show (cfg0.win 1).cut (grid0.coords t) ((dats m 0 c).after 1 t) = _
  rw [after1]
  funext x
  show oBlk (iblk m c 0 t) x = oWhole m c ((win0_1.rect t).emb x)
  obtain ⟨g, n, l, rfl⟩ : ∃ (g : Fin 2) (n : Fin 4096) (l : Fin 128), x = ix5 (0 : Fin 1) g (0 : Fin 1) n l := ⟨x 1, x 3, x 4, eq_ix5_block x⟩
  exact (Attn.oBlk_eq (m ((c : Thread nD τ).loc main_arg0)) (iblk m c 0 t) (entry t) (iblk_apply m c t) g n l).trans (congrArg (oWhole m c) (emb1 t g n l)).symm
theorem flushed2 (c : Dev nD) (t : Fin cfg0.N) : (dats m 0 c).flushed 2 t = (win0_2.blk t).view.read (Elt Ideal) (lWhole m c) := by
  show (cfg0.win 2).cut (grid0.coords t) ((dats m 0 c).after 2 t) = _
  rw [after2]
  funext x
  show lBlk (iblk m c 0 t) x = lWhole m c ((win0_2.rect t).emb x)
  obtain ⟨g, n, l, rfl⟩ : ∃ (g : Fin 2) (n : Fin 4096) (l : Fin 128), x = ix5 (0 : Fin 1) g (0 : Fin 1) n l := ⟨x 1, x 3, x 4, eq_ix5_block x⟩
  exact (Attn.lBlk_eq (m ((c : Thread nD τ).loc main_arg0)) (iblk m c 0 t) (entry t) (iblk_apply m c t) g n l).trans (congrArg (lWhole m c) (emb2 t g n l)).symm

theorem eq_ix5_array (i : (S8x2x1x4096x128 : Shape).Idx) : i = ix5 (i 0) (i 1) (0 : Fin 1) (i 3) (i 4) := by
  refine (eq_ix5 i).trans ?_
  congr 1; exact Subsingleton.elim (α := Fin 1) _ _

theorem cover1 (i : S8x2x1x4096x128.Idx) : ∃ t : Fin cfg0.N, (cfg0.win 1).flush t = true ∧ i ∈ ((cfg0.win 1).blk t).view.set := by
  have h0 : (i 0 : ℕ) < 8 := (i 0).isLt
  have hN : cfg0.N = 8 := N_0
  have ht : (i 0 : ℕ) < cfg0.N := by omega
  refine ⟨⟨(i 0 : ℕ), ht⟩, flush0_1 _, ?_⟩
  show i ∈ ((View.whole main_v0_0).slice (win0_1.rect ⟨(i 0 : ℕ), ht⟩)).set
  rw [View.set_slice_whole]
  have e : ∀ a, (win0_1.index ⟨(i 0 : ℕ), ht⟩) a = (![(i 0 : ℕ), 0, 0, 0, 0] : Fin 5 → ℕ) a := fun a => congrFun (index1 _) a
  rw [Rect.mem_set_unit]
  intro a
  fin_cases a
  · show win0_1.index ⟨(i 0 : ℕ), ht⟩ 0 * 1 ≤ (i 0 : ℕ) ∧ (i 0 : ℕ) < win0_1.index ⟨(i 0 : ℕ), ht⟩ 0 * 1 + 1
    have h : (i 0 : ℕ) < 8 := (i 0).isLt
    rw [e 0]; show (i 0 : ℕ) * 1 ≤ (i 0 : ℕ) ∧ (i 0 : ℕ) < (i 0 : ℕ) * 1 + 1; omega
  · show win0_1.index ⟨(i 0 : ℕ), ht⟩ 1 * 2 ≤ (i 1 : ℕ) ∧ (i 1 : ℕ) < win0_1.index ⟨(i 0 : ℕ), ht⟩ 1 * 2 + 2
    have h : (i 1 : ℕ) < 2 := (i 1).isLt
    rw [e 1]; show 0 * 2 ≤ (i 1 : ℕ) ∧ (i 1 : ℕ) < 0 * 2 + 2; omega
  · show win0_1.index ⟨(i 0 : ℕ), ht⟩ 2 * 1 ≤ (i 2 : ℕ) ∧ (i 2 : ℕ) < win0_1.index ⟨(i 0 : ℕ), ht⟩ 2 * 1 + 1
    have h : (i 2 : ℕ) < 1 := (i 2).isLt
    rw [e 2]; show 0 * 1 ≤ (i 2 : ℕ) ∧ (i 2 : ℕ) < 0 * 1 + 1; omega
  · show win0_1.index ⟨(i 0 : ℕ), ht⟩ 3 * 4096 ≤ (i 3 : ℕ) ∧ (i 3 : ℕ) < win0_1.index ⟨(i 0 : ℕ), ht⟩ 3 * 4096 + 4096
    have h : (i 3 : ℕ) < 4096 := (i 3).isLt
    rw [e 3]; show 0 * 4096 ≤ (i 3 : ℕ) ∧ (i 3 : ℕ) < 0 * 4096 + 4096; omega
  · show win0_1.index ⟨(i 0 : ℕ), ht⟩ 4 * 128 ≤ (i 4 : ℕ) ∧ (i 4 : ℕ) < win0_1.index ⟨(i 0 : ℕ), ht⟩ 4 * 128 + 128
    have h : (i 4 : ℕ) < 128 := (i 4).isLt
    rw [e 4]; show 0 * 128 ≤ (i 4 : ℕ) ∧ (i 4 : ℕ) < 0 * 128 + 128; omega
theorem cover2 (i : S8x2x1x4096x128.Idx) : ∃ t : Fin cfg0.N, (cfg0.win 2).flush t = true ∧ i ∈ ((cfg0.win 2).blk t).view.set := by
  have h0 : (i 0 : ℕ) < 8 := (i 0).isLt
  have hN : cfg0.N = 8 := N_0
  have ht : (i 0 : ℕ) < cfg0.N := by omega
  refine ⟨⟨(i 0 : ℕ), ht⟩, flush0_2 _, ?_⟩
  show i ∈ ((View.whole main_v0_1).slice (win0_2.rect ⟨(i 0 : ℕ), ht⟩)).set
  rw [View.set_slice_whole]
  have e : ∀ a, (win0_2.index ⟨(i 0 : ℕ), ht⟩) a = (![(i 0 : ℕ), 0, 0, 0, 0] : Fin 5 → ℕ) a := fun a => congrFun (index2 _) a
  rw [Rect.mem_set_unit]
  intro a
  fin_cases a
  · show win0_2.index ⟨(i 0 : ℕ), ht⟩ 0 * 1 ≤ (i 0 : ℕ) ∧ (i 0 : ℕ) < win0_2.index ⟨(i 0 : ℕ), ht⟩ 0 * 1 + 1
    have h : (i 0 : ℕ) < 8 := (i 0).isLt
    rw [e 0]; show (i 0 : ℕ) * 1 ≤ (i 0 : ℕ) ∧ (i 0 : ℕ) < (i 0 : ℕ) * 1 + 1; omega
  · show win0_2.index ⟨(i 0 : ℕ), ht⟩ 1 * 2 ≤ (i 1 : ℕ) ∧ (i 1 : ℕ) < win0_2.index ⟨(i 0 : ℕ), ht⟩ 1 * 2 + 2
    have h : (i 1 : ℕ) < 2 := (i 1).isLt
    rw [e 1]; show 0 * 2 ≤ (i 1 : ℕ) ∧ (i 1 : ℕ) < 0 * 2 + 2; omega
  · show win0_2.index ⟨(i 0 : ℕ), ht⟩ 2 * 1 ≤ (i 2 : ℕ) ∧ (i 2 : ℕ) < win0_2.index ⟨(i 0 : ℕ), ht⟩ 2 * 1 + 1
    have h : (i 2 : ℕ) < 1 := (i 2).isLt
    rw [e 2]; show 0 * 1 ≤ (i 2 : ℕ) ∧ (i 2 : ℕ) < 0 * 1 + 1; omega
  · show win0_2.index ⟨(i 0 : ℕ), ht⟩ 3 * 4096 ≤ (i 3 : ℕ) ∧ (i 3 : ℕ) < win0_2.index ⟨(i 0 : ℕ), ht⟩ 3 * 4096 + 4096
    have h : (i 3 : ℕ) < 4096 := (i 3).isLt
    rw [e 3]; show 0 * 4096 ≤ (i 3 : ℕ) ∧ (i 3 : ℕ) < 0 * 4096 + 4096; omega
  · show win0_2.index ⟨(i 0 : ℕ), ht⟩ 4 * 128 ≤ (i 4 : ℕ) ∧ (i 4 : ℕ) < win0_2.index ⟨(i 0 : ℕ), ht⟩ 4 * 128 + 128
    have h : (i 4 : ℕ) < 128 := (i 4).isLt
    rw [e 4]; show 0 * 128 ≤ (i 4 : ℕ) ∧ (i 4 : ℕ) < 0 * 128 + 128; omega

theorem final1 (c : Dev nD) : (dats m 0 c).arrAt 1 cfg0.N = oWhole m c :=
  (dats m 0 c).arrAt_eq_of_cover 1 (oWhole m c) (fun t _ => flushed1 m c t) cover1
theorem final2 (c : Dev nD) : (dats m 0 c).arrAt 2 cfg0.N = lWhole m c :=
  (dats m 0 c).arrAt_eq_of_cover 2 (lWhole m c) (fun t _ => flushed2 m c t) cover2

end Cert.AttnKernelIdeal.Hand

namespace Cert.Proof.AttnClaims

open Idealize.ShloMosaic Idealize.SL.Sem

theorem frame_ideal : Cert.quiescent_AttnKernelIdeal := fun m ρ _ =>
  (θ_run Cert.AttnKernelIdeal.defs _ _).mono (fun _ h => ⟨fun c => (h.1 c).2.2, h.2⟩) (Cert.AttnKernelIdeal.Hand.run (F := Ideal) m ρ)
/-- The two programs' bodies are one text: the label of the one launch is gone through. -/
theorem body_eq {F : FTy → Type} [FloatOps F] : @Cert.AttnKernel.defs₀ F _ _ = @Cert.AttnKernelIdeal.defs₀ F _ _ := by
  unfold Cert.AttnKernel.defs₀ Cert.AttnKernelIdeal.defs₀
  refine congrArg Defs.onTc ?_
  funext l x
  match l, x with
  | 0, (t, s) => rfl
  | ⟨n + 1, h⟩, _ => exact absurd h (by omega)
theorem defs_eq {F : FTy → Type} [FloatOps F] : @Cert.AttnKernel.defs F _ _ = @Cert.AttnKernelIdeal.defs F _ _ :=
  congrArg (Pipeline.defs (@Cert.AttnKernel.pcfgs F _)) body_eq
/-- The frame over any floats, for every table of bodies that equals the Ideal program's. -/
theorem frame_any {F : FTy → Type} [FloatOps F] (D) (hD : D = Cert.AttnKernelIdeal.defs (F := F))
    (m : (ℓ : Loc Cert.AttnKernelIdeal.nD Cert.AttnKernelIdeal.τ Cert.AttnKernelIdeal.sig) → Buf (Elt F) ℓ) (ρ : Dev Cert.AttnKernelIdeal.nD → PrngReg) :
    θ_run D (onTc (τ := Cert.AttnKernelIdeal.τ) (Cert.AttnKernelIdeal.main (F := F))) ⟨m, fun _ => 0, ρ⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0))
      ∧ r.2.sem = fun _ => 0) := by
  subst hD
  exact (θ_run Cert.AttnKernelIdeal.defs _ _).mono (fun _ h => ⟨fun c => (h.1 c).2.2, h.2⟩) (Cert.AttnKernelIdeal.Hand.run m ρ)
theorem frame_kernel : Cert.quiescent_AttnKernel := fun m ρ _ => frame_any (F := Bits) (Cert.AttnKernel.defs (F := Bits)) defs_eq m ρ
theorem frame_reference : Cert.quiescent_AttnReferenceIdeal := fun m ρ _ =>
  (θ_run Cert.AttnReferenceIdeal.defs _ _).mono (fun r h => ⟨fun c => (h c).2.2, sem_eq_zero_of_no_sems (by decide) r.2⟩)
    (Cert.AttnReferenceIdeal.Value.run (F := Ideal) m ρ)
theorem preserves : Cert.preserves_AttnKernel_AttnKernelIdeal := trivial

/-- Both runs end with the reference's arrays of the kernel's argument. -/
theorem algebraic : Cert.algebraic_AttnKernelIdeal_AttnReferenceIdeal := by
  intro m ρ m' ρ' _ hag
  refine ⟨fun c => Cert.AttnKernelIdeal.Hand.oWhole m c, fun c => Cert.AttnKernelIdeal.Hand.lWhole m c, ?_, ?_⟩
  · exact (θ_run Cert.AttnKernelIdeal.defs _ _).mono (fun _ h c => ⟨(h.1 c).1.trans (Cert.AttnKernelIdeal.Hand.final1 m c),
        (h.1 c).2.1.trans (Cert.AttnKernelIdeal.Hand.final2 m c), (h.1 c).2.2⟩)
      (Cert.AttnKernelIdeal.Hand.run (F := Ideal) m ρ)
  · refine (θ_run Cert.AttnReferenceIdeal.defs _ _).mono (fun _ h c => ⟨(h c).1.trans ?_, (h c).2.1.trans ?_, (h c).2.2⟩)
      (Cert.AttnReferenceIdeal.Value.run (F := Ideal) m' ρ')
    · rw [Cert.AttnReferenceIdeal.Hand.out_eq]
      unfold Cert.AttnKernelIdeal.Hand.oWhole
      rw [hag c]
    · rw [Cert.AttnReferenceIdeal.Hand.lse_eq]
      unfold Cert.AttnKernelIdeal.Hand.lWhole
      rw [hag c]

end Cert.Proof.AttnClaims

end
-- ==== Proof.FfnTile.lean ====
/- One tile of the feed-forward block's activation, and the buffers it is computed from, read at an index. The gate's
   buffer holds, lane block by lane block, eight rows carried over from the rows before and then the block's own rows;
   the activation of row `n` uses the gate's rows `n - 2`, `n - 1` and `n`. -/
module

public import proofs.«01_k».proof.Proof.Gen.FfnKernelIdeal.Frame
public import Idealize.ShloMosaic.Lib.Pointwise
public import Idealize.ShloMosaic.Lib.WritesUnit
public import Idealize.ShloMosaic.Lib.WholeRead
public import Idealize.ShloMosaic.Lib.Pipeline.ReadBack

@[expose] public section

set_option maxRecDepth 16384

noncomputable section

namespace Cert.FfnKernelIdeal.Hand

open Cert.FfnKernelIdeal Cert.FfnKernelIdeal.Gen
open Idealize.ShloMosaic Idealize.ShloMosaic.TcCoe

/-! The buffers may be those of either layer's call. -/
variable {sg : RefSig}

section Ops
variable {F : FTy → Type} [FloatOps F]

/-- Two lane blocks side by side. -/
def cat2 (a b : Vec F S1x32x128 .f32) : FVec F S32x256 .f32 :=
  concatenate S32x256 1 [⟨S32x128, shapeCast S32x128 a shapeCasts_S1x32x128_S32x128⟩, ⟨S32x128, shapeCast S32x128 b shapeCasts_S1x32x128_S32x128⟩] concatenates_S32x128_S32x128_S32x256_d1

/-- Eight equal rows made thirty-two. -/
def rep4 (w : Vec F S8x256 .f32) : FVec F S32x256 .f32 :=
  concatenate S32x256 0 [⟨S8x256, shapeCast S8x256 w shapeCasts_S8x256_S8x256⟩, ⟨S8x256, shapeCast S8x256 w shapeCasts_S8x256_S8x256⟩, ⟨S8x256, shapeCast S8x256 w shapeCasts_S8x256_S8x256⟩, ⟨S8x256, shapeCast S8x256 w shapeCasts_S8x256_S8x256⟩] concatenates_S8x256_S8x256_S8x256_S8x256_S32x256_d0

/-- The convolved gate of one tile. -/
def convT (w0 w1 w2 b : Vec F S8x256 .f32) (a0 a1 b0 b1 c0 c1 : Vec F S1x32x128 .f32) : FVec F S32x256 .f32 :=
  addf (addf (addf (mulf (rep4 w0) (cat2 a0 a1)) (mulf (rep4 w1) (cat2 b0 b1))) (mulf (rep4 w2) (cat2 c0 c1))) (rep4 b)

/-- The gate passed through its sigmoid and multiplied with the second projection. -/
def gateT (g : FVec F S32x256 .f32) (u : Vec F S32x256 .f32) : FVec F S32x256 .bf16 :=
  shapeCast S32x256 (truncf .bf16 (mulf (mulf g (divf (broadcast S32x256 (Scalar.ofBits .f32 0x3F800000#32))
    (addf (broadcast S32x256 (Scalar.ofBits .f32 0x3F800000#32)) (exp (subf (broadcast S32x256 (Scalar.ofBits .f32 0x00000000#32)) g))))) u) bitsLt_bf16_f32) shapeCasts_S32x256_S32x256

/-- One tile of the activation. -/
def tile (w0 w1 w2 b : Vec F S8x256 .f32) (a0 a1 b0 b1 c0 c1 : Vec F S1x32x128 .f32) (u : Vec F S32x256 .f32) : FVec F S32x256 .bf16 :=
  gateT (convT w0 w1 w2 b a0 a1 b0 b1 c0 c1) u

/-- A chunk of a projection of the normalised rows. -/
def prj (h : Vec F S512x1024 .bf16) (w : Vec F S1x1024x256 .bf16) : FVec F S512x256 .f32 :=
  matmul dot_S512x1024_S1024x256_S512x256_1_0_0_1_n_n none h (shapeCast S1024x256 w shapeCasts_S1x1024x256_S1024x256) (constant S512x256 .f32 0x00000000#32)

/-- Its first and its second lane block, and the whole chunk, as they are stored. -/
def prj0 (h : Vec F S512x1024 .bf16) (w : Vec F S1x1024x256 .bf16) : FVec F S1x512x128 .f32 :=
  shapeCast S1x512x128 (extractStridedSlice S512x128 ![0, 0] (prj h w) slices_S512x256_o0_0_S512x128) shapeCasts_S512x128_S1x512x128
def prj1 (h : Vec F S512x1024 .bf16) (w : Vec F S1x1024x256 .bf16) : FVec F S1x512x128 .f32 :=
  shapeCast S1x512x128 (extractStridedSlice S512x128 ![0, 128] (prj h w) slices_S512x256_o0_128_S512x128) shapeCasts_S512x128_S1x512x128
def prjU (h : Vec F S512x1024 .bf16) (w : Vec F S1x1024x256 .bf16) : FVec F S512x256 .f32 :=
  shapeCast S512x256 (prj h w) shapeCasts_S512x256_S512x256
end Ops

theorem cat2_apply (a b : Vec Ideal S1x32x128 .f32) (i : Fin 32) (j : Fin 256) :
    cat2 a b (ix2 i j) = if h : j.val < 128 then a (ix3 (0 : Fin 1) i (⟨j.val, h⟩ : Fin 128)) else b (ix3 (0 : Fin 1) i (⟨j.val - 128, by omega⟩ : Fin 128)) := by
  pointwise [cat2]

theorem rep4_apply (w : Vec Ideal S8x256 .f32) (i : Fin 32) (j : Fin 256) :
    rep4 w (ix2 i j) = w (ix2 (⟨i.val % 8, by omega⟩ : Fin 8) j) := by
  pointwise [rep4]
  have e : ∀ (n : ℕ) (h : n < 8), n = i.val % 8 → w (ix2 (⟨n, h⟩ : Fin 8) j) = w (ix2 (⟨i.val % 8, by omega⟩ : Fin 8) j) := by
    intro n h hn; subst hn; rfl
  split
  · exact e _ _ (by omega)
  · split
    · exact e _ _ (by omega)
    · split
      · exact e _ _ (by omega)
      · exact e _ _ (by omega)

theorem prj0_apply (h : Vec Ideal S512x1024 .bf16) (w : Vec Ideal S1x1024x256 .bf16) (z : Fin 1) (i : Fin 512) (j : Fin 128) :
    prj0 h w (ix3 z i j) = ∑ k : Fin 1024, h (ix2 i k) * w (ix3 (0 : Fin 1) k (⟨j.val, by omega⟩ : Fin 256)) := by
  pointwise [prj0, prj]

theorem prj1_apply (h : Vec Ideal S512x1024 .bf16) (w : Vec Ideal S1x1024x256 .bf16) (z : Fin 1) (i : Fin 512) (j : Fin 128) :
    prj1 h w (ix3 z i j) = ∑ k : Fin 1024, h (ix2 i k) * w (ix3 (0 : Fin 1) k (⟨128 + j.val, by omega⟩ : Fin 256)) := by
  pointwise [prj1, prj]

theorem prjU_apply (h : Vec Ideal S512x1024 .bf16) (w : Vec Ideal S1x1024x256 .bf16) (i : Fin 512) (j : Fin 256) :
    prjU h w (ix2 i j) = ∑ k : Fin 1024, h (ix2 i k) * w (ix3 (0 : Fin 1) k j) := by
  pointwise [prjU, prj]

/-- The gate through its sigmoid, as the kernel computes it. -/
def gateK (g u : EReal) : EReal :=
  g * Ideal.div (Ideal.ofBits .f32 0x3F800000#32) (Ideal.ofBits .f32 0x3F800000#32 + Ideal.exp (0 - g)) * u

theorem gateT_apply (g : FVec Ideal S32x256 .f32) (u : Vec Ideal S32x256 .f32) (i : Fin 32) (j : Fin 256) :
    gateT g u (ix2 i j) = gateK (g (ix2 i j)) (u (ix2 i j)) := by
  pointwise [gateT, gateK]

theorem convT_apply (w0 w1 w2 b : Vec Ideal S8x256 .f32) (a0 a1 b0 b1 c0 c1 : Vec Ideal S1x32x128 .f32) (i : Fin 32) (j : Fin 256) :
    convT w0 w1 w2 b a0 a1 b0 b1 c0 c1 (ix2 i j) = rep4 w0 (ix2 i j) * cat2 a0 a1 (ix2 i j) + rep4 w1 (ix2 i j) * cat2 b0 b1 (ix2 i j)
      + rep4 w2 (ix2 i j) * cat2 c0 c1 (ix2 i j) + rep4 b (ix2 i j) := rfl

/-! ## The buffers as functions of an index -/

/-- The gate's buffer: eight rows `halo`, then the projection of the block's own rows. -/
def Gall (halo : S22x520x128.Idx → EReal) (h : S512x1024.Idx → EReal) (w : S1x1024x2816.Idx → EReal) : S22x520x128.Idx → EReal := fun y =>
  if hy : (y 1).val < 8 then halo y
  else ∑ k : Fin 1024, h (ix2 (⟨(y 1).val - 8, by have := (y 1).isLt; simp [S22x520x128] at this; omega⟩ : Fin 512) k)
    * w (ix3 (0 : Fin 1) k (⟨128 * (y 0).val + (y 2).val, by have := (y 0).isLt; have := (y 2).isLt; simp [S22x520x128] at *; omega⟩ : Fin 2816))

/-- The second projection's buffer. -/
def Uall (h : S512x1024.Idx → EReal) (w : S1x1024x2816.Idx → EReal) : S512x2816.Idx → EReal := fun y =>
  ∑ k : Fin 1024, h (ix2 (y 0 : Fin 512) k) * w (ix3 (0 : Fin 1) k (y 1 : Fin 2816))

/-- The gate's buffer at row `n + d` of its rows and column `q` of all columns. -/
def gAt (G : S22x520x128.Idx → EReal) (n : Fin 512) (d : Fin 9) (q : Fin 2816) : EReal :=
  G (ix3 (⟨q.val / 128, by omega⟩ : Fin 22) (⟨n.val + d.val, by omega⟩ : Fin 520) (⟨q.val % 128, by omega⟩ : Fin 128))

/-- The activation. -/
def Act (G : S22x520x128.Idx → EReal) (U : S512x2816.Idx → EReal) (cw : S24x2816.Idx → EReal) (cb : S8x2816.Idx → EReal) : S512x2816.Idx → EReal := fun y =>
  gateK (cw (ix2 (⟨(y 0).val % 8, by omega⟩ : Fin 24) (y 1 : Fin 2816)) * gAt G (y 0) 6 (y 1)
    + cw (ix2 (⟨8 + (y 0).val % 8, by omega⟩ : Fin 24) (y 1 : Fin 2816)) * gAt G (y 0) 7 (y 1)
    + cw (ix2 (⟨16 + (y 0).val % 8, by omega⟩ : Fin 24) (y 1 : Fin 2816)) * gAt G (y 0) 8 (y 1)
    + cb (ix2 (⟨(y 0).val % 8, by omega⟩ : Fin 8) (y 1 : Fin 2816))) (U y)

/-! ## What the stores leave -/

/-- After the stores `L` the gate's buffer holds `G` in the rows of the first `n` lane blocks, and in the carried rows
    from `lo` on. -/
def GOk (v : View sg .tc .vmem S22x520x128 .f32) (f : v.ty.Contents (Elt Ideal)) (L : List (View.Piece (Elt Ideal) S22x520x128 .f32))
    (G : S22x520x128.Idx → EReal) (n lo : ℕ) : Prop :=
  ∀ y : S22x520x128.Idx, ((y 0).val < n ∧ 8 ≤ (y 1).val) ∨ (lo ≤ (y 1).val ∧ (y 1).val < 8) →
    v.read (Elt Ideal) (v.writes (Elt Ideal) f L) y = G y

/-- After the stores `L` the second projection's buffer holds `U` in its first `n` columns. -/
def UOk (v : View sg .tc .vmem S512x2816 .f32) (f : v.ty.Contents (Elt Ideal)) (L : List (View.Piece (Elt Ideal) S512x2816 .f32))
    (U : S512x2816.Idx → EReal) (n : ℕ) : Prop :=
  ∀ y : S512x2816.Idx, (y 1).val < n → v.read (Elt Ideal) (v.writes (Elt Ideal) f L) y = U y

/-- One more piece that is a block of `G`. -/
theorem pcons {s : Shape} {e : EltTy} {G : s.Idx → Elt Ideal e} {r : Rect s} {w : r.shape.Idx → Elt Ideal e} {L : List (View.Piece (Elt Ideal) s e)}
    (h : ∀ x : r.shape.Idx, w x = G (r.emb x)) (t : View.PiecesOf G L) : View.PiecesOf G (⟨r, w⟩ :: L) := ⟨h, t⟩

theorem wAt (x : S1x1024x2816.Idx → EReal) (q : ℕ) (inw : ∀ a, (![0, 0, q] : Fin 3 → ℕ) a + S1x1024x256.size a ≤ S1x1024x2816.size a)
    (k : Fin 1024) (j : Fin 256) (p : Fin 2816) (hp : p.val = q + j.val) :
    x ((Rect.unit (s := S1x1024x2816) ![0, 0, q] S1x1024x256.size inw).toLoadRect.idx (ix3 (0 : Fin 1) k j)) = x (ix3 (0 : Fin 1) k p) := by
  congr 1
  funext a
  refine Fin.ext ?_
  match a with
  | ⟨0, _⟩ => rfl
  | ⟨1, _⟩ => show 0 + 1 * k.val = k.val; omega
  | ⟨2, _⟩ => show q + 1 * j.val = p.val; omega

theorem gstep {v : View sg .tc .vmem S22x520x128 .f32} {f : v.ty.Contents (Elt Ideal)} {L : List (View.Piece (Elt Ideal) S22x520x128 .f32)}
    {halo : S22x520x128.Idx → EReal} {h : Vec Ideal S512x1024 .bf16} {m : Memref sg .tc .vmem S1x1024x2816 .bf16} {hm : m.IsWhole}
    {x : Vec Ideal S1x1024x2816 .bf16} {lo : ℕ} (k : ℕ) {in0 in1 inw}
    (hg : GOk v f L (Gall halo h x) (2 * k) lo) :
    GOk v f (⟨Rect.unit (s := S22x520x128) ![2 * k + 1, 8, 0] S1x512x128.size in1, prj1 (F := Ideal) h (View.readAt (Elt Ideal) m.view (Rect.unit (s := S1x1024x2816) ![0, 0, 256 * k] S1x1024x256.size inw).toLoadRect (hm.unread x))⟩
      :: ⟨Rect.unit (s := S22x520x128) ![2 * k, 8, 0] S1x512x128.size in0, prj0 (F := Ideal) h (View.readAt (Elt Ideal) m.view (Rect.unit (s := S1x1024x2816) ![0, 0, 256 * k] S1x1024x256.size inw).toLoadRect (hm.unread x))⟩ :: L)
      (Gall halo h x) (2 * (k + 1)) lo := by
  intro y hy
  have h0 : (y 0).val < 22 := (y 0).isLt
  have h1 : (y 1).val < 520 := (y 1).isLt
  have h2 : (y 2).val < 128 := (y 2).isLt
  by_cases h8 : (y 1).val < 8
  · rw [View.read_writes_cons_unit_of_not_mem v f in1 _ _ y rfl (1 : Fin 3) (Or.inl h8),
      View.read_writes_cons_unit_of_not_mem v f in0 _ _ y rfl (1 : Fin 3) (Or.inl h8)]
    exact hg y (by omega)
  · by_cases e1 : (y 0).val = 2 * k + 1
    · refine (View.read_writes_cons_unit_of_mem v f in1 _ _ y (ix3 (0 : Fin 1) (⟨(y 1).val - 8, by omega⟩ : Fin 512) (y 2 : Fin 128)) rfl
        (fun a => by
          match a with
          | ⟨0, _⟩ => show (y 0).val = 2 * k + 1 + 0; omega
          | ⟨1, _⟩ => show (y 1).val = 8 + ((y 1).val - 8); omega
          | ⟨2, _⟩ => show (y 2).val = 0 + (y 2).val; omega)).trans ((prj1_apply h _ (0 : Fin 1) (⟨(y 1).val - 8, by omega⟩ : Fin 512) (y 2)).trans ?_)
      unfold Gall
      rw [dif_neg h8]
      refine Finset.sum_congr rfl fun κ _ => ?_
      rw [hm.readAt_unread, wAt x (256 * k) inw κ _ (⟨128 * (y 0).val + (y 2).val, by omega⟩ : Fin 2816)
        (by show 128 * (y 0).val + (y 2).val = 256 * k + (128 + (y 2).val); omega)]
    · rw [View.read_writes_cons_unit_of_not_mem v f in1 _ _ y rfl (0 : Fin 3)
        (by show (y 0).val < 2 * k + 1 ∨ 2 * k + 1 + 1 ≤ (y 0).val; omega)]
      by_cases e0 : (y 0).val = 2 * k
      · refine (View.read_writes_cons_unit_of_mem v f in0 _ _ y (ix3 (0 : Fin 1) (⟨(y 1).val - 8, by omega⟩ : Fin 512) (y 2 : Fin 128)) rfl
          (fun a => by
            match a with
            | ⟨0, _⟩ => show (y 0).val = 2 * k + 0; omega
            | ⟨1, _⟩ => show (y 1).val = 8 + ((y 1).val - 8); omega
            | ⟨2, _⟩ => show (y 2).val = 0 + (y 2).val; omega)).trans ((prj0_apply h _ (0 : Fin 1) (⟨(y 1).val - 8, by omega⟩ : Fin 512) (y 2)).trans ?_)
        unfold Gall
        rw [dif_neg h8]
        refine Finset.sum_congr rfl fun κ _ => ?_
        rw [hm.readAt_unread, wAt x (256 * k) inw κ _ (⟨128 * (y 0).val + (y 2).val, by omega⟩ : Fin 2816)
          (by show 128 * (y 0).val + (y 2).val = 256 * k + (y 2).val; omega)]
      · rw [View.read_writes_cons_unit_of_not_mem v f in0 _ _ y rfl (0 : Fin 3)
          (by show (y 0).val < 2 * k ∨ 2 * k + 1 ≤ (y 0).val; omega)]
        exact hg y (by omega)

/-- Before the block's own stores: zeros in the carried rows, what the block before left there, or nothing known. -/
theorem g_zero {v : View sg .tc .vmem S22x520x128 .f32} {f : v.ty.Contents (Elt Ideal)} {h : Vec Ideal S512x1024 .bf16} {x : Vec Ideal S1x1024x2816 .bf16} {inb} :
    GOk v f [⟨Rect.unit (s := S22x520x128) ![0, 0, 0] S22x8x128.size inb, k0_pay2 (F := Ideal)⟩] (Gall (fun _ => 0) h x) (2 * 0) 0 := by
  intro y hy
  have h1 : (y 1).val < 8 := by omega
  refine (View.read_writes_cons_unit_of_mem v f _ _ _ y (ix3 (y 0 : Fin 22) (⟨(y 1).val, h1⟩ : Fin 8) (y 2 : Fin 128)) rfl (fun a => by
    match a with
    | ⟨0, _⟩ => show (y 0).val = 0 + (y 0).val; omega
    | ⟨1, _⟩ => show (y 1).val = 0 + (y 1).val; omega
    | ⟨2, _⟩ => show (y 2).val = 0 + (y 2).val; omega)).trans ?_
  unfold Gall
  rw [dif_pos h1]
  show Ideal.ofBits .f32 0x00000000#32 = 0
  simp [Ideal.ofBits, Ideal.ieee]

theorem g_old {m : Memref sg .tc .vmem S22x520x128 .f32} {hm : m.IsWhole} {X : Vec Ideal S22x520x128 .f32} {h : Vec Ideal S512x1024 .bf16} {x : Vec Ideal S1x1024x2816 .bf16} :
    GOk m.view (hm.unread X) [] (Gall X h x) (2 * 0) 0 := by
  intro y hy
  have h1 : (y 1).val < 8 := by omega
  show m.view.read (Elt Ideal) (hm.unread X) y = Gall _ _ _ y
  unfold Gall
  rw [dif_pos h1, hm.read_unread]

theorem g_none {v : View sg .tc .vmem S22x520x128 .f32} {f : v.ty.Contents (Elt Ideal)} {G : S22x520x128.Idx → EReal} :
    GOk v f [] G (2 * 0) 8 := by
  intro y hy
  omega

theorem u_none {v : View sg .tc .vmem S512x2816 .f32} {f : v.ty.Contents (Elt Ideal)} {U : S512x2816.Idx → EReal} : UOk v f [] U (256 * 0) := by
  intro y hy
  omega

theorem ustep {v : View sg .tc .vmem S512x2816 .f32} {f : v.ty.Contents (Elt Ideal)} {L : List (View.Piece (Elt Ideal) S512x2816 .f32)}
    {h : Vec Ideal S512x1024 .bf16} {m : Memref sg .tc .vmem S1x1024x2816 .bf16} {hm : m.IsWhole}
    {x : Vec Ideal S1x1024x2816 .bf16} (k : ℕ) {in0 inw}
    (hu : UOk v f L (Uall h x) (256 * k)) :
    UOk v f (⟨Rect.unit (s := S512x2816) ![0, 256 * k] S512x256.size in0, prjU (F := Ideal) h (View.readAt (Elt Ideal) m.view (Rect.unit (s := S1x1024x2816) ![0, 0, 256 * k] S1x1024x256.size inw).toLoadRect (hm.unread x))⟩ :: L)
      (Uall h x) (256 * (k + 1)) := by
  intro y hy
  by_cases e : 256 * k ≤ (y 1).val
  · refine (View.read_writes_cons_unit_of_mem v f in0 _ _ y (ix2 (y 0 : Fin 512) (⟨(y 1).val - 256 * k, by omega⟩ : Fin 256)) rfl
      (fun a => by
        match a with
        | ⟨0, _⟩ => show (y 0).val = 0 + (y 0).val; omega
        | ⟨1, _⟩ => show (y 1).val = 256 * k + ((y 1).val - 256 * k); omega)).trans ((prjU_apply h _ (y 0) (⟨(y 1).val - 256 * k, by omega⟩ : Fin 256)).trans ?_)
    unfold Uall
    refine Finset.sum_congr rfl fun κ _ => ?_
    rw [hm.readAt_unread, wAt x (256 * k) inw κ _ (y 1 : Fin 2816)
      (by show (y 1).val = 256 * k + ((y 1).val - 256 * k); omega)]
  · rw [View.read_writes_cons_unit_of_not_mem v f in0 _ _ y rfl (1 : Fin 2) (Or.inl (by show (y 1).val < 256 * k; omega))]
    exact hu y (by omega)

/-! ## A tile of the activation, from the buffers -/

theorem cat2_read {G : S22x520x128.Idx → EReal} (k r d : ℕ) (hk : k < 11) (hr : r < 16) (hd : d < 9)
    (a b : Vec Ideal S1x32x128 .f32)
    (ha : ∀ (i : Fin 32) (j : Fin 128), a (ix3 (0 : Fin 1) i j) = G (ix3 (⟨2 * k, by omega⟩ : Fin 22) (⟨32 * r + d + i.val, by omega⟩ : Fin 520) j))
    (hb : ∀ (i : Fin 32) (j : Fin 128), b (ix3 (0 : Fin 1) i j) = G (ix3 (⟨2 * k + 1, by omega⟩ : Fin 22) (⟨32 * r + d + i.val, by omega⟩ : Fin 520) j))
    (i : Fin 32) (j : Fin 256) :
    cat2 a b (ix2 i j) = gAt G (⟨32 * r + i.val, by omega⟩ : Fin 512) (⟨d, hd⟩ : Fin 9) (⟨256 * k + j.val, by omega⟩ : Fin 2816) := by
  rw [cat2_apply]
  unfold gAt
  split
  · rw [ha]; congr 1
    exact congr (congr (congrArg ix3 (Fin.ext (by show 2 * k = (256 * k + j.val) / 128; omega))) (Fin.ext (by show 32 * r + d + i.val = 32 * r + i.val + d; omega)))
      (Fin.ext (by show j.val = (256 * k + j.val) % 128; omega))
  · rw [hb]; congr 1
    exact congr (congr (congrArg ix3 (Fin.ext (by show 2 * k + 1 = (256 * k + j.val) / 128; omega))) (Fin.ext (by show 32 * r + d + i.val = 32 * r + i.val + d; omega)))
      (Fin.ext (by show j.val - 128 = (256 * k + j.val) % 128; omega))

theorem gread {v : View sg .tc .vmem S22x520x128 .f32} {f : v.ty.Contents (Elt Ideal)} {L : List (View.Piece (Elt Ideal) S22x520x128 .f32)}
    {G : S22x520x128.Idx → EReal} {n lo : ℕ} (hg : GOk v f L G n lo) (l s : ℕ) (hl : l < n) (hl' : l < 22) (hs : lo ≤ s) (hs' : s + 32 ≤ 520)
    (inb : ∀ a, (![l, s, 0] : Fin 3 → ℕ) a + S1x32x128.size a ≤ S22x520x128.size a) (i : Fin 32) (j : Fin 128) :
    View.readAt (Elt Ideal) v (Rect.unit (s := S22x520x128) ![l, s, 0] S1x32x128.size inb).toLoadRect (v.writes (Elt Ideal) f L) (ix3 (0 : Fin 1) i j)
      = G (ix3 (⟨l, hl'⟩ : Fin 22) (⟨s + i.val, by omega⟩ : Fin 520) j) := by
  rw [View.readAt_apply]
  have e : (Rect.unit (s := S22x520x128) ![l, s, 0] S1x32x128.size inb).toLoadRect.idx (ix3 (0 : Fin 1) i j)
      = ix3 (⟨l, hl'⟩ : Fin 22) (⟨s + i.val, by omega⟩ : Fin 520) j := by
    funext a
    refine Fin.ext ?_
    match a with
    | ⟨0, _⟩ => show l + 1 * 0 = l; omega
    | ⟨1, _⟩ => show s + 1 * i.val = s + i.val; omega
    | ⟨2, _⟩ => show 0 + 1 * j.val = j.val; omega
  rw [e]
  exact hg _ (by show (l < n ∧ 8 ≤ s + i.val) ∨ (lo ≤ s + i.val ∧ s + i.val < 8); omega)

theorem wread {m : Memref sg .tc .vmem S24x2816 .f32} (hm : m.IsWhole) (x : Vec Ideal S24x2816 .f32) (s q : ℕ) (hs : s + 8 ≤ 24) (hq : q + 256 ≤ 2816)
    (inb : ∀ a, (![s, q] : Fin 2 → ℕ) a + S8x256.size a ≤ S24x2816.size a) (i : Fin 32) (j : Fin 256) (n : ℕ) (hn : n % 8 = i.val % 8) :
    rep4 (View.readAt (Elt Ideal) m.view (Rect.unit (s := S24x2816) ![s, q] S8x256.size inb).toLoadRect (hm.unread x)) (ix2 i j)
      = x (ix2 (⟨s + n % 8, by omega⟩ : Fin 24) (⟨q + j.val, by omega⟩ : Fin 2816)) := by
  rw [rep4_apply, hm.readAt_unread]
  congr 1
  funext a
  refine Fin.ext ?_
  match a with
  | ⟨0, _⟩ => show s + 1 * (i.val % 8) = s + n % 8; omega
  | ⟨1, _⟩ => show q + 1 * j.val = q + j.val; omega

theorem bread {m : Memref sg .tc .vmem S8x2816 .f32} (hm : m.IsWhole) (x : Vec Ideal S8x2816 .f32) (q : ℕ) (hq : q + 256 ≤ 2816)
    (inb : ∀ a, (![0, q] : Fin 2 → ℕ) a + S8x256.size a ≤ S8x2816.size a) (i : Fin 32) (j : Fin 256) (n : ℕ) (hn : n % 8 = i.val % 8) :
    rep4 (View.readAt (Elt Ideal) m.view (Rect.unit (s := S8x2816) ![0, q] S8x256.size inb).toLoadRect (hm.unread x)) (ix2 i j)
      = x (ix2 (⟨n % 8, by omega⟩ : Fin 8) (⟨q + j.val, by omega⟩ : Fin 2816)) := by
  rw [rep4_apply, hm.readAt_unread]
  congr 1
  funext a
  refine Fin.ext ?_
  match a with
  | ⟨0, _⟩ => show 0 + 1 * (i.val % 8) = n % 8; omega
  | ⟨1, _⟩ => show q + 1 * j.val = q + j.val; omega

theorem uread {v : View sg .tc .vmem S512x2816 .f32} {f : v.ty.Contents (Elt Ideal)} {L : List (View.Piece (Elt Ideal) S512x2816 .f32)}
    {U : S512x2816.Idx → EReal} {n : ℕ} (hu : UOk v f L U n) (s q : ℕ) (hs : s + 32 ≤ 512) (hq : q + 256 ≤ n) (hq' : q + 256 ≤ 2816)
    (inb : ∀ a, (![s, q] : Fin 2 → ℕ) a + S32x256.size a ≤ S512x2816.size a) (i : Fin 32) (j : Fin 256) :
    View.readAt (Elt Ideal) v (Rect.unit (s := S512x2816) ![s, q] S32x256.size inb).toLoadRect (v.writes (Elt Ideal) f L) (ix2 i j)
      = U (ix2 (⟨s + i.val, by omega⟩ : Fin 512) (⟨q + j.val, by omega⟩ : Fin 2816)) := by
  rw [View.readAt_apply]
  have e : (Rect.unit (s := S512x2816) ![s, q] S32x256.size inb).toLoadRect.idx (ix2 i j)
      = ix2 (⟨s + i.val, by omega⟩ : Fin 512) (⟨q + j.val, by omega⟩ : Fin 2816) := by
    funext a
    refine Fin.ext ?_
    match a with
    | ⟨0, _⟩ => show s + 1 * i.val = s + i.val; omega
    | ⟨1, _⟩ => show q + 1 * j.val = q + j.val; omega
  rw [e]
  exact hu _ (by show q + j.val < n; omega)

/-- The tile of rows `32 * r` on and of columns `256 * k` on is the activation there. -/
theorem tile_ok {v : View sg .tc .vmem S22x520x128 .f32} {fa fc : v.ty.Contents (Elt Ideal)} {L : List (View.Piece (Elt Ideal) S22x520x128 .f32)}
    {vu : View sg .tc .vmem S512x2816 .f32} {fu : vu.ty.Contents (Elt Ideal)} {Lu : List (View.Piece (Elt Ideal) S512x2816 .f32)}
    {G : S22x520x128.Idx → EReal} {U : S512x2816.Idx → EReal} {la lc : ℕ}
    {m9 : Memref sg .tc .vmem S24x2816 .f32} {h9 : m9.IsWhole} {x7 : Vec Ideal S24x2816 .f32}
    {m10 : Memref sg .tc .vmem S8x2816 .f32} {h10 : m10.IsWhole} {x8 : Vec Ideal S8x2816 .f32}
    (k r : ℕ) (hk : k < 11) (hr : r < 16)
    (ha : GOk v fa L G (2 * (k + 1)) la) (hla : la ≤ 32 * r + 6) (hc : GOk v fc L G (2 * (k + 1)) lc) (hlc : lc ≤ 8)
    (hu : UOk vu fu Lu U (256 * (k + 1)))
    {ia0 ia1 ib0 ib1 ic0 ic1 iu iw0 iw1 iw2 ib io}
    (x : (Rect.unit (s := S512x2816) ![32 * r, 256 * k] S32x256.size io).shape.Idx) :
    tile (F := Ideal)
      (View.readAt (Elt Ideal) m9.view (Rect.unit (s := S24x2816) ![0, 256 * k] S8x256.size iw0).toLoadRect (h9.unread x7))
      (View.readAt (Elt Ideal) m9.view (Rect.unit (s := S24x2816) ![8, 256 * k] S8x256.size iw1).toLoadRect (h9.unread x7))
      (View.readAt (Elt Ideal) m9.view (Rect.unit (s := S24x2816) ![16, 256 * k] S8x256.size iw2).toLoadRect (h9.unread x7))
      (View.readAt (Elt Ideal) m10.view (Rect.unit (s := S8x2816) ![0, 256 * k] S8x256.size ib).toLoadRect (h10.unread x8))
      (View.readAt (Elt Ideal) v (Rect.unit (s := S22x520x128) ![2 * k, 32 * r + 6, 0] S1x32x128.size ia0).toLoadRect (v.writes (Elt Ideal) fa L))
      (View.readAt (Elt Ideal) v (Rect.unit (s := S22x520x128) ![2 * k + 1, 32 * r + 6, 0] S1x32x128.size ia1).toLoadRect (v.writes (Elt Ideal) fa L))
      (View.readAt (Elt Ideal) v (Rect.unit (s := S22x520x128) ![2 * k, 32 * r + 7, 0] S1x32x128.size ib0).toLoadRect (v.writes (Elt Ideal) fa L))
      (View.readAt (Elt Ideal) v (Rect.unit (s := S22x520x128) ![2 * k + 1, 32 * r + 7, 0] S1x32x128.size ib1).toLoadRect (v.writes (Elt Ideal) fa L))
      (View.readAt (Elt Ideal) v (Rect.unit (s := S22x520x128) ![2 * k, 32 * r + 8, 0] S1x32x128.size ic0).toLoadRect (v.writes (Elt Ideal) fc L))
      (View.readAt (Elt Ideal) v (Rect.unit (s := S22x520x128) ![2 * k + 1, 32 * r + 8, 0] S1x32x128.size ic1).toLoadRect (v.writes (Elt Ideal) fc L))
      (View.readAt (Elt Ideal) vu (Rect.unit (s := S512x2816) ![32 * r, 256 * k] S32x256.size iu).toLoadRect (vu.writes (Elt Ideal) fu Lu)) x
      = Act G U x7 x8 ((Rect.unit (s := S512x2816) ![32 * r, 256 * k] S32x256.size io).emb x) := by
  obtain ⟨i, j, rfl⟩ : ∃ (i : Fin 32) (j : Fin 256), x = ix2 i j := ⟨x 0, x 1, by
    funext a
    match a with
    | ⟨0, _⟩ => rfl
    | ⟨1, _⟩ => rfl⟩
  have e : (Rect.unit (s := S512x2816) ![32 * r, 256 * k] S32x256.size io).emb (ix2 i j)
      = ix2 (⟨32 * r + i.val, by omega⟩ : Fin 512) (⟨256 * k + j.val, by omega⟩ : Fin 2816) := by
    funext a
    refine Fin.ext ?_
    match a with
    | ⟨0, _⟩ => show 32 * r + 1 * i.val = 32 * r + i.val; omega
    | ⟨1, _⟩ => show 256 * k + 1 * j.val = 256 * k + j.val; omega
  rw [e]
  unfold tile
  rw [gateT_apply, convT_apply,
    cat2_read k r 6 hk hr (by omega) _ _ (gread ha (2 * k) (32 * r + 6) (by omega) (by omega) hla (by omega) ia0)
      (gread ha (2 * k + 1) (32 * r + 6) (by omega) (by omega) hla (by omega) ia1),
    cat2_read k r 7 hk hr (by omega) _ _ (gread ha (2 * k) (32 * r + 7) (by omega) (by omega) (by omega) (by omega) ib0)
      (gread ha (2 * k + 1) (32 * r + 7) (by omega) (by omega) (by omega) (by omega) ib1),
    cat2_read k r 8 hk hr (by omega) _ _ (gread hc (2 * k) (32 * r + 8) (by omega) (by omega) (by omega) (by omega) ic0)
      (gread hc (2 * k + 1) (32 * r + 8) (by omega) (by omega) (by omega) (by omega) ic1),
    wread h9 x7 0 (256 * k) (by omega) (by omega) iw0 i j (32 * r + i.val) (by omega),
    wread h9 x7 8 (256 * k) (by omega) (by omega) iw1 i j (32 * r + i.val) (by omega),
    wread h9 x7 16 (256 * k) (by omega) (by omega) iw2 i j (32 * r + i.val) (by omega),
    bread h10 x8 (256 * k) (by omega) ib i j (32 * r + i.val) (by omega),
    uread hu (32 * r) (256 * k) (by omega) (by omega) (by omega) iu i j]
  unfold Act
  congr 5
  exact congrArg (fun z => x7 (ix2 z _)) (Fin.ext (by show 0 + (32 * r + i.val) % 8 = (32 * r + i.val) % 8; omega))

end Cert.FfnKernelIdeal.Hand

end
-- ==== Proof.FfnBlock.lean ====
/- One block of 512 rows of the feed-forward call: what the kernel leaves in its output block and in the rows it carries
   over to the next block, as functions of its input blocks and of the rows carried over to it. -/
module

public import proofs.«01_k».proof.Proof.FfnTile

@[expose] public section

set_option maxRecDepth 16384

noncomputable section

namespace Cert.FfnKernelIdeal.Hand

open Cert.FfnKernelIdeal Cert.FfnKernelIdeal.Gen
open Idealize.ShloMosaic Idealize.ShloMosaic.TcCoe

variable {sg : RefSig}

/-- The residual stream with the mixers' outputs projected and added. -/
def xres (x0 : S1x512x1024.Idx → EReal) (x1 : S1x512x512.Idx → EReal) (x2 : S1x2x512x128.Idx → EReal) (x3 : S768x1024.Idx → EReal) :
    S512x1024.Idx → EReal := fun y =>
  x0 (ix3 (0 : Fin 1) (y 0 : Fin 512) (y 1 : Fin 1024))
    + (∑ k : Fin 512, x1 (ix3 (0 : Fin 1) (y 0 : Fin 512) k) * x3 (ix2 (⟨k.val, by omega⟩ : Fin 768) (y 1 : Fin 1024)))
    + ((∑ k : Fin 128, x2 (ix4 (0 : Fin 1) (0 : Fin 2) (y 0 : Fin 512) k) * x3 (ix2 (⟨512 + k.val, by omega⟩ : Fin 768) (y 1 : Fin 1024)))
      + ∑ k : Fin 128, x2 (ix4 (0 : Fin 1) (1 : Fin 2) (y 0 : Fin 512) k) * x3 (ix2 (⟨640 + k.val, by omega⟩ : Fin 768) (y 1 : Fin 1024)))

/-- Its rows normalised. -/
def hn (X : S512x1024.Idx → EReal) (x4 : S1x1024.Idx → EReal) : S512x1024.Idx → EReal := fun y =>
  X y * Ideal.rsqrt (Ideal.div (∑ k : Fin 1024, X (ix2 (y 0 : Fin 512) k) * X (ix2 (y 0 : Fin 512) k)) (Ideal.ofBits .f32 0x44800000#32) + Ideal.ofBits .f32 0x358637BD#32)
    * x4 (ix2 (0 : Fin 1) (y 1 : Fin 1024))

theorem pay1_apply (a b : Vec Ideal S1x1x512x128 .f32) (x : Vec Ideal S1x512x1024 .f32) (v : Vec Ideal S1x512x512 .f32) (w : Vec Ideal S512x1024 .bf16)
    (w' : Vec Ideal S256x1024 .bf16) (n : Fin 512) (d : Fin 1024) :
    k0_pay1 a b x v w w' (ix2 n d) = x (ix3 (0 : Fin 1) n d) + (∑ k : Fin 512, v (ix3 (0 : Fin 1) n k) * w (ix2 k d))
      + ((∑ k : Fin 128, a (ix4 (0 : Fin 1) (0 : Fin 1) n k) * w' (ix2 (⟨k.val, by omega⟩ : Fin 256) d))
        + ∑ k : Fin 128, b (ix4 (0 : Fin 1) (0 : Fin 1) n k) * w' (ix2 (⟨128 + k.val, by omega⟩ : Fin 256) d)) := by
  pointwise [k0_pay1]

theorem pay6_apply (X : FVec Ideal S512x1024 .f32) (g : FVec Ideal S1x1024 .f32) (s e : FVec Ideal S512x1 .f32) (n : Fin 512) (d : Fin 1024) :
    k0_pay6 X g s e (ix2 n d) = X (ix2 n d) * Ideal.rsqrt (s (ix2 n (0 : Fin 1)) + e (ix2 n (0 : Fin 1))) * g (ix2 (0 : Fin 1) d) := by
  pointwise [k0_pay6]

theorem pay4_apply (a b : Vec Ideal S1x1x512x128 .f32) (x : Vec Ideal S1x512x1024 .f32) (v : Vec Ideal S1x512x512 .f32) (w : Vec Ideal S512x1024 .bf16)
    (w' : Vec Ideal S256x1024 .bf16) (n : Fin 512) :
    k0_pay4 a b x v w w' (ix2 n (0 : Fin 1)) = Ideal.div (∑ k : Fin 1024, k0_pay1 a b x v w w' (ix2 n k) * k0_pay1 a b x v w w' (ix2 n k)) (Ideal.ofBits .f32 0x44800000#32) := by
  pointwise [k0_pay4]

theorem pay530_apply (X : FVec Ideal S512x1024 .f32) (a : Vec Ideal S512x2816 .bf16) (w : Vec Ideal S1x2816x1024 .bf16) (n : Fin 512) (d : Fin 1024) :
    k0_pay530 X a w (ix3 (0 : Fin 1) n d) = X (ix2 n d) + ∑ q : Fin 2816, a (ix2 n q) * w (ix3 (0 : Fin 1) q d) := by
  pointwise [k0_pay530]

theorem pay531_eq (h : Vec Ideal S22x8x128 .f32) (a : Fin 22) (i : Fin 8) (j : Fin 128) : k0_pay531 h (ix3 a i j) = h (ix3 a i j) := by
  pointwise [k0_pay531]

theorem pay3_apply (v : Vec Ideal S1x1024 .f32) (d : Fin 1024) : k0_pay3 v (ix2 (0 : Fin 1) d) = v (ix2 (0 : Fin 1) d) := by
  pointwise [k0_pay3]

/-! ## The same from the input blocks -/

section Reads
variable {m2 : Memref sg .tc .vmem S1x512x1024 .f32} {h2 : m2.IsWhole} {m3 : Memref sg .tc .vmem S1x512x512 .f32} {h3 : m3.IsWhole}
  {m4 : Memref sg .tc .vmem S1x2x512x128 .f32} {h4 : m4.IsWhole} {m5 : Memref sg .tc .vmem S768x1024 .bf16} {h5 : m5.IsWhole}
  {m6 : Memref sg .tc .vmem S1x1024 .f32} {h6 : m6.IsWhole} {m11 : Memref sg .tc .vmem S1x2816x1024 .bf16} {h11 : m11.IsWhole}
variable {x0 : Vec Ideal S1x512x1024 .f32} {x1 : Vec Ideal S1x512x512 .f32} {x2 : Vec Ideal S1x2x512x128 .f32} {x3 : Vec Ideal S768x1024 .bf16}
  {x4 : Vec Ideal S1x1024 .f32} {x9 : Vec Ideal S1x2816x1024 .bf16}

theorem xres_read {i0 i1 i2 i3 i4 i5} :
    k0_pay1 (F := Ideal) (View.readAt (Elt Ideal) m4.view (Rect.unit (s := S1x2x512x128) ![0, 0, 0, 0] S1x1x512x128.size i0).toLoadRect (h4.unread x2))
      (View.readAt (Elt Ideal) m4.view (Rect.unit (s := S1x2x512x128) ![0, 1, 0, 0] S1x1x512x128.size i1).toLoadRect (h4.unread x2))
      (View.readAt (Elt Ideal) m2.view (Rect.unit (s := S1x512x1024) ![0, 0, 0] S1x512x1024.size i2).toLoadRect (h2.unread x0))
      (View.readAt (Elt Ideal) m3.view (Rect.unit (s := S1x512x512) ![0, 0, 0] S1x512x512.size i3).toLoadRect (h3.unread x1))
      (View.readAt (Elt Ideal) m5.view (Rect.unit (s := S768x1024) ![0, 0] S512x1024.size i4).toLoadRect (h5.unread x3))
      (View.readAt (Elt Ideal) m5.view (Rect.unit (s := S768x1024) ![512, 0] S256x1024.size i5).toLoadRect (h5.unread x3))
      = xres x0 x1 x2 x3 := by
  funext y
  obtain ⟨n, d, rfl⟩ : ∃ (n : Fin 512) (d : Fin 1024), y = ix2 n d := ⟨y 0, y 1, by
    funext a
    match a with
    | ⟨0, _⟩ => rfl
    | ⟨1, _⟩ => rfl⟩
  refine (pay1_apply _ _ _ _ _ _ n d).trans ?_
  unfold xres
  refine congr (congrArg HAdd.hAdd (congr (congrArg HAdd.hAdd ?_) ?_)) (congr (congrArg HAdd.hAdd ?_) ?_)
  · rw [h2.readAt_unread]
    congr 1
    funext a
    refine Fin.ext ?_
    match a with
    | ⟨0, _⟩ => rfl
    | ⟨1, _⟩ => show 0 + 1 * n.val = n.val; omega
    | ⟨2, _⟩ => show 0 + 1 * d.val = d.val; omega
  · refine Finset.sum_congr rfl fun k _ => ?_
    rw [h3.readAt_unread, h5.readAt_unread]
    congr 1
    · congr 1
      funext a
      refine Fin.ext ?_
      match a with
      | ⟨0, _⟩ => rfl
      | ⟨1, _⟩ => show 0 + 1 * n.val = n.val; omega
      | ⟨2, _⟩ => show 0 + 1 * k.val = k.val; omega
    · congr 1
      funext a
      refine Fin.ext ?_
      match a with
      | ⟨0, _⟩ => show 0 + 1 * k.val = k.val; omega
      | ⟨1, _⟩ => show 0 + 1 * d.val = d.val; omega
  · refine Finset.sum_congr rfl fun k _ => ?_
    rw [h4.readAt_unread, h5.readAt_unread]
    congr 1
    · congr 1
      funext a
      refine Fin.ext ?_
      match a with
      | ⟨0, _⟩ => rfl
      | ⟨1, _⟩ => rfl
      | ⟨2, _⟩ => show 0 + 1 * n.val = n.val; omega
      | ⟨3, _⟩ => show 0 + 1 * k.val = k.val; omega
    · congr 1
      funext a
      refine Fin.ext ?_
      match a with
      | ⟨0, _⟩ => show 512 + 1 * k.val = 512 + k.val; omega
      | ⟨1, _⟩ => show 0 + 1 * d.val = d.val; omega
  · refine Finset.sum_congr rfl fun k _ => ?_
    rw [h4.readAt_unread, h5.readAt_unread]
    congr 1
    · congr 1
      funext a
      refine Fin.ext ?_
      match a with
      | ⟨0, _⟩ => rfl
      | ⟨1, _⟩ => rfl
      | ⟨2, _⟩ => show 0 + 1 * n.val = n.val; omega
      | ⟨3, _⟩ => show 0 + 1 * k.val = k.val; omega
    · congr 1
      funext a
      refine Fin.ext ?_
      match a with
      | ⟨0, _⟩ => show 512 + 1 * (128 + k.val) = 640 + k.val; omega
      | ⟨1, _⟩ => show 0 + 1 * d.val = d.val; omega

theorem hn_read (a b : Vec Ideal S1x1x512x128 .f32) (x : Vec Ideal S1x512x1024 .f32) (v : Vec Ideal S1x512x512 .f32) (w : Vec Ideal S512x1024 .bf16)
    (w' : Vec Ideal S256x1024 .bf16) (X : S512x1024.Idx → EReal) (hX : k0_pay1 (F := Ideal) a b x v w w' = X) {i6} :
    k0_pay6 (F := Ideal) (k0_pay1 a b x v w w')
      (k0_pay3 (View.readAt (Elt Ideal) m6.view (Rect.unit (s := S1x1024) ![0, 0] S1x1024.size i6).toLoadRect (h6.unread x4)))
      (k0_pay4 a b x v w w') k0_pay5 = hn X x4 := by
  funext y
  obtain ⟨n, d, rfl⟩ : ∃ (n : Fin 512) (d : Fin 1024), y = ix2 n d := ⟨y 0, y 1, by
    funext a
    match a with
    | ⟨0, _⟩ => rfl
    | ⟨1, _⟩ => rfl⟩
  refine (pay6_apply _ _ _ _ n d).trans ?_
  rw [pay4_apply, pay3_apply, hX, h6.readAt_unread]
  unfold hn
  refine congr (congrArg HMul.hMul rfl) ?_
  congr 1
  funext a
  refine Fin.ext ?_
  match a with
  | ⟨0, _⟩ => rfl
  | ⟨1, _⟩ => show 0 + 1 * d.val = d.val; omega

/-- A row of the output block. -/
def outRow (X : S512x1024.Idx → EReal) (act : S512x2816.Idx → EReal) (w : S1x2816x1024.Idx → EReal) (n : Fin 512) (d : Fin 1024) : EReal :=
  X (ix2 n d) + ∑ q : Fin 2816, act (ix2 n q) * w (ix3 (0 : Fin 1) q d)

theorem out_read (X : S512x1024.Idx → EReal) (act : S512x2816.Idx → EReal) (n : Fin 512) (d : Fin 1024) {i11} :
    k0_pay530 (F := Ideal) X act (View.readAt (Elt Ideal) m11.view (Rect.unit (s := S1x2816x1024) ![0, 0, 0] S1x2816x1024.size i11).toLoadRect (h11.unread x9)) (ix3 (0 : Fin 1) n d)
      = outRow X act x9 n d := by
  refine (pay530_apply X act _ n d).trans ?_
  unfold outRow
  refine congrArg (HAdd.hAdd _) (Finset.sum_congr rfl fun q _ => ?_)
  rw [h11.readAt_unread]
  refine congrArg (HMul.hMul _) ?_
  congr 1
  funext a
  refine Fin.ext ?_
  match a with
  | ⟨0, _⟩ => rfl
  | ⟨1, _⟩ => show 0 + 1 * q.val = q.val; omega
  | ⟨2, _⟩ => show 0 + 1 * d.val = d.val; omega
end Reads

/-- The pieces of one function `G`, where they cover the buffer, read back whole. -/
theorem whole_read {v : View sg .tc .vmem S512x2816 .bf16} {L : List (View.Piece (Elt Ideal) S512x2816 .bf16)} {G : S512x2816.Idx → EReal}
    (h : View.PiecesOf (Val := Elt Ideal) G L) (hc : ∀ y, ∃ p ∈ L, y ∈ p.1.set) {inb} :
    v.readCov L (Rect.unit (s := S512x2816) ![0, 0] S512x2816.size inb).toLoadRect = G := by
  rw [View.readCov_eq_canon']
  funext y
  refine (View.canon_apply_of_pieces G L h.mem _ (hc _)).trans ?_
  congr 1
  funext a
  refine Fin.ext ?_
  match a with
  | ⟨0, _⟩ => show 0 + 1 * (y 0).val = (y 0).val; omega
  | ⟨1, _⟩ => show 0 + 1 * (y 1).val = (y 1).val; omega

/-- The last eight rows read back and stored in the carried rows. -/
theorem carry_read {v : View sg .tc .vmem S22x520x128 .f32} {f : v.ty.Contents (Elt Ideal)} {L : List (View.Piece (Elt Ideal) S22x520x128 .f32)}
    {G : S22x520x128.Idx → EReal} {lo : ℕ} (hg : GOk v f L G 22 lo) {inb} (a : Fin 22) (i : Fin 8) (j : Fin 128) :
    k0_pay531 (F := Ideal) (View.readAt (Elt Ideal) v (Rect.unit (s := S22x520x128) ![0, 512, 0] S22x8x128.size inb).toLoadRect (v.writes (Elt Ideal) f L)) (ix3 a i j)
      = G (ix3 a (⟨512 + i.val, by omega⟩ : Fin 520) j) := by
  rw [pay531_eq, View.readAt_apply]
  have e : (Rect.unit (s := S22x520x128) ![0, 512, 0] S22x8x128.size inb).toLoadRect.idx (ix3 a i j) = ix3 a (⟨512 + i.val, by omega⟩ : Fin 520) j := by
    funext b
    refine Fin.ext ?_
    match b with
    | ⟨0, _⟩ => show 0 + 1 * a.val = a.val; omega
    | ⟨1, _⟩ => show 512 + 1 * i.val = 512 + i.val; omega
    | ⟨2, _⟩ => show 0 + 1 * j.val = j.val; omega
  rw [e]
  exact hg _ (Or.inl ⟨a.isLt, by show 8 ≤ 512 + i.val; omega⟩)

/-! ## One block -/

/-- The normalised rows, the gate's buffer and the output of one block of the residual stream `X`, with the carried rows
    `halo`. -/
def hI (X : S512x1024.Idx → EReal) (x4 : S1x1024.Idx → EReal) : S512x1024.Idx → EReal := hn X x4
def gI (halo : S22x520x128.Idx → EReal) (X : S512x1024.Idx → EReal) (x4 : S1x1024.Idx → EReal) (x5 : S1x1024x2816.Idx → EReal) :
    S22x520x128.Idx → EReal := Gall halo (hI X x4) x5
def outI (halo : S22x520x128.Idx → EReal) (X : S512x1024.Idx → EReal) (x4 : S1x1024.Idx → EReal) (x5 x6 : S1x1024x2816.Idx → EReal)
    (x7 : S24x2816.Idx → EReal) (x8 : S8x2816.Idx → EReal) (x9 : S1x2816x1024.Idx → EReal) (n : Fin 512) (d : Fin 1024) : EReal :=
  outRow X (Act (gI halo X x4 x5) (Uall (hI X x4) x6) x7 x8) x9 n d

end Cert.FfnKernelIdeal.Hand

end
-- ==== Proof.FfnSpec.lean ====
/- The feed-forward block as formulas over whole sequences, and the kernel's block as a part of them. -/
module

public import proofs.«01_k».proof.Proof.FfnBlock

@[expose] public section

set_option maxRecDepth 16384

noncomputable section

namespace Cert.FfnKernelIdeal.Hand

open Cert.FfnKernelIdeal Cert.FfnKernelIdeal.Gen
open Idealize.ShloMosaic Idealize.ShloMosaic.TcCoe

/-- The ten arrays the block is computed from. -/
structure Args where
  x : S8x4096x1024.Idx → EReal
  lru : S8x4096x512.Idx → EReal
  att : S8x2x4096x128.Idx → EReal
  wout : S1x768x1024.Idx → EReal
  norm : S2x1024.Idx → EReal
  wgate : S2x1024x2816.Idx → EReal
  wup : S2x1024x2816.Idx → EReal
  conv : S2x3x2816.Idx → EReal
  bias : S2x2816.Idx → EReal
  wdown : S2x2816x1024.Idx → EReal

/-- What a layer's feed-forward network is computed from: the layer `l`, the residual stream `X`, and the weights. -/
structure Net where
  l : Fin 2
  X : Fin 8 → Fin 4096 → Fin 1024 → EReal
  norm : S2x1024.Idx → EReal
  wgate : S2x1024x2816.Idx → EReal
  wup : S2x1024x2816.Idx → EReal
  conv : S2x3x2816.Idx → EReal
  bias : S2x2816.Idx → EReal
  wdown : S2x2816x1024.Idx → EReal

/-- The residual stream after the mixers' projection. -/
def xG (A : Args) (b : Fin 8) (s : Fin 4096) (d : Fin 1024) : EReal :=
  A.x (ix3 b s d) + (∑ k : Fin 512, A.lru (ix3 b s k) * A.wout (ix3 (0 : Fin 1) (⟨k.val, by omega⟩ : Fin 768) d))
    + ((∑ k : Fin 128, A.att (ix4 b (0 : Fin 2) s k) * A.wout (ix3 (0 : Fin 1) (⟨512 + k.val, by omega⟩ : Fin 768) d))
      + ∑ k : Fin 128, A.att (ix4 b (1 : Fin 2) s k) * A.wout (ix3 (0 : Fin 1) (⟨640 + k.val, by omega⟩ : Fin 768) d))

/-- Layer 1's network. -/
def Args.net (A : Args) : Net := ⟨1, xG A, A.norm, A.wgate, A.wup, A.conv, A.bias, A.wdown⟩

section Spec
variable (A : Net) (b : Fin 8)

/-- The normalised rows. -/
def hG (s : Fin 4096) (d : Fin 1024) : EReal :=
  A.X b s d * Ideal.rsqrt (Ideal.div (∑ k : Fin 1024, A.X b s k * A.X b s k) (Ideal.ofBits .f32 0x44800000#32) + Ideal.ofBits .f32 0x358637BD#32)
    * A.norm (ix2 A.l d)
/-- The two projections. -/
def gG (s : Fin 4096) (q : Fin 2816) : EReal := ∑ k : Fin 1024, hG A b s k * A.wgate (ix3 A.l k q)
def uG (s : Fin 4096) (q : Fin 2816) : EReal := ∑ k : Fin 1024, hG A b s k * A.wup (ix3 A.l k q)
/-- The gate's rows behind two rows of zeros. -/
def gP (r : ℕ) (q : Fin 2816) : EReal := if h : 2 ≤ r ∧ r < 4098 then gG A b (⟨r - 2, by omega⟩ : Fin 4096) q else 0
/-- The activation. -/
def aG (s : Fin 4096) (q : Fin 2816) : EReal :=
  gateK (A.conv (ix3 A.l (0 : Fin 3) q) * gP A b s.val q + A.conv (ix3 A.l (1 : Fin 3) q) * gP A b (s.val + 1) q
    + A.conv (ix3 A.l (2 : Fin 3) q) * gP A b (s.val + 2) q + A.bias (ix2 A.l q)) (uG A b s q)
/-- The result. -/
def oG (s : Fin 4096) (d : Fin 1024) : EReal := A.X b s d + ∑ q : Fin 2816, aG A b s q * A.wdown (ix3 A.l q d)
end Spec

/-- The row of the sequence that row `n` of block `j` is. -/
abbrev rowIn (j : Fin 8) (n : Fin 512) : Fin 4096 := ⟨512 * j.val + n.val, by omega⟩

/-- The blocks are those of batch entry `b` and block `j` of the sequence. -/
structure BlocksOf (A : Net) (b j : Fin 8) (X : S512x1024.Idx → EReal) (x4 : S1x1024.Idx → EReal) (x5 x6 : S1x1024x2816.Idx → EReal)
    (x7 : S24x2816.Idx → EReal) (x8 : S8x2816.Idx → EReal) (x9 : S1x2816x1024.Idx → EReal) : Prop where
  eX : ∀ (n : Fin 512) (d : Fin 1024), X (ix2 n d) = A.X b (rowIn j n) d
  e4 : ∀ (d : Fin 1024), x4 (ix2 (0 : Fin 1) d) = A.norm (ix2 A.l d)
  e5 : ∀ (k : Fin 1024) (q : Fin 2816), x5 (ix3 (0 : Fin 1) k q) = A.wgate (ix3 A.l k q)
  e6 : ∀ (k : Fin 1024) (q : Fin 2816), x6 (ix3 (0 : Fin 1) k q) = A.wup (ix3 A.l k q)
  e7 : ∀ (r : Fin 24) (q : Fin 2816), x7 (ix2 r q) = A.conv (ix3 A.l (⟨r.val / 8, by omega⟩ : Fin 3) q)
  e8 : ∀ (r : Fin 8) (q : Fin 2816), x8 (ix2 r q) = A.bias (ix2 A.l q)
  e9 : ∀ (q : Fin 2816) (d : Fin 1024), x9 (ix3 (0 : Fin 1) q d) = A.wdown (ix3 A.l q d)

/-- The two rows before the block, where the kernel keeps them. -/
def HaloOk (A : Net) (b j : Fin 8) (halo : S22x520x128.Idx → EReal) : Prop :=
  ∀ (r : Fin 8) (q : Fin 2816), 6 ≤ r.val →
    halo (ix3 (⟨q.val / 128, by omega⟩ : Fin 22) (⟨r.val, by omega⟩ : Fin 520) (⟨q.val % 128, by omega⟩ : Fin 128)) = gP A b (512 * j.val + r.val - 6) q

/-- Layer 1's block of the residual stream. -/
theorem xres_G {A : Args} {b j : Fin 8} {x0 : S1x512x1024.Idx → EReal} {x1 : S1x512x512.Idx → EReal} {x2 : S1x2x512x128.Idx → EReal} {x3 : S768x1024.Idx → EReal}
    (e0 : ∀ (n : Fin 512) (d : Fin 1024), x0 (ix3 (0 : Fin 1) n d) = A.x (ix3 b (rowIn j n) d))
    (e1 : ∀ (n k : Fin 512), x1 (ix3 (0 : Fin 1) n k) = A.lru (ix3 b (rowIn j n) k))
    (e2 : ∀ (g : Fin 2) (n : Fin 512) (k : Fin 128), x2 (ix4 (0 : Fin 1) g n k) = A.att (ix4 b g (rowIn j n) k))
    (e3 : ∀ (k : Fin 768) (d : Fin 1024), x3 (ix2 k d) = A.wout (ix3 (0 : Fin 1) k d)) (n : Fin 512) (d : Fin 1024) :
    xres x0 x1 x2 x3 (ix2 n d) = A.net.X b (rowIn j n) d :=
  congrArg₂ (· + ·) (congrArg₂ (· + ·) (e0 n d) (Finset.sum_congr rfl fun k _ => congrArg₂ (· * ·) (e1 n k) (e3 _ d)))
    (congrArg₂ (· + ·) (Finset.sum_congr rfl fun k _ => congrArg₂ (· * ·) (e2 0 n k) (e3 _ d))
      (Finset.sum_congr rfl fun k _ => congrArg₂ (· * ·) (e2 1 n k) (e3 _ d)))

section Block
variable {A : Net} {b j : Fin 8} {X : S512x1024.Idx → EReal} {x4 : S1x1024.Idx → EReal} {x5 x6 : S1x1024x2816.Idx → EReal}
    {x7 : S24x2816.Idx → EReal} {x8 : S8x2816.Idx → EReal} {x9 : S1x2816x1024.Idx → EReal} (B : BlocksOf A b j X x4 x5 x6 x7 x8 x9)
include B

theorem hI_G (n : Fin 512) (d : Fin 1024) : hI X x4 (ix2 n d) = hG A b (rowIn j n) d :=
  congrArg₂ (· * ·) (congrArg₂ (· * ·) (B.eX n d) (congrArg (fun s => Ideal.rsqrt (Ideal.div s (Ideal.ofBits .f32 0x44800000#32) + Ideal.ofBits .f32 0x358637BD#32))
    (Finset.sum_congr rfl fun k _ => congrArg₂ (· * ·) (B.eX n k) (B.eX n k)))) (B.e4 d)

theorem uI_G (n : Fin 512) (q : Fin 2816) : Uall (hI X x4) x6 (ix2 n q) = uG A b (rowIn j n) q :=
  Finset.sum_congr rfl fun k _ => congrArg₂ (· * ·) (hI_G B n k) (B.e6 k q)

/-- A row of the gate's buffer behind the first eight. -/
theorem gI_own (halo : S22x520x128.Idx → EReal) (a : Fin 22) (r : Fin 520) (l : Fin 128) (hr : 8 ≤ r.val) :
    gI halo X x4 x5 (ix3 a r l) = gG A b (rowIn j ⟨r.val - 8, by omega⟩) (⟨128 * a.val + l.val, by omega⟩ : Fin 2816) :=
  (dif_neg (show ¬ r.val < 8 by omega)).trans (Finset.sum_congr rfl fun k _ => congrArg₂ (· * ·) (hI_G B _ k) (B.e5 k _))

omit B in
theorem gP_row (s : Fin 4096) (q : Fin 2816) (r : ℕ) (h : r = s.val + 2) : gP A b r q = gG A b s q := by
  subst h
  exact (dif_pos ⟨by omega, by omega⟩).trans (congrArg (fun s => gG A b s q) (Fin.ext (show s.val + 2 - 2 = s.val by omega)))

theorem gAt_G {halo : S22x520x128.Idx → EReal} (H : HaloOk A b j halo) (n : Fin 512) (d : Fin 9) (hd : 6 ≤ d.val) (q : Fin 2816) :
    gAt (gI halo X x4 x5) n d q = gP A b (512 * j.val + n.val + (d.val - 6)) q := by
  unfold gAt
  by_cases h : n.val + d.val < 8
  · refine Eq.trans (dif_pos h) ((H ⟨n.val + d.val, h⟩ q (by show 6 ≤ n.val + d.val; omega)).trans ?_)
    refine congrArg (fun r => gP A b r q) ?_
    show 512 * j.val + (n.val + d.val) - 6 = _
    omega
  · refine (gI_own B halo _ _ _ (by show 8 ≤ n.val + d.val; omega)).trans ?_
    have eq : (⟨128 * (q.val / 128) + q.val % 128, by omega⟩ : Fin 2816) = q := Fin.ext (show 128 * (q.val / 128) + q.val % 128 = q.val by omega)
    refine (congrArg (gG A b _) eq).trans (gP_row _ q _ ?_).symm
    show _ = 512 * j.val + (n.val + d.val - 8) + 2
    omega

theorem act_G {halo : S22x520x128.Idx → EReal} (H : HaloOk A b j halo) (n : Fin 512) (q : Fin 2816) :
    Act (gI halo X x4 x5) (Uall (hI X x4) x6) x7 x8 (ix2 n q) = aG A b (rowIn j n) q := by
  have c0 : x7 (ix2 (⟨n.val % 8, by omega⟩ : Fin 24) q) = A.conv (ix3 A.l (0 : Fin 3) q) :=
    (B.e7 _ q).trans (congrArg (fun w : Fin 3 => A.conv (ix3 A.l w q)) (Fin.ext (show n.val % 8 / 8 = 0 by omega)))
  have c1 : x7 (ix2 (⟨8 + n.val % 8, by omega⟩ : Fin 24) q) = A.conv (ix3 A.l (1 : Fin 3) q) :=
    (B.e7 _ q).trans (congrArg (fun w : Fin 3 => A.conv (ix3 A.l w q)) (Fin.ext (show (8 + n.val % 8) / 8 = 1 by omega)))
  have c2 : x7 (ix2 (⟨16 + n.val % 8, by omega⟩ : Fin 24) q) = A.conv (ix3 A.l (2 : Fin 3) q) :=
    (B.e7 _ q).trans (congrArg (fun w : Fin 3 => A.conv (ix3 A.l w q)) (Fin.ext (show (16 + n.val % 8) / 8 = 2 by omega)))
  exact congrArg₂ gateK (congrArg₂ (· + ·) (congrArg₂ (· + ·) (congrArg₂ (· + ·)
    (congrArg₂ (· * ·) c0 (gAt_G B H n 6 (by decide) q)) (congrArg₂ (· * ·) c1 (gAt_G B H n 7 (by decide) q)))
    (congrArg₂ (· * ·) c2 (gAt_G B H n 8 (by decide) q))) (B.e8 _ q)) (uI_G B n q)

theorem outI_G {halo : S22x520x128.Idx → EReal} (H : HaloOk A b j halo) (n : Fin 512) (d : Fin 1024) :
    outI halo X x4 x5 x6 x7 x8 x9 n d = oG A b (rowIn j n) d :=
  congrArg₂ (· + ·) (B.eX n d) (Finset.sum_congr rfl fun q _ => congrArg₂ (· * ·) (act_G B H n q) (B.e9 q d))

/-- The rows the kernel carries are those the next block's window needs. -/
theorem carry_G (halo halo' : S22x520x128.Idx → EReal)
    (e : ∀ (a : Fin 22) (r : Fin 8) (l : Fin 128), halo' (ix3 a (⟨r.val, by omega⟩ : Fin 520) l) = gI halo X x4 x5 (ix3 a (⟨512 + r.val, by omega⟩ : Fin 520) l))
    (j' : Fin 8) (hj : j'.val = j.val + 1) : HaloOk A b j' halo' := by
  intro r q hr
  refine (e _ r _).trans ((gI_own B halo _ _ _ (by show 8 ≤ 512 + r.val; omega)).trans ?_)
  have eq : (⟨128 * (q.val / 128) + q.val % 128, by omega⟩ : Fin 2816) = q := Fin.ext (show 128 * (q.val / 128) + q.val % 128 = q.val by omega)
  refine (congrArg (gG A b _) eq).trans (gP_row _ q _ ?_).symm
  show _ = 512 * j.val + (512 + r.val - 8) + 2
  omega
end Block

/-- Before the first block there are zeros. -/
theorem halo_zero (A : Net) (b j : Fin 8) (hj : j.val = 0) : HaloOk A b j (fun _ => 0) := by
  intro r q hr
  have h : ¬(2 ≤ 512 * j.val + r.val - 6 ∧ 512 * j.val + r.val - 6 < 4098) := by omega
  show (0 : EReal) = gP A b (512 * j.val + r.val - 6) q
  rw [gP, dif_neg h]

end Cert.FfnKernelIdeal.Hand
-- ==== Proof.FfnInputs.lean ====
/- What the input blocks of the kernel hold at a grid point, as entries of the arguments. -/
module

public import proofs.«01_k».proof.Proof.Gen.FfnKernelIdeal.Frame
public import Idealize.ShloMosaic.Lib.StableHlo.RunRead
public import Idealize.ShloMosaic.Lib.Pointwise

@[expose] public section

set_option maxRecDepth 16384

noncomputable section

namespace Cert.FfnKernelIdeal.Hand

open Cert.FfnKernelIdeal Cert.FfnKernelIdeal.Gen
open Idealize.ShloMosaic Idealize.ShloMosaic.TcCoe Idealize.SL.Sem

/-! ## The arrays the host prepares -/

theorem host_v16 (W : Valuation τ sig (Elt Ideal)) (k : Fin 768) (d : Fin 1024) :
    (StableHlo.after (hostOps0 (F := Ideal)) W main_v16 : S768x1024.Idx → EReal) (ix2 k d) = (W main_arg3 : S1x768x1024.Idx → EReal) (ix3 (0 : Fin 1) k d) := by
  after_reads_simp
  generalize W (Proc.devRef .tc main_arg3) = A
  pointwise

theorem host_v2 (W : Valuation τ sig (Elt Ideal)) (z : Fin 1) (d : Fin 1024) :
    (StableHlo.after (hostOps0 (F := Ideal)) W main_v2 : S1x1024.Idx → EReal) (ix2 z d) = (W main_arg4 : S2x1024.Idx → EReal) (ix2 (1 : Fin 2) d) := by
  after_reads_simp
  generalize W (Proc.devRef .tc main_arg4) = A
  pointwise

theorem host_v3 (W : Valuation τ sig (Elt Ideal)) (l : Fin 2) (k : Fin 1024) (q : Fin 2816) :
    (StableHlo.after (hostOps0 (F := Ideal)) W main_v3 : S2x1024x2816.Idx → EReal) (ix3 l k q) = (W main_arg5 : S2x1024x2816.Idx → EReal) (ix3 l k q) := by
  after_reads_simp
  generalize W (Proc.devRef .tc main_arg5) = A
  pointwise

theorem host_v4 (W : Valuation τ sig (Elt Ideal)) (l : Fin 2) (k : Fin 1024) (q : Fin 2816) :
    (StableHlo.after (hostOps0 (F := Ideal)) W main_v4 : S2x1024x2816.Idx → EReal) (ix3 l k q) = (W main_arg6 : S2x1024x2816.Idx → EReal) (ix3 l k q) := by
  after_reads_simp
  generalize W (Proc.devRef .tc main_arg6) = A
  pointwise

theorem host_v8 (W : Valuation τ sig (Elt Ideal)) (r : Fin 24) (q : Fin 2816) :
    (StableHlo.after (hostOps0 (F := Ideal)) W main_v8 : S24x2816.Idx → EReal) (ix2 r q) = (W main_arg7 : S2x3x2816.Idx → EReal) (ix3 (1 : Fin 2) (⟨r.val / 8, by omega⟩ : Fin 3) q) := by
  after_reads_simp
  generalize W (Proc.devRef .tc main_arg7) = A
  pointwise

theorem host_v13 (W : Valuation τ sig (Elt Ideal)) (r : Fin 8) (q : Fin 2816) :
    (StableHlo.after (hostOps0 (F := Ideal)) W main_v13 : S8x2816.Idx → EReal) (ix2 r q) = (W main_arg8 : S2x2816.Idx → EReal) (ix2 (1 : Fin 2) q) := by
  after_reads_simp
  generalize W (Proc.devRef .tc main_arg8) = A
  pointwise

theorem host_v14 (W : Valuation τ sig (Elt Ideal)) (l : Fin 2) (q : Fin 2816) (d : Fin 1024) :
    (StableHlo.after (hostOps0 (F := Ideal)) W main_v14 : S2x2816x1024.Idx → EReal) (ix3 l q d) = (W main_arg9 : S2x2816x1024.Idx → EReal) (ix3 l q d) := by
  after_reads_simp
  generalize W (Proc.devRef .tc main_arg9) = A
  pointwise

/-! ## Where the blocks of a grid point lie -/

theorem index0 : ∀ t : Fin cfg0.N, win0_0.index t = ![t.val / 8, t.val % 8, 0] := by decide +kernel
theorem index1 : ∀ t : Fin cfg0.N, win0_1.index t = ![t.val / 8, t.val % 8, 0] := by decide +kernel
theorem index2 : ∀ t : Fin cfg0.N, win0_2.index t = ![t.val / 8, 0, t.val % 8, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![1, 0, 0] := by decide +kernel
theorem index6 : ∀ t : Fin cfg0.N, win0_6.index t = ![1, 0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![1, 0, 0] := by decide +kernel

/-! ## The blocks -/

variable (m : (ℓ : Loc nD τ sig) → Buf (Elt Ideal) ℓ)

theorem tLt (t : Fin cfg0.N) : t.val < 64 := by have h : cfg0.N = 64 := N_0; have := t.isLt; omega

/-- The batch entry of a grid point, and the row of the sequence that a row of its block is. -/
abbrev bat (t : Fin cfg0.N) : Fin 8 := ⟨t.val / 8, by have := tLt t; omega⟩
abbrev row (t : Fin cfg0.N) (n : Fin 512) : Fin 4096 := ⟨512 * (t.val % 8) + n.val, by omega⟩

theorem blk0 (c : Dev nD) (t : Fin cfg0.N) (n : Fin 512) (d : Fin 1024) :
    (iblk m c 0 t : S1x512x1024.Idx → EReal) (ix3 (0 : Fin 1) n d) = (m ((c : Thread nD τ).loc main_arg0) : S8x4096x1024.Idx → EReal) (ix3 (bat t) (row t n) d) := by
  have e : ∀ a, (win0_0.index t) a = (![t.val / 8, t.val % 8, 0] : Fin 3 → ℕ) a := fun a => congrFun (index0 t) a
  refine Eq.trans (b := (V m c main_arg0 : S8x4096x1024.Idx → EReal) (ix3 (bat t) (row t n) d)) (congrArg (V m c main_arg0) ?_) (congrFun (V_main_arg0 m c) (ix3 (bat t) (row t n) d))
  funext a
  apply Fin.ext
  fin_cases a
  · show win0_0.index t 0 * 1 + 1 * 0 = t.val / 8; rw [e 0]; show (t.val / 8) * 1 + 1 * 0 = t.val / 8; omega
  · show win0_0.index t 1 * 512 + 1 * n.val = 512 * (t.val % 8) + n.val; rw [e 1]; show (t.val % 8) * 512 + 1 * n.val = 512 * (t.val % 8) + n.val; omega
  · show win0_0.index t 2 * 1024 + 1 * d.val = d.val; rw [e 2]; show (0) * 1024 + 1 * d.val = d.val; omega

theorem blk1 (c : Dev nD) (t : Fin cfg0.N) (n : Fin 512) (k : Fin 512) :
    (iblk m c 1 t : S1x512x512.Idx → EReal) (ix3 (0 : Fin 1) n k) = (m ((c : Thread nD τ).loc main_arg1) : S8x4096x512.Idx → EReal) (ix3 (bat t) (row t n) k) := by
  have e : ∀ a, (win0_1.index t) a = (![t.val / 8, t.val % 8, 0] : Fin 3 → ℕ) a := fun a => congrFun (index1 t) a
  refine Eq.trans (b := (V m c main_arg1 : S8x4096x512.Idx → EReal) (ix3 (bat t) (row t n) k)) (congrArg (V m c main_arg1) ?_) (congrFun (V_main_arg1 m c) (ix3 (bat t) (row t n) k))
  funext a
  apply Fin.ext
  fin_cases a
  · show win0_1.index t 0 * 1 + 1 * 0 = t.val / 8; rw [e 0]; show (t.val / 8) * 1 + 1 * 0 = t.val / 8; omega
  · show win0_1.index t 1 * 512 + 1 * n.val = 512 * (t.val % 8) + n.val; rw [e 1]; show (t.val % 8) * 512 + 1 * n.val = 512 * (t.val % 8) + n.val; omega
  · show win0_1.index t 2 * 512 + 1 * k.val = k.val; rw [e 2]; show (0) * 512 + 1 * k.val = k.val; omega

theorem blk2 (c : Dev nD) (t : Fin cfg0.N) (g : Fin 2) (n : Fin 512) (k : Fin 128) :
    (iblk m c 2 t : S1x2x512x128.Idx → EReal) (ix4 (0 : Fin 1) g n k) = (m ((c : Thread nD τ).loc main_arg2) : S8x2x4096x128.Idx → EReal) (ix4 (bat t) g (row t n) k) := by
  have e : ∀ a, (win0_2.index t) a = (![t.val / 8, 0, t.val % 8, 0] : Fin 4 → ℕ) a := fun a => congrFun (index2 t) a
  refine Eq.trans (b := (V m c main_arg2 : S8x2x4096x128.Idx → EReal) (ix4 (bat t) g (row t n) k)) (congrArg (V m c main_arg2) ?_) (congrFun (V_main_arg2 m c) (ix4 (bat t) g (row t n) k))
  funext a
  apply Fin.ext
  fin_cases a
  · show win0_2.index t 0 * 1 + 1 * 0 = t.val / 8; rw [e 0]; show (t.val / 8) * 1 + 1 * 0 = t.val / 8; omega
  · show win0_2.index t 1 * 2 + 1 * g.val = g.val; rw [e 1]; show (0) * 2 + 1 * g.val = g.val; omega
  · show win0_2.index t 2 * 512 + 1 * n.val = 512 * (t.val % 8) + n.val; rw [e 2]; show (t.val % 8) * 512 + 1 * n.val = 512 * (t.val % 8) + n.val; omega
  · show win0_2.index t 3 * 128 + 1 * k.val = k.val; rw [e 3]; show (0) * 128 + 1 * k.val = k.val; omega

theorem blk3 (c : Dev nD) (t : Fin cfg0.N) (k : Fin 768) (d : Fin 1024) :
    (iblk m c 3 t : S768x1024.Idx → EReal) (ix2 k d) = (m ((c : Thread nD τ).loc main_arg3) : S1x768x1024.Idx → EReal) (ix3 (0 : Fin 1) k d) := by
  have e : ∀ a, (win0_3.index t) a = (![0, 0] : Fin 2 → ℕ) a := fun a => congrFun (index3 t) a
  refine Eq.trans (b := (V m c main_v16 : S768x1024.Idx → EReal) (ix2 k d)) (congrArg (V m c main_v16) ?_) (host_v16 (fun b => m (c, b)) k d)
  funext a
  apply Fin.ext
  fin_cases a
  · show win0_3.index t 0 * 768 + 1 * k.val = k.val; rw [e 0]; show (0) * 768 + 1 * k.val = k.val; omega
  · show win0_3.index t 1 * 1024 + 1 * d.val = d.val; rw [e 1]; show (0) * 1024 + 1 * d.val = d.val; omega

theorem blk4 (c : Dev nD) (t : Fin cfg0.N) (d : Fin 1024) :
    (iblk m c 4 t : S1x1024.Idx → EReal) (ix2 (0 : Fin 1) d) = (m ((c : Thread nD τ).loc main_arg4) : S2x1024.Idx → EReal) (ix2 (1 : Fin 2) d) := by
  have e : ∀ a, (win0_4.index t) a = (![0, 0] : Fin 2 → ℕ) a := fun a => congrFun (index4 t) a
  refine Eq.trans (b := (V m c main_v2 : S1x1024.Idx → EReal) (ix2 (0 : Fin 1) d)) (congrArg (V m c main_v2) ?_) (host_v2 (fun b => m (c, b)) (0 : Fin 1) d)
  funext a
  apply Fin.ext
  fin_cases a
  · show win0_4.index t 0 * 1 + 1 * 0 = 0; rw [e 0]; show (0) * 1 + 1 * 0 = 0; omega
  · show win0_4.index t 1 * 1024 + 1 * d.val = d.val; rw [e 1]; show (0) * 1024 + 1 * d.val = d.val; omega

theorem blk5 (c : Dev nD) (t : Fin cfg0.N) (k : Fin 1024) (q : Fin 2816) :
    (iblk m c 5 t : S1x1024x2816.Idx → EReal) (ix3 (0 : Fin 1) k q) = (m ((c : Thread nD τ).loc main_arg5) : S2x1024x2816.Idx → EReal) (ix3 (1 : Fin 2) k q) := by
  have e : ∀ a, (win0_5.index t) a = (![1, 0, 0] : Fin 3 → ℕ) a := fun a => congrFun (index5 t) a
  refine Eq.trans (b := (V m c main_v3 : S2x1024x2816.Idx → EReal) (ix3 (1 : Fin 2) k q)) (congrArg (V m c main_v3) ?_) (host_v3 (fun b => m (c, b)) (1 : Fin 2) k q)
  funext a
  apply Fin.ext
  fin_cases a
  · show win0_5.index t 0 * 1 + 1 * 0 = 1; rw [e 0]; show (1) * 1 + 1 * 0 = 1; omega
  · show win0_5.index t 1 * 1024 + 1 * k.val = k.val; rw [e 1]; show (0) * 1024 + 1 * k.val = k.val; omega
  · show win0_5.index t 2 * 2816 + 1 * q.val = q.val; rw [e 2]; show (0) * 2816 + 1 * q.val = q.val; omega

theorem blk6 (c : Dev nD) (t : Fin cfg0.N) (k : Fin 1024) (q : Fin 2816) :
    (iblk m c 6 t : S1x1024x2816.Idx → EReal) (ix3 (0 : Fin 1) k q) = (m ((c : Thread nD τ).loc main_arg6) : S2x1024x2816.Idx → EReal) (ix3 (1 : Fin 2) k q) := by
  have e : ∀ a, (win0_6.index t) a = (![1, 0, 0] : Fin 3 → ℕ) a := fun a => congrFun (index6 t) a
  refine Eq.trans (b := (V m c main_v4 : S2x1024x2816.Idx → EReal) (ix3 (1 : Fin 2) k q)) (congrArg (V m c main_v4) ?_) (host_v4 (fun b => m (c, b)) (1 : Fin 2) k q)
  funext a
  apply Fin.ext
  fin_cases a
  · show win0_6.index t 0 * 1 + 1 * 0 = 1; rw [e 0]; show (1) * 1 + 1 * 0 = 1; omega
  · show win0_6.index t 1 * 1024 + 1 * k.val = k.val; rw [e 1]; show (0) * 1024 + 1 * k.val = k.val; omega
  · show win0_6.index t 2 * 2816 + 1 * q.val = q.val; rw [e 2]; show (0) * 2816 + 1 * q.val = q.val; omega

theorem blk7 (c : Dev nD) (t : Fin cfg0.N) (r : Fin 24) (q : Fin 2816) :
    (iblk m c 7 t : S24x2816.Idx → EReal) (ix2 r q) = (m ((c : Thread nD τ).loc main_arg7) : S2x3x2816.Idx → EReal) (ix3 (1 : Fin 2) (⟨r.val / 8, by omega⟩ : Fin 3) q) := by
  have e : ∀ a, (win0_7.index t) a = (![0, 0] : Fin 2 → ℕ) a := fun a => congrFun (index7 t) a
  refine Eq.trans (b := (V m c main_v8 : S24x2816.Idx → EReal) (ix2 r q)) (congrArg (V m c main_v8) ?_) (host_v8 (fun b => m (c, b)) r q)
  funext a
  apply Fin.ext
  fin_cases a
  · show win0_7.index t 0 * 24 + 1 * r.val = r.val; rw [e 0]; show (0) * 24 + 1 * r.val = r.val; omega
  · show win0_7.index t 1 * 2816 + 1 * q.val = q.val; rw [e 1]; show (0) * 2816 + 1 * q.val = q.val; omega

theorem blk8 (c : Dev nD) (t : Fin cfg0.N) (r : Fin 8) (q : Fin 2816) :
    (iblk m c 8 t : S8x2816.Idx → EReal) (ix2 r q) = (m ((c : Thread nD τ).loc main_arg8) : S2x2816.Idx → EReal) (ix2 (1 : Fin 2) q) := by
  have e : ∀ a, (win0_8.index t) a = (![0, 0] : Fin 2 → ℕ) a := fun a => congrFun (index8 t) a
  refine Eq.trans (b := (V m c main_v13 : S8x2816.Idx → EReal) (ix2 r q)) (congrArg (V m c main_v13) ?_) (host_v13 (fun b => m (c, b)) r q)
  funext a
  apply Fin.ext
  fin_cases a
  · show win0_8.index t 0 * 8 + 1 * r.val = r.val; rw [e 0]; show (0) * 8 + 1 * r.val = r.val; omega
  · show win0_8.index t 1 * 2816 + 1 * q.val = q.val; rw [e 1]; show (0) * 2816 + 1 * q.val = q.val; omega

theorem blk9 (c : Dev nD) (t : Fin cfg0.N) (q : Fin 2816) (d : Fin 1024) :
    (iblk m c 9 t : S1x2816x1024.Idx → EReal) (ix3 (0 : Fin 1) q d) = (m ((c : Thread nD τ).loc main_arg9) : S2x2816x1024.Idx → EReal) (ix3 (1 : Fin 2) q d) := by
  have e : ∀ a, (win0_9.index t) a = (![1, 0, 0] : Fin 3 → ℕ) a := fun a => congrFun (index9 t) a
  refine Eq.trans (b := (V m c main_v14 : S2x2816x1024.Idx → EReal) (ix3 (1 : Fin 2) q d)) (congrArg (V m c main_v14) ?_) (host_v14 (fun b => m (c, b)) (1 : Fin 2) q d)
  funext a
  apply Fin.ext
  fin_cases a
  · show win0_9.index t 0 * 1 + 1 * 0 = 1; rw [e 0]; show (1) * 1 + 1 * 0 = 1; omega
  · show win0_9.index t 1 * 2816 + 1 * q.val = q.val; rw [e 1]; show (0) * 2816 + 1 * q.val = q.val; omega
  · show win0_9.index t 2 * 1024 + 1 * d.val = d.val; rw [e 2]; show (0) * 1024 + 1 * d.val = d.val; omega

end Cert.FfnKernelIdeal.Hand
-- ==== Proof.FfnCaseA.lean ====
/- The feed-forward block's stores at a sequence's first block of rows: every tile stored is the activation there. -/
module

public import proofs.«01_k».proof.Proof.FfnTile

@[expose] public section

set_option maxRecDepth 65536
set_option maxHeartbeats 4000000

noncomputable section

namespace Cert.FfnKernelIdeal.Hand.CaseA

open Cert.FfnKernelIdeal Cert.FfnKernelIdeal.Gen
open Idealize.ShloMosaic Idealize.ShloMosaic.TcCoe

variable (c : Dev nD)
variable (arg2 : Memref sig .tc .vmem S1x512x1024 .f32)
variable (harg2 : arg2.IsWhole)
variable (arg3 : Memref sig .tc .vmem S1x512x512 .f32)
variable (harg3 : arg3.IsWhole)
variable (arg4 : Memref sig .tc .vmem S1x2x512x128 .f32)
variable (harg4 : arg4.IsWhole)
variable (arg5 : Memref sig .tc .vmem S768x1024 .bf16)
variable (harg5 : arg5.IsWhole)
variable (arg6 : Memref sig .tc .vmem S1x1024 .f32)
variable (harg6 : arg6.IsWhole)
variable (arg7 : Memref sig .tc .vmem S1x1024x2816 .bf16)
variable (harg7 : arg7.IsWhole)
variable (arg8 : Memref sig .tc .vmem S1x1024x2816 .bf16)
variable (harg8 : arg8.IsWhole)
variable (arg9 : Memref sig .tc .vmem S24x2816 .f32)
variable (harg9 : arg9.IsWhole)
variable (arg10 : Memref sig .tc .vmem S8x2816 .f32)
variable (harg10 : arg10.IsWhole)
variable (arg13 : Memref sig .tc .vmem S512x1024 .bf16)
variable (arg14 : Memref sig .tc .vmem S22x520x128 .f32)
variable (arg15 : Memref sig .tc .vmem S512x2816 .f32)
variable (x0 : Vec Ideal S1x512x1024 .f32) (x1 : Vec Ideal S1x512x512 .f32) (x2 : Vec Ideal S1x2x512x128 .f32) (x3 : Vec Ideal S768x1024 .bf16) (x4 : Vec Ideal S1x1024 .f32) (x5 : Vec Ideal S1x1024x2816 .bf16) (x6 : Vec Ideal S1x1024x2816 .bf16) (x7 : Vec Ideal S24x2816 .f32) (x8 : Vec Ideal S8x2816 .f32)

/-- The normalised rows this block's run reads back. -/
abbrev hB : Vec Ideal S512x1024 .bf16 := (kernelRun0_A.sl.v40 (F := Ideal) c arg2 harg2 arg3 harg3 arg4 harg4 arg5 harg5 arg6 harg6 arg13 x0 x1 x2 x3 x4)

/-- The gate's buffer. -/
abbrev gB : S22x520x128.Idx → EReal := Gall (fun _ => 0) (hB c arg2 harg2 arg3 harg3 arg4 harg4 arg5 harg5 arg6 harg6 arg13 x0 x1 x2 x3 x4) x5

/-- The second projection's buffer. -/
abbrev uB : S512x2816.Idx → EReal := Uall (hB c arg2 harg2 arg3 harg3 arg4 harg4 arg5 harg5 arg6 harg6 arg13 x0 x1 x2 x3 x4) x6

/-- Every store into the activation's buffer is a block of the activation. -/
theorem act_pieces : View.PiecesOf (Act (gB c arg2 harg2 arg3 harg3 arg4 harg4 arg5 harg5 arg6 harg6 arg13 x0 x1 x2 x3 x4 x5) (uB c arg2 harg2 arg3 harg3 arg4 harg4 arg5 harg5 arg6 harg6 arg13 x0 x1 x2 x3 x4 x6) x7 x8) (kernelRun0_A.sl.HS3_176 (F := Ideal) c arg2 harg2 arg3 harg3 arg4 harg4 arg5 harg5 arg6 harg6 arg7 harg7 arg8 harg8 arg9 harg9 arg10 harg10 arg13 arg14 arg15 x0 x1 x2 x3 x4 x5 x6 x7 x8) := by
  have g0 : GOk arg14.view arg14.view.junk (kernelRun0_A.sl.HS1_3 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (0 + 1)) 0 := gstep 0 g_zero
  have u0 : UOk arg15.view arg15.view.junk (kernelRun0_A.sl.HS2_1 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (0 + 1)) := ustep 0 u_none
  have g1 : GOk arg14.view arg14.view.junk (kernelRun0_A.sl.HS1_5 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (1 + 1)) 0 := gstep 1 g0
  have u1 : UOk arg15.view arg15.view.junk (kernelRun0_A.sl.HS2_2 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (1 + 1)) := ustep 1 u0
  have g2 : GOk arg14.view arg14.view.junk (kernelRun0_A.sl.HS1_7 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (2 + 1)) 0 := gstep 2 g1
  have u2 : UOk arg15.view arg15.view.junk (kernelRun0_A.sl.HS2_3 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (2 + 1)) := ustep 2 u1
  have g3 : GOk arg14.view arg14.view.junk (kernelRun0_A.sl.HS1_9 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (3 + 1)) 0 := gstep 3 g2
  have u3 : UOk arg15.view arg15.view.junk (kernelRun0_A.sl.HS2_4 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (3 + 1)) := ustep 3 u2
  have g4 : GOk arg14.view arg14.view.junk (kernelRun0_A.sl.HS1_11 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (4 + 1)) 0 := gstep 4 g3
  have u4 : UOk arg15.view arg15.view.junk (kernelRun0_A.sl.HS2_5 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (4 + 1)) := ustep 4 u3
  have g5 : GOk arg14.view arg14.view.junk (kernelRun0_A.sl.HS1_13 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (5 + 1)) 0 := gstep 5 g4
  have u5 : UOk arg15.view arg15.view.junk (kernelRun0_A.sl.HS2_6 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (5 + 1)) := ustep 5 u4
  have g6 : GOk arg14.view arg14.view.junk (kernelRun0_A.sl.HS1_15 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (6 + 1)) 0 := gstep 6 g5
  have u6 : UOk arg15.view arg15.view.junk (kernelRun0_A.sl.HS2_7 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (6 + 1)) := ustep 6 u5
  have g7 : GOk arg14.view arg14.view.junk (kernelRun0_A.sl.HS1_17 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (7 + 1)) 0 := gstep 7 g6
  have u7 : UOk arg15.view arg15.view.junk (kernelRun0_A.sl.HS2_8 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (7 + 1)) := ustep 7 u6
  have g8 : GOk arg14.view arg14.view.junk (kernelRun0_A.sl.HS1_19 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (8 + 1)) 0 := gstep 8 g7
  have u8 : UOk arg15.view arg15.view.junk (kernelRun0_A.sl.HS2_9 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (8 + 1)) := ustep 8 u7
  have g9 : GOk arg14.view arg14.view.junk (kernelRun0_A.sl.HS1_21 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (9 + 1)) 0 := gstep 9 g8
  have u9 : UOk arg15.view arg15.view.junk (kernelRun0_A.sl.HS2_10 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (9 + 1)) := ustep 9 u8
  have g10 : GOk arg14.view arg14.view.junk (kernelRun0_A.sl.HS1_23 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (10 + 1)) 0 := gstep 10 g9
  have u10 : UOk arg15.view arg15.view.junk (kernelRun0_A.sl.HS2_11 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (10 + 1)) := ustep 10 u9
  exact pcons (tile_ok 10 15 (by decide) (by decide) g10 (by decide) g10 (by decide) u10) <|
    pcons (tile_ok 10 14 (by decide) (by decide) g10 (by decide) g10 (by decide) u10) <|
    pcons (tile_ok 10 13 (by decide) (by decide) g10 (by decide) g10 (by decide) u10) <|
    pcons (tile_ok 10 12 (by decide) (by decide) g10 (by decide) g10 (by decide) u10) <|
    pcons (tile_ok 10 11 (by decide) (by decide) g10 (by decide) g10 (by decide) u10) <|
    pcons (tile_ok 10 10 (by decide) (by decide) g10 (by decide) g10 (by decide) u10) <|
    pcons (tile_ok 10 9 (by decide) (by decide) g10 (by decide) g10 (by decide) u10) <|
    pcons (tile_ok 10 8 (by decide) (by decide) g10 (by decide) g10 (by decide) u10) <|
    pcons (tile_ok 10 7 (by decide) (by decide) g10 (by decide) g10 (by decide) u10) <|
    pcons (tile_ok 10 6 (by decide) (by decide) g10 (by decide) g10 (by decide) u10) <|
    pcons (tile_ok 10 5 (by decide) (by decide) g10 (by decide) g10 (by decide) u10) <|
    pcons (tile_ok 10 4 (by decide) (by decide) g10 (by decide) g10 (by decide) u10) <|
    pcons (tile_ok 10 3 (by decide) (by decide) g10 (by decide) g10 (by decide) u10) <|
    pcons (tile_ok 10 2 (by decide) (by decide) g10 (by decide) g10 (by decide) u10) <|
    pcons (tile_ok 10 1 (by decide) (by decide) g10 (by decide) g10 (by decide) u10) <|
    pcons (tile_ok 10 0 (by decide) (by decide) g10 (by decide) g10 (by decide) u10) <|
    pcons (tile_ok 9 15 (by decide) (by decide) g9 (by decide) g9 (by decide) u9) <|
    pcons (tile_ok 9 14 (by decide) (by decide) g9 (by decide) g9 (by decide) u9) <|
    pcons (tile_ok 9 13 (by decide) (by decide) g9 (by decide) g9 (by decide) u9) <|
    pcons (tile_ok 9 12 (by decide) (by decide) g9 (by decide) g9 (by decide) u9) <|
    pcons (tile_ok 9 11 (by decide) (by decide) g9 (by decide) g9 (by decide) u9) <|
    pcons (tile_ok 9 10 (by decide) (by decide) g9 (by decide) g9 (by decide) u9) <|
    pcons (tile_ok 9 9 (by decide) (by decide) g9 (by decide) g9 (by decide) u9) <|
    pcons (tile_ok 9 8 (by decide) (by decide) g9 (by decide) g9 (by decide) u9) <|
    pcons (tile_ok 9 7 (by decide) (by decide) g9 (by decide) g9 (by decide) u9) <|
    pcons (tile_ok 9 6 (by decide) (by decide) g9 (by decide) g9 (by decide) u9) <|
    pcons (tile_ok 9 5 (by decide) (by decide) g9 (by decide) g9 (by decide) u9) <|
    pcons (tile_ok 9 4 (by decide) (by decide) g9 (by decide) g9 (by decide) u9) <|
    pcons (tile_ok 9 3 (by decide) (by decide) g9 (by decide) g9 (by decide) u9) <|
    pcons (tile_ok 9 2 (by decide) (by decide) g9 (by decide) g9 (by decide) u9) <|
    pcons (tile_ok 9 1 (by decide) (by decide) g9 (by decide) g9 (by decide) u9) <|
    pcons (tile_ok 9 0 (by decide) (by decide) g9 (by decide) g9 (by decide) u9) <|
    pcons (tile_ok 8 15 (by decide) (by decide) g8 (by decide) g8 (by decide) u8) <|
    pcons (tile_ok 8 14 (by decide) (by decide) g8 (by decide) g8 (by decide) u8) <|
    pcons (tile_ok 8 13 (by decide) (by decide) g8 (by decide) g8 (by decide) u8) <|
    pcons (tile_ok 8 12 (by decide) (by decide) g8 (by decide) g8 (by decide) u8) <|
    pcons (tile_ok 8 11 (by decide) (by decide) g8 (by decide) g8 (by decide) u8) <|
    pcons (tile_ok 8 10 (by decide) (by decide) g8 (by decide) g8 (by decide) u8) <|
    pcons (tile_ok 8 9 (by decide) (by decide) g8 (by decide) g8 (by decide) u8) <|
    pcons (tile_ok 8 8 (by decide) (by decide) g8 (by decide) g8 (by decide) u8) <|
    pcons (tile_ok 8 7 (by decide) (by decide) g8 (by decide) g8 (by decide) u8) <|
    pcons (tile_ok 8 6 (by decide) (by decide) g8 (by decide) g8 (by decide) u8) <|
    pcons (tile_ok 8 5 (by decide) (by decide) g8 (by decide) g8 (by decide) u8) <|
    pcons (tile_ok 8 4 (by decide) (by decide) g8 (by decide) g8 (by decide) u8) <|
    pcons (tile_ok 8 3 (by decide) (by decide) g8 (by decide) g8 (by decide) u8) <|
    pcons (tile_ok 8 2 (by decide) (by decide) g8 (by decide) g8 (by decide) u8) <|
    pcons (tile_ok 8 1 (by decide) (by decide) g8 (by decide) g8 (by decide) u8) <|
    pcons (tile_ok 8 0 (by decide) (by decide) g8 (by decide) g8 (by decide) u8) <|
    pcons (tile_ok 7 15 (by decide) (by decide) g7 (by decide) g7 (by decide) u7) <|
    pcons (tile_ok 7 14 (by decide) (by decide) g7 (by decide) g7 (by decide) u7) <|
    pcons (tile_ok 7 13 (by decide) (by decide) g7 (by decide) g7 (by decide) u7) <|
    pcons (tile_ok 7 12 (by decide) (by decide) g7 (by decide) g7 (by decide) u7) <|
    pcons (tile_ok 7 11 (by decide) (by decide) g7 (by decide) g7 (by decide) u7) <|
    pcons (tile_ok 7 10 (by decide) (by decide) g7 (by decide) g7 (by decide) u7) <|
    pcons (tile_ok 7 9 (by decide) (by decide) g7 (by decide) g7 (by decide) u7) <|
    pcons (tile_ok 7 8 (by decide) (by decide) g7 (by decide) g7 (by decide) u7) <|
    pcons (tile_ok 7 7 (by decide) (by decide) g7 (by decide) g7 (by decide) u7) <|
    pcons (tile_ok 7 6 (by decide) (by decide) g7 (by decide) g7 (by decide) u7) <|
    pcons (tile_ok 7 5 (by decide) (by decide) g7 (by decide) g7 (by decide) u7) <|
    pcons (tile_ok 7 4 (by decide) (by decide) g7 (by decide) g7 (by decide) u7) <|
    pcons (tile_ok 7 3 (by decide) (by decide) g7 (by decide) g7 (by decide) u7) <|
    pcons (tile_ok 7 2 (by decide) (by decide) g7 (by decide) g7 (by decide) u7) <|
    pcons (tile_ok 7 1 (by decide) (by decide) g7 (by decide) g7 (by decide) u7) <|
    pcons (tile_ok 7 0 (by decide) (by decide) g7 (by decide) g7 (by decide) u7) <|
    pcons (tile_ok 6 15 (by decide) (by decide) g6 (by decide) g6 (by decide) u6) <|
    pcons (tile_ok 6 14 (by decide) (by decide) g6 (by decide) g6 (by decide) u6) <|
    pcons (tile_ok 6 13 (by decide) (by decide) g6 (by decide) g6 (by decide) u6) <|
    pcons (tile_ok 6 12 (by decide) (by decide) g6 (by decide) g6 (by decide) u6) <|
    pcons (tile_ok 6 11 (by decide) (by decide) g6 (by decide) g6 (by decide) u6) <|
    pcons (tile_ok 6 10 (by decide) (by decide) g6 (by decide) g6 (by decide) u6) <|
    pcons (tile_ok 6 9 (by decide) (by decide) g6 (by decide) g6 (by decide) u6) <|
    pcons (tile_ok 6 8 (by decide) (by decide) g6 (by decide) g6 (by decide) u6) <|
    pcons (tile_ok 6 7 (by decide) (by decide) g6 (by decide) g6 (by decide) u6) <|
    pcons (tile_ok 6 6 (by decide) (by decide) g6 (by decide) g6 (by decide) u6) <|
    pcons (tile_ok 6 5 (by decide) (by decide) g6 (by decide) g6 (by decide) u6) <|
    pcons (tile_ok 6 4 (by decide) (by decide) g6 (by decide) g6 (by decide) u6) <|
    pcons (tile_ok 6 3 (by decide) (by decide) g6 (by decide) g6 (by decide) u6) <|
    pcons (tile_ok 6 2 (by decide) (by decide) g6 (by decide) g6 (by decide) u6) <|
    pcons (tile_ok 6 1 (by decide) (by decide) g6 (by decide) g6 (by decide) u6) <|
    pcons (tile_ok 6 0 (by decide) (by decide) g6 (by decide) g6 (by decide) u6) <|
    pcons (tile_ok 5 15 (by decide) (by decide) g5 (by decide) g5 (by decide) u5) <|
    pcons (tile_ok 5 14 (by decide) (by decide) g5 (by decide) g5 (by decide) u5) <|
    pcons (tile_ok 5 13 (by decide) (by decide) g5 (by decide) g5 (by decide) u5) <|
    pcons (tile_ok 5 12 (by decide) (by decide) g5 (by decide) g5 (by decide) u5) <|
    pcons (tile_ok 5 11 (by decide) (by decide) g5 (by decide) g5 (by decide) u5) <|
    pcons (tile_ok 5 10 (by decide) (by decide) g5 (by decide) g5 (by decide) u5) <|
    pcons (tile_ok 5 9 (by decide) (by decide) g5 (by decide) g5 (by decide) u5) <|
    pcons (tile_ok 5 8 (by decide) (by decide) g5 (by decide) g5 (by decide) u5) <|
    pcons (tile_ok 5 7 (by decide) (by decide) g5 (by decide) g5 (by decide) u5) <|
    pcons (tile_ok 5 6 (by decide) (by decide) g5 (by decide) g5 (by decide) u5) <|
    pcons (tile_ok 5 5 (by decide) (by decide) g5 (by decide) g5 (by decide) u5) <|
    pcons (tile_ok 5 4 (by decide) (by decide) g5 (by decide) g5 (by decide) u5) <|
    pcons (tile_ok 5 3 (by decide) (by decide) g5 (by decide) g5 (by decide) u5) <|
    pcons (tile_ok 5 2 (by decide) (by decide) g5 (by decide) g5 (by decide) u5) <|
    pcons (tile_ok 5 1 (by decide) (by decide) g5 (by decide) g5 (by decide) u5) <|
    pcons (tile_ok 5 0 (by decide) (by decide) g5 (by decide) g5 (by decide) u5) <|
    pcons (tile_ok 4 15 (by decide) (by decide) g4 (by decide) g4 (by decide) u4) <|
    pcons (tile_ok 4 14 (by decide) (by decide) g4 (by decide) g4 (by decide) u4) <|
    pcons (tile_ok 4 13 (by decide) (by decide) g4 (by decide) g4 (by decide) u4) <|
    pcons (tile_ok 4 12 (by decide) (by decide) g4 (by decide) g4 (by decide) u4) <|
    pcons (tile_ok 4 11 (by decide) (by decide) g4 (by decide) g4 (by decide) u4) <|
    pcons (tile_ok 4 10 (by decide) (by decide) g4 (by decide) g4 (by decide) u4) <|
    pcons (tile_ok 4 9 (by decide) (by decide) g4 (by decide) g4 (by decide) u4) <|
    pcons (tile_ok 4 8 (by decide) (by decide) g4 (by decide) g4 (by decide) u4) <|
    pcons (tile_ok 4 7 (by decide) (by decide) g4 (by decide) g4 (by decide) u4) <|
    pcons (tile_ok 4 6 (by decide) (by decide) g4 (by decide) g4 (by decide) u4) <|
    pcons (tile_ok 4 5 (by decide) (by decide) g4 (by decide) g4 (by decide) u4) <|
    pcons (tile_ok 4 4 (by decide) (by decide) g4 (by decide) g4 (by decide) u4) <|
    pcons (tile_ok 4 3 (by decide) (by decide) g4 (by decide) g4 (by decide) u4) <|
    pcons (tile_ok 4 2 (by decide) (by decide) g4 (by decide) g4 (by decide) u4) <|
    pcons (tile_ok 4 1 (by decide) (by decide) g4 (by decide) g4 (by decide) u4) <|
    pcons (tile_ok 4 0 (by decide) (by decide) g4 (by decide) g4 (by decide) u4) <|
    pcons (tile_ok 3 15 (by decide) (by decide) g3 (by decide) g3 (by decide) u3) <|
    pcons (tile_ok 3 14 (by decide) (by decide) g3 (by decide) g3 (by decide) u3) <|
    pcons (tile_ok 3 13 (by decide) (by decide) g3 (by decide) g3 (by decide) u3) <|
    pcons (tile_ok 3 12 (by decide) (by decide) g3 (by decide) g3 (by decide) u3) <|
    pcons (tile_ok 3 11 (by decide) (by decide) g3 (by decide) g3 (by decide) u3) <|
    pcons (tile_ok 3 10 (by decide) (by decide) g3 (by decide) g3 (by decide) u3) <|
    pcons (tile_ok 3 9 (by decide) (by decide) g3 (by decide) g3 (by decide) u3) <|
    pcons (tile_ok 3 8 (by decide) (by decide) g3 (by decide) g3 (by decide) u3) <|
    pcons (tile_ok 3 7 (by decide) (by decide) g3 (by decide) g3 (by decide) u3) <|
    pcons (tile_ok 3 6 (by decide) (by decide) g3 (by decide) g3 (by decide) u3) <|
    pcons (tile_ok 3 5 (by decide) (by decide) g3 (by decide) g3 (by decide) u3) <|
    pcons (tile_ok 3 4 (by decide) (by decide) g3 (by decide) g3 (by decide) u3) <|
    pcons (tile_ok 3 3 (by decide) (by decide) g3 (by decide) g3 (by decide) u3) <|
    pcons (tile_ok 3 2 (by decide) (by decide) g3 (by decide) g3 (by decide) u3) <|
    pcons (tile_ok 3 1 (by decide) (by decide) g3 (by decide) g3 (by decide) u3) <|
    pcons (tile_ok 3 0 (by decide) (by decide) g3 (by decide) g3 (by decide) u3) <|
    pcons (tile_ok 2 15 (by decide) (by decide) g2 (by decide) g2 (by decide) u2) <|
    pcons (tile_ok 2 14 (by decide) (by decide) g2 (by decide) g2 (by decide) u2) <|
    pcons (tile_ok 2 13 (by decide) (by decide) g2 (by decide) g2 (by decide) u2) <|
    pcons (tile_ok 2 12 (by decide) (by decide) g2 (by decide) g2 (by decide) u2) <|
    pcons (tile_ok 2 11 (by decide) (by decide) g2 (by decide) g2 (by decide) u2) <|
    pcons (tile_ok 2 10 (by decide) (by decide) g2 (by decide) g2 (by decide) u2) <|
    pcons (tile_ok 2 9 (by decide) (by decide) g2 (by decide) g2 (by decide) u2) <|
    pcons (tile_ok 2 8 (by decide) (by decide) g2 (by decide) g2 (by decide) u2) <|
    pcons (tile_ok 2 7 (by decide) (by decide) g2 (by decide) g2 (by decide) u2) <|
    pcons (tile_ok 2 6 (by decide) (by decide) g2 (by decide) g2 (by decide) u2) <|
    pcons (tile_ok 2 5 (by decide) (by decide) g2 (by decide) g2 (by decide) u2) <|
    pcons (tile_ok 2 4 (by decide) (by decide) g2 (by decide) g2 (by decide) u2) <|
    pcons (tile_ok 2 3 (by decide) (by decide) g2 (by decide) g2 (by decide) u2) <|
    pcons (tile_ok 2 2 (by decide) (by decide) g2 (by decide) g2 (by decide) u2) <|
    pcons (tile_ok 2 1 (by decide) (by decide) g2 (by decide) g2 (by decide) u2) <|
    pcons (tile_ok 2 0 (by decide) (by decide) g2 (by decide) g2 (by decide) u2) <|
    pcons (tile_ok 1 15 (by decide) (by decide) g1 (by decide) g1 (by decide) u1) <|
    pcons (tile_ok 1 14 (by decide) (by decide) g1 (by decide) g1 (by decide) u1) <|
    pcons (tile_ok 1 13 (by decide) (by decide) g1 (by decide) g1 (by decide) u1) <|
    pcons (tile_ok 1 12 (by decide) (by decide) g1 (by decide) g1 (by decide) u1) <|
    pcons (tile_ok 1 11 (by decide) (by decide) g1 (by decide) g1 (by decide) u1) <|
    pcons (tile_ok 1 10 (by decide) (by decide) g1 (by decide) g1 (by decide) u1) <|
    pcons (tile_ok 1 9 (by decide) (by decide) g1 (by decide) g1 (by decide) u1) <|
    pcons (tile_ok 1 8 (by decide) (by decide) g1 (by decide) g1 (by decide) u1) <|
    pcons (tile_ok 1 7 (by decide) (by decide) g1 (by decide) g1 (by decide) u1) <|
    pcons (tile_ok 1 6 (by decide) (by decide) g1 (by decide) g1 (by decide) u1) <|
    pcons (tile_ok 1 5 (by decide) (by decide) g1 (by decide) g1 (by decide) u1) <|
    pcons (tile_ok 1 4 (by decide) (by decide) g1 (by decide) g1 (by decide) u1) <|
    pcons (tile_ok 1 3 (by decide) (by decide) g1 (by decide) g1 (by decide) u1) <|
    pcons (tile_ok 1 2 (by decide) (by decide) g1 (by decide) g1 (by decide) u1) <|
    pcons (tile_ok 1 1 (by decide) (by decide) g1 (by decide) g1 (by decide) u1) <|
    pcons (tile_ok 1 0 (by decide) (by decide) g1 (by decide) g1 (by decide) u1) <|
    pcons (tile_ok 0 15 (by decide) (by decide) g0 (by decide) g0 (by decide) u0) <|
    pcons (tile_ok 0 14 (by decide) (by decide) g0 (by decide) g0 (by decide) u0) <|
    pcons (tile_ok 0 13 (by decide) (by decide) g0 (by decide) g0 (by decide) u0) <|
    pcons (tile_ok 0 12 (by decide) (by decide) g0 (by decide) g0 (by decide) u0) <|
    pcons (tile_ok 0 11 (by decide) (by decide) g0 (by decide) g0 (by decide) u0) <|
    pcons (tile_ok 0 10 (by decide) (by decide) g0 (by decide) g0 (by decide) u0) <|
    pcons (tile_ok 0 9 (by decide) (by decide) g0 (by decide) g0 (by decide) u0) <|
    pcons (tile_ok 0 8 (by decide) (by decide) g0 (by decide) g0 (by decide) u0) <|
    pcons (tile_ok 0 7 (by decide) (by decide) g0 (by decide) g0 (by decide) u0) <|
    pcons (tile_ok 0 6 (by decide) (by decide) g0 (by decide) g0 (by decide) u0) <|
    pcons (tile_ok 0 5 (by decide) (by decide) g0 (by decide) g0 (by decide) u0) <|
    pcons (tile_ok 0 4 (by decide) (by decide) g0 (by decide) g0 (by decide) u0) <|
    pcons (tile_ok 0 3 (by decide) (by decide) g0 (by decide) g0 (by decide) u0) <|
    pcons (tile_ok 0 2 (by decide) (by decide) g0 (by decide) g0 (by decide) u0) <|
    pcons (tile_ok 0 1 (by decide) (by decide) g0 (by decide) g0 (by decide) u0) <|
    pcons (tile_ok 0 0 (by decide) (by decide) g0 (by decide) g0 (by decide) u0) <| trivial

/-- After all stores the gate's buffer holds the projection in every lane block. -/
theorem g_all : GOk arg14.view arg14.view.junk (kernelRun0_A.sl.HS1_23 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) 22 0 := by
  have g0 : GOk arg14.view arg14.view.junk (kernelRun0_A.sl.HS1_3 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (0 + 1)) 0 := gstep 0 g_zero
  have g1 : GOk arg14.view arg14.view.junk (kernelRun0_A.sl.HS1_5 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (1 + 1)) 0 := gstep 1 g0
  have g2 : GOk arg14.view arg14.view.junk (kernelRun0_A.sl.HS1_7 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (2 + 1)) 0 := gstep 2 g1
  have g3 : GOk arg14.view arg14.view.junk (kernelRun0_A.sl.HS1_9 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (3 + 1)) 0 := gstep 3 g2
  have g4 : GOk arg14.view arg14.view.junk (kernelRun0_A.sl.HS1_11 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (4 + 1)) 0 := gstep 4 g3
  have g5 : GOk arg14.view arg14.view.junk (kernelRun0_A.sl.HS1_13 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (5 + 1)) 0 := gstep 5 g4
  have g6 : GOk arg14.view arg14.view.junk (kernelRun0_A.sl.HS1_15 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (6 + 1)) 0 := gstep 6 g5
  have g7 : GOk arg14.view arg14.view.junk (kernelRun0_A.sl.HS1_17 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (7 + 1)) 0 := gstep 7 g6
  have g8 : GOk arg14.view arg14.view.junk (kernelRun0_A.sl.HS1_19 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (8 + 1)) 0 := gstep 8 g7
  have g9 : GOk arg14.view arg14.view.junk (kernelRun0_A.sl.HS1_21 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (9 + 1)) 0 := gstep 9 g8
  have g10 : GOk arg14.view arg14.view.junk (kernelRun0_A.sl.HS1_23 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5) (2 * (10 + 1)) 0 := gstep 10 g9
  exact g10

end Cert.FfnKernelIdeal.Hand.CaseA

end
-- ==== Proof.FfnOutA.lean ====
/- What the kernel leaves in its output block and in the carried rows at a sequence's first block. -/
module

public import Idealize.ShloMosaic.Lib.Pipeline.ValueKit.Acc
public import proofs.«01_k».proof.Proof.FfnBlock
public import proofs.«01_k».proof.Proof.FfnCaseA

@[expose] public section

set_option maxRecDepth 65536

noncomputable section

namespace Cert.FfnKernelIdeal.Hand.CaseA

open Cert.FfnKernelIdeal Cert.FfnKernelIdeal.Gen
open Idealize.ShloMosaic Idealize.ShloMosaic.TcCoe

variable (i : grid0.Coords)
variable (c : Dev nD)
variable (arg2 : Memref sig .tc .vmem S1x512x1024 .f32)
variable (harg2 : arg2.IsWhole)
variable (arg3 : Memref sig .tc .vmem S1x512x512 .f32)
variable (harg3 : arg3.IsWhole)
variable (arg4 : Memref sig .tc .vmem S1x2x512x128 .f32)
variable (harg4 : arg4.IsWhole)
variable (arg5 : Memref sig .tc .vmem S768x1024 .bf16)
variable (harg5 : arg5.IsWhole)
variable (arg6 : Memref sig .tc .vmem S1x1024 .f32)
variable (harg6 : arg6.IsWhole)
variable (arg7 : Memref sig .tc .vmem S1x1024x2816 .bf16)
variable (harg7 : arg7.IsWhole)
variable (arg8 : Memref sig .tc .vmem S1x1024x2816 .bf16)
variable (harg8 : arg8.IsWhole)
variable (arg9 : Memref sig .tc .vmem S24x2816 .f32)
variable (harg9 : arg9.IsWhole)
variable (arg10 : Memref sig .tc .vmem S8x2816 .f32)
variable (harg10 : arg10.IsWhole)
variable (arg11 : Memref sig .tc .vmem S1x2816x1024 .bf16)
variable (harg11 : arg11.IsWhole)
variable (arg12 : Memref sig .tc .vmem S1x512x1024 .f32)
variable (harg12 : arg12.IsWhole)
variable (arg13 : Memref sig .tc .vmem S512x1024 .bf16)
variable (harg13 : arg13.IsWhole)
variable (arg14 : Memref sig .tc .vmem S22x520x128 .f32)
variable (harg14 : arg14.IsWhole)
variable (arg15 : Memref sig .tc .vmem S512x2816 .f32)
variable (harg15 : arg15.IsWhole)
variable (arg16 : Memref sig .tc .vmem S512x2816 .bf16)
variable (harg16 : arg16.IsWhole)
variable (hc0 : cond0_0 i)
variable (x0 : Vec Ideal S1x512x1024 .f32) (x1 : Vec Ideal S1x512x512 .f32) (x2 : Vec Ideal S1x2x512x128 .f32) (x3 : Vec Ideal S768x1024 .bf16) (x4 : Vec Ideal S1x1024 .f32) (x5 : Vec Ideal S1x1024x2816 .bf16) (x6 : Vec Ideal S1x1024x2816 .bf16) (x7 : Vec Ideal S24x2816 .f32) (x8 : Vec Ideal S8x2816 .f32) (x9 : Vec Ideal S1x2816x1024 .bf16)

theorem r_eq : (kernelRun0_A.sl.r (F := Ideal) c arg2 harg2 arg3 harg3 arg4 harg4 arg5 harg5 x0 x1 x2 x3) = xres x0 x1 x2 x3 := xres_read

theorem v40_eq : (kernelRun0_A.sl.v40 (F := Ideal) c arg2 harg2 arg3 harg3 arg4 harg4 arg5 harg5 arg6 harg6 arg13 x0 x1 x2 x3 x4) = hI (xres x0 x1 x2 x3) x4 :=
  (View.readCov_unit_lit' arg13.view _ _ (fun a => by
    match a with
    | ⟨0, _⟩ => rfl
    | ⟨1, _⟩ => rfl)).trans (hn_read _ _ _ _ _ _ _ xres_read)

theorem act_cover : ∀ y, ∃ p ∈ (kernelRun0_A.sl.HS3_176 (F := Ideal) c arg2 harg2 arg3 harg3 arg4 harg4 arg5 harg5 arg6 harg6 arg7 harg7 arg8 harg8 arg9 harg9 arg10 harg10 arg13 arg14 arg15 x0 x1 x2 x3 x4 x5 x6 x7 x8), y ∈ p.1.set :=
  View.cover_of_tiledBy _ ![32, 256] (by sl_kernel_rfl)

theorem act_eq : (kernelRun0_A.sl.v6541 (F := Ideal) c arg2 harg2 arg3 harg3 arg4 harg4 arg5 harg5 arg6 harg6 arg7 harg7 arg8 harg8 arg9 harg9 arg10 harg10 arg13 arg14 arg15 arg16 x0 x1 x2 x3 x4 x5 x6 x7 x8) = Act (gI (fun _ => 0) (xres x0 x1 x2 x3) x4 x5) (Uall (hI (xres x0 x1 x2 x3) x4) x6) x7 x8 := by
  refine (whole_read (act_pieces c arg2 harg2 arg3 harg3 arg4 harg4 arg5 harg5 arg6 harg6 arg7 harg7 arg8 harg8 arg9 harg9 arg10 harg10 arg13 arg14 arg15 x0 x1 x2 x3 x4 x5 x6 x7 x8) (act_cover c arg2 harg2 arg3 harg3 arg4 harg4 arg5 harg5 arg6 harg6 arg7 harg7 arg8 harg8 arg9 harg9 arg10 harg10 arg13 arg14 arg15 x0 x1 x2 x3 x4 x5 x6 x7 x8)).trans ?_
  unfold gI
  rw [← v40_eq c arg2 harg2 arg3 harg3 arg4 harg4 arg5 harg5 arg6 harg6 arg13 x0 x1 x2 x3 x4]

/-- A row of the output block. -/
theorem out_eq (n : Fin 512) (d : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix3 (0 : Fin 1) n d) = outI (fun _ => 0) (xres x0 x1 x2 x3) x4 x5 x6 x7 x8 x9 n d := by
  refine (View.read_writes_cons_unit_of_mem (off' := ![0, 0, 0]) VO0_10 _ _ _ _ _ (ix3 (0 : Fin 1) n d) rfl (fun a => by
    match a with
    | ⟨0, _⟩ => rfl
    | ⟨1, _⟩ => show n.val = 0 + n.val; omega
    | ⟨2, _⟩ => show d.val = 0 + d.val; omega)).trans ?_
  show k0_pay530 (F := Ideal) (kernelRun0_A.sl.r (F := Ideal) c arg2 harg2 arg3 harg3 arg4 harg4 arg5 harg5 x0 x1 x2 x3) (kernelRun0_A.sl.v6541 (F := Ideal) c arg2 harg2 arg3 harg3 arg4 harg4 arg5 harg5 arg6 harg6 arg7 harg7 arg8 harg8 arg9 harg9 arg10 harg10 arg13 arg14 arg15 arg16 x0 x1 x2 x3 x4 x5 x6 x7 x8) _ _ = _
  rw [r_eq, act_eq]
  exact out_read _ _ n d

/-- The carried rows. -/
theorem carry_eq (a : Fin 22) (r : Fin 8) (j : Fin 128) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix3 a (⟨r.val, by omega⟩ : Fin 520) j) = gI (fun _ => 0) (xres x0 x1 x2 x3) x4 x5 (ix3 a (⟨512 + r.val, by omega⟩ : Fin 520) j) := by
  refine (View.read_writes_cons_unit_of_mem (off' := ![0, 0, 0]) VS0_1 _ _ _ _ _ (ix3 a r j) rfl (fun b => by
    match b with
    | ⟨0, _⟩ => show a.val = 0 + a.val; omega
    | ⟨1, _⟩ => show r.val = 0 + r.val; omega
    | ⟨2, _⟩ => show j.val = 0 + j.val; omega)).trans ?_
  refine (carry_read (CaseA.g_all c arg2 harg2 arg3 harg3 arg4 harg4 arg5 harg5 arg6 harg6 arg7 harg7 arg13 arg14 x0 x1 x2 x3 x4 x5) a r j).trans ?_
  unfold gI
  rw [← v40_eq c arg2 harg2 arg3 harg3 arg4 harg4 arg5 harg5 arg6 harg6 arg13 x0 x1 x2 x3 x4]

end Cert.FfnKernelIdeal.Hand.CaseA

end
-- ==== Proof.FfnCaseB.lean ====
/- The feed-forward block's stores at a later block of rows: every tile stored is the activation there. -/
module

public import proofs.«01_k».proof.Proof.FfnTile

@[expose] public section

set_option maxRecDepth 65536
set_option maxHeartbeats 4000000

noncomputable section

namespace Cert.FfnKernelIdeal.Hand.CaseB

open Cert.FfnKernelIdeal Cert.FfnKernelIdeal.Gen
open Idealize.ShloMosaic Idealize.ShloMosaic.TcCoe

variable (c : Dev nD)
variable (arg2 : Memref sig .tc .vmem S1x512x1024 .f32)
variable (harg2 : arg2.IsWhole)
variable (arg3 : Memref sig .tc .vmem S1x512x512 .f32)
variable (harg3 : arg3.IsWhole)
variable (arg4 : Memref sig .tc .vmem S1x2x512x128 .f32)
variable (harg4 : arg4.IsWhole)
variable (arg5 : Memref sig .tc .vmem S768x1024 .bf16)
variable (harg5 : arg5.IsWhole)
variable (arg6 : Memref sig .tc .vmem S1x1024 .f32)
variable (harg6 : arg6.IsWhole)
variable (arg7 : Memref sig .tc .vmem S1x1024x2816 .bf16)
variable (harg7 : arg7.IsWhole)
variable (arg8 : Memref sig .tc .vmem S1x1024x2816 .bf16)
variable (harg8 : arg8.IsWhole)
variable (arg9 : Memref sig .tc .vmem S24x2816 .f32)
variable (harg9 : arg9.IsWhole)
variable (arg10 : Memref sig .tc .vmem S8x2816 .f32)
variable (harg10 : arg10.IsWhole)
variable (arg13 : Memref sig .tc .vmem S512x1024 .bf16)
variable (arg14 : Memref sig .tc .vmem S22x520x128 .f32)
variable (harg14 : arg14.IsWhole)
variable (arg15 : Memref sig .tc .vmem S512x2816 .f32)
variable (x0 : Vec Ideal S1x512x1024 .f32) (x1 : Vec Ideal S1x512x512 .f32) (x2 : Vec Ideal S1x2x512x128 .f32) (x3 : Vec Ideal S768x1024 .bf16) (x4 : Vec Ideal S1x1024 .f32) (x5 : Vec Ideal S1x1024x2816 .bf16) (x6 : Vec Ideal S1x1024x2816 .bf16) (x7 : Vec Ideal S24x2816 .f32) (x8 : Vec Ideal S8x2816 .f32)
variable (xs1 : Vec Ideal S22x520x128 .f32)

/-- The normalised rows this block's run reads back. -/
abbrev hB : Vec Ideal S512x1024 .bf16 := (kernelRun0_B.sl.v40 (F := Ideal) c arg2 harg2 arg3 harg3 arg4 harg4 arg5 harg5 arg6 harg6 arg13 x0 x1 x2 x3 x4)

/-- The gate's buffer. -/
abbrev gB : S22x520x128.Idx → EReal := Gall xs1 (hB c arg2 harg2 arg3 harg3 arg4 harg4 arg5 harg5 arg6 harg6 arg13 x0 x1 x2 x3 x4) x5

/-- The second projection's buffer. -/
abbrev uB : S512x2816.Idx → EReal := Uall (hB c arg2 harg2 arg3 harg3 arg4 harg4 arg5 harg5 arg6 harg6 arg13 x0 x1 x2 x3 x4) x6

/-- Every store into the activation's buffer is a block of the activation. -/
theorem act_pieces : View.PiecesOf (Act (gB c arg2 harg2 arg3 harg3 arg4 harg4 arg5 harg5 arg6 harg6 arg13 x0 x1 x2 x3 x4 x5 xs1) (uB c arg2 harg2 arg3 harg3 arg4 harg4 arg5 harg5 arg6 harg6 arg13 x0 x1 x2 x3 x4 x6) x7 x8) (kernelRun0_B.sl.HS3_176 (F := Ideal) c arg2 harg2 arg3 harg3 arg4 harg4 arg5 harg5 arg6 harg6 arg7 harg7 arg8 harg8 arg9 harg9 arg10 harg10 arg13 arg14 harg14 arg15 x0 x1 x2 x3 x4 x5 x6 x7 x8 xs1) := by
  have f0 : GOk arg14.view (harg14.unread xs1) (kernelRun0_B.sl.HS1_2 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (0 + 1)) 0 := gstep 0 g_old
  have g0 : GOk arg14.view arg14.view.junk (kernelRun0_B.sl.HS1_2 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (0 + 1)) 8 := gstep 0 g_none
  have u0 : UOk arg15.view arg15.view.junk (kernelRun0_B.sl.HS2_1 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (0 + 1)) := ustep 0 u_none
  have f1 : GOk arg14.view (harg14.unread xs1) (kernelRun0_B.sl.HS1_4 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (1 + 1)) 0 := gstep 1 f0
  have g1 : GOk arg14.view arg14.view.junk (kernelRun0_B.sl.HS1_4 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (1 + 1)) 8 := gstep 1 g0
  have u1 : UOk arg15.view arg15.view.junk (kernelRun0_B.sl.HS2_2 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (1 + 1)) := ustep 1 u0
  have f2 : GOk arg14.view (harg14.unread xs1) (kernelRun0_B.sl.HS1_6 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (2 + 1)) 0 := gstep 2 f1
  have g2 : GOk arg14.view arg14.view.junk (kernelRun0_B.sl.HS1_6 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (2 + 1)) 8 := gstep 2 g1
  have u2 : UOk arg15.view arg15.view.junk (kernelRun0_B.sl.HS2_3 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (2 + 1)) := ustep 2 u1
  have f3 : GOk arg14.view (harg14.unread xs1) (kernelRun0_B.sl.HS1_8 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (3 + 1)) 0 := gstep 3 f2
  have g3 : GOk arg14.view arg14.view.junk (kernelRun0_B.sl.HS1_8 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (3 + 1)) 8 := gstep 3 g2
  have u3 : UOk arg15.view arg15.view.junk (kernelRun0_B.sl.HS2_4 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (3 + 1)) := ustep 3 u2
  have f4 : GOk arg14.view (harg14.unread xs1) (kernelRun0_B.sl.HS1_10 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (4 + 1)) 0 := gstep 4 f3
  have g4 : GOk arg14.view arg14.view.junk (kernelRun0_B.sl.HS1_10 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (4 + 1)) 8 := gstep 4 g3
  have u4 : UOk arg15.view arg15.view.junk (kernelRun0_B.sl.HS2_5 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (4 + 1)) := ustep 4 u3
  have f5 : GOk arg14.view (harg14.unread xs1) (kernelRun0_B.sl.HS1_12 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (5 + 1)) 0 := gstep 5 f4
  have g5 : GOk arg14.view arg14.view.junk (kernelRun0_B.sl.HS1_12 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (5 + 1)) 8 := gstep 5 g4
  have u5 : UOk arg15.view arg15.view.junk (kernelRun0_B.sl.HS2_6 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (5 + 1)) := ustep 5 u4
  have f6 : GOk arg14.view (harg14.unread xs1) (kernelRun0_B.sl.HS1_14 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (6 + 1)) 0 := gstep 6 f5
  have g6 : GOk arg14.view arg14.view.junk (kernelRun0_B.sl.HS1_14 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (6 + 1)) 8 := gstep 6 g5
  have u6 : UOk arg15.view arg15.view.junk (kernelRun0_B.sl.HS2_7 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (6 + 1)) := ustep 6 u5
  have f7 : GOk arg14.view (harg14.unread xs1) (kernelRun0_B.sl.HS1_16 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (7 + 1)) 0 := gstep 7 f6
  have g7 : GOk arg14.view arg14.view.junk (kernelRun0_B.sl.HS1_16 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (7 + 1)) 8 := gstep 7 g6
  have u7 : UOk arg15.view arg15.view.junk (kernelRun0_B.sl.HS2_8 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (7 + 1)) := ustep 7 u6
  have f8 : GOk arg14.view (harg14.unread xs1) (kernelRun0_B.sl.HS1_18 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (8 + 1)) 0 := gstep 8 f7
  have g8 : GOk arg14.view arg14.view.junk (kernelRun0_B.sl.HS1_18 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (8 + 1)) 8 := gstep 8 g7
  have u8 : UOk arg15.view arg15.view.junk (kernelRun0_B.sl.HS2_9 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (8 + 1)) := ustep 8 u7
  have f9 : GOk arg14.view (harg14.unread xs1) (kernelRun0_B.sl.HS1_20 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (9 + 1)) 0 := gstep 9 f8
  have g9 : GOk arg14.view arg14.view.junk (kernelRun0_B.sl.HS1_20 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (9 + 1)) 8 := gstep 9 g8
  have u9 : UOk arg15.view arg15.view.junk (kernelRun0_B.sl.HS2_10 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (9 + 1)) := ustep 9 u8
  have f10 : GOk arg14.view (harg14.unread xs1) (kernelRun0_B.sl.HS1_22 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (10 + 1)) 0 := gstep 10 f9
  have g10 : GOk arg14.view arg14.view.junk (kernelRun0_B.sl.HS1_22 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (10 + 1)) 8 := gstep 10 g9
  have u10 : UOk arg15.view arg15.view.junk (kernelRun0_B.sl.HS2_11 (F := Ideal) c arg2 harg2 arg3 harg3 arg4 harg4 arg5 harg5 arg6 harg6 arg8 harg8 arg13 x0 x1 x2 x3 x4 x6) (uB c arg2 harg2 arg3 harg3 arg4 harg4 arg5 harg5 arg6 harg6 arg13 x0 x1 x2 x3 x4 x6) (256 * (10 + 1)) := ustep 10 u9
  exact pcons (tile_ok 10 15 (by decide) (by decide) g10 (by decide) g10 (by decide) u10) <|
    pcons (tile_ok 10 14 (by decide) (by decide) g10 (by decide) g10 (by decide) u10) <|
    pcons (tile_ok 10 13 (by decide) (by decide) g10 (by decide) g10 (by decide) u10) <|
    pcons (tile_ok 10 12 (by decide) (by decide) g10 (by decide) g10 (by decide) u10) <|
    pcons (tile_ok 10 11 (by decide) (by decide) g10 (by decide) g10 (by decide) u10) <|
    pcons (tile_ok 10 10 (by decide) (by decide) g10 (by decide) g10 (by decide) u10) <|
    pcons (tile_ok 10 9 (by decide) (by decide) g10 (by decide) g10 (by decide) u10) <|
    pcons (tile_ok 10 8 (by decide) (by decide) g10 (by decide) g10 (by decide) u10) <|
    pcons (tile_ok 10 7 (by decide) (by decide) g10 (by decide) g10 (by decide) u10) <|
    pcons (tile_ok 10 6 (by decide) (by decide) g10 (by decide) g10 (by decide) u10) <|
    pcons (tile_ok 10 5 (by decide) (by decide) g10 (by decide) g10 (by decide) u10) <|
    pcons (tile_ok 10 4 (by decide) (by decide) g10 (by decide) g10 (by decide) u10) <|
    pcons (tile_ok 10 3 (by decide) (by decide) g10 (by decide) g10 (by decide) u10) <|
    pcons (tile_ok 10 2 (by decide) (by decide) g10 (by decide) g10 (by decide) u10) <|
    pcons (tile_ok 10 1 (by decide) (by decide) g10 (by decide) g10 (by decide) u10) <|
    pcons (tile_ok 10 0 (by decide) (by decide) f10 (by decide) g10 (by decide) u10) <|
    pcons (tile_ok 9 15 (by decide) (by decide) g9 (by decide) g9 (by decide) u9) <|
    pcons (tile_ok 9 14 (by decide) (by decide) g9 (by decide) g9 (by decide) u9) <|
    pcons (tile_ok 9 13 (by decide) (by decide) g9 (by decide) g9 (by decide) u9) <|
    pcons (tile_ok 9 12 (by decide) (by decide) g9 (by decide) g9 (by decide) u9) <|
    pcons (tile_ok 9 11 (by decide) (by decide) g9 (by decide) g9 (by decide) u9) <|
    pcons (tile_ok 9 10 (by decide) (by decide) g9 (by decide) g9 (by decide) u9) <|
    pcons (tile_ok 9 9 (by decide) (by decide) g9 (by decide) g9 (by decide) u9) <|
    pcons (tile_ok 9 8 (by decide) (by decide) g9 (by decide) g9 (by decide) u9) <|
    pcons (tile_ok 9 7 (by decide) (by decide) g9 (by decide) g9 (by decide) u9) <|
    pcons (tile_ok 9 6 (by decide) (by decide) g9 (by decide) g9 (by decide) u9) <|
    pcons (tile_ok 9 5 (by decide) (by decide) g9 (by decide) g9 (by decide) u9) <|
    pcons (tile_ok 9 4 (by decide) (by decide) g9 (by decide) g9 (by decide) u9) <|
    pcons (tile_ok 9 3 (by decide) (by decide) g9 (by decide) g9 (by decide) u9) <|
    pcons (tile_ok 9 2 (by decide) (by decide) g9 (by decide) g9 (by decide) u9) <|
    pcons (tile_ok 9 1 (by decide) (by decide) g9 (by decide) g9 (by decide) u9) <|
    pcons (tile_ok 9 0 (by decide) (by decide) f9 (by decide) g9 (by decide) u9) <|
    pcons (tile_ok 8 15 (by decide) (by decide) g8 (by decide) g8 (by decide) u8) <|
    pcons (tile_ok 8 14 (by decide) (by decide) g8 (by decide) g8 (by decide) u8) <|
    pcons (tile_ok 8 13 (by decide) (by decide) g8 (by decide) g8 (by decide) u8) <|
    pcons (tile_ok 8 12 (by decide) (by decide) g8 (by decide) g8 (by decide) u8) <|
    pcons (tile_ok 8 11 (by decide) (by decide) g8 (by decide) g8 (by decide) u8) <|
    pcons (tile_ok 8 10 (by decide) (by decide) g8 (by decide) g8 (by decide) u8) <|
    pcons (tile_ok 8 9 (by decide) (by decide) g8 (by decide) g8 (by decide) u8) <|
    pcons (tile_ok 8 8 (by decide) (by decide) g8 (by decide) g8 (by decide) u8) <|
    pcons (tile_ok 8 7 (by decide) (by decide) g8 (by decide) g8 (by decide) u8) <|
    pcons (tile_ok 8 6 (by decide) (by decide) g8 (by decide) g8 (by decide) u8) <|
    pcons (tile_ok 8 5 (by decide) (by decide) g8 (by decide) g8 (by decide) u8) <|
    pcons (tile_ok 8 4 (by decide) (by decide) g8 (by decide) g8 (by decide) u8) <|
    pcons (tile_ok 8 3 (by decide) (by decide) g8 (by decide) g8 (by decide) u8) <|
    pcons (tile_ok 8 2 (by decide) (by decide) g8 (by decide) g8 (by decide) u8) <|
    pcons (tile_ok 8 1 (by decide) (by decide) g8 (by decide) g8 (by decide) u8) <|
    pcons (tile_ok 8 0 (by decide) (by decide) f8 (by decide) g8 (by decide) u8) <|
    pcons (tile_ok 7 15 (by decide) (by decide) g7 (by decide) g7 (by decide) u7) <|
    pcons (tile_ok 7 14 (by decide) (by decide) g7 (by decide) g7 (by decide) u7) <|
    pcons (tile_ok 7 13 (by decide) (by decide) g7 (by decide) g7 (by decide) u7) <|
    pcons (tile_ok 7 12 (by decide) (by decide) g7 (by decide) g7 (by decide) u7) <|
    pcons (tile_ok 7 11 (by decide) (by decide) g7 (by decide) g7 (by decide) u7) <|
    pcons (tile_ok 7 10 (by decide) (by decide) g7 (by decide) g7 (by decide) u7) <|
    pcons (tile_ok 7 9 (by decide) (by decide) g7 (by decide) g7 (by decide) u7) <|
    pcons (tile_ok 7 8 (by decide) (by decide) g7 (by decide) g7 (by decide) u7) <|
    pcons (tile_ok 7 7 (by decide) (by decide) g7 (by decide) g7 (by decide) u7) <|
    pcons (tile_ok 7 6 (by decide) (by decide) g7 (by decide) g7 (by decide) u7) <|
    pcons (tile_ok 7 5 (by decide) (by decide) g7 (by decide) g7 (by decide) u7) <|
    pcons (tile_ok 7 4 (by decide) (by decide) g7 (by decide) g7 (by decide) u7) <|
    pcons (tile_ok 7 3 (by decide) (by decide) g7 (by decide) g7 (by decide) u7) <|
    pcons (tile_ok 7 2 (by decide) (by decide) g7 (by decide) g7 (by decide) u7) <|
    pcons (tile_ok 7 1 (by decide) (by decide) g7 (by decide) g7 (by decide) u7) <|
    pcons (tile_ok 7 0 (by decide) (by decide) f7 (by decide) g7 (by decide) u7) <|
    pcons (tile_ok 6 15 (by decide) (by decide) g6 (by decide) g6 (by decide) u6) <|
    pcons (tile_ok 6 14 (by decide) (by decide) g6 (by decide) g6 (by decide) u6) <|
    pcons (tile_ok 6 13 (by decide) (by decide) g6 (by decide) g6 (by decide) u6) <|
    pcons (tile_ok 6 12 (by decide) (by decide) g6 (by decide) g6 (by decide) u6) <|
    pcons (tile_ok 6 11 (by decide) (by decide) g6 (by decide) g6 (by decide) u6) <|
    pcons (tile_ok 6 10 (by decide) (by decide) g6 (by decide) g6 (by decide) u6) <|
    pcons (tile_ok 6 9 (by decide) (by decide) g6 (by decide) g6 (by decide) u6) <|
    pcons (tile_ok 6 8 (by decide) (by decide) g6 (by decide) g6 (by decide) u6) <|
    pcons (tile_ok 6 7 (by decide) (by decide) g6 (by decide) g6 (by decide) u6) <|
    pcons (tile_ok 6 6 (by decide) (by decide) g6 (by decide) g6 (by decide) u6) <|
    pcons (tile_ok 6 5 (by decide) (by decide) g6 (by decide) g6 (by decide) u6) <|
    pcons (tile_ok 6 4 (by decide) (by decide) g6 (by decide) g6 (by decide) u6) <|
    pcons (tile_ok 6 3 (by decide) (by decide) g6 (by decide) g6 (by decide) u6) <|
    pcons (tile_ok 6 2 (by decide) (by decide) g6 (by decide) g6 (by decide) u6) <|
    pcons (tile_ok 6 1 (by decide) (by decide) g6 (by decide) g6 (by decide) u6) <|
    pcons (tile_ok 6 0 (by decide) (by decide) f6 (by decide) g6 (by decide) u6) <|
    pcons (tile_ok 5 15 (by decide) (by decide) g5 (by decide) g5 (by decide) u5) <|
    pcons (tile_ok 5 14 (by decide) (by decide) g5 (by decide) g5 (by decide) u5) <|
    pcons (tile_ok 5 13 (by decide) (by decide) g5 (by decide) g5 (by decide) u5) <|
    pcons (tile_ok 5 12 (by decide) (by decide) g5 (by decide) g5 (by decide) u5) <|
    pcons (tile_ok 5 11 (by decide) (by decide) g5 (by decide) g5 (by decide) u5) <|
    pcons (tile_ok 5 10 (by decide) (by decide) g5 (by decide) g5 (by decide) u5) <|
    pcons (tile_ok 5 9 (by decide) (by decide) g5 (by decide) g5 (by decide) u5) <|
    pcons (tile_ok 5 8 (by decide) (by decide) g5 (by decide) g5 (by decide) u5) <|
    pcons (tile_ok 5 7 (by decide) (by decide) g5 (by decide) g5 (by decide) u5) <|
    pcons (tile_ok 5 6 (by decide) (by decide) g5 (by decide) g5 (by decide) u5) <|
    pcons (tile_ok 5 5 (by decide) (by decide) g5 (by decide) g5 (by decide) u5) <|
    pcons (tile_ok 5 4 (by decide) (by decide) g5 (by decide) g5 (by decide) u5) <|
    pcons (tile_ok 5 3 (by decide) (by decide) g5 (by decide) g5 (by decide) u5) <|
    pcons (tile_ok 5 2 (by decide) (by decide) g5 (by decide) g5 (by decide) u5) <|
    pcons (tile_ok 5 1 (by decide) (by decide) g5 (by decide) g5 (by decide) u5) <|
    pcons (tile_ok 5 0 (by decide) (by decide) f5 (by decide) g5 (by decide) u5) <|
    pcons (tile_ok 4 15 (by decide) (by decide) g4 (by decide) g4 (by decide) u4) <|
    pcons (tile_ok 4 14 (by decide) (by decide) g4 (by decide) g4 (by decide) u4) <|
    pcons (tile_ok 4 13 (by decide) (by decide) g4 (by decide) g4 (by decide) u4) <|
    pcons (tile_ok 4 12 (by decide) (by decide) g4 (by decide) g4 (by decide) u4) <|
    pcons (tile_ok 4 11 (by decide) (by decide) g4 (by decide) g4 (by decide) u4) <|
    pcons (tile_ok 4 10 (by decide) (by decide) g4 (by decide) g4 (by decide) u4) <|
    pcons (tile_ok 4 9 (by decide) (by decide) g4 (by decide) g4 (by decide) u4) <|
    pcons (tile_ok 4 8 (by decide) (by decide) g4 (by decide) g4 (by decide) u4) <|
    pcons (tile_ok 4 7 (by decide) (by decide) g4 (by decide) g4 (by decide) u4) <|
    pcons (tile_ok 4 6 (by decide) (by decide) g4 (by decide) g4 (by decide) u4) <|
    pcons (tile_ok 4 5 (by decide) (by decide) g4 (by decide) g4 (by decide) u4) <|
    pcons (tile_ok 4 4 (by decide) (by decide) g4 (by decide) g4 (by decide) u4) <|
    pcons (tile_ok 4 3 (by decide) (by decide) g4 (by decide) g4 (by decide) u4) <|
    pcons (tile_ok 4 2 (by decide) (by decide) g4 (by decide) g4 (by decide) u4) <|
    pcons (tile_ok 4 1 (by decide) (by decide) g4 (by decide) g4 (by decide) u4) <|
    pcons (tile_ok 4 0 (by decide) (by decide) f4 (by decide) g4 (by decide) u4) <|
    pcons (tile_ok 3 15 (by decide) (by decide) g3 (by decide) g3 (by decide) u3) <|
    pcons (tile_ok 3 14 (by decide) (by decide) g3 (by decide) g3 (by decide) u3) <|
    pcons (tile_ok 3 13 (by decide) (by decide) g3 (by decide) g3 (by decide) u3) <|
    pcons (tile_ok 3 12 (by decide) (by decide) g3 (by decide) g3 (by decide) u3) <|
    pcons (tile_ok 3 11 (by decide) (by decide) g3 (by decide) g3 (by decide) u3) <|
    pcons (tile_ok 3 10 (by decide) (by decide) g3 (by decide) g3 (by decide) u3) <|
    pcons (tile_ok 3 9 (by decide) (by decide) g3 (by decide) g3 (by decide) u3) <|
    pcons (tile_ok 3 8 (by decide) (by decide) g3 (by decide) g3 (by decide) u3) <|
    pcons (tile_ok 3 7 (by decide) (by decide) g3 (by decide) g3 (by decide) u3) <|
    pcons (tile_ok 3 6 (by decide) (by decide) g3 (by decide) g3 (by decide) u3) <|
    pcons (tile_ok 3 5 (by decide) (by decide) g3 (by decide) g3 (by decide) u3) <|
    pcons (tile_ok 3 4 (by decide) (by decide) g3 (by decide) g3 (by decide) u3) <|
    pcons (tile_ok 3 3 (by decide) (by decide) g3 (by decide) g3 (by decide) u3) <|
    pcons (tile_ok 3 2 (by decide) (by decide) g3 (by decide) g3 (by decide) u3) <|
    pcons (tile_ok 3 1 (by decide) (by decide) g3 (by decide) g3 (by decide) u3) <|
    pcons (tile_ok 3 0 (by decide) (by decide) f3 (by decide) g3 (by decide) u3) <|
    pcons (tile_ok 2 15 (by decide) (by decide) g2 (by decide) g2 (by decide) u2) <|
    pcons (tile_ok 2 14 (by decide) (by decide) g2 (by decide) g2 (by decide) u2) <|
    pcons (tile_ok 2 13 (by decide) (by decide) g2 (by decide) g2 (by decide) u2) <|
    pcons (tile_ok 2 12 (by decide) (by decide) g2 (by decide) g2 (by decide) u2) <|
    pcons (tile_ok 2 11 (by decide) (by decide) g2 (by decide) g2 (by decide) u2) <|
    pcons (tile_ok 2 10 (by decide) (by decide) g2 (by decide) g2 (by decide) u2) <|
    pcons (tile_ok 2 9 (by decide) (by decide) g2 (by decide) g2 (by decide) u2) <|
    pcons (tile_ok 2 8 (by decide) (by decide) g2 (by decide) g2 (by decide) u2) <|
    pcons (tile_ok 2 7 (by decide) (by decide) g2 (by decide) g2 (by decide) u2) <|
    pcons (tile_ok 2 6 (by decide) (by decide) g2 (by decide) g2 (by decide) u2) <|
    pcons (tile_ok 2 5 (by decide) (by decide) g2 (by decide) g2 (by decide) u2) <|
    pcons (tile_ok 2 4 (by decide) (by decide) g2 (by decide) g2 (by decide) u2) <|
    pcons (tile_ok 2 3 (by decide) (by decide) g2 (by decide) g2 (by decide) u2) <|
    pcons (tile_ok 2 2 (by decide) (by decide) g2 (by decide) g2 (by decide) u2) <|
    pcons (tile_ok 2 1 (by decide) (by decide) g2 (by decide) g2 (by decide) u2) <|
    pcons (tile_ok 2 0 (by decide) (by decide) f2 (by decide) g2 (by decide) u2) <|
    pcons (tile_ok 1 15 (by decide) (by decide) g1 (by decide) g1 (by decide) u1) <|
    pcons (tile_ok 1 14 (by decide) (by decide) g1 (by decide) g1 (by decide) u1) <|
    pcons (tile_ok 1 13 (by decide) (by decide) g1 (by decide) g1 (by decide) u1) <|
    pcons (tile_ok 1 12 (by decide) (by decide) g1 (by decide) g1 (by decide) u1) <|
    pcons (tile_ok 1 11 (by decide) (by decide) g1 (by decide) g1 (by decide) u1) <|
    pcons (tile_ok 1 10 (by decide) (by decide) g1 (by decide) g1 (by decide) u1) <|
    pcons (tile_ok 1 9 (by decide) (by decide) g1 (by decide) g1 (by decide) u1) <|
    pcons (tile_ok 1 8 (by decide) (by decide) g1 (by decide) g1 (by decide) u1) <|
    pcons (tile_ok 1 7 (by decide) (by decide) g1 (by decide) g1 (by decide) u1) <|
    pcons (tile_ok 1 6 (by decide) (by decide) g1 (by decide) g1 (by decide) u1) <|
    pcons (tile_ok 1 5 (by decide) (by decide) g1 (by decide) g1 (by decide) u1) <|
    pcons (tile_ok 1 4 (by decide) (by decide) g1 (by decide) g1 (by decide) u1) <|
    pcons (tile_ok 1 3 (by decide) (by decide) g1 (by decide) g1 (by decide) u1) <|
    pcons (tile_ok 1 2 (by decide) (by decide) g1 (by decide) g1 (by decide) u1) <|
    pcons (tile_ok 1 1 (by decide) (by decide) g1 (by decide) g1 (by decide) u1) <|
    pcons (tile_ok 1 0 (by decide) (by decide) f1 (by decide) g1 (by decide) u1) <|
    pcons (tile_ok 0 15 (by decide) (by decide) g0 (by decide) g0 (by decide) u0) <|
    pcons (tile_ok 0 14 (by decide) (by decide) g0 (by decide) g0 (by decide) u0) <|
    pcons (tile_ok 0 13 (by decide) (by decide) g0 (by decide) g0 (by decide) u0) <|
    pcons (tile_ok 0 12 (by decide) (by decide) g0 (by decide) g0 (by decide) u0) <|
    pcons (tile_ok 0 11 (by decide) (by decide) g0 (by decide) g0 (by decide) u0) <|
    pcons (tile_ok 0 10 (by decide) (by decide) g0 (by decide) g0 (by decide) u0) <|
    pcons (tile_ok 0 9 (by decide) (by decide) g0 (by decide) g0 (by decide) u0) <|
    pcons (tile_ok 0 8 (by decide) (by decide) g0 (by decide) g0 (by decide) u0) <|
    pcons (tile_ok 0 7 (by decide) (by decide) g0 (by decide) g0 (by decide) u0) <|
    pcons (tile_ok 0 6 (by decide) (by decide) g0 (by decide) g0 (by decide) u0) <|
    pcons (tile_ok 0 5 (by decide) (by decide) g0 (by decide) g0 (by decide) u0) <|
    pcons (tile_ok 0 4 (by decide) (by decide) g0 (by decide) g0 (by decide) u0) <|
    pcons (tile_ok 0 3 (by decide) (by decide) g0 (by decide) g0 (by decide) u0) <|
    pcons (tile_ok 0 2 (by decide) (by decide) g0 (by decide) g0 (by decide) u0) <|
    pcons (tile_ok 0 1 (by decide) (by decide) g0 (by decide) g0 (by decide) u0) <|
    pcons (tile_ok 0 0 (by decide) (by decide) f0 (by decide) g0 (by decide) u0) <| trivial

/-- After all stores the gate's buffer holds the projection in every lane block. -/
theorem g_all : GOk arg14.view (harg14.unread xs1) (kernelRun0_B.sl.HS1_22 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) 22 0 := by
  have f0 : GOk arg14.view (harg14.unread xs1) (kernelRun0_B.sl.HS1_2 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (0 + 1)) 0 := gstep 0 g_old
  have f1 : GOk arg14.view (harg14.unread xs1) (kernelRun0_B.sl.HS1_4 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (1 + 1)) 0 := gstep 1 f0
  have f2 : GOk arg14.view (harg14.unread xs1) (kernelRun0_B.sl.HS1_6 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (2 + 1)) 0 := gstep 2 f1
  have f3 : GOk arg14.view (harg14.unread xs1) (kernelRun0_B.sl.HS1_8 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (3 + 1)) 0 := gstep 3 f2
  have f4 : GOk arg14.view (harg14.unread xs1) (kernelRun0_B.sl.HS1_10 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (4 + 1)) 0 := gstep 4 f3
  have f5 : GOk arg14.view (harg14.unread xs1) (kernelRun0_B.sl.HS1_12 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (5 + 1)) 0 := gstep 5 f4
  have f6 : GOk arg14.view (harg14.unread xs1) (kernelRun0_B.sl.HS1_14 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (6 + 1)) 0 := gstep 6 f5
  have f7 : GOk arg14.view (harg14.unread xs1) (kernelRun0_B.sl.HS1_16 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (7 + 1)) 0 := gstep 7 f6
  have f8 : GOk arg14.view (harg14.unread xs1) (kernelRun0_B.sl.HS1_18 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (8 + 1)) 0 := gstep 8 f7
  have f9 : GOk arg14.view (harg14.unread xs1) (kernelRun0_B.sl.HS1_20 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (9 + 1)) 0 := gstep 9 f8
  have f10 : GOk arg14.view (harg14.unread xs1) (kernelRun0_B.sl.HS1_22 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (10 + 1)) 0 := gstep 10 f9
  exact f10

theorem g_own : GOk arg14.view arg14.view.junk (kernelRun0_B.sl.HS1_22 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) 22 8 := by
  have g0 : GOk arg14.view arg14.view.junk (kernelRun0_B.sl.HS1_2 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (0 + 1)) 8 := gstep 0 g_none
  have g1 : GOk arg14.view arg14.view.junk (kernelRun0_B.sl.HS1_4 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (1 + 1)) 8 := gstep 1 g0
  have g2 : GOk arg14.view arg14.view.junk (kernelRun0_B.sl.HS1_6 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (2 + 1)) 8 := gstep 2 g1
  have g3 : GOk arg14.view arg14.view.junk (kernelRun0_B.sl.HS1_8 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (3 + 1)) 8 := gstep 3 g2
  have g4 : GOk arg14.view arg14.view.junk (kernelRun0_B.sl.HS1_10 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (4 + 1)) 8 := gstep 4 g3
  have g5 : GOk arg14.view arg14.view.junk (kernelRun0_B.sl.HS1_12 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (5 + 1)) 8 := gstep 5 g4
  have g6 : GOk arg14.view arg14.view.junk (kernelRun0_B.sl.HS1_14 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (6 + 1)) 8 := gstep 6 g5
  have g7 : GOk arg14.view arg14.view.junk (kernelRun0_B.sl.HS1_16 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (7 + 1)) 8 := gstep 7 g6
  have g8 : GOk arg14.view arg14.view.junk (kernelRun0_B.sl.HS1_18 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (8 + 1)) 8 := gstep 8 g7
  have g9 : GOk arg14.view arg14.view.junk (kernelRun0_B.sl.HS1_20 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (9 + 1)) 8 := gstep 9 g8
  have g10 : GOk arg14.view arg14.view.junk (kernelRun0_B.sl.HS1_22 (F := Ideal) c arg2 harg2 arg3 harg3 arg4 harg4 arg5 harg5 arg6 harg6 arg7 harg7 arg13 x0 x1 x2 x3 x4 x5) (gB c arg2 harg2 arg3 harg3 arg4 harg4 arg5 harg5 arg6 harg6 arg13 x0 x1 x2 x3 x4 x5 xs1) (2 * (10 + 1)) 8 := gstep 10 g9
  exact g10

end Cert.FfnKernelIdeal.Hand.CaseB

end
-- ==== Proof.FfnOutB.lean ====
/- What the kernel leaves in its output block and in the carried rows at a later block. -/
module

public import Idealize.ShloMosaic.Lib.Pipeline.ValueKit.Acc
public import proofs.«01_k».proof.Proof.FfnBlock
public import proofs.«01_k».proof.Proof.FfnCaseB

@[expose] public section

set_option maxRecDepth 65536

noncomputable section

namespace Cert.FfnKernelIdeal.Hand.CaseB

open Cert.FfnKernelIdeal Cert.FfnKernelIdeal.Gen
open Idealize.ShloMosaic Idealize.ShloMosaic.TcCoe

variable (i : grid0.Coords)
variable (c : Dev nD)
variable (arg2 : Memref sig .tc .vmem S1x512x1024 .f32)
variable (harg2 : arg2.IsWhole)
variable (arg3 : Memref sig .tc .vmem S1x512x512 .f32)
variable (harg3 : arg3.IsWhole)
variable (arg4 : Memref sig .tc .vmem S1x2x512x128 .f32)
variable (harg4 : arg4.IsWhole)
variable (arg5 : Memref sig .tc .vmem S768x1024 .bf16)
variable (harg5 : arg5.IsWhole)
variable (arg6 : Memref sig .tc .vmem S1x1024 .f32)
variable (harg6 : arg6.IsWhole)
variable (arg7 : Memref sig .tc .vmem S1x1024x2816 .bf16)
variable (harg7 : arg7.IsWhole)
variable (arg8 : Memref sig .tc .vmem S1x1024x2816 .bf16)
variable (harg8 : arg8.IsWhole)
variable (arg9 : Memref sig .tc .vmem S24x2816 .f32)
variable (harg9 : arg9.IsWhole)
variable (arg10 : Memref sig .tc .vmem S8x2816 .f32)
variable (harg10 : arg10.IsWhole)
variable (arg11 : Memref sig .tc .vmem S1x2816x1024 .bf16)
variable (harg11 : arg11.IsWhole)
variable (arg12 : Memref sig .tc .vmem S1x512x1024 .f32)
variable (harg12 : arg12.IsWhole)
variable (arg13 : Memref sig .tc .vmem S512x1024 .bf16)
variable (harg13 : arg13.IsWhole)
variable (arg14 : Memref sig .tc .vmem S22x520x128 .f32)
variable (harg14 : arg14.IsWhole)
variable (arg15 : Memref sig .tc .vmem S512x2816 .f32)
variable (harg15 : arg15.IsWhole)
variable (arg16 : Memref sig .tc .vmem S512x2816 .bf16)
variable (harg16 : arg16.IsWhole)
variable (hc0 : ¬cond0_0 i)
variable (x0 : Vec Ideal S1x512x1024 .f32) (x1 : Vec Ideal S1x512x512 .f32) (x2 : Vec Ideal S1x2x512x128 .f32) (x3 : Vec Ideal S768x1024 .bf16) (x4 : Vec Ideal S1x1024 .f32) (x5 : Vec Ideal S1x1024x2816 .bf16) (x6 : Vec Ideal S1x1024x2816 .bf16) (x7 : Vec Ideal S24x2816 .f32) (x8 : Vec Ideal S8x2816 .f32) (x9 : Vec Ideal S1x2816x1024 .bf16)
variable (xs1 : Vec Ideal S22x520x128 .f32)

theorem r_eq : (kernelRun0_B.sl.r (F := Ideal) c arg2 harg2 arg3 harg3 arg4 harg4 arg5 harg5 x0 x1 x2 x3) = xres x0 x1 x2 x3 := xres_read

theorem v40_eq : (kernelRun0_B.sl.v40 (F := Ideal) c arg2 harg2 arg3 harg3 arg4 harg4 arg5 harg5 arg6 harg6 arg13 x0 x1 x2 x3 x4) = hI (xres x0 x1 x2 x3) x4 :=
  (View.readCov_unit_lit' arg13.view _ _ (fun a => by
    match a with
    | ⟨0, _⟩ => rfl
    | ⟨1, _⟩ => rfl)).trans (hn_read _ _ _ _ _ _ _ xres_read)

theorem act_cover : ∀ y, ∃ p ∈ (kernelRun0_B.sl.HS3_176 (F := Ideal) c arg2 harg2 arg3 harg3 arg4 harg4 arg5 harg5 arg6 harg6 arg7 harg7 arg8 harg8 arg9 harg9 arg10 harg10 arg13 arg14 harg14 arg15 x0 x1 x2 x3 x4 x5 x6 x7 x8 xs1), y ∈ p.1.set :=
  View.cover_of_tiledBy _ ![32, 256] (by sl_kernel_rfl)

theorem act_eq : (kernelRun0_B.sl.v6541 (F := Ideal) c arg2 harg2 arg3 harg3 arg4 harg4 arg5 harg5 arg6 harg6 arg7 harg7 arg8 harg8 arg9 harg9 arg10 harg10 arg13 arg14 harg14 arg15 arg16 x0 x1 x2 x3 x4 x5 x6 x7 x8 xs1) = Act (gI xs1 (xres x0 x1 x2 x3) x4 x5) (Uall (hI (xres x0 x1 x2 x3) x4) x6) x7 x8 := by
  refine (whole_read (act_pieces c arg2 harg2 arg3 harg3 arg4 harg4 arg5 harg5 arg6 harg6 arg7 harg7 arg8 harg8 arg9 harg9 arg10 harg10 arg13 arg14 harg14 arg15 x0 x1 x2 x3 x4 x5 x6 x7 x8 xs1) (act_cover c arg2 harg2 arg3 harg3 arg4 harg4 arg5 harg5 arg6 harg6 arg7 harg7 arg8 harg8 arg9 harg9 arg10 harg10 arg13 arg14 harg14 arg15 x0 x1 x2 x3 x4 x5 x6 x7 x8 xs1)).trans ?_
  unfold gI
  rw [← v40_eq c arg2 harg2 arg3 harg3 arg4 harg4 arg5 harg5 arg6 harg6 arg13 x0 x1 x2 x3 x4]

/-- A row of the output block. -/
theorem out_eq (n : Fin 512) (d : Fin 1024) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 (ix3 (0 : Fin 1) n d) = outI xs1 (xres x0 x1 x2 x3) x4 x5 x6 x7 x8 x9 n d := by
  refine (View.read_writes_cons_unit_of_mem (off' := ![0, 0, 0]) VO0_10 _ _ _ _ _ (ix3 (0 : Fin 1) n d) rfl (fun a => by
    match a with
    | ⟨0, _⟩ => rfl
    | ⟨1, _⟩ => show n.val = 0 + n.val; omega
    | ⟨2, _⟩ => show d.val = 0 + d.val; omega)).trans ?_
  show k0_pay530 (F := Ideal) (kernelRun0_B.sl.r (F := Ideal) c arg2 harg2 arg3 harg3 arg4 harg4 arg5 harg5 x0 x1 x2 x3) (kernelRun0_B.sl.v6541 (F := Ideal) c arg2 harg2 arg3 harg3 arg4 harg4 arg5 harg5 arg6 harg6 arg7 harg7 arg8 harg8 arg9 harg9 arg10 harg10 arg13 arg14 harg14 arg15 arg16 x0 x1 x2 x3 x4 x5 x6 x7 x8 xs1) _ _ = _
  rw [r_eq, act_eq]
  exact out_read _ _ n d

/-- The carried rows. -/
theorem carry_eq (a : Fin 22) (r : Fin 8) (j : Fin 128) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 (ix3 a (⟨r.val, by omega⟩ : Fin 520) j) = gI xs1 (xres x0 x1 x2 x3) x4 x5 (ix3 a (⟨512 + r.val, by omega⟩ : Fin 520) j) := by
  refine (View.read_writes_cons_unit_of_mem (off' := ![0, 0, 0]) VS0_1 _ _ _ _ _ (ix3 a r j) rfl (fun b => by
    match b with
    | ⟨0, _⟩ => show a.val = 0 + a.val; omega
    | ⟨1, _⟩ => show r.val = 0 + r.val; omega
    | ⟨2, _⟩ => show j.val = 0 + j.val; omega)).trans ?_
  refine (carry_read (CaseB.g_own c arg2 harg2 arg3 harg3 arg4 harg4 arg5 harg5 arg6 harg6 arg7 harg7 arg13 arg14 x0 x1 x2 x3 x4 x5 xs1) a r j).trans ?_
  unfold gI
  rw [← v40_eq c arg2 harg2 arg3 harg3 arg4 harg4 arg5 harg5 arg6 harg6 arg13 x0 x1 x2 x3 x4]

end Cert.FfnKernelIdeal.Hand.CaseB

end
-- ==== Proof.FfnSweep.lean ====
/- The kernel's result array, entry by entry. -/
module

public import proofs.«01_k».proof.Proof.FfnSpec
public import proofs.«01_k».proof.Proof.FfnInputs
public import proofs.«01_k».proof.Proof.FfnOutA
public import proofs.«01_k».proof.Proof.FfnOutB
public import proofs.«01_k».proof.Proof.Gen.FfnKernelIdeal.Value

@[expose] public section

set_option maxRecDepth 16384

noncomputable section

namespace Cert.FfnKernelIdeal.Hand

open Cert.FfnKernelIdeal Cert.FfnKernelIdeal.Gen Cert.FfnKernelIdeal.Value
open Idealize.ShloMosaic Idealize.ShloMosaic.TcCoe Idealize.SL.Sem

variable (m : (ℓ : Loc nD τ sig) → Buf (Elt Ideal) ℓ)

/-- The arguments at launch. -/
def argsOf (c : Dev nD) : Args where
  x := m ((c : Thread nD τ).loc main_arg0)
  lru := m ((c : Thread nD τ).loc main_arg1)
  att := m ((c : Thread nD τ).loc main_arg2)
  wout := m ((c : Thread nD τ).loc main_arg3)
  norm := m ((c : Thread nD τ).loc main_arg4)
  wgate := m ((c : Thread nD τ).loc main_arg5)
  wup := m ((c : Thread nD τ).loc main_arg6)
  conv := m ((c : Thread nD τ).loc main_arg7)
  bias := m ((c : Thread nD τ).loc main_arg8)
  wdown := m ((c : Thread nD τ).loc main_arg9)

/-- The block of the sequence at a grid point. -/
abbrev blkNo (t : Fin cfg0.N) : Fin 8 := ⟨t.val % 8, by omega⟩

theorem blocksOf (c : Dev nD) (t : Fin cfg0.N) : BlocksOf (argsOf m c).net (bat t) (blkNo t)
    (xres (iblk m c 0 t) (iblk m c 1 t) (iblk m c 2 t) (iblk m c 3 t)) (iblk m c 4 t) (iblk m c 5 t) (iblk m c 6 t) (iblk m c 7 t) (iblk m c 8 t) (iblk m c 9 t) where
  eX := xres_G (A := argsOf m c) (blk0 m c t) (blk1 m c t) (blk2 m c t) (blk3 m c t)
  e4 := blk4 m c t
  e5 := blk5 m c t
  e6 := blk6 m c t
  e7 := blk7 m c t
  e8 := blk8 m c t
  e9 := blk9 m c t

/-- After a block that is not a sequence's last, the carried rows are those the next block needs. -/
theorem carried (c : Dev nD) (t t' : Fin cfg0.N) (h : t'.val = t.val + 1) (h8 : ¬t'.val % 8 = 0) :
    HaloOk (argsOf m c).net (bat t') (blkNo t') (outsAt0 m c t.val t.isLt).2 := by
  have hb : bat t' = bat t := Fin.ext (show t'.val / 8 = t.val / 8 by omega)
  rw [hb]
  by_cases h0 : t.val % 8 = 0
  · have e : (outsAt0 m c t.val t.isLt).2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by rw [outsAt0_A m c t h0]
    rw [e]
    refine carry_G (blocksOf m c t) (fun _ => 0) _ (fun a r l => ?_) (blkNo t') (show t'.val % 8 = t.val % 8 + 1 by omega)
    exact CaseA.carry_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) a r l
  · have e : (outsAt0 m c t.val t.isLt).2 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 := by rw [outsAt0_B m c t h0]
    rw [e]
    refine carry_G (blocksOf m c t) (outsAt0 m c (t.val - 1) (Nat.lt_of_le_of_lt (Nat.sub_le _ _) t.isLt)).2 _ (fun a r l => ?_) (blkNo t') (show t'.val % 8 = t.val % 8 + 1 by omega)
    exact CaseB.carry_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 a r l

/-- The block a grid point leaves. -/
theorem out_at (c : Dev nD) (t : Fin cfg0.N) (n : Fin 512) (d : Fin 1024) :
    (outsAt0 m c t.val t.isLt).1 (ix3 (0 : Fin 1) n d) = oG (argsOf m c).net (bat t) (rowIn (blkNo t) n) d := by
  by_cases h0 : t.val % 8 = 0
  · have e : (outsAt0 m c t.val t.isLt).1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by rw [outsAt0_A m c t h0]
    rw [e]
    refine Eq.trans ?_ (outI_G (blocksOf m c t) (halo_zero _ _ _ h0) n d)
    exact CaseA.out_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) n d
  · have e : (outsAt0 m c t.val t.isLt).1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 := by rw [outsAt0_B m c t h0]
    rw [e]
    refine Eq.trans ?_ (outI_G (blocksOf m c t) (carried m c ⟨t.val - 1, Nat.lt_of_le_of_lt (Nat.sub_le _ _) t.isLt⟩ t (show t.val = t.val - 1 + 1 by omega) h0) n d)
    exact CaseB.out_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 n d

/-- The result array. -/
def whole (c : Dev nD) : Buf (Elt Ideal) ((c : Thread nD τ).loc main_v17) := fun i => oG (argsOf m c).net (i 0) (i 1) (i 2)

theorem result (c : Dev nD) : G10 m c = whole m c := by
  funext i
  have h0 : (i 0).val < 8 := (i 0).isLt
  have h1 : (i 1).val < 4096 := (i 1).isLt
  have h2 : (i 2).val < 1024 := (i 2).isLt
  have hN : cfg0.N = 64 := N_0
  have hp : pt10Of i = 8 * (i 0).val + (i 1).val / 512 := by
    show 8 * ((i 0).val / 1 - 0) + 1 * ((i 1).val / 512 - 0) + 1 * ((i 2).val / 1024 - 0) = _
    omega
  have ht : pt10Of i < cfg0.N := by omega
  refine (dif_pos ht).trans ?_
  rw [← outsAt0_sweep m c (pt10Of i) ht]
  have hl : loc10Of i = ix3 (0 : Fin 1) (⟨(i 1).val % 512, Nat.mod_lt _ (by decide)⟩ : Fin 512) (⟨(i 2).val, h2⟩ : Fin 1024) := by
    funext a
    refine Fin.ext ?_
    match a with
    | ⟨0, _⟩ => show (i 0).val % 1 = 0; omega
    | ⟨1, _⟩ => rfl
    | ⟨2, _⟩ => show (i 2).val % 1024 = (i 2).val; omega
  rw [hl]
  refine (out_at m c ⟨pt10Of i, ht⟩ _ _).trans ?_
  have eb : bat ⟨pt10Of i, ht⟩ = (⟨(i 0).val, h0⟩ : Fin 8) := Fin.ext (show pt10Of i / 8 = (i 0).val by omega)
  have er : rowIn (blkNo ⟨pt10Of i, ht⟩) (⟨(i 1).val % 512, Nat.mod_lt _ (by decide)⟩ : Fin 512) = (⟨(i 1).val, h1⟩ : Fin 4096) :=
    Fin.ext (show 512 * (pt10Of i % 8) + (i 1).val % 512 = (i 1).val by omega)
  rw [eb, er]
  rfl

end Cert.FfnKernelIdeal.Hand
-- ==== Proof.FfnRef.lean ====
/- The references of the feed-forward blocks, in stages, each read at an index: a layer's network from the residual
   stream and from the layer's own weights is the formula that the kernel computes. -/
module

public import proofs.«01_k».proof.Proof.Gen.FfnReferenceIdeal.Run
public import proofs.«01_k».proof.Proof.FfnSpec
public import Idealize.ShloMosaic.Lib.Pointwise

@[expose] public section

set_option maxRecDepth 16384

noncomputable section

namespace Cert.FfnReferenceIdeal.Hand

open Cert.FfnReferenceIdeal Cert.FfnReferenceIdeal.Gen Cert.FfnReferenceIdeal.Value
open Idealize.ShloMosaic Idealize.ShloMosaic.TcCoe
open Cert.FfnKernelIdeal.Hand (Args Net hG gG uG gP aG oG gateK)

variable {F : FTy → Type} [FloatOps F]

/-- The mixers' outputs side by side. -/
def mixR (lru : FVec F S8x4096x512 .f32) (att : FVec F S8x2x4096x128 .f32) : FVec F S8x4096x768 .f32 :=
  fn_main_v2 lru (shapeCast _ (transpose S8x4096x2x128 [0, 2, 1, 3] att transposes_S8x2x4096x128_S8x4096x2x128_0_2_1_3) shapeCasts_S8x4096x2x128_S8x4096x256)
def xR (x : FVec F S8x4096x1024 .f32) (mix : FVec F S8x4096x768 .f32) (w : FVec F S1x768x1024 .f32) : FVec F S8x4096x1024 .f32 :=
  addf x (Host.dotGeneral dot_S8x4096x768_S768x1024_S8x4096x1024_2_0_01_1_n_n none mix (shapeCast S768x1024 w shapeCasts_S1x768x1024_S768x1024))
def scaleR (X : FVec F S8x4096x1024 .f32) : FVec F S8x4096x1 .f32 :=
  Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32)))
def hR (X : FVec F S8x4096x1024 .f32) (s : FVec F S8x4096x1 .f32) (n : FVec F S1x1024 .f32) : FVec F S8x4096x1024 .f32 :=
  mulf (mulf X (broadcastInDim S8x4096x1024 ![0, 1, 2] bcast_S8x4096x1_S8x4096x1024_0_1_2 s))
    (broadcastInDim S8x4096x1024 ![0, 1, 2] bcast_S1x1x1024_S8x4096x1024_0_1_2 (broadcastInDim S1x1x1024 ![2] bcast_S1024_S1x1x1024_2
      (shapeCast S1024 n shapeCasts_S1x1024_S1024)))
def projR (h : FVec F S8x4096x1024 .f32) (w : FVec F S1x1024x2816 .f32) : FVec F S8x4096x2816 .f32 :=
  Host.dotGeneral dot_S8x4096x1024_S1024x2816_S8x4096x2816_2_0_01_1_n_n none h
    (shapeCast S1024x2816 w shapeCasts_S1x1024x2816_S1024x2816)
def padR (g : FVec F S8x4096x2816 .f32) : FVec F S8x4098x2816 .f32 :=
  pad S8x4098x2816 ![0, 2, 0] ![0, 0, 0] ![0, 0, 0] g (sitofp .f32 (constantI S_ 32 0#32)) pads_S8x4096x2816_S8x4098x2816_000_200_000 h_S_
def laneR (w : FVec F S2816 .f32) : FVec F S8x4096x2816 .f32 :=
  broadcastInDim S8x4096x2816 ![0, 1, 2] bcast_S1x1x2816_S8x4096x2816_0_1_2 (broadcastInDim S1x1x2816 ![2] bcast_S2816_S1x1x2816_2 w)
def tap0 (cw : FVec F S1x1x2816 .f32) (p : FVec F S8x4098x2816 .f32) : FVec F S8x4096x2816 .f32 :=
  mulf (laneR (shapeCast S2816 cw shapeCasts_S1x1x2816_S2816))
    (extractStridedSlice S8x4096x2816 ![0, 0, 0] p slices_S8x4098x2816_S8x4096x2816_0_0_0)
def tap1 (cw : FVec F S1x1x2816 .f32) (p : FVec F S8x4098x2816 .f32) : FVec F S8x4096x2816 .f32 :=
  mulf (laneR (shapeCast S2816 cw shapeCasts_S1x1x2816_S2816))
    (extractStridedSlice S8x4096x2816 ![0, 1, 0] p slices_S8x4098x2816_S8x4096x2816_0_1_0)
def tap2 (cw : FVec F S1x1x2816 .f32) (p : FVec F S8x4098x2816 .f32) : FVec F S8x4096x2816 .f32 :=
  mulf (laneR (shapeCast S2816 cw shapeCasts_S1x1x2816_S2816))
    (extractStridedSlice S8x4096x2816 ![0, 2, 0] p slices_S8x4098x2816_S8x4096x2816_0_2_0)
def convR (c0 c1 c2 : FVec F S1x1x2816 .f32) (cb : FVec F S1x2816 .f32) (p : FVec F S8x4098x2816 .f32) : FVec F S8x4096x2816 .f32 :=
  addf (addf (addf (addf (broadcastInDim S8x4096x2816 ![] bcast_S_S8x4096x2816 (constant S_ .f32 0x00000000#32)) (tap0 c0 p)) (tap1 c1 p)) (tap2 c2 p))
    (laneR (shapeCast S2816 cb shapeCasts_S1x2816_S2816))
def gateR (g u : FVec F S8x4096x2816 .f32) : FVec F S8x4096x2816 .f32 :=
  mulf (mulf g (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf g))))) u
def downR (X : FVec F S8x4096x1024 .f32) (a : FVec F S8x4096x2816 .f32) (w : FVec F S1x2816x1024 .f32) : FVec F S8x4096x1024 .f32 :=
  addf X (Host.dotGeneral dot_S8x4096x2816_S2816x1024_S8x4096x1024_2_0_01_1_n_n none a
    (shapeCast S2816x1024 w shapeCasts_S1x2816x1024_S2816x1024))

/-- A layer's network, from the residual stream and the layer's weights. -/
def netR (X : FVec F S8x4096x1024 .f32) (n : FVec F S1x1024 .f32) (wg wu : FVec F S1x1024x2816 .f32) (c0 c1 c2 : FVec F S1x1x2816 .f32)
    (cb : FVec F S1x2816 .f32) (wd : FVec F S1x2816x1024 .f32) : FVec F S8x4096x1024 .f32 :=
  downR X (gateR (convR c0 c1 c2 cb (padR (projR (hR X (scaleR X) n) wg))) (projR (hR X (scaleR X) n) wu)) wd

/-- The whole reference of layer 1. -/
def refR (x : FVec F S8x4096x1024 .f32) (lru : FVec F S8x4096x512 .f32) (att : FVec F S8x2x4096x128 .f32) (wo : FVec F S1x768x1024 .f32) (n : FVec F S2x1024 .f32)
    (wg wu : FVec F S2x1024x2816 .f32) (cw : FVec F S2x3x2816 .f32) (cb : FVec F S2x2816 .f32) (wd : FVec F S2x2816x1024 .f32) : FVec F S8x4096x1024 .f32 :=
  netR (xR x (mixR lru att) wo) (extractStridedSlice S1x1024 ![1, 0] n slices_S2x1024_S1x1024_1_0)
    (extractStridedSlice S1x1024x2816 ![1, 0, 0] wg slices_S2x1024x2816_S1x1024x2816_1_0_0) (extractStridedSlice S1x1024x2816 ![1, 0, 0] wu slices_S2x1024x2816_S1x1024x2816_1_0_0)
    (extractStridedSlice S1x1x2816 ![1, 0, 0] cw slices_S2x3x2816_S1x1x2816_1_0_0) (extractStridedSlice S1x1x2816 ![1, 1, 0] cw slices_S2x3x2816_S1x1x2816_1_1_0)
    (extractStridedSlice S1x1x2816 ![1, 2, 0] cw slices_S2x3x2816_S1x1x2816_1_2_0) (extractStridedSlice S1x2816 ![1, 0] cb slices_S2x2816_S1x2816_1_0)
    (extractStridedSlice S1x2816x1024 ![1, 0, 0] wd slices_S2x2816x1024_S1x2816x1024_1_0_0)

variable (m : (ℓ : Loc nD τ sig) → Buf (Elt F) ℓ) (c : Dev nD)

theorem out_eq : res_main_v60 m c = refR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) := rfl

/-! ## The stages at an index, over the extended reals -/

section AtIndex
variable (b : Fin 8) (s : Fin 4096)

theorem xR_apply (x : FVec Ideal S8x4096x1024 .f32) (lru : FVec Ideal S8x4096x512 .f32) (att : FVec Ideal S8x2x4096x128 .f32) (w : FVec Ideal S1x768x1024 .f32) (d : Fin 1024) :
    xR x (mixR lru att) w (ix3 b s d) = x (ix3 b s d) + ((∑ k : Fin 512, lru (ix3 b s k) * w (ix3 (0 : Fin 1) (⟨k.val, by omega⟩ : Fin 768) d))
      + ∑ k : Fin 256, att (ix4 b (⟨k.val / 128, by omega⟩ : Fin 2) s (⟨k.val % 128, by omega⟩ : Fin 128)) * w (ix3 (0 : Fin 1) (⟨512 + k.val, by omega⟩ : Fin 768) d)) := by
  pointwise [xR, mixR, fn_main_v2]
theorem scaleR_apply (X : FVec Ideal S8x4096x1024 .f32) :
    scaleR X (ix3 b s (0 : Fin 1)) = Ideal.rsqrt (Ideal.div (∑ k : Fin 1024, X (ix3 b s k) * X (ix3 b s k)) (Ideal.ofBits .f32 0x44800000#32) + Ideal.ofBits .f32 0x358637BD#32) := by
  pointwise [scaleR]
theorem hR_apply (X : FVec Ideal S8x4096x1024 .f32) (r : FVec Ideal S8x4096x1 .f32) (n : FVec Ideal S1x1024 .f32) (d : Fin 1024) :
    hR X r n (ix3 b s d) = X (ix3 b s d) * r (ix3 b s (0 : Fin 1)) * n (ix2 (0 : Fin 1) d) := by
  pointwise [hR]
theorem projR_apply (h : FVec Ideal S8x4096x1024 .f32) (w : FVec Ideal S1x1024x2816 .f32) (q : Fin 2816) :
    projR h w (ix3 b s q) = ∑ k : Fin 1024, h (ix3 b s k) * w (ix3 (0 : Fin 1) k q) := by
  pointwise [projR]
theorem padR_apply (g : FVec Ideal S8x4096x2816 .f32) (r : Fin 4098) (q : Fin 2816) :
    padR g (ix3 b r q) = if h : 2 ≤ r.val then g (ix3 b (⟨r.val - 2, by omega⟩ : Fin 4096) q) else (0 : EReal) := by
  pointwise [padR]
  by_cases h : 2 ≤ r.val
  · rw [dif_pos h, dif_pos ⟨h, by omega⟩]
  · rw [dif_neg h, dif_neg fun h' => h h'.1]
    show (((0#32 : BitVec 32).toInt : ℝ) : EReal) = 0
    simp
theorem convR_apply (c0 c1 c2 : FVec Ideal S1x1x2816 .f32) (cb : FVec Ideal S1x2816 .f32) (p : FVec Ideal S8x4098x2816 .f32) (q : Fin 2816) :
    convR c0 c1 c2 cb p (ix3 b s q) = 0 + c0 (ix3 (0 : Fin 1) (0 : Fin 1) q) * p (ix3 b (⟨s.val, by omega⟩ : Fin 4098) q)
      + c1 (ix3 (0 : Fin 1) (0 : Fin 1) q) * p (ix3 b (⟨1 + s.val, by omega⟩ : Fin 4098) q)
      + c2 (ix3 (0 : Fin 1) (0 : Fin 1) q) * p (ix3 b (⟨2 + s.val, by omega⟩ : Fin 4098) q) + cb (ix2 (0 : Fin 1) q) := by
  pointwise [convR, tap0, tap1, tap2, laneR]
theorem gateR_apply (g u : FVec Ideal S8x4096x2816 .f32) (q : Fin 2816) :
    gateR g u (ix3 b s q) = g (ix3 b s q) * Ideal.div (Ideal.ofBits .f32 0x3F800000#32) (Ideal.ofBits .f32 0x3F800000#32 + Ideal.exp (-g (ix3 b s q))) * u (ix3 b s q) := by
  pointwise [gateR]
theorem downR_apply (X : FVec Ideal S8x4096x1024 .f32) (a : FVec Ideal S8x4096x2816 .f32) (w : FVec Ideal S1x2816x1024 .f32) (d : Fin 1024) :
    downR X a w (ix3 b s d) = X (ix3 b s d) + ∑ q : Fin 2816, a (ix3 b s q) * w (ix3 (0 : Fin 1) q d) := by
  pointwise [downR]
end AtIndex

/-! ## A layer's network is the formula -/

section Network
variable {A : Net} {X : FVec Ideal S8x4096x1024 .f32} {n : FVec Ideal S1x1024 .f32} {wg wu : FVec Ideal S1x1024x2816 .f32} {c0 c1 c2 : FVec Ideal S1x1x2816 .f32}
    {cb : FVec Ideal S1x2816 .f32} {wd : FVec Ideal S1x2816x1024 .f32}

/-- The arrays are those of the network `A`. -/
structure IsNet (A : Net) (X : FVec Ideal S8x4096x1024 .f32) (n : FVec Ideal S1x1024 .f32) (wg wu : FVec Ideal S1x1024x2816 .f32)
    (c0 c1 c2 : FVec Ideal S1x1x2816 .f32) (cb : FVec Ideal S1x2816 .f32) (wd : FVec Ideal S1x2816x1024 .f32) : Prop where
  eX : ∀ (b : Fin 8) (s : Fin 4096) (d : Fin 1024), X (ix3 b s d) = A.X b s d
  en : ∀ d : Fin 1024, n (ix2 (0 : Fin 1) d) = A.norm (ix2 A.l d)
  eg : ∀ (k : Fin 1024) (q : Fin 2816), wg (ix3 (0 : Fin 1) k q) = A.wgate (ix3 A.l k q)
  eu : ∀ (k : Fin 1024) (q : Fin 2816), wu (ix3 (0 : Fin 1) k q) = A.wup (ix3 A.l k q)
  ec0 : ∀ q : Fin 2816, c0 (ix3 (0 : Fin 1) (0 : Fin 1) q) = A.conv (ix3 A.l (0 : Fin 3) q)
  ec1 : ∀ q : Fin 2816, c1 (ix3 (0 : Fin 1) (0 : Fin 1) q) = A.conv (ix3 A.l (1 : Fin 3) q)
  ec2 : ∀ q : Fin 2816, c2 (ix3 (0 : Fin 1) (0 : Fin 1) q) = A.conv (ix3 A.l (2 : Fin 3) q)
  eb : ∀ q : Fin 2816, cb (ix2 (0 : Fin 1) q) = A.bias (ix2 A.l q)
  ed : ∀ (q : Fin 2816) (d : Fin 1024), wd (ix3 (0 : Fin 1) q d) = A.wdown (ix3 A.l q d)

variable (N : IsNet A X n wg wu c0 c1 c2 cb wd) (b : Fin 8)
include N

theorem normed_eq (s : Fin 4096) (d : Fin 1024) : hR X (scaleR X) n (ix3 b s d) = hG A b s d := by
  refine (hR_apply b s X (scaleR X) n d).trans (congrArg₂ (· * ·) (congrArg₂ (· * ·) (N.eX b s d) ?_) (N.en d))
  exact (scaleR_apply b s X).trans (congrArg (fun t => Ideal.rsqrt (Ideal.div t (Ideal.ofBits .f32 0x44800000#32) + Ideal.ofBits .f32 0x358637BD#32))
    (Finset.sum_congr rfl fun k _ => congrArg₂ (· * ·) (N.eX b s k) (N.eX b s k)))

theorem gate_eq (s : Fin 4096) (q : Fin 2816) : projR (hR X (scaleR X) n) wg (ix3 b s q) = gG A b s q :=
  (projR_apply b s _ wg q).trans (Finset.sum_congr rfl fun k _ => congrArg₂ (· * ·) (normed_eq N b s k) (N.eg k q))

theorem up_eq (s : Fin 4096) (q : Fin 2816) : projR (hR X (scaleR X) n) wu (ix3 b s q) = uG A b s q :=
  (projR_apply b s _ wu q).trans (Finset.sum_congr rfl fun k _ => congrArg₂ (· * ·) (normed_eq N b s k) (N.eu k q))

theorem padded_eq (r : Fin 4098) (i : ℕ) (e : i = r.val) (q : Fin 2816) : padR (projR (hR X (scaleR X) n) wg) (ix3 b r q) = gP A b i q := by
  subst e
  refine (padR_apply b _ r q).trans ?_
  unfold gP
  by_cases h : 2 ≤ r.val
  · rw [dif_pos h, dif_pos ⟨h, r.isLt⟩]
    exact gate_eq N b _ q
  · rw [dif_neg h, dif_neg fun h' => h h'.1]

theorem act_eq (s : Fin 4096) (q : Fin 2816) :
    gateR (convR c0 c1 c2 cb (padR (projR (hR X (scaleR X) n) wg))) (projR (hR X (scaleR X) n) wu) (ix3 b s q) = aG A b s q := by
  have ec : convR c0 c1 c2 cb (padR (projR (hR X (scaleR X) n) wg)) (ix3 b s q)
      = A.conv (ix3 A.l (0 : Fin 3) q) * gP A b s.val q + A.conv (ix3 A.l (1 : Fin 3) q) * gP A b (s.val + 1) q
      + A.conv (ix3 A.l (2 : Fin 3) q) * gP A b (s.val + 2) q + A.bias (ix2 A.l q) := by
    refine (convR_apply b s c0 c1 c2 cb _ q).trans ?_
    rw [padded_eq N b _ s.val rfl q, padded_eq N b _ (s.val + 1) (Nat.add_comm _ _) q, padded_eq N b _ (s.val + 2) (Nat.add_comm _ _) q, zero_add,
      N.ec0, N.ec1, N.ec2, N.eb]
  refine (gateR_apply b s _ _ q).trans ?_
  rw [ec, up_eq N, ← zero_sub]
  rfl

theorem netR_apply (s : Fin 4096) (d : Fin 1024) : netR X n wg wu c0 c1 c2 cb wd (ix3 b s d) = oG A b s d :=
  (downR_apply b s X _ wd d).trans (congrArg₂ (· + ·) (N.eX b s d)
    (Finset.sum_congr rfl fun q _ => congrArg₂ (· * ·) (act_eq N b s q) (N.ed q d)))

theorem netR_eq : netR X n wg wu c0 c1 c2 cb wd = fun i => oG A (i 0) (i 1) (i 2) := by
  funext i
  have e : i = ix3 (i 0) (i 1) (i 2) := by
    funext a
    match a with
    | ⟨0, _⟩ => rfl
    | ⟨1, _⟩ => rfl
    | ⟨2, _⟩ => rfl
  exact (congrArg _ e).trans (netR_apply N (i 0) (i 1) (i 2))
end Network

end Cert.FfnReferenceIdeal.Hand

end
-- ==== Proof.FfnClaim.lean ====
/- The reference of the feed-forward block is the formula that the kernel computes, and the claim of it. -/
module

public import proofs.«01_k».proof.Proof.FfnSweep
public import proofs.«01_k».proof.Proof.FfnRef
public import proofs.«01_k».proof.Defs

@[expose] public section

set_option maxRecDepth 16384

noncomputable section

namespace Cert.FfnReferenceIdeal.Hand

open Cert.FfnReferenceIdeal Cert.FfnReferenceIdeal.Gen
open Idealize.ShloMosaic Idealize.ShloMosaic.TcCoe
open Cert.FfnKernelIdeal.Hand (Args Net xG oG)

section Stages
variable (A : Args) (b : Fin 8)

/-- A sum over both heads' lanes, head by head. -/
theorem sum_heads (f : Fin 256 → EReal) : ∑ k : Fin 256, f k = (∑ k : Fin 128, f (⟨k.val, by omega⟩ : Fin 256)) + ∑ k : Fin 128, f (⟨128 + k.val, by omega⟩ : Fin 256) :=
  Fin.sum_univ_add (a := 128) (b := 128) f

theorem xR_eq (s : Fin 4096) (d : Fin 1024) : xR (F := Ideal) A.x (mixR A.lru A.att) A.wout (ix3 b s d) = xG A b s d := by
  refine (xR_apply b s A.x A.lru A.att A.wout d).trans ?_
  rw [sum_heads, ← add_assoc]
  refine congrArg₂ (· + ·) rfl (congrArg₂ (· + ·) (Finset.sum_congr rfl fun k _ => congrArg₂ (· * ·) (congrArg A.att ?_) rfl)
    (Finset.sum_congr rfl fun k _ => congrArg₂ (· * ·) (congrArg A.att ?_) (congrArg A.wout ?_)))
  · funext a
    refine Fin.ext ?_
    match a with
    | ⟨0, _⟩ => rfl
    | ⟨1, _⟩ => show k.val / 128 = 0; omega
    | ⟨2, _⟩ => rfl
    | ⟨3, _⟩ => show k.val % 128 = k.val; omega
  · funext a
    refine Fin.ext ?_
    match a with
    | ⟨0, _⟩ => rfl
    | ⟨1, _⟩ => show (128 + k.val) / 128 = 1; omega
    | ⟨2, _⟩ => rfl
    | ⟨3, _⟩ => show (128 + k.val) % 128 = k.val; omega
  · funext a
    refine Fin.ext ?_
    match a with
    | ⟨0, _⟩ => rfl
    | ⟨1, _⟩ => show 512 + (128 + k.val) = 640 + k.val; omega
    | ⟨2, _⟩ => rfl

/-- The reference, entry by entry. -/
theorem refR_eq : refR (F := Ideal) A.x A.lru A.att A.wout A.norm A.wgate A.wup A.conv A.bias A.wdown = fun i => oG A.net (i 0) (i 1) (i 2) :=
  netR_eq (A := A.net) {
    eX := fun b s d => xR_eq A b s d
    en := fun d => by pointwise; rfl
    eg := fun k q => by pointwise; rfl
    eu := fun k q => by pointwise; rfl
    ec0 := fun q => by pointwise; rfl
    ec1 := fun q => by pointwise; rfl
    ec2 := fun q => by pointwise; rfl
    eb := fun q => by pointwise; rfl
    ed := fun q d => by pointwise; rfl }
end Stages

end Cert.FfnReferenceIdeal.Hand

namespace Cert.Proof.FfnClaims

open Idealize.ShloMosaic Idealize.SL.Sem

/-- Both runs end with the formula of the kernel's arguments. -/
theorem algebraic : Cert.algebraic_FfnKernelIdeal_FfnReferenceIdeal := by
  intro m ρ m' ρ' _ hag
  refine ⟨fun c => Cert.FfnKernelIdeal.Hand.whole m c, ?_, ?_⟩
  · exact (θ_run Cert.FfnKernelIdeal.defs _ _).mono (fun _ h c => ⟨(h c).1.trans (Cert.FfnKernelIdeal.Hand.result m c), (h c).2⟩)
      (Cert.FfnKernelIdeal.Value.run (F := Ideal) m ρ)
  · refine (θ_run Cert.FfnReferenceIdeal.defs _ _).mono (fun _ h c => ⟨(h c).1.trans ?_, (h c).2⟩)
      (Cert.FfnReferenceIdeal.Value.run (F := Ideal) m' ρ')
    obtain ⟨h0, h1, h2, h3, h4, h5, h6, h7, h8, h9⟩ := hag c
    rw [Cert.FfnReferenceIdeal.Hand.out_eq, h0, h1, h2, h3, h4, h5, h6, h7, h8, h9]
    exact Cert.FfnReferenceIdeal.Hand.refR_eq (Cert.FfnKernelIdeal.Hand.argsOf m c)

end Cert.Proof.FfnClaims

end
-- ==== Proof.Ffn0Inputs.lean ====
/- What the input blocks of the kernel hold at a grid point, as entries of the arguments. -/
module

public import proofs.«01_k».proof.Proof.Gen.Ffn0KernelIdeal.Frame
public import Idealize.ShloMosaic.Lib.StableHlo.RunRead
public import Idealize.ShloMosaic.Lib.Pointwise

@[expose] public section

set_option maxRecDepth 16384

noncomputable section

namespace Cert.Ffn0KernelIdeal.Hand

open Cert.Ffn0KernelIdeal Cert.Ffn0KernelIdeal.Gen
open Idealize.ShloMosaic Idealize.ShloMosaic.TcCoe Idealize.SL.Sem

/-! ## The arrays the host prepares -/

theorem host_v2 (W : Valuation τ sig (Elt Ideal)) (z : Fin 1) (d : Fin 1024) :
    (StableHlo.after (hostOps0 (F := Ideal)) W main_v2 : S1x1024.Idx → EReal) (ix2 z d) = (W main_arg1 : S2x1024.Idx → EReal) (ix2 (0 : Fin 2) d) := by
  after_reads_simp
  generalize W (Proc.devRef .tc main_arg1) = A
  pointwise

theorem host_v3 (W : Valuation τ sig (Elt Ideal)) (l : Fin 2) (k : Fin 1024) (q : Fin 2816) :
    (StableHlo.after (hostOps0 (F := Ideal)) W main_v3 : S2x1024x2816.Idx → EReal) (ix3 l k q) = (W main_arg2 : S2x1024x2816.Idx → EReal) (ix3 l k q) := by
  after_reads_simp
  generalize W (Proc.devRef .tc main_arg2) = A
  pointwise

theorem host_v4 (W : Valuation τ sig (Elt Ideal)) (l : Fin 2) (k : Fin 1024) (q : Fin 2816) :
    (StableHlo.after (hostOps0 (F := Ideal)) W main_v4 : S2x1024x2816.Idx → EReal) (ix3 l k q) = (W main_arg3 : S2x1024x2816.Idx → EReal) (ix3 l k q) := by
  after_reads_simp
  generalize W (Proc.devRef .tc main_arg3) = A
  pointwise

theorem host_v8 (W : Valuation τ sig (Elt Ideal)) (r : Fin 24) (q : Fin 2816) :
    (StableHlo.after (hostOps0 (F := Ideal)) W main_v8 : S24x2816.Idx → EReal) (ix2 r q) = (W main_arg4 : S2x3x2816.Idx → EReal) (ix3 (0 : Fin 2) (⟨r.val / 8, by omega⟩ : Fin 3) q) := by
  after_reads_simp
  generalize W (Proc.devRef .tc main_arg4) = A
  pointwise

theorem host_v13 (W : Valuation τ sig (Elt Ideal)) (r : Fin 8) (q : Fin 2816) :
    (StableHlo.after (hostOps0 (F := Ideal)) W main_v13 : S8x2816.Idx → EReal) (ix2 r q) = (W main_arg5 : S2x2816.Idx → EReal) (ix2 (0 : Fin 2) q) := by
  after_reads_simp
  generalize W (Proc.devRef .tc main_arg5) = A
  pointwise

theorem host_v14 (W : Valuation τ sig (Elt Ideal)) (l : Fin 2) (q : Fin 2816) (d : Fin 1024) :
    (StableHlo.after (hostOps0 (F := Ideal)) W main_v14 : S2x2816x1024.Idx → EReal) (ix3 l q d) = (W main_arg6 : S2x2816x1024.Idx → EReal) (ix3 l q d) := by
  after_reads_simp
  generalize W (Proc.devRef .tc main_arg6) = A
  pointwise

/-! ## Where the blocks of a grid point lie -/

theorem index0 : ∀ t : Fin cfg0.N, win0_0.index t = ![t.val / 8, t.val % 8, 0] := by decide +kernel
theorem index1 : ∀ t : Fin cfg0.N, win0_1.index t = ![0, 0] := by decide +kernel
theorem index2 : ∀ t : Fin cfg0.N, win0_2.index t = ![0, 0, 0] := by decide +kernel
theorem index3 : ∀ t : Fin cfg0.N, win0_3.index t = ![0, 0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0, 0] := by decide +kernel

/-! ## The blocks -/

variable (m : (ℓ : Loc nD τ sig) → Buf (Elt Ideal) ℓ)

theorem tLt (t : Fin cfg0.N) : t.val < 64 := by have h : cfg0.N = 64 := N_0; have := t.isLt; omega

/-- The batch entry of a grid point, and the row of the sequence that a row of its block is. -/
abbrev bat (t : Fin cfg0.N) : Fin 8 := ⟨t.val / 8, by have := tLt t; omega⟩
abbrev row (t : Fin cfg0.N) (n : Fin 512) : Fin 4096 := ⟨512 * (t.val % 8) + n.val, by omega⟩

theorem blk0 (c : Dev nD) (t : Fin cfg0.N) (n : Fin 512) (d : Fin 1024) :
    (iblk m c 0 t : S1x512x1024.Idx → EReal) (ix3 (0 : Fin 1) n d) = (m ((c : Thread nD τ).loc main_arg0) : S8x4096x1024.Idx → EReal) (ix3 (bat t) (row t n) d) := by
  have e : ∀ a, (win0_0.index t) a = (![t.val / 8, t.val % 8, 0] : Fin 3 → ℕ) a := fun a => congrFun (index0 t) a
  refine Eq.trans (b := (V m c main_arg0 : S8x4096x1024.Idx → EReal) (ix3 (bat t) (row t n) d)) (congrArg (V m c main_arg0) ?_) (congrFun (V_main_arg0 m c) (ix3 (bat t) (row t n) d))
  funext a
  apply Fin.ext
  fin_cases a
  · show win0_0.index t 0 * 1 + 1 * 0 = t.val / 8; rw [e 0]; show (t.val / 8) * 1 + 1 * 0 = t.val / 8; omega
  · show win0_0.index t 1 * 512 + 1 * n.val = 512 * (t.val % 8) + n.val; rw [e 1]; show (t.val % 8) * 512 + 1 * n.val = 512 * (t.val % 8) + n.val; omega
  · show win0_0.index t 2 * 1024 + 1 * d.val = d.val; rw [e 2]; show (0) * 1024 + 1 * d.val = d.val; omega

theorem blk1 (c : Dev nD) (t : Fin cfg0.N) (d : Fin 1024) :
    (iblk m c 1 t : S1x1024.Idx → EReal) (ix2 (0 : Fin 1) d) = (m ((c : Thread nD τ).loc main_arg1) : S2x1024.Idx → EReal) (ix2 (0 : Fin 2) d) := by
  have e : ∀ a, (win0_1.index t) a = (![0, 0] : Fin 2 → ℕ) a := fun a => congrFun (index1 t) a
  refine Eq.trans (b := (V m c main_v2 : S1x1024.Idx → EReal) (ix2 (0 : Fin 1) d)) (congrArg (V m c main_v2) ?_) (host_v2 (fun b => m (c, b)) (0 : Fin 1) d)
  funext a
  apply Fin.ext
  fin_cases a
  · show win0_1.index t 0 * 1 + 1 * 0 = 0; rw [e 0]; show (0) * 1 + 1 * 0 = 0; omega
  · show win0_1.index t 1 * 1024 + 1 * d.val = d.val; rw [e 1]; show (0) * 1024 + 1 * d.val = d.val; omega

theorem blk2 (c : Dev nD) (t : Fin cfg0.N) (k : Fin 1024) (q : Fin 2816) :
    (iblk m c 2 t : S1x1024x2816.Idx → EReal) (ix3 (0 : Fin 1) k q) = (m ((c : Thread nD τ).loc main_arg2) : S2x1024x2816.Idx → EReal) (ix3 (0 : Fin 2) k q) := by
  have e : ∀ a, (win0_2.index t) a = (![0, 0, 0] : Fin 3 → ℕ) a := fun a => congrFun (index2 t) a
  refine Eq.trans (b := (V m c main_v3 : S2x1024x2816.Idx → EReal) (ix3 (0 : Fin 2) k q)) (congrArg (V m c main_v3) ?_) (host_v3 (fun b => m (c, b)) (0 : Fin 2) k q)
  funext a
  apply Fin.ext
  fin_cases a
  · show win0_2.index t 0 * 1 + 1 * 0 = 0; rw [e 0]; show (0) * 1 + 1 * 0 = 0; omega
  · show win0_2.index t 1 * 1024 + 1 * k.val = k.val; rw [e 1]; show (0) * 1024 + 1 * k.val = k.val; omega
  · show win0_2.index t 2 * 2816 + 1 * q.val = q.val; rw [e 2]; show (0) * 2816 + 1 * q.val = q.val; omega

theorem blk3 (c : Dev nD) (t : Fin cfg0.N) (k : Fin 1024) (q : Fin 2816) :
    (iblk m c 3 t : S1x1024x2816.Idx → EReal) (ix3 (0 : Fin 1) k q) = (m ((c : Thread nD τ).loc main_arg3) : S2x1024x2816.Idx → EReal) (ix3 (0 : Fin 2) k q) := by
  have e : ∀ a, (win0_3.index t) a = (![0, 0, 0] : Fin 3 → ℕ) a := fun a => congrFun (index3 t) a
  refine Eq.trans (b := (V m c main_v4 : S2x1024x2816.Idx → EReal) (ix3 (0 : Fin 2) k q)) (congrArg (V m c main_v4) ?_) (host_v4 (fun b => m (c, b)) (0 : Fin 2) k q)
  funext a
  apply Fin.ext
  fin_cases a
  · show win0_3.index t 0 * 1 + 1 * 0 = 0; rw [e 0]; show (0) * 1 + 1 * 0 = 0; omega
  · show win0_3.index t 1 * 1024 + 1 * k.val = k.val; rw [e 1]; show (0) * 1024 + 1 * k.val = k.val; omega
  · show win0_3.index t 2 * 2816 + 1 * q.val = q.val; rw [e 2]; show (0) * 2816 + 1 * q.val = q.val; omega

theorem blk4 (c : Dev nD) (t : Fin cfg0.N) (r : Fin 24) (q : Fin 2816) :
    (iblk m c 4 t : S24x2816.Idx → EReal) (ix2 r q) = (m ((c : Thread nD τ).loc main_arg4) : S2x3x2816.Idx → EReal) (ix3 (0 : Fin 2) (⟨r.val / 8, by omega⟩ : Fin 3) q) := by
  have e : ∀ a, (win0_4.index t) a = (![0, 0] : Fin 2 → ℕ) a := fun a => congrFun (index4 t) a
  refine Eq.trans (b := (V m c main_v8 : S24x2816.Idx → EReal) (ix2 r q)) (congrArg (V m c main_v8) ?_) (host_v8 (fun b => m (c, b)) r q)
  funext a
  apply Fin.ext
  fin_cases a
  · show win0_4.index t 0 * 24 + 1 * r.val = r.val; rw [e 0]; show (0) * 24 + 1 * r.val = r.val; omega
  · show win0_4.index t 1 * 2816 + 1 * q.val = q.val; rw [e 1]; show (0) * 2816 + 1 * q.val = q.val; omega

theorem blk5 (c : Dev nD) (t : Fin cfg0.N) (r : Fin 8) (q : Fin 2816) :
    (iblk m c 5 t : S8x2816.Idx → EReal) (ix2 r q) = (m ((c : Thread nD τ).loc main_arg5) : S2x2816.Idx → EReal) (ix2 (0 : Fin 2) q) := by
  have e : ∀ a, (win0_5.index t) a = (![0, 0] : Fin 2 → ℕ) a := fun a => congrFun (index5 t) a
  refine Eq.trans (b := (V m c main_v13 : S8x2816.Idx → EReal) (ix2 r q)) (congrArg (V m c main_v13) ?_) (host_v13 (fun b => m (c, b)) r q)
  funext a
  apply Fin.ext
  fin_cases a
  · show win0_5.index t 0 * 8 + 1 * r.val = r.val; rw [e 0]; show (0) * 8 + 1 * r.val = r.val; omega
  · show win0_5.index t 1 * 2816 + 1 * q.val = q.val; rw [e 1]; show (0) * 2816 + 1 * q.val = q.val; omega

theorem blk6 (c : Dev nD) (t : Fin cfg0.N) (q : Fin 2816) (d : Fin 1024) :
    (iblk m c 6 t : S1x2816x1024.Idx → EReal) (ix3 (0 : Fin 1) q d) = (m ((c : Thread nD τ).loc main_arg6) : S2x2816x1024.Idx → EReal) (ix3 (0 : Fin 2) q d) := by
  have e : ∀ a, (win0_6.index t) a = (![0, 0, 0] : Fin 3 → ℕ) a := fun a => congrFun (index6 t) a
  refine Eq.trans (b := (V m c main_v14 : S2x2816x1024.Idx → EReal) (ix3 (0 : Fin 2) q d)) (congrArg (V m c main_v14) ?_) (host_v14 (fun b => m (c, b)) (0 : Fin 2) q d)
  funext a
  apply Fin.ext
  fin_cases a
  · show win0_6.index t 0 * 1 + 1 * 0 = 0; rw [e 0]; show (0) * 1 + 1 * 0 = 0; omega
  · show win0_6.index t 1 * 2816 + 1 * q.val = q.val; rw [e 1]; show (0) * 2816 + 1 * q.val = q.val; omega
  · show win0_6.index t 2 * 1024 + 1 * d.val = d.val; rw [e 2]; show (0) * 1024 + 1 * d.val = d.val; omega

end Cert.Ffn0KernelIdeal.Hand
-- ==== Proof.Ffn0Block.lean ====
/- One block of 512 rows of layer 0's feed-forward call: its residual rows and normalised rows, read from the input
   blocks. The rest of a block is as in layer 1's call. -/
module

public import proofs.«01_k».proof.Proof.FfnBlock
public import proofs.«01_k».proof.Proof.Gen.Ffn0KernelIdeal.Frame

@[expose] public section

set_option maxRecDepth 16384

noncomputable section

namespace Cert.Ffn0KernelIdeal.Hand

open Cert.Ffn0KernelIdeal Cert.Ffn0KernelIdeal.Gen
open Idealize.ShloMosaic Idealize.ShloMosaic.TcCoe
open Cert.FfnKernelIdeal.Hand (hn hI)

/-- The residual stream's rows in their block. -/
def rows (x0 : S1x512x1024.Idx → EReal) : S512x1024.Idx → EReal := fun y => x0 (ix3 (0 : Fin 1) (y 0 : Fin 512) (y 1 : Fin 1024))

/-- The last two payloads are those of layer 1's call. -/
theorem pay_out : k0_pay1 (F := Ideal) = Cert.FfnKernelIdeal.Gen.k0_pay530 (F := Ideal) := rfl
theorem pay_carry : k0_pay2 (F := Ideal) = Cert.FfnKernelIdeal.Gen.k0_pay531 (F := Ideal) := rfl

theorem pay3_apply (v : Vec Ideal S1x512x1024 .f32) (n : Fin 512) (d : Fin 1024) : k0_pay3 v (ix2 n d) = v (ix3 (0 : Fin 1) n d) := by
  pointwise [k0_pay3]

theorem pay5_apply (v : Vec Ideal S1x512x1024 .f32) (g : Vec Ideal S1x1024 .f32) (n : Fin 512) (d : Fin 1024) :
    k0_pay5 v g (ix2 n d) = v (ix3 (0 : Fin 1) n d) * Ideal.rsqrt (Ideal.div (∑ k : Fin 1024, v (ix3 (0 : Fin 1) n k) * v (ix3 (0 : Fin 1) n k))
      (Ideal.ofBits .f32 0x44800000#32) + Ideal.ofBits .f32 0x358637BD#32) * g (ix2 (0 : Fin 1) d) := by
  pointwise [k0_pay5, k0_pay3]

section Reads
variable {m2 : Memref sig .tc .vmem S1x512x1024 .f32} {h2 : m2.IsWhole} {m3 : Memref sig .tc .vmem S1x1024 .f32} {h3 : m3.IsWhole}
variable {x0 : Vec Ideal S1x512x1024 .f32} {x1 : Vec Ideal S1x1024 .f32}

theorem x_at {i0} (n : Fin 512) (d : Fin 1024) :
    View.readAt (Elt Ideal) m2.view (Rect.unit (s := S1x512x1024) ![0, 0, 0] S1x512x1024.size i0).toLoadRect (h2.unread x0) (ix3 (0 : Fin 1) n d)
      = x0 (ix3 (0 : Fin 1) n d) := by
  rw [h2.readAt_unread]
  congr 1
  funext a
  refine Fin.ext ?_
  match a with
  | ⟨0, _⟩ => rfl
  | ⟨1, _⟩ => show 0 + 1 * n.val = n.val; omega
  | ⟨2, _⟩ => show 0 + 1 * d.val = d.val; omega

theorem rows_read {i0} :
    k0_pay3 (F := Ideal) (View.readAt (Elt Ideal) m2.view (Rect.unit (s := S1x512x1024) ![0, 0, 0] S1x512x1024.size i0).toLoadRect (h2.unread x0)) = rows x0 := by
  funext y
  obtain ⟨n, d, rfl⟩ : ∃ (n : Fin 512) (d : Fin 1024), y = ix2 n d := ⟨y 0, y 1, by
    funext a
    match a with
    | ⟨0, _⟩ => rfl
    | ⟨1, _⟩ => rfl⟩
  exact (pay3_apply _ n d).trans (x_at n d)

theorem normed_read {i0 i1} :
    k0_pay5 (F := Ideal) (View.readAt (Elt Ideal) m2.view (Rect.unit (s := S1x512x1024) ![0, 0, 0] S1x512x1024.size i0).toLoadRect (h2.unread x0))
      (View.readAt (Elt Ideal) m3.view (Rect.unit (s := S1x1024) ![0, 0] S1x1024.size i1).toLoadRect (h3.unread x1)) = hI (rows x0) x1 := by
  funext y
  obtain ⟨n, d, rfl⟩ : ∃ (n : Fin 512) (d : Fin 1024), y = ix2 n d := ⟨y 0, y 1, by
    funext a
    match a with
    | ⟨0, _⟩ => rfl
    | ⟨1, _⟩ => rfl⟩
  refine (pay5_apply _ _ n d).trans ?_
  refine congrArg₂ (· * ·) (congrArg₂ (· * ·) (x_at n d) (congrArg (fun s => Ideal.rsqrt (Ideal.div s (Ideal.ofBits .f32 0x44800000#32) + Ideal.ofBits .f32 0x358637BD#32))
    (Finset.sum_congr rfl fun k _ => congrArg₂ (· * ·) (x_at n k) (x_at n k)))) ?_
  rw [h3.readAt_unread]
  congr 1
  funext a
  refine Fin.ext ?_
  match a with
  | ⟨0, _⟩ => rfl
  | ⟨1, _⟩ => show 0 + 1 * d.val = d.val; omega
end Reads

end Cert.Ffn0KernelIdeal.Hand

end
-- ==== Proof.Ffn0CaseA.lean ====
/- Layer 0's feed-forward stores at a sequence's first block of rows: every tile stored is the activation there. -/
module

public import proofs.«01_k».proof.Proof.FfnTile
public import proofs.«01_k».proof.Proof.Gen.Ffn0KernelIdeal.Frame

@[expose] public section

set_option maxRecDepth 65536
set_option maxHeartbeats 4000000

noncomputable section

namespace Cert.Ffn0KernelIdeal.Hand.CaseA

open Cert.Ffn0KernelIdeal Cert.Ffn0KernelIdeal.Gen
open Cert.FfnKernelIdeal.Hand (Gall Uall Act GOk UOk gstep ustep g_zero g_old g_none u_none tile_ok pcons)
open Idealize.ShloMosaic Idealize.ShloMosaic.TcCoe

variable (c : Dev nD)
variable (arg2 : Memref sig .tc .vmem S1x512x1024 .f32)
variable (harg2 : arg2.IsWhole)
variable (arg3 : Memref sig .tc .vmem S1x1024 .f32)
variable (harg3 : arg3.IsWhole)
variable (arg4 : Memref sig .tc .vmem S1x1024x2816 .bf16)
variable (harg4 : arg4.IsWhole)
variable (arg5 : Memref sig .tc .vmem S1x1024x2816 .bf16)
variable (harg5 : arg5.IsWhole)
variable (arg6 : Memref sig .tc .vmem S24x2816 .f32)
variable (harg6 : arg6.IsWhole)
variable (arg7 : Memref sig .tc .vmem S8x2816 .f32)
variable (harg7 : arg7.IsWhole)
variable (arg10 : Memref sig .tc .vmem S512x1024 .bf16)
variable (arg11 : Memref sig .tc .vmem S22x520x128 .f32)
variable (arg12 : Memref sig .tc .vmem S512x2816 .f32)
variable (x0 : Vec Ideal S1x512x1024 .f32) (x1 : Vec Ideal S1x1024 .f32) (x2 : Vec Ideal S1x1024x2816 .bf16) (x3 : Vec Ideal S1x1024x2816 .bf16) (x4 : Vec Ideal S24x2816 .f32) (x5 : Vec Ideal S8x2816 .f32)

/-- The normalised rows this block's run reads back. -/
abbrev hB : Vec Ideal S512x1024 .bf16 := (kernelRun0_A.sl.v23 (F := Ideal) c arg2 harg2 arg3 harg3 arg10 x0 x1)

/-- The gate's buffer. -/
abbrev gB : S22x520x128.Idx → EReal := Gall (fun _ => 0) (hB c arg2 harg2 arg3 harg3 arg10 x0 x1) x2

/-- The second projection's buffer. -/
abbrev uB : S512x2816.Idx → EReal := Uall (hB c arg2 harg2 arg3 harg3 arg10 x0 x1) x3

/-- Every store into the activation's buffer is a block of the activation. -/
theorem act_pieces : View.PiecesOf (Act (gB c arg2 harg2 arg3 harg3 arg10 x0 x1 x2) (uB c arg2 harg2 arg3 harg3 arg10 x0 x1 x3) x4 x5) (kernelRun0_A.sl.HS3_176 (F := Ideal) c arg2 harg2 arg3 harg3 arg4 harg4 arg5 harg5 arg6 harg6 arg7 harg7 arg10 arg11 arg12 x0 x1 x2 x3 x4 x5) := by
  have g0 : GOk arg11.view arg11.view.junk (kernelRun0_A.sl.HS1_3 (F := Ideal) c arg2 harg2 arg3 harg3 arg4 harg4 arg10 x0 x1 x2) (gB c arg2 harg2 arg3 harg3 arg10 x0 x1 x2) (2 * (0 + 1)) 0 := gstep 0 g_zero
  have u0 : UOk arg12.view arg12.view.junk (kernelRun0_A.sl.HS2_1 (F := Ideal) c arg2 harg2 arg3 harg3 arg5 harg5 arg10 x0 x1 x3) (uB c arg2 harg2 arg3 harg3 arg10 x0 x1 x3) (256 * (0 + 1)) := ustep 0 u_none
  have g1 : GOk arg11.view arg11.view.junk (kernelRun0_A.sl.HS1_5 (F := Ideal) c arg2 harg2 arg3 harg3 arg4 harg4 arg10 x0 x1 x2) (gB c arg2 harg2 arg3 harg3 arg10 x0 x1 x2) (2 * (1 + 1)) 0 := gstep 1 g0
  have u1 : UOk arg12.view arg12.view.junk (kernelRun0_A.sl.HS2_2 (F := Ideal) c arg2 harg2 arg3 harg3 arg5 harg5 arg10 x0 x1 x3) (uB c arg2 harg2 arg3 harg3 arg10 x0 x1 x3) (256 * (1 + 1)) := ustep 1 u0
  have g2 : GOk arg11.view arg11.view.junk (kernelRun0_A.sl.HS1_7 (F := Ideal) c arg2 harg2 arg3 harg3 arg4 harg4 arg10 x0 x1 x2) (gB c arg2 harg2 arg3 harg3 arg10 x0 x1 x2) (2 * (2 + 1)) 0 := gstep 2 g1
  have u2 : UOk arg12.view arg12.view.junk (kernelRun0_A.sl.HS2_3 (F := Ideal) c arg2 harg2 arg3 harg3 arg5 harg5 arg10 x0 x1 x3) (uB c arg2 harg2 arg3 harg3 arg10 x0 x1 x3) (256 * (2 + 1)) := ustep 2 u1
  have g3 : GOk arg11.view arg11.view.junk (kernelRun0_A.sl.HS1_9 (F := Ideal) c arg2 harg2 arg3 harg3 arg4 harg4 arg10 x0 x1 x2) (gB c arg2 harg2 arg3 harg3 arg10 x0 x1 x2) (2 * (3 + 1)) 0 := gstep 3 g2
  have u3 : UOk arg12.view arg12.view.junk (kernelRun0_A.sl.HS2_4 (F := Ideal) c arg2 harg2 arg3 harg3 arg5 harg5 arg10 x0 x1 x3) (uB c arg2 harg2 arg3 harg3 arg10 x0 x1 x3) (256 * (3 + 1)) := ustep 3 u2
  have g4 : GOk arg11.view arg11.view.junk (kernelRun0_A.sl.HS1_11 (F := Ideal) c arg2 harg2 arg3 harg3 arg4 harg4 arg10 x0 x1 x2) (gB c arg2 harg2 arg3 harg3 arg10 x0 x1 x2) (2 * (4 + 1)) 0 := gstep 4 g3
  have u4 : UOk arg12.view arg12.view.junk (kernelRun0_A.sl.HS2_5 (F := Ideal) c arg2 harg2 arg3 harg3 arg5 harg5 arg10 x0 x1 x3) (uB c arg2 harg2 arg3 harg3 arg10 x0 x1 x3) (256 * (4 + 1)) := ustep 4 u3
  have g5 : GOk arg11.view arg11.view.junk (kernelRun0_A.sl.HS1_13 (F := Ideal) c arg2 harg2 arg3 harg3 arg4 harg4 arg10 x0 x1 x2) (gB c arg2 harg2 arg3 harg3 arg10 x0 x1 x2) (2 * (5 + 1)) 0 := gstep 5 g4
  have u5 : UOk arg12.view arg12.view.junk (kernelRun0_A.sl.HS2_6 (F := Ideal) c arg2 harg2 arg3 harg3 arg5 harg5 arg10 x0 x1 x3) (uB c arg2 harg2 arg3 harg3 arg10 x0 x1 x3) (256 * (5 + 1)) := ustep 5 u4
  have g6 : GOk arg11.view arg11.view.junk (kernelRun0_A.sl.HS1_15 (F := Ideal) c arg2 harg2 arg3 harg3 arg4 harg4 arg10 x0 x1 x2) (gB c arg2 harg2 arg3 harg3 arg10 x0 x1 x2) (2 * (6 + 1)) 0 := gstep 6 g5
  have u6 : UOk arg12.view arg12.view.junk (kernelRun0_A.sl.HS2_7 (F := Ideal) c arg2 harg2 arg3 harg3 arg5 harg5 arg10 x0 x1 x3) (uB c arg2 harg2 arg3 harg3 arg10 x0 x1 x3) (256 * (6 + 1)) := ustep 6 u5
  have g7 : GOk arg11.view arg11.view.junk (kernelRun0_A.sl.HS1_17 (F := Ideal) c arg2 harg2 arg3 harg3 arg4 harg4 arg10 x0 x1 x2) (gB c arg2 harg2 arg3 harg3 arg10 x0 x1 x2) (2 * (7 + 1)) 0 := gstep 7 g6
  have u7 : UOk arg12.view arg12.view.junk (kernelRun0_A.sl.HS2_8 (F := Ideal) c arg2 harg2 arg3 harg3 arg5 harg5 arg10 x0 x1 x3) (uB c arg2 harg2 arg3 harg3 arg10 x0 x1 x3) (256 * (7 + 1)) := ustep 7 u6
  have g8 : GOk arg11.view arg11.view.junk (kernelRun0_A.sl.HS1_19 (F := Ideal) c arg2 harg2 arg3 harg3 arg4 harg4 arg10 x0 x1 x2) (gB c arg2 harg2 arg3 harg3 arg10 x0 x1 x2) (2 * (8 + 1)) 0 := gstep 8 g7
  have u8 : UOk arg12.view arg12.view.junk (kernelRun0_A.sl.HS2_9 (F := Ideal) c arg2 harg2 arg3 harg3 arg5 harg5 arg10 x0 x1 x3) (uB c arg2 harg2 arg3 harg3 arg10 x0 x1 x3) (256 * (8 + 1)) := ustep 8 u7
  have g9 : GOk arg11.view arg11.view.junk (kernelRun0_A.sl.HS1_21 (F := Ideal) c arg2 harg2 arg3 harg3 arg4 harg4 arg10 x0 x1 x2) (gB c arg2 harg2 arg3 harg3 arg10 x0 x1 x2) (2 * (9 + 1)) 0 := gstep 9 g8
  have u9 : UOk arg12.view arg12.view.junk (kernelRun0_A.sl.HS2_10 (F := Ideal) c arg2 harg2 arg3 harg3 arg5 harg5 arg10 x0 x1 x3) (uB c arg2 harg2 arg3 harg3 arg10 x0 x1 x3) (256 * (9 + 1)) := ustep 9 u8
  have g10 : GOk arg11.view arg11.view.junk (kernelRun0_A.sl.HS1_23 (F := Ideal) c arg2 harg2 arg3 harg3 arg4 harg4 arg10 x0 x1 x2) (gB c arg2 harg2 arg3 harg3 arg10 x0 x1 x2) (2 * (10 + 1)) 0 := gstep 10 g9
  have u10 : UOk arg12.view arg12.view.junk (kernelRun0_A.sl.HS2_11 (F := Ideal) c arg2 harg2 arg3 harg3 arg5 harg5 arg10 x0 x1 x3) (uB c arg2 harg2 arg3 harg3 arg10 x0 x1 x3) (256 * (10 + 1)) := ustep 10 u9
  exact pcons (tile_ok 10 15 (by decide) (by decide) g10 (by decide) g10 (by decide) u10) <|
    pcons (tile_ok 10 14 (by decide) (by decide) g10 (by decide) g10 (by decide) u10) <|
    pcons (tile_ok 10 13 (by decide) (by decide) g10 (by decide) g10 (by decide) u10) <|
    pcons (tile_ok 10 12 (by decide) (by decide) g10 (by decide) g10 (by decide) u10) <|
    pcons (tile_ok 10 11 (by decide) (by decide) g10 (by decide) g10 (by decide) u10) <|
    pcons (tile_ok 10 10 (by decide) (by decide) g10 (by decide) g10 (by decide) u10) <|
    pcons (tile_ok 10 9 (by decide) (by decide) g10 (by decide) g10 (by decide) u10) <|
    pcons (tile_ok 10 8 (by decide) (by decide) g10 (by decide) g10 (by decide) u10) <|
    pcons (tile_ok 10 7 (by decide) (by decide) g10 (by decide) g10 (by decide) u10) <|
    pcons (tile_ok 10 6 (by decide) (by decide) g10 (by decide) g10 (by decide) u10) <|
    pcons (tile_ok 10 5 (by decide) (by decide) g10 (by decide) g10 (by decide) u10) <|
    pcons (tile_ok 10 4 (by decide) (by decide) g10 (by decide) g10 (by decide) u10) <|
    pcons (tile_ok 10 3 (by decide) (by decide) g10 (by decide) g10 (by decide) u10) <|
    pcons (tile_ok 10 2 (by decide) (by decide) g10 (by decide) g10 (by decide) u10) <|
    pcons (tile_ok 10 1 (by decide) (by decide) g10 (by decide) g10 (by decide) u10) <|
    pcons (tile_ok 10 0 (by decide) (by decide) g10 (by decide) g10 (by decide) u10) <|
    pcons (tile_ok 9 15 (by decide) (by decide) g9 (by decide) g9 (by decide) u9) <|
    pcons (tile_ok 9 14 (by decide) (by decide) g9 (by decide) g9 (by decide) u9) <|
    pcons (tile_ok 9 13 (by decide) (by decide) g9 (by decide) g9 (by decide) u9) <|
    pcons (tile_ok 9 12 (by decide) (by decide) g9 (by decide) g9 (by decide) u9) <|
    pcons (tile_ok 9 11 (by decide) (by decide) g9 (by decide) g9 (by decide) u9) <|
    pcons (tile_ok 9 10 (by decide) (by decide) g9 (by decide) g9 (by decide) u9) <|
    pcons (tile_ok 9 9 (by decide) (by decide) g9 (by decide) g9 (by decide) u9) <|
    pcons (tile_ok 9 8 (by decide) (by decide) g9 (by decide) g9 (by decide) u9) <|
    pcons (tile_ok 9 7 (by decide) (by decide) g9 (by decide) g9 (by decide) u9) <|
    pcons (tile_ok 9 6 (by decide) (by decide) g9 (by decide) g9 (by decide) u9) <|
    pcons (tile_ok 9 5 (by decide) (by decide) g9 (by decide) g9 (by decide) u9) <|
    pcons (tile_ok 9 4 (by decide) (by decide) g9 (by decide) g9 (by decide) u9) <|
    pcons (tile_ok 9 3 (by decide) (by decide) g9 (by decide) g9 (by decide) u9) <|
    pcons (tile_ok 9 2 (by decide) (by decide) g9 (by decide) g9 (by decide) u9) <|
    pcons (tile_ok 9 1 (by decide) (by decide) g9 (by decide) g9 (by decide) u9) <|
    pcons (tile_ok 9 0 (by decide) (by decide) g9 (by decide) g9 (by decide) u9) <|
    pcons (tile_ok 8 15 (by decide) (by decide) g8 (by decide) g8 (by decide) u8) <|
    pcons (tile_ok 8 14 (by decide) (by decide) g8 (by decide) g8 (by decide) u8) <|
    pcons (tile_ok 8 13 (by decide) (by decide) g8 (by decide) g8 (by decide) u8) <|
    pcons (tile_ok 8 12 (by decide) (by decide) g8 (by decide) g8 (by decide) u8) <|
    pcons (tile_ok 8 11 (by decide) (by decide) g8 (by decide) g8 (by decide) u8) <|
    pcons (tile_ok 8 10 (by decide) (by decide) g8 (by decide) g8 (by decide) u8) <|
    pcons (tile_ok 8 9 (by decide) (by decide) g8 (by decide) g8 (by decide) u8) <|
    pcons (tile_ok 8 8 (by decide) (by decide) g8 (by decide) g8 (by decide) u8) <|
    pcons (tile_ok 8 7 (by decide) (by decide) g8 (by decide) g8 (by decide) u8) <|
    pcons (tile_ok 8 6 (by decide) (by decide) g8 (by decide) g8 (by decide) u8) <|
    pcons (tile_ok 8 5 (by decide) (by decide) g8 (by decide) g8 (by decide) u8) <|
    pcons (tile_ok 8 4 (by decide) (by decide) g8 (by decide) g8 (by decide) u8) <|
    pcons (tile_ok 8 3 (by decide) (by decide) g8 (by decide) g8 (by decide) u8) <|
    pcons (tile_ok 8 2 (by decide) (by decide) g8 (by decide) g8 (by decide) u8) <|
    pcons (tile_ok 8 1 (by decide) (by decide) g8 (by decide) g8 (by decide) u8) <|
    pcons (tile_ok 8 0 (by decide) (by decide) g8 (by decide) g8 (by decide) u8) <|
    pcons (tile_ok 7 15 (by decide) (by decide) g7 (by decide) g7 (by decide) u7) <|
    pcons (tile_ok 7 14 (by decide) (by decide) g7 (by decide) g7 (by decide) u7) <|
    pcons (tile_ok 7 13 (by decide) (by decide) g7 (by decide) g7 (by decide) u7) <|
    pcons (tile_ok 7 12 (by decide) (by decide) g7 (by decide) g7 (by decide) u7) <|
    pcons (tile_ok 7 11 (by decide) (by decide) g7 (by decide) g7 (by decide) u7) <|
    pcons (tile_ok 7 10 (by decide) (by decide) g7 (by decide) g7 (by decide) u7) <|
    pcons (tile_ok 7 9 (by decide) (by decide) g7 (by decide) g7 (by decide) u7) <|
    pcons (tile_ok 7 8 (by decide) (by decide) g7 (by decide) g7 (by decide) u7) <|
    pcons (tile_ok 7 7 (by decide) (by decide) g7 (by decide) g7 (by decide) u7) <|
    pcons (tile_ok 7 6 (by decide) (by decide) g7 (by decide) g7 (by decide) u7) <|
    pcons (tile_ok 7 5 (by decide) (by decide) g7 (by decide) g7 (by decide) u7) <|
    pcons (tile_ok 7 4 (by decide) (by decide) g7 (by decide) g7 (by decide) u7) <|
    pcons (tile_ok 7 3 (by decide) (by decide) g7 (by decide) g7 (by decide) u7) <|
    pcons (tile_ok 7 2 (by decide) (by decide) g7 (by decide) g7 (by decide) u7) <|
    pcons (tile_ok 7 1 (by decide) (by decide) g7 (by decide) g7 (by decide) u7) <|
    pcons (tile_ok 7 0 (by decide) (by decide) g7 (by decide) g7 (by decide) u7) <|
    pcons (tile_ok 6 15 (by decide) (by decide) g6 (by decide) g6 (by decide) u6) <|
    pcons (tile_ok 6 14 (by decide) (by decide) g6 (by decide) g6 (by decide) u6) <|
    pcons (tile_ok 6 13 (by decide) (by decide) g6 (by decide) g6 (by decide) u6) <|
    pcons (tile_ok 6 12 (by decide) (by decide) g6 (by decide) g6 (by decide) u6) <|
    pcons (tile_ok 6 11 (by decide) (by decide) g6 (by decide) g6 (by decide) u6) <|
    pcons (tile_ok 6 10 (by decide) (by decide) g6 (by decide) g6 (by decide) u6) <|
    pcons (tile_ok 6 9 (by decide) (by decide) g6 (by decide) g6 (by decide) u6) <|
    pcons (tile_ok 6 8 (by decide) (by decide) g6 (by decide) g6 (by decide) u6) <|
    pcons (tile_ok 6 7 (by decide) (by decide) g6 (by decide) g6 (by decide) u6) <|
    pcons (tile_ok 6 6 (by decide) (by decide) g6 (by decide) g6 (by decide) u6) <|
    pcons (tile_ok 6 5 (by decide) (by decide) g6 (by decide) g6 (by decide) u6) <|
    pcons (tile_ok 6 4 (by decide) (by decide) g6 (by decide) g6 (by decide) u6) <|
    pcons (tile_ok 6 3 (by decide) (by decide) g6 (by decide) g6 (by decide) u6) <|
    pcons (tile_ok 6 2 (by decide) (by decide) g6 (by decide) g6 (by decide) u6) <|
    pcons (tile_ok 6 1 (by decide) (by decide) g6 (by decide) g6 (by decide) u6) <|
    pcons (tile_ok 6 0 (by decide) (by decide) g6 (by decide) g6 (by decide) u6) <|
    pcons (tile_ok 5 15 (by decide) (by decide) g5 (by decide) g5 (by decide) u5) <|
    pcons (tile_ok 5 14 (by decide) (by decide) g5 (by decide) g5 (by decide) u5) <|
    pcons (tile_ok 5 13 (by decide) (by decide) g5 (by decide) g5 (by decide) u5) <|
    pcons (tile_ok 5 12 (by decide) (by decide) g5 (by decide) g5 (by decide) u5) <|
    pcons (tile_ok 5 11 (by decide) (by decide) g5 (by decide) g5 (by decide) u5) <|
    pcons (tile_ok 5 10 (by decide) (by decide) g5 (by decide) g5 (by decide) u5) <|
    pcons (tile_ok 5 9 (by decide) (by decide) g5 (by decide) g5 (by decide) u5) <|
    pcons (tile_ok 5 8 (by decide) (by decide) g5 (by decide) g5 (by decide) u5) <|
    pcons (tile_ok 5 7 (by decide) (by decide) g5 (by decide) g5 (by decide) u5) <|
    pcons (tile_ok 5 6 (by decide) (by decide) g5 (by decide) g5 (by decide) u5) <|
    pcons (tile_ok 5 5 (by decide) (by decide) g5 (by decide) g5 (by decide) u5) <|
    pcons (tile_ok 5 4 (by decide) (by decide) g5 (by decide) g5 (by decide) u5) <|
    pcons (tile_ok 5 3 (by decide) (by decide) g5 (by decide) g5 (by decide) u5) <|
    pcons (tile_ok 5 2 (by decide) (by decide) g5 (by decide) g5 (by decide) u5) <|
    pcons (tile_ok 5 1 (by decide) (by decide) g5 (by decide) g5 (by decide) u5) <|
    pcons (tile_ok 5 0 (by decide) (by decide) g5 (by decide) g5 (by decide) u5) <|
    pcons (tile_ok 4 15 (by decide) (by decide) g4 (by decide) g4 (by decide) u4) <|
    pcons (tile_ok 4 14 (by decide) (by decide) g4 (by decide) g4 (by decide) u4) <|
    pcons (tile_ok 4 13 (by decide) (by decide) g4 (by decide) g4 (by decide) u4) <|
    pcons (tile_ok 4 12 (by decide) (by decide) g4 (by decide) g4 (by decide) u4) <|
    pcons (tile_ok 4 11 (by decide) (by decide) g4 (by decide) g4 (by decide) u4) <|
    pcons (tile_ok 4 10 (by decide) (by decide) g4 (by decide) g4 (by decide) u4) <|
    pcons (tile_ok 4 9 (by decide) (by decide) g4 (by decide) g4 (by decide) u4) <|
    pcons (tile_ok 4 8 (by decide) (by decide) g4 (by decide) g4 (by decide) u4) <|
    pcons (tile_ok 4 7 (by decide) (by decide) g4 (by decide) g4 (by decide) u4) <|
    pcons (tile_ok 4 6 (by decide) (by decide) g4 (by decide) g4 (by decide) u4) <|
    pcons (tile_ok 4 5 (by decide) (by decide) g4 (by decide) g4 (by decide) u4) <|
    pcons (tile_ok 4 4 (by decide) (by decide) g4 (by decide) g4 (by decide) u4) <|
    pcons (tile_ok 4 3 (by decide) (by decide) g4 (by decide) g4 (by decide) u4) <|
    pcons (tile_ok 4 2 (by decide) (by decide) g4 (by decide) g4 (by decide) u4) <|
    pcons (tile_ok 4 1 (by decide) (by decide) g4 (by decide) g4 (by decide) u4) <|
    pcons (tile_ok 4 0 (by decide) (by decide) g4 (by decide) g4 (by decide) u4) <|
    pcons (tile_ok 3 15 (by decide) (by decide) g3 (by decide) g3 (by decide) u3) <|
    pcons (tile_ok 3 14 (by decide) (by decide) g3 (by decide) g3 (by decide) u3) <|
    pcons (tile_ok 3 13 (by decide) (by decide) g3 (by decide) g3 (by decide) u3) <|
    pcons (tile_ok 3 12 (by decide) (by decide) g3 (by decide) g3 (by decide) u3) <|
    pcons (tile_ok 3 11 (by decide) (by decide) g3 (by decide) g3 (by decide) u3) <|
    pcons (tile_ok 3 10 (by decide) (by decide) g3 (by decide) g3 (by decide) u3) <|
    pcons (tile_ok 3 9 (by decide) (by decide) g3 (by decide) g3 (by decide) u3) <|
    pcons (tile_ok 3 8 (by decide) (by decide) g3 (by decide) g3 (by decide) u3) <|
    pcons (tile_ok 3 7 (by decide) (by decide) g3 (by decide) g3 (by decide) u3) <|
    pcons (tile_ok 3 6 (by decide) (by decide) g3 (by decide) g3 (by decide) u3) <|
    pcons (tile_ok 3 5 (by decide) (by decide) g3 (by decide) g3 (by decide) u3) <|
    pcons (tile_ok 3 4 (by decide) (by decide) g3 (by decide) g3 (by decide) u3) <|
    pcons (tile_ok 3 3 (by decide) (by decide) g3 (by decide) g3 (by decide) u3) <|
    pcons (tile_ok 3 2 (by decide) (by decide) g3 (by decide) g3 (by decide) u3) <|
    pcons (tile_ok 3 1 (by decide) (by decide) g3 (by decide) g3 (by decide) u3) <|
    pcons (tile_ok 3 0 (by decide) (by decide) g3 (by decide) g3 (by decide) u3) <|
    pcons (tile_ok 2 15 (by decide) (by decide) g2 (by decide) g2 (by decide) u2) <|
    pcons (tile_ok 2 14 (by decide) (by decide) g2 (by decide) g2 (by decide) u2) <|
    pcons (tile_ok 2 13 (by decide) (by decide) g2 (by decide) g2 (by decide) u2) <|
    pcons (tile_ok 2 12 (by decide) (by decide) g2 (by decide) g2 (by decide) u2) <|
    pcons (tile_ok 2 11 (by decide) (by decide) g2 (by decide) g2 (by decide) u2) <|
    pcons (tile_ok 2 10 (by decide) (by decide) g2 (by decide) g2 (by decide) u2) <|
    pcons (tile_ok 2 9 (by decide) (by decide) g2 (by decide) g2 (by decide) u2) <|
    pcons (tile_ok 2 8 (by decide) (by decide) g2 (by decide) g2 (by decide) u2) <|
    pcons (tile_ok 2 7 (by decide) (by decide) g2 (by decide) g2 (by decide) u2) <|
    pcons (tile_ok 2 6 (by decide) (by decide) g2 (by decide) g2 (by decide) u2) <|
    pcons (tile_ok 2 5 (by decide) (by decide) g2 (by decide) g2 (by decide) u2) <|
    pcons (tile_ok 2 4 (by decide) (by decide) g2 (by decide) g2 (by decide) u2) <|
    pcons (tile_ok 2 3 (by decide) (by decide) g2 (by decide) g2 (by decide) u2) <|
    pcons (tile_ok 2 2 (by decide) (by decide) g2 (by decide) g2 (by decide) u2) <|
    pcons (tile_ok 2 1 (by decide) (by decide) g2 (by decide) g2 (by decide) u2) <|
    pcons (tile_ok 2 0 (by decide) (by decide) g2 (by decide) g2 (by decide) u2) <|
    pcons (tile_ok 1 15 (by decide) (by decide) g1 (by decide) g1 (by decide) u1) <|
    pcons (tile_ok 1 14 (by decide) (by decide) g1 (by decide) g1 (by decide) u1) <|
    pcons (tile_ok 1 13 (by decide) (by decide) g1 (by decide) g1 (by decide) u1) <|
    pcons (tile_ok 1 12 (by decide) (by decide) g1 (by decide) g1 (by decide) u1) <|
    pcons (tile_ok 1 11 (by decide) (by decide) g1 (by decide) g1 (by decide) u1) <|
    pcons (tile_ok 1 10 (by decide) (by decide) g1 (by decide) g1 (by decide) u1) <|
    pcons (tile_ok 1 9 (by decide) (by decide) g1 (by decide) g1 (by decide) u1) <|
    pcons (tile_ok 1 8 (by decide) (by decide) g1 (by decide) g1 (by decide) u1) <|
    pcons (tile_ok 1 7 (by decide) (by decide) g1 (by decide) g1 (by decide) u1) <|
    pcons (tile_ok 1 6 (by decide) (by decide) g1 (by decide) g1 (by decide) u1) <|
    pcons (tile_ok 1 5 (by decide) (by decide) g1 (by decide) g1 (by decide) u1) <|
    pcons (tile_ok 1 4 (by decide) (by decide) g1 (by decide) g1 (by decide) u1) <|
    pcons (tile_ok 1 3 (by decide) (by decide) g1 (by decide) g1 (by decide) u1) <|
    pcons (tile_ok 1 2 (by decide) (by decide) g1 (by decide) g1 (by decide) u1) <|
    pcons (tile_ok 1 1 (by decide) (by decide) g1 (by decide) g1 (by decide) u1) <|
    pcons (tile_ok 1 0 (by decide) (by decide) g1 (by decide) g1 (by decide) u1) <|
    pcons (tile_ok 0 15 (by decide) (by decide) g0 (by decide) g0 (by decide) u0) <|
    pcons (tile_ok 0 14 (by decide) (by decide) g0 (by decide) g0 (by decide) u0) <|
    pcons (tile_ok 0 13 (by decide) (by decide) g0 (by decide) g0 (by decide) u0) <|
    pcons (tile_ok 0 12 (by decide) (by decide) g0 (by decide) g0 (by decide) u0) <|
    pcons (tile_ok 0 11 (by decide) (by decide) g0 (by decide) g0 (by decide) u0) <|
    pcons (tile_ok 0 10 (by decide) (by decide) g0 (by decide) g0 (by decide) u0) <|
    pcons (tile_ok 0 9 (by decide) (by decide) g0 (by decide) g0 (by decide) u0) <|
    pcons (tile_ok 0 8 (by decide) (by decide) g0 (by decide) g0 (by decide) u0) <|
    pcons (tile_ok 0 7 (by decide) (by decide) g0 (by decide) g0 (by decide) u0) <|
    pcons (tile_ok 0 6 (by decide) (by decide) g0 (by decide) g0 (by decide) u0) <|
    pcons (tile_ok 0 5 (by decide) (by decide) g0 (by decide) g0 (by decide) u0) <|
    pcons (tile_ok 0 4 (by decide) (by decide) g0 (by decide) g0 (by decide) u0) <|
    pcons (tile_ok 0 3 (by decide) (by decide) g0 (by decide) g0 (by decide) u0) <|
    pcons (tile_ok 0 2 (by decide) (by decide) g0 (by decide) g0 (by decide) u0) <|
    pcons (tile_ok 0 1 (by decide) (by decide) g0 (by decide) g0 (by decide) u0) <|
    pcons (tile_ok 0 0 (by decide) (by decide) g0 (by decide) g0 (by decide) u0) <| trivial

/-- After all stores the gate's buffer holds the projection in every lane block. -/
theorem g_all : GOk arg11.view arg11.view.junk (kernelRun0_A.sl.HS1_23 (F := Ideal) c arg2 harg2 arg3 harg3 arg4 harg4 arg10 x0 x1 x2) (gB c arg2 harg2 arg3 harg3 arg10 x0 x1 x2) 22 0 := by
  have g0 : GOk arg11.view arg11.view.junk (kernelRun0_A.sl.HS1_3 (F := Ideal) c arg2 harg2 arg3 harg3 arg4 harg4 arg10 x0 x1 x2) (gB c arg2 harg2 arg3 harg3 arg10 x0 x1 x2) (2 * (0 + 1)) 0 := gstep 0 g_zero
  have g1 : GOk arg11.view arg11.view.junk (kernelRun0_A.sl.HS1_5 (F := Ideal) c arg2 harg2 arg3 harg3 arg4 harg4 arg10 x0 x1 x2) (gB c arg2 harg2 arg3 harg3 arg10 x0 x1 x2) (2 * (1 + 1)) 0 := gstep 1 g0
  have g2 : GOk arg11.view arg11.view.junk (kernelRun0_A.sl.HS1_7 (F := Ideal) c arg2 harg2 arg3 harg3 arg4 harg4 arg10 x0 x1 x2) (gB c arg2 harg2 arg3 harg3 arg10 x0 x1 x2) (2 * (2 + 1)) 0 := gstep 2 g1
  have g3 : GOk arg11.view arg11.view.junk (kernelRun0_A.sl.HS1_9 (F := Ideal) c arg2 harg2 arg3 harg3 arg4 harg4 arg10 x0 x1 x2) (gB c arg2 harg2 arg3 harg3 arg10 x0 x1 x2) (2 * (3 + 1)) 0 := gstep 3 g2
  have g4 : GOk arg11.view arg11.view.junk (kernelRun0_A.sl.HS1_11 (F := Ideal) c arg2 harg2 arg3 harg3 arg4 harg4 arg10 x0 x1 x2) (gB c arg2 harg2 arg3 harg3 arg10 x0 x1 x2) (2 * (4 + 1)) 0 := gstep 4 g3
  have g5 : GOk arg11.view arg11.view.junk (kernelRun0_A.sl.HS1_13 (F := Ideal) c arg2 harg2 arg3 harg3 arg4 harg4 arg10 x0 x1 x2) (gB c arg2 harg2 arg3 harg3 arg10 x0 x1 x2) (2 * (5 + 1)) 0 := gstep 5 g4
  have g6 : GOk arg11.view arg11.view.junk (kernelRun0_A.sl.HS1_15 (F := Ideal) c arg2 harg2 arg3 harg3 arg4 harg4 arg10 x0 x1 x2) (gB c arg2 harg2 arg3 harg3 arg10 x0 x1 x2) (2 * (6 + 1)) 0 := gstep 6 g5
  have g7 : GOk arg11.view arg11.view.junk (kernelRun0_A.sl.HS1_17 (F := Ideal) c arg2 harg2 arg3 harg3 arg4 harg4 arg10 x0 x1 x2) (gB c arg2 harg2 arg3 harg3 arg10 x0 x1 x2) (2 * (7 + 1)) 0 := gstep 7 g6
  have g8 : GOk arg11.view arg11.view.junk (kernelRun0_A.sl.HS1_19 (F := Ideal) c arg2 harg2 arg3 harg3 arg4 harg4 arg10 x0 x1 x2) (gB c arg2 harg2 arg3 harg3 arg10 x0 x1 x2) (2 * (8 + 1)) 0 := gstep 8 g7
  have g9 : GOk arg11.view arg11.view.junk (kernelRun0_A.sl.HS1_21 (F := Ideal) c arg2 harg2 arg3 harg3 arg4 harg4 arg10 x0 x1 x2) (gB c arg2 harg2 arg3 harg3 arg10 x0 x1 x2) (2 * (9 + 1)) 0 := gstep 9 g8
  have g10 : GOk arg11.view arg11.view.junk (kernelRun0_A.sl.HS1_23 (F := Ideal) c arg2 harg2 arg3 harg3 arg4 harg4 arg10 x0 x1 x2) (gB c arg2 harg2 arg3 harg3 arg10 x0 x1 x2) (2 * (10 + 1)) 0 := gstep 10 g9
  exact g10

end Cert.Ffn0KernelIdeal.Hand.CaseA

end
-- ==== Proof.Ffn0OutA.lean ====
/- What layer 0's call leaves in its output block and in the carried rows at a sequence's first block. -/
module

public import Idealize.ShloMosaic.Lib.Pipeline.ValueKit.Acc
public import proofs.«01_k».proof.Proof.Ffn0Block
public import proofs.«01_k».proof.Proof.Ffn0CaseA

@[expose] public section

set_option maxRecDepth 65536

noncomputable section

namespace Cert.Ffn0KernelIdeal.Hand.CaseA

open Cert.Ffn0KernelIdeal Cert.Ffn0KernelIdeal.Gen
open Cert.FfnKernelIdeal.Hand (Act Uall Gall hI gI outI outRow whole_read out_read carry_read)
open Idealize.ShloMosaic Idealize.ShloMosaic.TcCoe

variable (i : grid0.Coords)
variable (c : Dev nD)
variable (arg2 : Memref sig .tc .vmem S1x512x1024 .f32)
variable (harg2 : arg2.IsWhole)
variable (arg3 : Memref sig .tc .vmem S1x1024 .f32)
variable (harg3 : arg3.IsWhole)
variable (arg4 : Memref sig .tc .vmem S1x1024x2816 .bf16)
variable (harg4 : arg4.IsWhole)
variable (arg5 : Memref sig .tc .vmem S1x1024x2816 .bf16)
variable (harg5 : arg5.IsWhole)
variable (arg6 : Memref sig .tc .vmem S24x2816 .f32)
variable (harg6 : arg6.IsWhole)
variable (arg7 : Memref sig .tc .vmem S8x2816 .f32)
variable (harg7 : arg7.IsWhole)
variable (arg8 : Memref sig .tc .vmem S1x2816x1024 .bf16)
variable (harg8 : arg8.IsWhole)
variable (arg9 : Memref sig .tc .vmem S1x512x1024 .f32)
variable (harg9 : arg9.IsWhole)
variable (arg10 : Memref sig .tc .vmem S512x1024 .bf16)
variable (harg10 : arg10.IsWhole)
variable (arg11 : Memref sig .tc .vmem S22x520x128 .f32)
variable (harg11 : arg11.IsWhole)
variable (arg12 : Memref sig .tc .vmem S512x2816 .f32)
variable (harg12 : arg12.IsWhole)
variable (arg13 : Memref sig .tc .vmem S512x2816 .bf16)
variable (harg13 : arg13.IsWhole)
variable (hc0 : cond0_0 i)
variable (x0 : Vec Ideal S1x512x1024 .f32) (x1 : Vec Ideal S1x1024 .f32) (x2 : Vec Ideal S1x1024x2816 .bf16) (x3 : Vec Ideal S1x1024x2816 .bf16) (x4 : Vec Ideal S24x2816 .f32) (x5 : Vec Ideal S8x2816 .f32) (x6 : Vec Ideal S1x2816x1024 .bf16)

theorem v23_eq : (kernelRun0_A.sl.v23 (F := Ideal) c arg2 harg2 arg3 harg3 arg10 x0 x1) = hI (rows x0) x1 :=
  (View.readCov_unit_lit' arg10.view _ _ (fun a => by
    match a with
    | ⟨0, _⟩ => rfl
    | ⟨1, _⟩ => rfl)).trans normed_read

theorem act_cover : ∀ y, ∃ p ∈ (kernelRun0_A.sl.HS3_176 (F := Ideal) c arg2 harg2 arg3 harg3 arg4 harg4 arg5 harg5 arg6 harg6 arg7 harg7 arg10 arg11 arg12 x0 x1 x2 x3 x4 x5), y ∈ p.1.set :=
  View.cover_of_tiledBy _ ![32, 256] (by sl_kernel_rfl)

theorem act_eq : (kernelRun0_A.sl.v_4 (F := Ideal) c arg2 harg2 arg3 harg3 arg4 harg4 arg5 harg5 arg6 harg6 arg7 harg7 arg10 arg11 arg12 arg13 x0 x1 x2 x3 x4 x5) = Act (gI (fun _ => 0) (rows x0) x1 x2) (Uall (hI (rows x0) x1) x3) x4 x5 := by
  refine (whole_read (act_pieces c arg2 harg2 arg3 harg3 arg4 harg4 arg5 harg5 arg6 harg6 arg7 harg7 arg10 arg11 arg12 x0 x1 x2 x3 x4 x5) (act_cover c arg2 harg2 arg3 harg3 arg4 harg4 arg5 harg5 arg6 harg6 arg7 harg7 arg10 arg11 arg12 x0 x1 x2 x3 x4 x5)).trans ?_
  unfold gI
  rw [← v23_eq c arg2 harg2 arg3 harg3 arg10 x0 x1]

/-- A row of the output block. -/
theorem out_eq (n : Fin 512) (d : Fin 1024) :
    out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 (0 : Fin 1) n d) = outI (fun _ => 0) (rows x0) x1 x2 x3 x4 x5 x6 n d := by
  refine (View.read_writes_cons_unit_of_mem (off' := ![0, 0, 0]) VO0_7 _ _ _ _ _ (ix3 (0 : Fin 1) n d) rfl (fun a => by
    match a with
    | ⟨0, _⟩ => rfl
    | ⟨1, _⟩ => show n.val = 0 + n.val; omega
    | ⟨2, _⟩ => show d.val = 0 + d.val; omega)).trans ?_
  show k0_pay1 (F := Ideal) (kernelRun0_A.sl.r (F := Ideal) c arg2 harg2 x0) (kernelRun0_A.sl.v_4 (F := Ideal) c arg2 harg2 arg3 harg3 arg4 harg4 arg5 harg5 arg6 harg6 arg7 harg7 arg10 arg11 arg12 arg13 x0 x1 x2 x3 x4 x5) _ _ = _
  have er : (kernelRun0_A.sl.r (F := Ideal) c arg2 harg2 x0) = rows x0 := rows_read
  rw [er, act_eq, pay_out]
  exact out_read _ _ n d

/-- The carried rows. -/
theorem carry_eq (a : Fin 22) (r : Fin 8) (j : Fin 128) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 a (⟨r.val, by omega⟩ : Fin 520) j) = gI (fun _ => 0) (rows x0) x1 x2 (ix3 a (⟨512 + r.val, by omega⟩ : Fin 520) j) := by
  refine (View.read_writes_cons_unit_of_mem (off' := ![0, 0, 0]) VS0_1 _ _ _ _ _ (ix3 a r j) rfl (fun b => by
    match b with
    | ⟨0, _⟩ => show a.val = 0 + a.val; omega
    | ⟨1, _⟩ => show r.val = 0 + r.val; omega
    | ⟨2, _⟩ => show j.val = 0 + j.val; omega)).trans ?_
  refine (carry_read (CaseA.g_all c arg2 harg2 arg3 harg3 arg4 harg4 arg10 arg11 x0 x1 x2) a r j).trans ?_
  unfold gI
  rw [← v23_eq c arg2 harg2 arg3 harg3 arg10 x0 x1]

end Cert.Ffn0KernelIdeal.Hand.CaseA

end
-- ==== Proof.Ffn0CaseB.lean ====
/- Layer 0's feed-forward stores at a later block of rows: every tile stored is the activation there. -/
module

public import proofs.«01_k».proof.Proof.FfnTile
public import proofs.«01_k».proof.Proof.Gen.Ffn0KernelIdeal.Frame

@[expose] public section

set_option maxRecDepth 65536
set_option maxHeartbeats 4000000

noncomputable section

namespace Cert.Ffn0KernelIdeal.Hand.CaseB

open Cert.Ffn0KernelIdeal Cert.Ffn0KernelIdeal.Gen
open Cert.FfnKernelIdeal.Hand (Gall Uall Act GOk UOk gstep ustep g_zero g_old g_none u_none tile_ok pcons)
open Idealize.ShloMosaic Idealize.ShloMosaic.TcCoe

variable (c : Dev nD)
variable (arg2 : Memref sig .tc .vmem S1x512x1024 .f32)
variable (harg2 : arg2.IsWhole)
variable (arg3 : Memref sig .tc .vmem S1x1024 .f32)
variable (harg3 : arg3.IsWhole)
variable (arg4 : Memref sig .tc .vmem S1x1024x2816 .bf16)
variable (harg4 : arg4.IsWhole)
variable (arg5 : Memref sig .tc .vmem S1x1024x2816 .bf16)
variable (harg5 : arg5.IsWhole)
variable (arg6 : Memref sig .tc .vmem S24x2816 .f32)
variable (harg6 : arg6.IsWhole)
variable (arg7 : Memref sig .tc .vmem S8x2816 .f32)
variable (harg7 : arg7.IsWhole)
variable (arg10 : Memref sig .tc .vmem S512x1024 .bf16)
variable (arg11 : Memref sig .tc .vmem S22x520x128 .f32)
variable (harg11 : arg11.IsWhole)
variable (arg12 : Memref sig .tc .vmem S512x2816 .f32)
variable (x0 : Vec Ideal S1x512x1024 .f32) (x1 : Vec Ideal S1x1024 .f32) (x2 : Vec Ideal S1x1024x2816 .bf16) (x3 : Vec Ideal S1x1024x2816 .bf16) (x4 : Vec Ideal S24x2816 .f32) (x5 : Vec Ideal S8x2816 .f32)
variable (xs1 : Vec Ideal S22x520x128 .f32)

/-- The normalised rows this block's run reads back. -/
abbrev hB : Vec Ideal S512x1024 .bf16 := (kernelRun0_B.sl.v23 (F := Ideal) c arg2 harg2 arg3 harg3 arg10 x0 x1)

/-- The gate's buffer. -/
abbrev gB : S22x520x128.Idx → EReal := Gall xs1 (hB c arg2 harg2 arg3 harg3 arg10 x0 x1) x2

/-- The second projection's buffer. -/
abbrev uB : S512x2816.Idx → EReal := Uall (hB c arg2 harg2 arg3 harg3 arg10 x0 x1) x3

/-- Every store into the activation's buffer is a block of the activation. -/
theorem act_pieces : View.PiecesOf (Act (gB c arg2 harg2 arg3 harg3 arg10 x0 x1 x2 xs1) (uB c arg2 harg2 arg3 harg3 arg10 x0 x1 x3) x4 x5) (kernelRun0_B.sl.HS3_176 (F := Ideal) c arg2 harg2 arg3 harg3 arg4 harg4 arg5 harg5 arg6 harg6 arg7 harg7 arg10 arg11 harg11 arg12 x0 x1 x2 x3 x4 x5 xs1) := by
  have f0 : GOk arg11.view (harg11.unread xs1) (kernelRun0_B.sl.HS1_2 (F := Ideal) c arg2 harg2 arg3 harg3 arg4 harg4 arg10 x0 x1 x2) (gB c arg2 harg2 arg3 harg3 arg10 x0 x1 x2 xs1) (2 * (0 + 1)) 0 := gstep 0 g_old
  have g0 : GOk arg11.view arg11.view.junk (kernelRun0_B.sl.HS1_2 (F := Ideal) c arg2 harg2 arg3 harg3 arg4 harg4 arg10 x0 x1 x2) (gB c arg2 harg2 arg3 harg3 arg10 x0 x1 x2 xs1) (2 * (0 + 1)) 8 := gstep 0 g_none
  have u0 : UOk arg12.view arg12.view.junk (kernelRun0_B.sl.HS2_1 (F := Ideal) c arg2 harg2 arg3 harg3 arg5 harg5 arg10 x0 x1 x3) (uB c arg2 harg2 arg3 harg3 arg10 x0 x1 x3) (256 * (0 + 1)) := ustep 0 u_none
  have f1 : GOk arg11.view (harg11.unread xs1) (kernelRun0_B.sl.HS1_4 (F := Ideal) c arg2 harg2 arg3 harg3 arg4 harg4 arg10 x0 x1 x2) (gB c arg2 harg2 arg3 harg3 arg10 x0 x1 x2 xs1) (2 * (1 + 1)) 0 := gstep 1 f0
  have g1 : GOk arg11.view arg11.view.junk (kernelRun0_B.sl.HS1_4 (F := Ideal) c arg2 harg2 arg3 harg3 arg4 harg4 arg10 x0 x1 x2) (gB c arg2 harg2 arg3 harg3 arg10 x0 x1 x2 xs1) (2 * (1 + 1)) 8 := gstep 1 g0
  have u1 : UOk arg12.view arg12.view.junk (kernelRun0_B.sl.HS2_2 (F := Ideal) c arg2 harg2 arg3 harg3 arg5 harg5 arg10 x0 x1 x3) (uB c arg2 harg2 arg3 harg3 arg10 x0 x1 x3) (256 * (1 + 1)) := ustep 1 u0
  have f2 : GOk arg11.view (harg11.unread xs1) (kernelRun0_B.sl.HS1_6 (F := Ideal) c arg2 harg2 arg3 harg3 arg4 harg4 arg10 x0 x1 x2) (gB c arg2 harg2 arg3 harg3 arg10 x0 x1 x2 xs1) (2 * (2 + 1)) 0 := gstep 2 f1
  have g2 : GOk arg11.view arg11.view.junk (kernelRun0_B.sl.HS1_6 (F := Ideal) c arg2 harg2 arg3 harg3 arg4 harg4 arg10 x0 x1 x2) (gB c arg2 harg2 arg3 harg3 arg10 x0 x1 x2 xs1) (2 * (2 + 1)) 8 := gstep 2 g1
  have u2 : UOk arg12.view arg12.view.junk (kernelRun0_B.sl.HS2_3 (F := Ideal) c arg2 harg2 arg3 harg3 arg5 harg5 arg10 x0 x1 x3) (uB c arg2 harg2 arg3 harg3 arg10 x0 x1 x3) (256 * (2 + 1)) := ustep 2 u1
  have f3 : GOk arg11.view (harg11.unread xs1) (kernelRun0_B.sl.HS1_8 (F := Ideal) c arg2 harg2 arg3 harg3 arg4 harg4 arg10 x0 x1 x2) (gB c arg2 harg2 arg3 harg3 arg10 x0 x1 x2 xs1) (2 * (3 + 1)) 0 := gstep 3 f2
  have g3 : GOk arg11.view arg11.view.junk (kernelRun0_B.sl.HS1_8 (F := Ideal) c arg2 harg2 arg3 harg3 arg4 harg4 arg10 x0 x1 x2) (gB c arg2 harg2 arg3 harg3 arg10 x0 x1 x2 xs1) (2 * (3 + 1)) 8 := gstep 3 g2
  have u3 : UOk arg12.view arg12.view.junk (kernelRun0_B.sl.HS2_4 (F := Ideal) c arg2 harg2 arg3 harg3 arg5 harg5 arg10 x0 x1 x3) (uB c arg2 harg2 arg3 harg3 arg10 x0 x1 x3) (256 * (3 + 1)) := ustep 3 u2
  have f4 : GOk arg11.view (harg11.unread xs1) (kernelRun0_B.sl.HS1_10 (F := Ideal) c arg2 harg2 arg3 harg3 arg4 harg4 arg10 x0 x1 x2) (gB c arg2 harg2 arg3 harg3 arg10 x0 x1 x2 xs1) (2 * (4 + 1)) 0 := gstep 4 f3
  have g4 : GOk arg11.view arg11.view.junk (kernelRun0_B.sl.HS1_10 (F := Ideal) c arg2 harg2 arg3 harg3 arg4 harg4 arg10 x0 x1 x2) (gB c arg2 harg2 arg3 harg3 arg10 x0 x1 x2 xs1) (2 * (4 + 1)) 8 := gstep 4 g3
  have u4 : UOk arg12.view arg12.view.junk (kernelRun0_B.sl.HS2_5 (F := Ideal) c arg2 harg2 arg3 harg3 arg5 harg5 arg10 x0 x1 x3) (uB c arg2 harg2 arg3 harg3 arg10 x0 x1 x3) (256 * (4 + 1)) := ustep 4 u3
  have f5 : GOk arg11.view (harg11.unread xs1) (kernelRun0_B.sl.HS1_12 (F := Ideal) c arg2 harg2 arg3 harg3 arg4 harg4 arg10 x0 x1 x2) (gB c arg2 harg2 arg3 harg3 arg10 x0 x1 x2 xs1) (2 * (5 + 1)) 0 := gstep 5 f4
  have g5 : GOk arg11.view arg11.view.junk (kernelRun0_B.sl.HS1_12 (F := Ideal) c arg2 harg2 arg3 harg3 arg4 harg4 arg10 x0 x1 x2) (gB c arg2 harg2 arg3 harg3 arg10 x0 x1 x2 xs1) (2 * (5 + 1)) 8 := gstep 5 g4
  have u5 : UOk arg12.view arg12.view.junk (kernelRun0_B.sl.HS2_6 (F := Ideal) c arg2 harg2 arg3 harg3 arg5 harg5 arg10 x0 x1 x3) (uB c arg2 harg2 arg3 harg3 arg10 x0 x1 x3) (256 * (5 + 1)) := ustep 5 u4
  have f6 : GOk arg11.view (harg11.unread xs1) (kernelRun0_B.sl.HS1_14 (F := Ideal) c arg2 harg2 arg3 harg3 arg4 harg4 arg10 x0 x1 x2) (gB c arg2 harg2 arg3 harg3 arg10 x0 x1 x2 xs1) (2 * (6 + 1)) 0 := gstep 6 f5
  have g6 : GOk arg11.view arg11.view.junk (kernelRun0_B.sl.HS1_14 (F := Ideal) c arg2 harg2 arg3 harg3 arg4 harg4 arg10 x0 x1 x2) (gB c arg2 harg2 arg3 harg3 arg10 x0 x1 x2 xs1) (2 * (6 + 1)) 8 := gstep 6 g5
  have u6 : UOk arg12.view arg12.view.junk (kernelRun0_B.sl.HS2_7 (F := Ideal) c arg2 harg2 arg3 harg3 arg5 harg5 arg10 x0 x1 x3) (uB c arg2 harg2 arg3 harg3 arg10 x0 x1 x3) (256 * (6 + 1)) := ustep 6 u5
  have f7 : GOk arg11.view (harg11.unread xs1) (kernelRun0_B.sl.HS1_16 (F := Ideal) c arg2 harg2 arg3 harg3 arg4 harg4 arg10 x0 x1 x2) (gB c arg2 harg2 arg3 harg3 arg10 x0 x1 x2 xs1) (2 * (7 + 1)) 0 := gstep 7 f6
  have g7 : GOk arg11.view arg11.view.junk (kernelRun0_B.sl.HS1_16 (F := Ideal) c arg2 harg2 arg3 harg3 arg4 harg4 arg10 x0 x1 x2) (gB c arg2 harg2 arg3 harg3 arg10 x0 x1 x2 xs1) (2 * (7 + 1)) 8 := gstep 7 g6
  have u7 : UOk arg12.view arg12.view.junk (kernelRun0_B.sl.HS2_8 (F := Ideal) c arg2 harg2 arg3 harg3 arg5 harg5 arg10 x0 x1 x3) (uB c arg2 harg2 arg3 harg3 arg10 x0 x1 x3) (256 * (7 + 1)) := ustep 7 u6
  have f8 : GOk arg11.view (harg11.unread xs1) (kernelRun0_B.sl.HS1_18 (F := Ideal) c arg2 harg2 arg3 harg3 arg4 harg4 arg10 x0 x1 x2) (gB c arg2 harg2 arg3 harg3 arg10 x0 x1 x2 xs1) (2 * (8 + 1)) 0 := gstep 8 f7
  have g8 : GOk arg11.view arg11.view.junk (kernelRun0_B.sl.HS1_18 (F := Ideal) c arg2 harg2 arg3 harg3 arg4 harg4 arg10 x0 x1 x2) (gB c arg2 harg2 arg3 harg3 arg10 x0 x1 x2 xs1) (2 * (8 + 1)) 8 := gstep 8 g7
  have u8 : UOk arg12.view arg12.view.junk (kernelRun0_B.sl.HS2_9 (F := Ideal) c arg2 harg2 arg3 harg3 arg5 harg5 arg10 x0 x1 x3) (uB c arg2 harg2 arg3 harg3 arg10 x0 x1 x3) (256 * (8 + 1)) := ustep 8 u7
  have f9 : GOk arg11.view (harg11.unread xs1) (kernelRun0_B.sl.HS1_20 (F := Ideal) c arg2 harg2 arg3 harg3 arg4 harg4 arg10 x0 x1 x2) (gB c arg2 harg2 arg3 harg3 arg10 x0 x1 x2 xs1) (2 * (9 + 1)) 0 := gstep 9 f8
  have g9 : GOk arg11.view arg11.view.junk (kernelRun0_B.sl.HS1_20 (F := Ideal) c arg2 harg2 arg3 harg3 arg4 harg4 arg10 x0 x1 x2) (gB c arg2 harg2 arg3 harg3 arg10 x0 x1 x2 xs1) (2 * (9 + 1)) 8 := gstep 9 g8
  have u9 : UOk arg12.view arg12.view.junk (kernelRun0_B.sl.HS2_10 (F := Ideal) c arg2 harg2 arg3 harg3 arg5 harg5 arg10 x0 x1 x3) (uB c arg2 harg2 arg3 harg3 arg10 x0 x1 x3) (256 * (9 + 1)) := ustep 9 u8
  have f10 : GOk arg11.view (harg11.unread xs1) (kernelRun0_B.sl.HS1_22 (F := Ideal) c arg2 harg2 arg3 harg3 arg4 harg4 arg10 x0 x1 x2) (gB c arg2 harg2 arg3 harg3 arg10 x0 x1 x2 xs1) (2 * (10 + 1)) 0 := gstep 10 f9
  have g10 : GOk arg11.view arg11.view.junk (kernelRun0_B.sl.HS1_22 (F := Ideal) c arg2 harg2 arg3 harg3 arg4 harg4 arg10 x0 x1 x2) (gB c arg2 harg2 arg3 harg3 arg10 x0 x1 x2 xs1) (2 * (10 + 1)) 8 := gstep 10 g9
  have u10 : UOk arg12.view arg12.view.junk (kernelRun0_B.sl.HS2_11 (F := Ideal) c arg2 harg2 arg3 harg3 arg5 harg5 arg10 x0 x1 x3) (uB c arg2 harg2 arg3 harg3 arg10 x0 x1 x3) (256 * (10 + 1)) := ustep 10 u9
  exact pcons (tile_ok 10 15 (by decide) (by decide) g10 (by decide) g10 (by decide) u10) <|
    pcons (tile_ok 10 14 (by decide) (by decide) g10 (by decide) g10 (by decide) u10) <|
    pcons (tile_ok 10 13 (by decide) (by decide) g10 (by decide) g10 (by decide) u10) <|
    pcons (tile_ok 10 12 (by decide) (by decide) g10 (by decide) g10 (by decide) u10) <|
    pcons (tile_ok 10 11 (by decide) (by decide) g10 (by decide) g10 (by decide) u10) <|
    pcons (tile_ok 10 10 (by decide) (by decide) g10 (by decide) g10 (by decide) u10) <|
    pcons (tile_ok 10 9 (by decide) (by decide) g10 (by decide) g10 (by decide) u10) <|
    pcons (tile_ok 10 8 (by decide) (by decide) g10 (by decide) g10 (by decide) u10) <|
    pcons (tile_ok 10 7 (by decide) (by decide) g10 (by decide) g10 (by decide) u10) <|
    pcons (tile_ok 10 6 (by decide) (by decide) g10 (by decide) g10 (by decide) u10) <|
    pcons (tile_ok 10 5 (by decide) (by decide) g10 (by decide) g10 (by decide) u10) <|
    pcons (tile_ok 10 4 (by decide) (by decide) g10 (by decide) g10 (by decide) u10) <|
    pcons (tile_ok 10 3 (by decide) (by decide) g10 (by decide) g10 (by decide) u10) <|
    pcons (tile_ok 10 2 (by decide) (by decide) g10 (by decide) g10 (by decide) u10) <|
    pcons (tile_ok 10 1 (by decide) (by decide) g10 (by decide) g10 (by decide) u10) <|
    pcons (tile_ok 10 0 (by decide) (by decide) f10 (by decide) g10 (by decide) u10) <|
    pcons (tile_ok 9 15 (by decide) (by decide) g9 (by decide) g9 (by decide) u9) <|
    pcons (tile_ok 9 14 (by decide) (by decide) g9 (by decide) g9 (by decide) u9) <|
    pcons (tile_ok 9 13 (by decide) (by decide) g9 (by decide) g9 (by decide) u9) <|
    pcons (tile_ok 9 12 (by decide) (by decide) g9 (by decide) g9 (by decide) u9) <|
    pcons (tile_ok 9 11 (by decide) (by decide) g9 (by decide) g9 (by decide) u9) <|
    pcons (tile_ok 9 10 (by decide) (by decide) g9 (by decide) g9 (by decide) u9) <|
    pcons (tile_ok 9 9 (by decide) (by decide) g9 (by decide) g9 (by decide) u9) <|
    pcons (tile_ok 9 8 (by decide) (by decide) g9 (by decide) g9 (by decide) u9) <|
    pcons (tile_ok 9 7 (by decide) (by decide) g9 (by decide) g9 (by decide) u9) <|
    pcons (tile_ok 9 6 (by decide) (by decide) g9 (by decide) g9 (by decide) u9) <|
    pcons (tile_ok 9 5 (by decide) (by decide) g9 (by decide) g9 (by decide) u9) <|
    pcons (tile_ok 9 4 (by decide) (by decide) g9 (by decide) g9 (by decide) u9) <|
    pcons (tile_ok 9 3 (by decide) (by decide) g9 (by decide) g9 (by decide) u9) <|
    pcons (tile_ok 9 2 (by decide) (by decide) g9 (by decide) g9 (by decide) u9) <|
    pcons (tile_ok 9 1 (by decide) (by decide) g9 (by decide) g9 (by decide) u9) <|
    pcons (tile_ok 9 0 (by decide) (by decide) f9 (by decide) g9 (by decide) u9) <|
    pcons (tile_ok 8 15 (by decide) (by decide) g8 (by decide) g8 (by decide) u8) <|
    pcons (tile_ok 8 14 (by decide) (by decide) g8 (by decide) g8 (by decide) u8) <|
    pcons (tile_ok 8 13 (by decide) (by decide) g8 (by decide) g8 (by decide) u8) <|
    pcons (tile_ok 8 12 (by decide) (by decide) g8 (by decide) g8 (by decide) u8) <|
    pcons (tile_ok 8 11 (by decide) (by decide) g8 (by decide) g8 (by decide) u8) <|
    pcons (tile_ok 8 10 (by decide) (by decide) g8 (by decide) g8 (by decide) u8) <|
    pcons (tile_ok 8 9 (by decide) (by decide) g8 (by decide) g8 (by decide) u8) <|
    pcons (tile_ok 8 8 (by decide) (by decide) g8 (by decide) g8 (by decide) u8) <|
    pcons (tile_ok 8 7 (by decide) (by decide) g8 (by decide) g8 (by decide) u8) <|
    pcons (tile_ok 8 6 (by decide) (by decide) g8 (by decide) g8 (by decide) u8) <|
    pcons (tile_ok 8 5 (by decide) (by decide) g8 (by decide) g8 (by decide) u8) <|
    pcons (tile_ok 8 4 (by decide) (by decide) g8 (by decide) g8 (by decide) u8) <|
    pcons (tile_ok 8 3 (by decide) (by decide) g8 (by decide) g8 (by decide) u8) <|
    pcons (tile_ok 8 2 (by decide) (by decide) g8 (by decide) g8 (by decide) u8) <|
    pcons (tile_ok 8 1 (by decide) (by decide) g8 (by decide) g8 (by decide) u8) <|
    pcons (tile_ok 8 0 (by decide) (by decide) f8 (by decide) g8 (by decide) u8) <|
    pcons (tile_ok 7 15 (by decide) (by decide) g7 (by decide) g7 (by decide) u7) <|
    pcons (tile_ok 7 14 (by decide) (by decide) g7 (by decide) g7 (by decide) u7) <|
    pcons (tile_ok 7 13 (by decide) (by decide) g7 (by decide) g7 (by decide) u7) <|
    pcons (tile_ok 7 12 (by decide) (by decide) g7 (by decide) g7 (by decide) u7) <|
    pcons (tile_ok 7 11 (by decide) (by decide) g7 (by decide) g7 (by decide) u7) <|
    pcons (tile_ok 7 10 (by decide) (by decide) g7 (by decide) g7 (by decide) u7) <|
    pcons (tile_ok 7 9 (by decide) (by decide) g7 (by decide) g7 (by decide) u7) <|
    pcons (tile_ok 7 8 (by decide) (by decide) g7 (by decide) g7 (by decide) u7) <|
    pcons (tile_ok 7 7 (by decide) (by decide) g7 (by decide) g7 (by decide) u7) <|
    pcons (tile_ok 7 6 (by decide) (by decide) g7 (by decide) g7 (by decide) u7) <|
    pcons (tile_ok 7 5 (by decide) (by decide) g7 (by decide) g7 (by decide) u7) <|
    pcons (tile_ok 7 4 (by decide) (by decide) g7 (by decide) g7 (by decide) u7) <|
    pcons (tile_ok 7 3 (by decide) (by decide) g7 (by decide) g7 (by decide) u7) <|
    pcons (tile_ok 7 2 (by decide) (by decide) g7 (by decide) g7 (by decide) u7) <|
    pcons (tile_ok 7 1 (by decide) (by decide) g7 (by decide) g7 (by decide) u7) <|
    pcons (tile_ok 7 0 (by decide) (by decide) f7 (by decide) g7 (by decide) u7) <|
    pcons (tile_ok 6 15 (by decide) (by decide) g6 (by decide) g6 (by decide) u6) <|
    pcons (tile_ok 6 14 (by decide) (by decide) g6 (by decide) g6 (by decide) u6) <|
    pcons (tile_ok 6 13 (by decide) (by decide) g6 (by decide) g6 (by decide) u6) <|
    pcons (tile_ok 6 12 (by decide) (by decide) g6 (by decide) g6 (by decide) u6) <|
    pcons (tile_ok 6 11 (by decide) (by decide) g6 (by decide) g6 (by decide) u6) <|
    pcons (tile_ok 6 10 (by decide) (by decide) g6 (by decide) g6 (by decide) u6) <|
    pcons (tile_ok 6 9 (by decide) (by decide) g6 (by decide) g6 (by decide) u6) <|
    pcons (tile_ok 6 8 (by decide) (by decide) g6 (by decide) g6 (by decide) u6) <|
    pcons (tile_ok 6 7 (by decide) (by decide) g6 (by decide) g6 (by decide) u6) <|
    pcons (tile_ok 6 6 (by decide) (by decide) g6 (by decide) g6 (by decide) u6) <|
    pcons (tile_ok 6 5 (by decide) (by decide) g6 (by decide) g6 (by decide) u6) <|
    pcons (tile_ok 6 4 (by decide) (by decide) g6 (by decide) g6 (by decide) u6) <|
    pcons (tile_ok 6 3 (by decide) (by decide) g6 (by decide) g6 (by decide) u6) <|
    pcons (tile_ok 6 2 (by decide) (by decide) g6 (by decide) g6 (by decide) u6) <|
    pcons (tile_ok 6 1 (by decide) (by decide) g6 (by decide) g6 (by decide) u6) <|
    pcons (tile_ok 6 0 (by decide) (by decide) f6 (by decide) g6 (by decide) u6) <|
    pcons (tile_ok 5 15 (by decide) (by decide) g5 (by decide) g5 (by decide) u5) <|
    pcons (tile_ok 5 14 (by decide) (by decide) g5 (by decide) g5 (by decide) u5) <|
    pcons (tile_ok 5 13 (by decide) (by decide) g5 (by decide) g5 (by decide) u5) <|
    pcons (tile_ok 5 12 (by decide) (by decide) g5 (by decide) g5 (by decide) u5) <|
    pcons (tile_ok 5 11 (by decide) (by decide) g5 (by decide) g5 (by decide) u5) <|
    pcons (tile_ok 5 10 (by decide) (by decide) g5 (by decide) g5 (by decide) u5) <|
    pcons (tile_ok 5 9 (by decide) (by decide) g5 (by decide) g5 (by decide) u5) <|
    pcons (tile_ok 5 8 (by decide) (by decide) g5 (by decide) g5 (by decide) u5) <|
    pcons (tile_ok 5 7 (by decide) (by decide) g5 (by decide) g5 (by decide) u5) <|
    pcons (tile_ok 5 6 (by decide) (by decide) g5 (by decide) g5 (by decide) u5) <|
    pcons (tile_ok 5 5 (by decide) (by decide) g5 (by decide) g5 (by decide) u5) <|
    pcons (tile_ok 5 4 (by decide) (by decide) g5 (by decide) g5 (by decide) u5) <|
    pcons (tile_ok 5 3 (by decide) (by decide) g5 (by decide) g5 (by decide) u5) <|
    pcons (tile_ok 5 2 (by decide) (by decide) g5 (by decide) g5 (by decide) u5) <|
    pcons (tile_ok 5 1 (by decide) (by decide) g5 (by decide) g5 (by decide) u5) <|
    pcons (tile_ok 5 0 (by decide) (by decide) f5 (by decide) g5 (by decide) u5) <|
    pcons (tile_ok 4 15 (by decide) (by decide) g4 (by decide) g4 (by decide) u4) <|
    pcons (tile_ok 4 14 (by decide) (by decide) g4 (by decide) g4 (by decide) u4) <|
    pcons (tile_ok 4 13 (by decide) (by decide) g4 (by decide) g4 (by decide) u4) <|
    pcons (tile_ok 4 12 (by decide) (by decide) g4 (by decide) g4 (by decide) u4) <|
    pcons (tile_ok 4 11 (by decide) (by decide) g4 (by decide) g4 (by decide) u4) <|
    pcons (tile_ok 4 10 (by decide) (by decide) g4 (by decide) g4 (by decide) u4) <|
    pcons (tile_ok 4 9 (by decide) (by decide) g4 (by decide) g4 (by decide) u4) <|
    pcons (tile_ok 4 8 (by decide) (by decide) g4 (by decide) g4 (by decide) u4) <|
    pcons (tile_ok 4 7 (by decide) (by decide) g4 (by decide) g4 (by decide) u4) <|
    pcons (tile_ok 4 6 (by decide) (by decide) g4 (by decide) g4 (by decide) u4) <|
    pcons (tile_ok 4 5 (by decide) (by decide) g4 (by decide) g4 (by decide) u4) <|
    pcons (tile_ok 4 4 (by decide) (by decide) g4 (by decide) g4 (by decide) u4) <|
    pcons (tile_ok 4 3 (by decide) (by decide) g4 (by decide) g4 (by decide) u4) <|
    pcons (tile_ok 4 2 (by decide) (by decide) g4 (by decide) g4 (by decide) u4) <|
    pcons (tile_ok 4 1 (by decide) (by decide) g4 (by decide) g4 (by decide) u4) <|
    pcons (tile_ok 4 0 (by decide) (by decide) f4 (by decide) g4 (by decide) u4) <|
    pcons (tile_ok 3 15 (by decide) (by decide) g3 (by decide) g3 (by decide) u3) <|
    pcons (tile_ok 3 14 (by decide) (by decide) g3 (by decide) g3 (by decide) u3) <|
    pcons (tile_ok 3 13 (by decide) (by decide) g3 (by decide) g3 (by decide) u3) <|
    pcons (tile_ok 3 12 (by decide) (by decide) g3 (by decide) g3 (by decide) u3) <|
    pcons (tile_ok 3 11 (by decide) (by decide) g3 (by decide) g3 (by decide) u3) <|
    pcons (tile_ok 3 10 (by decide) (by decide) g3 (by decide) g3 (by decide) u3) <|
    pcons (tile_ok 3 9 (by decide) (by decide) g3 (by decide) g3 (by decide) u3) <|
    pcons (tile_ok 3 8 (by decide) (by decide) g3 (by decide) g3 (by decide) u3) <|
    pcons (tile_ok 3 7 (by decide) (by decide) g3 (by decide) g3 (by decide) u3) <|
    pcons (tile_ok 3 6 (by decide) (by decide) g3 (by decide) g3 (by decide) u3) <|
    pcons (tile_ok 3 5 (by decide) (by decide) g3 (by decide) g3 (by decide) u3) <|
    pcons (tile_ok 3 4 (by decide) (by decide) g3 (by decide) g3 (by decide) u3) <|
    pcons (tile_ok 3 3 (by decide) (by decide) g3 (by decide) g3 (by decide) u3) <|
    pcons (tile_ok 3 2 (by decide) (by decide) g3 (by decide) g3 (by decide) u3) <|
    pcons (tile_ok 3 1 (by decide) (by decide) g3 (by decide) g3 (by decide) u3) <|
    pcons (tile_ok 3 0 (by decide) (by decide) f3 (by decide) g3 (by decide) u3) <|
    pcons (tile_ok 2 15 (by decide) (by decide) g2 (by decide) g2 (by decide) u2) <|
    pcons (tile_ok 2 14 (by decide) (by decide) g2 (by decide) g2 (by decide) u2) <|
    pcons (tile_ok 2 13 (by decide) (by decide) g2 (by decide) g2 (by decide) u2) <|
    pcons (tile_ok 2 12 (by decide) (by decide) g2 (by decide) g2 (by decide) u2) <|
    pcons (tile_ok 2 11 (by decide) (by decide) g2 (by decide) g2 (by decide) u2) <|
    pcons (tile_ok 2 10 (by decide) (by decide) g2 (by decide) g2 (by decide) u2) <|
    pcons (tile_ok 2 9 (by decide) (by decide) g2 (by decide) g2 (by decide) u2) <|
    pcons (tile_ok 2 8 (by decide) (by decide) g2 (by decide) g2 (by decide) u2) <|
    pcons (tile_ok 2 7 (by decide) (by decide) g2 (by decide) g2 (by decide) u2) <|
    pcons (tile_ok 2 6 (by decide) (by decide) g2 (by decide) g2 (by decide) u2) <|
    pcons (tile_ok 2 5 (by decide) (by decide) g2 (by decide) g2 (by decide) u2) <|
    pcons (tile_ok 2 4 (by decide) (by decide) g2 (by decide) g2 (by decide) u2) <|
    pcons (tile_ok 2 3 (by decide) (by decide) g2 (by decide) g2 (by decide) u2) <|
    pcons (tile_ok 2 2 (by decide) (by decide) g2 (by decide) g2 (by decide) u2) <|
    pcons (tile_ok 2 1 (by decide) (by decide) g2 (by decide) g2 (by decide) u2) <|
    pcons (tile_ok 2 0 (by decide) (by decide) f2 (by decide) g2 (by decide) u2) <|
    pcons (tile_ok 1 15 (by decide) (by decide) g1 (by decide) g1 (by decide) u1) <|
    pcons (tile_ok 1 14 (by decide) (by decide) g1 (by decide) g1 (by decide) u1) <|
    pcons (tile_ok 1 13 (by decide) (by decide) g1 (by decide) g1 (by decide) u1) <|
    pcons (tile_ok 1 12 (by decide) (by decide) g1 (by decide) g1 (by decide) u1) <|
    pcons (tile_ok 1 11 (by decide) (by decide) g1 (by decide) g1 (by decide) u1) <|
    pcons (tile_ok 1 10 (by decide) (by decide) g1 (by decide) g1 (by decide) u1) <|
    pcons (tile_ok 1 9 (by decide) (by decide) g1 (by decide) g1 (by decide) u1) <|
    pcons (tile_ok 1 8 (by decide) (by decide) g1 (by decide) g1 (by decide) u1) <|
    pcons (tile_ok 1 7 (by decide) (by decide) g1 (by decide) g1 (by decide) u1) <|
    pcons (tile_ok 1 6 (by decide) (by decide) g1 (by decide) g1 (by decide) u1) <|
    pcons (tile_ok 1 5 (by decide) (by decide) g1 (by decide) g1 (by decide) u1) <|
    pcons (tile_ok 1 4 (by decide) (by decide) g1 (by decide) g1 (by decide) u1) <|
    pcons (tile_ok 1 3 (by decide) (by decide) g1 (by decide) g1 (by decide) u1) <|
    pcons (tile_ok 1 2 (by decide) (by decide) g1 (by decide) g1 (by decide) u1) <|
    pcons (tile_ok 1 1 (by decide) (by decide) g1 (by decide) g1 (by decide) u1) <|
    pcons (tile_ok 1 0 (by decide) (by decide) f1 (by decide) g1 (by decide) u1) <|
    pcons (tile_ok 0 15 (by decide) (by decide) g0 (by decide) g0 (by decide) u0) <|
    pcons (tile_ok 0 14 (by decide) (by decide) g0 (by decide) g0 (by decide) u0) <|
    pcons (tile_ok 0 13 (by decide) (by decide) g0 (by decide) g0 (by decide) u0) <|
    pcons (tile_ok 0 12 (by decide) (by decide) g0 (by decide) g0 (by decide) u0) <|
    pcons (tile_ok 0 11 (by decide) (by decide) g0 (by decide) g0 (by decide) u0) <|
    pcons (tile_ok 0 10 (by decide) (by decide) g0 (by decide) g0 (by decide) u0) <|
    pcons (tile_ok 0 9 (by decide) (by decide) g0 (by decide) g0 (by decide) u0) <|
    pcons (tile_ok 0 8 (by decide) (by decide) g0 (by decide) g0 (by decide) u0) <|
    pcons (tile_ok 0 7 (by decide) (by decide) g0 (by decide) g0 (by decide) u0) <|
    pcons (tile_ok 0 6 (by decide) (by decide) g0 (by decide) g0 (by decide) u0) <|
    pcons (tile_ok 0 5 (by decide) (by decide) g0 (by decide) g0 (by decide) u0) <|
    pcons (tile_ok 0 4 (by decide) (by decide) g0 (by decide) g0 (by decide) u0) <|
    pcons (tile_ok 0 3 (by decide) (by decide) g0 (by decide) g0 (by decide) u0) <|
    pcons (tile_ok 0 2 (by decide) (by decide) g0 (by decide) g0 (by decide) u0) <|
    pcons (tile_ok 0 1 (by decide) (by decide) g0 (by decide) g0 (by decide) u0) <|
    pcons (tile_ok 0 0 (by decide) (by decide) f0 (by decide) g0 (by decide) u0) <| trivial

/-- After all stores the gate's buffer holds the projection in every lane block. -/
theorem g_all : GOk arg11.view (harg11.unread xs1) (kernelRun0_B.sl.HS1_22 (F := Ideal) c arg2 harg2 arg3 harg3 arg4 harg4 arg10 x0 x1 x2) (gB c arg2 harg2 arg3 harg3 arg10 x0 x1 x2 xs1) 22 0 := by
  have f0 : GOk arg11.view (harg11.unread xs1) (kernelRun0_B.sl.HS1_2 (F := Ideal) c arg2 harg2 arg3 harg3 arg4 harg4 arg10 x0 x1 x2) (gB c arg2 harg2 arg3 harg3 arg10 x0 x1 x2 xs1) (2 * (0 + 1)) 0 := gstep 0 g_old
  have f1 : GOk arg11.view (harg11.unread xs1) (kernelRun0_B.sl.HS1_4 (F := Ideal) c arg2 harg2 arg3 harg3 arg4 harg4 arg10 x0 x1 x2) (gB c arg2 harg2 arg3 harg3 arg10 x0 x1 x2 xs1) (2 * (1 + 1)) 0 := gstep 1 f0
  have f2 : GOk arg11.view (harg11.unread xs1) (kernelRun0_B.sl.HS1_6 (F := Ideal) c arg2 harg2 arg3 harg3 arg4 harg4 arg10 x0 x1 x2) (gB c arg2 harg2 arg3 harg3 arg10 x0 x1 x2 xs1) (2 * (2 + 1)) 0 := gstep 2 f1
  have f3 : GOk arg11.view (harg11.unread xs1) (kernelRun0_B.sl.HS1_8 (F := Ideal) c arg2 harg2 arg3 harg3 arg4 harg4 arg10 x0 x1 x2) (gB c arg2 harg2 arg3 harg3 arg10 x0 x1 x2 xs1) (2 * (3 + 1)) 0 := gstep 3 f2
  have f4 : GOk arg11.view (harg11.unread xs1) (kernelRun0_B.sl.HS1_10 (F := Ideal) c arg2 harg2 arg3 harg3 arg4 harg4 arg10 x0 x1 x2) (gB c arg2 harg2 arg3 harg3 arg10 x0 x1 x2 xs1) (2 * (4 + 1)) 0 := gstep 4 f3
  have f5 : GOk arg11.view (harg11.unread xs1) (kernelRun0_B.sl.HS1_12 (F := Ideal) c arg2 harg2 arg3 harg3 arg4 harg4 arg10 x0 x1 x2) (gB c arg2 harg2 arg3 harg3 arg10 x0 x1 x2 xs1) (2 * (5 + 1)) 0 := gstep 5 f4
  have f6 : GOk arg11.view (harg11.unread xs1) (kernelRun0_B.sl.HS1_14 (F := Ideal) c arg2 harg2 arg3 harg3 arg4 harg4 arg10 x0 x1 x2) (gB c arg2 harg2 arg3 harg3 arg10 x0 x1 x2 xs1) (2 * (6 + 1)) 0 := gstep 6 f5
  have f7 : GOk arg11.view (harg11.unread xs1) (kernelRun0_B.sl.HS1_16 (F := Ideal) c arg2 harg2 arg3 harg3 arg4 harg4 arg10 x0 x1 x2) (gB c arg2 harg2 arg3 harg3 arg10 x0 x1 x2 xs1) (2 * (7 + 1)) 0 := gstep 7 f6
  have f8 : GOk arg11.view (harg11.unread xs1) (kernelRun0_B.sl.HS1_18 (F := Ideal) c arg2 harg2 arg3 harg3 arg4 harg4 arg10 x0 x1 x2) (gB c arg2 harg2 arg3 harg3 arg10 x0 x1 x2 xs1) (2 * (8 + 1)) 0 := gstep 8 f7
  have f9 : GOk arg11.view (harg11.unread xs1) (kernelRun0_B.sl.HS1_20 (F := Ideal) c arg2 harg2 arg3 harg3 arg4 harg4 arg10 x0 x1 x2) (gB c arg2 harg2 arg3 harg3 arg10 x0 x1 x2 xs1) (2 * (9 + 1)) 0 := gstep 9 f8
  have f10 : GOk arg11.view (harg11.unread xs1) (kernelRun0_B.sl.HS1_22 (F := Ideal) c arg2 harg2 arg3 harg3 arg4 harg4 arg10 x0 x1 x2) (gB c arg2 harg2 arg3 harg3 arg10 x0 x1 x2 xs1) (2 * (10 + 1)) 0 := gstep 10 f9
  exact f10

theorem g_own : GOk arg11.view arg11.view.junk (kernelRun0_B.sl.HS1_22 (F := Ideal) c arg2 harg2 arg3 harg3 arg4 harg4 arg10 x0 x1 x2) (gB c arg2 harg2 arg3 harg3 arg10 x0 x1 x2 xs1) 22 8 := by
  have g0 : GOk arg11.view arg11.view.junk (kernelRun0_B.sl.HS1_2 (F := Ideal) c arg2 harg2 arg3 harg3 arg4 harg4 arg10 x0 x1 x2) (gB c arg2 harg2 arg3 harg3 arg10 x0 x1 x2 xs1) (2 * (0 + 1)) 8 := gstep 0 g_none
  have g1 : GOk arg11.view arg11.view.junk (kernelRun0_B.sl.HS1_4 (F := Ideal) c arg2 harg2 arg3 harg3 arg4 harg4 arg10 x0 x1 x2) (gB c arg2 harg2 arg3 harg3 arg10 x0 x1 x2 xs1) (2 * (1 + 1)) 8 := gstep 1 g0
  have g2 : GOk arg11.view arg11.view.junk (kernelRun0_B.sl.HS1_6 (F := Ideal) c arg2 harg2 arg3 harg3 arg4 harg4 arg10 x0 x1 x2) (gB c arg2 harg2 arg3 harg3 arg10 x0 x1 x2 xs1) (2 * (2 + 1)) 8 := gstep 2 g1
  have g3 : GOk arg11.view arg11.view.junk (kernelRun0_B.sl.HS1_8 (F := Ideal) c arg2 harg2 arg3 harg3 arg4 harg4 arg10 x0 x1 x2) (gB c arg2 harg2 arg3 harg3 arg10 x0 x1 x2 xs1) (2 * (3 + 1)) 8 := gstep 3 g2
  have g4 : GOk arg11.view arg11.view.junk (kernelRun0_B.sl.HS1_10 (F := Ideal) c arg2 harg2 arg3 harg3 arg4 harg4 arg10 x0 x1 x2) (gB c arg2 harg2 arg3 harg3 arg10 x0 x1 x2 xs1) (2 * (4 + 1)) 8 := gstep 4 g3
  have g5 : GOk arg11.view arg11.view.junk (kernelRun0_B.sl.HS1_12 (F := Ideal) c arg2 harg2 arg3 harg3 arg4 harg4 arg10 x0 x1 x2) (gB c arg2 harg2 arg3 harg3 arg10 x0 x1 x2 xs1) (2 * (5 + 1)) 8 := gstep 5 g4
  have g6 : GOk arg11.view arg11.view.junk (kernelRun0_B.sl.HS1_14 (F := Ideal) c arg2 harg2 arg3 harg3 arg4 harg4 arg10 x0 x1 x2) (gB c arg2 harg2 arg3 harg3 arg10 x0 x1 x2 xs1) (2 * (6 + 1)) 8 := gstep 6 g5
  have g7 : GOk arg11.view arg11.view.junk (kernelRun0_B.sl.HS1_16 (F := Ideal) c arg2 harg2 arg3 harg3 arg4 harg4 arg10 x0 x1 x2) (gB c arg2 harg2 arg3 harg3 arg10 x0 x1 x2 xs1) (2 * (7 + 1)) 8 := gstep 7 g6
  have g8 : GOk arg11.view arg11.view.junk (kernelRun0_B.sl.HS1_18 (F := Ideal) c arg2 harg2 arg3 harg3 arg4 harg4 arg10 x0 x1 x2) (gB c arg2 harg2 arg3 harg3 arg10 x0 x1 x2 xs1) (2 * (8 + 1)) 8 := gstep 8 g7
  have g9 : GOk arg11.view arg11.view.junk (kernelRun0_B.sl.HS1_20 (F := Ideal) c arg2 harg2 arg3 harg3 arg4 harg4 arg10 x0 x1 x2) (gB c arg2 harg2 arg3 harg3 arg10 x0 x1 x2 xs1) (2 * (9 + 1)) 8 := gstep 9 g8
  have g10 : GOk arg11.view arg11.view.junk (kernelRun0_B.sl.HS1_22 (F := Ideal) c arg2 harg2 arg3 harg3 arg4 harg4 arg10 x0 x1 x2) (gB c arg2 harg2 arg3 harg3 arg10 x0 x1 x2 xs1) (2 * (10 + 1)) 8 := gstep 10 g9
  exact g10

end Cert.Ffn0KernelIdeal.Hand.CaseB

end
-- ==== Proof.Ffn0OutB.lean ====
/- What layer 0's call leaves in its output block and in the carried rows at a later block. -/
module

public import Idealize.ShloMosaic.Lib.Pipeline.ValueKit.Acc
public import proofs.«01_k».proof.Proof.Ffn0Block
public import proofs.«01_k».proof.Proof.Ffn0CaseB

@[expose] public section

set_option maxRecDepth 65536

noncomputable section

namespace Cert.Ffn0KernelIdeal.Hand.CaseB

open Cert.Ffn0KernelIdeal Cert.Ffn0KernelIdeal.Gen
open Cert.FfnKernelIdeal.Hand (Act Uall Gall hI gI outI outRow whole_read out_read carry_read)
open Idealize.ShloMosaic Idealize.ShloMosaic.TcCoe

variable (i : grid0.Coords)
variable (c : Dev nD)
variable (arg2 : Memref sig .tc .vmem S1x512x1024 .f32)
variable (harg2 : arg2.IsWhole)
variable (arg3 : Memref sig .tc .vmem S1x1024 .f32)
variable (harg3 : arg3.IsWhole)
variable (arg4 : Memref sig .tc .vmem S1x1024x2816 .bf16)
variable (harg4 : arg4.IsWhole)
variable (arg5 : Memref sig .tc .vmem S1x1024x2816 .bf16)
variable (harg5 : arg5.IsWhole)
variable (arg6 : Memref sig .tc .vmem S24x2816 .f32)
variable (harg6 : arg6.IsWhole)
variable (arg7 : Memref sig .tc .vmem S8x2816 .f32)
variable (harg7 : arg7.IsWhole)
variable (arg8 : Memref sig .tc .vmem S1x2816x1024 .bf16)
variable (harg8 : arg8.IsWhole)
variable (arg9 : Memref sig .tc .vmem S1x512x1024 .f32)
variable (harg9 : arg9.IsWhole)
variable (arg10 : Memref sig .tc .vmem S512x1024 .bf16)
variable (harg10 : arg10.IsWhole)
variable (arg11 : Memref sig .tc .vmem S22x520x128 .f32)
variable (harg11 : arg11.IsWhole)
variable (arg12 : Memref sig .tc .vmem S512x2816 .f32)
variable (harg12 : arg12.IsWhole)
variable (arg13 : Memref sig .tc .vmem S512x2816 .bf16)
variable (harg13 : arg13.IsWhole)
variable (hc0 : ¬cond0_0 i)
variable (x0 : Vec Ideal S1x512x1024 .f32) (x1 : Vec Ideal S1x1024 .f32) (x2 : Vec Ideal S1x1024x2816 .bf16) (x3 : Vec Ideal S1x1024x2816 .bf16) (x4 : Vec Ideal S24x2816 .f32) (x5 : Vec Ideal S8x2816 .f32) (x6 : Vec Ideal S1x2816x1024 .bf16)
variable (xs1 : Vec Ideal S22x520x128 .f32)

theorem v23_eq : (kernelRun0_B.sl.v23 (F := Ideal) c arg2 harg2 arg3 harg3 arg10 x0 x1) = hI (rows x0) x1 :=
  (View.readCov_unit_lit' arg10.view _ _ (fun a => by
    match a with
    | ⟨0, _⟩ => rfl
    | ⟨1, _⟩ => rfl)).trans normed_read

theorem act_cover : ∀ y, ∃ p ∈ (kernelRun0_B.sl.HS3_176 (F := Ideal) c arg2 harg2 arg3 harg3 arg4 harg4 arg5 harg5 arg6 harg6 arg7 harg7 arg10 arg11 harg11 arg12 x0 x1 x2 x3 x4 x5 xs1), y ∈ p.1.set :=
  View.cover_of_tiledBy _ ![32, 256] (by sl_kernel_rfl)

theorem act_eq : (kernelRun0_B.sl.v_4 (F := Ideal) c arg2 harg2 arg3 harg3 arg4 harg4 arg5 harg5 arg6 harg6 arg7 harg7 arg10 arg11 harg11 arg12 arg13 x0 x1 x2 x3 x4 x5 xs1) = Act (gI xs1 (rows x0) x1 x2) (Uall (hI (rows x0) x1) x3) x4 x5 := by
  refine (whole_read (act_pieces c arg2 harg2 arg3 harg3 arg4 harg4 arg5 harg5 arg6 harg6 arg7 harg7 arg10 arg11 harg11 arg12 x0 x1 x2 x3 x4 x5 xs1) (act_cover c arg2 harg2 arg3 harg3 arg4 harg4 arg5 harg5 arg6 harg6 arg7 harg7 arg10 arg11 harg11 arg12 x0 x1 x2 x3 x4 x5 xs1)).trans ?_
  unfold gI
  rw [← v23_eq c arg2 harg2 arg3 harg3 arg10 x0 x1]

/-- A row of the output block. -/
theorem out_eq (n : Fin 512) (d : Fin 1024) :
    out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 (ix3 (0 : Fin 1) n d) = outI xs1 (rows x0) x1 x2 x3 x4 x5 x6 n d := by
  refine (View.read_writes_cons_unit_of_mem (off' := ![0, 0, 0]) VO0_7 _ _ _ _ _ (ix3 (0 : Fin 1) n d) rfl (fun a => by
    match a with
    | ⟨0, _⟩ => rfl
    | ⟨1, _⟩ => show n.val = 0 + n.val; omega
    | ⟨2, _⟩ => show d.val = 0 + d.val; omega)).trans ?_
  show k0_pay1 (F := Ideal) (kernelRun0_B.sl.r (F := Ideal) c arg2 harg2 x0) (kernelRun0_B.sl.v_4 (F := Ideal) c arg2 harg2 arg3 harg3 arg4 harg4 arg5 harg5 arg6 harg6 arg7 harg7 arg10 arg11 harg11 arg12 arg13 x0 x1 x2 x3 x4 x5 xs1) _ _ = _
  have er : (kernelRun0_B.sl.r (F := Ideal) c arg2 harg2 x0) = rows x0 := rows_read
  rw [er, act_eq, pay_out]
  exact out_read _ _ n d

/-- The carried rows. -/
theorem carry_eq (a : Fin 22) (r : Fin 8) (j : Fin 128) :
    sout0_B_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs1 (ix3 a (⟨r.val, by omega⟩ : Fin 520) j) = gI xs1 (rows x0) x1 x2 (ix3 a (⟨512 + r.val, by omega⟩ : Fin 520) j) := by
  refine (View.read_writes_cons_unit_of_mem (off' := ![0, 0, 0]) VS0_1 _ _ _ _ _ (ix3 a r j) rfl (fun b => by
    match b with
    | ⟨0, _⟩ => show a.val = 0 + a.val; omega
    | ⟨1, _⟩ => show r.val = 0 + r.val; omega
    | ⟨2, _⟩ => show j.val = 0 + j.val; omega)).trans ?_
  refine (carry_read (CaseB.g_own c arg2 harg2 arg3 harg3 arg4 harg4 arg10 arg11 x0 x1 x2 xs1) a r j).trans ?_
  unfold gI
  rw [← v23_eq c arg2 harg2 arg3 harg3 arg10 x0 x1]

end Cert.Ffn0KernelIdeal.Hand.CaseB

end
-- ==== Proof.Ffn0Sweep.lean ====
/- The kernel's result array, entry by entry. -/
module

public import proofs.«01_k».proof.Proof.FfnSpec
public import proofs.«01_k».proof.Proof.Ffn0Inputs
public import proofs.«01_k».proof.Proof.Ffn0OutA
public import proofs.«01_k».proof.Proof.Ffn0OutB
public import proofs.«01_k».proof.Proof.Gen.Ffn0KernelIdeal.Value

@[expose] public section

set_option maxRecDepth 16384

noncomputable section

namespace Cert.Ffn0KernelIdeal.Hand

open Cert.Ffn0KernelIdeal Cert.Ffn0KernelIdeal.Gen Cert.Ffn0KernelIdeal.Value
open Idealize.ShloMosaic Idealize.ShloMosaic.TcCoe Idealize.SL.Sem
open Cert.FfnKernelIdeal.Hand (Net BlocksOf HaloOk oG outI_G carry_G halo_zero rowIn)

variable (m : (ℓ : Loc nD τ sig) → Buf (Elt Ideal) ℓ)

/-- Layer 0's network on the arguments at launch. -/
def netOf (c : Dev nD) : Net where
  l := 0
  X := fun b s d => (m ((c : Thread nD τ).loc main_arg0) : S8x4096x1024.Idx → EReal) (ix3 b s d)
  norm := m ((c : Thread nD τ).loc main_arg1)
  wgate := m ((c : Thread nD τ).loc main_arg2)
  wup := m ((c : Thread nD τ).loc main_arg3)
  conv := m ((c : Thread nD τ).loc main_arg4)
  bias := m ((c : Thread nD τ).loc main_arg5)
  wdown := m ((c : Thread nD τ).loc main_arg6)

/-- The block of the sequence at a grid point. -/
abbrev blkNo (t : Fin cfg0.N) : Fin 8 := ⟨t.val % 8, by omega⟩

theorem blocksOf (c : Dev nD) (t : Fin cfg0.N) : BlocksOf (netOf m c) (bat t) (blkNo t) (rows (iblk m c 0 t))
    (iblk m c 1 t) (iblk m c 2 t) (iblk m c 3 t) (iblk m c 4 t) (iblk m c 5 t) (iblk m c 6 t) where
  eX := blk0 m c t
  e4 := blk1 m c t
  e5 := blk2 m c t
  e6 := blk3 m c t
  e7 := blk4 m c t
  e8 := blk5 m c t
  e9 := blk6 m c t

/-- After a block that is not a sequence's last, the carried rows are those the next block needs. -/
theorem carried (c : Dev nD) (t t' : Fin cfg0.N) (h : t'.val = t.val + 1) (h8 : ¬t'.val % 8 = 0) :
    HaloOk (netOf m c) (bat t') (blkNo t') (outsAt0 m c t.val t.isLt).2 := by
  have hb : bat t' = bat t := Fin.ext (show t'.val / 8 = t.val / 8 by omega)
  rw [hb]
  by_cases h0 : t.val % 8 = 0
  · have e : (outsAt0 m c t.val t.isLt).2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) := by rw [outsAt0_A m c t h0]
    rw [e]
    refine carry_G (blocksOf m c t) (fun _ => 0) _ (fun a r l => ?_) (blkNo t') (show t'.val % 8 = t.val % 8 + 1 by omega)
    exact CaseA.carry_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) a r l
  · have e : (outsAt0 m c t.val t.isLt).2 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 := by rw [outsAt0_B m c t h0]
    rw [e]
    refine carry_G (blocksOf m c t) (outsAt0 m c (t.val - 1) (Nat.lt_of_le_of_lt (Nat.sub_le _ _) t.isLt)).2 _ (fun a r l => ?_) (blkNo t') (show t'.val % 8 = t.val % 8 + 1 by omega)
    exact CaseB.carry_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 a r l

/-- The block a grid point leaves. -/
theorem out_at (c : Dev nD) (t : Fin cfg0.N) (n : Fin 512) (d : Fin 1024) :
    (outsAt0 m c t.val t.isLt).1 (ix3 (0 : Fin 1) n d) = oG (netOf m c) (bat t) (rowIn (blkNo t) n) d := by
  by_cases h0 : t.val % 8 = 0
  · have e : (outsAt0 m c t.val t.isLt).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) := by rw [outsAt0_A m c t h0]
    rw [e]
    refine Eq.trans ?_ (outI_G (blocksOf m c t) (halo_zero _ _ _ h0) n d)
    exact CaseA.out_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) n d
  · have e : (outsAt0 m c t.val t.isLt).1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 := by rw [outsAt0_B m c t h0]
    rw [e]
    refine Eq.trans ?_ (outI_G (blocksOf m c t) (carried m c ⟨t.val - 1, Nat.lt_of_le_of_lt (Nat.sub_le _ _) t.isLt⟩ t (show t.val = t.val - 1 + 1 by omega) h0) n d)
    exact CaseB.out_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 n d

/-- The result array. -/
def whole (c : Dev nD) : Buf (Elt Ideal) ((c : Thread nD τ).loc main_v15) := fun i => oG (netOf m c) (i 0) (i 1) (i 2)

theorem result (c : Dev nD) : G7 m c = whole m c := by
  funext i
  have h0 : (i 0).val < 8 := (i 0).isLt
  have h1 : (i 1).val < 4096 := (i 1).isLt
  have h2 : (i 2).val < 1024 := (i 2).isLt
  have hN : cfg0.N = 64 := N_0
  have hp : pt7Of i = 8 * (i 0).val + (i 1).val / 512 := by
    show 8 * ((i 0).val / 1 - 0) + 1 * ((i 1).val / 512 - 0) + 1 * ((i 2).val / 1024 - 0) = _
    omega
  have ht : pt7Of i < cfg0.N := by omega
  refine (dif_pos ht).trans ?_
  rw [← outsAt0_sweep m c (pt7Of i) ht]
  have hl : loc7Of i = ix3 (0 : Fin 1) (⟨(i 1).val % 512, Nat.mod_lt _ (by decide)⟩ : Fin 512) (⟨(i 2).val, h2⟩ : Fin 1024) := by
    funext a
    refine Fin.ext ?_
    match a with
    | ⟨0, _⟩ => show (i 0).val % 1 = 0; omega
    | ⟨1, _⟩ => rfl
    | ⟨2, _⟩ => show (i 2).val % 1024 = (i 2).val; omega
  rw [hl]
  refine (out_at m c ⟨pt7Of i, ht⟩ _ _).trans ?_
  have eb : bat ⟨pt7Of i, ht⟩ = (⟨(i 0).val, h0⟩ : Fin 8) := Fin.ext (show pt7Of i / 8 = (i 0).val by omega)
  have er : rowIn (blkNo ⟨pt7Of i, ht⟩) (⟨(i 1).val % 512, Nat.mod_lt _ (by decide)⟩ : Fin 512) = (⟨(i 1).val, h1⟩ : Fin 4096) :=
    Fin.ext (show 512 * (pt7Of i % 8) + (i 1).val % 512 = (i 1).val by omega)
  rw [eb, er]
  rfl

end Cert.Ffn0KernelIdeal.Hand
-- ==== Proof.Ffn0Claim.lean ====
/- The reference of layer 0's feed-forward block is the formula that the kernel computes, and the claim of it. -/
module

public import proofs.«01_k».proof.Proof.Ffn0Sweep
public import proofs.«01_k».proof.Proof.FfnRef
public import proofs.«01_k».proof.Proof.Gen.Ffn0ReferenceIdeal.Run
public import proofs.«01_k».proof.Defs

@[expose] public section

set_option maxRecDepth 16384

noncomputable section

namespace Cert.Ffn0ReferenceIdeal.Hand

open Cert.Ffn0ReferenceIdeal Cert.Ffn0ReferenceIdeal.Gen Cert.Ffn0ReferenceIdeal.Value
open Idealize.ShloMosaic Idealize.ShloMosaic.TcCoe
open Cert.FfnReferenceIdeal.Hand (netR netR_eq)
open Cert.FfnKernelIdeal.Hand (Net oG)

section Whole
variable {F : FTy → Type} [FloatOps F]

/-- The whole reference of layer 0. -/
def refR (x : FVec F S8x4096x1024 .f32) (n : FVec F S2x1024 .f32) (wg wu : FVec F S2x1024x2816 .f32) (cw : FVec F S2x3x2816 .f32) (cb : FVec F S2x2816 .f32)
    (wd : FVec F S2x2816x1024 .f32) : FVec F S8x4096x1024 .f32 :=
  netR x (extractStridedSlice S1x1024 ![0, 0] n slices_S2x1024_S1x1024_0_0)
    (extractStridedSlice S1x1024x2816 ![0, 0, 0] wg slices_S2x1024x2816_S1x1024x2816_0_0_0) (extractStridedSlice S1x1024x2816 ![0, 0, 0] wu slices_S2x1024x2816_S1x1024x2816_0_0_0)
    (extractStridedSlice S1x1x2816 ![0, 0, 0] cw slices_S2x3x2816_S1x1x2816_0_0_0) (extractStridedSlice S1x1x2816 ![0, 1, 0] cw slices_S2x3x2816_S1x1x2816_0_1_0)
    (extractStridedSlice S1x1x2816 ![0, 2, 0] cw slices_S2x3x2816_S1x1x2816_0_2_0) (extractStridedSlice S1x2816 ![0, 0] cb slices_S2x2816_S1x2816_0_0)
    (extractStridedSlice S1x2816x1024 ![0, 0, 0] wd slices_S2x2816x1024_S1x2816x1024_0_0_0)

variable (m : (ℓ : Loc nD τ sig) → Buf (Elt F) ℓ) (c : Dev nD)

theorem out_eq : res_main_v54 m c = refR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := rfl
end Whole

/-- The reference, entry by entry. -/
theorem refR_eq (x : FVec Ideal S8x4096x1024 .f32) (n : FVec Ideal S2x1024 .f32) (wg wu : FVec Ideal S2x1024x2816 .f32) (cw : FVec Ideal S2x3x2816 .f32)
    (cb : FVec Ideal S2x2816 .f32) (wd : FVec Ideal S2x2816x1024 .f32) :
    refR x n wg wu cw cb wd = fun i => oG ⟨0, fun b s d => x (ix3 b s d), n, wg, wu, cw, cb, wd⟩ (i 0) (i 1) (i 2) :=
  netR_eq {
    eX := fun _ _ _ => rfl
    en := fun d => by pointwise
    eg := fun k q => by pointwise
    eu := fun k q => by pointwise
    ec0 := fun q => by pointwise
    ec1 := fun q => by pointwise
    ec2 := fun q => by pointwise
    eb := fun q => by pointwise
    ed := fun q d => by pointwise }

end Cert.Ffn0ReferenceIdeal.Hand

namespace Cert.Proof.Ffn0Claims

open Idealize.ShloMosaic Idealize.SL.Sem

/-- Both runs end with the formula of the kernel's arguments. -/
theorem algebraic : Cert.algebraic_Ffn0KernelIdeal_Ffn0ReferenceIdeal := by
  intro m ρ m' ρ' _ hag
  refine ⟨fun c => Cert.Ffn0KernelIdeal.Hand.whole m c, ?_, ?_⟩
  · exact (θ_run Cert.Ffn0KernelIdeal.defs _ _).mono (fun _ h c => ⟨(h c).1.trans (Cert.Ffn0KernelIdeal.Hand.result m c), (h c).2⟩)
      (Cert.Ffn0KernelIdeal.Value.run (F := Ideal) m ρ)
  · refine (θ_run Cert.Ffn0ReferenceIdeal.defs _ _).mono (fun _ h c => ⟨(h c).1.trans ?_, (h c).2⟩)
      (Cert.Ffn0ReferenceIdeal.Value.run (F := Ideal) m' ρ')
    obtain ⟨h0, h1, h2, h3, h4, h5, h6⟩ := hag c
    rw [Cert.Ffn0ReferenceIdeal.Hand.out_eq, h0, h1, h2, h3, h4, h5, h6]
    exact Cert.Ffn0ReferenceIdeal.Hand.refR_eq _ _ _ _ _ _ _

end Cert.Proof.Ffn0Claims

end
-- ==== Proof.EvenTile.lean ====
/- The even mixer's buffers, read at an index. The projection's buffer holds five blocks of columns; the convolutions'
   buffers hold, lane block by lane block, some rows carried over from the rows before and then the block's own rows. -/
module

public import proofs.«01_k».proof.Proof.Gen.EvenKernelIdeal.Skeleton
public import Idealize.ShloMosaic.Lib.Pointwise
public import Idealize.ShloMosaic.Lib.WritesUnit
public import Idealize.ShloMosaic.Lib.WholeRead
public import Idealize.ShloMosaic.Lib.Pipeline.ReadBack

@[expose] public section

set_option maxRecDepth 16384

noncomputable section

namespace Cert.EvenKernelIdeal.Hand

open Cert.EvenKernelIdeal Cert.EvenKernelIdeal.Gen
open Idealize.ShloMosaic Idealize.ShloMosaic.TcCoe

/-! ## What a list of stores leaves -/

/-- After the stores `L` the buffer holds `G` wherever `R`. -/
def Known {s : Shape} {e : EltTy} (v : View sig .tc .vmem s e) (f : v.ty.Contents (Elt Ideal)) (L : List (View.Piece (Elt Ideal) s e))
    (G : s.Idx → Elt Ideal e) (R : s.Idx → Prop) : Prop :=
  ∀ y : s.Idx, R y → v.read (Elt Ideal) (v.writes (Elt Ideal) f L) y = G y

section Known
variable {s : Shape} {e : EltTy} {v : View sig .tc .vmem s e} {f : v.ty.Contents (Elt Ideal)} {L : List (View.Piece (Elt Ideal) s e)}
  {G : s.Idx → Elt Ideal e} {R R' : s.Idx → Prop}

theorem Known.cons {off size : Fin s.rank → ℕ} {inb : ∀ a, off a + size a ≤ s.size a} {w : (Rect.unit off size inb).shape.Idx → Elt Ideal e}
    (h : Known v f L G R) (hw : ∀ x : (Rect.unit off size inb).shape.Idx, w x = G ((Rect.unit off size inb).emb x))
    (hR : ∀ y, R' y → (∀ a, off a ≤ (y a).val ∧ (y a).val < off a + size a) ∨ R y) :
    Known v f (⟨Rect.unit off size inb, w⟩ :: L) G R' := by
  intro y hy
  by_cases hin : ∀ a, off a ≤ (y a).val ∧ (y a).val < off a + size a
  · let x : (Rect.unit off size inb).shape.Idx := fun a => (⟨(y a).val - off a, by have := hin a; show (y a).val - off a < size a; omega⟩ : Fin (size a))
    have ex : (Rect.unit off size inb).emb x = y := funext fun a => Fin.ext (by
      show off a + 1 * ((y a).val - off a) = (y a).val
      have := hin a
      omega)
    refine (View.read_writes_cons_unit_of_mem v f inb w L y x rfl (fun a => by
      show (y a).val = off a + ((y a).val - off a)
      have := hin a
      omega)).trans ((hw x).trans (congrArg G ex))
  · obtain ⟨a, ha⟩ := not_forall.mp hin
    refine (View.read_writes_cons_unit_of_not_mem v f inb w L y rfl a (by omega)).trans (h y ?_)
    exact (hR y hy).resolve_left hin

theorem Known.mono (h : Known v f L G R) (hR : ∀ y, R' y → R y) : Known v f L G R' := fun y hy => h y (hR y hy)

theorem Known.at {off size : Fin s.rank → ℕ} {inb : ∀ a, off a + size a ≤ s.size a} (h : Known v f L G R)
    (x : (Rect.unit off size inb).shape.Idx) (hx : R ((Rect.unit off size inb).emb x)) :
    View.readAt (Elt Ideal) v (Rect.unit off size inb).toLoadRect (v.writes (Elt Ideal) f L) x = G ((Rect.unit off size inb).emb x) := by
  rw [View.readAt_apply]
  exact h _ hx

theorem known_none {R : s.Idx → Prop} (hR : ∀ y, ¬ R y) : Known v f [] G R := fun y hy => absurd hy (hR y)
end Known

/-- An index of a matrix, of a stack of matrices. -/
theorem eta2 {a b : ℕ} (x : (⟨2, ![a, b]⟩ : Shape).Idx) : ∃ (i : Fin a) (j : Fin b), x = ix2 i j := ⟨x 0, x 1, by
  funext k
  match k with
  | ⟨0, _⟩ => rfl
  | ⟨1, _⟩ => rfl⟩
theorem eta3 {a b c : ℕ} (x : (⟨3, ![a, b, c]⟩ : Shape).Idx) : ∃ (i : Fin a) (j : Fin b) (k : Fin c), x = ix3 i j k := ⟨x 0, x 1, x 2, by
  funext k
  match k with
  | ⟨0, _⟩ => rfl
  | ⟨1, _⟩ => rfl
  | ⟨2, _⟩ => rfl⟩

/-- A block's index in the whole. -/
theorem emb2 {A B o0 o1 a b : ℕ} {inb : ∀ k, (![o0, o1] : Fin 2 → ℕ) k + (⟨2, ![a, b]⟩ : Shape).size k ≤ (⟨2, ![A, B]⟩ : Shape).size k} (i : Fin a) (j : Fin b) (p : Fin A) (q : Fin B)
    (hp : p.val = o0 + i.val) (hq : q.val = o1 + j.val) :
    (Rect.unit (s := ⟨2, ![A, B]⟩) ![o0, o1] (⟨2, ![a, b]⟩ : Shape).size inb).emb (ix2 i j) = ix2 p q := by
  funext k
  refine Fin.ext ?_
  match k with
  | ⟨0, _⟩ => show o0 + 1 * i.val = p.val; omega
  | ⟨1, _⟩ => show o1 + 1 * j.val = q.val; omega
theorem emb3 {A B C o0 o1 o2 a b c : ℕ} {inb : ∀ k, (![o0, o1, o2] : Fin 3 → ℕ) k + (⟨3, ![a, b, c]⟩ : Shape).size k ≤ (⟨3, ![A, B, C]⟩ : Shape).size k} (i : Fin a) (j : Fin b) (l : Fin c)
    (p : Fin A) (q : Fin B) (r : Fin C) (hp : p.val = o0 + i.val) (hq : q.val = o1 + j.val) (hr : r.val = o2 + l.val) :
    (Rect.unit (s := ⟨3, ![A, B, C]⟩) ![o0, o1, o2] (⟨3, ![a, b, c]⟩ : Shape).size inb).emb (ix3 i j l) = ix3 p q r := by
  funext k
  refine Fin.ext ?_
  match k with
  | ⟨0, _⟩ => show o0 + 1 * i.val = p.val; omega
  | ⟨1, _⟩ => show o1 + 1 * j.val = q.val; omega
  | ⟨2, _⟩ => show o2 + 1 * l.val = r.val; omega

/-! ## The operations of a block -/

section Ops
variable {F : FTy → Type} [FloatOps F]

/-- Half of the rows, or of the columns, of a projection of the normalised rows. -/
def rowP (a : Vec F S256x1024 .bf16) (b : Vec F S1024x512 .bf16) : FVec F S1x256x512 .f32 :=
  shapeCast S1x256x512 (matmul dot_S256x1024_S1024x512_S256x512_1_0_0_1_n_n none a (shapeCast S1024x512 b shapeCasts_S1024x512_S1024x512) (constant S256x512 .f32 0x00000000#32)) shapeCasts_S256x512_S1x256x512
def colP (a : Vec F S512x1024 .bf16) (b : Vec F S1024x256 .bf16) : FVec F S1x512x256 .f32 :=
  shapeCast S1x512x256 (matmul dot_S512x1024_S1024x256_S512x256_1_0_0_1_n_n none a (shapeCast S1024x256 b shapeCasts_S1024x256_S1024x256) (constant S512x256 .f32 0x00000000#32)) shapeCasts_S512x256_S1x512x256

/-- One array times the sigmoid of another, and the product of two. -/
def gluT (a g : Vec F S1x32x512 .f32) : FVec F S32x512 .f32 :=
  mulf (shapeCast S32x512 a shapeCasts_S1x32x512_S32x512) (divf (broadcast S32x512 (Scalar.ofBits .f32 0x3F800000#32))
    (addf (broadcast S32x512 (Scalar.ofBits .f32 0x3F800000#32)) (exp (subf (broadcast S32x512 (Scalar.ofBits .f32 0x00000000#32)) (shapeCast S32x512 g shapeCasts_S1x32x512_S32x512)))))
def mulT (a g : Vec F S1x32x512 .f32) : FVec F S32x512 .f32 :=
  mulf (shapeCast S32x512 a shapeCasts_S1x32x512_S32x512) (shapeCast S32x512 g shapeCasts_S1x32x512_S32x512)

/-- The four lane blocks of thirty-two rows, as they are stored. -/
def lan0 (g : FVec F S32x512 .f32) : FVec F S1x32x128 .f32 := shapeCast S1x32x128 (extractStridedSlice S32x128 ![0, 0] g slices_S32x512_o0_0_S32x128) shapeCasts_S32x128_S1x32x128
def lan1 (g : FVec F S32x512 .f32) : FVec F S1x32x128 .f32 := shapeCast S1x32x128 (extractStridedSlice S32x128 ![0, 128] g slices_S32x512_o0_128_S32x128) shapeCasts_S32x128_S1x32x128
def lan2 (g : FVec F S32x512 .f32) : FVec F S1x32x128 .f32 := shapeCast S1x32x128 (extractStridedSlice S32x128 ![0, 256] g slices_S32x512_o0_256_S32x128) shapeCasts_S32x128_S1x32x128
def lan3 (g : FVec F S32x512 .f32) : FVec F S1x32x128 .f32 := shapeCast S1x32x128 (extractStridedSlice S32x128 ![0, 384] g slices_S32x512_o0_384_S32x128) shapeCasts_S32x128_S1x32x128

/-- Four lane blocks side by side. -/
def cat4 (a b c d : FVec F S32x128 .f32) : FVec F S32x512 .f32 :=
  concatenate S32x512 1 [⟨S32x128, a⟩, ⟨S32x128, b⟩, ⟨S32x128, c⟩, ⟨S32x128, d⟩] concatenates_S32x128_S32x128_S32x128_S32x128_S32x512_d1

/-- Eight equal rows made thirty-two. -/
def repl (w : Vec F S8x128 .f32) : FVec F S32x128 .f32 :=
  concatenate S32x128 0 [⟨S8x128, shapeCast S8x128 w shapeCasts_S8x128_S8x128⟩, ⟨S8x128, shapeCast S8x128 w shapeCasts_S8x128_S8x128⟩, ⟨S8x128, shapeCast S8x128 w shapeCasts_S8x128_S8x128⟩, ⟨S8x128, shapeCast S8x128 w shapeCasts_S8x128_S8x128⟩] concatenates_S8x128_S8x128_S8x128_S8x128_S32x128_d0
def repw (w : Vec F S8x512 .f32) : FVec F S32x512 .f32 :=
  concatenate S32x512 0 [⟨S8x512, shapeCast S8x512 w shapeCasts_S8x512_S8x512⟩, ⟨S8x512, shapeCast S8x512 w shapeCasts_S8x512_S8x512⟩, ⟨S8x512, shapeCast S8x512 w shapeCasts_S8x512_S8x512⟩, ⟨S8x512, shapeCast S8x512 w shapeCasts_S8x512_S8x512⟩] concatenates_S8x512_S8x512_S8x512_S8x512_S32x512_d0

/-- One tap of a convolution on a lane block, and all of them. -/
def tapT (w : Vec F S8x128 .f32) (u : Vec F S1x32x128 .f32) : FVec F S32x128 .f32 := mulf (repl w) (shapeCast S32x128 u shapeCasts_S1x32x128_S32x128)
def lane31 (w0 w1 w2 w3 w4 w5 w6 w7 w8 w9 w10 w11 w12 w13 w14 w15 w16 w17 w18 w19 w20 w21 w22 w23 w24 w25 w26 w27 w28 w29 w30 : Vec F S8x128 .f32) (u0 u1 u2 u3 u4 u5 u6 u7 u8 u9 u10 u11 u12 u13 u14 u15 u16 u17 u18 u19 u20 u21 u22 u23 u24 u25 u26 u27 u28 u29 u30 : Vec F S1x32x128 .f32) : FVec F S32x128 .f32 :=
  addf (addf (addf (addf (addf (addf (addf (addf (addf (addf (addf (addf (addf (addf (addf (addf (addf (addf (addf (addf (addf (addf (addf (addf (addf (addf (addf (addf (addf (addf (tapT w0 u0) (tapT w1 u1)) (tapT w2 u2)) (tapT w3 u3)) (tapT w4 u4)) (tapT w5 u5)) (tapT w6 u6)) (tapT w7 u7)) (tapT w8 u8)) (tapT w9 u9)) (tapT w10 u10)) (tapT w11 u11)) (tapT w12 u12)) (tapT w13 u13)) (tapT w14 u14)) (tapT w15 u15)) (tapT w16 u16)) (tapT w17 u17)) (tapT w18 u18)) (tapT w19 u19)) (tapT w20 u20)) (tapT w21 u21)) (tapT w22 u22)) (tapT w23 u23)) (tapT w24 u24)) (tapT w25 u25)) (tapT w26 u26)) (tapT w27 u27)) (tapT w28 u28)) (tapT w29 u29)) (tapT w30 u30)
def lane3 (w0 w1 w2 : Vec F S8x128 .f32) (u0 u1 u2 : Vec F S1x32x128 .f32) : FVec F S32x128 .f32 :=
  addf (addf (tapT w0 u0) (tapT w1 u1)) (tapT w2 u2)

/-- The mean of each row, the rows less it, and the rows normalised. -/
def muT (u : FVec F S32x512 .f32) : FVec F S32x1 .f32 :=
  divf (shapeCast S32x1 (multiReduction .add [1] S32 u 0x00000000#32 reduces_S32x512_S32 (.inl rfl) rfl) shapeCasts_S32_S32x1) (broadcast S32x1 (Scalar.ofBits .f32 0x44000000#32))
def cenT (u : FVec F S32x512 .f32) : FVec F S32x512 .f32 := subf u (broadcastTo S32x512 (muT u) broadcasts_S32x1_S32x512)
def lnT (c : FVec F S32x512 .f32) (g b : Vec F S8x512 .f32) : FVec F S32x512 .f32 :=
  addf (mulf (mulf c (broadcastTo S32x512 (rsqrt (addf (muT (mulf c c)) (broadcast S32x1 (Scalar.ofBits .f32 0x358637BD#32)))) broadcasts_S32x1_S32x512)) (repw g)) (repw b)
def siluT (y : FVec F S32x512 .f32) : FVec F S32x512 .bf16 :=
  shapeCast S32x512 (truncf .bf16 (mulf y (divf (broadcast S32x512 (Scalar.ofBits .f32 0x3F800000#32))
    (addf (broadcast S32x512 (Scalar.ofBits .f32 0x3F800000#32)) (exp (subf (broadcast S32x512 (Scalar.ofBits .f32 0x00000000#32)) y))))) bitsLt_bf16_f32) shapeCasts_S32x512_S32x512

/-- Thirty-two rows of the two convolutions' outputs, and a quarter of the block's result. -/
def cfT (u : FVec F S32x512 .f32) (b g bb : Vec F S8x512 .f32) : FVec F S32x512 .bf16 := siluT (lnT (cenT (addf u (repw b))) g bb)
def scT (u : FVec F S32x512 .f32) (z : Vec F S1x32x512 .f32) : FVec F S32x512 .bf16 :=
  shapeCast S32x512 (truncf .bf16 (mulf (shapeCast S32x512 z shapeCasts_S1x32x512_S32x512) u) bitsLt_bf16_f32) shapeCasts_S32x512_S32x512
def outT (x : Vec F S1x128x1024 .f32) (a : Vec F S128x1024 .bf16) (w : Vec F S1024x1024 .bf16) : FVec F S1x128x1024 .f32 :=
  shapeCast S1x128x1024 (addf (shapeCast S128x1024 x shapeCasts_S1x128x1024_S128x1024)
    (matmul dot_S128x1024_S1024x1024_S128x1024_1_0_0_1_n_n none a (shapeCast S1024x1024 w shapeCasts_S1024x1024_S1024x1024) (constant S128x1024 .f32 0x00000000#32))) shapeCasts_S128x1024_S1x128x1024
end Ops

/-! ## They, at an index -/

/-- The sigmoid, as the kernel computes it. -/
def sgm (x : EReal) : EReal := Ideal.div (Ideal.ofBits .f32 0x3F800000#32) (Ideal.ofBits .f32 0x3F800000#32 + Ideal.exp (0 - x))

section AtIndex
variable (i : Fin 32) (j : Fin 512) (l : Fin 128)

theorem rowP_apply (a : Vec Ideal S256x1024 .bf16) (b : Vec Ideal S1024x512 .bf16) (z : Fin 1) (i : Fin 256) (j : Fin 512) :
    rowP a b (ix3 z i j) = ∑ k : Fin 1024, a (ix2 i k) * b (ix2 k j) := by
  pointwise [rowP]
theorem colP_apply (a : Vec Ideal S512x1024 .bf16) (b : Vec Ideal S1024x256 .bf16) (z : Fin 1) (i : Fin 512) (j : Fin 256) :
    colP a b (ix3 z i j) = ∑ k : Fin 1024, a (ix2 i k) * b (ix2 k j) := by
  pointwise [colP]
theorem gluT_apply (a g : Vec Ideal S1x32x512 .f32) : gluT a g (ix2 i j) = a (ix3 (0 : Fin 1) i j) * sgm (g (ix3 (0 : Fin 1) i j)) := by
  pointwise [gluT, sgm]
theorem mulT_apply (a g : Vec Ideal S1x32x512 .f32) : mulT a g (ix2 i j) = a (ix3 (0 : Fin 1) i j) * g (ix3 (0 : Fin 1) i j) := by
  pointwise [mulT]
theorem lan0_apply (g : FVec Ideal S32x512 .f32) (z : Fin 1) : lan0 g (ix3 z i l) = g (ix2 i (⟨l.val, by omega⟩ : Fin 512)) := by
  pointwise [lan0]
theorem lan1_apply (g : FVec Ideal S32x512 .f32) (z : Fin 1) : lan1 g (ix3 z i l) = g (ix2 i (⟨128 + l.val, by omega⟩ : Fin 512)) := by
  pointwise [lan1]
theorem lan2_apply (g : FVec Ideal S32x512 .f32) (z : Fin 1) : lan2 g (ix3 z i l) = g (ix2 i (⟨256 + l.val, by omega⟩ : Fin 512)) := by
  pointwise [lan2]
theorem lan3_apply (g : FVec Ideal S32x512 .f32) (z : Fin 1) : lan3 g (ix3 z i l) = g (ix2 i (⟨384 + l.val, by omega⟩ : Fin 512)) := by
  pointwise [lan3]
theorem cat4_apply (a b c d : FVec Ideal S32x128 .f32) (P : Fin 512 → EReal)
    (ha : ∀ l : Fin 128, a (ix2 i l) = P ⟨128 * 0 + l.val, by omega⟩) (hb : ∀ l : Fin 128, b (ix2 i l) = P ⟨128 * 1 + l.val, by omega⟩)
    (hc : ∀ l : Fin 128, c (ix2 i l) = P ⟨128 * 2 + l.val, by omega⟩) (hd : ∀ l : Fin 128, d (ix2 i l) = P ⟨128 * 3 + l.val, by omega⟩) :
    cat4 a b c d (ix2 i j) = P j := by
  pointwise [cat4]
  repeat' split
  · exact (ha _).trans (congrArg P (Fin.ext (by show 128 * 0 + _ = j.val; dsimp only; omega)))
  · exact (hb _).trans (congrArg P (Fin.ext (by show 128 * 1 + _ = j.val; dsimp only; omega)))
  · exact (hc _).trans (congrArg P (Fin.ext (by show 128 * 2 + _ = j.val; dsimp only; omega)))
  · exact (hd _).trans (congrArg P (Fin.ext (by show 128 * 3 + _ = j.val; dsimp only; omega)))
theorem repl_apply (w : Vec Ideal S8x128 .f32) : repl w (ix2 i l) = w (ix2 (⟨i.val % 8, by omega⟩ : Fin 8) l) := by
  pointwise [repl]
  have e : ∀ (n : ℕ) (h : n < 8), n = i.val % 8 → w (ix2 (⟨n, h⟩ : Fin 8) l) = w (ix2 (⟨i.val % 8, by omega⟩ : Fin 8) l) := by
    intro n h hn; subst hn; rfl
  repeat' split
  all_goals exact e _ _ (by omega)
theorem repw_apply (w : Vec Ideal S8x512 .f32) : repw w (ix2 i j) = w (ix2 (⟨i.val % 8, by omega⟩ : Fin 8) j) := by
  pointwise [repw]
  have e : ∀ (n : ℕ) (h : n < 8), n = i.val % 8 → w (ix2 (⟨n, h⟩ : Fin 8) j) = w (ix2 (⟨i.val % 8, by omega⟩ : Fin 8) j) := by
    intro n h hn; subst hn; rfl
  repeat' split
  all_goals exact e _ _ (by omega)
theorem tapT_apply (w : Vec Ideal S8x128 .f32) (u : Vec Ideal S1x32x128 .f32) : tapT w u (ix2 i l) = repl w (ix2 i l) * u (ix3 (0 : Fin 1) i l) := by
  have e : shapeCast S32x128 u shapeCasts_S1x32x128_S32x128 (ix2 i l) = u (ix3 (0 : Fin 1) i l) := by pointwise
  exact congrArg (repl w (ix2 i l) * ·) e
theorem muT_apply (u : FVec Ideal S32x512 .f32) : muT u (ix2 i (0 : Fin 1)) = Ideal.div (∑ q : Fin 512, u (ix2 i q)) (Ideal.ofBits .f32 0x44000000#32) := by
  pointwise [muT]
theorem cenT_apply (u : FVec Ideal S32x512 .f32) : cenT u (ix2 i j) = u (ix2 i j) - muT u (ix2 i (0 : Fin 1)) := by
  pointwise [cenT]
theorem siluT_apply (y : FVec Ideal S32x512 .f32) : siluT y (ix2 i j) = y (ix2 i j) * sgm (y (ix2 i j)) := by
  pointwise [siluT, sgm]
theorem lnT_apply (c : FVec Ideal S32x512 .f32) (g b : Vec Ideal S8x512 .f32) :
    lnT c g b (ix2 i j) = c (ix2 i j) * Ideal.rsqrt (muT (mulf c c) (ix2 i (0 : Fin 1)) + Ideal.ofBits .f32 0x358637BD#32) * repw g (ix2 i j) + repw b (ix2 i j) := by
  have e : ∀ r : FVec Ideal S32x1 .f32, broadcastTo S32x512 r broadcasts_S32x1_S32x512 (ix2 i j) = r (ix2 i (0 : Fin 1)) := by
    intro r; pointwise
  exact congrArg (fun t => c (ix2 i j) * t * repw g (ix2 i j) + repw b (ix2 i j)) (e _)
theorem scT_apply (u : FVec Ideal S32x512 .f32) (z : Vec Ideal S1x32x512 .f32) : scT u z (ix2 i j) = z (ix3 (0 : Fin 1) i j) * u (ix2 i j) := by
  pointwise [scT]
theorem outT_apply (x : Vec Ideal S1x128x1024 .f32) (a : Vec Ideal S128x1024 .bf16) (w : Vec Ideal S1024x1024 .bf16) (z : Fin 1) (n : Fin 128) (d : Fin 1024) :
    outT x a w (ix3 z n d) = x (ix3 (0 : Fin 1) n d) + ∑ q : Fin 1024, a (ix2 n q) * w (ix2 q d) := by
  pointwise [outT]
end AtIndex

end Cert.EvenKernelIdeal.Hand

end
-- ==== Proof.EvenBlock.lean ====
/- One block of 512 rows of the even mixer: its buffers as functions of the input blocks and of the rows carried over,
   and what each stage's stores add to what the buffers hold. -/
module

public import proofs.«01_k».proof.Proof.EvenTile

@[expose] public section

set_option maxRecDepth 16384

noncomputable section

namespace Cert.EvenKernelIdeal.Hand

open Cert.EvenKernelIdeal Cert.EvenKernelIdeal.Gen
open Idealize.ShloMosaic Idealize.ShloMosaic.TcCoe

/-! ## The formulas -/

/-- The sum of the first `n` values, from the first on. -/
def csum (f : ℕ → EReal) : ℕ → EReal
  | 0 => 0
  | n + 1 => csum f n + f n

theorem csum_congr {f g : ℕ → EReal} : ∀ n : ℕ, (∀ t < n, f t = g t) → csum f n = csum g n
  | 0, _ => rfl
  | n + 1, h => congrArg₂ (· + ·) (csum_congr n fun t ht => h t (by omega)) (h n (by omega))

/-- The normalised rows. -/
def hI (x0 : S1x512x1024.Idx → EReal) (x1 : S1x1024.Idx → EReal) : S512x1024.Idx → EReal := fun y =>
  x0 (ix3 (0 : Fin 1) (y 0 : Fin 512) (y 1 : Fin 1024)) * Ideal.rsqrt (Ideal.div (∑ k : Fin 1024, x0 (ix3 (0 : Fin 1) (y 0 : Fin 512) k) * x0 (ix3 (0 : Fin 1) (y 0 : Fin 512) k)) (Ideal.ofBits .f32 0x44800000#32) + Ideal.ofBits .f32 0x358637BD#32)
    * x1 (ix2 (0 : Fin 1) (y 1 : Fin 1024))
/-- The projection, in five blocks of columns. -/
def Zf (h : S512x1024.Idx → EReal) (w : S1024x2560.Idx → EReal) : S5x512x512.Idx → EReal := fun y =>
  ∑ k : Fin 1024, h (ix2 (y 1 : Fin 512) k) * w (ix2 k (⟨512 * (y 0).val + (y 2).val, by have := (y 0).isLt; have := (y 2).isLt; simp [S5x512x512] at *; omega⟩ : Fin 2560))
/-- The second convolution's input behind thirty-two rows `halo`; the first's behind eight. -/
def Uf (halo : S4x544x128.Idx → EReal) (Z : S5x512x512.Idx → EReal) : S4x544x128.Idx → EReal := fun y =>
  if hy : (y 1).val < 32 then halo y
  else Z (ix3 (3 : Fin 5) (⟨(y 1).val - 32, by have := (y 1).isLt; simp [S4x544x128] at this; omega⟩ : Fin 512) (⟨128 * (y 0).val + (y 2).val, by have := (y 0).isLt; have := (y 2).isLt; simp [S4x544x128] at *; omega⟩ : Fin 512))
    * sgm (Z (ix3 (4 : Fin 5) (⟨(y 1).val - 32, by have := (y 1).isLt; simp [S4x544x128] at this; omega⟩ : Fin 512) (⟨128 * (y 0).val + (y 2).val, by have := (y 0).isLt; have := (y 2).isLt; simp [S4x544x128] at *; omega⟩ : Fin 512)))
def Cf (halo : S4x520x128.Idx → EReal) (Z : S5x512x512.Idx → EReal) : S4x520x128.Idx → EReal := fun y =>
  if hy : (y 1).val < 8 then halo y
  else Z (ix3 (1 : Fin 5) (⟨(y 1).val - 8, by have := (y 1).isLt; simp [S4x520x128] at this; omega⟩ : Fin 512) (⟨128 * (y 0).val + (y 2).val, by have := (y 0).isLt; have := (y 2).isLt; simp [S4x520x128] at *; omega⟩ : Fin 512))
    * Z (ix3 (2 : Fin 5) (⟨(y 1).val - 8, by have := (y 1).isLt; simp [S4x520x128] at this; omega⟩ : Fin 512) (⟨128 * (y 0).val + (y 2).val, by have := (y 0).isLt; have := (y 2).isLt; simp [S4x520x128] at *; omega⟩ : Fin 512))

/-- A tap of the second convolution, and of the first. -/
def tapU (U : S4x544x128.Idx → EReal) (w : S248x512.Idx → EReal) (n : Fin 512) (q : Fin 512) (t : ℕ) : EReal :=
  w (ix2 (⟨(8 * t + n.val % 8) % 248, by omega⟩ : Fin 248) q)
    * U (ix3 (⟨q.val / 128, by omega⟩ : Fin 4) (⟨(n.val + 2 + t) % 544, by omega⟩ : Fin 544) (⟨q.val % 128, by omega⟩ : Fin 128))
def tapC (C : S4x520x128.Idx → EReal) (w : S24x512.Idx → EReal) (n : Fin 512) (q : Fin 512) (t : ℕ) : EReal :=
  w (ix2 (⟨(8 * t + n.val % 8) % 24, by omega⟩ : Fin 24) q)
    * C (ix3 (⟨q.val / 128, by omega⟩ : Fin 4) (⟨(n.val + 6 + t) % 520, by omega⟩ : Fin 520) (⟨q.val % 128, by omega⟩ : Fin 128))

/-- A row less its mean; a row, less its mean already, normalised, scaled and shifted; and a value times its sigmoid. -/
def mean (r : Fin 512 → EReal) : EReal := Ideal.div (∑ q : Fin 512, r q) (Ideal.ofBits .f32 0x44000000#32)
def cen (r : Fin 512 → EReal) : Fin 512 → EReal := fun q => r q - mean r
def lnorm (c g b : Fin 512 → EReal) : Fin 512 → EReal := fun q =>
  c q * Ideal.rsqrt (mean (fun q => c q * c q) + Ideal.ofBits .f32 0x358637BD#32) * g q + b q
def silu (y : EReal) : EReal := y * sgm y

/-- The convolutions' outputs, side by side. -/
def Catf (U : S4x544x128.Idx → EReal) (C : S4x520x128.Idx → EReal) (Z : S5x512x512.Idx → EReal) (x3 : S24x512.Idx → EReal) (x4 : S248x512.Idx → EReal)
    (x5 x6 x7 : S8x512.Idx → EReal) : S512x1024.Idx → EReal := fun y =>
  if h : (y 1).val < 512 then Z (ix3 (0 : Fin 5) (y 0 : Fin 512) (⟨(y 1).val, h⟩ : Fin 512)) * csum (tapC C x3 (y 0 : Fin 512) ⟨(y 1).val, h⟩) 3
  else silu (lnorm (cen fun q => csum (tapU U x4 (y 0 : Fin 512) q) 31 + x5 (ix2 (⟨(y 0).val % 8, by omega⟩ : Fin 8) q))
    (fun q => x6 (ix2 (⟨(y 0).val % 8, by omega⟩ : Fin 8) q)) (fun q => x7 (ix2 (⟨(y 0).val % 8, by omega⟩ : Fin 8) q))
    ⟨(y 1).val - 512, by have := (y 1).isLt; simp [S512x1024] at this; omega⟩)
/-- The result. -/
def Outf (x0 : S1x512x1024.Idx → EReal) (A : S512x1024.Idx → EReal) (x8 : S1024x1024.Idx → EReal) : S1x512x1024.Idx → EReal := fun y =>
  x0 (ix3 (0 : Fin 1) (y 1 : Fin 512) (y 2 : Fin 1024)) + ∑ q : Fin 1024, A (ix2 (y 1 : Fin 512) q) * x8 (ix2 q (y 2 : Fin 1024))

/-! ## The projection's stores -/

theorem zrow {v : View sig .tc .vmem S5x512x512 .f32} {f : v.ty.Contents (Elt Ideal)} {L : List (View.Piece (Elt Ideal) S5x512x512 .f32)}
    {vh : View sig .tc .vmem S512x1024 .bf16} {fh : vh.ty.Contents (Elt Ideal)} {Lh : List (View.Piece (Elt Ideal) S512x1024 .bf16)}
    {h : S512x1024.Idx → EReal} {m : Memref sig .tc .vmem S1024x2560 .bf16} {hm : m.IsWhole} {x : Vec Ideal S1024x2560 .bf16} {R R' : S5x512x512.Idx → Prop}
    (c r : ℕ) (hc : c < 5) (hr : r + 256 ≤ 512) {i0 ih iw} (hH : Known vh fh Lh h fun _ => True) (hz : Known v f L (Zf h x) R)
    (hR : ∀ y, R' y → ((y 0).val = c ∧ r ≤ (y 1).val ∧ (y 1).val < r + 256) ∨ R y) :
    Known v f (⟨Rect.unit (s := S5x512x512) ![c, r, 0] S1x256x512.size i0,
      rowP (F := Ideal) (View.readAt (Elt Ideal) vh (Rect.unit (s := S512x1024) ![r, 0] S256x1024.size ih).toLoadRect (vh.writes (Elt Ideal) fh Lh))
        (View.readAt (Elt Ideal) m.view (Rect.unit (s := S1024x2560) ![0, 512 * c] S1024x512.size iw).toLoadRect (hm.unread x))⟩ :: L) (Zf h x) R' := by
  refine hz.cons (fun y => ?_) (fun y hy => (hR y hy).imp_left fun hh a => ?_)
  · obtain ⟨z, i, j, rfl⟩ := eta3 (a := 1) (b := 256) (c := 512) y
    refine (rowP_apply _ _ z i j).trans ((Finset.sum_congr rfl fun k _ => ?_).trans (congrArg (Zf h x) (emb3 z i j (⟨c, hc⟩ : Fin 5) (⟨r + i.val, by omega⟩ : Fin 512) (⟨j.val, by omega⟩ : Fin 512)
      (by show c = c + z.val; omega) rfl (by show j.val = 0 + j.val; omega))).symm)
    refine congrArg₂ (· * ·) ((hH.at _ trivial).trans (congrArg h (emb2 i k (⟨r + i.val, by omega⟩ : Fin 512) k rfl (by omega)))) ?_
    rw [hm.readAt_unread]
    exact congrArg x (emb2 k j k (⟨512 * c + j.val, by omega⟩ : Fin 2560) (by omega) rfl)
  · have b2 : (y 2).val < 512 := (y 2).isLt
    match a with
    | ⟨0, _⟩ => show c ≤ (y 0).val ∧ (y 0).val < c + 1; omega
    | ⟨1, _⟩ => show r ≤ (y 1).val ∧ (y 1).val < r + 256; omega
    | ⟨2, _⟩ => show 0 ≤ (y 2).val ∧ (y 2).val < 0 + 512; omega

theorem zcol {v : View sig .tc .vmem S5x512x512 .f32} {f : v.ty.Contents (Elt Ideal)} {L : List (View.Piece (Elt Ideal) S5x512x512 .f32)}
    {vh : View sig .tc .vmem S512x1024 .bf16} {fh : vh.ty.Contents (Elt Ideal)} {Lh : List (View.Piece (Elt Ideal) S512x1024 .bf16)}
    {h : S512x1024.Idx → EReal} {m : Memref sig .tc .vmem S1024x2560 .bf16} {hm : m.IsWhole} {x : Vec Ideal S1024x2560 .bf16} {R R' : S5x512x512.Idx → Prop}
    (c r : ℕ) (hc : c < 5) (hr : r + 256 ≤ 512) {i0 ih iw} (hH : Known vh fh Lh h fun _ => True) (hz : Known v f L (Zf h x) R)
    (hR : ∀ y, R' y → ((y 0).val = c ∧ r ≤ (y 2).val ∧ (y 2).val < r + 256) ∨ R y) :
    Known v f (⟨Rect.unit (s := S5x512x512) ![c, 0, r] S1x512x256.size i0,
      colP (F := Ideal) (View.readAt (Elt Ideal) vh (Rect.unit (s := S512x1024) ![0, 0] S512x1024.size ih).toLoadRect (vh.writes (Elt Ideal) fh Lh))
        (View.readAt (Elt Ideal) m.view (Rect.unit (s := S1024x2560) ![0, 512 * c + r] S1024x256.size iw).toLoadRect (hm.unread x))⟩ :: L) (Zf h x) R' := by
  refine hz.cons (fun y => ?_) (fun y hy => (hR y hy).imp_left fun hh a => ?_)
  · obtain ⟨z, i, j, rfl⟩ := eta3 (a := 1) (b := 512) (c := 256) y
    refine (colP_apply _ _ z i j).trans ((Finset.sum_congr rfl fun k _ => ?_).trans (congrArg (Zf h x) (emb3 z i j (⟨c, hc⟩ : Fin 5) i (⟨r + j.val, by omega⟩ : Fin 512)
      (by show c = c + z.val; omega) (by omega) rfl)).symm)
    refine congrArg₂ (· * ·) ((hH.at _ trivial).trans (congrArg h (emb2 i k i k (by omega) (by omega)))) ?_
    rw [hm.readAt_unread]
    refine congrArg x (emb2 k j k (⟨512 * c + (r + j.val), by omega⟩ : Fin 2560) (by omega) ?_)
    show 512 * c + (r + j.val) = 512 * c + r + j.val
    omega
  · have b1 : (y 1).val < 512 := (y 1).isLt
    match a with
    | ⟨0, _⟩ => show c ≤ (y 0).val ∧ (y 0).val < c + 1; omega
    | ⟨1, _⟩ => show 0 ≤ (y 1).val ∧ (y 1).val < 0 + 512; omega
    | ⟨2, _⟩ => show r ≤ (y 2).val ∧ (y 2).val < r + 256; omega

/-- Thirty-two rows of a block of columns, read back. -/
theorem zread {v : View sig .tc .vmem S5x512x512 .f32} {f : v.ty.Contents (Elt Ideal)} {L : List (View.Piece (Elt Ideal) S5x512x512 .f32)}
    {Z : S5x512x512.Idx → EReal} {R : S5x512x512.Idx → Prop} (hz : Known v f L Z R) (c k : ℕ) (hc : c < 5) (hk : k < 16)
    (hR : ∀ y, (y 0).val = c → 32 * k ≤ (y 1).val → (y 1).val < 32 * k + 32 → R y) {iz} (i : Fin 32) (j : Fin 512) :
    View.readAt (Elt Ideal) v (Rect.unit (s := S5x512x512) ![c, 32 * k, 0] S1x32x512.size iz).toLoadRect (v.writes (Elt Ideal) f L) (ix3 (0 : Fin 1) i j)
      = Z (ix3 (⟨c, hc⟩ : Fin 5) (⟨32 * k + i.val, by omega⟩ : Fin 512) j) := by
  have e := emb3 (inb := iz) (0 : Fin 1) i j (⟨c, hc⟩ : Fin 5) (⟨32 * k + i.val, by omega⟩ : Fin 512) j rfl rfl (by omega)
  refine (hz.at _ ?_).trans (congrArg Z e)
  rw [e]
  exact hR _ rfl (by show 32 * k ≤ 32 * k + i.val; omega) (by show 32 * k + i.val < 32 * k + 32; omega)

/-! ## The convolutions' inputs -/

/-- A lane block of the rows `32 * k` on. -/
theorem ust_lane {v : View sig .tc .vmem S5x512x512 .f32} {f : v.ty.Contents (Elt Ideal)} {L : List (View.Piece (Elt Ideal) S5x512x512 .f32)}
    {Z : S5x512x512.Idx → EReal} {R : S5x512x512.Idx → Prop} {halo : S4x544x128.Idx → EReal} (hz : Known v f L Z R) (k : ℕ) (hk : k < 16)
    (hR : ∀ y, (y 0).val = 3 ∨ (y 0).val = 4 → 32 * k ≤ (y 1).val → (y 1).val < 32 * k + 32 → R y) {i1 i2}
    (lan : FVec Ideal S32x512 .f32 → FVec Ideal S1x32x128 .f32) (a : ℕ) (ha : a < 4) (io : ∀ b, (![a, 32 + 32 * k, 0] : Fin 3 → ℕ) b + S1x32x128.size b ≤ S4x544x128.size b)
    (hl : ∀ (g : FVec Ideal S32x512 .f32) (z : Fin 1) (i : Fin 32) (l : Fin 128), lan g (ix3 z i l) = g (ix2 i (⟨128 * a + l.val, by omega⟩ : Fin 512)))
    (y : (Rect.unit (s := S4x544x128) ![a, 32 + 32 * k, 0] S1x32x128.size io).shape.Idx) :
    lan (gluT (F := Ideal) (View.readAt (Elt Ideal) v (Rect.unit (s := S5x512x512) ![3, 32 * k, 0] S1x32x512.size i1).toLoadRect (v.writes (Elt Ideal) f L))
      (View.readAt (Elt Ideal) v (Rect.unit (s := S5x512x512) ![4, 32 * k, 0] S1x32x512.size i2).toLoadRect (v.writes (Elt Ideal) f L))) y
      = Uf halo Z ((Rect.unit (s := S4x544x128) ![a, 32 + 32 * k, 0] S1x32x128.size io).emb y) := by
  obtain ⟨z, i, l, rfl⟩ := eta3 (a := 1) (b := 32) (c := 128) y
  refine (hl _ z i l).trans ((gluT_apply _ _ _ _).trans ?_)
  rw [zread hz 3 k (by decide) hk (fun y h => hR y (Or.inl h)) i _, zread hz 4 k (by decide) hk (fun y h => hR y (Or.inr h)) i _]
  refine Eq.trans ?_ (congrArg (Uf halo Z) (emb3 (inb := io) z i l (⟨a, ha⟩ : Fin 4) (⟨32 + 32 * k + i.val, by omega⟩ : Fin 544) l (by show a = a + z.val; omega) rfl (by omega))).symm
  refine Eq.trans ?_ (dif_neg (by show ¬(32 + 32 * k + i.val < 32); omega)).symm
  have e : (⟨32 * k + i.val, by omega⟩ : Fin 512) = ⟨32 + 32 * k + i.val - 32, by omega⟩ := Fin.ext (by show 32 * k + i.val = 32 + 32 * k + i.val - 32; omega)
  rw [e]
  rfl

/-- The stores of the rows `32 * k` on. -/
theorem ust_step {v : View sig .tc .vmem S5x512x512 .f32} {f : v.ty.Contents (Elt Ideal)} {L : List (View.Piece (Elt Ideal) S5x512x512 .f32)}
    {Z : S5x512x512.Idx → EReal} {R : S5x512x512.Idx → Prop} {halo : S4x544x128.Idx → EReal} {vu : View sig .tc .vmem S4x544x128 .f32} {fu : vu.ty.Contents (Elt Ideal)}
    {Lu : List (View.Piece (Elt Ideal) S4x544x128 .f32)} {lo : ℕ} (k : ℕ) (hk : k < 16) (hz : Known v f L Z R)
    (hR : ∀ y, (y 0).val = 3 ∨ (y 0).val = 4 → 32 * k ≤ (y 1).val → (y 1).val < 32 * k + 32 → R y) {i1 i2 o0 o1 o2 o3}
    (hu : Known vu fu Lu (Uf halo Z) fun y => lo ≤ (y 1).val ∧ (y 1).val < 32 + 32 * k) :
    let g := gluT (F := Ideal) (View.readAt (Elt Ideal) v (Rect.unit (s := S5x512x512) ![3, 32 * k, 0] S1x32x512.size i1).toLoadRect (v.writes (Elt Ideal) f L))
      (View.readAt (Elt Ideal) v (Rect.unit (s := S5x512x512) ![4, 32 * k, 0] S1x32x512.size i2).toLoadRect (v.writes (Elt Ideal) f L))
    Known vu fu (⟨Rect.unit (s := S4x544x128) ![3, 32 + 32 * k, 0] S1x32x128.size o3, lan3 g⟩ :: ⟨Rect.unit (s := S4x544x128) ![2, 32 + 32 * k, 0] S1x32x128.size o2, lan2 g⟩
      :: ⟨Rect.unit (s := S4x544x128) ![1, 32 + 32 * k, 0] S1x32x128.size o1, lan1 g⟩ :: ⟨Rect.unit (s := S4x544x128) ![0, 32 + 32 * k, 0] S1x32x128.size o0, lan0 g⟩ :: Lu)
      (Uf halo Z) fun y => lo ≤ (y 1).val ∧ (y 1).val < 32 + 32 * (k + 1) := by
  have e0 : ∀ (g : FVec Ideal S32x512 .f32) (z : Fin 1) (i : Fin 32) (l : Fin 128), lan0 g (ix3 z i l) = g (ix2 i (⟨128 * 0 + l.val, by omega⟩ : Fin 512)) := fun g z i l =>
    (lan0_apply i l g z).trans (congrArg (fun q : Fin 512 => g (ix2 i q)) (Fin.ext (by show l.val = 128 * 0 + l.val; omega)))
  have hh : Known vu fu Lu (Uf halo Z) fun y => (lo ≤ (y 1).val ∧ (y 1).val < 32 + 32 * k) := hu
  have in4 : ∀ (a : ℕ) (y : S4x544x128.Idx), (y 0).val = a → 32 + 32 * k ≤ (y 1).val → (y 1).val < 32 + 32 * (k + 1) →
      ∀ b, (![a, 32 + 32 * k, 0] : Fin 3 → ℕ) b ≤ (y b).val ∧ (y b).val < (![a, 32 + 32 * k, 0] : Fin 3 → ℕ) b + S1x32x128.size b := by
    intro a y h0 h1 h1' b
    have b2 : (y 2).val < 128 := (y 2).isLt
    match b with
    | ⟨0, _⟩ => show a ≤ (y 0).val ∧ (y 0).val < a + 1; omega
    | ⟨1, _⟩ => show 32 + 32 * k ≤ (y 1).val ∧ (y 1).val < 32 + 32 * k + 32; omega
    | ⟨2, _⟩ => show 0 ≤ (y 2).val ∧ (y 2).val < 0 + 128; omega
  refine Known.cons (R := fun y => lo ≤ (y 1).val ∧ ((y 1).val < 32 + 32 * k ∨ ((y 1).val < 32 + 32 * (k + 1) ∧ (y 0).val < 3)))
    (Known.cons (R := fun y => lo ≤ (y 1).val ∧ ((y 1).val < 32 + 32 * k ∨ ((y 1).val < 32 + 32 * (k + 1) ∧ (y 0).val < 2)))
    (Known.cons (R := fun y => lo ≤ (y 1).val ∧ ((y 1).val < 32 + 32 * k ∨ ((y 1).val < 32 + 32 * (k + 1) ∧ (y 0).val < 1)))
    (Known.cons hh (ust_lane hz k hk hR lan0 0 (by decide) o0 e0) ?_)
    (ust_lane hz k hk hR lan1 1 (by decide) o1 fun g z i l => lan1_apply i l g z) ?_)
    (ust_lane hz k hk hR lan2 2 (by decide) o2 fun g z i l => lan2_apply i l g z) ?_)
    (ust_lane hz k hk hR lan3 3 (by decide) o3 fun g z i l => lan3_apply i l g z) ?_
  · intro y hy
    have b0 : (y 0).val < 4 := (y 0).isLt
    by_cases hin : (y 0).val = 0 ∧ 32 + 32 * k ≤ (y 1).val
    · exact Or.inl (in4 0 y hin.1 hin.2 (by dsimp only at hy; omega))
    · refine Or.inr ?_
      dsimp only at hy ⊢
      omega
  · intro y hy
    have b0 : (y 0).val < 4 := (y 0).isLt
    by_cases hin : (y 0).val = 1 ∧ 32 + 32 * k ≤ (y 1).val
    · exact Or.inl (in4 1 y hin.1 hin.2 (by dsimp only at hy; omega))
    · refine Or.inr ?_
      dsimp only at hy ⊢
      omega
  · intro y hy
    have b0 : (y 0).val < 4 := (y 0).isLt
    by_cases hin : (y 0).val = 2 ∧ 32 + 32 * k ≤ (y 1).val
    · exact Or.inl (in4 2 y hin.1 hin.2 (by dsimp only at hy; omega))
    · refine Or.inr ?_
      dsimp only at hy ⊢
      omega
  · intro y hy
    have b0 : (y 0).val < 4 := (y 0).isLt
    by_cases hin : (y 0).val = 3 ∧ 32 + 32 * k ≤ (y 1).val
    · exact Or.inl (in4 3 y hin.1 hin.2 (by dsimp only at hy; omega))
    · refine Or.inr ?_
      dsimp only at hy ⊢
      omega

/-- A lane block of the rows `32 * k` on. -/
theorem cst_lane {v : View sig .tc .vmem S5x512x512 .f32} {f : v.ty.Contents (Elt Ideal)} {L : List (View.Piece (Elt Ideal) S5x512x512 .f32)}
    {Z : S5x512x512.Idx → EReal} {R : S5x512x512.Idx → Prop} {halo : S4x520x128.Idx → EReal} (hz : Known v f L Z R) (k : ℕ) (hk : k < 16)
    (hR : ∀ y, (y 0).val = 1 ∨ (y 0).val = 2 → 32 * k ≤ (y 1).val → (y 1).val < 32 * k + 32 → R y) {i1 i2}
    (lan : FVec Ideal S32x512 .f32 → FVec Ideal S1x32x128 .f32) (a : ℕ) (ha : a < 4) (io : ∀ b, (![a, 8 + 32 * k, 0] : Fin 3 → ℕ) b + S1x32x128.size b ≤ S4x520x128.size b)
    (hl : ∀ (g : FVec Ideal S32x512 .f32) (z : Fin 1) (i : Fin 32) (l : Fin 128), lan g (ix3 z i l) = g (ix2 i (⟨128 * a + l.val, by omega⟩ : Fin 512)))
    (y : (Rect.unit (s := S4x520x128) ![a, 8 + 32 * k, 0] S1x32x128.size io).shape.Idx) :
    lan (mulT (F := Ideal) (View.readAt (Elt Ideal) v (Rect.unit (s := S5x512x512) ![1, 32 * k, 0] S1x32x512.size i1).toLoadRect (v.writes (Elt Ideal) f L))
      (View.readAt (Elt Ideal) v (Rect.unit (s := S5x512x512) ![2, 32 * k, 0] S1x32x512.size i2).toLoadRect (v.writes (Elt Ideal) f L))) y
      = Cf halo Z ((Rect.unit (s := S4x520x128) ![a, 8 + 32 * k, 0] S1x32x128.size io).emb y) := by
  obtain ⟨z, i, l, rfl⟩ := eta3 (a := 1) (b := 32) (c := 128) y
  refine (hl _ z i l).trans ((mulT_apply _ _ _ _).trans ?_)
  rw [zread hz 1 k (by decide) hk (fun y h => hR y (Or.inl h)) i _, zread hz 2 k (by decide) hk (fun y h => hR y (Or.inr h)) i _]
  refine Eq.trans ?_ (congrArg (Cf halo Z) (emb3 (inb := io) z i l (⟨a, ha⟩ : Fin 4) (⟨8 + 32 * k + i.val, by omega⟩ : Fin 520) l (by show a = a + z.val; omega) rfl (by omega))).symm
  refine Eq.trans ?_ (dif_neg (by show ¬(8 + 32 * k + i.val < 8); omega)).symm
  have e : (⟨32 * k + i.val, by omega⟩ : Fin 512) = ⟨8 + 32 * k + i.val - 8, by omega⟩ := Fin.ext (by show 32 * k + i.val = 8 + 32 * k + i.val - 8; omega)
  rw [e]
  rfl

/-- The stores of the rows `32 * k` on. -/
theorem cst_step {v : View sig .tc .vmem S5x512x512 .f32} {f : v.ty.Contents (Elt Ideal)} {L : List (View.Piece (Elt Ideal) S5x512x512 .f32)}
    {Z : S5x512x512.Idx → EReal} {R : S5x512x512.Idx → Prop} {halo : S4x520x128.Idx → EReal} {vu : View sig .tc .vmem S4x520x128 .f32} {fu : vu.ty.Contents (Elt Ideal)}
    {Lu : List (View.Piece (Elt Ideal) S4x520x128 .f32)} {lo : ℕ} (k : ℕ) (hk : k < 16) (hz : Known v f L Z R)
    (hR : ∀ y, (y 0).val = 1 ∨ (y 0).val = 2 → 32 * k ≤ (y 1).val → (y 1).val < 32 * k + 32 → R y) {i1 i2 o0 o1 o2 o3}
    (hu : Known vu fu Lu (Cf halo Z) fun y => lo ≤ (y 1).val ∧ (y 1).val < 8 + 32 * k) :
    let g := mulT (F := Ideal) (View.readAt (Elt Ideal) v (Rect.unit (s := S5x512x512) ![1, 32 * k, 0] S1x32x512.size i1).toLoadRect (v.writes (Elt Ideal) f L))
      (View.readAt (Elt Ideal) v (Rect.unit (s := S5x512x512) ![2, 32 * k, 0] S1x32x512.size i2).toLoadRect (v.writes (Elt Ideal) f L))
    Known vu fu (⟨Rect.unit (s := S4x520x128) ![3, 8 + 32 * k, 0] S1x32x128.size o3, lan3 g⟩ :: ⟨Rect.unit (s := S4x520x128) ![2, 8 + 32 * k, 0] S1x32x128.size o2, lan2 g⟩
      :: ⟨Rect.unit (s := S4x520x128) ![1, 8 + 32 * k, 0] S1x32x128.size o1, lan1 g⟩ :: ⟨Rect.unit (s := S4x520x128) ![0, 8 + 32 * k, 0] S1x32x128.size o0, lan0 g⟩ :: Lu)
      (Cf halo Z) fun y => lo ≤ (y 1).val ∧ (y 1).val < 8 + 32 * (k + 1) := by
  have e0 : ∀ (g : FVec Ideal S32x512 .f32) (z : Fin 1) (i : Fin 32) (l : Fin 128), lan0 g (ix3 z i l) = g (ix2 i (⟨128 * 0 + l.val, by omega⟩ : Fin 512)) := fun g z i l =>
    (lan0_apply i l g z).trans (congrArg (fun q : Fin 512 => g (ix2 i q)) (Fin.ext (by show l.val = 128 * 0 + l.val; omega)))
  have hh : Known vu fu Lu (Cf halo Z) fun y => (lo ≤ (y 1).val ∧ (y 1).val < 8 + 32 * k) := hu
  have in4 : ∀ (a : ℕ) (y : S4x520x128.Idx), (y 0).val = a → 8 + 32 * k ≤ (y 1).val → (y 1).val < 8 + 32 * (k + 1) →
      ∀ b, (![a, 8 + 32 * k, 0] : Fin 3 → ℕ) b ≤ (y b).val ∧ (y b).val < (![a, 8 + 32 * k, 0] : Fin 3 → ℕ) b + S1x32x128.size b := by
    intro a y h0 h1 h1' b
    have b2 : (y 2).val < 128 := (y 2).isLt
    match b with
    | ⟨0, _⟩ => show a ≤ (y 0).val ∧ (y 0).val < a + 1; omega
    | ⟨1, _⟩ => show 8 + 32 * k ≤ (y 1).val ∧ (y 1).val < 8 + 32 * k + 32; omega
    | ⟨2, _⟩ => show 0 ≤ (y 2).val ∧ (y 2).val < 0 + 128; omega
  refine Known.cons (R := fun y => lo ≤ (y 1).val ∧ ((y 1).val < 8 + 32 * k ∨ ((y 1).val < 8 + 32 * (k + 1) ∧ (y 0).val < 3)))
    (Known.cons (R := fun y => lo ≤ (y 1).val ∧ ((y 1).val < 8 + 32 * k ∨ ((y 1).val < 8 + 32 * (k + 1) ∧ (y 0).val < 2)))
    (Known.cons (R := fun y => lo ≤ (y 1).val ∧ ((y 1).val < 8 + 32 * k ∨ ((y 1).val < 8 + 32 * (k + 1) ∧ (y 0).val < 1)))
    (Known.cons hh (cst_lane hz k hk hR lan0 0 (by decide) o0 e0) ?_)
    (cst_lane hz k hk hR lan1 1 (by decide) o1 fun g z i l => lan1_apply i l g z) ?_)
    (cst_lane hz k hk hR lan2 2 (by decide) o2 fun g z i l => lan2_apply i l g z) ?_)
    (cst_lane hz k hk hR lan3 3 (by decide) o3 fun g z i l => lan3_apply i l g z) ?_
  · intro y hy
    have b0 : (y 0).val < 4 := (y 0).isLt
    by_cases hin : (y 0).val = 0 ∧ 8 + 32 * k ≤ (y 1).val
    · exact Or.inl (in4 0 y hin.1 hin.2 (by dsimp only at hy; omega))
    · refine Or.inr ?_
      dsimp only at hy ⊢
      omega
  · intro y hy
    have b0 : (y 0).val < 4 := (y 0).isLt
    by_cases hin : (y 0).val = 1 ∧ 8 + 32 * k ≤ (y 1).val
    · exact Or.inl (in4 1 y hin.1 hin.2 (by dsimp only at hy; omega))
    · refine Or.inr ?_
      dsimp only at hy ⊢
      omega
  · intro y hy
    have b0 : (y 0).val < 4 := (y 0).isLt
    by_cases hin : (y 0).val = 2 ∧ 8 + 32 * k ≤ (y 1).val
    · exact Or.inl (in4 2 y hin.1 hin.2 (by dsimp only at hy; omega))
    · refine Or.inr ?_
      dsimp only at hy ⊢
      omega
  · intro y hy
    have b0 : (y 0).val < 4 := (y 0).isLt
    by_cases hin : (y 0).val = 3 ∧ 8 + 32 * k ≤ (y 1).val
    · exact Or.inl (in4 3 y hin.1 hin.2 (by dsimp only at hy; omega))
    · refine Or.inr ?_
      dsimp only at hy ⊢
      omega

/-! ## The convolutions -/

/-- A lane block holds the first `n` taps' sum. -/
def LaneU (acc : FVec Ideal S32x128 .f32) (U : S4x544x128.Idx → EReal) (w : S248x512.Idx → EReal) (k a n : ℕ) : Prop :=
  ∀ (i : Fin 32) (l : Fin 128) (p q : Fin 512), p.val = 32 * k + i.val → q.val = 128 * a + l.val → acc (ix2 i l) = csum (tapU U w p q) n

theorem tapU_ok {v : View sig .tc .vmem S4x544x128 .f32} {f : v.ty.Contents (Elt Ideal)} {L : List (View.Piece (Elt Ideal) S4x544x128 .f32)}
    {U : S4x544x128.Idx → EReal} {lo hi : ℕ} {m : Memref sig .tc .vmem S248x512 .f32} {hm : m.IsWhole} {x : Vec Ideal S248x512 .f32}
    (hu : Known v f L U fun y => lo ≤ (y 1).val ∧ (y 1).val < hi) (k a t : ℕ) (hk : k < 16) (ha : a < 4) (ht : t < 31) (hlo : lo ≤ 2 + 32 * k + t) (hhi : 2 + 32 * k + t + 32 ≤ hi) {iw iu}
    (i : Fin 32) (l : Fin 128) (p q : Fin 512) (hp : p.val = 32 * k + i.val) (hq : q.val = 128 * a + l.val) :
    tapT (F := Ideal) (View.readAt (Elt Ideal) m.view (Rect.unit (s := S248x512) ![8 * t, 128 * a] S8x128.size iw).toLoadRect (hm.unread x))
      (View.readAt (Elt Ideal) v (Rect.unit (s := S4x544x128) ![a, 2 + 32 * k + t, 0] S1x32x128.size iu).toLoadRect (v.writes (Elt Ideal) f L)) (ix2 i l)
      = tapU U x p q t := by
  refine (tapT_apply i l _ _).trans (congrArg₂ (· * ·) ?_ ?_)
  · rw [repl_apply, hm.readAt_unread]
    refine congrArg x (emb2 _ l (⟨(8 * t + p.val % 8) % 248, by omega⟩ : Fin 248) q ?_ hq)
    show (8 * t + p.val % 8) % 248 = 8 * t + i.val % 8
    omega
  · have e := emb3 (inb := iu) (0 : Fin 1) i l (⟨q.val / 128, by omega⟩ : Fin 4) (⟨(p.val + 2 + t) % 544, by omega⟩ : Fin 544) (⟨q.val % 128, by omega⟩ : Fin 128)
      (by show q.val / 128 = a + 0; omega) (by show (p.val + 2 + t) % 544 = 2 + 32 * k + t + i.val; omega) (by show q.val % 128 = 0 + l.val; omega)
    refine (hu.at _ ?_).trans (congrArg U e)
    rw [e]
    show lo ≤ (p.val + 2 + t) % 544 ∧ (p.val + 2 + t) % 544 < hi
    omega

/-- The taps of a lane block: the last one may read another part of the stores than the others. -/
theorem laneU_ok {v : View sig .tc .vmem S4x544x128 .f32} {fa fc : v.ty.Contents (Elt Ideal)} {L : List (View.Piece (Elt Ideal) S4x544x128 .f32)}
    {U : S4x544x128.Idx → EReal} {la lc hi : ℕ} {m : Memref sig .tc .vmem S248x512 .f32} {hm : m.IsWhole} {x : Vec Ideal S248x512 .f32}
    (k a : ℕ) (hk : k < 16) (ha : a < 4) (hu : Known v fa L U fun y => la ≤ (y 1).val ∧ (y 1).val < hi) (hla : la ≤ 2 + 32 * k)
    (hv : Known v fc L U fun y => lc ≤ (y 1).val ∧ (y 1).val < hi) (hlc : lc ≤ 32 + 32 * k) (hhi : 32 + 32 * k + 32 ≤ hi)
    {iw0 iw1 iw2 iw3 iw4 iw5 iw6 iw7 iw8 iw9 iw10 iw11 iw12 iw13 iw14 iw15 iw16 iw17 iw18 iw19 iw20 iw21 iw22 iw23 iw24 iw25 iw26 iw27 iw28 iw29 iw30 iu0 iu1 iu2 iu3 iu4 iu5 iu6 iu7 iu8 iu9 iu10 iu11 iu12 iu13 iu14 iu15 iu16 iu17 iu18 iu19 iu20 iu21 iu22 iu23 iu24 iu25 iu26 iu27 iu28 iu29 iu30} :
    LaneU (lane31 (F := Ideal)
      (View.readAt (Elt Ideal) m.view (Rect.unit (s := S248x512) ![8 * 0, 128 * a] S8x128.size iw0).toLoadRect (hm.unread x))
      (View.readAt (Elt Ideal) m.view (Rect.unit (s := S248x512) ![8 * 1, 128 * a] S8x128.size iw1).toLoadRect (hm.unread x))
      (View.readAt (Elt Ideal) m.view (Rect.unit (s := S248x512) ![8 * 2, 128 * a] S8x128.size iw2).toLoadRect (hm.unread x))
      (View.readAt (Elt Ideal) m.view (Rect.unit (s := S248x512) ![8 * 3, 128 * a] S8x128.size iw3).toLoadRect (hm.unread x))
      (View.readAt (Elt Ideal) m.view (Rect.unit (s := S248x512) ![8 * 4, 128 * a] S8x128.size iw4).toLoadRect (hm.unread x))
      (View.readAt (Elt Ideal) m.view (Rect.unit (s := S248x512) ![8 * 5, 128 * a] S8x128.size iw5).toLoadRect (hm.unread x))
      (View.readAt (Elt Ideal) m.view (Rect.unit (s := S248x512) ![8 * 6, 128 * a] S8x128.size iw6).toLoadRect (hm.unread x))
      (View.readAt (Elt Ideal) m.view (Rect.unit (s := S248x512) ![8 * 7, 128 * a] S8x128.size iw7).toLoadRect (hm.unread x))
      (View.readAt (Elt Ideal) m.view (Rect.unit (s := S248x512) ![8 * 8, 128 * a] S8x128.size iw8).toLoadRect (hm.unread x))
      (View.readAt (Elt Ideal) m.view (Rect.unit (s := S248x512) ![8 * 9, 128 * a] S8x128.size iw9).toLoadRect (hm.unread x))
      (View.readAt (Elt Ideal) m.view (Rect.unit (s := S248x512) ![8 * 10, 128 * a] S8x128.size iw10).toLoadRect (hm.unread x))
      (View.readAt (Elt Ideal) m.view (Rect.unit (s := S248x512) ![8 * 11, 128 * a] S8x128.size iw11).toLoadRect (hm.unread x))
      (View.readAt (Elt Ideal) m.view (Rect.unit (s := S248x512) ![8 * 12, 128 * a] S8x128.size iw12).toLoadRect (hm.unread x))
      (View.readAt (Elt Ideal) m.view (Rect.unit (s := S248x512) ![8 * 13, 128 * a] S8x128.size iw13).toLoadRect (hm.unread x))
      (View.readAt (Elt Ideal) m.view (Rect.unit (s := S248x512) ![8 * 14, 128 * a] S8x128.size iw14).toLoadRect (hm.unread x))
      (View.readAt (Elt Ideal) m.view (Rect.unit (s := S248x512) ![8 * 15, 128 * a] S8x128.size iw15).toLoadRect (hm.unread x))
      (View.readAt (Elt Ideal) m.view (Rect.unit (s := S248x512) ![8 * 16, 128 * a] S8x128.size iw16).toLoadRect (hm.unread x))
      (View.readAt (Elt Ideal) m.view (Rect.unit (s := S248x512) ![8 * 17, 128 * a] S8x128.size iw17).toLoadRect (hm.unread x))
      (View.readAt (Elt Ideal) m.view (Rect.unit (s := S248x512) ![8 * 18, 128 * a] S8x128.size iw18).toLoadRect (hm.unread x))
      (View.readAt (Elt Ideal) m.view (Rect.unit (s := S248x512) ![8 * 19, 128 * a] S8x128.size iw19).toLoadRect (hm.unread x))
      (View.readAt (Elt Ideal) m.view (Rect.unit (s := S248x512) ![8 * 20, 128 * a] S8x128.size iw20).toLoadRect (hm.unread x))
      (View.readAt (Elt Ideal) m.view (Rect.unit (s := S248x512) ![8 * 21, 128 * a] S8x128.size iw21).toLoadRect (hm.unread x))
      (View.readAt (Elt Ideal) m.view (Rect.unit (s := S248x512) ![8 * 22, 128 * a] S8x128.size iw22).toLoadRect (hm.unread x))
      (View.readAt (Elt Ideal) m.view (Rect.unit (s := S248x512) ![8 * 23, 128 * a] S8x128.size iw23).toLoadRect (hm.unread x))
      (View.readAt (Elt Ideal) m.view (Rect.unit (s := S248x512) ![8 * 24, 128 * a] S8x128.size iw24).toLoadRect (hm.unread x))
      (View.readAt (Elt Ideal) m.view (Rect.unit (s := S248x512) ![8 * 25, 128 * a] S8x128.size iw25).toLoadRect (hm.unread x))
      (View.readAt (Elt Ideal) m.view (Rect.unit (s := S248x512) ![8 * 26, 128 * a] S8x128.size iw26).toLoadRect (hm.unread x))
      (View.readAt (Elt Ideal) m.view (Rect.unit (s := S248x512) ![8 * 27, 128 * a] S8x128.size iw27).toLoadRect (hm.unread x))
      (View.readAt (Elt Ideal) m.view (Rect.unit (s := S248x512) ![8 * 28, 128 * a] S8x128.size iw28).toLoadRect (hm.unread x))
      (View.readAt (Elt Ideal) m.view (Rect.unit (s := S248x512) ![8 * 29, 128 * a] S8x128.size iw29).toLoadRect (hm.unread x))
      (View.readAt (Elt Ideal) m.view (Rect.unit (s := S248x512) ![8 * 30, 128 * a] S8x128.size iw30).toLoadRect (hm.unread x))
      (View.readAt (Elt Ideal) v (Rect.unit (s := S4x544x128) ![a, 2 + 32 * k + 0, 0] S1x32x128.size iu0).toLoadRect (v.writes (Elt Ideal) fa L))
      (View.readAt (Elt Ideal) v (Rect.unit (s := S4x544x128) ![a, 2 + 32 * k + 1, 0] S1x32x128.size iu1).toLoadRect (v.writes (Elt Ideal) fa L))
      (View.readAt (Elt Ideal) v (Rect.unit (s := S4x544x128) ![a, 2 + 32 * k + 2, 0] S1x32x128.size iu2).toLoadRect (v.writes (Elt Ideal) fa L))
      (View.readAt (Elt Ideal) v (Rect.unit (s := S4x544x128) ![a, 2 + 32 * k + 3, 0] S1x32x128.size iu3).toLoadRect (v.writes (Elt Ideal) fa L))
      (View.readAt (Elt Ideal) v (Rect.unit (s := S4x544x128) ![a, 2 + 32 * k + 4, 0] S1x32x128.size iu4).toLoadRect (v.writes (Elt Ideal) fa L))
      (View.readAt (Elt Ideal) v (Rect.unit (s := S4x544x128) ![a, 2 + 32 * k + 5, 0] S1x32x128.size iu5).toLoadRect (v.writes (Elt Ideal) fa L))
      (View.readAt (Elt Ideal) v (Rect.unit (s := S4x544x128) ![a, 2 + 32 * k + 6, 0] S1x32x128.size iu6).toLoadRect (v.writes (Elt Ideal) fa L))
      (View.readAt (Elt Ideal) v (Rect.unit (s := S4x544x128) ![a, 2 + 32 * k + 7, 0] S1x32x128.size iu7).toLoadRect (v.writes (Elt Ideal) fa L))
      (View.readAt (Elt Ideal) v (Rect.unit (s := S4x544x128) ![a, 2 + 32 * k + 8, 0] S1x32x128.size iu8).toLoadRect (v.writes (Elt Ideal) fa L))
      (View.readAt (Elt Ideal) v (Rect.unit (s := S4x544x128) ![a, 2 + 32 * k + 9, 0] S1x32x128.size iu9).toLoadRect (v.writes (Elt Ideal) fa L))
      (View.readAt (Elt Ideal) v (Rect.unit (s := S4x544x128) ![a, 2 + 32 * k + 10, 0] S1x32x128.size iu10).toLoadRect (v.writes (Elt Ideal) fa L))
      (View.readAt (Elt Ideal) v (Rect.unit (s := S4x544x128) ![a, 2 + 32 * k + 11, 0] S1x32x128.size iu11).toLoadRect (v.writes (Elt Ideal) fa L))
      (View.readAt (Elt Ideal) v (Rect.unit (s := S4x544x128) ![a, 2 + 32 * k + 12, 0] S1x32x128.size iu12).toLoadRect (v.writes (Elt Ideal) fa L))
      (View.readAt (Elt Ideal) v (Rect.unit (s := S4x544x128) ![a, 2 + 32 * k + 13, 0] S1x32x128.size iu13).toLoadRect (v.writes (Elt Ideal) fa L))
      (View.readAt (Elt Ideal) v (Rect.unit (s := S4x544x128) ![a, 2 + 32 * k + 14, 0] S1x32x128.size iu14).toLoadRect (v.writes (Elt Ideal) fa L))
      (View.readAt (Elt Ideal) v (Rect.unit (s := S4x544x128) ![a, 2 + 32 * k + 15, 0] S1x32x128.size iu15).toLoadRect (v.writes (Elt Ideal) fa L))
      (View.readAt (Elt Ideal) v (Rect.unit (s := S4x544x128) ![a, 2 + 32 * k + 16, 0] S1x32x128.size iu16).toLoadRect (v.writes (Elt Ideal) fa L))
      (View.readAt (Elt Ideal) v (Rect.unit (s := S4x544x128) ![a, 2 + 32 * k + 17, 0] S1x32x128.size iu17).toLoadRect (v.writes (Elt Ideal) fa L))
      (View.readAt (Elt Ideal) v (Rect.unit (s := S4x544x128) ![a, 2 + 32 * k + 18, 0] S1x32x128.size iu18).toLoadRect (v.writes (Elt Ideal) fa L))
      (View.readAt (Elt Ideal) v (Rect.unit (s := S4x544x128) ![a, 2 + 32 * k + 19, 0] S1x32x128.size iu19).toLoadRect (v.writes (Elt Ideal) fa L))
      (View.readAt (Elt Ideal) v (Rect.unit (s := S4x544x128) ![a, 2 + 32 * k + 20, 0] S1x32x128.size iu20).toLoadRect (v.writes (Elt Ideal) fa L))
      (View.readAt (Elt Ideal) v (Rect.unit (s := S4x544x128) ![a, 2 + 32 * k + 21, 0] S1x32x128.size iu21).toLoadRect (v.writes (Elt Ideal) fa L))
      (View.readAt (Elt Ideal) v (Rect.unit (s := S4x544x128) ![a, 2 + 32 * k + 22, 0] S1x32x128.size iu22).toLoadRect (v.writes (Elt Ideal) fa L))
      (View.readAt (Elt Ideal) v (Rect.unit (s := S4x544x128) ![a, 2 + 32 * k + 23, 0] S1x32x128.size iu23).toLoadRect (v.writes (Elt Ideal) fa L))
      (View.readAt (Elt Ideal) v (Rect.unit (s := S4x544x128) ![a, 2 + 32 * k + 24, 0] S1x32x128.size iu24).toLoadRect (v.writes (Elt Ideal) fa L))
      (View.readAt (Elt Ideal) v (Rect.unit (s := S4x544x128) ![a, 2 + 32 * k + 25, 0] S1x32x128.size iu25).toLoadRect (v.writes (Elt Ideal) fa L))
      (View.readAt (Elt Ideal) v (Rect.unit (s := S4x544x128) ![a, 2 + 32 * k + 26, 0] S1x32x128.size iu26).toLoadRect (v.writes (Elt Ideal) fa L))
      (View.readAt (Elt Ideal) v (Rect.unit (s := S4x544x128) ![a, 2 + 32 * k + 27, 0] S1x32x128.size iu27).toLoadRect (v.writes (Elt Ideal) fa L))
      (View.readAt (Elt Ideal) v (Rect.unit (s := S4x544x128) ![a, 2 + 32 * k + 28, 0] S1x32x128.size iu28).toLoadRect (v.writes (Elt Ideal) fa L))
      (View.readAt (Elt Ideal) v (Rect.unit (s := S4x544x128) ![a, 2 + 32 * k + 29, 0] S1x32x128.size iu29).toLoadRect (v.writes (Elt Ideal) fa L))
      (View.readAt (Elt Ideal) v (Rect.unit (s := S4x544x128) ![a, 2 + 32 * k + 30, 0] S1x32x128.size iu30).toLoadRect (v.writes (Elt Ideal) fc L))) U x k a 31 := by
  intro i l p q hp hq
  have e : ∀ (t : ℕ) (ht : t < 30) {iw iu}, tapT (F := Ideal) (View.readAt (Elt Ideal) m.view (Rect.unit (s := S248x512) ![8 * t, 128 * a] S8x128.size iw).toLoadRect (hm.unread x))
      (View.readAt (Elt Ideal) v (Rect.unit (s := S4x544x128) ![a, 2 + 32 * k + t, 0] S1x32x128.size iu).toLoadRect (v.writes (Elt Ideal) fa L)) (ix2 i l)
      = tapU U x p q t := fun t ht {iw iu} => tapU_ok hu k a t hk ha (by omega) (by omega) (by omega) i l p q hp hq
  have e' := tapU_ok (hm := hm) (x := x) (iw := iw30) (iu := iu30) hv k a 30 hk ha (by decide) (by omega) (by omega) i l p q hp hq
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (((e 0 (by decide)).trans (zero_add _).symm)) (e 1 (by decide))) (e 2 (by decide))) (e 3 (by decide))) (e 4 (by decide))) (e 5 (by decide))) (e 6 (by decide))) (e 7 (by decide))) (e 8 (by decide))) (e 9 (by decide))) (e 10 (by decide))) (e 11 (by decide))) (e 12 (by decide))) (e 13 (by decide))) (e 14 (by decide))) (e 15 (by decide))) (e 16 (by decide))) (e 17 (by decide))) (e 18 (by decide))) (e 19 (by decide))) (e 20 (by decide))) (e 21 (by decide))) (e 22 (by decide))) (e 23 (by decide))) (e 24 (by decide))) (e 25 (by decide))) (e 26 (by decide))) (e 27 (by decide))) (e 28 (by decide))) (e 29 (by decide))) e'

/-- A lane block holds the first `n` taps' sum. -/
def LaneC (acc : FVec Ideal S32x128 .f32) (U : S4x520x128.Idx → EReal) (w : S24x512.Idx → EReal) (k a n : ℕ) : Prop :=
  ∀ (i : Fin 32) (l : Fin 128) (p q : Fin 512), p.val = 32 * k + i.val → q.val = 128 * a + l.val → acc (ix2 i l) = csum (tapC U w p q) n

theorem tapC_ok {v : View sig .tc .vmem S4x520x128 .f32} {f : v.ty.Contents (Elt Ideal)} {L : List (View.Piece (Elt Ideal) S4x520x128 .f32)}
    {U : S4x520x128.Idx → EReal} {lo hi : ℕ} {m : Memref sig .tc .vmem S24x512 .f32} {hm : m.IsWhole} {x : Vec Ideal S24x512 .f32}
    (hu : Known v f L U fun y => lo ≤ (y 1).val ∧ (y 1).val < hi) (k a t : ℕ) (hk : k < 16) (ha : a < 4) (ht : t < 3) (hlo : lo ≤ 6 + 32 * k + t) (hhi : 6 + 32 * k + t + 32 ≤ hi) {iw iu}
    (i : Fin 32) (l : Fin 128) (p q : Fin 512) (hp : p.val = 32 * k + i.val) (hq : q.val = 128 * a + l.val) :
    tapT (F := Ideal) (View.readAt (Elt Ideal) m.view (Rect.unit (s := S24x512) ![8 * t, 128 * a] S8x128.size iw).toLoadRect (hm.unread x))
      (View.readAt (Elt Ideal) v (Rect.unit (s := S4x520x128) ![a, 6 + 32 * k + t, 0] S1x32x128.size iu).toLoadRect (v.writes (Elt Ideal) f L)) (ix2 i l)
      = tapC U x p q t := by
  refine (tapT_apply i l _ _).trans (congrArg₂ (· * ·) ?_ ?_)
  · rw [repl_apply, hm.readAt_unread]
    refine congrArg x (emb2 _ l (⟨(8 * t + p.val % 8) % 24, by omega⟩ : Fin 24) q ?_ hq)
    show (8 * t + p.val % 8) % 24 = 8 * t + i.val % 8
    omega
  · have e := emb3 (inb := iu) (0 : Fin 1) i l (⟨q.val / 128, by omega⟩ : Fin 4) (⟨(p.val + 6 + t) % 520, by omega⟩ : Fin 520) (⟨q.val % 128, by omega⟩ : Fin 128)
      (by show q.val / 128 = a + 0; omega) (by show (p.val + 6 + t) % 520 = 6 + 32 * k + t + i.val; omega) (by show q.val % 128 = 0 + l.val; omega)
    refine (hu.at _ ?_).trans (congrArg U e)
    rw [e]
    show lo ≤ (p.val + 6 + t) % 520 ∧ (p.val + 6 + t) % 520 < hi
    omega

/-- The taps of a lane block: the last one may read another part of the stores than the others. -/
theorem laneC_ok {v : View sig .tc .vmem S4x520x128 .f32} {fa fc : v.ty.Contents (Elt Ideal)} {L : List (View.Piece (Elt Ideal) S4x520x128 .f32)}
    {U : S4x520x128.Idx → EReal} {la lc hi : ℕ} {m : Memref sig .tc .vmem S24x512 .f32} {hm : m.IsWhole} {x : Vec Ideal S24x512 .f32}
    (k a : ℕ) (hk : k < 16) (ha : a < 4) (hu : Known v fa L U fun y => la ≤ (y 1).val ∧ (y 1).val < hi) (hla : la ≤ 6 + 32 * k)
    (hv : Known v fc L U fun y => lc ≤ (y 1).val ∧ (y 1).val < hi) (hlc : lc ≤ 8 + 32 * k) (hhi : 8 + 32 * k + 32 ≤ hi)
    {iw0 iw1 iw2 iu0 iu1 iu2} :
    LaneC (lane3 (F := Ideal)
      (View.readAt (Elt Ideal) m.view (Rect.unit (s := S24x512) ![8 * 0, 128 * a] S8x128.size iw0).toLoadRect (hm.unread x))
      (View.readAt (Elt Ideal) m.view (Rect.unit (s := S24x512) ![8 * 1, 128 * a] S8x128.size iw1).toLoadRect (hm.unread x))
      (View.readAt (Elt Ideal) m.view (Rect.unit (s := S24x512) ![8 * 2, 128 * a] S8x128.size iw2).toLoadRect (hm.unread x))
      (View.readAt (Elt Ideal) v (Rect.unit (s := S4x520x128) ![a, 6 + 32 * k + 0, 0] S1x32x128.size iu0).toLoadRect (v.writes (Elt Ideal) fa L))
      (View.readAt (Elt Ideal) v (Rect.unit (s := S4x520x128) ![a, 6 + 32 * k + 1, 0] S1x32x128.size iu1).toLoadRect (v.writes (Elt Ideal) fa L))
      (View.readAt (Elt Ideal) v (Rect.unit (s := S4x520x128) ![a, 6 + 32 * k + 2, 0] S1x32x128.size iu2).toLoadRect (v.writes (Elt Ideal) fc L))) U x k a 3 := by
  intro i l p q hp hq
  have e : ∀ (t : ℕ) (ht : t < 2) {iw iu}, tapT (F := Ideal) (View.readAt (Elt Ideal) m.view (Rect.unit (s := S24x512) ![8 * t, 128 * a] S8x128.size iw).toLoadRect (hm.unread x))
      (View.readAt (Elt Ideal) v (Rect.unit (s := S4x520x128) ![a, 6 + 32 * k + t, 0] S1x32x128.size iu).toLoadRect (v.writes (Elt Ideal) fa L)) (ix2 i l)
      = tapC U x p q t := fun t ht {iw iu} => tapC_ok hu k a t hk ha (by omega) (by omega) (by omega) i l p q hp hq
  have e' := tapC_ok (hm := hm) (x := x) (iw := iw2) (iu := iu2) hv k a 2 hk ha (by decide) (by omega) (by omega) i l p q hp hq
  exact congrArg₂ (· + ·) (congrArg₂ (· + ·) (((e 0 (by decide)).trans (zero_add _).symm)) (e 1 (by decide))) e'

theorem bread {m : Memref sig .tc .vmem S8x512 .f32} {hm : m.IsWhole} {x : Vec Ideal S8x512 .f32} {ib} (i : Fin 32) (j : Fin 512) (p : Fin 512) (k : ℕ) (hp : p.val = 32 * k + i.val) :
    repw (View.readAt (Elt Ideal) m.view (Rect.unit (s := S8x512) ![0, 0] S8x512.size ib).toLoadRect (hm.unread x)) (ix2 i j) = x (ix2 (⟨p.val % 8, by omega⟩ : Fin 8) j) := by
  rw [repw_apply, hm.readAt_unread]
  exact congrArg x (emb2 _ j (⟨p.val % 8, by omega⟩ : Fin 8) j (by show p.val % 8 = 0 + i.val % 8; omega) (by omega))

section Cat
variable {vc : View sig .tc .vmem S512x1024 .bf16} {fc : vc.ty.Contents (Elt Ideal)} {Lc : List (View.Piece (Elt Ideal) S512x1024 .bf16)}
  {U : S4x544x128.Idx → EReal} {C : S4x520x128.Idx → EReal} {Z : S5x512x512.Idx → EReal} {x3 : S24x512.Idx → EReal} {x4 : S248x512.Idx → EReal}
  {x5 x6 x7 : Vec Ideal S8x512 .f32}

/-- Thirty-two rows of the second convolution's output. -/
theorem cf_step {m5 m6 m7 : Memref sig .tc .vmem S8x512 .f32} {h5 : m5.IsWhole} {h6 : m6.IsWhole} {h7 : m7.IsWhole} {b : ℕ} (k : ℕ) (hk : k < 16)
    {a0 a1 a2 a3 : FVec Ideal S32x128 .f32} {i5 i6 i7 io}
    (hc : Known vc fc Lc (Catf U C Z x3 x4 x5 x6 x7) fun y => (512 ≤ (y 1).val ∧ (y 0).val < 32 * k) ∨ ((y 1).val < 512 ∧ (y 0).val < 32 * b))
    (l0 : LaneU a0 U x4 k 0 31) (l1 : LaneU a1 U x4 k 1 31) (l2 : LaneU a2 U x4 k 2 31) (l3 : LaneU a3 U x4 k 3 31) :
    Known vc fc (⟨Rect.unit (s := S512x1024) ![32 * k, 512] S32x512.size io,
      cfT (F := Ideal) (cat4 a0 a1 a2 a3) (View.readAt (Elt Ideal) m5.view (Rect.unit (s := S8x512) ![0, 0] S8x512.size i5).toLoadRect (h5.unread x5))
        (View.readAt (Elt Ideal) m6.view (Rect.unit (s := S8x512) ![0, 0] S8x512.size i6).toLoadRect (h6.unread x6))
        (View.readAt (Elt Ideal) m7.view (Rect.unit (s := S8x512) ![0, 0] S8x512.size i7).toLoadRect (h7.unread x7))⟩ :: Lc)
      (Catf U C Z x3 x4 x5 x6 x7) fun y => (512 ≤ (y 1).val ∧ (y 0).val < 32 * (k + 1)) ∨ ((y 1).val < 512 ∧ (y 0).val < 32 * b) := by
  refine hc.cons (fun y => ?_) (fun y hy => ?_)
  · obtain ⟨i, j, rfl⟩ := eta2 (a := 32) (b := 512) y
    let p : Fin 512 := ⟨32 * k + i.val, by omega⟩
    let P : Fin 512 → EReal := fun q => csum (tapU U x4 p q) 31
    have hP : ∀ j : Fin 512, cat4 a0 a1 a2 a3 (ix2 i j) = P j := fun j => cat4_apply i j a0 a1 a2 a3 P
      (fun l => l0 i l p _ rfl rfl) (fun l => l1 i l p _ rfl rfl) (fun l => l2 i l p _ rfl rfl) (fun l => l3 i l p _ rfl rfl)
    refine Eq.trans ?_ (congrArg (Catf U C Z x3 x4 x5 x6 x7) (emb2 i j p (⟨512 + j.val, by omega⟩ : Fin 1024) rfl rfl)).symm
    refine Eq.trans ?_ (dif_neg (by show ¬(512 + j.val < 512); omega)).symm
    have ej : (⟨512 + j.val - 512, by omega⟩ : Fin 512) = j := Fin.ext (by show 512 + j.val - 512 = j.val; omega)
    show _ = silu (lnorm (cen fun q => P q + x5 (ix2 (⟨p.val % 8, by omega⟩ : Fin 8) q)) (fun q => x6 (ix2 (⟨p.val % 8, by omega⟩ : Fin 8) q))
      (fun q => x7 (ix2 (⟨p.val % 8, by omega⟩ : Fin 8) q)) (⟨512 + j.val - 512, by omega⟩ : Fin 512))
    rw [ej]
    unfold cfT
    have hA : ∀ q : Fin 512, addf (cat4 a0 a1 a2 a3) (repw (View.readAt (Elt Ideal) m5.view (Rect.unit (s := S8x512) ![0, 0] S8x512.size i5).toLoadRect (h5.unread x5))) (ix2 i q)
        = P q + x5 (ix2 (⟨p.val % 8, by omega⟩ : Fin 8) q) := fun q => congrArg₂ (· + ·) (hP q) (bread i q p k rfl)
    generalize addf (cat4 a0 a1 a2 a3) (repw (View.readAt (Elt Ideal) m5.view (Rect.unit (s := S8x512) ![0, 0] S8x512.size i5).toLoadRect (h5.unread x5))) = A at hA ⊢
    have hC : ∀ q : Fin 512, cenT A (ix2 i q) = cen (fun q => P q + x5 (ix2 (⟨p.val % 8, by omega⟩ : Fin 8) q)) q := fun q =>
      (cenT_apply i q A).trans (congrArg₂ (· - ·) (hA q) ((muT_apply i A).trans (congrArg (fun s => Ideal.div s (Ideal.ofBits .f32 0x44000000#32)) (Finset.sum_congr rfl fun q _ => hA q))))
    generalize cenT A = B at hC ⊢
    refine (siluT_apply i j _).trans (congrArg silu ((lnT_apply i j B _ _).trans ?_))
    refine congrArg₂ (· + ·) (congrArg₂ (· * ·) (congrArg₂ (· * ·) (hC j) (congrArg (fun s => Ideal.rsqrt (s + Ideal.ofBits .f32 0x358637BD#32)) ?_)) (bread i j p k rfl)) (bread i j p k rfl)
    refine (muT_apply i _).trans (congrArg (fun s => Ideal.div s (Ideal.ofBits .f32 0x44000000#32)) (Finset.sum_congr rfl fun q _ => ?_))
    exact congrArg₂ (· * ·) (hC q) (hC q)
  · have b1 : (y 1).val < 1024 := (y 1).isLt
    by_cases hin : 512 ≤ (y 1).val ∧ 32 * k ≤ (y 0).val
    · refine Or.inl fun a => ?_
      dsimp only at hy
      match a with
      | ⟨0, _⟩ => show 32 * k ≤ (y 0).val ∧ (y 0).val < 32 * k + 32; omega
      | ⟨1, _⟩ => show 512 ≤ (y 1).val ∧ (y 1).val < 512 + 512; omega
    · refine Or.inr ?_
      dsimp only at hy ⊢
      omega

/-- Thirty-two rows of the first convolution's output. -/
theorem sc_step {a : ℕ} (k : ℕ) (hk : k < 16) {a0 a1 a2 a3 : FVec Ideal S32x128 .f32} {v : View sig .tc .vmem S5x512x512 .f32} {f : v.ty.Contents (Elt Ideal)}
    {L : List (View.Piece (Elt Ideal) S5x512x512 .f32)} {R : S5x512x512.Idx → Prop} (hz : Known v f L Z R)
    (hR : ∀ y, (y 0).val = 0 → 32 * k ≤ (y 1).val → (y 1).val < 32 * k + 32 → R y) {iz io}
    (hc : Known vc fc Lc (Catf U C Z x3 x4 x5 x6 x7) fun y => (512 ≤ (y 1).val ∧ (y 0).val < 32 * a) ∨ ((y 1).val < 512 ∧ (y 0).val < 32 * k))
    (l0 : LaneC a0 C x3 k 0 3) (l1 : LaneC a1 C x3 k 1 3) (l2 : LaneC a2 C x3 k 2 3) (l3 : LaneC a3 C x3 k 3 3) :
    Known vc fc (⟨Rect.unit (s := S512x1024) ![32 * k, 0] S32x512.size io,
      scT (F := Ideal) (cat4 a0 a1 a2 a3) (View.readAt (Elt Ideal) v (Rect.unit (s := S5x512x512) ![0, 32 * k, 0] S1x32x512.size iz).toLoadRect (v.writes (Elt Ideal) f L))⟩ :: Lc)
      (Catf U C Z x3 x4 x5 x6 x7) fun y => (512 ≤ (y 1).val ∧ (y 0).val < 32 * a) ∨ ((y 1).val < 512 ∧ (y 0).val < 32 * (k + 1)) := by
  refine hc.cons (fun y => ?_) (fun y hy => ?_)
  · obtain ⟨i, j, rfl⟩ := eta2 (a := 32) (b := 512) y
    let p : Fin 512 := ⟨32 * k + i.val, by omega⟩
    have hP : cat4 a0 a1 a2 a3 (ix2 i j) = csum (tapC C x3 p j) 3 := cat4_apply i j a0 a1 a2 a3 (fun q => csum (tapC C x3 p q) 3)
      (fun l => l0 i l p _ rfl rfl) (fun l => l1 i l p _ rfl rfl) (fun l => l2 i l p _ rfl rfl) (fun l => l3 i l p _ rfl rfl)
    refine Eq.trans ?_ (congrArg (Catf U C Z x3 x4 x5 x6 x7) (emb2 i j p (⟨j.val, by omega⟩ : Fin 1024) rfl (by show j.val = 0 + j.val; omega))).symm
    refine Eq.trans ?_ (dif_pos (show j.val < 512 from j.isLt)).symm
    refine (scT_apply i j _ _).trans (congrArg₂ (· * ·) ?_ hP)
    exact zread hz 0 k (by decide) hk hR i j
  · by_cases hin : (y 1).val < 512 ∧ 32 * k ≤ (y 0).val
    · refine Or.inl fun b => ?_
      dsimp only at hy
      match b with
      | ⟨0, _⟩ => show 32 * k ≤ (y 0).val ∧ (y 0).val < 32 * k + 32; omega
      | ⟨1, _⟩ => show 0 ≤ (y 1).val ∧ (y 1).val < 0 + 512; omega
    · refine Or.inr ?_
      dsimp only at hy ⊢
      omega
end Cat

/-- A quarter of the block's result. -/
theorem out_step {v : View sig .tc .vmem S1x512x1024 .f32} {f : v.ty.Contents (Elt Ideal)} {L : List (View.Piece (Elt Ideal) S1x512x1024 .f32)}
    {vc : View sig .tc .vmem S512x1024 .bf16} {fc : vc.ty.Contents (Elt Ideal)} {Lc : List (View.Piece (Elt Ideal) S512x1024 .bf16)} {A : S512x1024.Idx → EReal}
    {m2 : Memref sig .tc .vmem S1x512x1024 .f32} {h2 : m2.IsWhole} {x0 : Vec Ideal S1x512x1024 .f32} {m10 : Memref sig .tc .vmem S1024x1024 .bf16} {h10 : m10.IsWhole} {x8 : Vec Ideal S1024x1024 .bf16}
    {a : ℕ} (r : ℕ) (hr : r < 4) (ha : 4 * (r + 1) ≤ a) {ix ic iw io}
    (hc : Known vc fc Lc A fun y => (512 ≤ (y 1).val ∧ (y 0).val < 32 * a) ∨ ((y 1).val < 512 ∧ (y 0).val < 32 * (4 * (r + 1))))
    (ho : Known v f L (Outf x0 A x8) fun y => (y 1).val < 128 * r) :
    Known v f (⟨Rect.unit (s := S1x512x1024) ![0, 128 * r, 0] S1x128x1024.size io,
      outT (F := Ideal) (View.readAt (Elt Ideal) m2.view (Rect.unit (s := S1x512x1024) ![0, 128 * r, 0] S1x128x1024.size ix).toLoadRect (h2.unread x0))
        (View.readAt (Elt Ideal) vc (Rect.unit (s := S512x1024) ![128 * r, 0] S128x1024.size ic).toLoadRect (vc.writes (Elt Ideal) fc Lc))
        (View.readAt (Elt Ideal) m10.view (Rect.unit (s := S1024x1024) ![0, 0] S1024x1024.size iw).toLoadRect (h10.unread x8))⟩ :: L)
      (Outf x0 A x8) fun y => (y 1).val < 128 * (r + 1) := by
  refine ho.cons (fun y => ?_) (fun y hy => ?_)
  · obtain ⟨z, n, d, rfl⟩ := eta3 (a := 1) (b := 128) (c := 1024) y
    let p : Fin 512 := ⟨128 * r + n.val, by omega⟩
    refine Eq.trans ?_ (congrArg (Outf x0 A x8) (emb3 z n d (0 : Fin 1) p d (by show 0 = 0 + z.val; omega) rfl (by omega))).symm
    refine (outT_apply _ _ _ z n d).trans (congrArg₂ (· + ·) ?_ (Finset.sum_congr rfl fun q _ => congrArg₂ (· * ·) ?_ ?_))
    · rw [h2.readAt_unread]
      exact congrArg x0 (emb3 (0 : Fin 1) n d (0 : Fin 1) p d rfl rfl (by omega))
    · have e := emb2 (inb := ic) n q p q rfl (by omega)
      refine (hc.at _ ?_).trans (congrArg A e)
      rw [e]
      show (512 ≤ q.val ∧ 128 * r + n.val < 32 * a) ∨ (q.val < 512 ∧ 128 * r + n.val < 32 * (4 * (r + 1)))
      omega
    · rw [h10.readAt_unread]
      exact congrArg x8 (emb2 q d q d (by omega) (by omega))
  · have b0 : (y 0).val < 1 := (y 0).isLt
    have b2 : (y 2).val < 1024 := (y 2).isLt
    by_cases hin : 128 * r ≤ (y 1).val
    · refine Or.inl fun b => ?_
      dsimp only at hy
      match b with
      | ⟨0, _⟩ => show 0 ≤ (y 0).val ∧ (y 0).val < 0 + 1; omega
      | ⟨1, _⟩ => show 128 * r ≤ (y 1).val ∧ (y 1).val < 128 * r + 128; omega
      | ⟨2, _⟩ => show 0 ≤ (y 2).val ∧ (y 2).val < 0 + 1024; omega
    · refine Or.inr ?_
      dsimp only at hy ⊢
      omega

/-- The normalised rows, stored whole. -/
theorem h_known {v : View sig .tc .vmem S512x1024 .bf16} {f : v.ty.Contents (Elt Ideal)} {m2 : Memref sig .tc .vmem S1x512x1024 .f32} {h2 : m2.IsWhole} {x0 : Vec Ideal S1x512x1024 .f32}
    {m3 : Memref sig .tc .vmem S1x1024 .f32} {h3 : m3.IsWhole} {x1 : Vec Ideal S1x1024 .f32} {i0 i1 io} :
    Known v f [⟨Rect.unit (s := S512x1024) ![0, 0] S512x1024.size io, k0_pay3 (F := Ideal)
      (View.readAt (Elt Ideal) m2.view (Rect.unit (s := S1x512x1024) ![0, 0, 0] S1x512x1024.size i0).toLoadRect (h2.unread x0))
      (View.readAt (Elt Ideal) m3.view (Rect.unit (s := S1x1024) ![0, 0] S1x1024.size i1).toLoadRect (h3.unread x1))⟩] (hI x0 x1) fun _ => True := by
  have e : ∀ (a : Vec Ideal S1x512x1024 .f32) (g : Vec Ideal S1x1024 .f32) (n : Fin 512) (d : Fin 1024), k0_pay3 (F := Ideal) a g (ix2 n d) = hI a g (ix2 n d) := by
    intro a g n d
    pointwise [k0_pay3, hI]
  have ex : View.readAt (Elt Ideal) m2.view (Rect.unit (s := S1x512x1024) ![0, 0, 0] S1x512x1024.size i0).toLoadRect (h2.unread x0) = x0 := by
    funext y
    obtain ⟨z, n, d, rfl⟩ := eta3 (a := 1) (b := 512) (c := 1024) y
    rw [h2.readAt_unread]
    exact congrArg x0 (emb3 z n d z n d (by omega) (by omega) (by omega))
  have eg : View.readAt (Elt Ideal) m3.view (Rect.unit (s := S1x1024) ![0, 0] S1x1024.size i1).toLoadRect (h3.unread x1) = x1 := by
    funext y
    obtain ⟨z, d, rfl⟩ := eta2 (a := 1) (b := 1024) y
    rw [h3.readAt_unread]
    exact congrArg x1 (emb2 z d z d (by omega) (by omega))
  refine Known.cons (R := fun _ => False) (known_none fun y h => h) (fun y => ?_) fun y _ => Or.inl fun a => ?_
  · obtain ⟨n, d, rfl⟩ := eta2 (a := 512) (b := 1024) y
    refine Eq.trans ?_ (congrArg (hI x0 x1) (emb2 n d n d (by omega) (by omega))).symm
    rw [ex, eg]
    exact e x0 x1 n d
  · have b0 : (y 0).val < 512 := (y 0).isLt
    have b1 : (y 1).val < 1024 := (y 1).isLt
    match a with
    | ⟨0, _⟩ => show 0 ≤ (y 0).val ∧ (y 0).val < 0 + 512; omega
    | ⟨1, _⟩ => show 0 ≤ (y 1).val ∧ (y 1).val < 0 + 1024; omega

/-- Before the block's own stores: zeros in the carried rows, or what the block before left there. -/
theorem c_zero {v : View sig .tc .vmem S4x520x128 .f32} {f : v.ty.Contents (Elt Ideal)} {Z : S5x512x512.Idx → EReal} {inb} :
    Known v f [⟨Rect.unit (s := S4x520x128) ![0, 0, 0] S4x8x128.size inb, k0_pay1 (F := Ideal)⟩] (Cf (fun _ => 0) Z) fun y => 0 ≤ (y 1).val ∧ (y 1).val < 8 + 32 * 0 := by
  refine Known.cons (R := fun _ => False) (known_none fun y h => h) (fun y => ?_) fun y hy => Or.inl fun a => ?_
  · obtain ⟨i, j, l, rfl⟩ := eta3 (a := 4) (b := 8) (c := 128) y
    refine Eq.trans ?_ (congrArg (Cf (fun _ => 0) Z) (emb3 i j l i (⟨j.val, by omega⟩ : Fin 520) l (by omega) (by show j.val = 0 + j.val; omega) (by omega))).symm
    refine Eq.trans ?_ (dif_pos (show j.val < 8 from j.isLt)).symm
    show Ideal.ofBits .f32 0x00000000#32 = 0
    simp [Ideal.ofBits, Ideal.ieee]
  · have b0 : (y 0).val < 4 := (y 0).isLt
    have b2 : (y 2).val < 128 := (y 2).isLt
    dsimp only at hy
    match a with
    | ⟨0, _⟩ => show 0 ≤ (y 0).val ∧ (y 0).val < 0 + 4; omega
    | ⟨1, _⟩ => show 0 ≤ (y 1).val ∧ (y 1).val < 0 + 8; omega
    | ⟨2, _⟩ => show 0 ≤ (y 2).val ∧ (y 2).val < 0 + 128; omega
theorem c_old {m : Memref sig .tc .vmem S4x520x128 .f32} {hm : m.IsWhole} {X : Vec Ideal S4x520x128 .f32} {Z : S5x512x512.Idx → EReal} :
    Known m.view (hm.unread X) [] (Cf X Z) fun y => 0 ≤ (y 1).val ∧ (y 1).val < 8 + 32 * 0 := by
  intro y hy
  have h1 : (y 1).val < 8 := by dsimp only at hy; omega
  show m.view.read (Elt Ideal) (hm.unread X) y = Cf X Z y
  unfold Cf
  rw [dif_pos h1, hm.read_unread]
theorem c_junk {v : View sig .tc .vmem S4x520x128 .f32} {f : v.ty.Contents (Elt Ideal)} {G : S4x520x128.Idx → EReal} :
    Known v f [] G fun y => 8 ≤ (y 1).val ∧ (y 1).val < 8 + 32 * 0 := known_none fun y hy => by dsimp only at hy; omega

/-- The carried rows are those of the block's last rows. -/
theorem c_carry {v v' : View sig .tc .vmem S4x520x128 .f32} {f : v.ty.Contents (Elt Ideal)} {f' : v'.ty.Contents (Elt Ideal)} {L L' : List (View.Piece (Elt Ideal) S4x520x128 .f32)} {G : S4x520x128.Idx → EReal} {lo : ℕ}
    (hlo : lo ≤ 512) (hu : Known v f L G fun y => lo ≤ (y 1).val ∧ (y 1).val < 8 + 32 * 16) {i0 io}
    (a : Fin 4) (r : Fin 8) (l : Fin 128) :
    v'.read (Elt Ideal) (v'.writes (Elt Ideal) f' (⟨Rect.unit (s := S4x520x128) ![0, 0, 0] S4x8x128.size io,
      shapeCast S4x8x128 (View.readAt (Elt Ideal) v (Rect.unit (s := S4x520x128) ![0, 512, 0] S4x8x128.size i0).toLoadRect (v.writes (Elt Ideal) f L)) shapeCasts_S4x8x128_S4x8x128⟩ :: L')) (ix3 a (⟨r.val, by omega⟩ : Fin 520) l)
      = G (ix3 a (⟨512 + r.val, by omega⟩ : Fin 520) l) := by
  refine (View.read_writes_cons_unit_of_mem (off' := ![0, 0, 0]) v' f' _ _ _ _ (ix3 a r l) rfl (fun b => by
    match b with
    | ⟨0, _⟩ => show a.val = 0 + a.val; omega
    | ⟨1, _⟩ => show r.val = 0 + r.val; omega
    | ⟨2, _⟩ => show l.val = 0 + l.val; omega)).trans ?_
  have e := emb3 (inb := i0) a r l a (⟨512 + r.val, by omega⟩ : Fin 520) l (by omega) rfl (by omega)
  have es : ∀ g : Vec Ideal S4x8x128 .f32, shapeCast S4x8x128 g shapeCasts_S4x8x128_S4x8x128 (ix3 a r l) = g (ix3 a r l) := by
    intro g
    pointwise
  refine (es _).trans ((hu.at _ ?_).trans (congrArg G e))
  rw [e]
  show lo ≤ 512 + r.val ∧ 512 + r.val < 8 + 32 * 16
  omega

/-- Before the block's own stores: zeros in the carried rows, or what the block before left there. -/
theorem u_zero {v : View sig .tc .vmem S4x544x128 .f32} {f : v.ty.Contents (Elt Ideal)} {Z : S5x512x512.Idx → EReal} {inb} :
    Known v f [⟨Rect.unit (s := S4x544x128) ![0, 0, 0] S4x32x128.size inb, k0_pay2 (F := Ideal)⟩] (Uf (fun _ => 0) Z) fun y => 0 ≤ (y 1).val ∧ (y 1).val < 32 + 32 * 0 := by
  refine Known.cons (R := fun _ => False) (known_none fun y h => h) (fun y => ?_) fun y hy => Or.inl fun a => ?_
  · obtain ⟨i, j, l, rfl⟩ := eta3 (a := 4) (b := 32) (c := 128) y
    refine Eq.trans ?_ (congrArg (Uf (fun _ => 0) Z) (emb3 i j l i (⟨j.val, by omega⟩ : Fin 544) l (by omega) (by show j.val = 0 + j.val; omega) (by omega))).symm
    refine Eq.trans ?_ (dif_pos (show j.val < 32 from j.isLt)).symm
    show Ideal.ofBits .f32 0x00000000#32 = 0
    simp [Ideal.ofBits, Ideal.ieee]
  · have b0 : (y 0).val < 4 := (y 0).isLt
    have b2 : (y 2).val < 128 := (y 2).isLt
    dsimp only at hy
    match a with
    | ⟨0, _⟩ => show 0 ≤ (y 0).val ∧ (y 0).val < 0 + 4; omega
    | ⟨1, _⟩ => show 0 ≤ (y 1).val ∧ (y 1).val < 0 + 32; omega
    | ⟨2, _⟩ => show 0 ≤ (y 2).val ∧ (y 2).val < 0 + 128; omega
theorem u_old {m : Memref sig .tc .vmem S4x544x128 .f32} {hm : m.IsWhole} {X : Vec Ideal S4x544x128 .f32} {Z : S5x512x512.Idx → EReal} :
    Known m.view (hm.unread X) [] (Uf X Z) fun y => 0 ≤ (y 1).val ∧ (y 1).val < 32 + 32 * 0 := by
  intro y hy
  have h1 : (y 1).val < 32 := by dsimp only at hy; omega
  show m.view.read (Elt Ideal) (hm.unread X) y = Uf X Z y
  unfold Uf
  rw [dif_pos h1, hm.read_unread]
theorem u_junk {v : View sig .tc .vmem S4x544x128 .f32} {f : v.ty.Contents (Elt Ideal)} {G : S4x544x128.Idx → EReal} :
    Known v f [] G fun y => 32 ≤ (y 1).val ∧ (y 1).val < 32 + 32 * 0 := known_none fun y hy => by dsimp only at hy; omega

/-- The carried rows are those of the block's last rows. -/
theorem u_carry {v v' : View sig .tc .vmem S4x544x128 .f32} {f : v.ty.Contents (Elt Ideal)} {f' : v'.ty.Contents (Elt Ideal)} {L L' : List (View.Piece (Elt Ideal) S4x544x128 .f32)} {G : S4x544x128.Idx → EReal} {lo : ℕ}
    (hlo : lo ≤ 512) (hu : Known v f L G fun y => lo ≤ (y 1).val ∧ (y 1).val < 32 + 32 * 16) {i0 io}
    (a : Fin 4) (r : Fin 32) (l : Fin 128) :
    v'.read (Elt Ideal) (v'.writes (Elt Ideal) f' (⟨Rect.unit (s := S4x544x128) ![0, 0, 0] S4x32x128.size io,
      shapeCast S4x32x128 (View.readAt (Elt Ideal) v (Rect.unit (s := S4x544x128) ![0, 512, 0] S4x32x128.size i0).toLoadRect (v.writes (Elt Ideal) f L)) shapeCasts_S4x32x128_S4x32x128⟩ :: L')) (ix3 a (⟨r.val, by omega⟩ : Fin 544) l)
      = G (ix3 a (⟨512 + r.val, by omega⟩ : Fin 544) l) := by
  refine (View.read_writes_cons_unit_of_mem (off' := ![0, 0, 0]) v' f' _ _ _ _ (ix3 a r l) rfl (fun b => by
    match b with
    | ⟨0, _⟩ => show a.val = 0 + a.val; omega
    | ⟨1, _⟩ => show r.val = 0 + r.val; omega
    | ⟨2, _⟩ => show l.val = 0 + l.val; omega)).trans ?_
  have e := emb3 (inb := i0) a r l a (⟨512 + r.val, by omega⟩ : Fin 544) l (by omega) rfl (by omega)
  have es : ∀ g : Vec Ideal S4x32x128 .f32, shapeCast S4x32x128 g shapeCasts_S4x32x128_S4x32x128 (ix3 a r l) = g (ix3 a r l) := by
    intro g
    pointwise
  refine (es _).trans ((hu.at _ ?_).trans (congrArg G e))
  rw [e]
  show lo ≤ 512 + r.val ∧ 512 + r.val < 32 + 32 * 16
  omega

end Cert.EvenKernelIdeal.Hand

end
-- ==== Proof.EvenSpec.lean ====
/- The even mixer as formulas over whole sequences, and the kernel's block as a part of them. -/
module

public import proofs.«01_k».proof.Proof.EvenBlock

@[expose] public section

set_option maxRecDepth 16384

noncomputable section

namespace Cert.EvenKernelIdeal.Hand

open Cert.EvenKernelIdeal Cert.EvenKernelIdeal.Gen
open Idealize.ShloMosaic Idealize.ShloMosaic.TcCoe

/-- The nine arrays the mixer is computed from. -/
structure Mix where
  x : S8x4096x1024.Idx → EReal
  norm : S2x1024.Idx → EReal
  win : S1x1024x2560.Idx → EReal
  scw : S1x3x512.Idx → EReal
  cfw : S1x31x512.Idx → EReal
  cfb : S1x512.Idx → EReal
  lng : S1x512.Idx → EReal
  lnb : S1x512.Idx → EReal
  wout : S1x1024x1024.Idx → EReal

section Spec
variable (A : Mix) (b : Fin 8)

/-- The normalised rows. -/
def hG (s : Fin 4096) (d : Fin 1024) : EReal :=
  A.x (ix3 b s d) * Ideal.rsqrt (Ideal.div (∑ k : Fin 1024, A.x (ix3 b s k) * A.x (ix3 b s k)) (Ideal.ofBits .f32 0x44800000#32) + Ideal.ofBits .f32 0x358637BD#32)
    * A.norm (ix2 (0 : Fin 2) d)
/-- The projection. -/
def zG (s : Fin 4096) (q : Fin 2560) : EReal := ∑ k : Fin 1024, hG A b s k * A.win (ix3 (0 : Fin 1) k q)
/-- The convolutions' inputs. -/
def cG (s : Fin 4096) (q : Fin 512) : EReal := zG A b s (⟨512 + q.val, by omega⟩ : Fin 2560) * zG A b s (⟨1024 + q.val, by omega⟩ : Fin 2560)
def uG (s : Fin 4096) (q : Fin 512) : EReal := zG A b s (⟨1536 + q.val, by omega⟩ : Fin 2560) * sgm (zG A b s (⟨2048 + q.val, by omega⟩ : Fin 2560))
/-- The same, behind two and thirty rows of zeros. -/
def cP (r : ℕ) (q : Fin 512) : EReal := if h : 2 ≤ r ∧ r < 4098 then cG A b (⟨r - 2, by omega⟩ : Fin 4096) q else 0
def uP (r : ℕ) (q : Fin 512) : EReal := if h : 30 ≤ r ∧ r < 4126 then uG A b (⟨r - 30, by omega⟩ : Fin 4096) q else 0
/-- The convolutions. -/
def cvC (s : Fin 4096) (q : Fin 512) : EReal := csum (fun t => A.scw (ix3 (0 : Fin 1) (⟨t % 3, by omega⟩ : Fin 3) q) * cP A b (s.val + t) q) 3
def cvU (s : Fin 4096) (q : Fin 512) : EReal :=
  csum (fun t => A.cfw (ix3 (0 : Fin 1) (⟨t % 31, by omega⟩ : Fin 31) q) * uP A b (s.val + t) q) 31 + A.cfb (ix2 (0 : Fin 1) q)
/-- Their outputs, side by side. -/
def yG (s : Fin 4096) (q : Fin 1024) : EReal :=
  if h : q.val < 512 then zG A b s (⟨q.val, by omega⟩ : Fin 2560) * cvC A b s (⟨q.val, h⟩ : Fin 512)
  else silu (lnorm (cen (cvU A b s)) (fun q => A.lng (ix2 (0 : Fin 1) q)) (fun q => A.lnb (ix2 (0 : Fin 1) q)) (⟨q.val - 512, by omega⟩ : Fin 512))
/-- The result. -/
def oG (s : Fin 4096) (d : Fin 1024) : EReal := A.x (ix3 b s d) + ∑ q : Fin 1024, yG A b s q * A.wout (ix3 (0 : Fin 1) q d)
end Spec

/-- The row of the sequence that row `n` of block `j` is. -/
abbrev rowIn (j : Fin 8) (n : Fin 512) : Fin 4096 := ⟨512 * j.val + n.val, by omega⟩

/-- The blocks are those of batch entry `b` and block `j` of the sequence. -/
structure BlocksOf (A : Mix) (b j : Fin 8) (x0 : S1x512x1024.Idx → EReal) (x1 : S1x1024.Idx → EReal) (x2 : S1024x2560.Idx → EReal)
    (x3 : S24x512.Idx → EReal) (x4 : S248x512.Idx → EReal) (x5 x6 x7 : S8x512.Idx → EReal) (x8 : S1024x1024.Idx → EReal) : Prop where
  e0 : ∀ (n : Fin 512) (d : Fin 1024), x0 (ix3 (0 : Fin 1) n d) = A.x (ix3 b (rowIn j n) d)
  e1 : ∀ (d : Fin 1024), x1 (ix2 (0 : Fin 1) d) = A.norm (ix2 (0 : Fin 2) d)
  e2 : ∀ (k : Fin 1024) (q : Fin 2560), x2 (ix2 k q) = A.win (ix3 (0 : Fin 1) k q)
  e3 : ∀ (r : Fin 24) (q : Fin 512), x3 (ix2 r q) = A.scw (ix3 (0 : Fin 1) (⟨r.val / 8, by omega⟩ : Fin 3) q)
  e4 : ∀ (r : Fin 248) (q : Fin 512), x4 (ix2 r q) = A.cfw (ix3 (0 : Fin 1) (⟨r.val / 8, by omega⟩ : Fin 31) q)
  e5 : ∀ (r : Fin 8) (q : Fin 512), x5 (ix2 r q) = A.cfb (ix2 (0 : Fin 1) q)
  e6 : ∀ (r : Fin 8) (q : Fin 512), x6 (ix2 r q) = A.lng (ix2 (0 : Fin 1) q)
  e7 : ∀ (r : Fin 8) (q : Fin 512), x7 (ix2 r q) = A.lnb (ix2 (0 : Fin 1) q)
  e8 : ∀ (q d : Fin 1024), x8 (ix2 q d) = A.wout (ix3 (0 : Fin 1) q d)

/-- The rows before the block, where the kernel keeps them. -/
def HaloC (A : Mix) (b j : Fin 8) (halo : S4x520x128.Idx → EReal) : Prop :=
  ∀ (a : Fin 4) (r : Fin 8) (l : Fin 128), 6 ≤ r.val →
    halo (ix3 a (⟨r.val, by omega⟩ : Fin 520) l) = cP A b (512 * j.val + r.val - 6) (⟨128 * a.val + l.val, by omega⟩ : Fin 512)
def HaloU (A : Mix) (b j : Fin 8) (halo : S4x544x128.Idx → EReal) : Prop :=
  ∀ (a : Fin 4) (r : Fin 32) (l : Fin 128), 2 ≤ r.val →
    halo (ix3 a (⟨r.val, by omega⟩ : Fin 544) l) = uP A b (512 * j.val + r.val - 2) (⟨128 * a.val + l.val, by omega⟩ : Fin 512)

theorem cP_row (A : Mix) (b : Fin 8) (s : Fin 4096) (q : Fin 512) (r : ℕ) (h : r = s.val + 2) : cP A b r q = cG A b s q := by
  subst h
  exact (dif_pos ⟨by omega, by omega⟩).trans (congrArg (fun s => cG A b s q) (Fin.ext (show s.val + 2 - 2 = s.val by omega)))
theorem uP_row (A : Mix) (b : Fin 8) (s : Fin 4096) (q : Fin 512) (r : ℕ) (h : r = s.val + 30) : uP A b r q = uG A b s q := by
  subst h
  exact (dif_pos ⟨by omega, by omega⟩).trans (congrArg (fun s => uG A b s q) (Fin.ext (show s.val + 30 - 30 = s.val by omega)))

section Block
variable {A : Mix} {b j : Fin 8} {x0 : S1x512x1024.Idx → EReal} {x1 : S1x1024.Idx → EReal} {x2 : S1024x2560.Idx → EReal}
    {x3 : S24x512.Idx → EReal} {x4 : S248x512.Idx → EReal} {x5 x6 x7 : S8x512.Idx → EReal} {x8 : S1024x1024.Idx → EReal} (B : BlocksOf A b j x0 x1 x2 x3 x4 x5 x6 x7 x8)
include B

theorem hI_G (n : Fin 512) (d : Fin 1024) : hI x0 x1 (ix2 n d) = hG A b (rowIn j n) d :=
  congrArg₂ (· * ·) (congrArg₂ (· * ·) (B.e0 n d) (congrArg (fun s => Ideal.rsqrt (Ideal.div s (Ideal.ofBits .f32 0x44800000#32) + Ideal.ofBits .f32 0x358637BD#32))
    (Finset.sum_congr rfl fun k _ => congrArg₂ (· * ·) (B.e0 n k) (B.e0 n k)))) (B.e1 d)

theorem Zf_G (a : Fin 5) (n q : Fin 512) (p : Fin 2560) (hp : p.val = 512 * a.val + q.val) : Zf (hI x0 x1) x2 (ix3 a n q) = zG A b (rowIn j n) p := by
  have e : (⟨512 * a.val + q.val, by omega⟩ : Fin 2560) = p := Fin.ext hp.symm
  rw [← e]
  exact Finset.sum_congr rfl fun k _ => congrArg₂ (· * ·) (hI_G B n k) (B.e2 k _)

/-- A row of either convolution's input behind the carried ones. -/
theorem Cf_own (halo : S4x520x128.Idx → EReal) (a : Fin 4) (r : Fin 520) (l : Fin 128) (hr : 8 ≤ r.val) :
    Cf halo (Zf (hI x0 x1) x2) (ix3 a r l) = cG A b (rowIn j ⟨r.val - 8, by omega⟩) (⟨128 * a.val + l.val, by omega⟩ : Fin 512) :=
  (dif_neg (show ¬ r.val < 8 by omega)).trans (congrArg₂ (· * ·) (Zf_G B _ _ _ _ (by show 512 + (128 * a.val + l.val) = 512 * 1 + (128 * a.val + l.val); omega))
    (Zf_G B _ _ _ _ (by show 1024 + (128 * a.val + l.val) = 512 * 2 + (128 * a.val + l.val); omega)))
theorem Uf_own (halo : S4x544x128.Idx → EReal) (a : Fin 4) (r : Fin 544) (l : Fin 128) (hr : 32 ≤ r.val) :
    Uf halo (Zf (hI x0 x1) x2) (ix3 a r l) = uG A b (rowIn j ⟨r.val - 32, by omega⟩) (⟨128 * a.val + l.val, by omega⟩ : Fin 512) :=
  (dif_neg (show ¬ r.val < 32 by omega)).trans (congrArg₂ (· * ·) (Zf_G B _ _ _ _ (by show 1536 + (128 * a.val + l.val) = 512 * 3 + (128 * a.val + l.val); omega))
    (congrArg sgm (Zf_G B _ _ _ _ (by show 2048 + (128 * a.val + l.val) = 512 * 4 + (128 * a.val + l.val); omega))))

theorem Cf_G {halo : S4x520x128.Idx → EReal} (H : HaloC A b j halo) (a : Fin 4) (r : Fin 520) (l : Fin 128) (hr : 6 ≤ r.val) (q : Fin 512) (hq : q.val = 128 * a.val + l.val) :
    Cf halo (Zf (hI x0 x1) x2) (ix3 a r l) = cP A b (512 * j.val + r.val - 6) q := by
  have e : (⟨128 * a.val + l.val, by omega⟩ : Fin 512) = q := Fin.ext hq.symm
  rw [← e]
  by_cases h : r.val < 8
  · exact Eq.trans (dif_pos h) (H a ⟨r.val, h⟩ l hr)
  · refine (Cf_own B halo a r l (by omega)).trans (cP_row A b _ _ _ ?_).symm
    show _ = 512 * j.val + (r.val - 8) + 2
    omega
theorem Uf_G {halo : S4x544x128.Idx → EReal} (H : HaloU A b j halo) (a : Fin 4) (r : Fin 544) (l : Fin 128) (hr : 2 ≤ r.val) (q : Fin 512) (hq : q.val = 128 * a.val + l.val) :
    Uf halo (Zf (hI x0 x1) x2) (ix3 a r l) = uP A b (512 * j.val + r.val - 2) q := by
  have e : (⟨128 * a.val + l.val, by omega⟩ : Fin 512) = q := Fin.ext hq.symm
  rw [← e]
  by_cases h : r.val < 32
  · exact Eq.trans (dif_pos h) (H a ⟨r.val, h⟩ l hr)
  · refine (Uf_own B halo a r l (by omega)).trans (uP_row A b _ _ _ ?_).symm
    show _ = 512 * j.val + (r.val - 32) + 30
    omega

theorem tapC_G {halo : S4x520x128.Idx → EReal} (H : HaloC A b j halo) (n q : Fin 512) (t : ℕ) (ht : t < 3) :
    tapC (Cf halo (Zf (hI x0 x1) x2)) x3 n q t = A.scw (ix3 (0 : Fin 1) (⟨t % 3, by omega⟩ : Fin 3) q) * cP A b ((rowIn j n).val + t) q := by
  refine congrArg₂ (· * ·) ((B.e3 _ q).trans (congrArg (fun w : Fin 3 => A.scw (ix3 (0 : Fin 1) w q)) (Fin.ext ?_)))
    ((Cf_G B H _ _ _ (by show 6 ≤ (n.val + 6 + t) % 520; omega) q (by show q.val = 128 * (q.val / 128) + q.val % 128; omega)).trans (congrArg (fun r => cP A b r q) ?_))
  · show (8 * t + n.val % 8) % 24 / 8 = t % 3
    omega
  · show 512 * j.val + (n.val + 6 + t) % 520 - 6 = 512 * j.val + n.val + t
    omega
theorem tapU_G {halo : S4x544x128.Idx → EReal} (H : HaloU A b j halo) (n q : Fin 512) (t : ℕ) (ht : t < 31) :
    tapU (Uf halo (Zf (hI x0 x1) x2)) x4 n q t = A.cfw (ix3 (0 : Fin 1) (⟨t % 31, by omega⟩ : Fin 31) q) * uP A b ((rowIn j n).val + t) q := by
  refine congrArg₂ (· * ·) ((B.e4 _ q).trans (congrArg (fun w : Fin 31 => A.cfw (ix3 (0 : Fin 1) w q)) (Fin.ext ?_)))
    ((Uf_G B H _ _ _ (by show 2 ≤ (n.val + 2 + t) % 544; omega) q (by show q.val = 128 * (q.val / 128) + q.val % 128; omega)).trans (congrArg (fun r => uP A b r q) ?_))
  · show (8 * t + n.val % 8) % 248 / 8 = t % 31
    omega
  · show 512 * j.val + (n.val + 2 + t) % 544 - 2 = 512 * j.val + n.val + t
    omega

theorem Catf_G {hc : S4x520x128.Idx → EReal} {hu : S4x544x128.Idx → EReal} (HC : HaloC A b j hc) (HU : HaloU A b j hu) (n : Fin 512) (q : Fin 1024) :
    Catf (Uf hu (Zf (hI x0 x1) x2)) (Cf hc (Zf (hI x0 x1) x2)) (Zf (hI x0 x1) x2) x3 x4 x5 x6 x7 (ix2 n q) = yG A b (rowIn j n) q := by
  by_cases h : q.val < 512
  · refine Eq.trans (dif_pos h) (Eq.trans ?_ (dif_pos h).symm)
    exact congrArg₂ (· * ·) (Zf_G B _ _ _ _ (by show q.val = 512 * 0 + q.val; omega)) (csum_congr 3 fun t ht => tapC_G B HC n _ t ht)
  · refine Eq.trans (dif_neg h) (Eq.trans ?_ (dif_neg h).symm)
    have e1 : (fun q : Fin 512 => csum (tapU (Uf hu (Zf (hI x0 x1) x2)) x4 n q) 31 + x5 (ix2 (⟨n.val % 8, by omega⟩ : Fin 8) q)) = cvU A b (rowIn j n) :=
      funext fun q => congrArg₂ (· + ·) (csum_congr 31 fun t ht => tapU_G B HU n q t ht) (B.e5 _ q)
    have e2 : (fun q : Fin 512 => x6 (ix2 (⟨n.val % 8, by omega⟩ : Fin 8) q)) = fun q => A.lng (ix2 (0 : Fin 1) q) := funext fun q => B.e6 _ q
    have e3 : (fun q : Fin 512 => x7 (ix2 (⟨n.val % 8, by omega⟩ : Fin 8) q)) = fun q => A.lnb (ix2 (0 : Fin 1) q) := funext fun q => B.e7 _ q
    show silu (lnorm (cen fun q : Fin 512 => csum (tapU (Uf hu (Zf (hI x0 x1) x2)) x4 n q) 31 + x5 (ix2 (⟨n.val % 8, by omega⟩ : Fin 8) q))
      (fun q : Fin 512 => x6 (ix2 (⟨n.val % 8, by omega⟩ : Fin 8) q)) (fun q : Fin 512 => x7 (ix2 (⟨n.val % 8, by omega⟩ : Fin 8) q)) _) = _
    rw [e1, e2, e3]
    rfl

theorem Outf_G {hc : S4x520x128.Idx → EReal} {hu : S4x544x128.Idx → EReal} (HC : HaloC A b j hc) (HU : HaloU A b j hu) (n : Fin 512) (d : Fin 1024) :
    Outf x0 (Catf (Uf hu (Zf (hI x0 x1) x2)) (Cf hc (Zf (hI x0 x1) x2)) (Zf (hI x0 x1) x2) x3 x4 x5 x6 x7) x8 (ix3 (0 : Fin 1) n d) = oG A b (rowIn j n) d :=
  congrArg₂ (· + ·) (B.e0 n d) (Finset.sum_congr rfl fun q _ => congrArg₂ (· * ·) (Catf_G B HC HU n q) (B.e8 q d))

/-- The rows the kernel carries are those the next block's windows need. -/
theorem carryC_G (halo halo' : S4x520x128.Idx → EReal)
    (e : ∀ (a : Fin 4) (r : Fin 8) (l : Fin 128), halo' (ix3 a (⟨r.val, by omega⟩ : Fin 520) l) = Cf halo (Zf (hI x0 x1) x2) (ix3 a (⟨512 + r.val, by omega⟩ : Fin 520) l))
    (j' : Fin 8) (hj : j'.val = j.val + 1) : HaloC A b j' halo' := by
  intro a r l hr
  refine (e a r l).trans ((Cf_own B halo a _ l (by show 8 ≤ 512 + r.val; omega)).trans (cP_row A b _ _ _ ?_).symm)
  show _ = 512 * j.val + (512 + r.val - 8) + 2
  omega
theorem carryU_G (halo halo' : S4x544x128.Idx → EReal)
    (e : ∀ (a : Fin 4) (r : Fin 32) (l : Fin 128), halo' (ix3 a (⟨r.val, by omega⟩ : Fin 544) l) = Uf halo (Zf (hI x0 x1) x2) (ix3 a (⟨512 + r.val, by omega⟩ : Fin 544) l))
    (j' : Fin 8) (hj : j'.val = j.val + 1) : HaloU A b j' halo' := by
  intro a r l hr
  refine (e a r l).trans ((Uf_own B halo a _ l (by show 32 ≤ 512 + r.val; omega)).trans (uP_row A b _ _ _ ?_).symm)
  show _ = 512 * j.val + (512 + r.val - 32) + 30
  omega
end Block

/-- Before the first block there are zeros. -/
theorem haloC_zero (A : Mix) (b j : Fin 8) (hj : j.val = 0) : HaloC A b j (fun _ => 0) := by
  intro a r l hr
  have h : ¬(2 ≤ 512 * j.val + r.val - 6 ∧ 512 * j.val + r.val - 6 < 4098) := by omega
  show (0 : EReal) = cP A b (512 * j.val + r.val - 6) _
  rw [cP, dif_neg h]
theorem haloU_zero (A : Mix) (b j : Fin 8) (hj : j.val = 0) : HaloU A b j (fun _ => 0) := by
  intro a r l hr
  have h : ¬(30 ≤ 512 * j.val + r.val - 2 ∧ 512 * j.val + r.val - 2 < 4126) := by omega
  show (0 : EReal) = uP A b (512 * j.val + r.val - 2) _
  rw [uP, dif_neg h]

end Cert.EvenKernelIdeal.Hand

end
-- ==== Proof.EvenInputs.lean ====
/- What the input blocks of the kernel hold at a grid point, as entries of the arguments. -/
module

public import proofs.«01_k».proof.Proof.Gen.EvenKernelIdeal.Frame
public import Idealize.ShloMosaic.Lib.StableHlo.RunRead
public import Idealize.ShloMosaic.Lib.Pointwise

@[expose] public section

set_option maxRecDepth 16384

noncomputable section

namespace Cert.EvenKernelIdeal.Hand

open Cert.EvenKernelIdeal Cert.EvenKernelIdeal.Gen
open Idealize.ShloMosaic Idealize.ShloMosaic.TcCoe Idealize.SL.Sem

/-! ## The arrays the host prepares -/

theorem host_v2 (W : Valuation τ sig (Elt Ideal)) (z : Fin 1) (d : Fin 1024) :
    (StableHlo.after (hostOps0 (F := Ideal)) W main_v2 : S1x1024.Idx → EReal) (ix2 z d) = (W main_arg1 : S2x1024.Idx → EReal) (ix2 (0 : Fin 2) d) := by
  after_reads_simp
  generalize W (Proc.devRef .tc main_arg1) = A
  pointwise

theorem host_v4 (W : Valuation τ sig (Elt Ideal)) (k : Fin 1024) (q : Fin 2560) :
    (StableHlo.after (hostOps0 (F := Ideal)) W main_v4 : S1024x2560.Idx → EReal) (ix2 k q) = (W main_arg2 : S1x1024x2560.Idx → EReal) (ix3 (0 : Fin 1) k q) := by
  after_reads_simp
  generalize W (Proc.devRef .tc main_arg2) = A
  pointwise

theorem host_v7 (W : Valuation τ sig (Elt Ideal)) (r : Fin 24) (q : Fin 512) :
    (StableHlo.after (hostOps0 (F := Ideal)) W main_v7 : S24x512.Idx → EReal) (ix2 r q) = (W main_arg3 : S1x3x512.Idx → EReal) (ix3 (0 : Fin 1) (⟨r.val / 8, by omega⟩ : Fin 3) q) := by
  after_reads_simp
  generalize W (Proc.devRef .tc main_arg3) = A
  pointwise

theorem host_v10 (W : Valuation τ sig (Elt Ideal)) (r : Fin 248) (q : Fin 512) :
    (StableHlo.after (hostOps0 (F := Ideal)) W main_v10 : S248x512.Idx → EReal) (ix2 r q) = (W main_arg4 : S1x31x512.Idx → EReal) (ix3 (0 : Fin 1) (⟨r.val / 8, by omega⟩ : Fin 31) q) := by
  after_reads_simp
  generalize W (Proc.devRef .tc main_arg4) = A
  pointwise

theorem host_v14 (W : Valuation τ sig (Elt Ideal)) (r : Fin 8) (q : Fin 512) :
    (StableHlo.after (hostOps0 (F := Ideal)) W main_v14 : S8x512.Idx → EReal) (ix2 r q) = (W main_arg5 : S1x512.Idx → EReal) (ix2 (0 : Fin 1) q) := by
  after_reads_simp
  generalize W (Proc.devRef .tc main_arg5) = A
  pointwise

theorem host_v18 (W : Valuation τ sig (Elt Ideal)) (r : Fin 8) (q : Fin 512) :
    (StableHlo.after (hostOps0 (F := Ideal)) W main_v18 : S8x512.Idx → EReal) (ix2 r q) = (W main_arg6 : S1x512.Idx → EReal) (ix2 (0 : Fin 1) q) := by
  after_reads_simp
  generalize W (Proc.devRef .tc main_arg6) = A
  pointwise

theorem host_v22 (W : Valuation τ sig (Elt Ideal)) (r : Fin 8) (q : Fin 512) :
    (StableHlo.after (hostOps0 (F := Ideal)) W main_v22 : S8x512.Idx → EReal) (ix2 r q) = (W main_arg7 : S1x512.Idx → EReal) (ix2 (0 : Fin 1) q) := by
  after_reads_simp
  generalize W (Proc.devRef .tc main_arg7) = A
  pointwise

theorem host_v24 (W : Valuation τ sig (Elt Ideal)) (q : Fin 1024) (d : Fin 1024) :
    (StableHlo.after (hostOps0 (F := Ideal)) W main_v24 : S1024x1024.Idx → EReal) (ix2 q d) = (W main_arg8 : S1x1024x1024.Idx → EReal) (ix3 (0 : Fin 1) q d) := by
  after_reads_simp
  generalize W (Proc.devRef .tc main_arg8) = A
  pointwise

/-! ## Where the blocks of a grid point lie -/

theorem index0 : ∀ t : Fin cfg0.N, win0_0.index t = ![t.val / 8, t.val % 8, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel

/-! ## The blocks -/

variable (m : (ℓ : Loc nD τ sig) → Buf (Elt Ideal) ℓ)

theorem tLt (t : Fin cfg0.N) : t.val < 64 := by have h : cfg0.N = 64 := N_0; have := t.isLt; omega

/-- The batch entry of a grid point, and the row of the sequence that a row of its block is. -/
abbrev bat (t : Fin cfg0.N) : Fin 8 := ⟨t.val / 8, by have := tLt t; omega⟩
abbrev row (t : Fin cfg0.N) (n : Fin 512) : Fin 4096 := ⟨512 * (t.val % 8) + n.val, by omega⟩

theorem blk0 (c : Dev nD) (t : Fin cfg0.N) (n : Fin 512) (d : Fin 1024) :
    (iblk m c 0 t : S1x512x1024.Idx → EReal) (ix3 (0 : Fin 1) n d) = (m ((c : Thread nD τ).loc main_arg0) : S8x4096x1024.Idx → EReal) (ix3 (bat t) (row t n) d) := by
  have e : ∀ a, (win0_0.index t) a = (![t.val / 8, t.val % 8, 0] : Fin 3 → ℕ) a := fun a => congrFun (index0 t) a
  refine Eq.trans (b := (V m c main_arg0 : S8x4096x1024.Idx → EReal) (ix3 (bat t) (row t n) d)) (congrArg (V m c main_arg0) ?_) (congrFun (V_main_arg0 m c) (ix3 (bat t) (row t n) d))
  funext a
  apply Fin.ext
  fin_cases a
  · show win0_0.index t 0 * 1 + 1 * 0 = t.val / 8; rw [e 0]; show (t.val / 8) * 1 + 1 * 0 = t.val / 8; omega
  · show win0_0.index t 1 * 512 + 1 * n.val = 512 * (t.val % 8) + n.val; rw [e 1]; show (t.val % 8) * 512 + 1 * n.val = 512 * (t.val % 8) + n.val; omega
  · show win0_0.index t 2 * 1024 + 1 * d.val = d.val; rw [e 2]; show (0) * 1024 + 1 * d.val = d.val; omega

theorem blk1 (c : Dev nD) (t : Fin cfg0.N) (d : Fin 1024) :
    (iblk m c 1 t : S1x1024.Idx → EReal) (ix2 (0 : Fin 1) d) = (m ((c : Thread nD τ).loc main_arg1) : S2x1024.Idx → EReal) (ix2 (0 : Fin 2) d) := by
  have e : ∀ a, (win0_1.index t) a = (![0, 0] : Fin 2 → ℕ) a := fun a => congrFun (index1 t) a
  refine Eq.trans (b := (V m c main_v2 : S1x1024.Idx → EReal) (ix2 (0 : Fin 1) d)) (congrArg (V m c main_v2) ?_) (host_v2 (fun b => m (c, b)) (0 : Fin 1) d)
  funext a
  apply Fin.ext
  fin_cases a
  · show win0_1.index t 0 * 1 + 1 * 0 = 0; rw [e 0]; show (0) * 1 + 1 * 0 = 0; omega
  · show win0_1.index t 1 * 1024 + 1 * d.val = d.val; rw [e 1]; show (0) * 1024 + 1 * d.val = d.val; omega

theorem blk2 (c : Dev nD) (t : Fin cfg0.N) (k : Fin 1024) (q : Fin 2560) :
    (iblk m c 2 t : S1024x2560.Idx → EReal) (ix2 k q) = (m ((c : Thread nD τ).loc main_arg2) : S1x1024x2560.Idx → EReal) (ix3 (0 : Fin 1) k q) := by
  have e : ∀ a, (win0_2.index t) a = (![0, 0] : Fin 2 → ℕ) a := fun a => congrFun (index2 t) a
  refine Eq.trans (b := (V m c main_v4 : S1024x2560.Idx → EReal) (ix2 k q)) (congrArg (V m c main_v4) ?_) (host_v4 (fun b => m (c, b)) k q)
  funext a
  apply Fin.ext
  fin_cases a
  · show win0_2.index t 0 * 1024 + 1 * k.val = k.val; rw [e 0]; show (0) * 1024 + 1 * k.val = k.val; omega
  · show win0_2.index t 1 * 2560 + 1 * q.val = q.val; rw [e 1]; show (0) * 2560 + 1 * q.val = q.val; omega

theorem blk3 (c : Dev nD) (t : Fin cfg0.N) (r : Fin 24) (q : Fin 512) :
    (iblk m c 3 t : S24x512.Idx → EReal) (ix2 r q) = (m ((c : Thread nD τ).loc main_arg3) : S1x3x512.Idx → EReal) (ix3 (0 : Fin 1) (⟨r.val / 8, by omega⟩ : Fin 3) q) := by
  have e : ∀ a, (win0_3.index t) a = (![0, 0] : Fin 2 → ℕ) a := fun a => congrFun (index3 t) a
  refine Eq.trans (b := (V m c main_v7 : S24x512.Idx → EReal) (ix2 r q)) (congrArg (V m c main_v7) ?_) (host_v7 (fun b => m (c, b)) r q)
  funext a
  apply Fin.ext
  fin_cases a
  · show win0_3.index t 0 * 24 + 1 * r.val = r.val; rw [e 0]; show (0) * 24 + 1 * r.val = r.val; omega
  · show win0_3.index t 1 * 512 + 1 * q.val = q.val; rw [e 1]; show (0) * 512 + 1 * q.val = q.val; omega

theorem blk4 (c : Dev nD) (t : Fin cfg0.N) (r : Fin 248) (q : Fin 512) :
    (iblk m c 4 t : S248x512.Idx → EReal) (ix2 r q) = (m ((c : Thread nD τ).loc main_arg4) : S1x31x512.Idx → EReal) (ix3 (0 : Fin 1) (⟨r.val / 8, by omega⟩ : Fin 31) q) := by
  have e : ∀ a, (win0_4.index t) a = (![0, 0] : Fin 2 → ℕ) a := fun a => congrFun (index4 t) a
  refine Eq.trans (b := (V m c main_v10 : S248x512.Idx → EReal) (ix2 r q)) (congrArg (V m c main_v10) ?_) (host_v10 (fun b => m (c, b)) r q)
  funext a
  apply Fin.ext
  fin_cases a
  · show win0_4.index t 0 * 248 + 1 * r.val = r.val; rw [e 0]; show (0) * 248 + 1 * r.val = r.val; omega
  · show win0_4.index t 1 * 512 + 1 * q.val = q.val; rw [e 1]; show (0) * 512 + 1 * q.val = q.val; omega

theorem blk5 (c : Dev nD) (t : Fin cfg0.N) (r : Fin 8) (q : Fin 512) :
    (iblk m c 5 t : S8x512.Idx → EReal) (ix2 r q) = (m ((c : Thread nD τ).loc main_arg5) : S1x512.Idx → EReal) (ix2 (0 : Fin 1) q) := by
  have e : ∀ a, (win0_5.index t) a = (![0, 0] : Fin 2 → ℕ) a := fun a => congrFun (index5 t) a
  refine Eq.trans (b := (V m c main_v14 : S8x512.Idx → EReal) (ix2 r q)) (congrArg (V m c main_v14) ?_) (host_v14 (fun b => m (c, b)) r q)
  funext a
  apply Fin.ext
  fin_cases a
  · show win0_5.index t 0 * 8 + 1 * r.val = r.val; rw [e 0]; show (0) * 8 + 1 * r.val = r.val; omega
  · show win0_5.index t 1 * 512 + 1 * q.val = q.val; rw [e 1]; show (0) * 512 + 1 * q.val = q.val; omega

theorem blk6 (c : Dev nD) (t : Fin cfg0.N) (r : Fin 8) (q : Fin 512) :
    (iblk m c 6 t : S8x512.Idx → EReal) (ix2 r q) = (m ((c : Thread nD τ).loc main_arg6) : S1x512.Idx → EReal) (ix2 (0 : Fin 1) q) := by
  have e : ∀ a, (win0_6.index t) a = (![0, 0] : Fin 2 → ℕ) a := fun a => congrFun (index6 t) a
  refine Eq.trans (b := (V m c main_v18 : S8x512.Idx → EReal) (ix2 r q)) (congrArg (V m c main_v18) ?_) (host_v18 (fun b => m (c, b)) r q)
  funext a
  apply Fin.ext
  fin_cases a
  · show win0_6.index t 0 * 8 + 1 * r.val = r.val; rw [e 0]; show (0) * 8 + 1 * r.val = r.val; omega
  · show win0_6.index t 1 * 512 + 1 * q.val = q.val; rw [e 1]; show (0) * 512 + 1 * q.val = q.val; omega

theorem blk7 (c : Dev nD) (t : Fin cfg0.N) (r : Fin 8) (q : Fin 512) :
    (iblk m c 7 t : S8x512.Idx → EReal) (ix2 r q) = (m ((c : Thread nD τ).loc main_arg7) : S1x512.Idx → EReal) (ix2 (0 : Fin 1) q) := by
  have e : ∀ a, (win0_7.index t) a = (![0, 0] : Fin 2 → ℕ) a := fun a => congrFun (index7 t) a
  refine Eq.trans (b := (V m c main_v22 : S8x512.Idx → EReal) (ix2 r q)) (congrArg (V m c main_v22) ?_) (host_v22 (fun b => m (c, b)) r q)
  funext a
  apply Fin.ext
  fin_cases a
  · show win0_7.index t 0 * 8 + 1 * r.val = r.val; rw [e 0]; show (0) * 8 + 1 * r.val = r.val; omega
  · show win0_7.index t 1 * 512 + 1 * q.val = q.val; rw [e 1]; show (0) * 512 + 1 * q.val = q.val; omega

theorem blk8 (c : Dev nD) (t : Fin cfg0.N) (q : Fin 1024) (d : Fin 1024) :
    (iblk m c 8 t : S1024x1024.Idx → EReal) (ix2 q d) = (m ((c : Thread nD τ).loc main_arg8) : S1x1024x1024.Idx → EReal) (ix3 (0 : Fin 1) q d) := by
  have e : ∀ a, (win0_8.index t) a = (![0, 0] : Fin 2 → ℕ) a := fun a => congrFun (index8 t) a
  refine Eq.trans (b := (V m c main_v24 : S1024x1024.Idx → EReal) (ix2 q d)) (congrArg (V m c main_v24) ?_) (host_v24 (fun b => m (c, b)) q d)
  funext a
  apply Fin.ext
  fin_cases a
  · show win0_8.index t 0 * 1024 + 1 * q.val = q.val; rw [e 0]; show (0) * 1024 + 1 * q.val = q.val; omega
  · show win0_8.index t 1 * 1024 + 1 * d.val = d.val; rw [e 1]; show (0) * 1024 + 1 * d.val = d.val; omega

end Cert.EvenKernelIdeal.Hand
-- ==== Proof.EvenCaseA.lean ====
/- The even mixer's stores at a sequence's first block of rows: what each buffer holds when it is read. -/
module

public import proofs.«01_k».proof.Proof.EvenBlock
public import proofs.«01_k».proof.Proof.Gen.EvenKernelIdeal.Frame.RunA

@[expose] public section

set_option maxRecDepth 65536
set_option maxHeartbeats 4000000

noncomputable section

namespace Cert.EvenKernelIdeal.Hand.CaseA

open Cert.EvenKernelIdeal Cert.EvenKernelIdeal.Gen
open Idealize.ShloMosaic Idealize.ShloMosaic.TcCoe

variable (c : Dev nD)
variable {arg2 : Memref sig .tc .vmem S1x512x1024 .f32} {harg2 : arg2.IsWhole}
variable {arg3 : Memref sig .tc .vmem S1x1024 .f32} {harg3 : arg3.IsWhole}
variable {arg4 : Memref sig .tc .vmem S1024x2560 .bf16} {harg4 : arg4.IsWhole}
variable {arg5 : Memref sig .tc .vmem S24x512 .f32} {harg5 : arg5.IsWhole}
variable {arg6 : Memref sig .tc .vmem S248x512 .f32} {harg6 : arg6.IsWhole}
variable {arg7 : Memref sig .tc .vmem S8x512 .f32} {harg7 : arg7.IsWhole}
variable {arg8 : Memref sig .tc .vmem S8x512 .f32} {harg8 : arg8.IsWhole}
variable {arg9 : Memref sig .tc .vmem S8x512 .f32} {harg9 : arg9.IsWhole}
variable {arg10 : Memref sig .tc .vmem S1024x1024 .bf16} {harg10 : arg10.IsWhole}
variable {arg11 : Memref sig .tc .vmem S1x512x1024 .f32} {harg11 : arg11.IsWhole}
variable {arg12 : Memref sig .tc .vmem S512x1024 .bf16} {harg12 : arg12.IsWhole}
variable {arg13 : Memref sig .tc .vmem S5x512x512 .f32} {harg13 : arg13.IsWhole}
variable {arg14 : Memref sig .tc .vmem S4x520x128 .f32} {harg14 : arg14.IsWhole}
variable {arg15 : Memref sig .tc .vmem S4x544x128 .f32} {harg15 : arg15.IsWhole}
variable {arg16 : Memref sig .tc .vmem S512x1024 .bf16} {harg16 : arg16.IsWhole}
variable {x0 : Vec Ideal S1x512x1024 .f32} {x1 : Vec Ideal S1x1024 .f32} {x2 : Vec Ideal S1024x2560 .bf16} {x3 : Vec Ideal S24x512 .f32} {x4 : Vec Ideal S248x512 .f32} {x5 : Vec Ideal S8x512 .f32} {x6 : Vec Ideal S8x512 .f32} {x7 : Vec Ideal S8x512 .f32} {x8 : Vec Ideal S1024x1024 .bf16}

theorem h1 : Known arg12.view arg12.view.junk (kernelRun0_A.sl.HS0_1 (F := Ideal) c arg2 harg2 arg3 harg3 x0 x1) (hI x0 x1) fun _ => True := h_known

theorem z2 : Known arg13.view arg13.view.junk (kernelRun0_A.sl.HS1_2 (F := Ideal) c arg2 harg2 arg3 harg3 arg4 harg4 arg12 x0 x1 x2) (Zf (hI x0 x1) x2) fun y => ((y 0).val = 3 ∨ (y 0).val = 4) ∧ (y 1).val < 256 :=
  zrow 4 0 (by decide) (by decide) (R' := fun y => ((y 0).val = 3 ∨ (y 0).val = 4) ∧ (y 1).val < 256) (h1 c) (zrow 3 0 (by decide) (by decide) (R' := fun y => (y 0).val = 3 ∧ (y 1).val < 256) (h1 c) (known_none (R := fun _ => False) fun y h => h) (by intro y hy; dsimp only at *; omega)) (by intro y hy; dsimp only at *; omega)

theorem z4 : Known arg13.view arg13.view.junk (kernelRun0_A.sl.HS1_4 (F := Ideal) c arg2 harg2 arg3 harg3 arg4 harg4 arg12 x0 x1 x2) (Zf (hI x0 x1) x2) fun y => ((y 0).val = 3 ∨ (y 0).val = 4) ∧ (y 1).val < 512 :=
  zrow 4 256 (by decide) (by decide) (R' := fun y => ((y 0).val = 3 ∨ (y 0).val = 4) ∧ (y 1).val < 512) (h1 c) (zrow 3 256 (by decide) (by decide) (R' := fun y => (y 0).val = 3 ∧ (y 1).val < 512 ∨ (y 0).val = 4 ∧ (y 1).val < 256) (h1 c) (z2 c) (by intro y hy; dsimp only at *; omega)) (by intro y hy; dsimp only at *; omega)

theorem z10 : Known arg13.view arg13.view.junk (kernelRun0_A.sl.HS1_10 (F := Ideal) c arg2 harg2 arg3 harg3 arg4 harg4 arg12 x0 x1 x2) (Zf (hI x0 x1) x2) fun y => (y 0).val < 5 ∧ (y 1).val < 512 ∧ (y 2).val < 512 :=
  zcol 0 256 (by decide) (by decide) (R' := fun y => (y 0).val < 5 ∧ (y 1).val < 512 ∧ (y 2).val < 512) (h1 c) (zcol 0 0 (by decide) (by decide) (R' := fun y => ((y 0).val = 3 ∨ (y 0).val = 4 ∨ (y 0).val = 1 ∨ (y 0).val = 2) ∧ (y 1).val < 512 ∧ (y 2).val < 512 ∨ (y 0).val = 0 ∧ (y 1).val < 512 ∧ (y 2).val < 256) (h1 c) (zcol 2 256 (by decide) (by decide) (R' := fun y => ((y 0).val = 3 ∨ (y 0).val = 4 ∨ (y 0).val = 1 ∨ (y 0).val = 2) ∧ (y 1).val < 512 ∧ (y 2).val < 512) (h1 c) (zcol 2 0 (by decide) (by decide) (R' := fun y => ((y 0).val = 3 ∨ (y 0).val = 4 ∨ (y 0).val = 1) ∧ (y 1).val < 512 ∧ (y 2).val < 512 ∨ (y 0).val = 2 ∧ (y 1).val < 512 ∧ (y 2).val < 256) (h1 c) (zcol 1 256 (by decide) (by decide) (R' := fun y => ((y 0).val = 3 ∨ (y 0).val = 4 ∨ (y 0).val = 1) ∧ (y 1).val < 512 ∧ (y 2).val < 512) (h1 c) (zcol 1 0 (by decide) (by decide) (R' := fun y => ((y 0).val = 3 ∨ (y 0).val = 4) ∧ (y 1).val < 512 ∧ (y 2).val < 512 ∨ (y 0).val = 1 ∧ (y 1).val < 512 ∧ (y 2).val < 256) (h1 c) (z4 c) (by intro y hy; dsimp only at *; omega)) (by intro y hy; dsimp only at *; omega)) (by intro y hy; dsimp only at *; omega)) (by intro y hy; dsimp only at *; omega)) (by intro y hy; dsimp only at *; omega)) (by intro y hy; dsimp only at *; omega)

theorem u8 : Known arg15.view arg15.view.junk (kernelRun0_A.sl.HS3_33 (F := Ideal) c arg2 harg2 arg3 harg3 arg4 harg4 arg12 arg13 x0 x1 x2) (Uf (fun _ => 0) (Zf (hI x0 x1) x2)) fun y => 0 ≤ (y 1).val ∧ (y 1).val < 32 + 32 * (7 + 1) :=
  ust_step 7 (by decide) (lo := 0) (z2 c) (by intro y hy hy1 hy2; dsimp only at *; omega) (ust_step 6 (by decide) (lo := 0) (z2 c) (by intro y hy hy1 hy2; dsimp only at *; omega) (ust_step 5 (by decide) (lo := 0) (z2 c) (by intro y hy hy1 hy2; dsimp only at *; omega) (ust_step 4 (by decide) (lo := 0) (z2 c) (by intro y hy hy1 hy2; dsimp only at *; omega) (ust_step 3 (by decide) (lo := 0) (z2 c) (by intro y hy hy1 hy2; dsimp only at *; omega) (ust_step 2 (by decide) (lo := 0) (z2 c) (by intro y hy hy1 hy2; dsimp only at *; omega) (ust_step 1 (by decide) (lo := 0) (z2 c) (by intro y hy hy1 hy2; dsimp only at *; omega) (ust_step 0 (by decide) (lo := 0) (z2 c) (by intro y hy hy1 hy2; dsimp only at *; omega) (u_zero))))))))

theorem u16 : Known arg15.view arg15.view.junk (kernelRun0_A.sl.HS3_65 (F := Ideal) c arg2 harg2 arg3 harg3 arg4 harg4 arg12 arg13 x0 x1 x2) (Uf (fun _ => 0) (Zf (hI x0 x1) x2)) fun y => 0 ≤ (y 1).val ∧ (y 1).val < 32 + 32 * (15 + 1) :=
  ust_step 15 (by decide) (lo := 0) (z4 c) (by intro y hy hy1 hy2; dsimp only at *; omega) (ust_step 14 (by decide) (lo := 0) (z4 c) (by intro y hy hy1 hy2; dsimp only at *; omega) (ust_step 13 (by decide) (lo := 0) (z4 c) (by intro y hy hy1 hy2; dsimp only at *; omega) (ust_step 12 (by decide) (lo := 0) (z4 c) (by intro y hy hy1 hy2; dsimp only at *; omega) (ust_step 11 (by decide) (lo := 0) (z4 c) (by intro y hy hy1 hy2; dsimp only at *; omega) (ust_step 10 (by decide) (lo := 0) (z4 c) (by intro y hy hy1 hy2; dsimp only at *; omega) (ust_step 9 (by decide) (lo := 0) (z4 c) (by intro y hy hy1 hy2; dsimp only at *; omega) (ust_step 8 (by decide) (lo := 0) (z4 c) (by intro y hy hy1 hy2; dsimp only at *; omega) (u8 c))))))))

theorem c16 : Known arg14.view arg14.view.junk (kernelRun0_A.sl.HS2_65 (F := Ideal) c arg2 harg2 arg3 harg3 arg4 harg4 arg12 arg13 x0 x1 x2) (Cf (fun _ => 0) (Zf (hI x0 x1) x2)) fun y => 0 ≤ (y 1).val ∧ (y 1).val < 8 + 32 * (15 + 1) :=
  cst_step 15 (by decide) (lo := 0) (z10 c) (by intro y hy hy1 hy2; have h2 : (y 2).val < 512 := (y 2).isLt; dsimp only at *; omega) (cst_step 14 (by decide) (lo := 0) (z10 c) (by intro y hy hy1 hy2; have h2 : (y 2).val < 512 := (y 2).isLt; dsimp only at *; omega) (cst_step 13 (by decide) (lo := 0) (z10 c) (by intro y hy hy1 hy2; have h2 : (y 2).val < 512 := (y 2).isLt; dsimp only at *; omega) (cst_step 12 (by decide) (lo := 0) (z10 c) (by intro y hy hy1 hy2; have h2 : (y 2).val < 512 := (y 2).isLt; dsimp only at *; omega) (cst_step 11 (by decide) (lo := 0) (z10 c) (by intro y hy hy1 hy2; have h2 : (y 2).val < 512 := (y 2).isLt; dsimp only at *; omega) (cst_step 10 (by decide) (lo := 0) (z10 c) (by intro y hy hy1 hy2; have h2 : (y 2).val < 512 := (y 2).isLt; dsimp only at *; omega) (cst_step 9 (by decide) (lo := 0) (z10 c) (by intro y hy hy1 hy2; have h2 : (y 2).val < 512 := (y 2).isLt; dsimp only at *; omega) (cst_step 8 (by decide) (lo := 0) (z10 c) (by intro y hy hy1 hy2; have h2 : (y 2).val < 512 := (y 2).isLt; dsimp only at *; omega) (cst_step 7 (by decide) (lo := 0) (z10 c) (by intro y hy hy1 hy2; have h2 : (y 2).val < 512 := (y 2).isLt; dsimp only at *; omega) (cst_step 6 (by decide) (lo := 0) (z10 c) (by intro y hy hy1 hy2; have h2 : (y 2).val < 512 := (y 2).isLt; dsimp only at *; omega) (cst_step 5 (by decide) (lo := 0) (z10 c) (by intro y hy hy1 hy2; have h2 : (y 2).val < 512 := (y 2).isLt; dsimp only at *; omega) (cst_step 4 (by decide) (lo := 0) (z10 c) (by intro y hy hy1 hy2; have h2 : (y 2).val < 512 := (y 2).isLt; dsimp only at *; omega) (cst_step 3 (by decide) (lo := 0) (z10 c) (by intro y hy hy1 hy2; have h2 : (y 2).val < 512 := (y 2).isLt; dsimp only at *; omega) (cst_step 2 (by decide) (lo := 0) (z10 c) (by intro y hy hy1 hy2; have h2 : (y 2).val < 512 := (y 2).isLt; dsimp only at *; omega) (cst_step 1 (by decide) (lo := 0) (z10 c) (by intro y hy hy1 hy2; have h2 : (y 2).val < 512 := (y 2).isLt; dsimp only at *; omega) (cst_step 0 (by decide) (lo := 0) (z10 c) (by intro y hy hy1 hy2; have h2 : (y 2).val < 512 := (y 2).isLt; dsimp only at *; omega) (c_zero))))))))))))))))

theorem k14 : Known arg16.view arg16.view.junk (kernelRun0_A.sl.HS4_14 (F := Ideal) c arg2 harg2 arg3 harg3 arg4 harg4 arg5 harg5 arg6 harg6 arg7 harg7 arg8 harg8 arg9 harg9 arg12 arg13 arg14 arg15 x0 x1 x2 x3 x4 x5 x6 x7) (Catf (Uf (fun _ => 0) (Zf (hI x0 x1) x2)) (Cf (fun _ => 0) (Zf (hI x0 x1) x2)) (Zf (hI x0 x1) x2) x3 x4 x5 x6 x7) fun y => (512 ≤ (y 1).val ∧ (y 0).val < 32 * 10) ∨ ((y 1).val < 512 ∧ (y 0).val < 32 * 4) :=
  sc_step 3 (by decide) (z10 c) (by intro y hy hy1 hy2; have h2 : (y 2).val < 512 := (y 2).isLt; dsimp only at *; omega) (sc_step 2 (by decide) (z10 c) (by intro y hy hy1 hy2; have h2 : (y 2).val < 512 := (y 2).isLt; dsimp only at *; omega) (sc_step 1 (by decide) (z10 c) (by intro y hy hy1 hy2; have h2 : (y 2).val < 512 := (y 2).isLt; dsimp only at *; omega) (sc_step 0 (by decide) (z10 c) (by intro y hy hy1 hy2; have h2 : (y 2).val < 512 := (y 2).isLt; dsimp only at *; omega) (cf_step 9 (by decide) (cf_step 8 (by decide) (cf_step 7 (by decide) (cf_step 6 (by decide) (cf_step 5 (by decide) (cf_step 4 (by decide) (cf_step 3 (by decide) (cf_step 2 (by decide) (cf_step 1 (by decide) (cf_step 0 (by decide) (known_none fun y hy => by dsimp only at hy; omega)
    (laneU_ok 0 0 (by decide) (by decide) (u8 c) (by decide) (u8 c) (by decide) (by decide)) (laneU_ok 0 1 (by decide) (by decide) (u8 c) (by decide) (u8 c) (by decide) (by decide)) (laneU_ok 0 2 (by decide) (by decide) (u8 c) (by decide) (u8 c) (by decide) (by decide)) (laneU_ok 0 3 (by decide) (by decide) (u8 c) (by decide) (u8 c) (by decide) (by decide)))
    (laneU_ok 1 0 (by decide) (by decide) (u8 c) (by decide) (u8 c) (by decide) (by decide)) (laneU_ok 1 1 (by decide) (by decide) (u8 c) (by decide) (u8 c) (by decide) (by decide)) (laneU_ok 1 2 (by decide) (by decide) (u8 c) (by decide) (u8 c) (by decide) (by decide)) (laneU_ok 1 3 (by decide) (by decide) (u8 c) (by decide) (u8 c) (by decide) (by decide)))
    (laneU_ok 2 0 (by decide) (by decide) (u16 c) (by decide) (u16 c) (by decide) (by decide)) (laneU_ok 2 1 (by decide) (by decide) (u16 c) (by decide) (u16 c) (by decide) (by decide)) (laneU_ok 2 2 (by decide) (by decide) (u16 c) (by decide) (u16 c) (by decide) (by decide)) (laneU_ok 2 3 (by decide) (by decide) (u16 c) (by decide) (u16 c) (by decide) (by decide)))
    (laneU_ok 3 0 (by decide) (by decide) (u16 c) (by decide) (u16 c) (by decide) (by decide)) (laneU_ok 3 1 (by decide) (by decide) (u16 c) (by decide) (u16 c) (by decide) (by decide)) (laneU_ok 3 2 (by decide) (by decide) (u16 c) (by decide) (u16 c) (by decide) (by decide)) (laneU_ok 3 3 (by decide) (by decide) (u16 c) (by decide) (u16 c) (by decide) (by decide)))
    (laneU_ok 4 0 (by decide) (by decide) (u16 c) (by decide) (u16 c) (by decide) (by decide)) (laneU_ok 4 1 (by decide) (by decide) (u16 c) (by decide) (u16 c) (by decide) (by decide)) (laneU_ok 4 2 (by decide) (by decide) (u16 c) (by decide) (u16 c) (by decide) (by decide)) (laneU_ok 4 3 (by decide) (by decide) (u16 c) (by decide) (u16 c) (by decide) (by decide)))
    (laneU_ok 5 0 (by decide) (by decide) (u16 c) (by decide) (u16 c) (by decide) (by decide)) (laneU_ok 5 1 (by decide) (by decide) (u16 c) (by decide) (u16 c) (by decide) (by decide)) (laneU_ok 5 2 (by decide) (by decide) (u16 c) (by decide) (u16 c) (by decide) (by decide)) (laneU_ok 5 3 (by decide) (by decide) (u16 c) (by decide) (u16 c) (by decide) (by decide)))
    (laneU_ok 6 0 (by decide) (by decide) (u16 c) (by decide) (u16 c) (by decide) (by decide)) (laneU_ok 6 1 (by decide) (by decide) (u16 c) (by decide) (u16 c) (by decide) (by decide)) (laneU_ok 6 2 (by decide) (by decide) (u16 c) (by decide) (u16 c) (by decide) (by decide)) (laneU_ok 6 3 (by decide) (by decide) (u16 c) (by decide) (u16 c) (by decide) (by decide)))
    (laneU_ok 7 0 (by decide) (by decide) (u16 c) (by decide) (u16 c) (by decide) (by decide)) (laneU_ok 7 1 (by decide) (by decide) (u16 c) (by decide) (u16 c) (by decide) (by decide)) (laneU_ok 7 2 (by decide) (by decide) (u16 c) (by decide) (u16 c) (by decide) (by decide)) (laneU_ok 7 3 (by decide) (by decide) (u16 c) (by decide) (u16 c) (by decide) (by decide)))
    (laneU_ok 8 0 (by decide) (by decide) (u16 c) (by decide) (u16 c) (by decide) (by decide)) (laneU_ok 8 1 (by decide) (by decide) (u16 c) (by decide) (u16 c) (by decide) (by decide)) (laneU_ok 8 2 (by decide) (by decide) (u16 c) (by decide) (u16 c) (by decide) (by decide)) (laneU_ok 8 3 (by decide) (by decide) (u16 c) (by decide) (u16 c) (by decide) (by decide)))
    (laneU_ok 9 0 (by decide) (by decide) (u16 c) (by decide) (u16 c) (by decide) (by decide)) (laneU_ok 9 1 (by decide) (by decide) (u16 c) (by decide) (u16 c) (by decide) (by decide)) (laneU_ok 9 2 (by decide) (by decide) (u16 c) (by decide) (u16 c) (by decide) (by decide)) (laneU_ok 9 3 (by decide) (by decide) (u16 c) (by decide) (u16 c) (by decide) (by decide)))
    (laneC_ok 0 0 (by decide) (by decide) (c16 c) (by decide) (c16 c) (by decide) (by decide)) (laneC_ok 0 1 (by decide) (by decide) (c16 c) (by decide) (c16 c) (by decide) (by decide)) (laneC_ok 0 2 (by decide) (by decide) (c16 c) (by decide) (c16 c) (by decide) (by decide)) (laneC_ok 0 3 (by decide) (by decide) (c16 c) (by decide) (c16 c) (by decide) (by decide)))
    (laneC_ok 1 0 (by decide) (by decide) (c16 c) (by decide) (c16 c) (by decide) (by decide)) (laneC_ok 1 1 (by decide) (by decide) (c16 c) (by decide) (c16 c) (by decide) (by decide)) (laneC_ok 1 2 (by decide) (by decide) (c16 c) (by decide) (c16 c) (by decide) (by decide)) (laneC_ok 1 3 (by decide) (by decide) (c16 c) (by decide) (c16 c) (by decide) (by decide)))
    (laneC_ok 2 0 (by decide) (by decide) (c16 c) (by decide) (c16 c) (by decide) (by decide)) (laneC_ok 2 1 (by decide) (by decide) (c16 c) (by decide) (c16 c) (by decide) (by decide)) (laneC_ok 2 2 (by decide) (by decide) (c16 c) (by decide) (c16 c) (by decide) (by decide)) (laneC_ok 2 3 (by decide) (by decide) (c16 c) (by decide) (c16 c) (by decide) (by decide)))
    (laneC_ok 3 0 (by decide) (by decide) (c16 c) (by decide) (c16 c) (by decide) (by decide)) (laneC_ok 3 1 (by decide) (by decide) (c16 c) (by decide) (c16 c) (by decide) (by decide)) (laneC_ok 3 2 (by decide) (by decide) (c16 c) (by decide) (c16 c) (by decide) (by decide)) (laneC_ok 3 3 (by decide) (by decide) (c16 c) (by decide) (c16 c) (by decide) (by decide))

theorem k19 : Known arg16.view arg16.view.junk (kernelRun0_A.sl.HS4_19 (F := Ideal) c arg2 harg2 arg3 harg3 arg4 harg4 arg5 harg5 arg6 harg6 arg7 harg7 arg8 harg8 arg9 harg9 arg12 arg13 arg14 arg15 x0 x1 x2 x3 x4 x5 x6 x7) (Catf (Uf (fun _ => 0) (Zf (hI x0 x1) x2)) (Cf (fun _ => 0) (Zf (hI x0 x1) x2)) (Zf (hI x0 x1) x2) x3 x4 x5 x6 x7) fun y => (512 ≤ (y 1).val ∧ (y 0).val < 32 * 11) ∨ ((y 1).val < 512 ∧ (y 0).val < 32 * 8) :=
  sc_step 7 (by decide) (z10 c) (by intro y hy hy1 hy2; have h2 : (y 2).val < 512 := (y 2).isLt; dsimp only at *; omega) (sc_step 6 (by decide) (z10 c) (by intro y hy hy1 hy2; have h2 : (y 2).val < 512 := (y 2).isLt; dsimp only at *; omega) (sc_step 5 (by decide) (z10 c) (by intro y hy hy1 hy2; have h2 : (y 2).val < 512 := (y 2).isLt; dsimp only at *; omega) (sc_step 4 (by decide) (z10 c) (by intro y hy hy1 hy2; have h2 : (y 2).val < 512 := (y 2).isLt; dsimp only at *; omega) (cf_step 10 (by decide) (k14 c)
    (laneU_ok 10 0 (by decide) (by decide) (u16 c) (by decide) (u16 c) (by decide) (by decide)) (laneU_ok 10 1 (by decide) (by decide) (u16 c) (by decide) (u16 c) (by decide) (by decide)) (laneU_ok 10 2 (by decide) (by decide) (u16 c) (by decide) (u16 c) (by decide) (by decide)) (laneU_ok 10 3 (by decide) (by decide) (u16 c) (by decide) (u16 c) (by decide) (by decide)))
    (laneC_ok 4 0 (by decide) (by decide) (c16 c) (by decide) (c16 c) (by decide) (by decide)) (laneC_ok 4 1 (by decide) (by decide) (c16 c) (by decide) (c16 c) (by decide) (by decide)) (laneC_ok 4 2 (by decide) (by decide) (c16 c) (by decide) (c16 c) (by decide) (by decide)) (laneC_ok 4 3 (by decide) (by decide) (c16 c) (by decide) (c16 c) (by decide) (by decide)))
    (laneC_ok 5 0 (by decide) (by decide) (c16 c) (by decide) (c16 c) (by decide) (by decide)) (laneC_ok 5 1 (by decide) (by decide) (c16 c) (by decide) (c16 c) (by decide) (by decide)) (laneC_ok 5 2 (by decide) (by decide) (c16 c) (by decide) (c16 c) (by decide) (by decide)) (laneC_ok 5 3 (by decide) (by decide) (c16 c) (by decide) (c16 c) (by decide) (by decide)))
    (laneC_ok 6 0 (by decide) (by decide) (c16 c) (by decide) (c16 c) (by decide) (by decide)) (laneC_ok 6 1 (by decide) (by decide) (c16 c) (by decide) (c16 c) (by decide) (by decide)) (laneC_ok 6 2 (by decide) (by decide) (c16 c) (by decide) (c16 c) (by decide) (by decide)) (laneC_ok 6 3 (by decide) (by decide) (c16 c) (by decide) (c16 c) (by decide) (by decide)))
    (laneC_ok 7 0 (by decide) (by decide) (c16 c) (by decide) (c16 c) (by decide) (by decide)) (laneC_ok 7 1 (by decide) (by decide) (c16 c) (by decide) (c16 c) (by decide) (by decide)) (laneC_ok 7 2 (by decide) (by decide) (c16 c) (by decide) (c16 c) (by decide) (by decide)) (laneC_ok 7 3 (by decide) (by decide) (c16 c) (by decide) (c16 c) (by decide) (by decide))

theorem k25 : Known arg16.view arg16.view.junk (kernelRun0_A.sl.HS4_25 (F := Ideal) c arg2 harg2 arg3 harg3 arg4 harg4 arg5 harg5 arg6 harg6 arg7 harg7 arg8 harg8 arg9 harg9 arg12 arg13 arg14 arg15 x0 x1 x2 x3 x4 x5 x6 x7) (Catf (Uf (fun _ => 0) (Zf (hI x0 x1) x2)) (Cf (fun _ => 0) (Zf (hI x0 x1) x2)) (Zf (hI x0 x1) x2) x3 x4 x5 x6 x7) fun y => (512 ≤ (y 1).val ∧ (y 0).val < 32 * 13) ∨ ((y 1).val < 512 ∧ (y 0).val < 32 * 12) :=
  sc_step 11 (by decide) (z10 c) (by intro y hy hy1 hy2; have h2 : (y 2).val < 512 := (y 2).isLt; dsimp only at *; omega) (sc_step 10 (by decide) (z10 c) (by intro y hy hy1 hy2; have h2 : (y 2).val < 512 := (y 2).isLt; dsimp only at *; omega) (sc_step 9 (by decide) (z10 c) (by intro y hy hy1 hy2; have h2 : (y 2).val < 512 := (y 2).isLt; dsimp only at *; omega) (sc_step 8 (by decide) (z10 c) (by intro y hy hy1 hy2; have h2 : (y 2).val < 512 := (y 2).isLt; dsimp only at *; omega) (cf_step 12 (by decide) (cf_step 11 (by decide) (k19 c)
    (laneU_ok 11 0 (by decide) (by decide) (u16 c) (by decide) (u16 c) (by decide) (by decide)) (laneU_ok 11 1 (by decide) (by decide) (u16 c) (by decide) (u16 c) (by decide) (by decide)) (laneU_ok 11 2 (by decide) (by decide) (u16 c) (by decide) (u16 c) (by decide) (by decide)) (laneU_ok 11 3 (by decide) (by decide) (u16 c) (by decide) (u16 c) (by decide) (by decide)))
    (laneU_ok 12 0 (by decide) (by decide) (u16 c) (by decide) (u16 c) (by decide) (by decide)) (laneU_ok 12 1 (by decide) (by decide) (u16 c) (by decide) (u16 c) (by decide) (by decide)) (laneU_ok 12 2 (by decide) (by decide) (u16 c) (by decide) (u16 c) (by decide) (by decide)) (laneU_ok 12 3 (by decide) (by decide) (u16 c) (by decide) (u16 c) (by decide) (by decide)))
    (laneC_ok 8 0 (by decide) (by decide) (c16 c) (by decide) (c16 c) (by decide) (by decide)) (laneC_ok 8 1 (by decide) (by decide) (c16 c) (by decide) (c16 c) (by decide) (by decide)) (laneC_ok 8 2 (by decide) (by decide) (c16 c) (by decide) (c16 c) (by decide) (by decide)) (laneC_ok 8 3 (by decide) (by decide) (c16 c) (by decide) (c16 c) (by decide) (by decide)))
    (laneC_ok 9 0 (by decide) (by decide) (c16 c) (by decide) (c16 c) (by decide) (by decide)) (laneC_ok 9 1 (by decide) (by decide) (c16 c) (by decide) (c16 c) (by decide) (by decide)) (laneC_ok 9 2 (by decide) (by decide) (c16 c) (by decide) (c16 c) (by decide) (by decide)) (laneC_ok 9 3 (by decide) (by decide) (c16 c) (by decide) (c16 c) (by decide) (by decide)))
    (laneC_ok 10 0 (by decide) (by decide) (c16 c) (by decide) (c16 c) (by decide) (by decide)) (laneC_ok 10 1 (by decide) (by decide) (c16 c) (by decide) (c16 c) (by decide) (by decide)) (laneC_ok 10 2 (by decide) (by decide) (c16 c) (by decide) (c16 c) (by decide) (by decide)) (laneC_ok 10 3 (by decide) (by decide) (c16 c) (by decide) (c16 c) (by decide) (by decide)))
    (laneC_ok 11 0 (by decide) (by decide) (c16 c) (by decide) (c16 c) (by decide) (by decide)) (laneC_ok 11 1 (by decide) (by decide) (c16 c) (by decide) (c16 c) (by decide) (by decide)) (laneC_ok 11 2 (by decide) (by decide) (c16 c) (by decide) (c16 c) (by decide) (by decide)) (laneC_ok 11 3 (by decide) (by decide) (c16 c) (by decide) (c16 c) (by decide) (by decide))

theorem k32 : Known arg16.view arg16.view.junk (kernelRun0_A.sl.HS4_32 (F := Ideal) c arg2 harg2 arg3 harg3 arg4 harg4 arg5 harg5 arg6 harg6 arg7 harg7 arg8 harg8 arg9 harg9 arg12 arg13 arg14 arg15 x0 x1 x2 x3 x4 x5 x6 x7) (Catf (Uf (fun _ => 0) (Zf (hI x0 x1) x2)) (Cf (fun _ => 0) (Zf (hI x0 x1) x2)) (Zf (hI x0 x1) x2) x3 x4 x5 x6 x7) fun y => (512 ≤ (y 1).val ∧ (y 0).val < 32 * 16) ∨ ((y 1).val < 512 ∧ (y 0).val < 32 * 16) :=
  sc_step 15 (by decide) (z10 c) (by intro y hy hy1 hy2; have h2 : (y 2).val < 512 := (y 2).isLt; dsimp only at *; omega) (sc_step 14 (by decide) (z10 c) (by intro y hy hy1 hy2; have h2 : (y 2).val < 512 := (y 2).isLt; dsimp only at *; omega) (sc_step 13 (by decide) (z10 c) (by intro y hy hy1 hy2; have h2 : (y 2).val < 512 := (y 2).isLt; dsimp only at *; omega) (sc_step 12 (by decide) (z10 c) (by intro y hy hy1 hy2; have h2 : (y 2).val < 512 := (y 2).isLt; dsimp only at *; omega) (cf_step 15 (by decide) (cf_step 14 (by decide) (cf_step 13 (by decide) (k25 c)
    (laneU_ok 13 0 (by decide) (by decide) (u16 c) (by decide) (u16 c) (by decide) (by decide)) (laneU_ok 13 1 (by decide) (by decide) (u16 c) (by decide) (u16 c) (by decide) (by decide)) (laneU_ok 13 2 (by decide) (by decide) (u16 c) (by decide) (u16 c) (by decide) (by decide)) (laneU_ok 13 3 (by decide) (by decide) (u16 c) (by decide) (u16 c) (by decide) (by decide)))
    (laneU_ok 14 0 (by decide) (by decide) (u16 c) (by decide) (u16 c) (by decide) (by decide)) (laneU_ok 14 1 (by decide) (by decide) (u16 c) (by decide) (u16 c) (by decide) (by decide)) (laneU_ok 14 2 (by decide) (by decide) (u16 c) (by decide) (u16 c) (by decide) (by decide)) (laneU_ok 14 3 (by decide) (by decide) (u16 c) (by decide) (u16 c) (by decide) (by decide)))
    (laneU_ok 15 0 (by decide) (by decide) (u16 c) (by decide) (u16 c) (by decide) (by decide)) (laneU_ok 15 1 (by decide) (by decide) (u16 c) (by decide) (u16 c) (by decide) (by decide)) (laneU_ok 15 2 (by decide) (by decide) (u16 c) (by decide) (u16 c) (by decide) (by decide)) (laneU_ok 15 3 (by decide) (by decide) (u16 c) (by decide) (u16 c) (by decide) (by decide)))
    (laneC_ok 12 0 (by decide) (by decide) (c16 c) (by decide) (c16 c) (by decide) (by decide)) (laneC_ok 12 1 (by decide) (by decide) (c16 c) (by decide) (c16 c) (by decide) (by decide)) (laneC_ok 12 2 (by decide) (by decide) (c16 c) (by decide) (c16 c) (by decide) (by decide)) (laneC_ok 12 3 (by decide) (by decide) (c16 c) (by decide) (c16 c) (by decide) (by decide)))
    (laneC_ok 13 0 (by decide) (by decide) (c16 c) (by decide) (c16 c) (by decide) (by decide)) (laneC_ok 13 1 (by decide) (by decide) (c16 c) (by decide) (c16 c) (by decide) (by decide)) (laneC_ok 13 2 (by decide) (by decide) (c16 c) (by decide) (c16 c) (by decide) (by decide)) (laneC_ok 13 3 (by decide) (by decide) (c16 c) (by decide) (c16 c) (by decide) (by decide)))
    (laneC_ok 14 0 (by decide) (by decide) (c16 c) (by decide) (c16 c) (by decide) (by decide)) (laneC_ok 14 1 (by decide) (by decide) (c16 c) (by decide) (c16 c) (by decide) (by decide)) (laneC_ok 14 2 (by decide) (by decide) (c16 c) (by decide) (c16 c) (by decide) (by decide)) (laneC_ok 14 3 (by decide) (by decide) (c16 c) (by decide) (c16 c) (by decide) (by decide)))
    (laneC_ok 15 0 (by decide) (by decide) (c16 c) (by decide) (c16 c) (by decide) (by decide)) (laneC_ok 15 1 (by decide) (by decide) (c16 c) (by decide) (c16 c) (by decide) (by decide)) (laneC_ok 15 2 (by decide) (by decide) (c16 c) (by decide) (c16 c) (by decide) (by decide)) (laneC_ok 15 3 (by decide) (by decide) (c16 c) (by decide) (c16 c) (by decide) (by decide))

end Cert.EvenKernelIdeal.Hand.CaseA

end
-- ==== Proof.EvenOutA.lean ====
/- What the even mixer's call leaves in its output block and in the carried rows at a sequence's first block. -/
module

public import proofs.«01_k».proof.Proof.EvenCaseA
public import proofs.«01_k».proof.Proof.Gen.EvenKernelIdeal.Frame

@[expose] public section

set_option maxRecDepth 65536

noncomputable section

namespace Cert.EvenKernelIdeal.Hand.CaseA

open Cert.EvenKernelIdeal Cert.EvenKernelIdeal.Gen
open Idealize.ShloMosaic Idealize.ShloMosaic.TcCoe

variable (i : grid0.Coords)
variable (c : Dev nD)
variable (arg2 : Memref sig .tc .vmem S1x512x1024 .f32)
variable (harg2 : arg2.IsWhole)
variable (arg3 : Memref sig .tc .vmem S1x1024 .f32)
variable (harg3 : arg3.IsWhole)
variable (arg4 : Memref sig .tc .vmem S1024x2560 .bf16)
variable (harg4 : arg4.IsWhole)
variable (arg5 : Memref sig .tc .vmem S24x512 .f32)
variable (harg5 : arg5.IsWhole)
variable (arg6 : Memref sig .tc .vmem S248x512 .f32)
variable (harg6 : arg6.IsWhole)
variable (arg7 : Memref sig .tc .vmem S8x512 .f32)
variable (harg7 : arg7.IsWhole)
variable (arg8 : Memref sig .tc .vmem S8x512 .f32)
variable (harg8 : arg8.IsWhole)
variable (arg9 : Memref sig .tc .vmem S8x512 .f32)
variable (harg9 : arg9.IsWhole)
variable (arg10 : Memref sig .tc .vmem S1024x1024 .bf16)
variable (harg10 : arg10.IsWhole)
variable (arg11 : Memref sig .tc .vmem S1x512x1024 .f32)
variable (harg11 : arg11.IsWhole)
variable (arg12 : Memref sig .tc .vmem S512x1024 .bf16)
variable (harg12 : arg12.IsWhole)
variable (arg13 : Memref sig .tc .vmem S5x512x512 .f32)
variable (harg13 : arg13.IsWhole)
variable (arg14 : Memref sig .tc .vmem S4x520x128 .f32)
variable (harg14 : arg14.IsWhole)
variable (arg15 : Memref sig .tc .vmem S4x544x128 .f32)
variable (harg15 : arg15.IsWhole)
variable (arg16 : Memref sig .tc .vmem S512x1024 .bf16)
variable (harg16 : arg16.IsWhole)
variable (hc0 : cond0_0 i)
variable (x0 : Vec Ideal S1x512x1024 .f32) (x1 : Vec Ideal S1x1024 .f32) (x2 : Vec Ideal S1024x2560 .bf16) (x3 : Vec Ideal S24x512 .f32) (x4 : Vec Ideal S248x512 .f32) (x5 : Vec Ideal S8x512 .f32) (x6 : Vec Ideal S8x512 .f32) (x7 : Vec Ideal S8x512 .f32) (x8 : Vec Ideal S1024x1024 .bf16)

theorem out_known : Known VO0_9 VO0_9.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1
    (Outf x0 (Catf (Uf (fun _ => 0) (Zf (hI x0 x1) x2)) (Cf (fun _ => 0) (Zf (hI x0 x1) x2)) (Zf (hI x0 x1) x2) x3 x4 x5 x6 x7) x8) fun y => (y 1).val < 128 * (3 + 1) :=
  out_step 3 (by decide) (by decide) (k32 c) (out_step 2 (by decide) (by decide) (k25 c) (out_step 1 (by decide) (by decide) (k19 c)
    (out_step 0 (by decide) (by decide) (k14 c) (known_none fun y hy => by dsimp only at hy; omega))))

/-- A row of the output block. -/
theorem out_eq (n : Fin 512) (d : Fin 1024) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 (0 : Fin 1) n d) = Outf x0 (Catf (Uf (fun _ => 0) (Zf (hI x0 x1) x2)) (Cf (fun _ => 0) (Zf (hI x0 x1) x2)) (Zf (hI x0 x1) x2) x3 x4 x5 x6 x7) x8 (ix3 (0 : Fin 1) n d) :=
  out_known i c arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 (0 : Fin 1) n d) (show n.val < 128 * (3 + 1) by omega)

/-- The carried rows. -/
theorem carryC_eq (a : Fin 4) (r : Fin 8) (l : Fin 128) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 a (⟨r.val, by omega⟩ : Fin 520) l) = Cf (fun _ => 0) (Zf (hI x0 x1) x2) (ix3 a (⟨512 + r.val, by omega⟩ : Fin 520) l) :=
  c_carry (by decide) (c16 c) a r l
theorem carryU_eq (a : Fin 4) (r : Fin 32) (l : Fin 128) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 a (⟨r.val, by omega⟩ : Fin 544) l) = Uf (fun _ => 0) (Zf (hI x0 x1) x2) (ix3 a (⟨512 + r.val, by omega⟩ : Fin 544) l) :=
  u_carry (by decide) (u16 c) a r l

end Cert.EvenKernelIdeal.Hand.CaseA

end
-- ==== Proof.EvenCaseB.lean ====
/- The even mixer's stores at a later block of rows: what each buffer holds when it is read. -/
module

public import proofs.«01_k».proof.Proof.EvenBlock
public import proofs.«01_k».proof.Proof.Gen.EvenKernelIdeal.Frame.RunB

@[expose] public section

set_option maxRecDepth 65536
set_option maxHeartbeats 4000000

noncomputable section

namespace Cert.EvenKernelIdeal.Hand.CaseB

open Cert.EvenKernelIdeal Cert.EvenKernelIdeal.Gen
open Idealize.ShloMosaic Idealize.ShloMosaic.TcCoe

variable (c : Dev nD)
variable {arg2 : Memref sig .tc .vmem S1x512x1024 .f32} {harg2 : arg2.IsWhole}
variable {arg3 : Memref sig .tc .vmem S1x1024 .f32} {harg3 : arg3.IsWhole}
variable {arg4 : Memref sig .tc .vmem S1024x2560 .bf16} {harg4 : arg4.IsWhole}
variable {arg5 : Memref sig .tc .vmem S24x512 .f32} {harg5 : arg5.IsWhole}
variable {arg6 : Memref sig .tc .vmem S248x512 .f32} {harg6 : arg6.IsWhole}
variable {arg7 : Memref sig .tc .vmem S8x512 .f32} {harg7 : arg7.IsWhole}
variable {arg8 : Memref sig .tc .vmem S8x512 .f32} {harg8 : arg8.IsWhole}
variable {arg9 : Memref sig .tc .vmem S8x512 .f32} {harg9 : arg9.IsWhole}
variable {arg10 : Memref sig .tc .vmem S1024x1024 .bf16} {harg10 : arg10.IsWhole}
variable {arg11 : Memref sig .tc .vmem S1x512x1024 .f32} {harg11 : arg11.IsWhole}
variable {arg12 : Memref sig .tc .vmem S512x1024 .bf16} {harg12 : arg12.IsWhole}
variable {arg13 : Memref sig .tc .vmem S5x512x512 .f32} {harg13 : arg13.IsWhole}
variable {arg14 : Memref sig .tc .vmem S4x520x128 .f32} {harg14 : arg14.IsWhole}
variable {arg15 : Memref sig .tc .vmem S4x544x128 .f32} {harg15 : arg15.IsWhole}
variable {arg16 : Memref sig .tc .vmem S512x1024 .bf16} {harg16 : arg16.IsWhole}
variable {x0 : Vec Ideal S1x512x1024 .f32} {x1 : Vec Ideal S1x1024 .f32} {x2 : Vec Ideal S1024x2560 .bf16} {x3 : Vec Ideal S24x512 .f32} {x4 : Vec Ideal S248x512 .f32} {x5 : Vec Ideal S8x512 .f32} {x6 : Vec Ideal S8x512 .f32} {x7 : Vec Ideal S8x512 .f32} {x8 : Vec Ideal S1024x1024 .bf16}
variable {xs2 : Vec Ideal S4x520x128 .f32} {xs3 : Vec Ideal S4x544x128 .f32}

theorem h1 : Known arg12.view arg12.view.junk (kernelRun0_B.sl.HS0_1 (F := Ideal) c arg2 harg2 arg3 harg3 x0 x1) (hI x0 x1) fun _ => True := h_known

theorem z2 : Known arg13.view arg13.view.junk (kernelRun0_B.sl.HS1_2 (F := Ideal) c arg2 harg2 arg3 harg3 arg4 harg4 arg12 x0 x1 x2) (Zf (hI x0 x1) x2) fun y => ((y 0).val = 3 ∨ (y 0).val = 4) ∧ (y 1).val < 256 :=
  zrow 4 0 (by decide) (by decide) (R' := fun y => ((y 0).val = 3 ∨ (y 0).val = 4) ∧ (y 1).val < 256) (h1 c) (zrow 3 0 (by decide) (by decide) (R' := fun y => (y 0).val = 3 ∧ (y 1).val < 256) (h1 c) (known_none (R := fun _ => False) fun y h => h) (by intro y hy; dsimp only at *; omega)) (by intro y hy; dsimp only at *; omega)

theorem z4 : Known arg13.view arg13.view.junk (kernelRun0_B.sl.HS1_4 (F := Ideal) c arg2 harg2 arg3 harg3 arg4 harg4 arg12 x0 x1 x2) (Zf (hI x0 x1) x2) fun y => ((y 0).val = 3 ∨ (y 0).val = 4) ∧ (y 1).val < 512 :=
  zrow 4 256 (by decide) (by decide) (R' := fun y => ((y 0).val = 3 ∨ (y 0).val = 4) ∧ (y 1).val < 512) (h1 c) (zrow 3 256 (by decide) (by decide) (R' := fun y => (y 0).val = 3 ∧ (y 1).val < 512 ∨ (y 0).val = 4 ∧ (y 1).val < 256) (h1 c) (z2 c) (by intro y hy; dsimp only at *; omega)) (by intro y hy; dsimp only at *; omega)

theorem z10 : Known arg13.view arg13.view.junk (kernelRun0_B.sl.HS1_10 (F := Ideal) c arg2 harg2 arg3 harg3 arg4 harg4 arg12 x0 x1 x2) (Zf (hI x0 x1) x2) fun y => (y 0).val < 5 ∧ (y 1).val < 512 ∧ (y 2).val < 512 :=
  zcol 0 256 (by decide) (by decide) (R' := fun y => (y 0).val < 5 ∧ (y 1).val < 512 ∧ (y 2).val < 512) (h1 c) (zcol 0 0 (by decide) (by decide) (R' := fun y => ((y 0).val = 3 ∨ (y 0).val = 4 ∨ (y 0).val = 1 ∨ (y 0).val = 2) ∧ (y 1).val < 512 ∧ (y 2).val < 512 ∨ (y 0).val = 0 ∧ (y 1).val < 512 ∧ (y 2).val < 256) (h1 c) (zcol 2 256 (by decide) (by decide) (R' := fun y => ((y 0).val = 3 ∨ (y 0).val = 4 ∨ (y 0).val = 1 ∨ (y 0).val = 2) ∧ (y 1).val < 512 ∧ (y 2).val < 512) (h1 c) (zcol 2 0 (by decide) (by decide) (R' := fun y => ((y 0).val = 3 ∨ (y 0).val = 4 ∨ (y 0).val = 1) ∧ (y 1).val < 512 ∧ (y 2).val < 512 ∨ (y 0).val = 2 ∧ (y 1).val < 512 ∧ (y 2).val < 256) (h1 c) (zcol 1 256 (by decide) (by decide) (R' := fun y => ((y 0).val = 3 ∨ (y 0).val = 4 ∨ (y 0).val = 1) ∧ (y 1).val < 512 ∧ (y 2).val < 512) (h1 c) (zcol 1 0 (by decide) (by decide) (R' := fun y => ((y 0).val = 3 ∨ (y 0).val = 4) ∧ (y 1).val < 512 ∧ (y 2).val < 512 ∨ (y 0).val = 1 ∧ (y 1).val < 512 ∧ (y 2).val < 256) (h1 c) (z4 c) (by intro y hy; dsimp only at *; omega)) (by intro y hy; dsimp only at *; omega)) (by intro y hy; dsimp only at *; omega)) (by intro y hy; dsimp only at *; omega)) (by intro y hy; dsimp only at *; omega)) (by intro y hy; dsimp only at *; omega)

theorem u8 : Known arg15.view arg15.view.junk (kernelRun0_B.sl.HS3_32 (F := Ideal) c arg2 harg2 arg3 harg3 arg4 harg4 arg12 arg13 x0 x1 x2) (Uf xs3 (Zf (hI x0 x1) x2)) fun y => 32 ≤ (y 1).val ∧ (y 1).val < 32 + 32 * (7 + 1) :=
  ust_step 7 (by decide) (lo := 32) (z2 c) (by intro y hy hy1 hy2; dsimp only at *; omega) (ust_step 6 (by decide) (lo := 32) (z2 c) (by intro y hy hy1 hy2; dsimp only at *; omega) (ust_step 5 (by decide) (lo := 32) (z2 c) (by intro y hy hy1 hy2; dsimp only at *; omega) (ust_step 4 (by decide) (lo := 32) (z2 c) (by intro y hy hy1 hy2; dsimp only at *; omega) (ust_step 3 (by decide) (lo := 32) (z2 c) (by intro y hy hy1 hy2; dsimp only at *; omega) (ust_step 2 (by decide) (lo := 32) (z2 c) (by intro y hy hy1 hy2; dsimp only at *; omega) (ust_step 1 (by decide) (lo := 32) (z2 c) (by intro y hy hy1 hy2; dsimp only at *; omega) (ust_step 0 (by decide) (lo := 32) (z2 c) (by intro y hy hy1 hy2; dsimp only at *; omega) (u_junk))))))))

theorem u16 : Known arg15.view arg15.view.junk (kernelRun0_B.sl.HS3_64 (F := Ideal) c arg2 harg2 arg3 harg3 arg4 harg4 arg12 arg13 x0 x1 x2) (Uf xs3 (Zf (hI x0 x1) x2)) fun y => 32 ≤ (y 1).val ∧ (y 1).val < 32 + 32 * (15 + 1) :=
  ust_step 15 (by decide) (lo := 32) (z4 c) (by intro y hy hy1 hy2; dsimp only at *; omega) (ust_step 14 (by decide) (lo := 32) (z4 c) (by intro y hy hy1 hy2; dsimp only at *; omega) (ust_step 13 (by decide) (lo := 32) (z4 c) (by intro y hy hy1 hy2; dsimp only at *; omega) (ust_step 12 (by decide) (lo := 32) (z4 c) (by intro y hy hy1 hy2; dsimp only at *; omega) (ust_step 11 (by decide) (lo := 32) (z4 c) (by intro y hy hy1 hy2; dsimp only at *; omega) (ust_step 10 (by decide) (lo := 32) (z4 c) (by intro y hy hy1 hy2; dsimp only at *; omega) (ust_step 9 (by decide) (lo := 32) (z4 c) (by intro y hy hy1 hy2; dsimp only at *; omega) (ust_step 8 (by decide) (lo := 32) (z4 c) (by intro y hy hy1 hy2; dsimp only at *; omega) (u8 c))))))))

theorem c16 : Known arg14.view arg14.view.junk (kernelRun0_B.sl.HS2_64 (F := Ideal) c arg2 harg2 arg3 harg3 arg4 harg4 arg12 arg13 x0 x1 x2) (Cf xs2 (Zf (hI x0 x1) x2)) fun y => 8 ≤ (y 1).val ∧ (y 1).val < 8 + 32 * (15 + 1) :=
  cst_step 15 (by decide) (lo := 8) (z10 c) (by intro y hy hy1 hy2; have h2 : (y 2).val < 512 := (y 2).isLt; dsimp only at *; omega) (cst_step 14 (by decide) (lo := 8) (z10 c) (by intro y hy hy1 hy2; have h2 : (y 2).val < 512 := (y 2).isLt; dsimp only at *; omega) (cst_step 13 (by decide) (lo := 8) (z10 c) (by intro y hy hy1 hy2; have h2 : (y 2).val < 512 := (y 2).isLt; dsimp only at *; omega) (cst_step 12 (by decide) (lo := 8) (z10 c) (by intro y hy hy1 hy2; have h2 : (y 2).val < 512 := (y 2).isLt; dsimp only at *; omega) (cst_step 11 (by decide) (lo := 8) (z10 c) (by intro y hy hy1 hy2; have h2 : (y 2).val < 512 := (y 2).isLt; dsimp only at *; omega) (cst_step 10 (by decide) (lo := 8) (z10 c) (by intro y hy hy1 hy2; have h2 : (y 2).val < 512 := (y 2).isLt; dsimp only at *; omega) (cst_step 9 (by decide) (lo := 8) (z10 c) (by intro y hy hy1 hy2; have h2 : (y 2).val < 512 := (y 2).isLt; dsimp only at *; omega) (cst_step 8 (by decide) (lo := 8) (z10 c) (by intro y hy hy1 hy2; have h2 : (y 2).val < 512 := (y 2).isLt; dsimp only at *; omega) (cst_step 7 (by decide) (lo := 8) (z10 c) (by intro y hy hy1 hy2; have h2 : (y 2).val < 512 := (y 2).isLt; dsimp only at *; omega) (cst_step 6 (by decide) (lo := 8) (z10 c) (by intro y hy hy1 hy2; have h2 : (y 2).val < 512 := (y 2).isLt; dsimp only at *; omega) (cst_step 5 (by decide) (lo := 8) (z10 c) (by intro y hy hy1 hy2; have h2 : (y 2).val < 512 := (y 2).isLt; dsimp only at *; omega) (cst_step 4 (by decide) (lo := 8) (z10 c) (by intro y hy hy1 hy2; have h2 : (y 2).val < 512 := (y 2).isLt; dsimp only at *; omega) (cst_step 3 (by decide) (lo := 8) (z10 c) (by intro y hy hy1 hy2; have h2 : (y 2).val < 512 := (y 2).isLt; dsimp only at *; omega) (cst_step 2 (by decide) (lo := 8) (z10 c) (by intro y hy hy1 hy2; have h2 : (y 2).val < 512 := (y 2).isLt; dsimp only at *; omega) (cst_step 1 (by decide) (lo := 8) (z10 c) (by intro y hy hy1 hy2; have h2 : (y 2).val < 512 := (y 2).isLt; dsimp only at *; omega) (cst_step 0 (by decide) (lo := 8) (z10 c) (by intro y hy hy1 hy2; have h2 : (y 2).val < 512 := (y 2).isLt; dsimp only at *; omega) (c_junk))))))))))))))))

theorem v8 : Known arg15.view (harg15.unread xs3) (kernelRun0_B.sl.HS3_32 (F := Ideal) c arg2 harg2 arg3 harg3 arg4 harg4 arg12 arg13 x0 x1 x2) (Uf xs3 (Zf (hI x0 x1) x2)) fun y => 0 ≤ (y 1).val ∧ (y 1).val < 32 + 32 * (7 + 1) :=
  ust_step 7 (by decide) (lo := 0) (z2 c) (by intro y hy hy1 hy2; dsimp only at *; omega) (ust_step 6 (by decide) (lo := 0) (z2 c) (by intro y hy hy1 hy2; dsimp only at *; omega) (ust_step 5 (by decide) (lo := 0) (z2 c) (by intro y hy hy1 hy2; dsimp only at *; omega) (ust_step 4 (by decide) (lo := 0) (z2 c) (by intro y hy hy1 hy2; dsimp only at *; omega) (ust_step 3 (by decide) (lo := 0) (z2 c) (by intro y hy hy1 hy2; dsimp only at *; omega) (ust_step 2 (by decide) (lo := 0) (z2 c) (by intro y hy hy1 hy2; dsimp only at *; omega) (ust_step 1 (by decide) (lo := 0) (z2 c) (by intro y hy hy1 hy2; dsimp only at *; omega) (ust_step 0 (by decide) (lo := 0) (z2 c) (by intro y hy hy1 hy2; dsimp only at *; omega) (u_old))))))))

theorem d16 : Known arg14.view (harg14.unread xs2) (kernelRun0_B.sl.HS2_64 (F := Ideal) c arg2 harg2 arg3 harg3 arg4 harg4 arg12 arg13 x0 x1 x2) (Cf xs2 (Zf (hI x0 x1) x2)) fun y => 0 ≤ (y 1).val ∧ (y 1).val < 8 + 32 * (15 + 1) :=
  cst_step 15 (by decide) (lo := 0) (z10 c) (by intro y hy hy1 hy2; have h2 : (y 2).val < 512 := (y 2).isLt; dsimp only at *; omega) (cst_step 14 (by decide) (lo := 0) (z10 c) (by intro y hy hy1 hy2; have h2 : (y 2).val < 512 := (y 2).isLt; dsimp only at *; omega) (cst_step 13 (by decide) (lo := 0) (z10 c) (by intro y hy hy1 hy2; have h2 : (y 2).val < 512 := (y 2).isLt; dsimp only at *; omega) (cst_step 12 (by decide) (lo := 0) (z10 c) (by intro y hy hy1 hy2; have h2 : (y 2).val < 512 := (y 2).isLt; dsimp only at *; omega) (cst_step 11 (by decide) (lo := 0) (z10 c) (by intro y hy hy1 hy2; have h2 : (y 2).val < 512 := (y 2).isLt; dsimp only at *; omega) (cst_step 10 (by decide) (lo := 0) (z10 c) (by intro y hy hy1 hy2; have h2 : (y 2).val < 512 := (y 2).isLt; dsimp only at *; omega) (cst_step 9 (by decide) (lo := 0) (z10 c) (by intro y hy hy1 hy2; have h2 : (y 2).val < 512 := (y 2).isLt; dsimp only at *; omega) (cst_step 8 (by decide) (lo := 0) (z10 c) (by intro y hy hy1 hy2; have h2 : (y 2).val < 512 := (y 2).isLt; dsimp only at *; omega) (cst_step 7 (by decide) (lo := 0) (z10 c) (by intro y hy hy1 hy2; have h2 : (y 2).val < 512 := (y 2).isLt; dsimp only at *; omega) (cst_step 6 (by decide) (lo := 0) (z10 c) (by intro y hy hy1 hy2; have h2 : (y 2).val < 512 := (y 2).isLt; dsimp only at *; omega) (cst_step 5 (by decide) (lo := 0) (z10 c) (by intro y hy hy1 hy2; have h2 : (y 2).val < 512 := (y 2).isLt; dsimp only at *; omega) (cst_step 4 (by decide) (lo := 0) (z10 c) (by intro y hy hy1 hy2; have h2 : (y 2).val < 512 := (y 2).isLt; dsimp only at *; omega) (cst_step 3 (by decide) (lo := 0) (z10 c) (by intro y hy hy1 hy2; have h2 : (y 2).val < 512 := (y 2).isLt; dsimp only at *; omega) (cst_step 2 (by decide) (lo := 0) (z10 c) (by intro y hy hy1 hy2; have h2 : (y 2).val < 512 := (y 2).isLt; dsimp only at *; omega) (cst_step 1 (by decide) (lo := 0) (z10 c) (by intro y hy hy1 hy2; have h2 : (y 2).val < 512 := (y 2).isLt; dsimp only at *; omega) (cst_step 0 (by decide) (lo := 0) (z10 c) (by intro y hy hy1 hy2; have h2 : (y 2).val < 512 := (y 2).isLt; dsimp only at *; omega) (c_old))))))))))))))))

theorem k14 : Known arg16.view arg16.view.junk (kernelRun0_B.sl.HS4_14 (F := Ideal) c arg2 harg2 arg3 harg3 arg4 harg4 arg5 harg5 arg6 harg6 arg7 harg7 arg8 harg8 arg9 harg9 arg12 arg13 arg14 harg14 arg15 harg15 x0 x1 x2 x3 x4 x5 x6 x7 xs2 xs3) (Catf (Uf xs3 (Zf (hI x0 x1) x2)) (Cf xs2 (Zf (hI x0 x1) x2)) (Zf (hI x0 x1) x2) x3 x4 x5 x6 x7) fun y => (512 ≤ (y 1).val ∧ (y 0).val < 32 * 10) ∨ ((y 1).val < 512 ∧ (y 0).val < 32 * 4) :=
  sc_step 3 (by decide) (z10 c) (by intro y hy hy1 hy2; have h2 : (y 2).val < 512 := (y 2).isLt; dsimp only at *; omega) (sc_step 2 (by decide) (z10 c) (by intro y hy hy1 hy2; have h2 : (y 2).val < 512 := (y 2).isLt; dsimp only at *; omega) (sc_step 1 (by decide) (z10 c) (by intro y hy hy1 hy2; have h2 : (y 2).val < 512 := (y 2).isLt; dsimp only at *; omega) (sc_step 0 (by decide) (z10 c) (by intro y hy hy1 hy2; have h2 : (y 2).val < 512 := (y 2).isLt; dsimp only at *; omega) (cf_step 9 (by decide) (cf_step 8 (by decide) (cf_step 7 (by decide) (cf_step 6 (by decide) (cf_step 5 (by decide) (cf_step 4 (by decide) (cf_step 3 (by decide) (cf_step 2 (by decide) (cf_step 1 (by decide) (cf_step 0 (by decide) (known_none fun y hy => by dsimp only at hy; omega)
    (laneU_ok 0 0 (by decide) (by decide) (v8 c) (by decide) (u8 c) (by decide) (by decide)) (laneU_ok 0 1 (by decide) (by decide) (v8 c) (by decide) (u8 c) (by decide) (by decide)) (laneU_ok 0 2 (by decide) (by decide) (v8 c) (by decide) (u8 c) (by decide) (by decide)) (laneU_ok 0 3 (by decide) (by decide) (v8 c) (by decide) (u8 c) (by decide) (by decide)))
    (laneU_ok 1 0 (by decide) (by decide) (u8 c) (by decide) (u8 c) (by decide) (by decide)) (laneU_ok 1 1 (by decide) (by decide) (u8 c) (by decide) (u8 c) (by decide) (by decide)) (laneU_ok 1 2 (by decide) (by decide) (u8 c) (by decide) (u8 c) (by decide) (by decide)) (laneU_ok 1 3 (by decide) (by decide) (u8 c) (by decide) (u8 c) (by decide) (by decide)))
    (laneU_ok 2 0 (by decide) (by decide) (u16 c) (by decide) (u16 c) (by decide) (by decide)) (laneU_ok 2 1 (by decide) (by decide) (u16 c) (by decide) (u16 c) (by decide) (by decide)) (laneU_ok 2 2 (by decide) (by decide) (u16 c) (by decide) (u16 c) (by decide) (by decide)) (laneU_ok 2 3 (by decide) (by decide) (u16 c) (by decide) (u16 c) (by decide) (by decide)))
    (laneU_ok 3 0 (by decide) (by decide) (u16 c) (by decide) (u16 c) (by decide) (by decide)) (laneU_ok 3 1 (by decide) (by decide) (u16 c) (by decide) (u16 c) (by decide) (by decide)) (laneU_ok 3 2 (by decide) (by decide) (u16 c) (by decide) (u16 c) (by decide) (by decide)) (laneU_ok 3 3 (by decide) (by decide) (u16 c) (by decide) (u16 c) (by decide) (by decide)))
    (laneU_ok 4 0 (by decide) (by decide) (u16 c) (by decide) (u16 c) (by decide) (by decide)) (laneU_ok 4 1 (by decide) (by decide) (u16 c) (by decide) (u16 c) (by decide) (by decide)) (laneU_ok 4 2 (by decide) (by decide) (u16 c) (by decide) (u16 c) (by decide) (by decide)) (laneU_ok 4 3 (by decide) (by decide) (u16 c) (by decide) (u16 c) (by decide) (by decide)))
    (laneU_ok 5 0 (by decide) (by decide) (u16 c) (by decide) (u16 c) (by decide) (by decide)) (laneU_ok 5 1 (by decide) (by decide) (u16 c) (by decide) (u16 c) (by decide) (by decide)) (laneU_ok 5 2 (by decide) (by decide) (u16 c) (by decide) (u16 c) (by decide) (by decide)) (laneU_ok 5 3 (by decide) (by decide) (u16 c) (by decide) (u16 c) (by decide) (by decide)))
    (laneU_ok 6 0 (by decide) (by decide) (u16 c) (by decide) (u16 c) (by decide) (by decide)) (laneU_ok 6 1 (by decide) (by decide) (u16 c) (by decide) (u16 c) (by decide) (by decide)) (laneU_ok 6 2 (by decide) (by decide) (u16 c) (by decide) (u16 c) (by decide) (by decide)) (laneU_ok 6 3 (by decide) (by decide) (u16 c) (by decide) (u16 c) (by decide) (by decide)))
    (laneU_ok 7 0 (by decide) (by decide) (u16 c) (by decide) (u16 c) (by decide) (by decide)) (laneU_ok 7 1 (by decide) (by decide) (u16 c) (by decide) (u16 c) (by decide) (by decide)) (laneU_ok 7 2 (by decide) (by decide) (u16 c) (by decide) (u16 c) (by decide) (by decide)) (laneU_ok 7 3 (by decide) (by decide) (u16 c) (by decide) (u16 c) (by decide) (by decide)))
    (laneU_ok 8 0 (by decide) (by decide) (u16 c) (by decide) (u16 c) (by decide) (by decide)) (laneU_ok 8 1 (by decide) (by decide) (u16 c) (by decide) (u16 c) (by decide) (by decide)) (laneU_ok 8 2 (by decide) (by decide) (u16 c) (by decide) (u16 c) (by decide) (by decide)) (laneU_ok 8 3 (by decide) (by decide) (u16 c) (by decide) (u16 c) (by decide) (by decide)))
    (laneU_ok 9 0 (by decide) (by decide) (u16 c) (by decide) (u16 c) (by decide) (by decide)) (laneU_ok 9 1 (by decide) (by decide) (u16 c) (by decide) (u16 c) (by decide) (by decide)) (laneU_ok 9 2 (by decide) (by decide) (u16 c) (by decide) (u16 c) (by decide) (by decide)) (laneU_ok 9 3 (by decide) (by decide) (u16 c) (by decide) (u16 c) (by decide) (by decide)))
    (laneC_ok 0 0 (by decide) (by decide) (d16 c) (by decide) (c16 c) (by decide) (by decide)) (laneC_ok 0 1 (by decide) (by decide) (d16 c) (by decide) (c16 c) (by decide) (by decide)) (laneC_ok 0 2 (by decide) (by decide) (d16 c) (by decide) (c16 c) (by decide) (by decide)) (laneC_ok 0 3 (by decide) (by decide) (d16 c) (by decide) (c16 c) (by decide) (by decide)))
    (laneC_ok 1 0 (by decide) (by decide) (c16 c) (by decide) (c16 c) (by decide) (by decide)) (laneC_ok 1 1 (by decide) (by decide) (c16 c) (by decide) (c16 c) (by decide) (by decide)) (laneC_ok 1 2 (by decide) (by decide) (c16 c) (by decide) (c16 c) (by decide) (by decide)) (laneC_ok 1 3 (by decide) (by decide) (c16 c) (by decide) (c16 c) (by decide) (by decide)))
    (laneC_ok 2 0 (by decide) (by decide) (c16 c) (by decide) (c16 c) (by decide) (by decide)) (laneC_ok 2 1 (by decide) (by decide) (c16 c) (by decide) (c16 c) (by decide) (by decide)) (laneC_ok 2 2 (by decide) (by decide) (c16 c) (by decide) (c16 c) (by decide) (by decide)) (laneC_ok 2 3 (by decide) (by decide) (c16 c) (by decide) (c16 c) (by decide) (by decide)))
    (laneC_ok 3 0 (by decide) (by decide) (c16 c) (by decide) (c16 c) (by decide) (by decide)) (laneC_ok 3 1 (by decide) (by decide) (c16 c) (by decide) (c16 c) (by decide) (by decide)) (laneC_ok 3 2 (by decide) (by decide) (c16 c) (by decide) (c16 c) (by decide) (by decide)) (laneC_ok 3 3 (by decide) (by decide) (c16 c) (by decide) (c16 c) (by decide) (by decide))

theorem k19 : Known arg16.view arg16.view.junk (kernelRun0_B.sl.HS4_19 (F := Ideal) c arg2 harg2 arg3 harg3 arg4 harg4 arg5 harg5 arg6 harg6 arg7 harg7 arg8 harg8 arg9 harg9 arg12 arg13 arg14 harg14 arg15 harg15 x0 x1 x2 x3 x4 x5 x6 x7 xs2 xs3) (Catf (Uf xs3 (Zf (hI x0 x1) x2)) (Cf xs2 (Zf (hI x0 x1) x2)) (Zf (hI x0 x1) x2) x3 x4 x5 x6 x7) fun y => (512 ≤ (y 1).val ∧ (y 0).val < 32 * 11) ∨ ((y 1).val < 512 ∧ (y 0).val < 32 * 8) :=
  sc_step 7 (by decide) (z10 c) (by intro y hy hy1 hy2; have h2 : (y 2).val < 512 := (y 2).isLt; dsimp only at *; omega) (sc_step 6 (by decide) (z10 c) (by intro y hy hy1 hy2; have h2 : (y 2).val < 512 := (y 2).isLt; dsimp only at *; omega) (sc_step 5 (by decide) (z10 c) (by intro y hy hy1 hy2; have h2 : (y 2).val < 512 := (y 2).isLt; dsimp only at *; omega) (sc_step 4 (by decide) (z10 c) (by intro y hy hy1 hy2; have h2 : (y 2).val < 512 := (y 2).isLt; dsimp only at *; omega) (cf_step 10 (by decide) (k14 c)
    (laneU_ok 10 0 (by decide) (by decide) (u16 c) (by decide) (u16 c) (by decide) (by decide)) (laneU_ok 10 1 (by decide) (by decide) (u16 c) (by decide) (u16 c) (by decide) (by decide)) (laneU_ok 10 2 (by decide) (by decide) (u16 c) (by decide) (u16 c) (by decide) (by decide)) (laneU_ok 10 3 (by decide) (by decide) (u16 c) (by decide) (u16 c) (by decide) (by decide)))
    (laneC_ok 4 0 (by decide) (by decide) (c16 c) (by decide) (c16 c) (by decide) (by decide)) (laneC_ok 4 1 (by decide) (by decide) (c16 c) (by decide) (c16 c) (by decide) (by decide)) (laneC_ok 4 2 (by decide) (by decide) (c16 c) (by decide) (c16 c) (by decide) (by decide)) (laneC_ok 4 3 (by decide) (by decide) (c16 c) (by decide) (c16 c) (by decide) (by decide)))
    (laneC_ok 5 0 (by decide) (by decide) (c16 c) (by decide) (c16 c) (by decide) (by decide)) (laneC_ok 5 1 (by decide) (by decide) (c16 c) (by decide) (c16 c) (by decide) (by decide)) (laneC_ok 5 2 (by decide) (by decide) (c16 c) (by decide) (c16 c) (by decide) (by decide)) (laneC_ok 5 3 (by decide) (by decide) (c16 c) (by decide) (c16 c) (by decide) (by decide)))
    (laneC_ok 6 0 (by decide) (by decide) (c16 c) (by decide) (c16 c) (by decide) (by decide)) (laneC_ok 6 1 (by decide) (by decide) (c16 c) (by decide) (c16 c) (by decide) (by decide)) (laneC_ok 6 2 (by decide) (by decide) (c16 c) (by decide) (c16 c) (by decide) (by decide)) (laneC_ok 6 3 (by decide) (by decide) (c16 c) (by decide) (c16 c) (by decide) (by decide)))
    (laneC_ok 7 0 (by decide) (by decide) (c16 c) (by decide) (c16 c) (by decide) (by decide)) (laneC_ok 7 1 (by decide) (by decide) (c16 c) (by decide) (c16 c) (by decide) (by decide)) (laneC_ok 7 2 (by decide) (by decide) (c16 c) (by decide) (c16 c) (by decide) (by decide)) (laneC_ok 7 3 (by decide) (by decide) (c16 c) (by decide) (c16 c) (by decide) (by decide))

theorem k25 : Known arg16.view arg16.view.junk (kernelRun0_B.sl.HS4_25 (F := Ideal) c arg2 harg2 arg3 harg3 arg4 harg4 arg5 harg5 arg6 harg6 arg7 harg7 arg8 harg8 arg9 harg9 arg12 arg13 arg14 harg14 arg15 harg15 x0 x1 x2 x3 x4 x5 x6 x7 xs2 xs3) (Catf (Uf xs3 (Zf (hI x0 x1) x2)) (Cf xs2 (Zf (hI x0 x1) x2)) (Zf (hI x0 x1) x2) x3 x4 x5 x6 x7) fun y => (512 ≤ (y 1).val ∧ (y 0).val < 32 * 13) ∨ ((y 1).val < 512 ∧ (y 0).val < 32 * 12) :=
  sc_step 11 (by decide) (z10 c) (by intro y hy hy1 hy2; have h2 : (y 2).val < 512 := (y 2).isLt; dsimp only at *; omega) (sc_step 10 (by decide) (z10 c) (by intro y hy hy1 hy2; have h2 : (y 2).val < 512 := (y 2).isLt; dsimp only at *; omega) (sc_step 9 (by decide) (z10 c) (by intro y hy hy1 hy2; have h2 : (y 2).val < 512 := (y 2).isLt; dsimp only at *; omega) (sc_step 8 (by decide) (z10 c) (by intro y hy hy1 hy2; have h2 : (y 2).val < 512 := (y 2).isLt; dsimp only at *; omega) (cf_step 12 (by decide) (cf_step 11 (by decide) (k19 c)
    (laneU_ok 11 0 (by decide) (by decide) (u16 c) (by decide) (u16 c) (by decide) (by decide)) (laneU_ok 11 1 (by decide) (by decide) (u16 c) (by decide) (u16 c) (by decide) (by decide)) (laneU_ok 11 2 (by decide) (by decide) (u16 c) (by decide) (u16 c) (by decide) (by decide)) (laneU_ok 11 3 (by decide) (by decide) (u16 c) (by decide) (u16 c) (by decide) (by decide)))
    (laneU_ok 12 0 (by decide) (by decide) (u16 c) (by decide) (u16 c) (by decide) (by decide)) (laneU_ok 12 1 (by decide) (by decide) (u16 c) (by decide) (u16 c) (by decide) (by decide)) (laneU_ok 12 2 (by decide) (by decide) (u16 c) (by decide) (u16 c) (by decide) (by decide)) (laneU_ok 12 3 (by decide) (by decide) (u16 c) (by decide) (u16 c) (by decide) (by decide)))
    (laneC_ok 8 0 (by decide) (by decide) (c16 c) (by decide) (c16 c) (by decide) (by decide)) (laneC_ok 8 1 (by decide) (by decide) (c16 c) (by decide) (c16 c) (by decide) (by decide)) (laneC_ok 8 2 (by decide) (by decide) (c16 c) (by decide) (c16 c) (by decide) (by decide)) (laneC_ok 8 3 (by decide) (by decide) (c16 c) (by decide) (c16 c) (by decide) (by decide)))
    (laneC_ok 9 0 (by decide) (by decide) (c16 c) (by decide) (c16 c) (by decide) (by decide)) (laneC_ok 9 1 (by decide) (by decide) (c16 c) (by decide) (c16 c) (by decide) (by decide)) (laneC_ok 9 2 (by decide) (by decide) (c16 c) (by decide) (c16 c) (by decide) (by decide)) (laneC_ok 9 3 (by decide) (by decide) (c16 c) (by decide) (c16 c) (by decide) (by decide)))
    (laneC_ok 10 0 (by decide) (by decide) (c16 c) (by decide) (c16 c) (by decide) (by decide)) (laneC_ok 10 1 (by decide) (by decide) (c16 c) (by decide) (c16 c) (by decide) (by decide)) (laneC_ok 10 2 (by decide) (by decide) (c16 c) (by decide) (c16 c) (by decide) (by decide)) (laneC_ok 10 3 (by decide) (by decide) (c16 c) (by decide) (c16 c) (by decide) (by decide)))
    (laneC_ok 11 0 (by decide) (by decide) (c16 c) (by decide) (c16 c) (by decide) (by decide)) (laneC_ok 11 1 (by decide) (by decide) (c16 c) (by decide) (c16 c) (by decide) (by decide)) (laneC_ok 11 2 (by decide) (by decide) (c16 c) (by decide) (c16 c) (by decide) (by decide)) (laneC_ok 11 3 (by decide) (by decide) (c16 c) (by decide) (c16 c) (by decide) (by decide))

theorem k32 : Known arg16.view arg16.view.junk (kernelRun0_B.sl.HS4_32 (F := Ideal) c arg2 harg2 arg3 harg3 arg4 harg4 arg5 harg5 arg6 harg6 arg7 harg7 arg8 harg8 arg9 harg9 arg12 arg13 arg14 harg14 arg15 harg15 x0 x1 x2 x3 x4 x5 x6 x7 xs2 xs3) (Catf (Uf xs3 (Zf (hI x0 x1) x2)) (Cf xs2 (Zf (hI x0 x1) x2)) (Zf (hI x0 x1) x2) x3 x4 x5 x6 x7) fun y => (512 ≤ (y 1).val ∧ (y 0).val < 32 * 16) ∨ ((y 1).val < 512 ∧ (y 0).val < 32 * 16) :=
  sc_step 15 (by decide) (z10 c) (by intro y hy hy1 hy2; have h2 : (y 2).val < 512 := (y 2).isLt; dsimp only at *; omega) (sc_step 14 (by decide) (z10 c) (by intro y hy hy1 hy2; have h2 : (y 2).val < 512 := (y 2).isLt; dsimp only at *; omega) (sc_step 13 (by decide) (z10 c) (by intro y hy hy1 hy2; have h2 : (y 2).val < 512 := (y 2).isLt; dsimp only at *; omega) (sc_step 12 (by decide) (z10 c) (by intro y hy hy1 hy2; have h2 : (y 2).val < 512 := (y 2).isLt; dsimp only at *; omega) (cf_step 15 (by decide) (cf_step 14 (by decide) (cf_step 13 (by decide) (k25 c)
    (laneU_ok 13 0 (by decide) (by decide) (u16 c) (by decide) (u16 c) (by decide) (by decide)) (laneU_ok 13 1 (by decide) (by decide) (u16 c) (by decide) (u16 c) (by decide) (by decide)) (laneU_ok 13 2 (by decide) (by decide) (u16 c) (by decide) (u16 c) (by decide) (by decide)) (laneU_ok 13 3 (by decide) (by decide) (u16 c) (by decide) (u16 c) (by decide) (by decide)))
    (laneU_ok 14 0 (by decide) (by decide) (u16 c) (by decide) (u16 c) (by decide) (by decide)) (laneU_ok 14 1 (by decide) (by decide) (u16 c) (by decide) (u16 c) (by decide) (by decide)) (laneU_ok 14 2 (by decide) (by decide) (u16 c) (by decide) (u16 c) (by decide) (by decide)) (laneU_ok 14 3 (by decide) (by decide) (u16 c) (by decide) (u16 c) (by decide) (by decide)))
    (laneU_ok 15 0 (by decide) (by decide) (u16 c) (by decide) (u16 c) (by decide) (by decide)) (laneU_ok 15 1 (by decide) (by decide) (u16 c) (by decide) (u16 c) (by decide) (by decide)) (laneU_ok 15 2 (by decide) (by decide) (u16 c) (by decide) (u16 c) (by decide) (by decide)) (laneU_ok 15 3 (by decide) (by decide) (u16 c) (by decide) (u16 c) (by decide) (by decide)))
    (laneC_ok 12 0 (by decide) (by decide) (c16 c) (by decide) (c16 c) (by decide) (by decide)) (laneC_ok 12 1 (by decide) (by decide) (c16 c) (by decide) (c16 c) (by decide) (by decide)) (laneC_ok 12 2 (by decide) (by decide) (c16 c) (by decide) (c16 c) (by decide) (by decide)) (laneC_ok 12 3 (by decide) (by decide) (c16 c) (by decide) (c16 c) (by decide) (by decide)))
    (laneC_ok 13 0 (by decide) (by decide) (c16 c) (by decide) (c16 c) (by decide) (by decide)) (laneC_ok 13 1 (by decide) (by decide) (c16 c) (by decide) (c16 c) (by decide) (by decide)) (laneC_ok 13 2 (by decide) (by decide) (c16 c) (by decide) (c16 c) (by decide) (by decide)) (laneC_ok 13 3 (by decide) (by decide) (c16 c) (by decide) (c16 c) (by decide) (by decide)))
    (laneC_ok 14 0 (by decide) (by decide) (c16 c) (by decide) (c16 c) (by decide) (by decide)) (laneC_ok 14 1 (by decide) (by decide) (c16 c) (by decide) (c16 c) (by decide) (by decide)) (laneC_ok 14 2 (by decide) (by decide) (c16 c) (by decide) (c16 c) (by decide) (by decide)) (laneC_ok 14 3 (by decide) (by decide) (c16 c) (by decide) (c16 c) (by decide) (by decide)))
    (laneC_ok 15 0 (by decide) (by decide) (c16 c) (by decide) (c16 c) (by decide) (by decide)) (laneC_ok 15 1 (by decide) (by decide) (c16 c) (by decide) (c16 c) (by decide) (by decide)) (laneC_ok 15 2 (by decide) (by decide) (c16 c) (by decide) (c16 c) (by decide) (by decide)) (laneC_ok 15 3 (by decide) (by decide) (c16 c) (by decide) (c16 c) (by decide) (by decide))

end Cert.EvenKernelIdeal.Hand.CaseB

end
-- ==== Proof.EvenOutB.lean ====
/- What the even mixer's call leaves in its output block and in the carried rows at a later block of a sequence. -/
module

public import proofs.«01_k».proof.Proof.EvenCaseB
public import proofs.«01_k».proof.Proof.Gen.EvenKernelIdeal.Frame

@[expose] public section

set_option maxRecDepth 65536

noncomputable section

namespace Cert.EvenKernelIdeal.Hand.CaseB

open Cert.EvenKernelIdeal Cert.EvenKernelIdeal.Gen
open Idealize.ShloMosaic Idealize.ShloMosaic.TcCoe

variable (i : grid0.Coords)
variable (c : Dev nD)
variable (arg2 : Memref sig .tc .vmem S1x512x1024 .f32)
variable (harg2 : arg2.IsWhole)
variable (arg3 : Memref sig .tc .vmem S1x1024 .f32)
variable (harg3 : arg3.IsWhole)
variable (arg4 : Memref sig .tc .vmem S1024x2560 .bf16)
variable (harg4 : arg4.IsWhole)
variable (arg5 : Memref sig .tc .vmem S24x512 .f32)
variable (harg5 : arg5.IsWhole)
variable (arg6 : Memref sig .tc .vmem S248x512 .f32)
variable (harg6 : arg6.IsWhole)
variable (arg7 : Memref sig .tc .vmem S8x512 .f32)
variable (harg7 : arg7.IsWhole)
variable (arg8 : Memref sig .tc .vmem S8x512 .f32)
variable (harg8 : arg8.IsWhole)
variable (arg9 : Memref sig .tc .vmem S8x512 .f32)
variable (harg9 : arg9.IsWhole)
variable (arg10 : Memref sig .tc .vmem S1024x1024 .bf16)
variable (harg10 : arg10.IsWhole)
variable (arg11 : Memref sig .tc .vmem S1x512x1024 .f32)
variable (harg11 : arg11.IsWhole)
variable (arg12 : Memref sig .tc .vmem S512x1024 .bf16)
variable (harg12 : arg12.IsWhole)
variable (arg13 : Memref sig .tc .vmem S5x512x512 .f32)
variable (harg13 : arg13.IsWhole)
variable (arg14 : Memref sig .tc .vmem S4x520x128 .f32)
variable (harg14 : arg14.IsWhole)
variable (arg15 : Memref sig .tc .vmem S4x544x128 .f32)
variable (harg15 : arg15.IsWhole)
variable (arg16 : Memref sig .tc .vmem S512x1024 .bf16)
variable (harg16 : arg16.IsWhole)
variable (hc0 : ¬cond0_0 i)
variable (x0 : Vec Ideal S1x512x1024 .f32) (x1 : Vec Ideal S1x1024 .f32) (x2 : Vec Ideal S1024x2560 .bf16) (x3 : Vec Ideal S24x512 .f32) (x4 : Vec Ideal S248x512 .f32) (x5 : Vec Ideal S8x512 .f32) (x6 : Vec Ideal S8x512 .f32) (x7 : Vec Ideal S8x512 .f32) (x8 : Vec Ideal S1024x1024 .bf16)
variable (xs2 : Vec Ideal S4x520x128 .f32) (xs3 : Vec Ideal S4x544x128 .f32)

theorem out_known : Known VO0_9 VO0_9.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs2 xs3).1
    (Outf x0 (Catf (Uf xs3 (Zf (hI x0 x1) x2)) (Cf xs2 (Zf (hI x0 x1) x2)) (Zf (hI x0 x1) x2) x3 x4 x5 x6 x7) x8) fun y => (y 1).val < 128 * (3 + 1) :=
  out_step 3 (by decide) (by decide) (k32 c) (out_step 2 (by decide) (by decide) (k25 c) (out_step 1 (by decide) (by decide) (k19 c)
    (out_step 0 (by decide) (by decide) (k14 c) (known_none fun y hy => by dsimp only at hy; omega))))

/-- A row of the output block. -/
theorem out_eq (n : Fin 512) (d : Fin 1024) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs2 xs3 (ix3 (0 : Fin 1) n d) = Outf x0 (Catf (Uf xs3 (Zf (hI x0 x1) x2)) (Cf xs2 (Zf (hI x0 x1) x2)) (Zf (hI x0 x1) x2) x3 x4 x5 x6 x7) x8 (ix3 (0 : Fin 1) n d) :=
  out_known i c arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs2 xs3 (ix3 (0 : Fin 1) n d) (show n.val < 128 * (3 + 1) by omega)

/-- The carried rows. -/
theorem carryC_eq (a : Fin 4) (r : Fin 8) (l : Fin 128) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs2 xs3 (ix3 a (⟨r.val, by omega⟩ : Fin 520) l) = Cf xs2 (Zf (hI x0 x1) x2) (ix3 a (⟨512 + r.val, by omega⟩ : Fin 520) l) :=
  c_carry (by decide) (c16 c) a r l
theorem carryU_eq (a : Fin 4) (r : Fin 32) (l : Fin 128) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs2 xs3 (ix3 a (⟨r.val, by omega⟩ : Fin 544) l) = Uf xs3 (Zf (hI x0 x1) x2) (ix3 a (⟨512 + r.val, by omega⟩ : Fin 544) l) :=
  u_carry (by decide) (u16 c) a r l

end Cert.EvenKernelIdeal.Hand.CaseB

end
-- ==== Proof.EvenSweep.lean ====
/- The even mixer's result array, entry by entry. -/
module

public import proofs.«01_k».proof.Proof.EvenSpec
public import proofs.«01_k».proof.Proof.EvenInputs
public import proofs.«01_k».proof.Proof.EvenOutA
public import proofs.«01_k».proof.Proof.EvenOutB
public import proofs.«01_k».proof.Proof.Gen.EvenKernelIdeal.Value

@[expose] public section

set_option maxRecDepth 16384

noncomputable section

namespace Cert.EvenKernelIdeal.Hand

open Cert.EvenKernelIdeal Cert.EvenKernelIdeal.Gen Cert.EvenKernelIdeal.Value
open Idealize.ShloMosaic Idealize.ShloMosaic.TcCoe Idealize.SL.Sem

variable (m : (ℓ : Loc nD τ sig) → Buf (Elt Ideal) ℓ)

/-- The mixer's arrays at launch. -/
def mixOf (c : Dev nD) : Mix where
  x := m ((c : Thread nD τ).loc main_arg0)
  norm := m ((c : Thread nD τ).loc main_arg1)
  win := m ((c : Thread nD τ).loc main_arg2)
  scw := m ((c : Thread nD τ).loc main_arg3)
  cfw := m ((c : Thread nD τ).loc main_arg4)
  cfb := m ((c : Thread nD τ).loc main_arg5)
  lng := m ((c : Thread nD τ).loc main_arg6)
  lnb := m ((c : Thread nD τ).loc main_arg7)
  wout := m ((c : Thread nD τ).loc main_arg8)

/-- The block of the sequence at a grid point. -/
abbrev blkNo (t : Fin cfg0.N) : Fin 8 := ⟨t.val % 8, by omega⟩

theorem blocksOf (c : Dev nD) (t : Fin cfg0.N) : BlocksOf (mixOf m c) (bat t) (blkNo t) (iblk m c 0 t) (iblk m c 1 t) (iblk m c 2 t) (iblk m c 3 t) (iblk m c 4 t) (iblk m c 5 t) (iblk m c 6 t) (iblk m c 7 t) (iblk m c 8 t) where
  e0 := blk0 m c t
  e1 := blk1 m c t
  e2 := blk2 m c t
  e3 := blk3 m c t
  e4 := blk4 m c t
  e5 := blk5 m c t
  e6 := blk6 m c t
  e7 := blk7 m c t
  e8 := blk8 m c t

/-- After a block that is not a sequence's last, the carried rows are those the next block needs. -/
theorem carriedC (c : Dev nD) (t t' : Fin cfg0.N) (h : t'.val = t.val + 1) (h8 : ¬t'.val % 8 = 0) :
    HaloC (mixOf m c) (bat t') (blkNo t') (outsAt0 m c t.val t.isLt).2.1 := by
  have hb : bat t' = bat t := Fin.ext (show t'.val / 8 = t.val / 8 by omega)
  rw [hb]
  by_cases h0 : t.val % 8 = 0
  · have e : (outsAt0 m c t.val t.isLt).2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by rw [outsAt0_A m c t h0]
    rw [e]
    refine carryC_G (blocksOf m c t) (fun _ => 0) _ (fun a r l => ?_) (blkNo t') (show t'.val % 8 = t.val % 8 + 1 by omega)
    exact CaseA.carryC_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) a r l
  · have e : (outsAt0 m c t.val t.isLt).2.1 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 := by rw [outsAt0_B m c t h0]
    rw [e]
    refine carryC_G (blocksOf m c t) (outsAt0 m c (t.val - 1) (Nat.lt_of_le_of_lt (Nat.sub_le _ _) t.isLt)).2.1 _ (fun a r l => ?_) (blkNo t') (show t'.val % 8 = t.val % 8 + 1 by omega)
    exact CaseB.carryC_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 a r l

theorem carriedU (c : Dev nD) (t t' : Fin cfg0.N) (h : t'.val = t.val + 1) (h8 : ¬t'.val % 8 = 0) :
    HaloU (mixOf m c) (bat t') (blkNo t') (outsAt0 m c t.val t.isLt).2.2 := by
  have hb : bat t' = bat t := Fin.ext (show t'.val / 8 = t.val / 8 by omega)
  rw [hb]
  by_cases h0 : t.val % 8 = 0
  · have e : (outsAt0 m c t.val t.isLt).2.2 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by rw [outsAt0_A m c t h0]
    rw [e]
    refine carryU_G (blocksOf m c t) (fun _ => 0) _ (fun a r l => ?_) (blkNo t') (show t'.val % 8 = t.val % 8 + 1 by omega)
    exact CaseA.carryU_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) a r l
  · have e : (outsAt0 m c t.val t.isLt).2.2 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 := by rw [outsAt0_B m c t h0]
    rw [e]
    refine carryU_G (blocksOf m c t) (outsAt0 m c (t.val - 1) (Nat.lt_of_le_of_lt (Nat.sub_le _ _) t.isLt)).2.2 _ (fun a r l => ?_) (blkNo t') (show t'.val % 8 = t.val % 8 + 1 by omega)
    exact CaseB.carryU_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 a r l

/-- The block a grid point leaves. -/
theorem out_at (c : Dev nD) (t : Fin cfg0.N) (n : Fin 512) (d : Fin 1024) :
    (outsAt0 m c t.val t.isLt).1 (ix3 (0 : Fin 1) n d) = oG (mixOf m c) (bat t) (rowIn (blkNo t) n) d := by
  by_cases h0 : t.val % 8 = 0
  · have e : (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by rw [outsAt0_A m c t h0]
    rw [e]
    refine Eq.trans ?_ (Outf_G (blocksOf m c t) (haloC_zero _ _ _ h0) (haloU_zero _ _ _ h0) n d)
    exact CaseA.out_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) n d
  · have e : (outsAt0 m c t.val t.isLt).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 := by rw [outsAt0_B m c t h0]
    rw [e]
    refine Eq.trans ?_ (Outf_G (blocksOf m c t) (carriedC m c ⟨t.val - 1, Nat.lt_of_le_of_lt (Nat.sub_le _ _) t.isLt⟩ t (show t.val = t.val - 1 + 1 by omega) h0) (carriedU m c ⟨t.val - 1, Nat.lt_of_le_of_lt (Nat.sub_le _ _) t.isLt⟩ t (show t.val = t.val - 1 + 1 by omega) h0) n d)
    exact CaseB.out_eq (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 n d

/-- The result array. -/
def whole (c : Dev nD) : Buf (Elt Ideal) ((c : Thread nD τ).loc main_v25) := fun i => oG (mixOf m c) (i 0) (i 1) (i 2)

theorem result (c : Dev nD) : G9 m c = whole m c := by
  funext i
  have h0 : (i 0).val < 8 := (i 0).isLt
  have h1 : (i 1).val < 4096 := (i 1).isLt
  have h2 : (i 2).val < 1024 := (i 2).isLt
  have hN : cfg0.N = 64 := N_0
  have hp : pt9Of i = 8 * (i 0).val + (i 1).val / 512 := by
    show 8 * ((i 0).val / 1 - 0) + 1 * ((i 1).val / 512 - 0) + 1 * ((i 2).val / 1024 - 0) = _
    omega
  have ht : pt9Of i < cfg0.N := by omega
  refine (dif_pos ht).trans ?_
  rw [← outsAt0_sweep m c (pt9Of i) ht]
  have hl : loc9Of i = ix3 (0 : Fin 1) (⟨(i 1).val % 512, Nat.mod_lt _ (by decide)⟩ : Fin 512) (⟨(i 2).val, h2⟩ : Fin 1024) := by
    funext a
    refine Fin.ext ?_
    match a with
    | ⟨0, _⟩ => show (i 0).val % 1 = 0; omega
    | ⟨1, _⟩ => rfl
    | ⟨2, _⟩ => show (i 2).val % 1024 = (i 2).val; omega
  rw [hl]
  refine (out_at m c ⟨pt9Of i, ht⟩ _ _).trans ?_
  have eb : bat ⟨pt9Of i, ht⟩ = (⟨(i 0).val, h0⟩ : Fin 8) := Fin.ext (show pt9Of i / 8 = (i 0).val by omega)
  have er : rowIn (blkNo ⟨pt9Of i, ht⟩) (⟨(i 1).val % 512, Nat.mod_lt _ (by decide)⟩ : Fin 512) = (⟨(i 1).val, h1⟩ : Fin 4096) :=
    Fin.ext (show 512 * (pt9Of i % 8) + (i 1).val % 512 = (i 1).val by omega)
  rw [eb, er]
  rfl

end Cert.EvenKernelIdeal.Hand
-- ==== Proof.EvenRef.lean ====
/- The even mixer's reference, in stages, each read at an index: the result from the nine arrays is the formula that the
   kernel computes. -/
module

public import proofs.«01_k».proof.Proof.Gen.EvenReferenceIdeal.Run
public import proofs.«01_k».proof.Proof.EvenSpec
public import Idealize.ShloMosaic.Lib.Pointwise

@[expose] public section

set_option maxRecDepth 65536

noncomputable section

namespace Cert.EvenReferenceIdeal.Hand

open Cert.EvenReferenceIdeal Cert.EvenReferenceIdeal.Gen Cert.EvenReferenceIdeal.Value
open Idealize.ShloMosaic Idealize.ShloMosaic.TcCoe
open Cert.EvenKernelIdeal.Hand (Mix hG zG cG uG cP uP cvC cvU yG oG csum sgm mean cen lnorm silu)

section Stages
variable {F : FTy → Type} [FloatOps F]

def scaleR (X : FVec F S8x4096x1024 .f32) : FVec F S8x4096x1 .f32 :=
  Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32)))
def hR (X : FVec F S8x4096x1024 .f32) (s : FVec F S8x4096x1 .f32) (n : FVec F S2x1024 .f32) : FVec F S8x4096x1024 .f32 :=
  mulf (mulf X (broadcastInDim S8x4096x1024 ![0, 1, 2] bcast_S8x4096x1_S8x4096x1024_0_1_2 s))
    (broadcastInDim S8x4096x1024 ![0, 1, 2] bcast_S1x1x1024_S8x4096x1024_0_1_2 (broadcastInDim S1x1x1024 ![2] bcast_S1024_S1x1x1024_2
      (shapeCast S1024 (extractStridedSlice S1x1024 ![0, 0] n slices_S2x1024_S1x1024_0_0) shapeCasts_S1x1024_S1024)))
def zR (h : FVec F S8x4096x1024 .f32) (w : FVec F S1x1024x2560 .f32) : FVec F S8x4096x2560 .f32 :=
  Host.dotGeneral dot_S8x4096x1024_S1024x2560_S8x4096x2560_2_0_01_1_n_n none h (shapeCast S1024x2560 w shapeCasts_S1x1024x2560_S1024x2560)
def oneR : FVec F S8x4096x512 .f32 := broadcastInDim S8x4096x512 ![] bcast_S_S8x4096x512 (constant S_ .f32 0x3F800000#32)
def sgmR (g : FVec F S8x4096x512 .f32) : FVec F S8x4096x512 .f32 := Host.divf oneR (addf oneR (Host.exp (Host.negf g)))
def cR (z : FVec F S8x4096x2560 .f32) : FVec F S8x4096x512 .f32 :=
  mulf (extractStridedSlice S8x4096x512 ![0, 0, 512] z slices_S8x4096x2560_S8x4096x512_0_0_512) (extractStridedSlice S8x4096x512 ![0, 0, 1024] z slices_S8x4096x2560_S8x4096x512_0_0_1024)
def uR (z : FVec F S8x4096x2560 .f32) : FVec F S8x4096x512 .f32 :=
  mulf (extractStridedSlice S8x4096x512 ![0, 0, 1536] z slices_S8x4096x2560_S8x4096x512_0_0_1536) (sgmR (extractStridedSlice S8x4096x512 ![0, 0, 2048] z slices_S8x4096x2560_S8x4096x512_0_0_2048))
def padC (g : FVec F S8x4096x512 .f32) : FVec F S8x4098x512 .f32 :=
  pad S8x4098x512 ![0, 2, 0] ![0, 0, 0] ![0, 0, 0] g (sitofp .f32 (constantI S_ 32 0#32)) pads_S8x4096x512_S8x4098x512_000_200_000 h_S_
def padU (g : FVec F S8x4096x512 .f32) : FVec F S8x4126x512 .f32 :=
  pad S8x4126x512 ![0, 30, 0] ![0, 0, 0] ![0, 0, 0] g (sitofp .f32 (constantI S_ 32 0#32)) pads_S8x4096x512_S8x4126x512_000_3000_000 h_S_
def laneR (w : FVec F S512 .f32) : FVec F S8x4096x512 .f32 :=
  broadcastInDim S8x4096x512 ![0, 1, 2] bcast_S1x1x512_S8x4096x512_0_1_2 (broadcastInDim S1x1x512 ![2] bcast_S512_S1x1x512_2 w)
def zeroR : FVec F S8x4096x512 .f32 := broadcastInDim S8x4096x512 ![] bcast_S_S8x4096x512 (constant S_ .f32 0x00000000#32)
def addC (acc : FVec F S8x4096x512 .f32) (w : FVec F S1x3x512 .f32) (p : FVec F S8x4098x512 .f32) (t : ℕ) (hs : S1x3x512.Slices ![0, t, 0] S1x1x512)
    (hp : S8x4098x512.Slices ![0, t, 0] S8x4096x512) : FVec F S8x4096x512 .f32 :=
  addf acc (mulf (laneR (shapeCast S512 (extractStridedSlice S1x1x512 ![0, t, 0] w hs) shapeCasts_S1x1x512_S512)) (extractStridedSlice S8x4096x512 ![0, t, 0] p hp))
def addU (acc : FVec F S8x4096x512 .f32) (w : FVec F S1x31x512 .f32) (p : FVec F S8x4126x512 .f32) (t : ℕ) (hs : S1x31x512.Slices ![0, t, 0] S1x1x512)
    (hp : S8x4126x512.Slices ![0, t, 0] S8x4096x512) : FVec F S8x4096x512 .f32 :=
  addf acc (mulf (laneR (shapeCast S512 (extractStridedSlice S1x1x512 ![0, t, 0] w hs) shapeCasts_S1x1x512_S512)) (extractStridedSlice S8x4096x512 ![0, t, 0] p hp))
def convC (w : FVec F S1x3x512 .f32) (p : FVec F S8x4098x512 .f32) : FVec F S8x4096x512 .f32 :=
  addC (addC (addC zeroR w p 0 slices_S1x3x512_S1x1x512_0_0_0 slices_S8x4098x512_S8x4096x512_0_0_0) w p 1 slices_S1x3x512_S1x1x512_0_1_0 slices_S8x4098x512_S8x4096x512_0_1_0) w p 2 slices_S1x3x512_S1x1x512_0_2_0 slices_S8x4098x512_S8x4096x512_0_2_0
def convU0 (w : FVec F S1x31x512 .f32) (p : FVec F S8x4126x512 .f32) : FVec F S8x4096x512 .f32 :=
  addU (addU (addU (addU (addU (addU (addU (addU (addU (addU (addU zeroR w p 0 slices_S1x31x512_S1x1x512_0_0_0 slices_S8x4126x512_S8x4096x512_0_0_0) w p 1 slices_S1x31x512_S1x1x512_0_1_0 slices_S8x4126x512_S8x4096x512_0_1_0) w p 2 slices_S1x31x512_S1x1x512_0_2_0 slices_S8x4126x512_S8x4096x512_0_2_0) w p 3 slices_S1x31x512_S1x1x512_0_3_0 slices_S8x4126x512_S8x4096x512_0_3_0) w p 4 slices_S1x31x512_S1x1x512_0_4_0 slices_S8x4126x512_S8x4096x512_0_4_0) w p 5 slices_S1x31x512_S1x1x512_0_5_0 slices_S8x4126x512_S8x4096x512_0_5_0) w p 6 slices_S1x31x512_S1x1x512_0_6_0 slices_S8x4126x512_S8x4096x512_0_6_0) w p 7 slices_S1x31x512_S1x1x512_0_7_0 slices_S8x4126x512_S8x4096x512_0_7_0) w p 8 slices_S1x31x512_S1x1x512_0_8_0 slices_S8x4126x512_S8x4096x512_0_8_0) w p 9 slices_S1x31x512_S1x1x512_0_9_0 slices_S8x4126x512_S8x4096x512_0_9_0) w p 10 slices_S1x31x512_S1x1x512_0_10_0 slices_S8x4126x512_S8x4096x512_0_10_0
def convU1 (w : FVec F S1x31x512 .f32) (p : FVec F S8x4126x512 .f32) : FVec F S8x4096x512 .f32 :=
  addU (addU (addU (addU (addU (addU (addU (addU (addU (addU (addU (convU0 w p) w p 11 slices_S1x31x512_S1x1x512_0_11_0 slices_S8x4126x512_S8x4096x512_0_11_0) w p 12 slices_S1x31x512_S1x1x512_0_12_0 slices_S8x4126x512_S8x4096x512_0_12_0) w p 13 slices_S1x31x512_S1x1x512_0_13_0 slices_S8x4126x512_S8x4096x512_0_13_0) w p 14 slices_S1x31x512_S1x1x512_0_14_0 slices_S8x4126x512_S8x4096x512_0_14_0) w p 15 slices_S1x31x512_S1x1x512_0_15_0 slices_S8x4126x512_S8x4096x512_0_15_0) w p 16 slices_S1x31x512_S1x1x512_0_16_0 slices_S8x4126x512_S8x4096x512_0_16_0) w p 17 slices_S1x31x512_S1x1x512_0_17_0 slices_S8x4126x512_S8x4096x512_0_17_0) w p 18 slices_S1x31x512_S1x1x512_0_18_0 slices_S8x4126x512_S8x4096x512_0_18_0) w p 19 slices_S1x31x512_S1x1x512_0_19_0 slices_S8x4126x512_S8x4096x512_0_19_0) w p 20 slices_S1x31x512_S1x1x512_0_20_0 slices_S8x4126x512_S8x4096x512_0_20_0) w p 21 slices_S1x31x512_S1x1x512_0_21_0 slices_S8x4126x512_S8x4096x512_0_21_0
def convU2 (w : FVec F S1x31x512 .f32) (p : FVec F S8x4126x512 .f32) : FVec F S8x4096x512 .f32 :=
  addU (addU (addU (addU (addU (addU (addU (addU (addU (convU1 w p) w p 22 slices_S1x31x512_S1x1x512_0_22_0 slices_S8x4126x512_S8x4096x512_0_22_0) w p 23 slices_S1x31x512_S1x1x512_0_23_0 slices_S8x4126x512_S8x4096x512_0_23_0) w p 24 slices_S1x31x512_S1x1x512_0_24_0 slices_S8x4126x512_S8x4096x512_0_24_0) w p 25 slices_S1x31x512_S1x1x512_0_25_0 slices_S8x4126x512_S8x4096x512_0_25_0) w p 26 slices_S1x31x512_S1x1x512_0_26_0 slices_S8x4126x512_S8x4096x512_0_26_0) w p 27 slices_S1x31x512_S1x1x512_0_27_0 slices_S8x4126x512_S8x4096x512_0_27_0) w p 28 slices_S1x31x512_S1x1x512_0_28_0 slices_S8x4126x512_S8x4096x512_0_28_0) w p 29 slices_S1x31x512_S1x1x512_0_29_0 slices_S8x4126x512_S8x4096x512_0_29_0) w p 30 slices_S1x31x512_S1x1x512_0_30_0 slices_S8x4126x512_S8x4096x512_0_30_0
def biasR (u : FVec F S8x4096x512 .f32) (b : FVec F S1x512 .f32) : FVec F S8x4096x512 .f32 := addf u (laneR (shapeCast S512 b shapeCasts_S1x512_S512))
def meanR (u : FVec F S8x4096x512 .f32) : FVec F S8x4096x1 .f32 :=
  Host.divf (broadcastInDim S8x4096x1 ![0, 1] bcast_S8x4096_S8x4096x1_0_1 (Host.reduceAdd u (constant S_ .f32 0x00000000#32) reducesTo_S8x4096x512_S8x4096_d2 h_S_))
    (broadcastInDim S8x4096x1 ![] bcast_S_S8x4096x1 (constant S_ .f32 0x44000000#32))
def cenR (u : FVec F S8x4096x512 .f32) : FVec F S8x4096x512 .f32 := subf u (broadcastInDim S8x4096x512 ![0, 1, 2] bcast_S8x4096x1_S8x4096x512_0_1_2 (meanR u))
def lnR (c : FVec F S8x4096x512 .f32) (g b : FVec F S1x512 .f32) : FVec F S8x4096x512 .f32 :=
  addf (mulf (mulf c (broadcastInDim S8x4096x512 ![0, 1, 2] bcast_S8x4096x1_S8x4096x512_0_1_2
      (Host.rsqrt (addf (meanR (mulf c c)) (broadcastInDim S8x4096x1 ![] bcast_S_S8x4096x1 (constant S_ .f32 0x358637BD#32))))))
    (laneR (shapeCast S512 g shapeCasts_S1x512_S512))) (laneR (shapeCast S512 b shapeCasts_S1x512_S512))
def siluR (y : FVec F S8x4096x512 .f32) : FVec F S8x4096x512 .f32 := mulf y (sgmR y)
def scR (z : FVec F S8x4096x2560 .f32) (v : FVec F S8x4096x512 .f32) : FVec F S8x4096x512 .f32 :=
  mulf (extractStridedSlice S8x4096x512 ![0, 0, 0] z slices_S8x4096x2560_S8x4096x512_0_0_0) v
def catR (a b : FVec F S8x4096x512 .f32) : FVec F S8x4096x1024 .f32 :=
  concatenate S8x4096x1024 2 [⟨S8x4096x512, a⟩, ⟨S8x4096x512, b⟩] concatenates_S8x4096x512_S8x4096x512_S8x4096x1024_d2
def outR (X y : FVec F S8x4096x1024 .f32) (w : FVec F S1x1024x1024 .f32) : FVec F S8x4096x1024 .f32 :=
  addf X (Host.dotGeneral dot_S8x4096x1024_S1024x1024_S8x4096x1024_2_0_01_1_n_n none y (shapeCast S1024x1024 w shapeCasts_S1x1024x1024_S1024x1024))

/-- The projection, the long convolution with its bias, and the whole reference. -/
def projR (x : FVec F S8x4096x1024 .f32) (n : FVec F S2x1024 .f32) (wi : FVec F S1x1024x2560 .f32) : FVec F S8x4096x2560 .f32 := zR (hR x (scaleR x) n) wi
def longR (z : FVec F S8x4096x2560 .f32) (w : FVec F S1x31x512 .f32) (b : FVec F S1x512 .f32) : FVec F S8x4096x512 .f32 := biasR (convU2 w (padU (uR z))) b
def refR (x : FVec F S8x4096x1024 .f32) (n : FVec F S2x1024 .f32) (wi : FVec F S1x1024x2560 .f32) (w3 : FVec F S1x3x512 .f32) (w31 : FVec F S1x31x512 .f32)
    (cb g b : FVec F S1x512 .f32) (wo : FVec F S1x1024x1024 .f32) : FVec F S8x4096x1024 .f32 :=
  outR x (catR (scR (projR x n wi) (convC w3 (padC (cR (projR x n wi))))) (siluR (lnR (cenR (longR (projR x n wi) w31 cb)) g b))) wo

variable (V0 : Valuation τ sig (Elt F))

theorem v16_eq : res_main_v16 V0 = projR (V0 (Proc.devRef .tc main_arg0)) (V0 (Proc.devRef .tc main_arg1)) (V0 (Proc.devRef .tc main_arg2)) := rfl
theorem v23_eq : res_main_v23 V0 = padC (cR (res_main_v16 V0)) := rfl
theorem v54_eq : res_main_v54 V0 = padU (uR (res_main_v16 V0)) := rfl
theorem v132_eq : res_main_v132 V0 = convU0 (V0 (Proc.devRef .tc main_arg4)) (res_main_v54 V0) := rfl
theorem v209_eq : res_main_v209 V0 = convU1 (V0 (Proc.devRef .tc main_arg4)) (res_main_v54 V0) := by
  unfold convU1
  rw [← v132_eq]
  rfl
theorem v276_eq : res_main_v276 V0 = biasR (convU2 (V0 (Proc.devRef .tc main_arg4)) (res_main_v54 V0)) (V0 (Proc.devRef .tc main_arg5)) := by
  unfold convU2
  rw [← v209_eq]
  rfl
theorem v302_eq : res_main_v302 V0 = lnR (cenR (res_main_v276 V0)) (V0 (Proc.devRef .tc main_arg6)) (V0 (Proc.devRef .tc main_arg7)) := rfl

/-- The term the run leaves is the whole reference. -/
theorem out_eq : addf (V0 (Proc.devRef .tc main_arg0)) (Host.dotGeneral dot_S8x4096x1024_S1024x1024_S8x4096x1024_2_0_01_1_n_n none (concatenate S8x4096x1024 2 [⟨S8x4096x512, (mulf (extractStridedSlice S8x4096x512 ![0, 0, 0] (res_main_v16 V0) slices_S8x4096x2560_S8x4096x512_0_0_0) (addf (addf (addf (broadcastInDim S8x4096x512 ![] bcast_S_S8x4096x512 (constant S_ .f32 0x00000000#32)) (mulf (broadcastInDim S8x4096x512 ![0, 1, 2] bcast_S1x1x512_S8x4096x512_0_1_2 (broadcastInDim S1x1x512 ![2] bcast_S512_S1x1x512_2 (shapeCast _ (extractStridedSlice S1x1x512 ![0, 0, 0] (V0 (Proc.devRef .tc main_arg3)) slices_S1x3x512_S1x1x512_0_0_0) shapeCasts_S1x1x512_S512))) (extractStridedSlice S8x4096x512 ![0, 0, 0] (res_main_v23 V0) slices_S8x4098x512_S8x4096x512_0_0_0))) (mulf (broadcastInDim S8x4096x512 ![0, 1, 2] bcast_S1x1x512_S8x4096x512_0_1_2 (broadcastInDim S1x1x512 ![2] bcast_S512_S1x1x512_2 (shapeCast _ (extractStridedSlice S1x1x512 ![0, 1, 0] (V0 (Proc.devRef .tc main_arg3)) slices_S1x3x512_S1x1x512_0_1_0) shapeCasts_S1x1x512_S512))) (extractStridedSlice S8x4096x512 ![0, 1, 0] (res_main_v23 V0) slices_S8x4098x512_S8x4096x512_0_1_0))) (mulf (broadcastInDim S8x4096x512 ![0, 1, 2] bcast_S1x1x512_S8x4096x512_0_1_2 (broadcastInDim S1x1x512 ![2] bcast_S512_S1x1x512_2 (shapeCast _ (extractStridedSlice S1x1x512 ![0, 2, 0] (V0 (Proc.devRef .tc main_arg3)) slices_S1x3x512_S1x1x512_0_2_0) shapeCasts_S1x1x512_S512))) (extractStridedSlice S8x4096x512 ![0, 2, 0] (res_main_v23 V0) slices_S8x4098x512_S8x4096x512_0_2_0))))⟩, ⟨S8x4096x512, (mulf (res_main_v302 V0) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (res_main_v302 V0))))))⟩] concatenates_S8x4096x512_S8x4096x512_S8x4096x1024_d2) (shapeCast _ (V0 (Proc.devRef .tc main_arg8)) shapeCasts_S1x1024x1024_S1024x1024))
    = refR (V0 (Proc.devRef .tc main_arg0)) (V0 (Proc.devRef .tc main_arg1)) (V0 (Proc.devRef .tc main_arg2)) (V0 (Proc.devRef .tc main_arg3)) (V0 (Proc.devRef .tc main_arg4))
      (V0 (Proc.devRef .tc main_arg5)) (V0 (Proc.devRef .tc main_arg6)) (V0 (Proc.devRef .tc main_arg7)) (V0 (Proc.devRef .tc main_arg8)) := by
  unfold refR longR
  rw [← v16_eq, ← v54_eq, ← v276_eq, ← v302_eq, ← v23_eq]
  rfl
end Stages

/-! ## The stages at an index, over the extended reals -/

section AtIndex
variable (b : Fin 8) (s : Fin 4096) (q : Fin 512)

theorem scaleR_apply (X : FVec Ideal S8x4096x1024 .f32) :
    scaleR X (ix3 b s (0 : Fin 1)) = Ideal.rsqrt (Ideal.div (∑ k : Fin 1024, X (ix3 b s k) * X (ix3 b s k)) (Ideal.ofBits .f32 0x44800000#32) + Ideal.ofBits .f32 0x358637BD#32) := by
  pointwise [scaleR]
theorem hR_apply (X : FVec Ideal S8x4096x1024 .f32) (r : FVec Ideal S8x4096x1 .f32) (n : FVec Ideal S2x1024 .f32) (d : Fin 1024) :
    hR X r n (ix3 b s d) = X (ix3 b s d) * r (ix3 b s (0 : Fin 1)) * n (ix2 (0 : Fin 2) d) := by
  pointwise [hR]
theorem zR_apply (h : FVec Ideal S8x4096x1024 .f32) (w : FVec Ideal S1x1024x2560 .f32) (p : Fin 2560) :
    zR h w (ix3 b s p) = ∑ k : Fin 1024, h (ix3 b s k) * w (ix3 (0 : Fin 1) k p) := by
  pointwise [zR]
theorem sgmR_apply (g : FVec Ideal S8x4096x512 .f32) : sgmR g (ix3 b s q) = sgm (g (ix3 b s q)) := by
  unfold sgm
  rw [zero_sub]
  pointwise [sgmR, oneR]
theorem cR_apply (z : FVec Ideal S8x4096x2560 .f32) :
    cR z (ix3 b s q) = z (ix3 b s (⟨512 + q.val, by omega⟩ : Fin 2560)) * z (ix3 b s (⟨1024 + q.val, by omega⟩ : Fin 2560)) := by
  pointwise [cR]
theorem uR_apply (z : FVec Ideal S8x4096x2560 .f32) :
    uR z (ix3 b s q) = z (ix3 b s (⟨1536 + q.val, by omega⟩ : Fin 2560)) * sgm (z (ix3 b s (⟨2048 + q.val, by omega⟩ : Fin 2560))) := by
  unfold sgm
  rw [zero_sub]
  pointwise [uR, sgmR, oneR]
theorem padC_apply (g : FVec Ideal S8x4096x512 .f32) (r : Fin 4098) :
    padC g (ix3 b r q) = if h : 2 ≤ r.val then g (ix3 b (⟨r.val - 2, by omega⟩ : Fin 4096) q) else (0 : EReal) := by
  pointwise [padC]
  by_cases h : 2 ≤ r.val
  · rw [dif_pos h, dif_pos ⟨h, by omega⟩]
  · rw [dif_neg h, dif_neg fun h' => h h'.1]
    show (((0#32 : BitVec 32).toInt : ℝ) : EReal) = 0
    simp
theorem padU_apply (g : FVec Ideal S8x4096x512 .f32) (r : Fin 4126) :
    padU g (ix3 b r q) = if h : 30 ≤ r.val then g (ix3 b (⟨r.val - 30, by omega⟩ : Fin 4096) q) else (0 : EReal) := by
  pointwise [padU]
  by_cases h : 30 ≤ r.val
  · rw [dif_pos h, dif_pos ⟨h, by omega⟩]
  · rw [dif_neg h, dif_neg fun h' => h h'.1]
    show (((0#32 : BitVec 32).toInt : ℝ) : EReal) = 0
    simp
theorem lane_slice (w : FVec Ideal S1x1x512 .f32) : laneR (shapeCast S512 w shapeCasts_S1x1x512_S512) (ix3 b s q) = w (ix3 (0 : Fin 1) (0 : Fin 1) q) := by
  pointwise [laneR]
theorem lane_row (w : FVec Ideal S1x512 .f32) : laneR (shapeCast S512 w shapeCasts_S1x512_S512) (ix3 b s q) = w (ix2 (0 : Fin 1) q) := by
  pointwise [laneR]
theorem zeroR_apply : (zeroR : FVec Ideal S8x4096x512 .f32) (ix3 b s q) = 0 := by
  pointwise [zeroR]
theorem addC_apply (acc : FVec Ideal S8x4096x512 .f32) (w : FVec Ideal S1x3x512 .f32) (p : FVec Ideal S8x4098x512 .f32) (t : ℕ) (ht : t < 3) (hs hp) :
    addC acc w p t hs hp (ix3 b s q) = acc (ix3 b s q) + w (ix3 (0 : Fin 1) (⟨t % 3, by omega⟩ : Fin 3) q) * p (ix3 b (⟨s.val + t, by omega⟩ : Fin 4098) q) := by
  refine congrArg (acc (ix3 b s q) + ·) (congrArg₂ (· * ·) ((lane_slice b s q _).trans ?_) ?_)
  · refine extractStridedSlice_apply _ w hs _ _ fun a => ?_
    match a with
    | ⟨0, _⟩ => rfl
    | ⟨1, _⟩ => show t % 3 = t + 0; omega
    | ⟨2, _⟩ => show q.val = 0 + q.val; omega
  · refine extractStridedSlice_apply _ p hp _ _ fun a => ?_
    match a with
    | ⟨0, _⟩ => show b.val = 0 + b.val; omega
    | ⟨1, _⟩ => show s.val + t = t + s.val; omega
    | ⟨2, _⟩ => show q.val = 0 + q.val; omega
theorem addU_apply (acc : FVec Ideal S8x4096x512 .f32) (w : FVec Ideal S1x31x512 .f32) (p : FVec Ideal S8x4126x512 .f32) (t : ℕ) (ht : t < 31) (hs hp) :
    addU acc w p t hs hp (ix3 b s q) = acc (ix3 b s q) + w (ix3 (0 : Fin 1) (⟨t % 31, by omega⟩ : Fin 31) q) * p (ix3 b (⟨s.val + t, by omega⟩ : Fin 4126) q) := by
  refine congrArg (acc (ix3 b s q) + ·) (congrArg₂ (· * ·) ((lane_slice b s q _).trans ?_) ?_)
  · refine extractStridedSlice_apply _ w hs _ _ fun a => ?_
    match a with
    | ⟨0, _⟩ => rfl
    | ⟨1, _⟩ => show t % 31 = t + 0; omega
    | ⟨2, _⟩ => show q.val = 0 + q.val; omega
  · refine extractStridedSlice_apply _ p hp _ _ fun a => ?_
    match a with
    | ⟨0, _⟩ => show b.val = 0 + b.val; omega
    | ⟨1, _⟩ => show s.val + t = t + s.val; omega
    | ⟨2, _⟩ => show q.val = 0 + q.val; omega
theorem biasR_apply (u : FVec Ideal S8x4096x512 .f32) (w : FVec Ideal S1x512 .f32) : biasR u w (ix3 b s q) = u (ix3 b s q) + w (ix2 (0 : Fin 1) q) :=
  congrArg (u (ix3 b s q) + ·) (lane_row b s q w)
theorem meanR_apply (u : FVec Ideal S8x4096x512 .f32) : meanR u (ix3 b s (0 : Fin 1)) = mean (fun q => u (ix3 b s q)) := by
  unfold mean
  pointwise [meanR]
theorem cenR_apply (u : FVec Ideal S8x4096x512 .f32) : cenR u (ix3 b s q) = cen (fun q => u (ix3 b s q)) q := by
  unfold cen
  rw [← meanR_apply]
  unfold cenR
  generalize meanR u = w
  pointwise
theorem lnR_apply (c : FVec Ideal S8x4096x512 .f32) (g w : FVec Ideal S1x512 .f32) :
    lnR c g w (ix3 b s q) = lnorm (fun q => c (ix3 b s q)) (fun q => g (ix2 (0 : Fin 1) q)) (fun q => w (ix2 (0 : Fin 1) q)) q := by
  unfold lnorm
  have e : mean (fun q => c (ix3 b s q) * c (ix3 b s q)) = meanR (mulf c c) (ix3 b s (0 : Fin 1)) := (meanR_apply b s (mulf c c)).symm
  rw [e]
  unfold lnR
  generalize meanR (mulf c c) = v
  pointwise [laneR]
theorem siluR_apply (y : FVec Ideal S8x4096x512 .f32) : siluR y (ix3 b s q) = silu (y (ix3 b s q)) :=
  congrArg (y (ix3 b s q) * ·) (sgmR_apply b s q y)
theorem scR_apply (z : FVec Ideal S8x4096x2560 .f32) (v : FVec Ideal S8x4096x512 .f32) :
    scR z v (ix3 b s q) = z (ix3 b s (⟨q.val, by omega⟩ : Fin 2560)) * v (ix3 b s q) := by
  pointwise [scR]
theorem catR_apply (a c : FVec Ideal S8x4096x512 .f32) (p : Fin 1024) :
    catR a c (ix3 b s p) = if h : p.val < 512 then a (ix3 b s (⟨p.val, h⟩ : Fin 512)) else c (ix3 b s (⟨p.val - 512, by omega⟩ : Fin 512)) := by
  pointwise [catR]
theorem outR_apply (X y : FVec Ideal S8x4096x1024 .f32) (w : FVec Ideal S1x1024x1024 .f32) (d : Fin 1024) :
    outR X y w (ix3 b s d) = X (ix3 b s d) + ∑ p : Fin 1024, y (ix3 b s p) * w (ix3 (0 : Fin 1) p d) := by
  pointwise [outR]
end AtIndex

/-! ## The reference is the formula -/

section Whole
variable (A : Mix) (b : Fin 8)

theorem h_eq (s : Fin 4096) (d : Fin 1024) : hR (F := Ideal) A.x (scaleR (F := Ideal) A.x) A.norm (ix3 b s d) = hG A b s d := by
  refine (hR_apply b s A.x _ A.norm d).trans ?_
  rw [scaleR_apply]
  rfl
theorem z_eq (s : Fin 4096) (p : Fin 2560) : projR (F := Ideal) A.x A.norm A.win (ix3 b s p) = zG A b s p :=
  (zR_apply b s _ A.win p).trans (Finset.sum_congr rfl fun k _ => congrArg (· * _) (h_eq A b s k))
theorem c_eq (s : Fin 4096) (q : Fin 512) : cR (F := Ideal) (projR (F := Ideal) A.x A.norm A.win) (ix3 b s q) = cG A b s q := by
  refine (cR_apply b s q _).trans ?_
  rw [z_eq, z_eq]
  rfl
theorem u_eq (s : Fin 4096) (q : Fin 512) : uR (F := Ideal) (projR (F := Ideal) A.x A.norm A.win) (ix3 b s q) = uG A b s q := by
  refine (uR_apply b s q _).trans ?_
  rw [z_eq, z_eq]
  rfl
theorem cp_eq (r : Fin 4098) (q : Fin 512) : padC (F := Ideal) (cR (projR (F := Ideal) A.x A.norm A.win)) (ix3 b r q) = cP A b r.val q := by
  refine (padC_apply b q _ r).trans ?_
  unfold cP
  by_cases h : 2 ≤ r.val
  · rw [dif_pos h, dif_pos ⟨h, r.isLt⟩]
    exact c_eq A b _ q
  · rw [dif_neg h, dif_neg fun h' => h h'.1]
theorem up_eq (r : Fin 4126) (q : Fin 512) : padU (F := Ideal) (uR (projR (F := Ideal) A.x A.norm A.win)) (ix3 b r q) = uP A b r.val q := by
  refine (padU_apply b q _ r).trans ?_
  unfold uP
  by_cases h : 30 ≤ r.val
  · rw [dif_pos h, dif_pos ⟨h, r.isLt⟩]
    exact u_eq A b _ q
  · rw [dif_neg h, dif_neg fun h' => h h'.1]

/-- An array that holds a convolution's first `n` taps, added up. -/
def TapsC (acc : S8x4096x512.Idx → EReal) (n : ℕ) : Prop := ∀ (s : Fin 4096) (q : Fin 512),
  acc (ix3 b s q) = csum (fun t => A.scw (ix3 (0 : Fin 1) (⟨t % 3, by omega⟩ : Fin 3) q) * cP A b (s.val + t) q) n
def TapsU (acc : S8x4096x512.Idx → EReal) (n : ℕ) : Prop := ∀ (s : Fin 4096) (q : Fin 512),
  acc (ix3 b s q) = csum (fun t => A.cfw (ix3 (0 : Fin 1) (⟨t % 31, by omega⟩ : Fin 31) q) * uP A b (s.val + t) q) n

section Taps
variable {A b}
theorem stepC {acc : S8x4096x512.Idx → EReal} (t : ℕ) (ht : t < 3) (h : TapsC A b acc t) {hs hp} :
    TapsC A b (addC (F := Ideal) acc A.scw (padC (F := Ideal) (cR (projR (F := Ideal) A.x A.norm A.win))) t hs hp) (t + 1) := fun s q =>
  (addC_apply b s q acc A.scw _ t ht hs hp).trans (congrArg₂ (· + ·) (h s q) (congrArg (_ * ·) (cp_eq A b _ q)))
theorem stepU {acc : S8x4096x512.Idx → EReal} (t : ℕ) (ht : t < 31) (h : TapsU A b acc t) {hs hp} :
    TapsU A b (addU (F := Ideal) acc A.cfw (padU (F := Ideal) (uR (projR (F := Ideal) A.x A.norm A.win))) t hs hp) (t + 1) := fun s q =>
  (addU_apply b s q acc A.cfw _ t ht hs hp).trans (congrArg₂ (· + ·) (h s q) (congrArg (_ * ·) (up_eq A b _ q)))
end Taps

theorem convC_taps : TapsC A b (convC (F := Ideal) A.scw (padC (F := Ideal) (cR (projR (F := Ideal) A.x A.norm A.win)))) 3 :=
  stepC 2 (by decide) (stepC 1 (by decide) (stepC 0 (by decide) (fun s q => zeroR_apply b s q)))
theorem convU0_taps : TapsU A b (convU0 (F := Ideal) A.cfw (padU (F := Ideal) (uR (projR (F := Ideal) A.x A.norm A.win)))) 11 :=
  stepU 10 (by decide) (stepU 9 (by decide) (stepU 8 (by decide) (stepU 7 (by decide) (stepU 6 (by decide) (stepU 5 (by decide) (stepU 4 (by decide) (stepU 3 (by decide) (stepU 2 (by decide) (stepU 1 (by decide) (stepU 0 (by decide) (fun s q => zeroR_apply b s q)))))))))))
theorem convU1_taps : TapsU A b (convU1 (F := Ideal) A.cfw (padU (F := Ideal) (uR (projR (F := Ideal) A.x A.norm A.win)))) 22 :=
  stepU 21 (by decide) (stepU 20 (by decide) (stepU 19 (by decide) (stepU 18 (by decide) (stepU 17 (by decide) (stepU 16 (by decide) (stepU 15 (by decide) (stepU 14 (by decide) (stepU 13 (by decide) (stepU 12 (by decide) (stepU 11 (by decide) (convU0_taps A b)))))))))))
theorem convU2_taps : TapsU A b (convU2 (F := Ideal) A.cfw (padU (F := Ideal) (uR (projR (F := Ideal) A.x A.norm A.win)))) 31 :=
  stepU 30 (by decide) (stepU 29 (by decide) (stepU 28 (by decide) (stepU 27 (by decide) (stepU 26 (by decide) (stepU 25 (by decide) (stepU 24 (by decide) (stepU 23 (by decide) (stepU 22 (by decide) (convU1_taps A b)))))))))

theorem long_eq (s : Fin 4096) (q : Fin 512) : longR (F := Ideal) (projR (F := Ideal) A.x A.norm A.win) A.cfw A.cfb (ix3 b s q) = cvU A b s q :=
  (biasR_apply b s q _ A.cfb).trans (congrArg (· + _) (convU2_taps A b s q))
theorem silu_eq (s : Fin 4096) (q : Fin 512) : siluR (F := Ideal) (lnR (cenR (longR (F := Ideal) (projR (F := Ideal) A.x A.norm A.win) A.cfw A.cfb)) A.lng A.lnb) (ix3 b s q)
    = silu (lnorm (cen (cvU A b s)) (fun q => A.lng (ix2 (0 : Fin 1) q)) (fun q => A.lnb (ix2 (0 : Fin 1) q)) q) := by
  refine (siluR_apply b s q _).trans (congrArg silu ((lnR_apply b s q _ A.lng A.lnb).trans (congrArg (fun c => lnorm c _ _ q) (funext fun p => ?_))))
  exact (cenR_apply b s p _).trans (congrArg (fun r => cen r p) (funext fun r => long_eq A b s r))
theorem y_eq (s : Fin 4096) (p : Fin 1024) :
    catR (F := Ideal) (scR (projR (F := Ideal) A.x A.norm A.win) (convC A.scw (padC (cR (projR (F := Ideal) A.x A.norm A.win)))))
      (siluR (lnR (cenR (longR (F := Ideal) (projR (F := Ideal) A.x A.norm A.win) A.cfw A.cfb)) A.lng A.lnb)) (ix3 b s p) = yG A b s p := by
  refine (catR_apply b s _ _ p).trans ?_
  unfold yG
  by_cases h : p.val < 512
  · rw [dif_pos h, dif_pos h]
    exact (scR_apply b s _ _ _).trans (congrArg₂ (· * ·) (z_eq A b s _) (convC_taps A b s _))
  · rw [dif_neg h, dif_neg h]
    exact silu_eq A b s _
theorem refR_apply (s : Fin 4096) (d : Fin 1024) :
    refR (F := Ideal) A.x A.norm A.win A.scw A.cfw A.cfb A.lng A.lnb A.wout (ix3 b s d) = oG A b s d :=
  (outR_apply b s A.x _ A.wout d).trans (congrArg (_ + ·) (Finset.sum_congr rfl fun p _ => congrArg (· * _) (y_eq A b s p)))
end Whole

/-- The reference, entry by entry. -/
theorem refR_eq (A : Mix) : refR (F := Ideal) A.x A.norm A.win A.scw A.cfw A.cfb A.lng A.lnb A.wout = fun i => oG A (i 0) (i 1) (i 2) := by
  funext i
  have e : i = ix3 (i 0) (i 1) (i 2) := by
    funext a
    match a with
    | ⟨0, _⟩ => rfl
    | ⟨1, _⟩ => rfl
    | ⟨2, _⟩ => rfl
  exact (congrArg _ e).trans (refR_apply A (i 0) (i 1) (i 2))

end Cert.EvenReferenceIdeal.Hand

end
-- ==== Proof.EvenClaim.lean ====
/- The claim of the even mixer: both runs end with the formula. -/
module

public import proofs.«01_k».proof.Proof.EvenSweep
public import proofs.«01_k».proof.Proof.EvenRef
public import proofs.«01_k».proof.Defs

@[expose] public section

set_option maxRecDepth 16384

noncomputable section

namespace Cert.Proof.EvenClaims

open Idealize.ShloMosaic Idealize.SL.Sem

/-- Both runs end with the formula of the kernel's arguments. -/
theorem algebraic : Cert.algebraic_EvenKernelIdeal_EvenReferenceIdeal := by
  intro m ρ m' ρ' _ hag
  refine ⟨fun c => Cert.EvenKernelIdeal.Hand.whole m c, ?_, ?_⟩
  · exact (θ_run Cert.EvenKernelIdeal.defs _ _).mono (fun _ h c => ⟨(h c).1.trans (Cert.EvenKernelIdeal.Hand.result m c), (h c).2⟩)
      (Cert.EvenKernelIdeal.Value.run (F := Ideal) m ρ)
  · refine (θ_run Cert.EvenReferenceIdeal.defs _ _).mono (fun _ h c => ⟨(h c).1.trans ?_, (h c).2⟩)
      (Cert.EvenReferenceIdeal.Value.run (F := Ideal) m' ρ')
    obtain ⟨h0, h1, h2, h3, h4, h5, h6, h7, h8⟩ := hag c
    refine (Cert.EvenReferenceIdeal.Hand.out_eq (StableHlo.launchContents m' c)).trans ?_
    show Cert.EvenReferenceIdeal.Hand.refR (F := Ideal) (m' ((c.tc : Thread Cert.EvenReferenceIdeal.nD Cert.EvenReferenceIdeal.τ).loc Cert.EvenReferenceIdeal.main_arg0)) (m' ((c.tc : Thread Cert.EvenReferenceIdeal.nD Cert.EvenReferenceIdeal.τ).loc Cert.EvenReferenceIdeal.main_arg1)) (m' ((c.tc : Thread Cert.EvenReferenceIdeal.nD Cert.EvenReferenceIdeal.τ).loc Cert.EvenReferenceIdeal.main_arg2))
      (m' ((c.tc : Thread Cert.EvenReferenceIdeal.nD Cert.EvenReferenceIdeal.τ).loc Cert.EvenReferenceIdeal.main_arg3)) (m' ((c.tc : Thread Cert.EvenReferenceIdeal.nD Cert.EvenReferenceIdeal.τ).loc Cert.EvenReferenceIdeal.main_arg4))
      (m' ((c.tc : Thread Cert.EvenReferenceIdeal.nD Cert.EvenReferenceIdeal.τ).loc Cert.EvenReferenceIdeal.main_arg5)) (m' ((c.tc : Thread Cert.EvenReferenceIdeal.nD Cert.EvenReferenceIdeal.τ).loc Cert.EvenReferenceIdeal.main_arg6))
      (m' ((c.tc : Thread Cert.EvenReferenceIdeal.nD Cert.EvenReferenceIdeal.τ).loc Cert.EvenReferenceIdeal.main_arg7)) (m' ((c.tc : Thread Cert.EvenReferenceIdeal.nD Cert.EvenReferenceIdeal.τ).loc Cert.EvenReferenceIdeal.main_arg8)) = _
    rw [h0, h1, h2, h3, h4, h5, h6, h7, h8]
    exact Cert.EvenReferenceIdeal.Hand.refR_eq (Cert.EvenKernelIdeal.Hand.mixOf m c)

end Cert.Proof.EvenClaims

end
-- ==== Proof.lean ====
/- The claims about the attention of window 128 and dilation 1, about the last projection and
   feed-forward network, about the first layer's feed-forward network, and about the even mixer. -/
module

public import proofs.«01_k».proof.Defs
public import proofs.«01_k».proof.Proof.AttnClaim
public import proofs.«01_k».proof.Proof.FfnClaim
public import proofs.«01_k».proof.Proof.Ffn0Claim
public import proofs.«01_k».proof.Proof.EvenClaim
public import proofs.«01_k».proof.Proof.Gen.FfnKernel.Frame
public import proofs.«01_k».proof.Proof.Gen.FfnKernelIdeal.Frame
public import proofs.«01_k».proof.Proof.Gen.FfnKernelIdeal.Value
public import proofs.«01_k».proof.Proof.Gen.FfnReferenceIdeal.Run
public import proofs.«01_k».proof.Proof.Gen.Ffn0Kernel.Frame
public import proofs.«01_k».proof.Proof.Gen.Ffn0KernelIdeal.Frame
public import proofs.«01_k».proof.Proof.Gen.Ffn0KernelIdeal.Value
public import proofs.«01_k».proof.Proof.Gen.Ffn0ReferenceIdeal.Run
public import proofs.«01_k».proof.Proof.Gen.AttnReferenceIdeal.Run
public import proofs.«01_k».proof.Proof.Gen.EvenKernel.Frame
public import proofs.«01_k».proof.Proof.Gen.EvenKernelIdeal.Frame
public import proofs.«01_k».proof.Proof.Gen.EvenKernelIdeal.Value
public import proofs.«01_k».proof.Proof.Gen.EvenReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem ffn_frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem ffn0_frame_reference : Cert.quiescent_Ffn0ReferenceIdeal := fun m ρ _ =>
  (θ_run Cert.Ffn0ReferenceIdeal.defs _ _).mono (fun r h => ⟨fun c => (h c).2, sem_eq_zero_of_no_sems (by decide) r.2⟩)
    (Cert.Ffn0ReferenceIdeal.Value.run (F := Ideal) m ρ)

theorem even_frame_reference : Cert.quiescent_EvenReferenceIdeal := fun m ρ _ =>
  (θ_run Cert.EvenReferenceIdeal.defs _ _).mono (fun r h => ⟨fun c => (h c).2, sem_eq_zero_of_no_sems (by decide) r.2⟩)
    (Cert.EvenReferenceIdeal.Value.run (F := Ideal) m ρ)

theorem claim : Cert.Claim :=
  ⟨Cert.AttnKernel.Gen.facts, Cert.AttnKernelIdeal.Gen.facts, Cert.AttnReferenceIdeal.Gen.facts, Cert.FfnKernel.Gen.facts,
    Cert.FfnKernelIdeal.Gen.facts, Cert.FfnReferenceIdeal.Gen.facts, Cert.Ffn0Kernel.Gen.facts, Cert.Ffn0KernelIdeal.Gen.facts,
    Cert.Ffn0ReferenceIdeal.Gen.facts, Cert.EvenKernel.Gen.facts, Cert.EvenKernelIdeal.Gen.facts, Cert.EvenReferenceIdeal.Gen.facts,
    AttnClaims.frame_kernel, AttnClaims.frame_ideal, AttnClaims.frame_reference,
    fun m ρ _ => Cert.FfnKernel.Gen.frame m ρ, fun m ρ _ => Cert.FfnKernelIdeal.Gen.frame m ρ, ffn_frame_reference,
    fun m ρ _ => Cert.Ffn0Kernel.Gen.frame m ρ, fun m ρ _ => Cert.Ffn0KernelIdeal.Gen.frame m ρ, ffn0_frame_reference,
    fun m ρ _ => Cert.EvenKernel.Gen.frame m ρ, fun m ρ _ => Cert.EvenKernelIdeal.Gen.frame m ρ, even_frame_reference,
    trivial, AttnClaims.algebraic, trivial, FfnClaims.algebraic, trivial, Ffn0Claims.algebraic,
    trivial, EvenClaims.algebraic⟩

end Cert.Proof

end
